-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11)
      ∧ r.2.mem ((c.tc : Thread Cert.Kernel24.nD Cert.Kernel24.τ).loc Cert.Kernel24.main_arg12) = m ((c.tc : Thread Cert.Kernel24.nD Cert.Kernel24.τ).loc Cert.Kernel24.main_arg12)
      ∧ r.2.mem ((c.tc : Thread Cert.Kernel24.nD Cert.Kernel24.τ).loc Cert.Kernel24.main_arg13) = m ((c.tc : Thread Cert.Kernel24.nD Cert.Kernel24.τ).loc Cert.Kernel24.main_arg13)
      ∧ r.2.mem ((c.tc : Thread Cert.Kernel24.nD Cert.Kernel24.τ).loc Cert.Kernel24.main_arg14) = m ((c.tc : Thread Cert.Kernel24.nD Cert.Kernel24.τ).loc Cert.Kernel24.main_arg14)
      ∧ r.2.mem ((c.tc : Thread Cert.Kernel24.nD Cert.Kernel24.τ).loc Cert.Kernel24.main_arg15) = m ((c.tc : Thread Cert.Kernel24.nD Cert.Kernel24.τ).loc Cert.Kernel24.main_arg15)
      ∧ r.2.mem ((c.tc : Thread Cert.Kernel24.nD Cert.Kernel24.τ).loc Cert.Kernel24.main_arg16) = m ((c.tc : Thread Cert.Kernel24.nD Cert.Kernel24.τ).loc Cert.Kernel24.main_arg16)
      ∧ r.2.mem ((c.tc : Thread Cert.Kernel24.nD Cert.Kernel24.τ).loc Cert.Kernel24.main_arg17) = m ((c.tc : Thread Cert.Kernel24.nD Cert.Kernel24.τ).loc Cert.Kernel24.main_arg17)
      ∧ r.2.mem ((c.tc : Thread Cert.Kernel24.nD Cert.Kernel24.τ).loc Cert.Kernel24.main_arg18) = m ((c.tc : Thread Cert.Kernel24.nD Cert.Kernel24.τ).loc Cert.Kernel24.main_arg18)
      ∧ r.2.mem ((c.tc : Thread Cert.Kernel24.nD Cert.Kernel24.τ).loc Cert.Kernel24.main_arg19) = m ((c.tc : Thread Cert.Kernel24.nD Cert.Kernel24.τ).loc Cert.Kernel24.main_arg19)
      ∧ r.2.mem ((c.tc : Thread Cert.Kernel24.nD Cert.Kernel24.τ).loc Cert.Kernel24.main_arg20) = m ((c.tc : Thread Cert.Kernel24.nD Cert.Kernel24.τ).loc Cert.Kernel24.main_arg20)
      ∧ r.2.mem ((c.tc : Thread Cert.Kernel24.nD Cert.Kernel24.τ).loc Cert.Kernel24.main_arg21) = m ((c.tc : Thread Cert.Kernel24.nD Cert.Kernel24.τ).loc Cert.Kernel24.main_arg21)
      ∧ r.2.mem ((c.tc : Thread Cert.Kernel24.nD Cert.Kernel24.τ).loc Cert.Kernel24.main_arg22) = m ((c.tc : Thread Cert.Kernel24.nD Cert.Kernel24.τ).loc Cert.Kernel24.main_arg22)
      ∧ r.2.mem ((c.tc : Thread Cert.Kernel24.nD Cert.Kernel24.τ).loc Cert.Kernel24.main_arg23) = m ((c.tc : Thread Cert.Kernel24.nD Cert.Kernel24.τ).loc Cert.Kernel24.main_arg23)
      ∧ r.2.mem ((c.tc : Thread Cert.Kernel24.nD Cert.Kernel24.τ).loc Cert.Kernel24.main_arg24) = m ((c.tc : Thread Cert.Kernel24.nD Cert.Kernel24.τ).loc Cert.Kernel24.main_arg24)
      ∧ r.2.mem ((c.tc : Thread Cert.Kernel24.nD Cert.Kernel24.τ).loc Cert.Kernel24.main_arg25) = m ((c.tc : Thread Cert.Kernel24.nD Cert.Kernel24.τ).loc Cert.Kernel24.main_arg25)
      ∧ r.2.mem ((c.tc : Thread Cert.Kernel24.nD Cert.Kernel24.τ).loc Cert.Kernel24.main_arg26) = m ((c.tc : Thread Cert.Kernel24.nD Cert.Kernel24.τ).loc Cert.Kernel24.main_arg26)
      ∧ r.2.mem ((c.tc : Thread Cert.Kernel24.nD Cert.Kernel24.τ).loc Cert.Kernel24.main_arg27) = m ((c.tc : Thread Cert.Kernel24.nD Cert.Kernel24.τ).loc Cert.Kernel24.main_arg27))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
      ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
      ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
      ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
      ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
      ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
      ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
      ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
      ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19)
      ∧ r.2.mem ((c.tc : Thread Cert.Kernel24Ideal.nD Cert.Kernel24Ideal.τ).loc Cert.Kernel24Ideal.main_arg20) = m ((c.tc : Thread Cert.Kernel24Ideal.nD Cert.Kernel24Ideal.τ).loc Cert.Kernel24Ideal.main_arg20)
      ∧ r.2.mem ((c.tc : Thread Cert.Kernel24Ideal.nD Cert.Kernel24Ideal.τ).loc Cert.Kernel24Ideal.main_arg21) = m ((c.tc : Thread Cert.Kernel24Ideal.nD Cert.Kernel24Ideal.τ).loc Cert.Kernel24Ideal.main_arg21)
      ∧ r.2.mem ((c.tc : Thread Cert.Kernel24Ideal.nD Cert.Kernel24Ideal.τ).loc Cert.Kernel24Ideal.main_arg22) = m ((c.tc : Thread Cert.Kernel24Ideal.nD Cert.Kernel24Ideal.τ).loc Cert.Kernel24Ideal.main_arg22)
      ∧ r.2.mem ((c.tc : Thread Cert.Kernel24Ideal.nD Cert.Kernel24Ideal.τ).loc Cert.Kernel24Ideal.main_arg23) = m ((c.tc : Thread Cert.Kernel24Ideal.nD Cert.Kernel24Ideal.τ).loc Cert.Kernel24Ideal.main_arg23)
      ∧ r.2.mem ((c.tc : Thread Cert.Kernel24Ideal.nD Cert.Kernel24Ideal.τ).loc Cert.Kernel24Ideal.main_arg24) = m ((c.tc : Thread Cert.Kernel24Ideal.nD Cert.Kernel24Ideal.τ).loc Cert.Kernel24Ideal.main_arg24)
      ∧ r.2.mem ((c.tc : Thread Cert.Kernel24Ideal.nD Cert.Kernel24Ideal.τ).loc Cert.Kernel24Ideal.main_arg25) = m ((c.tc : Thread Cert.Kernel24Ideal.nD Cert.Kernel24Ideal.τ).loc Cert.Kernel24Ideal.main_arg25)
      ∧ r.2.mem ((c.tc : Thread Cert.Kernel24Ideal.nD Cert.Kernel24Ideal.τ).loc Cert.Kernel24Ideal.main_arg26) = m ((c.tc : Thread Cert.Kernel24Ideal.nD Cert.Kernel24Ideal.τ).loc Cert.Kernel24Ideal.main_arg26)
      ∧ r.2.mem ((c.tc : Thread Cert.Kernel24Ideal.nD Cert.Kernel24Ideal.τ).loc Cert.Kernel24Ideal.main_arg27) = m ((c.tc : Thread Cert.Kernel24Ideal.nD Cert.Kernel24Ideal.τ).loc Cert.Kernel24Ideal.main_arg27))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11)
      ∧ r.2.mem ((c.tc : Thread Cert.Reference24Ideal.nD Cert.Reference24Ideal.τ).loc Cert.Reference24Ideal.main_arg12) = m ((c.tc : Thread Cert.Reference24Ideal.nD Cert.Reference24Ideal.τ).loc Cert.Reference24Ideal.main_arg12)
      ∧ r.2.mem ((c.tc : Thread Cert.Reference24Ideal.nD Cert.Reference24Ideal.τ).loc Cert.Reference24Ideal.main_arg13) = m ((c.tc : Thread Cert.Reference24Ideal.nD Cert.Reference24Ideal.τ).loc Cert.Reference24Ideal.main_arg13)
      ∧ r.2.mem ((c.tc : Thread Cert.Reference24Ideal.nD Cert.Reference24Ideal.τ).loc Cert.Reference24Ideal.main_arg14) = m ((c.tc : Thread Cert.Reference24Ideal.nD Cert.Reference24Ideal.τ).loc Cert.Reference24Ideal.main_arg14)
      ∧ r.2.mem ((c.tc : Thread Cert.Reference24Ideal.nD Cert.Reference24Ideal.τ).loc Cert.Reference24Ideal.main_arg15) = m ((c.tc : Thread Cert.Reference24Ideal.nD Cert.Reference24Ideal.τ).loc Cert.Reference24Ideal.main_arg15)
      ∧ r.2.mem ((c.tc : Thread Cert.Reference24Ideal.nD Cert.Reference24Ideal.τ).loc Cert.Reference24Ideal.main_arg16) = m ((c.tc : Thread Cert.Reference24Ideal.nD Cert.Reference24Ideal.τ).loc Cert.Reference24Ideal.main_arg16)
      ∧ r.2.mem ((c.tc : Thread Cert.Reference24Ideal.nD Cert.Reference24Ideal.τ).loc Cert.Reference24Ideal.main_arg17) = m ((c.tc : Thread Cert.Reference24Ideal.nD Cert.Reference24Ideal.τ).loc Cert.Reference24Ideal.main_arg17)
      ∧ r.2.mem ((c.tc : Thread Cert.Reference24Ideal.nD Cert.Reference24Ideal.τ).loc Cert.Reference24Ideal.main_arg18) = m ((c.tc : Thread Cert.Reference24Ideal.nD Cert.Reference24Ideal.τ).loc Cert.Reference24Ideal.main_arg18)
      ∧ r.2.mem ((c.tc : Thread Cert.Reference24Ideal.nD Cert.Reference24Ideal.τ).loc Cert.Reference24Ideal.main_arg19) = m ((c.tc : Thread Cert.Reference24Ideal.nD Cert.Reference24Ideal.τ).loc Cert.Reference24Ideal.main_arg19)
      ∧ r.2.mem ((c.tc : Thread Cert.Reference24Ideal.nD Cert.Reference24Ideal.τ).loc Cert.Reference24Ideal.main_arg20) = m ((c.tc : Thread Cert.Reference24Ideal.nD Cert.Reference24Ideal.τ).loc Cert.Reference24Ideal.main_arg20)
      ∧ r.2.mem ((c.tc : Thread Cert.Reference24Ideal.nD Cert.Reference24Ideal.τ).loc Cert.Reference24Ideal.main_arg21) = m ((c.tc : Thread Cert.Reference24Ideal.nD Cert.Reference24Ideal.τ).loc Cert.Reference24Ideal.main_arg21)
      ∧ r.2.mem ((c.tc : Thread Cert.Reference24Ideal.nD Cert.Reference24Ideal.τ).loc Cert.Reference24Ideal.main_arg22) = m ((c.tc : Thread Cert.Reference24Ideal.nD Cert.Reference24Ideal.τ).loc Cert.Reference24Ideal.main_arg22)
      ∧ r.2.mem ((c.tc : Thread Cert.Reference24Ideal.nD Cert.Reference24Ideal.τ).loc Cert.Reference24Ideal.main_arg23) = m ((c.tc : Thread Cert.Reference24Ideal.nD Cert.Reference24Ideal.τ).loc Cert.Reference24Ideal.main_arg23)
      ∧ r.2.mem ((c.tc : Thread Cert.Reference24Ideal.nD Cert.Reference24Ideal.τ).loc Cert.Reference24Ideal.main_arg24) = m ((c.tc : Thread Cert.Reference24Ideal.nD Cert.Reference24Ideal.τ).loc Cert.Reference24Ideal.main_arg24)
      ∧ r.2.mem ((c.tc : Thread Cert.Reference24Ideal.nD Cert.Reference24Ideal.τ).loc Cert.Reference24Ideal.main_arg25) = m ((c.tc : Thread Cert.Reference24Ideal.nD Cert.Reference24Ideal.τ).loc Cert.Reference24Ideal.main_arg25)
      ∧ r.2.mem ((c.tc : Thread Cert.Reference24Ideal.nD Cert.Reference24Ideal.τ).loc Cert.Reference24Ideal.main_arg26) = m ((c.tc : Thread Cert.Reference24Ideal.nD Cert.Reference24Ideal.τ).loc Cert.Reference24Ideal.main_arg26)
      ∧ r.2.mem ((c.tc : Thread Cert.Reference24Ideal.nD Cert.Reference24Ideal.τ).loc Cert.Reference24Ideal.main_arg27) = m ((c.tc : Thread Cert.Reference24Ideal.nD Cert.Reference24Ideal.τ).loc Cert.Reference24Ideal.main_arg27))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9)
      ∧ r.2.mem ((c.tc : Thread Cert.Kernel25.nD Cert.Kernel25.τ).loc Cert.Kernel25.main_arg10) = m ((c.tc : Thread Cert.Kernel25.nD Cert.Kernel25.τ).loc Cert.Kernel25.main_arg10)
      ∧ r.2.mem ((c.tc : Thread Cert.Kernel25.nD Cert.Kernel25.τ).loc Cert.Kernel25.main_arg11) = m ((c.tc : Thread Cert.Kernel25.nD Cert.Kernel25.τ).loc Cert.Kernel25.main_arg11))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
      ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
      ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9)
      ∧ r.2.mem ((c.tc : Thread Cert.Reference25Ideal.nD Cert.Reference25Ideal.τ).loc Cert.Reference25Ideal.main_arg10) = m ((c.tc : Thread Cert.Reference25Ideal.nD Cert.Reference25Ideal.τ).loc Cert.Reference25Ideal.main_arg10)
      ∧ r.2.mem ((c.tc : Thread Cert.Reference25Ideal.nD Cert.Reference25Ideal.τ).loc Cert.Reference25Ideal.main_arg11) = m ((c.tc : Thread Cert.Reference25Ideal.nD Cert.Reference25Ideal.τ).loc Cert.Reference25Ideal.main_arg11))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7_1)) (v1 : (c : Dev Cert.Kernel2Ideal.nD) → Buf (Elt Ideal) ((c.tc : Thread Cert.Kernel2Ideal.nD Cert.Kernel2Ideal.τ).loc Cert.Kernel2Ideal.main_v11_0)) (v2 : (c : Dev Cert.Kernel2Ideal.nD) → Buf (Elt Ideal) ((c.tc : Thread Cert.Kernel2Ideal.nD Cert.Kernel2Ideal.τ).loc Cert.Kernel2Ideal.main_v17)) (v3 : (c : Dev Cert.Kernel2Ideal.nD) → Buf (Elt Ideal) ((c.tc : Thread Cert.Kernel2Ideal.nD Cert.Kernel2Ideal.τ).loc Cert.Kernel2Ideal.main_v18)) (v4 : (c : Dev Cert.Kernel2Ideal.nD) → Buf (Elt Ideal) ((c.tc : Thread Cert.Kernel2Ideal.nD Cert.Kernel2Ideal.τ).loc Cert.Kernel2Ideal.main_v13)) (v5 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_1) = v0 c
          ∧ r.2.mem ((c.tc : Thread Cert.Kernel2Ideal.nD Cert.Kernel2Ideal.τ).loc Cert.Kernel2Ideal.main_v11_0) = v1 c
          ∧ r.2.mem ((c.tc : Thread Cert.Kernel2Ideal.nD Cert.Kernel2Ideal.τ).loc Cert.Kernel2Ideal.main_v17) = v2 c
          ∧ r.2.mem ((c.tc : Thread Cert.Kernel2Ideal.nD Cert.Kernel2Ideal.τ).loc Cert.Kernel2Ideal.main_v18) = v3 c
          ∧ r.2.mem ((c.tc : Thread Cert.Kernel2Ideal.nD Cert.Kernel2Ideal.τ).loc Cert.Kernel2Ideal.main_v13) = v4 c
          ∧ r.2.mem ((c.tc : Thread Cert.Kernel2Ideal.nD Cert.Kernel2Ideal.τ).loc Cert.Kernel2Ideal.main_v12) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v43) = v4 c
          ∧ r.2.mem ((c.tc : Thread Cert.Reference2Ideal.nD Cert.Reference2Ideal.τ).loc Cert.Reference2Ideal.main_v35) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v7)) (v2 : (c : Dev Cert.Kernel6Ideal.nD) → Buf (Elt Ideal) ((c.tc : Thread Cert.Kernel6Ideal.nD Cert.Kernel6Ideal.τ).loc Cert.Kernel6Ideal.main_v8)) (v3 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v7) = v1 c
          ∧ r.2.mem ((c.tc : Thread Cert.Kernel6Ideal.nD Cert.Kernel6Ideal.τ).loc Cert.Kernel6Ideal.main_v8) = v2 c
          ∧ r.2.mem ((c.tc : Thread Cert.Kernel6Ideal.nD Cert.Kernel6Ideal.τ).loc Cert.Kernel6Ideal.main_v3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v3)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v3) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_v7) = v1 c
          ∧ r.2.mem ((c.tc : Thread Cert.Reference9Ideal.nD Cert.Reference9Ideal.τ).loc Cert.Reference9Ideal.main_v12) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v3)) (v2 : (c : Dev Cert.Kernel10Ideal.nD) → Buf (Elt Ideal) ((c.tc : Thread Cert.Kernel10Ideal.nD Cert.Kernel10Ideal.τ).loc Cert.Kernel10Ideal.main_v4)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v3) = v1 c
          ∧ r.2.mem ((c.tc : Thread Cert.Kernel10Ideal.nD Cert.Kernel10Ideal.τ).loc Cert.Kernel10Ideal.main_v4) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v14) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v7)) (v2 : (c : Dev Cert.Kernel12Ideal.nD) → Buf (Elt Ideal) ((c.tc : Thread Cert.Kernel12Ideal.nD Cert.Kernel12Ideal.τ).loc Cert.Kernel12Ideal.main_v8)) (v3 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v7) = v1 c
          ∧ r.2.mem ((c.tc : Thread Cert.Kernel12Ideal.nD Cert.Kernel12Ideal.τ).loc Cert.Kernel12Ideal.main_v8) = v2 c
          ∧ r.2.mem ((c.tc : Thread Cert.Kernel12Ideal.nD Cert.Kernel12Ideal.τ).loc Cert.Kernel12Ideal.main_v3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v60) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_v38) = v2 c
          ∧ r.2.mem ((c.tc : Thread Cert.Reference12Ideal.nD Cert.Reference12Ideal.τ).loc Cert.Reference12Ideal.main_v35) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)) →
    ∃ (v0 : (c : Dev Cert.Kernel15Ideal.nD) → Buf (Elt Ideal) ((c.tc : Thread Cert.Kernel15Ideal.nD Cert.Kernel15Ideal.τ).loc Cert.Kernel15Ideal.main_v6_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v280) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v9) = v2 c
          ∧ r.2.mem ((c.tc : Thread Cert.Reference16Ideal.nD Cert.Reference16Ideal.τ).loc Cert.Reference16Ideal.main_v15) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v28) = v1 c
          ∧ r.2.mem ((c.tc : Thread Cert.Reference17Ideal.nD Cert.Reference17Ideal.τ).loc Cert.Reference17Ideal.main_v9) = v2 c
          ∧ r.2.mem ((c.tc : Thread Cert.Reference17Ideal.nD Cert.Reference17Ideal.τ).loc Cert.Reference17Ideal.main_v15) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v25) = v0 c
          ∧ r.2.mem ((c.tc : Thread Cert.Reference22Ideal.nD Cert.Reference22Ideal.τ).loc Cert.Reference22Ideal.main_v26) = v1 c
          ∧ r.2.mem ((c.tc : Thread Cert.Reference22Ideal.nD Cert.Reference22Ideal.τ).loc Cert.Reference22Ideal.main_v27) = v2 c
          ∧ r.2.mem ((c.tc : Thread Cert.Reference22Ideal.nD Cert.Reference22Ideal.τ).loc Cert.Reference22Ideal.main_v28) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)
      ∧ m' ((c.tc : Thread Cert.Reference24Ideal.nD Cert.Reference24Ideal.τ).loc Cert.Reference24Ideal.main_arg12) = m ((c.tc : Thread Cert.Kernel24Ideal.nD Cert.Kernel24Ideal.τ).loc Cert.Kernel24Ideal.main_arg12)
      ∧ m' ((c.tc : Thread Cert.Reference24Ideal.nD Cert.Reference24Ideal.τ).loc Cert.Reference24Ideal.main_arg13) = m ((c.tc : Thread Cert.Kernel24Ideal.nD Cert.Kernel24Ideal.τ).loc Cert.Kernel24Ideal.main_arg13)
      ∧ m' ((c.tc : Thread Cert.Reference24Ideal.nD Cert.Reference24Ideal.τ).loc Cert.Reference24Ideal.main_arg14) = m ((c.tc : Thread Cert.Kernel24Ideal.nD Cert.Kernel24Ideal.τ).loc Cert.Kernel24Ideal.main_arg14)
      ∧ m' ((c.tc : Thread Cert.Reference24Ideal.nD Cert.Reference24Ideal.τ).loc Cert.Reference24Ideal.main_arg15) = m ((c.tc : Thread Cert.Kernel24Ideal.nD Cert.Kernel24Ideal.τ).loc Cert.Kernel24Ideal.main_arg15)
      ∧ m' ((c.tc : Thread Cert.Reference24Ideal.nD Cert.Reference24Ideal.τ).loc Cert.Reference24Ideal.main_arg16) = m ((c.tc : Thread Cert.Kernel24Ideal.nD Cert.Kernel24Ideal.τ).loc Cert.Kernel24Ideal.main_arg16)
      ∧ m' ((c.tc : Thread Cert.Reference24Ideal.nD Cert.Reference24Ideal.τ).loc Cert.Reference24Ideal.main_arg17) = m ((c.tc : Thread Cert.Kernel24Ideal.nD Cert.Kernel24Ideal.τ).loc Cert.Kernel24Ideal.main_arg17)
      ∧ m' ((c.tc : Thread Cert.Reference24Ideal.nD Cert.Reference24Ideal.τ).loc Cert.Reference24Ideal.main_arg18) = m ((c.tc : Thread Cert.Kernel24Ideal.nD Cert.Kernel24Ideal.τ).loc Cert.Kernel24Ideal.main_arg18)
      ∧ m' ((c.tc : Thread Cert.Reference24Ideal.nD Cert.Reference24Ideal.τ).loc Cert.Reference24Ideal.main_arg19) = m ((c.tc : Thread Cert.Kernel24Ideal.nD Cert.Kernel24Ideal.τ).loc Cert.Kernel24Ideal.main_arg19)
      ∧ m' ((c.tc : Thread Cert.Reference24Ideal.nD Cert.Reference24Ideal.τ).loc Cert.Reference24Ideal.main_arg20) = m ((c.tc : Thread Cert.Kernel24Ideal.nD Cert.Kernel24Ideal.τ).loc Cert.Kernel24Ideal.main_arg20)
      ∧ m' ((c.tc : Thread Cert.Reference24Ideal.nD Cert.Reference24Ideal.τ).loc Cert.Reference24Ideal.main_arg21) = m ((c.tc : Thread Cert.Kernel24Ideal.nD Cert.Kernel24Ideal.τ).loc Cert.Kernel24Ideal.main_arg21)
      ∧ m' ((c.tc : Thread Cert.Reference24Ideal.nD Cert.Reference24Ideal.τ).loc Cert.Reference24Ideal.main_arg22) = m ((c.tc : Thread Cert.Kernel24Ideal.nD Cert.Kernel24Ideal.τ).loc Cert.Kernel24Ideal.main_arg22)
      ∧ m' ((c.tc : Thread Cert.Reference24Ideal.nD Cert.Reference24Ideal.τ).loc Cert.Reference24Ideal.main_arg23) = m ((c.tc : Thread Cert.Kernel24Ideal.nD Cert.Kernel24Ideal.τ).loc Cert.Kernel24Ideal.main_arg23)
      ∧ m' ((c.tc : Thread Cert.Reference24Ideal.nD Cert.Reference24Ideal.τ).loc Cert.Reference24Ideal.main_arg24) = m ((c.tc : Thread Cert.Kernel24Ideal.nD Cert.Kernel24Ideal.τ).loc Cert.Kernel24Ideal.main_arg24)
      ∧ m' ((c.tc : Thread Cert.Reference24Ideal.nD Cert.Reference24Ideal.τ).loc Cert.Reference24Ideal.main_arg25) = m ((c.tc : Thread Cert.Kernel24Ideal.nD Cert.Kernel24Ideal.τ).loc Cert.Kernel24Ideal.main_arg25)
      ∧ m' ((c.tc : Thread Cert.Reference24Ideal.nD Cert.Reference24Ideal.τ).loc Cert.Reference24Ideal.main_arg26) = m ((c.tc : Thread Cert.Kernel24Ideal.nD Cert.Kernel24Ideal.τ).loc Cert.Kernel24Ideal.main_arg26)
      ∧ m' ((c.tc : Thread Cert.Reference24Ideal.nD Cert.Reference24Ideal.τ).loc Cert.Reference24Ideal.main_arg27) = m ((c.tc : Thread Cert.Kernel24Ideal.nD Cert.Kernel24Ideal.τ).loc Cert.Kernel24Ideal.main_arg27)) →
    ∃ (v0 : (c : Dev Cert.Kernel24Ideal.nD) → Buf (Elt Ideal) ((c.tc : Thread Cert.Kernel24Ideal.nD Cert.Kernel24Ideal.τ).loc Cert.Kernel24Ideal.main_v41)) (v1 : (c : Dev Cert.Kernel24Ideal.nD) → Buf (Elt Ideal) ((c.tc : Thread Cert.Kernel24Ideal.nD Cert.Kernel24Ideal.τ).loc Cert.Kernel24Ideal.main_v43)) (v2 : (c : Dev Cert.Kernel24Ideal.nD) → Buf (Elt Ideal) ((c.tc : Thread Cert.Kernel24Ideal.nD Cert.Kernel24Ideal.τ).loc Cert.Kernel24Ideal.main_v45)) (v3 : (c : Dev Cert.Kernel24Ideal.nD) → Buf (Elt Ideal) ((c.tc : Thread Cert.Kernel24Ideal.nD Cert.Kernel24Ideal.τ).loc Cert.Kernel24Ideal.main_v46)) (v4 : (c : Dev Cert.Kernel24Ideal.nD) → Buf (Elt Ideal) ((c.tc : Thread Cert.Kernel24Ideal.nD Cert.Kernel24Ideal.τ).loc Cert.Kernel24Ideal.main_v47)) (v5 : (c : Dev Cert.Kernel24Ideal.nD) → Buf (Elt Ideal) ((c.tc : Thread Cert.Kernel24Ideal.nD Cert.Kernel24Ideal.τ).loc Cert.Kernel24Ideal.main_v48)) (v6 : (c : Dev Cert.Kernel24Ideal.nD) → Buf (Elt Ideal) ((c.tc : Thread Cert.Kernel24Ideal.nD Cert.Kernel24Ideal.τ).loc Cert.Kernel24Ideal.main_v49)) (v7 : (c : Dev Cert.Kernel24Ideal.nD) → Buf (Elt Ideal) ((c.tc : Thread Cert.Kernel24Ideal.nD Cert.Kernel24Ideal.τ).loc Cert.Kernel24Ideal.main_v50)) (v8 : (c : Dev Cert.Kernel24Ideal.nD) → Buf (Elt Ideal) ((c.tc : Thread Cert.Kernel24Ideal.nD Cert.Kernel24Ideal.τ).loc Cert.Kernel24Ideal.main_v51)) (v9 : (c : Dev Cert.Kernel24Ideal.nD) → Buf (Elt Ideal) ((c.tc : Thread Cert.Kernel24Ideal.nD Cert.Kernel24Ideal.τ).loc Cert.Kernel24Ideal.main_v52)) (v10 : (c : Dev Cert.Kernel24Ideal.nD) → Buf (Elt Ideal) ((c.tc : Thread Cert.Kernel24Ideal.nD Cert.Kernel24Ideal.τ).loc Cert.Kernel24Ideal.main_v53)) (v11 : (c : Dev Cert.Kernel24Ideal.nD) → Buf (Elt Ideal) ((c.tc : Thread Cert.Kernel24Ideal.nD Cert.Kernel24Ideal.τ).loc Cert.Kernel24Ideal.main_v54)) (v12 : (c : Dev Cert.Kernel24Ideal.nD) → Buf (Elt Ideal) ((c.tc : Thread Cert.Kernel24Ideal.nD Cert.Kernel24Ideal.τ).loc Cert.Kernel24Ideal.main_v55)) (v13 : (c : Dev Cert.Kernel24Ideal.nD) → Buf (Elt Ideal) ((c.tc : Thread Cert.Kernel24Ideal.nD Cert.Kernel24Ideal.τ).loc Cert.Kernel24Ideal.main_v56)) (v14 : (c : Dev Cert.Kernel24Ideal.nD) → Buf (Elt Ideal) ((c.tc : Thread Cert.Kernel24Ideal.nD Cert.Kernel24Ideal.τ).loc Cert.Kernel24Ideal.main_v57)) (v15 : (c : Dev Cert.Kernel24Ideal.nD) → Buf (Elt Ideal) ((c.tc : Thread Cert.Kernel24Ideal.nD Cert.Kernel24Ideal.τ).loc Cert.Kernel24Ideal.main_v58)) (v16 : (c : Dev Cert.Kernel24Ideal.nD) → Buf (Elt Ideal) ((c.tc : Thread Cert.Kernel24Ideal.nD Cert.Kernel24Ideal.τ).loc Cert.Kernel24Ideal.main_v59)) (v17 : (c : Dev Cert.Kernel24Ideal.nD) → Buf (Elt Ideal) ((c.tc : Thread Cert.Kernel24Ideal.nD Cert.Kernel24Ideal.τ).loc Cert.Kernel24Ideal.main_v60)) (v18 : (c : Dev Cert.Kernel24Ideal.nD) → Buf (Elt Ideal) ((c.tc : Thread Cert.Kernel24Ideal.nD Cert.Kernel24Ideal.τ).loc Cert.Kernel24Ideal.main_v61)) (v19 : (c : Dev Cert.Kernel24Ideal.nD) → Buf (Elt Ideal) ((c.tc : Thread Cert.Kernel24Ideal.nD Cert.Kernel24Ideal.τ).loc Cert.Kernel24Ideal.main_v62)) (v20 : (c : Dev Cert.Kernel24Ideal.nD) → Buf (Elt Ideal) ((c.tc : Thread Cert.Kernel24Ideal.nD Cert.Kernel24Ideal.τ).loc Cert.Kernel24Ideal.main_v63)) (v21 : (c : Dev Cert.Kernel24Ideal.nD) → Buf (Elt Ideal) ((c.tc : Thread Cert.Kernel24Ideal.nD Cert.Kernel24Ideal.τ).loc Cert.Kernel24Ideal.main_v65)) (v22 : (c : Dev Cert.Kernel24Ideal.nD) → Buf (Elt Ideal) ((c.tc : Thread Cert.Kernel24Ideal.nD Cert.Kernel24Ideal.τ).loc Cert.Kernel24Ideal.main_v67)) (v23 : (c : Dev Cert.Kernel24Ideal.nD) → Buf (Elt Ideal) ((c.tc : Thread Cert.Kernel24Ideal.nD Cert.Kernel24Ideal.τ).loc Cert.Kernel24Ideal.main_v69)) (v24 : (c : Dev Cert.Kernel24Ideal.nD) → Buf (Elt Ideal) ((c.tc : Thread Cert.Kernel24Ideal.nD Cert.Kernel24Ideal.τ).loc Cert.Kernel24Ideal.main_v71)) (v25 : (c : Dev Cert.Kernel24Ideal.nD) → Buf (Elt Ideal) ((c.tc : Thread Cert.Kernel24Ideal.nD Cert.Kernel24Ideal.τ).loc Cert.Kernel24Ideal.main_v73)) (v26 : (c : Dev Cert.Kernel24Ideal.nD) → Buf (Elt Ideal) ((c.tc : Thread Cert.Kernel24Ideal.nD Cert.Kernel24Ideal.τ).loc Cert.Kernel24Ideal.main_v75)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v41) = v0 c
          ∧ r.2.mem ((c.tc : Thread Cert.Kernel24Ideal.nD Cert.Kernel24Ideal.τ).loc Cert.Kernel24Ideal.main_v43) = v1 c
          ∧ r.2.mem ((c.tc : Thread Cert.Kernel24Ideal.nD Cert.Kernel24Ideal.τ).loc Cert.Kernel24Ideal.main_v45) = v2 c
          ∧ r.2.mem ((c.tc : Thread Cert.Kernel24Ideal.nD Cert.Kernel24Ideal.τ).loc Cert.Kernel24Ideal.main_v46) = v3 c
          ∧ r.2.mem ((c.tc : Thread Cert.Kernel24Ideal.nD Cert.Kernel24Ideal.τ).loc Cert.Kernel24Ideal.main_v47) = v4 c
          ∧ r.2.mem ((c.tc : Thread Cert.Kernel24Ideal.nD Cert.Kernel24Ideal.τ).loc Cert.Kernel24Ideal.main_v48) = v5 c
          ∧ r.2.mem ((c.tc : Thread Cert.Kernel24Ideal.nD Cert.Kernel24Ideal.τ).loc Cert.Kernel24Ideal.main_v49) = v6 c
          ∧ r.2.mem ((c.tc : Thread Cert.Kernel24Ideal.nD Cert.Kernel24Ideal.τ).loc Cert.Kernel24Ideal.main_v50) = v7 c
          ∧ r.2.mem ((c.tc : Thread Cert.Kernel24Ideal.nD Cert.Kernel24Ideal.τ).loc Cert.Kernel24Ideal.main_v51) = v8 c
          ∧ r.2.mem ((c.tc : Thread Cert.Kernel24Ideal.nD Cert.Kernel24Ideal.τ).loc Cert.Kernel24Ideal.main_v52) = v9 c
          ∧ r.2.mem ((c.tc : Thread Cert.Kernel24Ideal.nD Cert.Kernel24Ideal.τ).loc Cert.Kernel24Ideal.main_v53) = v10 c
          ∧ r.2.mem ((c.tc : Thread Cert.Kernel24Ideal.nD Cert.Kernel24Ideal.τ).loc Cert.Kernel24Ideal.main_v54) = v11 c
          ∧ r.2.mem ((c.tc : Thread Cert.Kernel24Ideal.nD Cert.Kernel24Ideal.τ).loc Cert.Kernel24Ideal.main_v55) = v12 c
          ∧ r.2.mem ((c.tc : Thread Cert.Kernel24Ideal.nD Cert.Kernel24Ideal.τ).loc Cert.Kernel24Ideal.main_v56) = v13 c
          ∧ r.2.mem ((c.tc : Thread Cert.Kernel24Ideal.nD Cert.Kernel24Ideal.τ).loc Cert.Kernel24Ideal.main_v57) = v14 c
          ∧ r.2.mem ((c.tc : Thread Cert.Kernel24Ideal.nD Cert.Kernel24Ideal.τ).loc Cert.Kernel24Ideal.main_v58) = v15 c
          ∧ r.2.mem ((c.tc : Thread Cert.Kernel24Ideal.nD Cert.Kernel24Ideal.τ).loc Cert.Kernel24Ideal.main_v59) = v16 c
          ∧ r.2.mem ((c.tc : Thread Cert.Kernel24Ideal.nD Cert.Kernel24Ideal.τ).loc Cert.Kernel24Ideal.main_v60) = v17 c
          ∧ r.2.mem ((c.tc : Thread Cert.Kernel24Ideal.nD Cert.Kernel24Ideal.τ).loc Cert.Kernel24Ideal.main_v61) = v18 c
          ∧ r.2.mem ((c.tc : Thread Cert.Kernel24Ideal.nD Cert.Kernel24Ideal.τ).loc Cert.Kernel24Ideal.main_v62) = v19 c
          ∧ r.2.mem ((c.tc : Thread Cert.Kernel24Ideal.nD Cert.Kernel24Ideal.τ).loc Cert.Kernel24Ideal.main_v63) = v20 c
          ∧ r.2.mem ((c.tc : Thread Cert.Kernel24Ideal.nD Cert.Kernel24Ideal.τ).loc Cert.Kernel24Ideal.main_v65) = v21 c
          ∧ r.2.mem ((c.tc : Thread Cert.Kernel24Ideal.nD Cert.Kernel24Ideal.τ).loc Cert.Kernel24Ideal.main_v67) = v22 c
          ∧ r.2.mem ((c.tc : Thread Cert.Kernel24Ideal.nD Cert.Kernel24Ideal.τ).loc Cert.Kernel24Ideal.main_v69) = v23 c
          ∧ r.2.mem ((c.tc : Thread Cert.Kernel24Ideal.nD Cert.Kernel24Ideal.τ).loc Cert.Kernel24Ideal.main_v71) = v24 c
          ∧ r.2.mem ((c.tc : Thread Cert.Kernel24Ideal.nD Cert.Kernel24Ideal.τ).loc Cert.Kernel24Ideal.main_v73) = v25 c
          ∧ r.2.mem ((c.tc : Thread Cert.Kernel24Ideal.nD Cert.Kernel24Ideal.τ).loc Cert.Kernel24Ideal.main_v75) = v26 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
          ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
          ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
          ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
          ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
          ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
          ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
          ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
          ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19)
          ∧ r.2.mem ((c.tc : Thread Cert.Kernel24Ideal.nD Cert.Kernel24Ideal.τ).loc Cert.Kernel24Ideal.main_arg20) = m ((c.tc : Thread Cert.Kernel24Ideal.nD Cert.Kernel24Ideal.τ).loc Cert.Kernel24Ideal.main_arg20)
          ∧ r.2.mem ((c.tc : Thread Cert.Kernel24Ideal.nD Cert.Kernel24Ideal.τ).loc Cert.Kernel24Ideal.main_arg21) = m ((c.tc : Thread Cert.Kernel24Ideal.nD Cert.Kernel24Ideal.τ).loc Cert.Kernel24Ideal.main_arg21)
          ∧ r.2.mem ((c.tc : Thread Cert.Kernel24Ideal.nD Cert.Kernel24Ideal.τ).loc Cert.Kernel24Ideal.main_arg22) = m ((c.tc : Thread Cert.Kernel24Ideal.nD Cert.Kernel24Ideal.τ).loc Cert.Kernel24Ideal.main_arg22)
          ∧ r.2.mem ((c.tc : Thread Cert.Kernel24Ideal.nD Cert.Kernel24Ideal.τ).loc Cert.Kernel24Ideal.main_arg23) = m ((c.tc : Thread Cert.Kernel24Ideal.nD Cert.Kernel24Ideal.τ).loc Cert.Kernel24Ideal.main_arg23)
          ∧ r.2.mem ((c.tc : Thread Cert.Kernel24Ideal.nD Cert.Kernel24Ideal.τ).loc Cert.Kernel24Ideal.main_arg24) = m ((c.tc : Thread Cert.Kernel24Ideal.nD Cert.Kernel24Ideal.τ).loc Cert.Kernel24Ideal.main_arg24)
          ∧ r.2.mem ((c.tc : Thread Cert.Kernel24Ideal.nD Cert.Kernel24Ideal.τ).loc Cert.Kernel24Ideal.main_arg25) = m ((c.tc : Thread Cert.Kernel24Ideal.nD Cert.Kernel24Ideal.τ).loc Cert.Kernel24Ideal.main_arg25)
          ∧ r.2.mem ((c.tc : Thread Cert.Kernel24Ideal.nD Cert.Kernel24Ideal.τ).loc Cert.Kernel24Ideal.main_arg26) = m ((c.tc : Thread Cert.Kernel24Ideal.nD Cert.Kernel24Ideal.τ).loc Cert.Kernel24Ideal.main_arg26)
          ∧ r.2.mem ((c.tc : Thread Cert.Kernel24Ideal.nD Cert.Kernel24Ideal.τ).loc Cert.Kernel24Ideal.main_arg27) = m ((c.tc : Thread Cert.Kernel24Ideal.nD Cert.Kernel24Ideal.τ).loc Cert.Kernel24Ideal.main_arg27))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v25) = v0 c
          ∧ r.2.mem ((c.tc : Thread Cert.Reference24Ideal.nD Cert.Reference24Ideal.τ).loc Cert.Reference24Ideal.main_v6) = v1 c
          ∧ r.2.mem ((c.tc : Thread Cert.Reference24Ideal.nD Cert.Reference24Ideal.τ).loc Cert.Reference24Ideal.main_v12) = v2 c
          ∧ r.2.mem ((c.tc : Thread Cert.Reference24Ideal.nD Cert.Reference24Ideal.τ).loc Cert.Reference24Ideal.main_v50) = v3 c
          ∧ r.2.mem ((c.tc : Thread Cert.Reference24Ideal.nD Cert.Reference24Ideal.τ).loc Cert.Reference24Ideal.main_v31) = v4 c
          ∧ r.2.mem ((c.tc : Thread Cert.Reference24Ideal.nD Cert.Reference24Ideal.τ).loc Cert.Reference24Ideal.main_v37) = v5 c
          ∧ r.2.mem ((c.tc : Thread Cert.Reference24Ideal.nD Cert.Reference24Ideal.τ).loc Cert.Reference24Ideal.main_v75) = v6 c
          ∧ r.2.mem ((c.tc : Thread Cert.Reference24Ideal.nD Cert.Reference24Ideal.τ).loc Cert.Reference24Ideal.main_v56) = v7 c
          ∧ r.2.mem ((c.tc : Thread Cert.Reference24Ideal.nD Cert.Reference24Ideal.τ).loc Cert.Reference24Ideal.main_v62) = v8 c
          ∧ r.2.mem ((c.tc : Thread Cert.Reference24Ideal.nD Cert.Reference24Ideal.τ).loc Cert.Reference24Ideal.main_v100) = v9 c
          ∧ r.2.mem ((c.tc : Thread Cert.Reference24Ideal.nD Cert.Reference24Ideal.τ).loc Cert.Reference24Ideal.main_v81) = v10 c
          ∧ r.2.mem ((c.tc : Thread Cert.Reference24Ideal.nD Cert.Reference24Ideal.τ).loc Cert.Reference24Ideal.main_v87) = v11 c
          ∧ r.2.mem ((c.tc : Thread Cert.Reference24Ideal.nD Cert.Reference24Ideal.τ).loc Cert.Reference24Ideal.main_v125) = v12 c
          ∧ r.2.mem ((c.tc : Thread Cert.Reference24Ideal.nD Cert.Reference24Ideal.τ).loc Cert.Reference24Ideal.main_v106) = v13 c
          ∧ r.2.mem ((c.tc : Thread Cert.Reference24Ideal.nD Cert.Reference24Ideal.τ).loc Cert.Reference24Ideal.main_v112) = v14 c
          ∧ r.2.mem ((c.tc : Thread Cert.Reference24Ideal.nD Cert.Reference24Ideal.τ).loc Cert.Reference24Ideal.main_v150) = v15 c
          ∧ r.2.mem ((c.tc : Thread Cert.Reference24Ideal.nD Cert.Reference24Ideal.τ).loc Cert.Reference24Ideal.main_v131) = v16 c
          ∧ r.2.mem ((c.tc : Thread Cert.Reference24Ideal.nD Cert.Reference24Ideal.τ).loc Cert.Reference24Ideal.main_v137) = v17 c
          ∧ r.2.mem ((c.tc : Thread Cert.Reference24Ideal.nD Cert.Reference24Ideal.τ).loc Cert.Reference24Ideal.main_v175) = v18 c
          ∧ r.2.mem ((c.tc : Thread Cert.Reference24Ideal.nD Cert.Reference24Ideal.τ).loc Cert.Reference24Ideal.main_v156) = v19 c
          ∧ r.2.mem ((c.tc : Thread Cert.Reference24Ideal.nD Cert.Reference24Ideal.τ).loc Cert.Reference24Ideal.main_v162) = v20 c
          ∧ r.2.mem ((c.tc : Thread Cert.Reference24Ideal.nD Cert.Reference24Ideal.τ).loc Cert.Reference24Ideal.main_v201) = v21 c
          ∧ r.2.mem ((c.tc : Thread Cert.Reference24Ideal.nD Cert.Reference24Ideal.τ).loc Cert.Reference24Ideal.main_v182) = v22 c
          ∧ r.2.mem ((c.tc : Thread Cert.Reference24Ideal.nD Cert.Reference24Ideal.τ).loc Cert.Reference24Ideal.main_v188) = v23 c
          ∧ r.2.mem ((c.tc : Thread Cert.Reference24Ideal.nD Cert.Reference24Ideal.τ).loc Cert.Reference24Ideal.main_v227) = v24 c
          ∧ r.2.mem ((c.tc : Thread Cert.Reference24Ideal.nD Cert.Reference24Ideal.τ).loc Cert.Reference24Ideal.main_v208) = v25 c
          ∧ r.2.mem ((c.tc : Thread Cert.Reference24Ideal.nD Cert.Reference24Ideal.τ).loc Cert.Reference24Ideal.main_v214) = v26 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11)
          ∧ r.2.mem ((c.tc : Thread Cert.Reference24Ideal.nD Cert.Reference24Ideal.τ).loc Cert.Reference24Ideal.main_arg12) = m' ((c.tc : Thread Cert.Reference24Ideal.nD Cert.Reference24Ideal.τ).loc Cert.Reference24Ideal.main_arg12)
          ∧ r.2.mem ((c.tc : Thread Cert.Reference24Ideal.nD Cert.Reference24Ideal.τ).loc Cert.Reference24Ideal.main_arg13) = m' ((c.tc : Thread Cert.Reference24Ideal.nD Cert.Reference24Ideal.τ).loc Cert.Reference24Ideal.main_arg13)
          ∧ r.2.mem ((c.tc : Thread Cert.Reference24Ideal.nD Cert.Reference24Ideal.τ).loc Cert.Reference24Ideal.main_arg14) = m' ((c.tc : Thread Cert.Reference24Ideal.nD Cert.Reference24Ideal.τ).loc Cert.Reference24Ideal.main_arg14)
          ∧ r.2.mem ((c.tc : Thread Cert.Reference24Ideal.nD Cert.Reference24Ideal.τ).loc Cert.Reference24Ideal.main_arg15) = m' ((c.tc : Thread Cert.Reference24Ideal.nD Cert.Reference24Ideal.τ).loc Cert.Reference24Ideal.main_arg15)
          ∧ r.2.mem ((c.tc : Thread Cert.Reference24Ideal.nD Cert.Reference24Ideal.τ).loc Cert.Reference24Ideal.main_arg16) = m' ((c.tc : Thread Cert.Reference24Ideal.nD Cert.Reference24Ideal.τ).loc Cert.Reference24Ideal.main_arg16)
          ∧ r.2.mem ((c.tc : Thread Cert.Reference24Ideal.nD Cert.Reference24Ideal.τ).loc Cert.Reference24Ideal.main_arg17) = m' ((c.tc : Thread Cert.Reference24Ideal.nD Cert.Reference24Ideal.τ).loc Cert.Reference24Ideal.main_arg17)
          ∧ r.2.mem ((c.tc : Thread Cert.Reference24Ideal.nD Cert.Reference24Ideal.τ).loc Cert.Reference24Ideal.main_arg18) = m' ((c.tc : Thread Cert.Reference24Ideal.nD Cert.Reference24Ideal.τ).loc Cert.Reference24Ideal.main_arg18)
          ∧ r.2.mem ((c.tc : Thread Cert.Reference24Ideal.nD Cert.Reference24Ideal.τ).loc Cert.Reference24Ideal.main_arg19) = m' ((c.tc : Thread Cert.Reference24Ideal.nD Cert.Reference24Ideal.τ).loc Cert.Reference24Ideal.main_arg19)
          ∧ r.2.mem ((c.tc : Thread Cert.Reference24Ideal.nD Cert.Reference24Ideal.τ).loc Cert.Reference24Ideal.main_arg20) = m' ((c.tc : Thread Cert.Reference24Ideal.nD Cert.Reference24Ideal.τ).loc Cert.Reference24Ideal.main_arg20)
          ∧ r.2.mem ((c.tc : Thread Cert.Reference24Ideal.nD Cert.Reference24Ideal.τ).loc Cert.Reference24Ideal.main_arg21) = m' ((c.tc : Thread Cert.Reference24Ideal.nD Cert.Reference24Ideal.τ).loc Cert.Reference24Ideal.main_arg21)
          ∧ r.2.mem ((c.tc : Thread Cert.Reference24Ideal.nD Cert.Reference24Ideal.τ).loc Cert.Reference24Ideal.main_arg22) = m' ((c.tc : Thread Cert.Reference24Ideal.nD Cert.Reference24Ideal.τ).loc Cert.Reference24Ideal.main_arg22)
          ∧ r.2.mem ((c.tc : Thread Cert.Reference24Ideal.nD Cert.Reference24Ideal.τ).loc Cert.Reference24Ideal.main_arg23) = m' ((c.tc : Thread Cert.Reference24Ideal.nD Cert.Reference24Ideal.τ).loc Cert.Reference24Ideal.main_arg23)
          ∧ r.2.mem ((c.tc : Thread Cert.Reference24Ideal.nD Cert.Reference24Ideal.τ).loc Cert.Reference24Ideal.main_arg24) = m' ((c.tc : Thread Cert.Reference24Ideal.nD Cert.Reference24Ideal.τ).loc Cert.Reference24Ideal.main_arg24)
          ∧ r.2.mem ((c.tc : Thread Cert.Reference24Ideal.nD Cert.Reference24Ideal.τ).loc Cert.Reference24Ideal.main_arg25) = m' ((c.tc : Thread Cert.Reference24Ideal.nD Cert.Reference24Ideal.τ).loc Cert.Reference24Ideal.main_arg25)
          ∧ r.2.mem ((c.tc : Thread Cert.Reference24Ideal.nD Cert.Reference24Ideal.τ).loc Cert.Reference24Ideal.main_arg26) = m' ((c.tc : Thread Cert.Reference24Ideal.nD Cert.Reference24Ideal.τ).loc Cert.Reference24Ideal.main_arg26)
          ∧ r.2.mem ((c.tc : Thread Cert.Reference24Ideal.nD Cert.Reference24Ideal.τ).loc Cert.Reference24Ideal.main_arg27) = m' ((c.tc : Thread Cert.Reference24Ideal.nD Cert.Reference24Ideal.τ).loc Cert.Reference24Ideal.main_arg27))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)
      ∧ m' ((c.tc : Thread Cert.Reference25Ideal.nD Cert.Reference25Ideal.τ).loc Cert.Reference25Ideal.main_arg10) = m ((c.tc : Thread Cert.Kernel25Ideal.nD Cert.Kernel25Ideal.τ).loc Cert.Kernel25Ideal.main_arg10)
      ∧ m' ((c.tc : Thread Cert.Reference25Ideal.nD Cert.Reference25Ideal.τ).loc Cert.Reference25Ideal.main_arg11) = m ((c.tc : Thread Cert.Kernel25Ideal.nD Cert.Kernel25Ideal.τ).loc Cert.Kernel25Ideal.main_arg11)) →
    ∃ (v0 : (c : Dev Cert.Kernel25Ideal.nD) → Buf (Elt Ideal) ((c.tc : Thread Cert.Kernel25Ideal.nD Cert.Kernel25Ideal.τ).loc Cert.Kernel25Ideal.main_v18)) (v1 : (c : Dev Cert.Kernel25Ideal.nD) → Buf (Elt Ideal) ((c.tc : Thread Cert.Kernel25Ideal.nD Cert.Kernel25Ideal.τ).loc Cert.Kernel25Ideal.main_v20)) (v2 : (c : Dev Cert.Kernel25Ideal.nD) → Buf (Elt Ideal) ((c.tc : Thread Cert.Kernel25Ideal.nD Cert.Kernel25Ideal.τ).loc Cert.Kernel25Ideal.main_v22)) (v3 : (c : Dev Cert.Kernel25Ideal.nD) → Buf (Elt Ideal) ((c.tc : Thread Cert.Kernel25Ideal.nD Cert.Kernel25Ideal.τ).loc Cert.Kernel25Ideal.main_v24)) (v4 : (c : Dev Cert.Kernel25Ideal.nD) → Buf (Elt Ideal) ((c.tc : Thread Cert.Kernel25Ideal.nD Cert.Kernel25Ideal.τ).loc Cert.Kernel25Ideal.main_v26)) (v5 : (c : Dev Cert.Kernel25Ideal.nD) → Buf (Elt Ideal) ((c.tc : Thread Cert.Kernel25Ideal.nD Cert.Kernel25Ideal.τ).loc Cert.Kernel25Ideal.main_v28)) (v6 : (c : Dev Cert.Kernel25Ideal.nD) → Buf (Elt Ideal) ((c.tc : Thread Cert.Kernel25Ideal.nD Cert.Kernel25Ideal.τ).loc Cert.Kernel25Ideal.main_v29)) (v7 : (c : Dev Cert.Kernel25Ideal.nD) → Buf (Elt Ideal) ((c.tc : Thread Cert.Kernel25Ideal.nD Cert.Kernel25Ideal.τ).loc Cert.Kernel25Ideal.main_v30)) (v8 : (c : Dev Cert.Kernel25Ideal.nD) → Buf (Elt Ideal) ((c.tc : Thread Cert.Kernel25Ideal.nD Cert.Kernel25Ideal.τ).loc Cert.Kernel25Ideal.main_v31)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v18) = v0 c
          ∧ r.2.mem ((c.tc : Thread Cert.Kernel25Ideal.nD Cert.Kernel25Ideal.τ).loc Cert.Kernel25Ideal.main_v20) = v1 c
          ∧ r.2.mem ((c.tc : Thread Cert.Kernel25Ideal.nD Cert.Kernel25Ideal.τ).loc Cert.Kernel25Ideal.main_v22) = v2 c
          ∧ r.2.mem ((c.tc : Thread Cert.Kernel25Ideal.nD Cert.Kernel25Ideal.τ).loc Cert.Kernel25Ideal.main_v24) = v3 c
          ∧ r.2.mem ((c.tc : Thread Cert.Kernel25Ideal.nD Cert.Kernel25Ideal.τ).loc Cert.Kernel25Ideal.main_v26) = v4 c
          ∧ r.2.mem ((c.tc : Thread Cert.Kernel25Ideal.nD Cert.Kernel25Ideal.τ).loc Cert.Kernel25Ideal.main_v28) = v5 c
          ∧ r.2.mem ((c.tc : Thread Cert.Kernel25Ideal.nD Cert.Kernel25Ideal.τ).loc Cert.Kernel25Ideal.main_v29) = v6 c
          ∧ r.2.mem ((c.tc : Thread Cert.Kernel25Ideal.nD Cert.Kernel25Ideal.τ).loc Cert.Kernel25Ideal.main_v30) = v7 c
          ∧ r.2.mem ((c.tc : Thread Cert.Kernel25Ideal.nD Cert.Kernel25Ideal.τ).loc Cert.Kernel25Ideal.main_v31) = v8 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
          ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
          ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_v47) = v3 c
          ∧ r.2.mem ((c.tc : Thread Cert.Reference25Ideal.nD Cert.Reference25Ideal.τ).loc Cert.Reference25Ideal.main_v28) = v4 c
          ∧ r.2.mem ((c.tc : Thread Cert.Reference25Ideal.nD Cert.Reference25Ideal.τ).loc Cert.Reference25Ideal.main_v34) = v5 c
          ∧ r.2.mem ((c.tc : Thread Cert.Reference25Ideal.nD Cert.Reference25Ideal.τ).loc Cert.Reference25Ideal.main_v71) = v6 c
          ∧ r.2.mem ((c.tc : Thread Cert.Reference25Ideal.nD Cert.Reference25Ideal.τ).loc Cert.Reference25Ideal.main_v52) = v7 c
          ∧ r.2.mem ((c.tc : Thread Cert.Reference25Ideal.nD Cert.Reference25Ideal.τ).loc Cert.Reference25Ideal.main_v58) = v8 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9)
          ∧ r.2.mem ((c.tc : Thread Cert.Reference25Ideal.nD Cert.Reference25Ideal.τ).loc Cert.Reference25Ideal.main_arg10) = m' ((c.tc : Thread Cert.Reference25Ideal.nD Cert.Reference25Ideal.τ).loc Cert.Reference25Ideal.main_arg10)
          ∧ r.2.mem ((c.tc : Thread Cert.Reference25Ideal.nD Cert.Reference25Ideal.τ).loc Cert.Reference25Ideal.main_arg11) = m' ((c.tc : Thread Cert.Reference25Ideal.nD Cert.Reference25Ideal.τ).loc Cert.Reference25Ideal.main_arg11))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v3)) (v1 : (c : Dev Cert.Kernel26Ideal.nD) → Buf (Elt Ideal) ((c.tc : Thread Cert.Kernel26Ideal.nD Cert.Kernel26Ideal.τ).loc Cert.Kernel26Ideal.main_v1_0)) (v2 : (c : Dev Cert.Kernel26Ideal.nD) → Buf (Elt Ideal) ((c.tc : Thread Cert.Kernel26Ideal.nD Cert.Kernel26Ideal.τ).loc Cert.Kernel26Ideal.main_v5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3) = v0 c
          ∧ r.2.mem ((c.tc : Thread Cert.Kernel26Ideal.nD Cert.Kernel26Ideal.τ).loc Cert.Kernel26Ideal.main_v1_0) = v1 c
          ∧ r.2.mem ((c.tc : Thread Cert.Kernel26Ideal.nD Cert.Kernel26Ideal.τ).loc Cert.Kernel26Ideal.main_v5) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v50) = v1 c
          ∧ r.2.mem ((c.tc : Thread Cert.Reference26Ideal.nD Cert.Reference26Ideal.τ).loc Cert.Reference26Ideal.main_v36) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v2)) (v2 : (c : Dev Cert.Kernel28Ideal.nD) → Buf (Elt Ideal) ((c.tc : Thread Cert.Kernel28Ideal.nD Cert.Kernel28Ideal.τ).loc Cert.Kernel28Ideal.main_v3)) (v3 : (c : Dev Cert.Kernel28Ideal.nD) → Buf (Elt Ideal) ((c.tc : Thread Cert.Kernel28Ideal.nD Cert.Kernel28Ideal.τ).loc Cert.Kernel28Ideal.main_v1_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v2) = v1 c
          ∧ r.2.mem ((c.tc : Thread Cert.Kernel28Ideal.nD Cert.Kernel28Ideal.τ).loc Cert.Kernel28Ideal.main_v3) = v2 c
          ∧ r.2.mem ((c.tc : Thread Cert.Kernel28Ideal.nD Cert.Kernel28Ideal.τ).loc Cert.Kernel28Ideal.main_v1_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v25) = v0 c
          ∧ r.2.mem ((c.tc : Thread Cert.Reference28Ideal.nD Cert.Reference28Ideal.τ).loc Cert.Reference28Ideal.main_v9) = v1 c
          ∧ r.2.mem ((c.tc : Thread Cert.Reference28Ideal.nD Cert.Reference28Ideal.τ).loc Cert.Reference28Ideal.main_v12) = v2 c
          ∧ r.2.mem ((c.tc : Thread Cert.Reference28Ideal.nD Cert.Reference28Ideal.τ).loc Cert.Reference28Ideal.main_v26) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_v9) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v17) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel31 : Cert.Kernel31.Facts) (hKernel31Ideal : Cert.Kernel31Ideal.Facts) (hReference31Ideal : Cert.Reference31Ideal.Facts) (hPre_finite2 : Cert.Pre_finite2.Facts) (hPre_finite6 : Cert.Pre_finite6.Facts) (hPre_finite12 : Cert.Pre_finite12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel31_Kernel31Ideal
    ∧ algebraic_Kernel31Ideal_Reference31Ideal (hKernel31Ideal := hKernel31Ideal) (hReference31Ideal := hReference31Ideal)
-- ==== Pre_finite12.lean ====
abbrev S4096x1024 : Shape := ⟨2, ![4096, 1024]⟩
abbrev S1x1024 : Shape := ⟨2, ![1, 1024]⟩
abbrev S1024x2048 : Shape := ⟨2, ![1024, 2048]⟩
abbrev S2x4096x1024 : Shape := ⟨3, ![2, 4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2048 : S_.BroadcastsInDim S1024x2048 (![] : Fin 0 → Fin S1024x2048.rank)
  bcast_S_S2x4096x1024 : S_.BroadcastsInDim S2x4096x1024 (![] : Fin 0 → Fin S2x4096x1024.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x2048 .f32) (main_arg5 : FVec F S2x4096x1024 .bf16) (main_arg6 : FVec F S4096x1024 .f32) : IVec S4096x1024 1 × IVec S1x1024 1 × IVec S1x1024 1 × IVec S1024x2048 1 × IVec S2x4096x1024 1 :=
  let main_v0 : FVec F S2x4096x1024 .f32 := (extf .f32 · bitsLt_bf16_f32) main_arg5
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1024x2048 .f32 := Host.absf main_arg4
  let main_cst_2 : FVec F S_ .f32 := constant S_ .f32 0x7F800000#32
  let main_v11 : FVec F S1024x2048 .f32 := broadcastInDim S1024x2048 ![] bcast_S_S1024x2048 main_cst_2
  let main_v12 : IVec S1024x2048 1 := cmpf .olt main_v10 main_v11
  let main_v13 : FVec F S2x4096x1024 .f32 := Host.absf main_v0
  let main_cst_3 : FVec F S_ .f32 := constant S_ .f32 0x7F800000#32
  let main_v14 : FVec F S2x4096x1024 .f32 := broadcastInDim S2x4096x1024 ![] bcast_S_S2x4096x1024 main_cst_3
  let main_v15 : IVec S2x4096x1024 1 := cmpf .olt main_v13 main_v14
  (main_v3, main_v6, main_v9, main_v12, main_v15)
-- ==== Pre_finite2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg7 : FVec F S4096x1024 .f32) (main_v2 : IVec S4096x1024 1) (main_v5 : IVec S1x1024 1) (main_v8 : IVec S1x1024 1) (main_v11 : IVec S1x1024 1) (main_v14 : IVec S1x1024 1) (main_v17 : IVec S1024x5632 1) : IVec S4096x1024 1 × IVec S1x1024 1 × IVec S1x1024 1 × IVec S1x1024 1 × IVec S1x1024 1 × IVec S1024x5632 1 × IVec S2816x1024 1 × IVec S4096x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1x1024 .f32) (main_arg5 : FVec F S1024x5632 .f32) (main_arg6 : FVec F S2816x1024 .f32) (main_arg7 : FVec F S4096x1024 .f32) : IVec S4096x1024 1 × IVec S1x1024 1 × IVec S1x1024 1 × IVec S1x1024 1 × IVec S1x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x5632 .f32 := Host.absf main_arg5
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg6 main_arg7 main_v2 main_v5 main_v8 main_v11 main_v14 main_v17
-- ==== Pre_finite6.lean ====
abbrev S4096x1024 : Shape := ⟨2, ![4096, 1024]⟩
abbrev S1x1024 : Shape := ⟨2, ![1, 1024]⟩
abbrev S1024x3072 : Shape := ⟨2, ![1024, 3072]⟩
abbrev S3x4096x1024 : Shape := ⟨3, ![3, 4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S3x4096x1024 : S_.BroadcastsInDim S3x4096x1024 (![] : Fin 0 → Fin S3x4096x1024.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x3072 .f32) (main_arg5 : FVec F S3x4096x1024 .bf16) (main_arg6 : FVec F S4096x1024 .f32) : IVec S4096x1024 1 × IVec S1x1024 1 × IVec S1x1024 1 × IVec S1024x3072 1 × IVec S3x4096x1024 1 :=
  let main_v0 : FVec F S3x4096x1024 .f32 := (extf .f32 · bitsLt_bf16_f32) main_arg5
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1024x3072 .f32 := Host.absf main_arg4
  let main_cst_2 : FVec F S_ .f32 := constant S_ .f32 0x7F800000#32
  let main_v11 : FVec F S1024x3072 .f32 := broadcastInDim S1024x3072 ![] bcast_S_S1024x3072 main_cst_2
  let main_v12 : IVec S1024x3072 1 := cmpf .olt main_v10 main_v11
  let main_v13 : FVec F S3x4096x1024 .f32 := Host.absf main_v0
  let main_cst_3 : FVec F S_ .f32 := constant S_ .f32 0x7F800000#32
  let main_v14 : FVec F S3x4096x1024 .f32 := broadcastInDim S3x4096x1024 ![] bcast_S_S3x4096x1024 main_cst_3
  let main_v15 : IVec S3x4096x1024 1 := cmpf .olt main_v13 main_v14
  (main_v3, main_v6, main_v9, main_v12, main_v15)
-- ==== Kernel.lean ====
abbrev S3x4096x1024 : Shape := ⟨3, ![3, 4096, 1024]⟩
abbrev S4096x1024 : Shape := ⟨2, ![4096, 1024]⟩
abbrev S3x1024 : Shape := ⟨2, ![3, 1024]⟩
abbrev S1x4096x128 : Shape := ⟨3, ![1, 4096, 128]⟩
abbrev S4096x128 : Shape := ⟨2, ![4096, 128]⟩
abbrev S3x128 : Shape := ⟨2, ![3, 128]⟩
abbrev S3x4096x128 : Shape := ⟨3, ![3, 4096, 128]⟩
abbrev S4104x128 : Shape := ⟨2, ![4104, 128]⟩
abbrev S8x128 : Shape := ⟨2, ![8, 128]⟩
abbrev S64x128 : Shape := ⟨2, ![64, 128]⟩
abbrev S1x128 : Shape := ⟨2, ![1, 128]⟩
abbrev S1x64x128 : Shape := ⟨3, ![1, 64, 128]⟩
abbrev S8x8x128 : Shape := ⟨3, ![8, 8, 128]⟩
abbrev S128 : Shape := ⟨1, ![128]⟩

abbrev nBuf : Space → Nat
  | .hbm => 5
  | .vmem => 16
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .bf16⟩
  | .hbm, ⟨2, _⟩ => ⟨S3x1024, .f32⟩
  | .hbm, ⟨3, _⟩ => ⟨S3x4096x1024, .bf16⟩
  | .hbm, ⟨4, _⟩ => ⟨S3x1024, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S3x4096x128, .bf16⟩
  | .local _ .vmem, ⟨11, _⟩ => ⟨S3x4096x128, .bf16⟩
  | .local _ .vmem, ⟨12, _⟩ => ⟨S3x128, .f32⟩
  | .local _ .vmem, ⟨13, _⟩ => ⟨S3x128, .f32⟩
  | .local _ .vmem, ⟨14, _⟩ => ⟨S4104x128, .f32⟩
  | .local _ .vmem, ⟨15, _⟩ => ⟨S4104x128, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v28 : BitVec 32 := Scalar.addi c0_i32 c64_i32
  let c1_i32 : BitVec 32 := 1#32
  ⟨c0_i32, v28, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  v39
def k0_off1 (k0_t1 : Fin k0_t1_loop.trips) (c6_i32 : BitVec 32) : Fin 2 → Nat :=
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  let v40 : BitVec 32 := v39
  let v41 : BitVec 32 := Scalar.addi v40 c6_i32
  let v42 : Index := Scalar.indexCast v41
  let c0_27 : Index := 0#32
  ![v42.toNat, 0]
def k0_off1_at (r : Fin 5) : BitVec 32 :=
  if r.val < 2 then
    if r.val < 1 then
      6#32
    else
      7#32
  else
    if r.val < 3 then
      8#32
    else
      if r.val < 4 then
        1#32
      else
        2#32
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  let v40 : BitVec 32 := v39
  let v61 : Index := Scalar.indexCast v40
  let c0_36 : Index := 0#32
  ![v61.toNat, 0]
def k0_off3 (k0_t1 : Fin k0_t1_loop.trips) : Fin 3 → Nat :=
  let c0_37 : Index := 0#32
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  let v40 : BitVec 32 := v39
  let v66 : Index := Scalar.indexCast v40
  let c0_38 : Index := 0#32
  ![0, v66.toNat, 0]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  let v40 : BitVec 32 := v39
  let v70 : Index := Scalar.indexCast v40
  let c0_39 : Index := 0#32
  ![v70.toNat, 0]
def k0_off5 (k0_t1 : Fin k0_t1_loop.trips) : Fin 3 → Nat :=
  let c0_49 : Index := 0#32
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  let v40 : BitVec 32 := v39
  let v89 : Index := Scalar.indexCast v40
  let c0_50 : Index := 0#32
  ![0, v89.toNat, 0]
def k0_off6 (k0_t1 : Fin k0_t1_loop.trips) : Fin 3 → Nat :=
  let c1_51 : Index := 1#32
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  let v40 : BitVec 32 := v39
  let v95 : Index := Scalar.indexCast v40
  let c0_52 : Index := 0#32
  ![1, v95.toNat, 0]
def k0_off7 (k0_t1 : Fin k0_t1_loop.trips) : Fin 3 → Nat :=
  let c2_55 : Index := 2#32
  let c0_i32 : BitVec 32 := 0#32
  let c1_i32 : BitVec 32 := 1#32
  let arg10 : BitVec 32 := Scf.iv c0_i32 c1_i32 k0_t1
  let c64_i32_26 : BitVec 32 := 64#32
  let v39 : BitVec 32 := Scalar.muli arg10 c64_i32_26
  let v40 : BitVec 32 := v39
  let v105 : Index := Scalar.indexCast v40
  let c0_56 : Index := 0#32
  ![2, v105.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x4096x1024 : Shape := ⟨3, ![3, 4096, 1024]⟩
abbrev S4096x1024 : Shape := ⟨2, ![4096, 1024]⟩
abbrev S3x1024 : Shape := ⟨2, ![3, 1024]⟩
abbrev S1x4096x1024 : Shape := ⟨3, ![1, 4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .bf16⟩
  | .hbm, ⟨2, _⟩ => ⟨S3x1024, .f32⟩
  | .hbm, ⟨3, _⟩ => ⟨S3x4096x1024, .f32⟩
  | .hbm, ⟨4, _⟩ => ⟨S1x4096x1024, .f32⟩
  | .hbm, ⟨5, _⟩ => ⟨S4096x1024, .f32⟩
  | .hbm, ⟨6, _⟩ => ⟨S1x4096x1024, .f32⟩
  | .hbm, ⟨7, _⟩ => ⟨S4096x1024, .f32⟩
  | .hbm, ⟨8, _⟩ => ⟨S1x4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S2x1024, .f32⟩
  | .hbm, ⟨13, _⟩ => ⟨S4098x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S4098x1024, .f32⟩
  | .hbm, ⟨53, _⟩ => ⟨S1x1024, .f32⟩
  | .hbm, ⟨54, _⟩ => ⟨S_, .f32⟩
  | .hbm, ⟨55, _⟩ => ⟨S3x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S4098x1024, .f32⟩
  | .hbm, ⟨66, _⟩ => ⟨S4098x1024, .f32⟩
  | .hbm, ⟨67, _⟩ => ⟨S1x1024, .f32⟩
  | .hbm, ⟨68, _⟩ => ⟨S_, .f32⟩
  | .hbm, ⟨69, _⟩ => ⟨S3x1024, .f32⟩
  | .hbm, ⟨70, _⟩ => ⟨S3x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S4098x1024, .f32⟩
  | .hbm, ⟨81, _⟩ => ⟨S4098x1024, .f32⟩
  | .hbm, ⟨82, _⟩ => ⟨S1x1024, .f32⟩
  | .hbm, ⟨83, _⟩ => ⟨S_, .f32⟩
  | .hbm, ⟨84, _⟩ => ⟨S3x1024, .f32⟩
  | .hbm, ⟨85, _⟩ => ⟨S3x1024, .f32⟩
  | .hbm, ⟨86, _⟩ => ⟨S2x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S1x4096x1024, .f32⟩
  | .hbm, ⟨91, _⟩ => ⟨S_, .f32⟩
  | .hbm, ⟨92, _⟩ => ⟨S3x4096x1024, .f32⟩
  | .hbm, ⟨93, _⟩ => ⟨S1x4096x1024, .f32⟩
  | .hbm, ⟨94, _⟩ => ⟨S_, .f32⟩
  | .hbm, ⟨95, _⟩ => ⟨S3x4096x1024, .f32⟩
  | .hbm, ⟨96, _⟩ => ⟨S3x4096x1024, .f32⟩
  | .hbm, ⟨97, _⟩ => ⟨S1x4096x1024, .f32⟩
  | .hbm, ⟨98, _⟩ => ⟨S_, .f32⟩
  | .hbm, ⟨99, _⟩ => ⟨S3x4096x1024, .f32⟩
  | .hbm, ⟨100, _⟩ => ⟨S3x4096x1024, .f32⟩
  | .hbm, ⟨101, _⟩ => ⟨S3x4096x1024, .bf16⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_14 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_16 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S1x2816x1024 : Shape := ⟨3, ![1, 2816, 1024]⟩
abbrev S2x4096x2816 : Shape := ⟨3, ![2, 4096, 2816]⟩
abbrev S512x1024 : Shape := ⟨2, ![512, 1024]⟩
abbrev S2x512x2816 : Shape := ⟨3, ![2, 512, 2816]⟩
abbrev S512 : Shape := ⟨1, ![512]⟩
abbrev S512x1 : Shape := ⟨2, ![512, 1]⟩
abbrev S1x1x1024x1408 : Shape := ⟨4, ![1, 1, 1024, 1408]⟩
abbrev S1024x1408 : Shape := ⟨2, ![1024, 1408]⟩
abbrev S512x1408 : Shape := ⟨2, ![512, 1408]⟩
abbrev S512x2816 : Shape := ⟨2, ![512, 2816]⟩
abbrev S1x512x2816 : Shape := ⟨3, ![1, 512, 2816]⟩
abbrev S16x1x1024 : Shape := ⟨3, ![16, 1, 1024]⟩
abbrev S4096x2816 : Shape := ⟨2, ![4096, 2816]⟩
abbrev S256x1024 : Shape := ⟨2, ![256, 1024]⟩
abbrev S1x256x2816 : Shape := ⟨3, ![1, 256, 2816]⟩
abbrev S1x1x1024 : Shape := ⟨3, ![1, 1, 1024]⟩
abbrev S2x256x2816 : Shape := ⟨3, ![2, 256, 2816]⟩
abbrev S256x2816 : Shape := ⟨2, ![256, 2816]⟩
abbrev S1024 : Shape := ⟨1, ![1024]⟩
abbrev S8x2x1x1024 : Shape := ⟨4, ![8, 2, 1, 1024]⟩
abbrev S_ : Shape := ⟨0, ![]⟩
abbrev S8x1x1024 : Shape := ⟨3, ![8, 1, 1024]⟩
abbrev S1x512x1408 : Shape := ⟨3, ![1, 512, 1408]⟩

abbrev nBuf : Space → Nat
  | .hbm => 39
  | .vmem => 55
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S4x1x1024x1408, .bf16⟩
  | .hbm, ⟨12, _⟩ => ⟨S2816x1024, .bf16⟩
  | .hbm, ⟨13, _⟩ => ⟨S1x2816x1024, .bf16⟩
  | .hbm, ⟨14, _⟩ => ⟨S4096x1024, .bf16⟩
  | .hbm, ⟨15, _⟩ => ⟨S2x4096x2816, .bf16⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S16x1x1024, .f32⟩
  | .hbm, ⟨20, _⟩ => ⟨S2x4096x2816, .bf16⟩
  | .hbm, ⟨21, _⟩ => ⟨S4096x2816, .bf16⟩
  | .hbm, ⟨22, _⟩ => ⟨S8x2x1x1024, .f32⟩
  | .hbm, ⟨23, _⟩ => ⟨S_, .f32⟩
  | .hbm, ⟨24, _⟩ => ⟨S8x1x1024, .f32⟩
  | .hbm, ⟨25, _⟩ => ⟨S4096x1024, .f32⟩
  | .hbm, ⟨26, _⟩ => ⟨S8x1x1024, .f32⟩
  | .hbm, ⟨27, _⟩ => ⟨S8x1x1024, .f32⟩
  | .hbm, ⟨28, _⟩ => ⟨S_, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x1x1024x1408, .bf16⟩
  | .local _ .vmem, ⟨6, _⟩ => ⟨S512x1024, .bf16⟩
  | .local _ .vmem, ⟨7, _⟩ => ⟨S512x1024, .bf16⟩
  | .local _ .vmem, ⟨8, _⟩ => ⟨S2x512x2816, .bf16⟩
  | .local _ .vmem, ⟨9, _⟩ => ⟨S2x512x2816, .bf16⟩
  | .local _ .vmem, ⟨10, _⟩ => ⟨S1x512x2816, .bf16⟩
  | .local _ .vmem, ⟨11, _⟩ => ⟨S1x512x2816, .bf16⟩
  | .local _ .vmem, ⟨12, _⟩ => ⟨S1x512x2816, .bf16⟩
  | .local _ .vmem, ⟨13, _⟩ => ⟨S1x512x2816, .bf16⟩
  | .local _ .vmem, ⟨14, _⟩ => ⟨S1x2816x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S1x1024, .f32⟩
  | .local _ .vmem, ⟨27, _⟩ => ⟨S1x2816x1024, .bf16⟩
  | .local _ .vmem, ⟨28, _⟩ => ⟨S1x256x2816, .bf16⟩
  | .local _ .vmem, ⟨29, _⟩ => ⟨S1x256x2816, .bf16⟩
  | .local _ .vmem, ⟨30, _⟩ => ⟨S1x256x2816, .bf16⟩
  | .local _ .vmem, ⟨31, _⟩ => ⟨S1x256x2816, .bf16⟩
  | .local _ .vmem, ⟨32, _⟩ => ⟨S256x1024, .bf16⟩
  | .local _ .vmem, ⟨33, _⟩ => ⟨S256x1024, .bf16⟩
  | .local _ .vmem, ⟨34, _⟩ => ⟨S1x1x1024, .f32⟩
  | .local _ .vmem, ⟨35, _⟩ => ⟨S1x1x1024, .f32⟩
  | .local _ .vmem, ⟨36, _⟩ => ⟨S2x256x2816, .bf16⟩
  | .local _ .vmem, ⟨37, _⟩ => ⟨S2x256x2816, .bf16⟩
  | .local _ .vmem, ⟨38, _⟩ => ⟨S256x2816, .bf16⟩
  | .local _ .vmem, ⟨39, _⟩ => ⟨S256x2816, .bf16⟩
  | .local _ .vmem, ⟨40, _⟩ => ⟨S2x512x2816, .bf16⟩
  | .local _ .vmem, ⟨41, _⟩ => ⟨S2x512x2816, .bf16⟩
  | .local _ .vmem, ⟨42, _⟩ => ⟨S4x1x1024x1408, .bf16⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S1x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S1x1x1024, .f32⟩
  | .local _ .vmem, ⟨52, _⟩ => ⟨S1x1x1024, .f32⟩
  | .local _ .vmem, ⟨53, _⟩ => ⟨S1x1x1024, .f32⟩
  | .local _ .vmem, ⟨54, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7_0 : Ref sig .tc := ⟨.hbm, 16, rfl⟩
abbrev main_v7_1 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_cst_0 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg6_1 : Ref sig .tc := ⟨.vmem, 50, rfl⟩
abbrev cc3_stg7_0 : Ref sig .tc := ⟨.vmem, 51, rfl⟩
abbrev cc3_stg7_1 : Ref sig .tc := ⟨.vmem, 52, rfl⟩
abbrev cc3_stg8_0 : Ref sig .tc := ⟨.vmem, 53, rfl⟩
abbrev cc3_stg8_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38
abbrev cc2_sem9_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem6_0 : DmaSem sig := 49
abbrev cc3_sem6_1 : DmaSem sig := 50
abbrev cc3_sem7_0 : DmaSem sig := 51
abbrev cc3_sem7_1 : DmaSem sig := 52
abbrev cc3_sem8_0 : DmaSem sig := 53
abbrev cc3_sem8_1 : DmaSem sig := 54

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4x1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2x512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev grid1 : Pipeline.Grid := ⟨3, ![8, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1x512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 1 → Memref sig .tc .vmem S1x2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S1x2816x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1x256x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S1x256x2816 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

abbrev stage2_7 : Fin 2 → Memref sig .tc .vmem S1x1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false, false]

abbrev stage2_8 : Fin 2 → Memref sig .tc .vmem S2x256x2816 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false, false]

abbrev stage2_9 : Fin 2 → Memref sig .tc .vmem S256x2816 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false, false]

abbrev grid3 : Pipeline.Grid := ⟨3, ![8, 1, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2x512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 1 → Memref sig .tc .vmem S4x1x1024x1408 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false, false]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false, false]

abbrev stage3_7 : Fin 2 → Memref sig .tc .vmem S1x1x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false, false]

abbrev stage3_8 : Fin 2 → Memref sig .tc .vmem S1x1x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false, false]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x5632, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v24_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v24_1 : Ref sig .tc := ⟨.hbm, 48, rfl⟩
abbrev main_v24_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_6 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_7 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Kernel3.lean ====
abbrev S4096x1024 : Shape := ⟨2, ![4096, 1024]⟩
abbrev S2x4096x2816 : Shape := ⟨3, ![2, 4096, 2816]⟩
abbrev S4x1x1024x1408 : Shape := ⟨4, ![4, 1, 1024, 1408]⟩
abbrev S1024x1024 : Shape := ⟨2, ![1024, 1024]⟩
abbrev S1x1024x1408 : Shape := ⟨3, ![1, 1024, 1408]⟩
abbrev S1x1x1024x1408 : Shape := ⟨4, ![1, 1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1x1024x1408, .bf16⟩
  | .hbm, ⟨3, _⟩ => ⟨S4x1x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference3Ideal.lean ====
abbrev S4096x1024 : Shape := ⟨2, ![4096, 1024]⟩
abbrev S2x4096x2816 : Shape := ⟨3, ![2, 4096, 2816]⟩
abbrev S4x1x1024x1408 : Shape := ⟨4, ![4, 1, 1024, 1408]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1x1024x1408, .bf16⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .f32⟩
  | .hbm, ⟨13, _⟩ => ⟨S1x4096x2816, .f32⟩
  | .hbm, ⟨14, _⟩ => ⟨S4096x2816, .f32⟩
  | .hbm, ⟨15, _⟩ => ⟨S1x4096x2816, .f32⟩
  | .hbm, ⟨16, _⟩ => ⟨S4096x2816, .f32⟩
  | .hbm, ⟨17, _⟩ => ⟨S4096x5632, .f32⟩
  | .hbm, ⟨18, _⟩ => ⟨S5632x1024, .f32⟩
  | .hbm, ⟨19, _⟩ => ⟨S1024x5632, .f32⟩
  | .hbm, ⟨20, _⟩ => ⟨S1024x4x1408, .f32⟩
  | .hbm, ⟨21, _⟩ => ⟨S4x1024x1408, .f32⟩
  | .hbm, ⟨22, _⟩ => ⟨S4x1x1024x1408, .f32⟩
  | .hbm, ⟨23, _⟩ => ⟨S4x1x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .bf16⟩
  | .hbm, ⟨3, _⟩ => ⟨S1x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S4096x2816 : Shape := ⟨2, ![4096, 2816]⟩
abbrev S4096x1024 : Shape := ⟨2, ![4096, 1024]⟩
abbrev S1x2816x1024 : Shape := ⟨3, ![1, 2816, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S1x2816x1024, .f32⟩
  | .hbm, ⟨11, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S3x4096x1024 : Shape := ⟨3, ![3, 4096, 1024]⟩
abbrev S512x1024 : Shape := ⟨2, ![512, 1024]⟩
abbrev S3x512x1024 : Shape := ⟨3, ![3, 512, 1024]⟩
abbrev S512 : Shape := ⟨1, ![512]⟩
abbrev S512x1 : Shape := ⟨2, ![512, 1]⟩
abbrev S1x512x1024 : Shape := ⟨3, ![1, 512, 1024]⟩
abbrev S1x4096x128 : Shape := ⟨3, ![1, 4096, 128]⟩
abbrev S3x128 : Shape := ⟨2, ![3, 128]⟩
abbrev S4096x128 : Shape := ⟨2, ![4096, 128]⟩
abbrev S4104x128 : Shape := ⟨2, ![4104, 128]⟩
abbrev S8x128 : Shape := ⟨2, ![8, 128]⟩
abbrev S64x128 : Shape := ⟨2, ![64, 128]⟩
abbrev S1x128 : Shape := ⟨2, ![1, 128]⟩
abbrev S1x64x128 : Shape := ⟨3, ![1, 64, 128]⟩

abbrev nBuf : Space → Nat
  | .hbm => 19
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S1024x3072, .bf16⟩
  | .hbm, ⟨9, _⟩ => ⟨S1x1024x3072, .bf16⟩
  | .hbm, ⟨10, _⟩ => ⟨S1x3x1024, .f32⟩
  | .hbm, ⟨11, _⟩ => ⟨S1024x1024, .bf16⟩
  | .hbm, ⟨12, _⟩ => ⟨S1x1024x1024, .bf16⟩
  | .hbm, ⟨13, _⟩ => ⟨S4096x1024, .bf16⟩
  | .hbm, ⟨14, _⟩ => ⟨S3x4096x1024, .bf16⟩
  | .hbm, ⟨15, _⟩ => ⟨S3x1024, .f32⟩
  | .hbm, ⟨16, _⟩ => ⟨S4096x1024, .bf16⟩
  | .hbm, ⟨17, _⟩ => ⟨S4096x1024, .bf16⟩
  | .hbm, ⟨18, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x3072, .bf16⟩
  | .local _ .vmem, ⟨6, _⟩ => ⟨S512x1024, .bf16⟩
  | .local _ .vmem, ⟨7, _⟩ => ⟨S512x1024, .bf16⟩
  | .local _ .vmem, ⟨8, _⟩ => ⟨S3x512x1024, .bf16⟩
  | .local _ .vmem, ⟨9, _⟩ => ⟨S3x512x1024, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S3x128, .f32⟩
  | .local _ .vmem, ⟨17, _⟩ => ⟨S3x128, .f32⟩
  | .local _ .vmem, ⟨18, _⟩ => ⟨S4096x128, .bf16⟩
  | .local _ .vmem, ⟨19, _⟩ => ⟨S4096x128, .bf16⟩
  | .local _ .vmem, ⟨20, _⟩ => ⟨S4104x128, .f32⟩
  | .local _ .vmem, ⟨21, _⟩ => ⟨S512x1024, .bf16⟩
  | .local _ .vmem, ⟨22, _⟩ => ⟨S512x1024, .bf16⟩
  | .local _ .vmem, ⟨23, _⟩ => ⟨S1x1024x1024, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | .local _ .vmem, ⟨30, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S3x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev grid1 : Pipeline.Grid := ⟨1, ![8], ![false]⟩

@[reducible] def k1_t1_loop : Scf.Loop 32 :=
  let c0_i32 : BitVec 32 := 0#32
  let c64_i32 : BitVec 32 := 64#32
  let v14 : BitVec 32 := Scalar.addi c0_i32 c64_i32
  let c1_i32 : BitVec 32 := 1#32
  ⟨c0_i32, v14, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c64_i32_9 : BitVec 32 := 64#32
  let v15 : BitVec 32 := Scalar.muli arg7 c64_i32_9
  v15
def k1_off1 (k1_t1 : Fin k1_t1_loop.trips) (c6_i32 : BitVec 32) : Fin 2 → Nat :=
  let c0_i32 : BitVec 32 := 0#32
  let c1_i32 : BitVec 32 := 1#32
  let arg7 : BitVec 32 := Scf.iv c0_i32 c1_i32 k1_t1
  let c64_i32_9 : BitVec 32 := 64#32
  let v15 : BitVec 32 := Scalar.muli arg7 c64_i32_9
  let v16 : BitVec 32 := v15
  let v17 : BitVec 32 := Scalar.addi v16 c6_i32
  let v18 : Index := Scalar.indexCast v17
  let c0_10 : Index := 0#32
  ![v18.toNat, 0]
def k1_off2 (k1_t1 : Fin k1_t1_loop.trips) : Fin 3 → Nat :=
  let c0_17 : Index := 0#32
  let c0_i32 : BitVec 32 := 0#32
  let c1_i32 : BitVec 32 := 1#32
  let arg7 : BitVec 32 := Scf.iv c0_i32 c1_i32 k1_t1
  let c64_i32_9 : BitVec 32 := 64#32
  let v15 : BitVec 32 := Scalar.muli arg7 c64_i32_9
  let v16 : BitVec 32 := v15
  let v40 : Index := Scalar.indexCast v16
  let c0_18 : Index := 0#32
  ![0, v40.toNat, 0]
def k1_off3 (k1_t1 : Fin k1_t1_loop.trips) : Fin 2 → Nat :=
  let c0_i32 : BitVec 32 := 0#32
  let c1_i32 : BitVec 32 := 1#32
  let arg7 : BitVec 32 := Scf.iv c0_i32 c1_i32 k1_t1
  let c64_i32_9 : BitVec 32 := 64#32
  let v15 : BitVec 32 := Scalar.muli arg7 c64_i32_9
  let v16 : BitVec 32 := v15
  let v46 : Index := Scalar.indexCast v16
  let c0_19 : Index := 0#32
  ![v46.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]
-- ==== Reference5Ideal.lean ====
abbrev S4096x1024 : Shape := ⟨2, ![4096, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S2x1024 : Shape := ⟨2, ![2, 1024]⟩
abbrev S4098x1024 : Shape := ⟨2, ![4098, 1024]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x3072, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S2x1024, .f32⟩
  | .hbm, ⟨37, _⟩ => ⟨S4098x1024, .f32⟩
  | .hbm, ⟨38, _⟩ => ⟨S1x1024, .f32⟩
  | .hbm, ⟨39, _⟩ => ⟨S1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x3072 : Shape := ⟨2, ![1024, 3072]⟩
abbrev S3x4096x1024 : Shape := ⟨3, ![3, 4096, 1024]⟩
abbrev S1x1024x3072 : Shape := ⟨3, ![1, 1024, 3072]⟩
abbrev S8x1x1024 : Shape := ⟨3, ![8, 1, 1024]⟩
abbrev S3x512x1024 : Shape := ⟨3, ![3, 512, 1024]⟩
abbrev S512x1024 : Shape := ⟨2, ![512, 1024]⟩
abbrev S1x1x1024 : Shape := ⟨3, ![1, 1, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S3x4096x1024, .bf16⟩
  | .hbm, ⟨6, _⟩ => ⟨S4096x1024, .f32⟩
  | .hbm, ⟨7, _⟩ => ⟨S1024x3072, .bf16⟩
  | .hbm, ⟨8, _⟩ => ⟨S1x1024x3072, .bf16⟩
  | .hbm, ⟨9, _⟩ => ⟨S4096x1024, .f32⟩
  | .hbm, ⟨10, _⟩ => ⟨S8x1x1024, .f32⟩
  | .hbm, ⟨11, _⟩ => ⟨S8x1x1024, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference6Ideal.lean ====
abbrev S4096x1024 : Shape := ⟨2, ![4096, 1024]⟩
abbrev S1x1024 : Shape := ⟨2, ![1, 1024]⟩
abbrev S1024x3072 : Shape := ⟨2, ![1024, 3072]⟩
abbrev S3x4096x1024 : Shape := ⟨3, ![3, 4096, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x4096x1024 : Shape := ⟨3, ![1, 4096, 1024]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S3x4096x1024, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x3072, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S3x4096x1024, .f32⟩
  | .hbm, ⟨41, _⟩ => ⟨S3x4096x1024, .f32⟩
  | .hbm, ⟨42, _⟩ => ⟨S1x4096x1024, .f32⟩
  | .hbm, ⟨43, _⟩ => ⟨S4096x1024, .f32⟩
  | .hbm, ⟨44, _⟩ => ⟨S1x4096x1024, .f32⟩
  | .hbm, ⟨45, _⟩ => ⟨S4096x1024, .f32⟩
  | .hbm, ⟨46, _⟩ => ⟨S1x4096x1024, .f32⟩
  | .hbm, ⟨47, _⟩ => ⟨S4096x1024, .f32⟩
  | .hbm, ⟨48, _⟩ => ⟨S4096x3072, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel7.lean ====
abbrev S4096x1024 : Shape := ⟨2, ![4096, 1024]⟩
abbrev S3x4096x1024 : Shape := ⟨3, ![3, 4096, 1024]⟩
abbrev S1x1024x3072 : Shape := ⟨3, ![1, 1024, 3072]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1x1024x3072, .bf16⟩
  | .hbm, ⟨3, _⟩ => ⟨S1x1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S4096x1024 : Shape := ⟨2, ![4096, 1024]⟩
abbrev S3x4096x1024 : Shape := ⟨3, ![3, 4096, 1024]⟩
abbrev S1x1024x3072 : Shape := ⟨3, ![1, 1024, 3072]⟩
abbrev S_ : Shape := ⟨0, ![]⟩
abbrev S1024x3072 : Shape := ⟨2, ![1024, 3072]⟩
abbrev S4096x3072 : Shape := ⟨2, ![4096, 3072]⟩
abbrev S1x4096x1024 : Shape := ⟨3, ![1, 4096, 1024]⟩
abbrev S3072x1024 : Shape := ⟨2, ![3072, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1x1024x3072, .bf16⟩
  | .hbm, ⟨3, _⟩ => ⟨S_, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S3x4096x1024, .f32⟩
  | .hbm, ⟨14, _⟩ => ⟨S3x4096x1024, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S1x4096x1024, .f32⟩
  | .hbm, ⟨20, _⟩ => ⟨S4096x1024, .f32⟩
  | .hbm, ⟨21, _⟩ => ⟨S4096x3072, .f32⟩
  | .hbm, ⟨22, _⟩ => ⟨S3072x1024, .f32⟩
  | .hbm, ⟨23, _⟩ => ⟨S1024x3072, .f32⟩
  | .hbm, ⟨24, _⟩ => ⟨S1x1024x3072, .f32⟩
  | .hbm, ⟨25, _⟩ => ⟨S1x1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel8.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .hbm, ⟨3, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference8Ideal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x1024 : Shape := ⟨2, ![1024, 1024]⟩
abbrev S1x1024x1024 : Shape := ⟨3, ![1, 1024, 1024]⟩
abbrev S8x1x1024 : Shape := ⟨3, ![8, 1, 1024]⟩
abbrev S512x1024 : Shape := ⟨2, ![512, 1024]⟩
abbrev S1x1x1024 : Shape := ⟨3, ![1, 1, 1024]⟩
abbrev S1024 : Shape := ⟨1, ![1024]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S1x1024x1024, .bf16⟩
  | .hbm, ⟨6, _⟩ => ⟨S4096x1024, .bf16⟩
  | .hbm, ⟨7, _⟩ => ⟨S8x1x1024, .f32⟩
  | .hbm, ⟨8, _⟩ => ⟨S4096x1024, .bf16⟩
  | .hbm, ⟨9, _⟩ => ⟨S_, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference9Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x1024 : Shape := ⟨2, ![1024, 1024]⟩
abbrev S1x1024x1024 : Shape := ⟨3, ![1, 1024, 1024]⟩
abbrev S8x1x1024 : Shape := ⟨3, ![8, 1, 1024]⟩
abbrev S512x1024 : Shape := ⟨2, ![512, 1024]⟩
abbrev S1x1x1024 : Shape := ⟨3, ![1, 1, 1024]⟩
abbrev S1024 : Shape := ⟨1, ![1024]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S1x1024x1024, .bf16⟩
  | .hbm, ⟨6, _⟩ => ⟨S4096x1024, .bf16⟩
  | .hbm, ⟨7, _⟩ => ⟨S8x1x1024, .f32⟩
  | .hbm, ⟨8, _⟩ => ⟨S8x1x1024, .f32⟩
  | .hbm, ⟨9, _⟩ => ⟨S4096x1024, .bf16⟩
  | .hbm, ⟨10, _⟩ => ⟨S_, .f32⟩
  | .hbm, ⟨11, _⟩ => ⟨S1x1024, .f32⟩
  | .hbm, ⟨12, _⟩ => ⟨S_, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference10Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S4096x1024, .f32⟩
  | .hbm, ⟨15, _⟩ => ⟨S_, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel11.lean ====
abbrev S4096x1024 : Shape := ⟨2, ![4096, 1024]⟩
abbrev S2x4096x1024 : Shape := ⟨3, ![2, 4096, 1024]⟩
abbrev S1x1024x2048 : Shape := ⟨3, ![1, 1024, 2048]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S1x1024x2048, .bf16⟩
  | .hbm, ⟨3, _⟩ => ⟨S1x1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference11Ideal.lean ====
abbrev S4096x1024 : Shape := ⟨2, ![4096, 1024]⟩
abbrev S2x4096x1024 : Shape := ⟨3, ![2, 4096, 1024]⟩
abbrev S1x1024x2048 : Shape := ⟨3, ![1, 1024, 2048]⟩
abbrev S_ : Shape := ⟨0, ![]⟩
abbrev S1024x2048 : Shape := ⟨2, ![1024, 2048]⟩
abbrev S4096x2048 : Shape := ⟨2, ![4096, 2048]⟩
abbrev S1x4096x1024 : Shape := ⟨3, ![1, 4096, 1024]⟩
abbrev S2048x1024 : Shape := ⟨2, ![2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S1x1024x2048, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S1x4096x1024, .f32⟩
  | .hbm, ⟨10, _⟩ => ⟨S1x4096x1024, .f32⟩
  | .hbm, ⟨11, _⟩ => ⟨S2x4096x1024, .f32⟩
  | .hbm, ⟨12, _⟩ => ⟨S2x4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S4096x2048, .f32⟩
  | .hbm, ⟨18, _⟩ => ⟨S2048x1024, .f32⟩
  | .hbm, ⟨19, _⟩ => ⟨S1024x2048, .f32⟩
  | .hbm, ⟨20, _⟩ => ⟨S1x1024x2048, .f32⟩
  | .hbm, ⟨21, _⟩ => ⟨S1x1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x2048 : Shape := ⟨2, ![1024, 2048]⟩
abbrev S2x4096x1024 : Shape := ⟨3, ![2, 4096, 1024]⟩
abbrev S1x1024x2048 : Shape := ⟨3, ![1, 1024, 2048]⟩
abbrev S8x1x1024 : Shape := ⟨3, ![8, 1, 1024]⟩
abbrev S2x512x1024 : Shape := ⟨3, ![2, 512, 1024]⟩
abbrev S512x1024 : Shape := ⟨2, ![512, 1024]⟩
abbrev S1x1x1024 : Shape := ⟨3, ![1, 1, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S2x4096x1024, .bf16⟩
  | .hbm, ⟨6, _⟩ => ⟨S4096x1024, .f32⟩
  | .hbm, ⟨7, _⟩ => ⟨S1024x2048, .bf16⟩
  | .hbm, ⟨8, _⟩ => ⟨S1x1024x2048, .bf16⟩
  | .hbm, ⟨9, _⟩ => ⟨S4096x1024, .f32⟩
  | .hbm, ⟨10, _⟩ => ⟨S8x1x1024, .f32⟩
  | .hbm, ⟨11, _⟩ => ⟨S8x1x1024, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1x1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference12Ideal.lean ====
abbrev S4096x1024 : Shape := ⟨2, ![4096, 1024]⟩
abbrev S1x1024 : Shape := ⟨2, ![1, 1024]⟩
abbrev S1024x2048 : Shape := ⟨2, ![1024, 2048]⟩
abbrev S2x4096x1024 : Shape := ⟨3, ![2, 4096, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S1x4096x1024 : Shape := ⟨3, ![1, 4096, 1024]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S2x4096x1024, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x1024, .f32⟩
  | .hbm, ⟨35, _⟩ => ⟨S4096x1024, .f32⟩
  | .hbm, ⟨36, _⟩ => ⟨S1x4096x1024, .f32⟩
  | .hbm, ⟨37, _⟩ => ⟨S1x4096x1024, .f32⟩
  | .hbm, ⟨38, _⟩ => ⟨S2x4096x1024, .f32⟩
  | .hbm, ⟨39, _⟩ => ⟨S2x4096x1024, .f32⟩
  | .hbm, ⟨40, _⟩ => ⟨S1x4096x1024, .f32⟩
  | .hbm, ⟨41, _⟩ => ⟨S4096x1024, .f32⟩
  | .hbm, ⟨42, _⟩ => ⟨S1x4096x1024, .f32⟩
  | .hbm, ⟨43, _⟩ => ⟨S4096x1024, .f32⟩
  | .hbm, ⟨44, _⟩ => ⟨S4096x2048, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1024x2048 : Shape := ⟨2, ![1024, 2048]⟩
abbrev S1x2048 : Shape := ⟨2, ![1, 2048]⟩
abbrev S31x1024 : Shape := ⟨2, ![31, 1024]⟩
abbrev S1024x1024 : Shape := ⟨2, ![1024, 1024]⟩
abbrev S1x1024x2048 : Shape := ⟨3, ![1, 1024, 2048]⟩
abbrev S1x1024x1024 : Shape := ⟨3, ![1, 1024, 1024]⟩
abbrev S2x4096x1024 : Shape := ⟨3, ![2, 4096, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩
abbrev S1x4096x128 : Shape := ⟨3, ![1, 4096, 128]⟩
abbrev S31x128 : Shape := ⟨2, ![31, 128]⟩
abbrev S1x128 : Shape := ⟨2, ![1, 128]⟩
abbrev S4096x128 : Shape := ⟨2, ![4096, 128]⟩
abbrev S4128x128 : Shape := ⟨2, ![4128, 128]⟩
abbrev S32x128 : Shape := ⟨2, ![32, 128]⟩
abbrev S64x128 : Shape := ⟨2, ![64, 128]⟩

abbrev nBuf : Space → Nat
  | .hbm => 23
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2048, .f32⟩
  | .hbm, ⟨6, _⟩ => ⟨S1x2048, .f32⟩
  | .hbm, ⟨7, _⟩ => ⟨S31x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S1x1024, .f32⟩
  | .hbm, ⟨13, _⟩ => ⟨S1024x2048, .bf16⟩
  | .hbm, ⟨14, _⟩ => ⟨S1x1024x2048, .bf16⟩
  | .hbm, ⟨15, _⟩ => ⟨S1024x1024, .bf16⟩
  | .hbm, ⟨16, _⟩ => ⟨S1x1024x1024, .bf16⟩
  | .hbm, ⟨17, _⟩ => ⟨S4096x1024, .bf16⟩
  | .hbm, ⟨18, _⟩ => ⟨S2x4096x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x2048, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | .local _ .vmem, ⟨9, _⟩ => ⟨S2x512x1024, .bf16⟩
  | .local _ .vmem, ⟨10, _⟩ => ⟨S2x512x1024, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S31x128, .f32⟩
  | .local _ .vmem, ⟨16, _⟩ => ⟨S31x128, .f32⟩
  | .local _ .vmem, ⟨17, _⟩ => ⟨S1x128, .f32⟩
  | .local _ .vmem, ⟨18, _⟩ => ⟨S1x128, .f32⟩
  | .local _ .vmem, ⟨19, _⟩ => ⟨S4096x128, .f32⟩
  | .local _ .vmem, ⟨20, _⟩ => ⟨S4096x128, .f32⟩
  | .local _ .vmem, ⟨21, _⟩ => ⟨S4128x128, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S1x1024x1024, .bf16⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .f32⟩
  | .local _ .vmem, ⟨36, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc2_stg9_0 : Ref sig .tc := ⟨.vmem, 35, rfl⟩
abbrev cc2_stg9_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev grid1 : Pipeline.Grid := ⟨1, ![8], ![false]⟩

@[reducible] def k1_t1_loop : Scf.Loop 32 :=
  let c0_i32 : BitVec 32 := 0#32
  let c64_i32 : BitVec 32 := 64#32
  let v15 : BitVec 32 := Scalar.addi c0_i32 c64_i32
  let c1_i32 : BitVec 32 := 1#32
  ⟨c0_i32, v15, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c64_i32_9 : BitVec 32 := 64#32
  let v16 : BitVec 32 := Scalar.muli arg7 c64_i32_9
  v16
def k1_off1 (k1_t1 : Fin k1_t1_loop.trips) (c32_i32 : BitVec 32) : Fin 2 → Nat :=
  let c0_i32 : BitVec 32 := 0#32
  let c1_i32 : BitVec 32 := 1#32
  let arg7 : BitVec 32 := Scf.iv c0_i32 c1_i32 k1_t1
  let c64_i32_9 : BitVec 32 := 64#32
  let v16 : BitVec 32 := Scalar.muli arg7 c64_i32_9
  let v17 : BitVec 32 := v16
  let v20 : BitVec 32 := Scalar.addi v17 c32_i32
  let v21 : Index := Scalar.indexCast v20
  let c0_13 : Index := 0#32
  ![v21.toNat, 0]
def k1_off2 (k1_t1 : Fin k1_t1_loop.trips) : Fin 2 → Nat :=
  let c0_i32 : BitVec 32 := 0#32
  let c1_i32 : BitVec 32 := 1#32
  let arg7 : BitVec 32 := Scf.iv c0_i32 c1_i32 k1_t1
  let c64_i32_9 : BitVec 32 := 64#32
  let v16 : BitVec 32 := Scalar.muli arg7 c64_i32_9
  let v17 : BitVec 32 := v16
  let v237 : Index := Scalar.indexCast v17
  let c0_75 : Index := 0#32
  ![v237.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S31x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S1x1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false, false]

abbrev stage2_8 : Fin 2 → Memref sig .tc .vmem S512x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false, false]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false, false]
-- ==== Reference15Ideal.lean ====
abbrev S4096x1024 : Shape := ⟨2, ![4096, 1024]⟩
abbrev S1x1024 : Shape := ⟨2, ![1, 1024]⟩
abbrev S1024x2048 : Shape := ⟨2, ![1024, 2048]⟩
abbrev S1x2048 : Shape := ⟨2, ![1, 2048]⟩
abbrev S31x1024 : Shape := ⟨2, ![31, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S30x1024 : Shape := ⟨2, ![30, 1024]⟩
abbrev S4126x1024 : Shape := ⟨2, ![4126, 1024]⟩
abbrev S1024 : Shape := ⟨1, ![1024]⟩

abbrev nBuf : Space → Nat
  | .hbm => 315
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1x1024, .f32⟩
  | 5 => ⟨S1024x2048, .f32⟩
  | 6 => ⟨S1x2048, .f32⟩
  | 7 => ⟨S31x1024, .f32⟩
  | 8 => ⟨S1x1024, .f32⟩
  | 9 => ⟨S1x1024, .f32⟩
  | 10 => ⟨S1x1024, .f32⟩
  | 11 => ⟨S1024x1024, .f32⟩
  | 12 => ⟨S1x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S1x1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S4096x2048, .f32⟩
  | 36 => ⟨S4096x2048, .f32⟩
  | 37 => ⟨S4096x2048, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S_, .f32⟩
  | 50 => ⟨S30x1024, .f32⟩
  | 51 => ⟨S4126x1024, .f32⟩
  | 52 => ⟨S1x1024, .f32⟩
  | 53 => ⟨S1024, .f32⟩
  | 54 => ⟨S4096x1024, .f32⟩
  | 55 => ⟨S1x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S1x1024, .f32⟩
  | 62 => ⟨S1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S4096x1024, .f32⟩
  | 71 => ⟨S1x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S4096x1024, .f32⟩
  | 99 => ⟨S1x1024, .f32⟩
  | 100 => ⟨S4096x1024, .f32⟩
  | 101 => ⟨S4096x1024, .f32⟩
  | 102 => ⟨S4096x1024, .f32⟩
  | 103 => ⟨S1x1024, .f32⟩
  | 104 => ⟨S1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S1x1024, .f32⟩
  | 111 => ⟨S1024, .f32⟩
  | 112 => ⟨S4096x1024, .f32⟩
  | 113 => ⟨S1x1024, .f32⟩
  | 114 => ⟨S4096x1024, .f32⟩
  | 115 => ⟨S4096x1024, .f32⟩
  | 116 => ⟨S4096x1024, .f32⟩
  | 117 => ⟨S1x1024, .f32⟩
  | 118 => ⟨S1024, .f32⟩
  | 119 => ⟨S4096x1024, .f32⟩
  | 120 => ⟨S1x1024, .f32⟩
  | 121 => ⟨S4096x1024, .f32⟩
  | 122 => ⟨S4096x1024, .f32⟩
  | 123 => ⟨S4096x1024, .f32⟩
  | 124 => ⟨S1x1024, .f32⟩
  | 125 => ⟨S1024, .f32⟩
  | 126 => ⟨S4096x1024, .f32⟩
  | 127 => ⟨S1x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1024, .f32⟩
  | 5 => ⟨S4096x1024, .f32⟩
  | 6 => ⟨S1x1024, .f32⟩
  | 7 => ⟨S4096x1024, .f32⟩
  | 8 => ⟨S4096x1024, .f32⟩
  | 9 => ⟨S4096x1024, .f32⟩
  | 10 => ⟨S1x1024, .f32⟩
  | 11 => ⟨S1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S1x1024, .f32⟩
  | 18 => ⟨S1024, .f32⟩
  | 19 => ⟨S4096x1024, .f32⟩
  | 20 => ⟨S1x1024, .f32⟩
  | 21 => ⟨S4096x1024, .f32⟩
  | 22 => ⟨S4096x1024, .f32⟩
  | 23 => ⟨S4096x1024, .f32⟩
  | 24 => ⟨S1x1024, .f32⟩
  | 25 => ⟨S1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S4096x1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S4096x1024, .f32⟩
  | 48 => ⟨S1x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S4096x1024, .f32⟩
  | 55 => ⟨S1x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S4096x1024, .f32⟩
  | 69 => ⟨S1x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S4096x1024, .f32⟩
  | 90 => ⟨S1x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S4096x1024, .f32⟩
  | 97 => ⟨S1x1024, .f32⟩
  | 98 => ⟨S4096x1024, .f32⟩
  | 99 => ⟨S4096x1024, .f32⟩
  | 100 => ⟨S4096x1024, .f32⟩
  | 101 => ⟨S1x1024, .f32⟩
  | 102 => ⟨S1024, .f32⟩
  | 103 => ⟨S4096x1024, .f32⟩
  | 104 => ⟨S1x1024, .f32⟩
  | 105 => ⟨S4096x1024, .f32⟩
  | 106 => ⟨S4096x1024, .f32⟩
  | 107 => ⟨S4096x1024, .f32⟩
  | 108 => ⟨S1x1024, .f32⟩
  | 109 => ⟨S1024, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S1x1024, .f32⟩
  | 116 => ⟨S1024, .f32⟩
  | 117 => ⟨S4096x1024, .f32⟩
  | 118 => ⟨S1x1024, .f32⟩
  | 119 => ⟨S4096x1024, .f32⟩
  | 120 => ⟨S4096x1024, .f32⟩
  | 121 => ⟨S4096x1024, .f32⟩
  | 122 => ⟨S1x1024, .f32⟩
  | 123 => ⟨S1024, .f32⟩
  | 124 => ⟨S4096x1024, .f32⟩
  | 125 => ⟨S1x1024, .f32⟩
  | 126 => ⟨S4096x1024, .f32⟩
  | 127 => ⟨S4096x1024, .f32⟩
  | _ => ⟨S4096x1024, .f32⟩

abbrev hbmTy0_2 (i : Nat) : BufTy := match i % 128 with
  | 0 => ⟨S4096x1024, .f32⟩
  | 1 => ⟨S1x1024, .f32⟩
  | 2 => ⟨S1024, .f32⟩
  | 3 => ⟨S4096x1024, .f32⟩
  | 4 => ⟨S1x1024, .f32⟩
  | 5 => ⟨S4096x1024, .f32⟩
  | 6 => ⟨S4096x1024, .f32⟩
  | 7 => ⟨S4096x1024, .f32⟩
  | 8 => ⟨S1x1024, .f32⟩
  | 9 => ⟨S1024, .f32⟩
  | 10 => ⟨S4096x1024, .f32⟩
  | 11 => ⟨S1x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x1024, .f32⟩
  | 33 => ⟨S4096x1024, .f32⟩
  | 34 => ⟨S_, .f32⟩
  | 35 => ⟨S4096x1, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_cst_7 : Ref sig .tc := ⟨.hbm, 273, rfl⟩
abbrev main_v252 : Ref sig .tc := ⟨.hbm, 274, rfl⟩
abbrev main_v253 : Ref sig .tc := ⟨.hbm, 275, rfl⟩
abbrev main_cst_8 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_cst_9 : Ref sig .tc := ⟨.hbm, 282, rfl⟩
abbrev main_v259 : Ref sig .tc := ⟨.hbm, 283, rfl⟩
abbrev main_v260 : Ref sig .tc := ⟨.hbm, 284, rfl⟩
abbrev main_cst_10 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_cst_11 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_call0_v0 : Ref sig .tc := ⟨.hbm, 300, rfl⟩
abbrev main_call0_v1 : Ref sig .tc := ⟨.hbm, 301, rfl⟩
abbrev main_call0_cst : Ref sig .tc := ⟨.hbm, 302, rfl⟩
abbrev main_call0_v2 : Ref sig .tc := ⟨.hbm, 303, rfl⟩
abbrev main_call0_v3 : Ref sig .tc := ⟨.hbm, 304, rfl⟩
abbrev main_call0_cst_0 : Ref sig .tc := ⟨.hbm, 305, rfl⟩
abbrev main_call0_v4 : Ref sig .tc := ⟨.hbm, 306, rfl⟩
abbrev main_call0_v5 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩

abbrev nD : Nat := 1
abbrev τ : Topo := Topo.v7x

variable {F : FTy → Type} [FloatOps F]
-- ==== Kernel16.lean ====
abbrev S1024x1408 : Shape := ⟨2, ![1024, 1408]⟩
abbrev S4x1024x1408 : Shape := ⟨3, ![4, 1024, 1408]⟩
abbrev S256x1408 : Shape := ⟨2, ![256, 1408]⟩
abbrev S1x256x1408 : Shape := ⟨3, ![1, 256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference16Ideal.lean ====
abbrev S1024x1408 : Shape := ⟨2, ![1024, 1408]⟩
abbrev S4x1024x1408 : Shape := ⟨3, ![4, 1024, 1408]⟩
abbrev S1x1024x1408 : Shape := ⟨3, ![1, 1024, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S4x1024x1408, .f32⟩
  | .hbm, ⟨12, _⟩ => ⟨S_, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .hbm, ⟨23, _⟩ => ⟨S_, .f32⟩
  | .hbm, ⟨24, _⟩ => ⟨S4x1024x1408, .f32⟩
  | .hbm, ⟨25, _⟩ => ⟨S4x1024x1408, .f32⟩
  | .hbm, ⟨26, _⟩ => ⟨S4x1024x1408, .f32⟩
  | .hbm, ⟨27, _⟩ => ⟨S_, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .f32⟩
  | .hbm, ⟨38, _⟩ => ⟨S_, .f32⟩
  | .hbm, ⟨39, _⟩ => ⟨S4x1024x1408, .f32⟩
  | .hbm, ⟨40, _⟩ => ⟨S4x1024x1408, .f32⟩
  | .hbm, ⟨41, _⟩ => ⟨S4x1024x1408, .f32⟩
  | .hbm, ⟨42, _⟩ => ⟨S_, .f32⟩
  | .hbm, ⟨43, _⟩ => ⟨S4x1024x1408, .f32⟩
  | .hbm, ⟨44, _⟩ => ⟨S4x1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel17.lean ====
abbrev S704x1024 : Shape := ⟨2, ![704, 1024]⟩
abbrev S4x704x1024 : Shape := ⟨3, ![4, 704, 1024]⟩
abbrev S352x1024 : Shape := ⟨2, ![352, 1024]⟩
abbrev S1x352x1024 : Shape := ⟨3, ![1, 352, 1024]⟩

abbrev nBuf : Space → Nat
  | .hbm => 11
  | .vmem => 22
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference17Ideal.lean ====
abbrev S704x1024 : Shape := ⟨2, ![704, 1024]⟩
abbrev S4x704x1024 : Shape := ⟨3, ![4, 704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S4x704x1024, .f32⟩
  | .hbm, ⟨12, _⟩ => ⟨S_, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .hbm, ⟨23, _⟩ => ⟨S_, .f32⟩
  | .hbm, ⟨24, _⟩ => ⟨S4x704x1024, .f32⟩
  | .hbm, ⟨25, _⟩ => ⟨S4x704x1024, .f32⟩
  | .hbm, ⟨26, _⟩ => ⟨S4x704x1024, .f32⟩
  | .hbm, ⟨27, _⟩ => ⟨S_, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S4x704x1024, .f32⟩
  | .hbm, ⟨38, _⟩ => ⟨S_, .f32⟩
  | .hbm, ⟨39, _⟩ => ⟨S4x704x1024, .f32⟩
  | .hbm, ⟨40, _⟩ => ⟨S4x704x1024, .f32⟩
  | .hbm, ⟨41, _⟩ => ⟨S4x704x1024, .f32⟩
  | .hbm, ⟨42, _⟩ => ⟨S_, .f32⟩
  | .hbm, ⟨43, _⟩ => ⟨S4x704x1024, .f32⟩
  | .hbm, ⟨44, _⟩ => ⟨S4x704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel18.lean ====
abbrev S1024x768 : Shape := ⟨2, ![1024, 768]⟩
abbrev S2x1024x768 : Shape := ⟨3, ![2, 1024, 768]⟩
abbrev S256x768 : Shape := ⟨2, ![256, 768]⟩
abbrev S1x256x768 : Shape := ⟨3, ![1, 256, 768]⟩

abbrev nBuf : Space → Nat
  | .hbm => 9
  | .vmem => 18
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S1024x768 : Shape := ⟨2, ![1024, 768]⟩
abbrev S2x1024x768 : Shape := ⟨3, ![2, 1024, 768]⟩
abbrev S1x1024x768 : Shape := ⟨3, ![1, 1024, 768]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S1x1024x768, .f32⟩
  | .hbm, ⟨6, _⟩ => ⟨S1x1024x768, .f32⟩
  | .hbm, ⟨7, _⟩ => ⟨S2x1024x768, .f32⟩
  | .hbm, ⟨8, _⟩ => ⟨S_, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2x1024x768, .f32⟩
  | .hbm, ⟨38, _⟩ => ⟨S_, .f32⟩
  | .hbm, ⟨39, _⟩ => ⟨S2x1024x768, .f32⟩
  | .hbm, ⟨40, _⟩ => ⟨S2x1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S256x1024 : Shape := ⟨2, ![256, 1024]⟩
abbrev S2x256x1024 : Shape := ⟨3, ![2, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S256x1024 : Shape := ⟨2, ![256, 1024]⟩
abbrev S2x256x1024 : Shape := ⟨3, ![2, 256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel20.lean ====
abbrev S1024x512 : Shape := ⟨2, ![1024, 512]⟩
abbrev S1x1024x512 : Shape := ⟨3, ![1, 1024, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S256x512, .f32⟩
  | .local _ .vmem, ⟨1, _⟩ => ⟨S256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S1024x512 : Shape := ⟨2, ![1024, 512]⟩
abbrev S1x1024x512 : Shape := ⟨3, ![1, 1024, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S_, .f32⟩
  | .hbm, ⟨6, _⟩ => ⟨S1x1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S_, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S_, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S1x1024x512, .f32⟩
  | .hbm, ⟨35, _⟩ => ⟨S_, .f32⟩
  | .hbm, ⟨36, _⟩ => ⟨S1x1024x512, .f32⟩
  | .hbm, ⟨37, _⟩ => ⟨S1x1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel21.lean ====
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference21Ideal.lean ====
abbrev S256x1024 : Shape := ⟨2, ![256, 1024]⟩
abbrev S1x256x1024 : Shape := ⟨3, ![1, 256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel22.lean ====
abbrev S256x256 : Shape := ⟨2, ![256, 256]⟩
abbrev S1x4x64x256 : Shape := ⟨4, ![1, 4, 64, 256]⟩
abbrev S1x256x256 : Shape := ⟨3, ![1, 256, 256]⟩

abbrev nBuf : Space → Nat
  | .hbm => 11
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S1x256x256, .f32⟩
  | .hbm, ⟨5, _⟩ => ⟨S1x256x256, .f32⟩
  | .hbm, ⟨6, _⟩ => ⟨S1x256x256, .f32⟩
  | .hbm, ⟨7, _⟩ => ⟨S1x256x256, .f32⟩
  | .hbm, ⟨8, _⟩ => ⟨S1x256x256, .f32⟩
  | .hbm, ⟨9, _⟩ => ⟨S1x256x256, .f32⟩
  | .hbm, ⟨10, _⟩ => ⟨S1x256x256, .f32⟩
  | .local _ .vmem, ⟨0, _⟩ => ⟨S256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference22Ideal.lean ====
abbrev S256x256 : Shape := ⟨2, ![256, 256]⟩
abbrev S1x4x64x256 : Shape := ⟨4, ![1, 4, 64, 256]⟩
abbrev S_ : Shape := ⟨0, ![]⟩
abbrev S1x256x256 : Shape := ⟨3, ![1, 256, 256]⟩

abbrev nBuf : Space → Nat
  | .hbm => 42
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S1x4x64x256, .f32⟩
  | .hbm, ⟨5, _⟩ => ⟨S_, .f32⟩
  | .hbm, ⟨6, _⟩ => ⟨S1x4x64x256, .f32⟩
  | .hbm, ⟨7, _⟩ => ⟨S1x4x64x256, .f32⟩
  | .hbm, ⟨8, _⟩ => ⟨S_, .f32⟩
  | .hbm, ⟨9, _⟩ => ⟨S1x4x64x256, .f32⟩
  | .hbm, ⟨10, _⟩ => ⟨S1x4x64x256, .f32⟩
  | .hbm, ⟨11, _⟩ => ⟨S1x4x64x256, .f32⟩
  | .hbm, ⟨12, _⟩ => ⟨S_, .f32⟩
  | .hbm, ⟨13, _⟩ => ⟨S1x4x64x256, .f32⟩
  | .hbm, ⟨14, _⟩ => ⟨S1x4x64x256, .f32⟩
  | .hbm, ⟨15, _⟩ => ⟨S1x4x64x256, .f32⟩
  | .hbm, ⟨16, _⟩ => ⟨S_, .f32⟩
  | .hbm, ⟨17, _⟩ => ⟨S1x4x64x256, .f32⟩
  | .hbm, ⟨18, _⟩ => ⟨S1x4x64x256, .f32⟩
  | .hbm, ⟨19, _⟩ => ⟨S1x4x64x256, .f32⟩
  | .hbm, ⟨20, _⟩ => ⟨S_, .f32⟩
  | .hbm, ⟨21, _⟩ => ⟨S1x4x64x256, .f32⟩
  | .hbm, ⟨22, _⟩ => ⟨S1x4x64x256, .f32⟩
  | .hbm, ⟨23, _⟩ => ⟨S_, .f32⟩
  | .hbm, ⟨24, _⟩ => ⟨S1x4x64x256, .f32⟩
  | .hbm, ⟨25, _⟩ => ⟨S1x4x64x256, .f32⟩
  | .hbm, ⟨26, _⟩ => ⟨S1x4x64x256, .f32⟩
  | .hbm, ⟨27, _⟩ => ⟨S_, .f32⟩
  | .hbm, ⟨28, _⟩ => ⟨S1x4x64x256, .f32⟩
  | .hbm, ⟨29, _⟩ => ⟨S1x4x64x256, .f32⟩
  | .hbm, ⟨30, _⟩ => ⟨S1x4x64x256, .f32⟩
  | .hbm, ⟨31, _⟩ => ⟨S_, .f32⟩
  | .hbm, ⟨32, _⟩ => ⟨S1x4x64x256, .f32⟩
  | .hbm, ⟨33, _⟩ => ⟨S1x4x64x256, .f32⟩
  | .hbm, ⟨34, _⟩ => ⟨S1x4x64x256, .f32⟩
  | .hbm, ⟨35, _⟩ => ⟨S_, .f32⟩
  | .hbm, ⟨36, _⟩ => ⟨S1x4x64x256, .f32⟩
  | .hbm, ⟨37, _⟩ => ⟨S1x4x64x256, .f32⟩
  | .hbm, ⟨38, _⟩ => ⟨S1x256x256, .f32⟩
  | .hbm, ⟨39, _⟩ => ⟨S1x256x256, .f32⟩
  | .hbm, ⟨40, _⟩ => ⟨S1x256x256, .f32⟩
  | .hbm, ⟨41, _⟩ => ⟨S1x256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel23.lean ====
abbrev S8x1024 : Shape := ⟨2, ![8, 1024]⟩
abbrev S4x8x1536 : Shape := ⟨3, ![4, 8, 1536]⟩
abbrev S4x1024x1536 : Shape := ⟨3, ![4, 1024, 1536]⟩
abbrev S8x256 : Shape := ⟨2, ![8, 256]⟩
abbrev S1x8x1536 : Shape := ⟨3, ![1, 8, 1536]⟩
abbrev S1x256x1536 : Shape := ⟨3, ![1, 256, 1536]⟩
abbrev S8x1536 : Shape := ⟨2, ![8, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S8x256, .f32⟩
  | .local _ .vmem, ⟨1, _⟩ => ⟨S8x256, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S8x1024 : Shape := ⟨2, ![8, 1024]⟩
abbrev S4x8x1536 : Shape := ⟨3, ![4, 8, 1536]⟩
abbrev S4x1024x1536 : Shape := ⟨3, ![4, 1024, 1536]⟩
abbrev S4x1536x8 : Shape := ⟨3, ![4, 1536, 8]⟩
abbrev S4x1536x1024 : Shape := ⟨3, ![4, 1536, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1536x8, .f32⟩
  | .hbm, ⟨6, _⟩ => ⟨S4x8x1536, .f32⟩
  | .hbm, ⟨7, _⟩ => ⟨S4x1536x8, .f32⟩
  | .hbm, ⟨8, _⟩ => ⟨S4x1536x1024, .f32⟩
  | .hbm, ⟨9, _⟩ => ⟨S4x1024x1536, .f32⟩
  | .hbm, ⟨10, _⟩ => ⟨S_, .f32⟩
  | .hbm, ⟨11, _⟩ => ⟨S4x1024x1536, .f32⟩
  | .hbm, ⟨12, _⟩ => ⟨S4x1024x1536, .f32⟩
  | .hbm, ⟨13, _⟩ => ⟨S_, .f32⟩
  | .hbm, ⟨14, _⟩ => ⟨S4x1024x1536, .f32⟩
  | .hbm, ⟨15, _⟩ => ⟨S4x1024x1536, .f32⟩
  | .hbm, ⟨16, _⟩ => ⟨S4x1024x1536, .f32⟩
  | .hbm, ⟨17, _⟩ => ⟨S_, .f32⟩
  | .hbm, ⟨18, _⟩ => ⟨S4x1024x1536, .f32⟩
  | .hbm, ⟨19, _⟩ => ⟨S4x1024x1536, .f32⟩
  | .hbm, ⟨20, _⟩ => ⟨S4x1024x1536, .f32⟩
  | .hbm, ⟨21, _⟩ => ⟨S_, .f32⟩
  | .hbm, ⟨22, _⟩ => ⟨S4x1024x1536, .f32⟩
  | .hbm, ⟨23, _⟩ => ⟨S4x1024x1536, .f32⟩
  | .hbm, ⟨24, _⟩ => ⟨S4x1024x1536, .f32⟩
  | .hbm, ⟨25, _⟩ => ⟨S_, .f32⟩
  | .hbm, ⟨26, _⟩ => ⟨S4x1024x1536, .f32⟩
  | .hbm, ⟨27, _⟩ => ⟨S4x1024x1536, .f32⟩
  | .hbm, ⟨28, _⟩ => ⟨S_, .f32⟩
  | .hbm, ⟨29, _⟩ => ⟨S4x1024x1536, .f32⟩
  | .hbm, ⟨30, _⟩ => ⟨S4x1024x1536, .f32⟩
  | .hbm, ⟨31, _⟩ => ⟨S4x1024x1536, .f32⟩
  | .hbm, ⟨32, _⟩ => ⟨S_, .f32⟩
  | .hbm, ⟨33, _⟩ => ⟨S4x1024x1536, .f32⟩
  | .hbm, ⟨34, _⟩ => ⟨S4x1024x1536, .f32⟩
  | .hbm, ⟨35, _⟩ => ⟨S4x1024x1536, .f32⟩
  | .hbm, ⟨36, _⟩ => ⟨S_, .f32⟩
  | .hbm, ⟨37, _⟩ => ⟨S4x1024x1536, .f32⟩
  | .hbm, ⟨38, _⟩ => ⟨S4x1024x1536, .f32⟩
  | .hbm, ⟨39, _⟩ => ⟨S4x1024x1536, .f32⟩
  | .hbm, ⟨40, _⟩ => ⟨S_, .f32⟩
  | .hbm, ⟨41, _⟩ => ⟨S4x1024x1536, .f32⟩
  | .hbm, ⟨42, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel24.lean ====
abbrev S80x1024 : Shape := ⟨2, ![80, 1024]⟩
abbrev S4x6144 : Shape := ⟨2, ![4, 6144]⟩
abbrev S4x1024 : Shape := ⟨2, ![4, 1024]⟩
abbrev S1x1024 : Shape := ⟨2, ![1, 1024]⟩
abbrev S1024 : Shape := ⟨1, ![1024]⟩
abbrev S1x2048 : Shape := ⟨2, ![1, 2048]⟩
abbrev S_ : Shape := ⟨0, ![]⟩
abbrev S24x1024 : Shape := ⟨2, ![24, 1024]⟩
abbrev S2x1024 : Shape := ⟨2, ![2, 1024]⟩

abbrev nBuf : Space → Nat
  | .hbm => 163
  | .vmem => 7
  | .smem => 0
  | _ => 0

abbrev hbmTy0_0 (i : Nat) : BufTy := match i % 128 with
  | 0 => ⟨S80x1024, .f32⟩
  | 1 => ⟨S4x6144, .f32⟩
  | 2 => ⟨S4x1024, .f32⟩
  | 3 => ⟨S4x1024, .f32⟩
  | 4 => ⟨S1x1024, .f32⟩
  | 5 => ⟨S1x1024, .f32⟩
  | 6 => ⟨S1x1024, .f32⟩
  | 7 => ⟨S1x1024, .f32⟩
  | 8 => ⟨S1024, .f32⟩
  | 9 => ⟨S1x2048, .f32⟩
  | 10 => ⟨S4x6144, .f32⟩
  | 11 => ⟨S4x1024, .f32⟩
  | 12 => ⟨S4x1024, .f32⟩
  | 13 => ⟨S1x1024, .f32⟩
  | 14 => ⟨S1x1024, .f32⟩
  | 15 => ⟨S1x1024, .f32⟩
  | 16 => ⟨S1x1024, .f32⟩
  | 17 => ⟨S1024, .f32⟩
  | 18 => ⟨S1x2048, .f32⟩
  | 19 => ⟨S4x6144, .f32⟩
  | 20 => ⟨S4x1024, .f32⟩
  | 21 => ⟨S4x1024, .f32⟩
  | 22 => ⟨S1x1024, .f32⟩
  | 23 => ⟨S1x1024, .f32⟩
  | 24 => ⟨S1x1024, .f32⟩
  | 25 => ⟨S1x1024, .f32⟩
  | 26 => ⟨S1024, .f32⟩
  | 27 => ⟨S1x2048, .f32⟩
  | 28 => ⟨S_, .f32⟩
  | 29 => ⟨S80x1024, .f32⟩
  | 30 => ⟨S24x1024, .f32⟩
  | 31 => ⟨S_, .i32⟩
  | 32 => ⟨S_, .i32⟩
  | 33 => ⟨S80x1024, .f32⟩
  | 34 => ⟨S_, .i32⟩
  | 35 => ⟨S_, .i32⟩
  | 36 => ⟨S80x1024, .f32⟩
  | 37 => ⟨S_, .i32⟩
  | 38 => ⟨S_, .i32⟩
  | 39 => ⟨S80x1024, .f32⟩
  | 40 => ⟨S_, .i32⟩
  | 41 => ⟨S_, .i32⟩
  | 42 => ⟨S80x1024, .f32⟩
  | 43 => ⟨S_, .i32⟩
  | 44 => ⟨S_, .i32⟩
  | 45 => ⟨S80x1024, .f32⟩
  | 46 => ⟨S_, .i32⟩
  | 47 => ⟨S_, .i32⟩
  | 48 => ⟨S80x1024, .f32⟩
  | 49 => ⟨S_, .i32⟩
  | 50 => ⟨S_, .i32⟩
  | 51 => ⟨S80x1024, .f32⟩
  | 52 => ⟨S1x1024, .f32⟩
  | 53 => ⟨S_, .i32⟩
  | 54 => ⟨S_, .i32⟩
  | 55 => ⟨S80x1024, .f32⟩
  | 56 => ⟨S2x1024, .f32⟩
  | 57 => ⟨S_, .i32⟩
  | 58 => ⟨S_, .i32⟩
  | 59 => ⟨S80x1024, .f32⟩
  | 60 => ⟨S_, .f32⟩
  | 61 => ⟨S80x1024, .f32⟩
  | 62 => ⟨S24x1024, .f32⟩
  | 63 => ⟨S_, .i32⟩
  | 64 => ⟨S_, .i32⟩
  | 65 => ⟨S80x1024, .f32⟩
  | 66 => ⟨S_, .i32⟩
  | 67 => ⟨S_, .i32⟩
  | 68 => ⟨S80x1024, .f32⟩
  | 69 => ⟨S_, .i32⟩
  | 70 => ⟨S_, .i32⟩
  | 71 => ⟨S80x1024, .f32⟩
  | 72 => ⟨S_, .i32⟩
  | 73 => ⟨S_, .i32⟩
  | 74 => ⟨S80x1024, .f32⟩
  | 75 => ⟨S_, .i32⟩
  | 76 => ⟨S_, .i32⟩
  | 77 => ⟨S80x1024, .f32⟩
  | 78 => ⟨S_, .i32⟩
  | 79 => ⟨S_, .i32⟩
  | 80 => ⟨S80x1024, .f32⟩
  | 81 => ⟨S_, .i32⟩
  | 82 => ⟨S_, .i32⟩
  | 83 => ⟨S80x1024, .f32⟩
  | 84 => ⟨S1x1024, .f32⟩
  | 85 => ⟨S_, .i32⟩
  | 86 => ⟨S_, .i32⟩
  | 87 => ⟨S80x1024, .f32⟩
  | 88 => ⟨S2x1024, .f32⟩
  | 89 => ⟨S_, .i32⟩
  | 90 => ⟨S_, .i32⟩
  | 91 => ⟨S80x1024, .f32⟩
  | 92 => ⟨S_, .f32⟩
  | 93 => ⟨S80x1024, .f32⟩
  | 94 => ⟨S24x1024, .f32⟩
  | 95 => ⟨S_, .i32⟩
  | 96 => ⟨S_, .i32⟩
  | 97 => ⟨S80x1024, .f32⟩
  | 98 => ⟨S_, .i32⟩
  | 99 => ⟨S_, .i32⟩
  | 100 => ⟨S80x1024, .f32⟩
  | 101 => ⟨S_, .i32⟩
  | 102 => ⟨S_, .i32⟩
  | 103 => ⟨S80x1024, .f32⟩
  | 104 => ⟨S_, .i32⟩
  | 105 => ⟨S_, .i32⟩
  | 106 => ⟨S80x1024, .f32⟩
  | 107 => ⟨S_, .i32⟩
  | 108 => ⟨S_, .i32⟩
  | 109 => ⟨S80x1024, .f32⟩
  | 110 => ⟨S_, .i32⟩
  | 111 => ⟨S_, .i32⟩
  | 112 => ⟨S80x1024, .f32⟩
  | 113 => ⟨S_, .i32⟩
  | 114 => ⟨S_, .i32⟩
  | 115 => ⟨S80x1024, .f32⟩
  | 116 => ⟨S1x1024, .f32⟩
  | 117 => ⟨S_, .i32⟩
  | 118 => ⟨S_, .i32⟩
  | 119 => ⟨S80x1024, .f32⟩
  | 120 => ⟨S2x1024, .f32⟩
  | 121 => ⟨S_, .i32⟩
  | 122 => ⟨S_, .i32⟩
  | 123 => ⟨S80x1024, .f32⟩
  | 124 => ⟨S80x1024, .f32⟩
  | 125 => ⟨S80x1024, .f32⟩
  | 126 => ⟨S80x1024, .f32⟩
  | 127 => ⟨S24x1024, .f32⟩
  | _ => ⟨S80x1024, .f32⟩

abbrev hbmTy0_1 (i : Nat) : BufTy := match i % 128 with
  | 0 => ⟨S4x6144, .f32⟩
  | 1 => ⟨S24x1024, .f32⟩
  | 2 => ⟨S4x6144, .f32⟩
  | 3 => ⟨S24x1024, .f32⟩
  | 4 => ⟨S4x6144, .f32⟩
  | 5 => ⟨S4x1024, .f32⟩
  | 6 => ⟨S4x1024, .f32⟩
  | 7 => ⟨S4x1024, .f32⟩
  | 8 => ⟨S4x1024, .f32⟩
  | 9 => ⟨S4x1024, .f32⟩
  | 10 => ⟨S4x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1024, .f32⟩
  | 25 => ⟨S1x1024, .f32⟩
  | 26 => ⟨S1024, .f32⟩
  | 27 => ⟨S1x1024, .f32⟩
  | 28 => ⟨S1024, .f32⟩
  | 29 => ⟨S2x1024, .f32⟩
  | 30 => ⟨S1x2048, .f32⟩
  | 31 => ⟨S2x1024, .f32⟩
  | 32 => ⟨S1x2048, .f32⟩
  | 33 => ⟨S2x1024, .f32⟩
  | 34 => ⟨S1x2048, .f32⟩
  | _ => ⟨S80x1024, .f32⟩

abbrev hbmTy (i : Nat) : BufTy := match i / 128 with
  | 0 => hbmTy0_0 i
  | 1 => hbmTy0_1 i
  | _ => ⟨S80x1024, .f32⟩

abbrev bufTy : (tb : Table) → Fin (tcTables nBuf tb) → BufTy
  | .hbm, ⟨i, _⟩ => hbmTy i
  | .local _ .vmem, ⟨0, _⟩ => ⟨S80x1024, .f32⟩
  | .local _ .vmem, ⟨1, _⟩ => ⟨S80x1024, .f32⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | _, _ => ⟨S80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_c : Ref sig .tc := ⟨.hbm, 31, rfl⟩
abbrev main_c_0 : Ref sig .tc := ⟨.hbm, 32, rfl⟩
abbrev main_v2 : Ref sig .tc := ⟨.hbm, 33, rfl⟩
abbrev main_c_1 : Ref sig .tc := ⟨.hbm, 34, rfl⟩
abbrev main_c_2 : Ref sig .tc := ⟨.hbm, 35, rfl⟩
abbrev main_v3 : Ref sig .tc := ⟨.hbm, 36, rfl⟩
abbrev main_c_3 : Ref sig .tc := ⟨.hbm, 37, rfl⟩
abbrev main_c_4 : Ref sig .tc := ⟨.hbm, 38, rfl⟩
abbrev main_v4 : Ref sig .tc := ⟨.hbm, 39, rfl⟩
abbrev main_c_5 : Ref sig .tc := ⟨.hbm, 40, rfl⟩
abbrev main_c_6 : Ref sig .tc := ⟨.hbm, 41, rfl⟩
abbrev main_v5 : Ref sig .tc := ⟨.hbm, 42, rfl⟩
abbrev main_c_7 : Ref sig .tc := ⟨.hbm, 43, rfl⟩
abbrev main_c_8 : Ref sig .tc := ⟨.hbm, 44, rfl⟩
abbrev main_v6 : Ref sig .tc := ⟨.hbm, 45, rfl⟩
abbrev main_c_9 : Ref sig .tc := ⟨.hbm, 46, rfl⟩
abbrev main_c_10 : Ref sig .tc := ⟨.hbm, 47, rfl⟩
abbrev main_v7 : Ref sig .tc := ⟨.hbm, 48, rfl⟩
abbrev main_c_11 : Ref sig .tc := ⟨.hbm, 49, rfl⟩
abbrev main_c_12 : Ref sig .tc := ⟨.hbm, 50, rfl⟩
abbrev main_v8 : Ref sig .tc := ⟨.hbm, 51, rfl⟩
abbrev main_v9 : Ref sig .tc := ⟨.hbm, 52, rfl⟩
abbrev main_c_13 : Ref sig .tc := ⟨.hbm, 53, rfl⟩
abbrev main_c_14 : Ref sig .tc := ⟨.hbm, 54, rfl⟩
abbrev main_v10 : Ref sig .tc := ⟨.hbm, 55, rfl⟩
abbrev main_v11 : Ref sig .tc := ⟨.hbm, 56, rfl⟩
abbrev main_c_15 : Ref sig .tc := ⟨.hbm, 57, rfl⟩
abbrev main_c_16 : Ref sig .tc := ⟨.hbm, 58, rfl⟩
abbrev main_v12 : Ref sig .tc := ⟨.hbm, 59, rfl⟩
abbrev main_cst_17 : Ref sig .tc := ⟨.hbm, 60, rfl⟩
abbrev main_v13 : Ref sig .tc := ⟨.hbm, 61, rfl⟩
abbrev main_v14 : Ref sig .tc := ⟨.hbm, 62, rfl⟩
abbrev main_c_18 : Ref sig .tc := ⟨.hbm, 63, rfl⟩
abbrev main_c_19 : Ref sig .tc := ⟨.hbm, 64, rfl⟩
abbrev main_v15 : Ref sig .tc := ⟨.hbm, 65, rfl⟩
abbrev main_c_20 : Ref sig .tc := ⟨.hbm, 66, rfl⟩
abbrev main_c_21 : Ref sig .tc := ⟨.hbm, 67, rfl⟩
abbrev main_v16 : Ref sig .tc := ⟨.hbm, 68, rfl⟩
abbrev main_c_22 : Ref sig .tc := ⟨.hbm, 69, rfl⟩
abbrev main_c_23 : Ref sig .tc := ⟨.hbm, 70, rfl⟩
abbrev main_v17 : Ref sig .tc := ⟨.hbm, 71, rfl⟩
abbrev main_c_24 : Ref sig .tc := ⟨.hbm, 72, rfl⟩
abbrev main_c_25 : Ref sig .tc := ⟨.hbm, 73, rfl⟩
abbrev main_v18 : Ref sig .tc := ⟨.hbm, 74, rfl⟩
abbrev main_c_26 : Ref sig .tc := ⟨.hbm, 75, rfl⟩
abbrev main_c_27 : Ref sig .tc := ⟨.hbm, 76, rfl⟩
abbrev main_v19 : Ref sig .tc := ⟨.hbm, 77, rfl⟩
abbrev main_c_28 : Ref sig .tc := ⟨.hbm, 78, rfl⟩
abbrev main_c_29 : Ref sig .tc := ⟨.hbm, 79, rfl⟩
abbrev main_v20 : Ref sig .tc := ⟨.hbm, 80, rfl⟩
abbrev main_c_30 : Ref sig .tc := ⟨.hbm, 81, rfl⟩
abbrev main_c_31 : Ref sig .tc := ⟨.hbm, 82, rfl⟩
abbrev main_v21 : Ref sig .tc := ⟨.hbm, 83, rfl⟩
abbrev main_v22 : Ref sig .tc := ⟨.hbm, 84, rfl⟩
abbrev main_c_32 : Ref sig .tc := ⟨.hbm, 85, rfl⟩
abbrev main_c_33 : Ref sig .tc := ⟨.hbm, 86, rfl⟩
abbrev main_v23 : Ref sig .tc := ⟨.hbm, 87, rfl⟩
abbrev main_v24 : Ref sig .tc := ⟨.hbm, 88, rfl⟩
abbrev main_c_34 : Ref sig .tc := ⟨.hbm, 89, rfl⟩
abbrev main_c_35 : Ref sig .tc := ⟨.hbm, 90, rfl⟩
abbrev main_v25 : Ref sig .tc := ⟨.hbm, 91, rfl⟩
abbrev main_cst_36 : Ref sig .tc := ⟨.hbm, 92, rfl⟩
abbrev main_v26 : Ref sig .tc := ⟨.hbm, 93, rfl⟩
abbrev main_v27 : Ref sig .tc := ⟨.hbm, 94, rfl⟩
abbrev main_c_37 : Ref sig .tc := ⟨.hbm, 95, rfl⟩
abbrev main_c_38 : Ref sig .tc := ⟨.hbm, 96, rfl⟩
abbrev main_v28 : Ref sig .tc := ⟨.hbm, 97, rfl⟩
abbrev main_c_39 : Ref sig .tc := ⟨.hbm, 98, rfl⟩
abbrev main_c_40 : Ref sig .tc := ⟨.hbm, 99, rfl⟩
abbrev main_v29 : Ref sig .tc := ⟨.hbm, 100, rfl⟩
abbrev main_c_41 : Ref sig .tc := ⟨.hbm, 101, rfl⟩
abbrev main_c_42 : Ref sig .tc := ⟨.hbm, 102, rfl⟩
abbrev main_v30 : Ref sig .tc := ⟨.hbm, 103, rfl⟩
abbrev main_c_43 : Ref sig .tc := ⟨.hbm, 104, rfl⟩
abbrev main_c_44 : Ref sig .tc := ⟨.hbm, 105, rfl⟩
abbrev main_v31 : Ref sig .tc := ⟨.hbm, 106, rfl⟩
abbrev main_c_45 : Ref sig .tc := ⟨.hbm, 107, rfl⟩
abbrev main_c_46 : Ref sig .tc := ⟨.hbm, 108, rfl⟩
abbrev main_v32 : Ref sig .tc := ⟨.hbm, 109, rfl⟩
abbrev main_c_47 : Ref sig .tc := ⟨.hbm, 110, rfl⟩
abbrev main_c_48 : Ref sig .tc := ⟨.hbm, 111, rfl⟩
abbrev main_v33 : Ref sig .tc := ⟨.hbm, 112, rfl⟩
abbrev main_c_49 : Ref sig .tc := ⟨.hbm, 113, rfl⟩
abbrev main_c_50 : Ref sig .tc := ⟨.hbm, 114, rfl⟩
abbrev main_v34 : Ref sig .tc := ⟨.hbm, 115, rfl⟩
abbrev main_v35 : Ref sig .tc := ⟨.hbm, 116, rfl⟩
abbrev main_c_51 : Ref sig .tc := ⟨.hbm, 117, rfl⟩
abbrev main_c_52 : Ref sig .tc := ⟨.hbm, 118, rfl⟩
abbrev main_v36 : Ref sig .tc := ⟨.hbm, 119, rfl⟩
abbrev main_v37 : Ref sig .tc := ⟨.hbm, 120, rfl⟩
abbrev main_c_53 : Ref sig .tc := ⟨.hbm, 121, rfl⟩
abbrev main_c_54 : Ref sig .tc := ⟨.hbm, 122, rfl⟩
abbrev main_v38 : Ref sig .tc := ⟨.hbm, 123, rfl⟩
abbrev main_v39_0 : Ref sig .tc := ⟨.hbm, 124, rfl⟩
abbrev main_v39_1 : Ref sig .tc := ⟨.hbm, 125, rfl⟩
abbrev main_v39_2 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S80x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S80x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S80x1024 : Shape := ⟨2, ![80, 1024]⟩
abbrev S4x6144 : Shape := ⟨2, ![4, 6144]⟩
abbrev S4x1024 : Shape := ⟨2, ![4, 1024]⟩
abbrev S1x1024 : Shape := ⟨2, ![1, 1024]⟩
abbrev S1024 : Shape := ⟨1, ![1024]⟩
abbrev S1x2048 : Shape := ⟨2, ![1, 2048]⟩
abbrev S24x1024 : Shape := ⟨2, ![24, 1024]⟩
abbrev S_ : Shape := ⟨0, ![]⟩
abbrev S2x1024 : Shape := ⟨2, ![2, 1024]⟩

abbrev nBuf : Space → Nat
  | .hbm => 337
  | .vmem => 0
  | .smem => 0
  | _ => 0

abbrev hbmTy0_0 (i : Nat) : BufTy := match i % 128 with
  | 0 => ⟨S80x1024, .f32⟩
  | 1 => ⟨S4x6144, .f32⟩
  | 2 => ⟨S4x1024, .f32⟩
  | 3 => ⟨S4x1024, .f32⟩
  | 4 => ⟨S1x1024, .f32⟩
  | 5 => ⟨S1x1024, .f32⟩
  | 6 => ⟨S1x1024, .f32⟩
  | 7 => ⟨S1x1024, .f32⟩
  | 8 => ⟨S1024, .f32⟩
  | 9 => ⟨S1x2048, .f32⟩
  | 10 => ⟨S4x6144, .f32⟩
  | 11 => ⟨S4x1024, .f32⟩
  | 12 => ⟨S4x1024, .f32⟩
  | 13 => ⟨S1x1024, .f32⟩
  | 14 => ⟨S1x1024, .f32⟩
  | 15 => ⟨S1x1024, .f32⟩
  | 16 => ⟨S1x1024, .f32⟩
  | 17 => ⟨S1024, .f32⟩
  | 18 => ⟨S1x2048, .f32⟩
  | 19 => ⟨S4x6144, .f32⟩
  | 20 => ⟨S4x1024, .f32⟩
  | 21 => ⟨S4x1024, .f32⟩
  | 22 => ⟨S1x1024, .f32⟩
  | 23 => ⟨S1x1024, .f32⟩
  | 24 => ⟨S1x1024, .f32⟩
  | 25 => ⟨S1x1024, .f32⟩
  | 26 => ⟨S1024, .f32⟩
  | 27 => ⟨S1x2048, .f32⟩
  | 28 => ⟨S24x1024, .f32⟩
  | 29 => ⟨S4x6144, .f32⟩
  | 30 => ⟨S_, .f32⟩
  | 31 => ⟨S4x6144, .f32⟩
  | 32 => ⟨S4x6144, .f32⟩
  | 33 => ⟨S_, .f32⟩
  | 34 => ⟨S4x6144, .f32⟩
  | 35 => ⟨S4x6144, .f32⟩
  | 36 => ⟨S4x6144, .f32⟩
  | 37 => ⟨S_, .f32⟩
  | 38 => ⟨S4x6144, .f32⟩
  | 39 => ⟨S4x6144, .f32⟩
  | 40 => ⟨S4x6144, .f32⟩
  | 41 => ⟨S_, .f32⟩
  | 42 => ⟨S4x6144, .f32⟩
  | 43 => ⟨S4x6144, .f32⟩
  | 44 => ⟨S4x6144, .f32⟩
  | 45 => ⟨S_, .f32⟩
  | 46 => ⟨S4x6144, .f32⟩
  | 47 => ⟨S4x6144, .f32⟩
  | 48 => ⟨S_, .f32⟩
  | 49 => ⟨S4x6144, .f32⟩
  | 50 => ⟨S4x6144, .f32⟩
  | 51 => ⟨S4x6144, .f32⟩
  | 52 => ⟨S_, .f32⟩
  | 53 => ⟨S4x6144, .f32⟩
  | 54 => ⟨S4x6144, .f32⟩
  | 55 => ⟨S4x6144, .f32⟩
  | 56 => ⟨S_, .f32⟩
  | 57 => ⟨S4x6144, .f32⟩
  | 58 => ⟨S4x6144, .f32⟩
  | 59 => ⟨S4x6144, .f32⟩
  | 60 => ⟨S_, .f32⟩
  | 61 => ⟨S4x6144, .f32⟩
  | 62 => ⟨S4x6144, .f32⟩
  | 63 => ⟨S4x1024, .f32⟩
  | 64 => ⟨S_, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S_, .f32⟩
  | 102 => ⟨S4x1024, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S80x1024, .f32⟩

abbrev hbmTy0_1 (i : Nat) : BufTy := match i % 128 with
  | 0 => ⟨S_, .f32⟩
  | 1 => ⟨S4x1024, .f32⟩
  | 2 => ⟨S4x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S80x1024, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S1024, .f32⟩
  | 13 => ⟨S_, .f32⟩
  | 14 => ⟨S1024, .f32⟩
  | 15 => ⟨S1024, .f32⟩
  | 16 => ⟨S_, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S_, .f32⟩
  | 25 => ⟨S1024, .f32⟩
  | 26 => ⟨S1024, .f32⟩
  | 27 => ⟨S1024, .f32⟩
  | 28 => ⟨S_, .f32⟩
  | 29 => ⟨S1024, .f32⟩
  | 30 => ⟨S1024, .f32⟩
  | 31 => ⟨S_, .f32⟩
  | 32 => ⟨S1024, .f32⟩
  | 33 => ⟨S1024, .f32⟩
  | 34 => ⟨S1024, .f32⟩
  | 35 => ⟨S_, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S_, .f32⟩
  | 44 => ⟨S1024, .f32⟩
  | 45 => ⟨S1024, .f32⟩
  | 46 => ⟨S2x1024, .f32⟩
  | 47 => ⟨S1x2048, .f32⟩
  | 48 => ⟨S_, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S1x2048, .f32⟩
  | 78 => ⟨S_, .f32⟩
  | 79 => ⟨S1x2048, .f32⟩
  | 80 => ⟨S1x2048, .f32⟩
  | _ => ⟨S80x1024, .f32⟩

abbrev hbmTy (i : Nat) : BufTy := match i / 128 with
  | 0 => hbmTy0_0 i
  | 1 => hbmTy0_1 i
  | 2 => hbmTy0_2 i
  | _ => ⟨S80x1024, .f32⟩

abbrev bufTy : (tb : Table) → Fin (tcTables nBuf tb) → BufTy
  | .hbm, ⟨i, _⟩ => hbmTy i
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_3 : Ref sig .tc := ⟨.hbm, 45, rfl⟩
abbrev main_v13 : Ref sig .tc := ⟨.hbm, 46, rfl⟩
abbrev main_v14 : Ref sig .tc := ⟨.hbm, 47, rfl⟩
abbrev main_cst_4 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_5 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_6 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_7 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_8 : Ref sig .tc := ⟨.hbm, 64, rfl⟩
abbrev main_v27 : Ref sig .tc := ⟨.hbm, 65, rfl⟩
abbrev main_v28 : Ref sig .tc := ⟨.hbm, 66, rfl⟩
abbrev main_cst_9 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_10 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_11 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_12 : Ref sig .tc := ⟨.hbm, 79, rfl⟩
abbrev main_v38 : Ref sig .tc := ⟨.hbm, 80, rfl⟩
abbrev main_v39 : Ref sig .tc := ⟨.hbm, 81, rfl⟩
abbrev main_cst_13 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_14 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_15 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_16 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_17 : Ref sig .tc := ⟨.hbm, 98, rfl⟩
abbrev main_v52 : Ref sig .tc := ⟨.hbm, 99, rfl⟩
abbrev main_v53 : Ref sig .tc := ⟨.hbm, 100, rfl⟩
abbrev main_cst_18 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_19 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_20 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_21 : Ref sig .tc := ⟨.hbm, 113, rfl⟩
abbrev main_v63 : Ref sig .tc := ⟨.hbm, 114, rfl⟩
abbrev main_v64 : Ref sig .tc := ⟨.hbm, 115, rfl⟩
abbrev main_cst_22 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_23 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_24 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_25 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_26 : Ref sig .tc := ⟨.hbm, 132, rfl⟩
abbrev main_v77 : Ref sig .tc := ⟨.hbm, 133, rfl⟩
abbrev main_v78 : Ref sig .tc := ⟨.hbm, 134, rfl⟩
abbrev main_cst_27 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_28 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_29 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_30 : Ref sig .tc := ⟨.hbm, 147, rfl⟩
abbrev main_v88 : Ref sig .tc := ⟨.hbm, 148, rfl⟩
abbrev main_v89 : Ref sig .tc := ⟨.hbm, 149, rfl⟩
abbrev main_cst_31 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_32 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_33 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_34 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_35 : Ref sig .tc := ⟨.hbm, 166, rfl⟩
abbrev main_v102 : Ref sig .tc := ⟨.hbm, 167, rfl⟩
abbrev main_v103 : Ref sig .tc := ⟨.hbm, 168, rfl⟩
abbrev main_cst_36 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_37 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_38 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_39 : Ref sig .tc := ⟨.hbm, 181, rfl⟩
abbrev main_v113 : Ref sig .tc := ⟨.hbm, 182, rfl⟩
abbrev main_v114 : Ref sig .tc := ⟨.hbm, 183, rfl⟩
abbrev main_cst_40 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_41 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_42 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_43 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_cst_44 : Ref sig .tc := ⟨.hbm, 200, rfl⟩
abbrev main_v127 : Ref sig .tc := ⟨.hbm, 201, rfl⟩
abbrev main_v128 : Ref sig .tc := ⟨.hbm, 202, rfl⟩
abbrev main_cst_45 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_cst_46 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_cst_47 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_48 : Ref sig .tc := ⟨.hbm, 215, rfl⟩
abbrev main_v138 : Ref sig .tc := ⟨.hbm, 216, rfl⟩
abbrev main_v139 : Ref sig .tc := ⟨.hbm, 217, rfl⟩
abbrev main_cst_49 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_cst_50 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_cst_51 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_cst_52 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_cst_53 : Ref sig .tc := ⟨.hbm, 234, rfl⟩
abbrev main_v152 : Ref sig .tc := ⟨.hbm, 235, rfl⟩
abbrev main_v153 : Ref sig .tc := ⟨.hbm, 236, rfl⟩
abbrev main_cst_54 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_cst_55 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_cst_56 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_cst_57 : Ref sig .tc := ⟨.hbm, 249, rfl⟩
abbrev main_v163 : Ref sig .tc := ⟨.hbm, 250, rfl⟩
abbrev main_v164 : Ref sig .tc := ⟨.hbm, 251, rfl⟩
abbrev main_cst_58 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_cst_59 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_cst_60 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_cst_61 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_cst_62 : Ref sig .tc := ⟨.hbm, 269, rfl⟩
abbrev main_v178 : Ref sig .tc := ⟨.hbm, 270, rfl⟩
abbrev main_v179 : Ref sig .tc := ⟨.hbm, 271, rfl⟩
abbrev main_cst_63 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_cst_64 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_cst_65 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_cst_66 : Ref sig .tc := ⟨.hbm, 284, rfl⟩
abbrev main_v189 : Ref sig .tc := ⟨.hbm, 285, rfl⟩
abbrev main_v190 : Ref sig .tc := ⟨.hbm, 286, rfl⟩
abbrev main_cst_67 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_cst_68 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_cst_69 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_cst_70 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_cst_71 : Ref sig .tc := ⟨.hbm, 304, rfl⟩
abbrev main_v204 : Ref sig .tc := ⟨.hbm, 305, rfl⟩
abbrev main_v205 : Ref sig .tc := ⟨.hbm, 306, rfl⟩
abbrev main_cst_72 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_cst_73 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_cst_74 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_cst_75 : Ref sig .tc := ⟨.hbm, 319, rfl⟩
abbrev main_v215 : Ref sig .tc := ⟨.hbm, 320, rfl⟩
abbrev main_v216 : Ref sig .tc := ⟨.hbm, 321, rfl⟩
abbrev main_cst_76 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_cst_77 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_cst_78 : Ref sig .tc := ⟨.hbm, 330, rfl⟩
abbrev main_v223 : Ref sig .tc := ⟨.hbm, 331, rfl⟩
abbrev main_v224 : Ref sig .tc := ⟨.hbm, 332, rfl⟩
abbrev main_v225 : Ref sig .tc := ⟨.hbm, 333, rfl⟩
abbrev main_cst_79 : Ref sig .tc := ⟨.hbm, 334, rfl⟩
abbrev main_v226 : Ref sig .tc := ⟨.hbm, 335, rfl⟩
abbrev main_v227 : Ref sig .tc := ⟨.hbm, 336, rfl⟩

abbrev nD : Nat := 1
abbrev τ : Topo := Topo.v7x

variable {F : FTy → Type} [FloatOps F]
-- ==== Kernel25.lean ====
abbrev S2x3x256 : Shape := ⟨3, ![2, 3, 256]⟩
abbrev S1x31x256 : Shape := ⟨3, ![1, 31, 256]⟩
abbrev S1x256 : Shape := ⟨2, ![1, 256]⟩
abbrev S6x256 : Shape := ⟨2, ![6, 256]⟩
abbrev S31x256 : Shape := ⟨2, ![31, 256]⟩
abbrev S_ : Shape := ⟨0, ![]⟩
abbrev S2x256 : Shape := ⟨2, ![2, 256]⟩
abbrev S40x256 : Shape := ⟨2, ![40, 256]⟩

abbrev nBuf : Space → Nat
  | .hbm => 50
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S1x31x256, .f32⟩
  | .hbm, ⟨2, _⟩ => ⟨S1x256, .f32⟩
  | .hbm, ⟨3, _⟩ => ⟨S2x3x256, .f32⟩
  | .hbm, ⟨4, _⟩ => ⟨S1x31x256, .f32⟩
  | .hbm, ⟨5, _⟩ => ⟨S1x256, .f32⟩
  | .hbm, ⟨6, _⟩ => ⟨S2x3x256, .f32⟩
  | .hbm, ⟨7, _⟩ => ⟨S1x31x256, .f32⟩
  | .hbm, ⟨8, _⟩ => ⟨S1x256, .f32⟩
  | .hbm, ⟨9, _⟩ => ⟨S2x3x256, .f32⟩
  | .hbm, ⟨10, _⟩ => ⟨S1x31x256, .f32⟩
  | .hbm, ⟨11, _⟩ => ⟨S1x256, .f32⟩
  | .hbm, ⟨12, _⟩ => ⟨S6x256, .f32⟩
  | .hbm, ⟨13, _⟩ => ⟨S31x256, .f32⟩
  | .hbm, ⟨14, _⟩ => ⟨S_, .f32⟩
  | .hbm, ⟨15, _⟩ => ⟨S2x256, .f32⟩
  | .hbm, ⟨16, _⟩ => ⟨S40x256, .f32⟩
  | .hbm, ⟨17, _⟩ => ⟨S6x256, .f32⟩
  | .hbm, ⟨18, _⟩ => ⟨S31x256, .f32⟩
  | .hbm, ⟨19, _⟩ => ⟨S_, .f32⟩
  | .hbm, ⟨20, _⟩ => ⟨S2x256, .f32⟩
  | .hbm, ⟨21, _⟩ => ⟨S40x256, .f32⟩
  | .hbm, ⟨22, _⟩ => ⟨S6x256, .f32⟩
  | .hbm, ⟨23, _⟩ => ⟨S31x256, .f32⟩
  | .hbm, ⟨24, _⟩ => ⟨S_, .f32⟩
  | .hbm, ⟨25, _⟩ => ⟨S2x256, .f32⟩
  | .hbm, ⟨26, _⟩ => ⟨S40x256, .f32⟩
  | .hbm, ⟨27, _⟩ => ⟨S6x256, .f32⟩
  | .hbm, ⟨28, _⟩ => ⟨S31x256, .f32⟩
  | .hbm, ⟨29, _⟩ => ⟨S_, .f32⟩
  | .hbm, ⟨30, _⟩ => ⟨S2x256, .f32⟩
  | .hbm, ⟨31, _⟩ => ⟨S40x256, .f32⟩
  | .hbm, ⟨32, _⟩ => ⟨S40x256, .f32⟩
  | .hbm, ⟨33, _⟩ => ⟨S40x256, .f32⟩
  | .hbm, ⟨34, _⟩ => ⟨S40x256, .f32⟩
  | .hbm, ⟨35, _⟩ => ⟨S6x256, .f32⟩
  | .hbm, ⟨36, _⟩ => ⟨S2x3x256, .f32⟩
  | .hbm, ⟨37, _⟩ => ⟨S6x256, .f32⟩
  | .hbm, ⟨38, _⟩ => ⟨S2x3x256, .f32⟩
  | .hbm, ⟨39, _⟩ => ⟨S6x256, .f32⟩
  | .hbm, ⟨40, _⟩ => ⟨S2x3x256, .f32⟩
  | .hbm, ⟨41, _⟩ => ⟨S31x256, .f32⟩
  | .hbm, ⟨42, _⟩ => ⟨S1x31x256, .f32⟩
  | .hbm, ⟨43, _⟩ => ⟨S31x256, .f32⟩
  | .hbm, ⟨44, _⟩ => ⟨S1x31x256, .f32⟩
  | .hbm, ⟨45, _⟩ => ⟨S31x256, .f32⟩
  | .hbm, ⟨46, _⟩ => ⟨S1x31x256, .f32⟩
  | .hbm, ⟨47, _⟩ => ⟨S1x256, .f32⟩
  | .hbm, ⟨48, _⟩ => ⟨S1x256, .f32⟩
  | .hbm, ⟨49, _⟩ => ⟨S1x256, .f32⟩
  | .local _ .vmem, ⟨0, _⟩ => ⟨S40x256, .f32⟩
  | .local _ .vmem, ⟨1, _⟩ => ⟨S40x256, .f32⟩
  | .local _ .vmem, ⟨2, _⟩ => ⟨S40x256, .f32⟩
  | .local _ .vmem, ⟨3, _⟩ => ⟨S40x256, .f32⟩
  | .local _ .vmem, ⟨4, _⟩ => ⟨S40x256, .f32⟩
  | .local _ .vmem, ⟨5, _⟩ => ⟨S40x256, .f32⟩
  | .local _ .vmem, ⟨6, _⟩ => ⟨S40x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S2x3x256 : Shape := ⟨3, ![2, 3, 256]⟩
abbrev S1x31x256 : Shape := ⟨3, ![1, 31, 256]⟩
abbrev S1x256 : Shape := ⟨2, ![1, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S1x31x256, .f32⟩
  | .hbm, ⟨2, _⟩ => ⟨S1x256, .f32⟩
  | .hbm, ⟨3, _⟩ => ⟨S2x3x256, .f32⟩
  | .hbm, ⟨4, _⟩ => ⟨S1x31x256, .f32⟩
  | .hbm, ⟨5, _⟩ => ⟨S1x256, .f32⟩
  | .hbm, ⟨6, _⟩ => ⟨S2x3x256, .f32⟩
  | .hbm, ⟨7, _⟩ => ⟨S1x31x256, .f32⟩
  | .hbm, ⟨8, _⟩ => ⟨S1x256, .f32⟩
  | .hbm, ⟨9, _⟩ => ⟨S2x3x256, .f32⟩
  | .hbm, ⟨10, _⟩ => ⟨S1x31x256, .f32⟩
  | .hbm, ⟨11, _⟩ => ⟨S1x256, .f32⟩
  | .hbm, ⟨12, _⟩ => ⟨S_, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S2x3x256, .f32⟩
  | .hbm, ⟨23, _⟩ => ⟨S_, .f32⟩
  | .hbm, ⟨24, _⟩ => ⟨S2x3x256, .f32⟩
  | .hbm, ⟨25, _⟩ => ⟨S2x3x256, .f32⟩
  | .hbm, ⟨26, _⟩ => ⟨S2x3x256, .f32⟩
  | .hbm, ⟨27, _⟩ => ⟨S_, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | .hbm, ⟨37, _⟩ => ⟨S2x3x256, .f32⟩
  | .hbm, ⟨38, _⟩ => ⟨S_, .f32⟩
  | .hbm, ⟨39, _⟩ => ⟨S2x3x256, .f32⟩
  | .hbm, ⟨40, _⟩ => ⟨S2x3x256, .f32⟩
  | .hbm, ⟨41, _⟩ => ⟨S2x3x256, .f32⟩
  | .hbm, ⟨42, _⟩ => ⟨S_, .f32⟩
  | .hbm, ⟨43, _⟩ => ⟨S2x3x256, .f32⟩
  | .hbm, ⟨44, _⟩ => ⟨S2x3x256, .f32⟩
  | .hbm, ⟨45, _⟩ => ⟨S_, .f32⟩
  | .hbm, ⟨46, _⟩ => ⟨S1x31x256, .f32⟩
  | .hbm, ⟨47, _⟩ => ⟨S1x31x256, .f32⟩
  | .hbm, ⟨48, _⟩ => ⟨S_, .f32⟩
  | .hbm, ⟨49, _⟩ => ⟨S1x31x256, .f32⟩
  | .hbm, ⟨50, _⟩ => ⟨S1x31x256, .f32⟩
  | .hbm, ⟨51, _⟩ => ⟨S1x31x256, .f32⟩
  | .hbm, ⟨52, _⟩ => ⟨S_, .f32⟩
  | .hbm, ⟨53, _⟩ => ⟨S1x31x256, .f32⟩
  | .hbm, ⟨54, _⟩ => ⟨S1x31x256, .f32⟩
  | .hbm, ⟨55, _⟩ => ⟨S1x31x256, .f32⟩
  | .hbm, ⟨56, _⟩ => ⟨S_, .f32⟩
  | .hbm, ⟨57, _⟩ => ⟨S1x31x256, .f32⟩
  | .hbm, ⟨58, _⟩ => ⟨S1x31x256, .f32⟩
  | .hbm, ⟨59, _⟩ => ⟨S1x31x256, .f32⟩
  | .hbm, ⟨60, _⟩ => ⟨S_, .f32⟩
  | .hbm, ⟨61, _⟩ => ⟨S1x31x256, .f32⟩
  | .hbm, ⟨62, _⟩ => ⟨S1x31x256, .f32⟩
  | .hbm, ⟨63, _⟩ => ⟨S_, .f32⟩
  | .hbm, ⟨64, _⟩ => ⟨S1x31x256, .f32⟩
  | .hbm, ⟨65, _⟩ => ⟨S1x31x256, .f32⟩
  | .hbm, ⟨66, _⟩ => ⟨S1x31x256, .f32⟩
  | .hbm, ⟨67, _⟩ => ⟨S_, .f32⟩
  | .hbm, ⟨68, _⟩ => ⟨S1x31x256, .f32⟩
  | .hbm, ⟨69, _⟩ => ⟨S1x31x256, .f32⟩
  | .hbm, ⟨70, _⟩ => ⟨S1x31x256, .f32⟩
  | .hbm, ⟨71, _⟩ => ⟨S_, .f32⟩
  | .hbm, ⟨72, _⟩ => ⟨S1x31x256, .f32⟩
  | .hbm, ⟨73, _⟩ => ⟨S1x31x256, .f32⟩
  | .hbm, ⟨74, _⟩ => ⟨S1x31x256, .f32⟩
  | .hbm, ⟨75, _⟩ => ⟨S_, .f32⟩
  | .hbm, ⟨76, _⟩ => ⟨S1x31x256, .f32⟩
  | .hbm, ⟨77, _⟩ => ⟨S1x31x256, .f32⟩
  | .hbm, ⟨78, _⟩ => ⟨S_, .f32⟩
  | .hbm, ⟨79, _⟩ => ⟨S1x256, .f32⟩
  | .hbm, ⟨80, _⟩ => ⟨S1x256, .f32⟩
  | .hbm, ⟨81, _⟩ => ⟨S_, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S_, .f32⟩
  | .hbm, ⟨86, _⟩ => ⟨S1x256, .f32⟩
  | .hbm, ⟨87, _⟩ => ⟨S1x256, .f32⟩
  | .hbm, ⟨88, _⟩ => ⟨S1x256, .f32⟩
  | .hbm, ⟨89, _⟩ => ⟨S_, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S_, .f32⟩
  | .hbm, ⟨94, _⟩ => ⟨S1x256, .f32⟩
  | .hbm, ⟨95, _⟩ => ⟨S1x256, .f32⟩
  | .hbm, ⟨96, _⟩ => ⟨S_, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S_, .f32⟩
  | .hbm, ⟨101, _⟩ => ⟨S1x256, .f32⟩
  | .hbm, ⟨102, _⟩ => ⟨S1x256, .f32⟩
  | .hbm, ⟨103, _⟩ => ⟨S1x256, .f32⟩
  | .hbm, ⟨104, _⟩ => ⟨S_, .f32⟩
  | .hbm, ⟨105, _⟩ => ⟨S1x256, .f32⟩
  | .hbm, ⟨106, _⟩ => ⟨S1x256, .f32⟩
  | .hbm, ⟨107, _⟩ => ⟨S1x256, .f32⟩
  | .hbm, ⟨108, _⟩ => ⟨S_, .f32⟩
  | .hbm, ⟨109, _⟩ => ⟨S1x256, .f32⟩
  | .hbm, ⟨110, _⟩ => ⟨S1x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel26.lean ====
abbrev S4096x1024 : Shape := ⟨2, ![4096, 1024]⟩
abbrev S1024 : Shape := ⟨1, ![1024]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S_ : Shape := ⟨0, ![]⟩
abbrev S8x1024 : Shape := ⟨2, ![8, 1024]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1x1024, .f32⟩
  | .hbm, ⟨6, _⟩ => ⟨S8x1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x1024, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference26Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel27.lean ====
abbrev S4096x1024 : Shape := ⟨2, ![4096, 1024]⟩
abbrev S4x1x4x64x256 : Shape := ⟨5, ![4, 1, 4, 64, 256]⟩
abbrev S1024x256 : Shape := ⟨2, ![1024, 256]⟩
abbrev S4x1x1x64x256 : Shape := ⟨5, ![4, 1, 1, 64, 256]⟩
abbrev S256x256 : Shape := ⟨2, ![256, 256]⟩
abbrev S64x256 : Shape := ⟨2, ![64, 256]⟩
abbrev S1x1x1x64x256 : Shape := ⟨5, ![1, 1, 1, 64, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1x4x64x256, .bf16⟩
  | .hbm, ⟨3, _⟩ => ⟨S4x1x4x64x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S4x1x1x64x256, .bf16⟩
  | .local _ .vmem, ⟨5, _⟩ => ⟨S4x1x1x64x256, .bf16⟩
  | .local _ .vmem, ⟨6, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x1x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference27Ideal.lean ====
abbrev S4096x1024 : Shape := ⟨2, ![4096, 1024]⟩
abbrev S4x1x4x64x256 : Shape := ⟨5, ![4, 1, 4, 64, 256]⟩
abbrev S_ : Shape := ⟨0, ![]⟩
abbrev S4x256x256 : Shape := ⟨3, ![4, 256, 256]⟩
abbrev S4096x4x256 : Shape := ⟨3, ![4096, 4, 256]⟩
abbrev S4x256x4096 : Shape := ⟨3, ![4, 256, 4096]⟩
abbrev S4x4x64x256 : Shape := ⟨4, ![4, 4, 64, 256]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1x4x64x256, .bf16⟩
  | .hbm, ⟨3, _⟩ => ⟨S_, .f32⟩
  | .hbm, ⟨4, _⟩ => ⟨S4x256x256, .f32⟩
  | .hbm, ⟨5, _⟩ => ⟨S4096x1024, .f32⟩
  | .hbm, ⟨6, _⟩ => ⟨S4096x4x256, .f32⟩
  | .hbm, ⟨7, _⟩ => ⟨S4x256x4096, .f32⟩
  | .hbm, ⟨8, _⟩ => ⟨S4096x4x256, .f32⟩
  | .hbm, ⟨9, _⟩ => ⟨S4096x1024, .f32⟩
  | .hbm, ⟨10, _⟩ => ⟨S4096x4x256, .f32⟩
  | .hbm, ⟨11, _⟩ => ⟨S4x256x4096, .f32⟩
  | .hbm, ⟨12, _⟩ => ⟨S4x256x256, .f32⟩
  | .hbm, ⟨13, _⟩ => ⟨S4x256x256, .f32⟩
  | .hbm, ⟨14, _⟩ => ⟨S4x4x64x256, .f32⟩
  | .hbm, ⟨15, _⟩ => ⟨S4x4x64x256, .f32⟩
  | .hbm, ⟨16, _⟩ => ⟨S4x1x4x64x256, .f32⟩
  | .hbm, ⟨17, _⟩ => ⟨S4x1x4x64x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel28.lean ====
abbrev S4096x1024 : Shape := ⟨2, ![4096, 1024]⟩
abbrev S1x1024 : Shape := ⟨2, ![1, 1024]⟩
abbrev S4x256x256 : Shape := ⟨3, ![4, 256, 256]⟩
abbrev S8x1x1024 : Shape := ⟨3, ![8, 1, 1024]⟩
abbrev S512x1024 : Shape := ⟨2, ![512, 1024]⟩
abbrev S1x1x1024 : Shape := ⟨3, ![1, 1, 1024]⟩
abbrev S1024 : Shape := ⟨1, ![1024]⟩
abbrev S512x256 : Shape := ⟨2, ![512, 256]⟩
abbrev S1x256x256 : Shape := ⟨3, ![1, 256, 256]⟩
abbrev S256x256 : Shape := ⟨2, ![256, 256]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4x256x256, .f32⟩
  | .hbm, ⟨5, _⟩ => ⟨S4x256x256, .bf16⟩
  | .hbm, ⟨6, _⟩ => ⟨S4096x1024, .bf16⟩
  | .hbm, ⟨7, _⟩ => ⟨S8x1x1024, .f32⟩
  | .hbm, ⟨8, _⟩ => ⟨S8x1x1024, .f32⟩
  | .hbm, ⟨9, _⟩ => ⟨S4096x1024, .bf16⟩
  | .hbm, ⟨10, _⟩ => ⟨S_, .f32⟩
  | .hbm, ⟨11, _⟩ => ⟨S1x1024, .f32⟩
  | .hbm, ⟨12, _⟩ => ⟨S_, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S4x256x256, .bf16⟩
  | .local _ .vmem, ⟨7, _⟩ => ⟨S512x1024, .bf16⟩
  | .local _ .vmem, ⟨8, _⟩ => ⟨S512x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference28Ideal.lean ====
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩
abbrev S1024 : Shape := ⟨1, ![1024]⟩
abbrev S4096x4x256 : Shape := ⟨3, ![4096, 4, 256]⟩
abbrev S4x256x4096 : Shape := ⟨3, ![4, 256, 4096]⟩
abbrev S4x4096x256 : Shape := ⟨3, ![4, 4096, 256]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4x256x256, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x4x256, .f32⟩
  | .hbm, ⟨25, _⟩ => ⟨S4x256x4096, .f32⟩
  | .hbm, ⟨26, _⟩ => ⟨S4096x4x256, .f32⟩
  | .hbm, ⟨27, _⟩ => ⟨S4096x1024, .f32⟩
  | .hbm, ⟨28, _⟩ => ⟨S4096x4x256, .f32⟩
  | .hbm, ⟨29, _⟩ => ⟨S4x256x4096, .f32⟩
  | .hbm, ⟨30, _⟩ => ⟨S4x4096x256, .f32⟩
  | .hbm, ⟨31, _⟩ => ⟨S4096x4x256, .f32⟩
  | .hbm, ⟨32, _⟩ => ⟨S4096x1024, .f32⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel29.lean ====
abbrev S4096x1024 : Shape := ⟨2, ![4096, 1024]⟩
abbrev S1x1024 : Shape := ⟨2, ![1, 1024]⟩
abbrev S4x256x256 : Shape := ⟨3, ![4, 256, 256]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x256x256, .f32⟩
  | .hbm, ⟨5, _⟩ => ⟨S4x256x256, .bf16⟩
  | .hbm, ⟨6, _⟩ => ⟨S4096x1024, .f32⟩
  | .hbm, ⟨7, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4x256x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference29Ideal.lean ====
abbrev S4096x1024 : Shape := ⟨2, ![4096, 1024]⟩
abbrev S1x1024 : Shape := ⟨2, ![1, 1024]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x256x256, .f32⟩
  | .hbm, ⟨5, _⟩ => ⟨S4096x1024, .f32⟩
  | .hbm, ⟨6, _⟩ => ⟨S4096x4x256, .f32⟩
  | .hbm, ⟨7, _⟩ => ⟨S4x256x4096, .f32⟩
  | .hbm, ⟨8, _⟩ => ⟨S4096x4x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel31.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference31Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.GateTrip.lean ====
/- One trip of the strip kernel's loop, read as values: the three slabs of 64 rows that it stores and what it adds to the
   three running sums. The buffers are arbitrary here; only their places matter. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Proof.Gate

open Cert.KernelIdeal Cert.KernelIdeal.Gen Idealize.ShloMosaic Idealize.ShloMosaic.TcCoe Idealize.ShloMosaic.Tactic
open Idealize.SL.Sem

/-- The filtered value at row `t` of a padded strip `q` (eight rows of padding in front): the three taps of `w`. -/
def vAt (w : Vec Ideal S3x128 .f32) (q : Vec Ideal S4104x128 .f32) (t : Fin 4096) (l : Fin 128) : EReal :=
  w (ix2 0 l) * q (ix2 ⟨t.val + 6, by omega⟩ l) + w (ix2 1 l) * q (ix2 ⟨t.val + 7, by omega⟩ l)
    + w (ix2 2 l) * q (ix2 ⟨t.val + 8, by omega⟩ l)

/-- The gradient of the padded strip at row `t`, from the strip `d` of gradients of the filtered values. -/
def dqAt (w : Vec Ideal S3x128 .f32) (d : Vec Ideal S4104x128 .f32) (t : Fin 4096) (l : Fin 128) : EReal :=
  w (ix2 2 l) * d (ix2 ⟨t.val, by omega⟩ l) + w (ix2 1 l) * d (ix2 ⟨t.val + 1, by omega⟩ l)
    + w (ix2 0 l) * d (ix2 ⟨t.val + 2, by omega⟩ l)

/-- The three slabs that the loop leaves: the gradients of the output gate, of the input gate and of the value. -/
def slabs (gc hv : Vec Ideal S1x4096x128 .bf16) (dz : Vec Ideal S4096x128 .bf16) (w : Vec Ideal S3x128 .f32)
    (q d : Vec Ideal S4104x128 .f32) (p : Fin 3) (t : Fin 4096) (l : Fin 128) : EReal :=
  match p with
  | 0 => dz (ix2 t l) * vAt w q t l
  | 1 => dqAt w d t l * hv (ix3 0 t l)
  | 2 => dqAt w d t l * gc (ix3 0 t l)

theorem off1 : ∀ k : Fin k0_t1_loop.trips,
    k0_off1 k 6#32 = ![64 * k.val + 6, 0] ∧ k0_off1 k 7#32 = ![64 * k.val + 7, 0] ∧ k0_off1 k 8#32 = ![64 * k.val + 8, 0]
      ∧ k0_off1 k 1#32 = ![64 * k.val + 1, 0] ∧ k0_off1 k 2#32 = ![64 * k.val + 2, 0] := by decide +kernel
theorem off2 : ∀ k : Fin k0_t1_loop.trips, k0_off2 k = ![64 * k.val, 0] := by decide +kernel
theorem off3 : ∀ k : Fin k0_t1_loop.trips, k0_off3 k = ![0, 64 * k.val, 0] := by decide +kernel
theorem off4 : ∀ k : Fin k0_t1_loop.trips, k0_off4 k = ![64 * k.val, 0] := by decide +kernel
theorem off5 : ∀ k : Fin k0_t1_loop.trips, k0_off5 k = ![0, 64 * k.val, 0] := by decide +kernel
theorem off6 : ∀ k : Fin k0_t1_loop.trips, k0_off6 k = ![1, 64 * k.val, 0] := by decide +kernel
theorem off7 : ∀ k : Fin k0_t1_loop.trips, k0_off7 k = ![2, 64 * k.val, 0] := by decide +kernel
theorem trips_eq : k0_t1_loop.trips = 64 := by decide +kernel

variable (𝒱 : Variants) (c : Dev nD) (bd : Option 𝒱.V) (i : grid0.Coords)
  (arg1 : Memref sig .tc .vmem S1x4096x128 .bf16) (harg1 : arg1.IsWhole)
  (arg2 : Memref sig .tc .vmem S1x4096x128 .bf16) (harg2 : arg2.IsWhole)
  (arg3 : Memref sig .tc .vmem S1x4096x128 .bf16) (harg3 : arg3.IsWhole)
  (arg4 : Memref sig .tc .vmem S4096x128 .bf16) (harg4 : arg4.IsWhole)
  (arg5 : Memref sig .tc .vmem S3x128 .f32) (harg5 : arg5.IsWhole)
  (arg6 : Memref sig .tc .vmem S3x4096x128 .bf16) (harg6 : arg6.IsWhole)
  (arg7 : Memref sig .tc .vmem S3x128 .f32) (harg7 : arg7.IsWhole)
  (arg8 : Memref sig .tc .vmem S4104x128 .f32) (harg8 : arg8.IsWhole)
  (arg9 : Memref sig .tc .vmem S4104x128 .f32) (harg9 : arg9.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X8 : BufTy.Contents (Elt Ideal) arg8.view.ty) (X9 : BufTy.Contents (Elt Ideal) arg9.view.ty)

/-- Every piece that a trip stores holds, at each of its places, the value that `slabs` names there. -/
theorem trip_pieces (k : Fin k0_t1_loop.trips) (acc : FVec Ideal S8x128 .f32 × FVec Ideal S8x128 .f32 × FVec Ideal S8x128 .f32) :
    ∀ pc ∈ tripL_k0_t1 (F := Ideal) 𝒱 c bd i arg1 harg1 arg2 harg2 arg3 harg3 arg4 harg4 arg5 harg5 arg6 harg6 arg7 harg7
      arg8 harg8 arg9 harg9 X2 X3 X4 X5 X8 X9 k acc, ∀ x : pc.1.shape.Idx,
      pc.2 x = slabs (View.read (Elt Ideal) arg2.view X2) (View.read (Elt Ideal) arg3.view X3)
        (View.read (Elt Ideal) arg4.view X4) (View.read (Elt Ideal) arg5.view X5)
        (View.read (Elt Ideal) arg8.view X8) (View.read (Elt Ideal) arg9.view X9)
        (pc.1.emb x 0) (pc.1.emb x 1) (pc.1.emb x 2) := by
  have hk : k.val < 64 := trips_eq ▸ k.isLt
  obtain ⟨o6, o7, o8, o1, o2'⟩ := off1 k
  have e2 := off2 k; have e3 := off3 k; have e4 := off4 k; have e5 := off5 k; have e6 := off6 k; have e7 := off7 k
  unfold tripL_k0_t1 trip_k0_t1
  dsimp only
  sl_unfold_run_names
  dsimp only
  simp only [View.readAt_eq_ld]
  generalize View.read (Elt Ideal) arg2.view X2 = gc
  generalize View.read (Elt Ideal) arg3.view X3 = hv
  generalize View.read (Elt Ideal) arg4.view X4 = dz
  generalize View.read (Elt Ideal) arg5.view X5 = w
  generalize View.read (Elt Ideal) arg8.view X8 = q
  generalize View.read (Elt Ideal) arg9.view X9 = d
  intro pc hpc x
  have hx := fun a => Rect.emb_apply pc.1 x a
  rcases List.mem_cons.mp hpc with rfl | hpc
  · change (⟨3, ![1, 64, 128]⟩ : Shape).Idx at x
    dsimp only at hx ⊢
    generalize (Rect.unit (s := S3x4096x128) (k0_off7 k) ![1, 64, 128] _).emb x = y at hx ⊢
    idx_vars y
    have hx1 : (x 1).val < 64 := (x 1).isLt
    have hb : 64 * k.val + (x 1).val < 4096 := by omega
    have h0 : y0.val = k0_off7 k 0 + 1 * (x 0).val := hx 0
    have h1 : y1.val = k0_off7 k 1 + 1 * (x 1).val := hx 1
    have h2 : y2.val = k0_off7 k 2 + 1 * (x 2).val := hx 2
    have hx0 : (x 0).val < 1 := (x 0).isLt
    simp only [e7, Matrix.cons_val] at h0 h1 h2
    obtain rfl : y0 = 2 := Fin.ext (by show y0.val = 2; omega)
    obtain rfl : y1 = ⟨64 * k.val + (x 1).val, hb⟩ := Fin.ext (by simpa using h1)
    obtain rfl : y2 = x 2 := Fin.ext (by simpa using h2)
    pointwise [k0_pay8, k0_pay5, k0_pay6]
    simp only [slabs, dqAt, vAt]
    blk_point [e2, e4, e5, o1, o2', o6, o7, o8, Matrix.cons_val]
  rcases List.mem_cons.mp hpc with rfl | hpc
  · change (⟨3, ![1, 64, 128]⟩ : Shape).Idx at x
    dsimp only at hx ⊢
    generalize (Rect.unit (s := S3x4096x128) (k0_off6 k) ![1, 64, 128] _).emb x = y at hx ⊢
    idx_vars y
    have hx1 : (x 1).val < 64 := (x 1).isLt
    have hb : 64 * k.val + (x 1).val < 4096 := by omega
    have h0 : y0.val = k0_off6 k 0 + 1 * (x 0).val := hx 0
    have h1 : y1.val = k0_off6 k 1 + 1 * (x 1).val := hx 1
    have h2 : y2.val = k0_off6 k 2 + 1 * (x 2).val := hx 2
    have hx0 : (x 0).val < 1 := (x 0).isLt
    simp only [e6, Matrix.cons_val] at h0 h1 h2
    obtain rfl : y0 = 1 := Fin.ext (by show y0.val = 1; omega)
    obtain rfl : y1 = ⟨64 * k.val + (x 1).val, hb⟩ := Fin.ext (by simpa using h1)
    obtain rfl : y2 = x 2 := Fin.ext (by simpa using h2)
    pointwise [k0_pay7, k0_pay5, k0_pay6]
    simp only [slabs, dqAt, vAt]
    blk_point [e2, e4, e5, o1, o2', o6, o7, o8, Matrix.cons_val]
  rcases List.mem_cons.mp hpc with rfl | hpc
  · change (⟨3, ![1, 64, 128]⟩ : Shape).Idx at x
    dsimp only at hx ⊢
    generalize (Rect.unit (s := S3x4096x128) (k0_off3 k) ![1, 64, 128] _).emb x = y at hx ⊢
    idx_vars y
    have hx1 : (x 1).val < 64 := (x 1).isLt
    have hb : 64 * k.val + (x 1).val < 4096 := by omega
    have h0 : y0.val = k0_off3 k 0 + 1 * (x 0).val := hx 0
    have h1 : y1.val = k0_off3 k 1 + 1 * (x 1).val := hx 1
    have h2 : y2.val = k0_off3 k 2 + 1 * (x 2).val := hx 2
    have hx0 : (x 0).val < 1 := (x 0).isLt
    simp only [e3, Matrix.cons_val] at h0 h1 h2
    obtain rfl : y0 = 0 := Fin.ext (by show y0.val = 0; omega)
    obtain rfl : y1 = ⟨64 * k.val + (x 1).val, hb⟩ := Fin.ext (by simpa using h1)
    obtain rfl : y2 = x 2 := Fin.ext (by simpa using h2)
    pointwise [k0_pay4]
    simp only [slabs, dqAt, vAt]
    blk_point [e2, e4, e5, o1, o2', o6, o7, o8, Matrix.cons_val]
  exact absurd hpc List.not_mem_nil

/-- The product at row `t` that the running sum of tap `j` (0, 1, 2) takes in, at lane `l`; nothing past the last row. -/
def tapAt (q d : Vec Ideal S4104x128 .f32) (j : Fin 3) (l : Fin 128) (t : ℕ) : EReal :=
  if h : t < 4096 then d (ix2 ⟨t, by omega⟩ l) * q (ix2 ⟨t + 6 + j.val, by omega⟩ l) else 0

/-- A trip's three sums: each the sum carried in and eight products, of rows eight apart. -/
theorem trip_sums (k : Fin k0_t1_loop.trips) (hk : k.val < 64)
    (acc : FVec Ideal S8x128 .f32 × FVec Ideal S8x128 .f32 × FVec Ideal S8x128 .f32) (r : Fin 8) (l : Fin 128) :
    let R := tripR_k0_t1 (F := Ideal) 𝒱 c bd i arg1 harg1 arg2 harg2 arg3 harg3 arg4 harg4 arg5 harg5 arg6 harg6 arg7 harg7
      arg8 harg8 arg9 harg9 X2 X3 X4 X5 X8 X9 k acc
    let tap := tapAt (View.read (Elt Ideal) arg8.view X8) (View.read (Elt Ideal) arg9.view X9)
    R.1 (ix2 r l) = acc.1 (ix2 r l) + ∑ a : Fin 8, tap 0 l (64 * k.val + (a.val * 8 + r.val))
    ∧ R.2.1 (ix2 r l) = acc.2.1 (ix2 r l) + ∑ a : Fin 8, tap 1 l (64 * k.val + (a.val * 8 + r.val))
    ∧ R.2.2 (ix2 r l) = acc.2.2 (ix2 r l) + ∑ a : Fin 8, tap 2 l (64 * k.val + (a.val * 8 + r.val)) := by
  obtain ⟨o6, o7, o8, o1, o2'⟩ := off1 k
  have e4 := off4 k
  dsimp only
  unfold tripR_k0_t1 trip_k0_t1
  dsimp only
  sl_unfold_run_names
  dsimp only
  simp only [View.readAt_eq_ld]
  generalize View.read (Elt Ideal) arg8.view X8 = q
  generalize View.read (Elt Ideal) arg9.view X9 = d
  refine ⟨?_, ?_, ?_⟩ <;>
  · pointwise [k0_pay9, k0_pay10, k0_pay11, k0_pay17]
    refine congrArg (_ + ·) (Finset.sum_congr rfl fun a _ => ?_)
    have ha := a.isLt; have hr := r.isLt
    rw [tapAt, dif_pos (by omega)]
    blk_point [e4, o6, o7, o8, Matrix.cons_val]

/-- The piece lists of the first `n` trips hold `slabs` at their places. -/
theorem state_pieces (init : FVec Ideal S8x128 .f32 × FVec Ideal S8x128 .f32 × FVec Ideal S8x128 .f32) (n : ℕ)
    (hn : n ≤ k0_t1_loop.trips) :
    ∀ pc ∈ (st_k0_t1 (F := Ideal) 𝒱 c bd i arg1 harg1 arg2 harg2 arg3 harg3 arg4 harg4 arg5 harg5 arg6 harg6 arg7 harg7
      arg8 harg8 arg9 harg9 X2 X3 X4 X5 X8 X9 init n).2, ∀ x : pc.1.shape.Idx,
      pc.2 x = slabs (View.read (Elt Ideal) arg2.view X2) (View.read (Elt Ideal) arg3.view X3)
        (View.read (Elt Ideal) arg4.view X4) (View.read (Elt Ideal) arg5.view X5)
        (View.read (Elt Ideal) arg8.view X8) (View.read (Elt Ideal) arg9.view X9)
        (pc.1.emb x 0) (pc.1.emb x 1) (pc.1.emb x 2) := by
  induction n with
  | zero => intro pc hpc; exact absurd hpc List.not_mem_nil
  | succ n ih =>
    intro pc hpc
    rw [st_k0_t1_succ (F := Ideal) 𝒱 c bd i arg1 harg1 arg2 harg2 arg3 harg3 arg4 harg4 arg5 harg5 arg6 harg6 arg7 harg7
      arg8 harg8 arg9 harg9 X2 X3 X4 X5 X8 X9 init ⟨n, hn⟩] at hpc
    rcases List.mem_append.mp hpc with hpc | hpc
    · exact trip_pieces _ _ _ _ _ _ _ _ _ _ _ _ _ _ _ _ _ _ _ _ _ _ _ _ _ _ _ _ _ _ pc hpc
    · exact ih (Nat.le_of_succ_le hn) pc hpc

/-- The three running sums before trip `n`: what they started from and the products of the trips before. -/
theorem state_sums (init : FVec Ideal S8x128 .f32 × FVec Ideal S8x128 .f32 × FVec Ideal S8x128 .f32) (r : Fin 8)
    (l : Fin 128) (n : ℕ) (hn : n ≤ 64) :
    let S := (st_k0_t1 (F := Ideal) 𝒱 c bd i arg1 harg1 arg2 harg2 arg3 harg3 arg4 harg4 arg5 harg5 arg6 harg6 arg7 harg7
      arg8 harg8 arg9 harg9 X2 X3 X4 X5 X8 X9 init n).1
    let tap := tapAt (View.read (Elt Ideal) arg8.view X8) (View.read (Elt Ideal) arg9.view X9)
    S.1 (ix2 r l) = init.1 (ix2 r l) + ∑ k ∈ Finset.range n, ∑ a : Fin 8, tap 0 l (64 * k + (a.val * 8 + r.val))
    ∧ S.2.1 (ix2 r l) = init.2.1 (ix2 r l) + ∑ k ∈ Finset.range n, ∑ a : Fin 8, tap 1 l (64 * k + (a.val * 8 + r.val))
    ∧ S.2.2 (ix2 r l) = init.2.2 (ix2 r l) + ∑ k ∈ Finset.range n, ∑ a : Fin 8, tap 2 l (64 * k + (a.val * 8 + r.val)) := by
  induction n with
  | zero => simp only [Finset.range_zero, Finset.sum_empty, add_zero]; exact ⟨rfl, rfl, rfl⟩
  | succ n ih =>
    have hT : n < k0_t1_loop.trips := trips_eq ▸ hn
    have h := st_k0_t1_succ (F := Ideal) 𝒱 c bd i arg1 harg1 arg2 harg2 arg3 harg3 arg4 harg4 arg5 harg5 arg6 harg6 arg7 harg7
      arg8 harg8 arg9 harg9 X2 X3 X4 X5 X8 X9 init ⟨n, hT⟩
    dsimp only at ih ⊢
    obtain ⟨i0, i1, i2⟩ := ih (Nat.le_of_succ_le hn)
    have ht := trip_sums 𝒱 c bd i arg1 harg1 arg2 harg2 arg3 harg3 arg4 harg4 arg5 harg5 arg6 harg6 arg7 harg7
      arg8 harg8 arg9 harg9 X2 X3 X4 X5 X8 X9 ⟨n, hT⟩ hn
      (st_k0_t1 (F := Ideal) 𝒱 c bd i arg1 harg1 arg2 harg2 arg3 harg3 arg4 harg4 arg5 harg5 arg6 harg6 arg7 harg7
        arg8 harg8 arg9 harg9 X2 X3 X4 X5 X8 X9 init n).1 r l
    dsimp only at ht h
    rw [h]
    simp only [Finset.sum_range_succ]
    exact ⟨ht.1.trans (by rw [i0, add_assoc]), ht.2.1.trans (by rw [i1, add_assoc]), ht.2.2.trans (by rw [i2, add_assoc])⟩

/-- Sixty-four trips of eight times eight rows are the 4096 rows. -/
theorem rows_regroup (f : ℕ → EReal) :
    ∑ r : Fin 8, ∑ k ∈ Finset.range 64, ∑ a : Fin 8, f (64 * k + (a.val * 8 + r.val)) = ∑ t : Fin 4096, f t.val := by
  rw [Finset.sum_comm, Fin.sum_univ_eq_sum_range f 4096, show (4096 : ℕ) = 64 * 64 from rfl, Finset.sum_range_mul_split 64 64]
  refine Finset.sum_congr rfl fun k _ => ?_
  rw [Finset.sum_comm, show Finset.range 64 = Finset.range (8 * 8) from rfl, Finset.sum_range_mul_split 8 8,
    ← Fin.sum_univ_eq_sum_range (fun a => ∑ b ∈ Finset.range 8, f (k * 64 + (a * 8 + b)))]
  refine Finset.sum_congr rfl fun a _ => ?_
  rw [← Fin.sum_univ_eq_sum_range (fun b => f (k * 64 + (a.val * 8 + b)))]
  refine Finset.sum_congr rfl fun b _ => ?_
  rw [Nat.mul_comm]

end Cert.Proof.Gate

end
-- ==== Proof.GateBlock.lean ====
/- What one grid point of the strip kernel computes from its five input blocks: the two padded strips that it keeps in its
   scratch, the three slabs of gradients, and the three rows of gradients of the taps. -/
module

public import proofs.«01_k».proof.Proof.GateTrip

@[expose] public section

set_option maxRecDepth 16384

noncomputable section

namespace Cert.Proof.Gate

open Cert.KernelIdeal Cert.KernelIdeal.Gen Idealize.ShloMosaic Idealize.ShloMosaic.TcCoe Idealize.ShloMosaic.Tactic
open Idealize.SL.Sem

/-- Row `n` of the gated input, eight rows of zeros in front of it. -/
def qRow (gc hv : Vec Ideal S1x4096x128 .bf16) (n : ℕ) (hn : n < 4104) (l : Fin 128) : EReal :=
  if h : 8 ≤ n then gc (ix3 0 ⟨n - 8, by omega⟩ l) * hv (ix3 0 ⟨n - 8, by omega⟩ l) else 0

/-- The gated input, eight rows of zeros in front of it. -/
def qPad (gc hv : Vec Ideal S1x4096x128 .bf16) : Vec Ideal S4104x128 .f32 := fun y => qRow gc hv (y 0).val (y 0).isLt (y 1)

/-- Row `n` of the gradient of the filtered values, eight rows of zeros behind it. -/
def dRow (dz : Vec Ideal S4096x128 .bf16) (gb : Vec Ideal S1x4096x128 .bf16) (n : ℕ) (l : Fin 128) : EReal :=
  if h : n < 4096 then dz (ix2 ⟨n, h⟩ l) * gb (ix3 0 ⟨n, h⟩ l) else 0

/-- The gradient of the filtered values, eight rows of zeros behind it. -/
def dPad (dz : Vec Ideal S4096x128 .bf16) (gb : Vec Ideal S1x4096x128 .bf16) : Vec Ideal S4104x128 .f32 :=
  fun y => dRow dz gb (y 0).val (y 1)

/-- The first padded strip, as its two stores leave it. -/
theorem q_canon (gc hv : Vec Ideal S1x4096x128 .bf16) :
    View.canon (Val := Elt Ideal) (s := S4104x128) (e := .f32)
      [⟨Rect.unit ![8, 0] ![4096, 128] inb_S4104x128_S4096x128_8_0,
          k0_pay13 (F := Ideal) (View.ld gc (Rect.unit ![0, 0, 0] ![1, 4096, 128] inb_S1x4096x128_S1x4096x128_0_0_0))
            (View.ld hv (Rect.unit ![0, 0, 0] ![1, 4096, 128] inb_S1x4096x128_S1x4096x128_0_0_0))⟩,
        ⟨Rect.unit ![0, 0] ![8, 128] inb_S4104x128_S8x128_0_0, k0_pay12 (F := Ideal)⟩] = qPad gc hv := by
  funext y
  refine View.canon_apply_of_pieces (qPad gc hv) _ ?_ y ?_
  · intro pc hpc x
    simp only [List.mem_cons, List.not_mem_nil, or_false] at hpc
    rcases hpc with rfl | rfl
    · have hx := fun a => Rect.emb_apply (Rect.unit (s := S4104x128) ![8, 0] ![4096, 128] inb_S4104x128_S4096x128_8_0) x a
      change (⟨2, ![4096, 128]⟩ : Shape).Idx at x
      generalize (Rect.unit (s := S4104x128) ![8, 0] ![4096, 128] inb_S4104x128_S4096x128_8_0).emb x = y at hx ⊢
      idx_vars x; idx_vars y
      have h0 : y0.val = 8 + 1 * x0.val := hx 0
      have h1 : y1.val = 0 + 1 * x1.val := hx 1
      obtain rfl : y1 = x1 := Fin.ext (by omega)
      pointwise [k0_pay13]
      unfold qPad qRow
      have hc : ((ix2 y0 y1 : S4104x128.Idx) 0).val = y0.val := rfl
      rw [dif_pos (by omega)]
      blk_point [hc, h0]
    · have hx := fun a => Rect.emb_apply (Rect.unit (s := S4104x128) ![0, 0] ![8, 128] inb_S4104x128_S8x128_0_0) x a
      change (⟨2, ![8, 128]⟩ : Shape).Idx at x
      generalize (Rect.unit (s := S4104x128) ![0, 0] ![8, 128] inb_S4104x128_S8x128_0_0).emb x = y at hx ⊢
      have h0 : (y 0).val = 0 + 1 * (x 0).val := hx 0
      have hb : (x 0).val < 8 := (x 0).isLt
      idx_vars x
      pointwise [k0_pay12]
      unfold qPad qRow
      rw [dif_neg (by omega)]
  · have hy0 : (y 0).val < 4104 := (y 0).isLt
    have hy1 : (y 1).val < 128 := (y 1).isLt
    by_cases h : 8 ≤ (y 0).val
    · refine ⟨_, List.mem_cons_self, (Rect.mem_set_unit (inb := inb_S4104x128_S4096x128_8_0)).mpr fun a => ?_⟩
      match a with
      | 0 => exact ⟨h, show (y 0).val < 8 + 4096 by omega⟩
      | 1 => exact ⟨Nat.zero_le _, show (y 1).val < 0 + 128 by omega⟩
    · refine ⟨_, List.mem_cons_of_mem _ List.mem_cons_self, (Rect.mem_set_unit (inb := inb_S4104x128_S8x128_0_0)).mpr fun a => ?_⟩
      match a with
      | 0 => exact ⟨Nat.zero_le _, show (y 0).val < 0 + 8 by omega⟩
      | 1 => exact ⟨Nat.zero_le _, show (y 1).val < 0 + 128 by omega⟩

/-- The second padded strip, as its two stores leave it. -/
theorem d_canon (dz : Vec Ideal S4096x128 .bf16) (gb : Vec Ideal S1x4096x128 .bf16) :
    View.canon (Val := Elt Ideal) (s := S4104x128) (e := .f32)
      [⟨Rect.unit ![0, 0] ![4096, 128] inb_S4104x128_S4096x128_0_0,
          k0_pay15 (F := Ideal) (View.ld dz (Rect.unit ![0, 0] ![4096, 128] inb_S4096x128_S4096x128_0_0))
            (View.ld gb (Rect.unit ![0, 0, 0] ![1, 4096, 128] inb_S1x4096x128_S1x4096x128_0_0_0))⟩,
        ⟨Rect.unit ![4096, 0] ![8, 128] inb_S4104x128_S8x128_4096_0, k0_pay14 (F := Ideal)⟩] = dPad dz gb := by
  funext y
  refine View.canon_apply_of_pieces (dPad dz gb) _ ?_ y ?_
  · intro pc hpc x
    simp only [List.mem_cons, List.not_mem_nil, or_false] at hpc
    rcases hpc with rfl | rfl
    · have hx := fun a => Rect.emb_apply (Rect.unit (s := S4104x128) ![0, 0] ![4096, 128] inb_S4104x128_S4096x128_0_0) x a
      change (⟨2, ![4096, 128]⟩ : Shape).Idx at x
      generalize (Rect.unit (s := S4104x128) ![0, 0] ![4096, 128] inb_S4104x128_S4096x128_0_0).emb x = y at hx ⊢
      idx_vars x; idx_vars y
      have h0 : y0.val = 0 + 1 * x0.val := hx 0
      have h1 : y1.val = 0 + 1 * x1.val := hx 1
      obtain rfl : y1 = x1 := Fin.ext (by omega)
      pointwise [k0_pay15]
      unfold dPad dRow
      have hc : ((ix2 y0 y1 : S4104x128.Idx) 0).val = y0.val := rfl
      rw [dif_pos (by omega)]
      blk_point [hc, h0]
    · have hx := fun a => Rect.emb_apply (Rect.unit (s := S4104x128) ![4096, 0] ![8, 128] inb_S4104x128_S8x128_4096_0) x a
      change (⟨2, ![8, 128]⟩ : Shape).Idx at x
      generalize (Rect.unit (s := S4104x128) ![4096, 0] ![8, 128] inb_S4104x128_S8x128_4096_0).emb x = y at hx ⊢
      have h0 : (y 0).val = 4096 + 1 * (x 0).val := hx 0
      idx_vars x
      pointwise [k0_pay14]
      unfold dPad dRow
      rw [dif_neg (by omega)]
  · have hy0 : (y 0).val < 4104 := (y 0).isLt
    have hy1 : (y 1).val < 128 := (y 1).isLt
    by_cases h : (y 0).val < 4096
    · refine ⟨_, List.mem_cons_self, (Rect.mem_set_unit (inb := inb_S4104x128_S4096x128_0_0)).mpr fun a => ?_⟩
      match a with
      | 0 => exact ⟨Nat.zero_le _, show (y 0).val < 0 + 4096 by omega⟩
      | 1 => exact ⟨Nat.zero_le _, show (y 1).val < 0 + 128 by omega⟩
    · refine ⟨_, List.mem_cons_of_mem _ List.mem_cons_self, (Rect.mem_set_unit (inb := inb_S4104x128_S8x128_4096_0)).mpr fun a => ?_⟩
      match a with
      | 0 => exact ⟨show 4096 ≤ (y 0).val by omega, show (y 0).val < 4096 + 8 by omega⟩
      | 1 => exact ⟨Nat.zero_le _, show (y 1).val < 0 + 128 by omega⟩

/-- The last step for tap 0: the sum of the eight running rows. -/
theorem rowsum1 (S : FVec Ideal S8x128 .f32) (a : Fin 1) (l : Fin 128) :
    k0_pay1 (F := Ideal) S (ix2 a l) = ∑ r : Fin 8, S (ix2 r l) := by
  pointwise [k0_pay1]

/-- The last step for tap 1: the sum of the eight running rows. -/
theorem rowsum2 (S : FVec Ideal S8x128 .f32) (a : Fin 1) (l : Fin 128) :
    k0_pay2 (F := Ideal) S (ix2 a l) = ∑ r : Fin 8, S (ix2 r l) := by
  pointwise [k0_pay2]

/-- The last step for tap 2: the sum of the eight running rows. -/
theorem rowsum3 (S : FVec Ideal S8x128 .f32) (a : Fin 1) (l : Fin 128) :
    k0_pay3 (F := Ideal) S (ix2 a l) = ∑ r : Fin 8, S (ix2 r l) := by
  pointwise [k0_pay3]

/-- The running sums start at zero. -/
theorem zero_block (r : Fin 8) (l : Fin 128) : k0_pay16 (F := Ideal) (ix2 r l) = 0 := by
  pointwise [k0_pay16]

variable (c : Dev nD) (i : grid0.Coords)
  (arg1 : Memref sig .tc .vmem S1x4096x128 .bf16) (harg1 : arg1.IsWhole)
  (arg2 : Memref sig .tc .vmem S1x4096x128 .bf16) (harg2 : arg2.IsWhole)
  (arg3 : Memref sig .tc .vmem S1x4096x128 .bf16) (harg3 : arg3.IsWhole)
  (arg4 : Memref sig .tc .vmem S4096x128 .bf16) (harg4 : arg4.IsWhole)
  (arg5 : Memref sig .tc .vmem S3x128 .f32) (harg5 : arg5.IsWhole)
  (arg6 : Memref sig .tc .vmem S3x4096x128 .bf16) (harg6 : arg6.IsWhole)
  (arg7 : Memref sig .tc .vmem S3x128 .f32) (harg7 : arg7.IsWhole)
  (arg8 : Memref sig .tc .vmem S4104x128 .f32) (harg8 : arg8.IsWhole)
  (arg9 : Memref sig .tc .vmem S4104x128 .f32) (harg9 : arg9.IsWhole)
  (gb gc hv : Vec Ideal S1x4096x128 .bf16) (dz : Vec Ideal S4096x128 .bf16) (w : Vec Ideal S3x128 .f32)

/-- The block of the first output at a grid point: the three slabs of gradients. -/
theorem block5 (y : S3x4096x128.Idx) :
    out0_A_5 (F := Ideal) c i arg1 harg1 arg2 harg2 arg3 harg3 arg4 harg4 arg5 harg5 arg6 harg6 arg7 harg7 arg8 harg8 arg9 harg9
      gb gc hv dz w y = slabs gc hv dz w (qPad gc hv) (dPad dz gb) (y 0) (y 1) (y 2) := by
  unfold out0_A_5
  rw [View.read_writes_junk_eq_canon]
  refine View.canon_apply_of_pieces (fun y => slabs gc hv dz w (qPad gc hv) (dPad dz gb) (y 0) (y 1) (y 2)) _ ?_ y
    (cover0_A_5 c i arg1 harg1 arg2 harg2 arg3 harg3 arg4 harg4 arg5 harg5 arg6 harg6 arg7 harg7 arg8 harg8 arg9 harg9
      gb gc hv dz w y)
  unfold kernelRun0_A; dsimp only; sl_unfold_run_names; dsimp only
  simp only [View.readAt_eq_ld, harg2.read_unread, harg3.read_unread, harg4.read_unread, harg1.read_unread]
  have h := fun X8 X9 init => state_pieces Variants.none c none i arg1 harg1 arg2 harg2 arg3 harg3 arg4 harg4 arg5 harg5
    arg6 harg6 arg7 harg7 arg8 harg8 arg9 harg9 (harg2.unread gc) (harg3.unread hv) (harg4.unread dz) (harg5.unread w)
    X8 X9 init k0_t1_loop.trips le_rfl
  simp only [harg2.read_unread, harg3.read_unread, harg4.read_unread, harg5.read_unread] at h
  intro pc hpc x
  refine (h _ _ _ pc hpc x).trans ?_
  rw [View.read_writes_junk_eq_canon, View.read_writes_junk_eq_canon, q_canon, d_canon]

/-- The block of the second output at a grid point: per tap and lane, the sum over all rows. -/
theorem block6 (j : Fin 3) (l : Fin 128) :
    out0_A_6 (F := Ideal) c i arg1 harg1 arg2 harg2 arg3 harg3 arg4 harg4 arg5 harg5 arg6 harg6 arg7 harg7 arg8 harg8 arg9 harg9
      gb gc hv dz w (ix2 j l) = ∑ t : Fin 4096, tapAt (qPad gc hv) (dPad dz gb) j l t.val := by
  unfold out0_A_6
  rw [View.read_writes_junk_eq_canon]
  refine View.canon_apply_of_pieces (fun y => ∑ t : Fin 4096, tapAt (qPad gc hv) (dPad dz gb) (y 0) (y 1) t.val) _ ?_ (ix2 j l)
    (cover0_A_6 c i arg1 harg1 arg2 harg2 arg3 harg3 arg4 harg4 arg5 harg5 arg6 harg6 arg7 harg7 arg8 harg8 arg9 harg9
      gb gc hv dz w (ix2 j l))
  unfold kernelRun0_A; dsimp only; sl_unfold_run_names; dsimp only
  simp only [View.readAt_eq_ld, harg2.read_unread, harg3.read_unread, harg4.read_unread, harg1.read_unread]
  have h := fun X8 X9 init r l => state_sums Variants.none c none i arg1 harg1 arg2 harg2 arg3 harg3 arg4 harg4 arg5 harg5
    arg6 harg6 arg7 harg7 arg8 harg8 arg9 harg9 (harg2.unread gc) (harg3.unread hv) (harg4.unread dz) (harg5.unread w)
    X8 X9 init r l 64 le_rfl
  have hT : Scf.trips 0#32 (Scalar.addi 0#32 64#32) 1#32 = 64 := by decide +kernel
  dsimp only at h
  intro pc hpc x
  simp only [List.mem_cons, List.not_mem_nil, or_false] at hpc
  rcases hpc with rfl | rfl | rfl
  · have hx := fun a => Rect.emb_apply (Rect.unit (s := S3x128) ![2, 0] ![1, 128] inb_S3x128_S1x128_2_0) x a
    change (⟨2, ![1, 128]⟩ : Shape).Idx at x
    dsimp only
    generalize (Rect.unit (s := S3x128) ![2, 0] ![1, 128] inb_S3x128_S1x128_2_0).emb x = y at hx ⊢
    idx_vars x; idx_vars y
    have h0 : y0.val = 2 + 1 * x0.val := hx 0
    have h1 : y1.val = 0 + 1 * x1.val := hx 1
    obtain rfl : y0 = 2 := Fin.ext (by have := x0.isLt; simp only [h0]; omega)
    obtain rfl : y1 = x1 := Fin.ext (by omega)
    rw [hT, rowsum3]
    refine (Finset.sum_congr rfl fun r _ => (h _ _ _ r y1).2.2).trans ?_
    simp only [zero_block, zero_add]
    rw [rows_regroup, View.read_writes_junk_eq_canon, View.read_writes_junk_eq_canon, q_canon, d_canon]
  · have hx := fun a => Rect.emb_apply (Rect.unit (s := S3x128) ![1, 0] ![1, 128] inb_S3x128_S1x128_1_0) x a
    change (⟨2, ![1, 128]⟩ : Shape).Idx at x
    dsimp only
    generalize (Rect.unit (s := S3x128) ![1, 0] ![1, 128] inb_S3x128_S1x128_1_0).emb x = y at hx ⊢
    idx_vars x; idx_vars y
    have h0 : y0.val = 1 + 1 * x0.val := hx 0
    have h1 : y1.val = 0 + 1 * x1.val := hx 1
    obtain rfl : y0 = 1 := Fin.ext (by have := x0.isLt; simp only [h0]; omega)
    obtain rfl : y1 = x1 := Fin.ext (by omega)
    rw [hT, rowsum2]
    refine (Finset.sum_congr rfl fun r _ => (h _ _ _ r y1).2.1).trans ?_
    simp only [zero_block, zero_add]
    rw [rows_regroup, View.read_writes_junk_eq_canon, View.read_writes_junk_eq_canon, q_canon, d_canon]
  · have hx := fun a => Rect.emb_apply (Rect.unit (s := S3x128) ![0, 0] ![1, 128] inb_S3x128_S1x128_0_0) x a
    change (⟨2, ![1, 128]⟩ : Shape).Idx at x
    dsimp only
    generalize (Rect.unit (s := S3x128) ![0, 0] ![1, 128] inb_S3x128_S1x128_0_0).emb x = y at hx ⊢
    idx_vars x; idx_vars y
    have h0 : y0.val = 0 + 1 * x0.val := hx 0
    have h1 : y1.val = 0 + 1 * x1.val := hx 1
    obtain rfl : y0 = 0 := Fin.ext (by have := x0.isLt; simp only [h0]; omega)
    obtain rfl : y1 = x1 := Fin.ext (by omega)
    rw [hT, rowsum1]
    refine (Finset.sum_congr rfl fun r _ => (h _ _ _ r y1).1).trans ?_
    simp only [zero_block, zero_add]
    rw [rows_regroup, View.read_writes_junk_eq_canon, View.read_writes_junk_eq_canon, q_canon, d_canon]

end Cert.Proof.Gate
-- ==== Proof.GateSpec.lean ====
/- The gradients of the short gated convolution, as plain functions of the three arrays: the gradient of each of the three
   parts of the projection, and the gradient of the three taps. -/
module

public import Idealize.ShloMosaic.Lib.Pipeline.ValueKit
public import Idealize.ShloMosaic.Lib.Pointwise

@[expose] public section

noncomputable section

namespace Cert.Proof.Gate

open Idealize.ShloMosaic Idealize.ShloMosaic.TcCoe Idealize.ShloMosaic.Tactic

variable (p : (⟨3, ![3, 4096, 1024]⟩ : Shape).Idx → EReal) (dz : (⟨2, ![4096, 1024]⟩ : Shape).Idx → EReal)
  (w : (⟨2, ![3, 1024]⟩ : Shape).Idx → EReal)

/-- The convolved sequence `gc * hv`, with two zeros in front. -/
def qAt (t : ℕ) (l : Fin 1024) : EReal :=
  if h : 2 ≤ t ∧ t < 4098 then p (ix3 1 ⟨t - 2, by omega⟩ l) * p (ix3 2 ⟨t - 2, by omega⟩ l) else 0

/-- The gradient of the convolution's result, `dz * gb`, with zeros behind it. -/
def dAt (t : ℕ) (l : Fin 1024) : EReal :=
  if h : t < 4096 then dz (ix2 ⟨t, h⟩ l) * p (ix3 0 ⟨t, h⟩ l) else 0

/-- The convolution's result. -/
def convAt (t : ℕ) (l : Fin 1024) : EReal :=
  w (ix2 0 l) * qAt p t l + w (ix2 1 l) * qAt p (t + 1) l + w (ix2 2 l) * qAt p (t + 2) l

/-- The gradient of the convolved sequence. -/
def backAt (t : ℕ) (l : Fin 1024) : EReal :=
  w (ix2 2 l) * dAt p dz t l + w (ix2 1 l) * dAt p dz (t + 1) l + w (ix2 0 l) * dAt p dz (t + 2) l

/-- The gradient of part `j` of the projection. -/
def gradProj (j : Fin 3) (t : Fin 4096) (l : Fin 1024) : EReal :=
  match j with
  | 0 => dz (ix2 t l) * convAt p w t.val l
  | 1 => backAt p dz w t.val l * p (ix3 2 t l)
  | 2 => backAt p dz w t.val l * p (ix3 1 t l)

/-- The gradient of tap `j`. -/
def gradTap (j : Fin 3) (l : Fin 1024) : EReal :=
  ∑ t : Fin 4096, dAt p dz t.val l * qAt p (t.val + j.val) l

end Cert.Proof.Gate
-- ==== Proof.GateArray.lean ====
/- The two arrays that the strip kernel leaves hold the gradients that GateSpec names. -/
module

public import proofs.«01_k».proof.Proof.GateBlock
public import proofs.«01_k».proof.Proof.GateSpec

@[expose] public section

set_option maxRecDepth 16384

noncomputable section

namespace Cert.Proof.Gate

open Cert.KernelIdeal Cert.KernelIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- The block of window 0 at point `t`: part 0 of the projection, lanes `128 t …`. -/
theorem blk_gb (t : Fin cfg0.N) (r : Fin 4096) (l : Fin 128) (L : Fin 1024) (hL : L.val = 128 * t.val + l.val) :
    (iblk m c 0 t : Vec Ideal S1x4096x128 .bf16) (ix3 0 r l) = (V m c main_arg0 : Vec Ideal S3x4096x1024 .bf16) (ix3 0 r L) := by
  have hi : ∀ t : Fin cfg0.N, (cfg0.win 0).index t = ![0, 0, t.val] := by decide +kernel
  blk_ext [iblk, V, hi t, hL]

/-- The block of window 1 at point `t`: part 1 of the projection, lanes `128 t …`. -/
theorem blk_gc (t : Fin cfg0.N) (r : Fin 4096) (l : Fin 128) (L : Fin 1024) (hL : L.val = 128 * t.val + l.val) :
    (iblk m c 1 t : Vec Ideal S1x4096x128 .bf16) (ix3 0 r l) = (V m c main_arg0 : Vec Ideal S3x4096x1024 .bf16) (ix3 1 r L) := by
  have hi : ∀ t : Fin cfg0.N, (cfg0.win 1).index t = ![1, 0, t.val] := by decide +kernel
  blk_ext [iblk, V, hi t, hL]

/-- The block of window 2 at point `t`: part 2 of the projection, lanes `128 t …`. -/
theorem blk_hv (t : Fin cfg0.N) (r : Fin 4096) (l : Fin 128) (L : Fin 1024) (hL : L.val = 128 * t.val + l.val) :
    (iblk m c 2 t : Vec Ideal S1x4096x128 .bf16) (ix3 0 r l) = (V m c main_arg0 : Vec Ideal S3x4096x1024 .bf16) (ix3 2 r L) := by
  have hi : ∀ t : Fin cfg0.N, (cfg0.win 2).index t = ![2, 0, t.val] := by decide +kernel
  blk_ext [iblk, V, hi t, hL]

/-- The block of window 3 at point `t`: lanes `128 t …` of argument 1. -/
theorem blk_dz (t : Fin cfg0.N) (r : Fin 4096) (l : Fin 128) (L : Fin 1024) (hL : L.val = 128 * t.val + l.val) :
    (iblk m c 3 t : Vec Ideal S4096x128 .bf16) (ix2 r l) = (V m c main_arg1 : Vec Ideal S4096x1024 .bf16) (ix2 r L) := by
  have hi : ∀ t : Fin cfg0.N, (cfg0.win 3).index t = ![0, t.val] := by decide +kernel
  blk_ext [iblk, V, hi t, hL]

/-- The block of window 4 at point `t`: lanes `128 t …` of argument 2. -/
theorem blk_w (t : Fin cfg0.N) (r : Fin 3) (l : Fin 128) (L : Fin 1024) (hL : L.val = 128 * t.val + l.val) :
    (iblk m c 4 t : Vec Ideal S3x128 .f32) (ix2 r l) = (V m c main_arg2 : Vec Ideal S3x1024 .f32) (ix2 r L) := by
  have hi : ∀ t : Fin cfg0.N, (cfg0.win 4).index t = ![0, t.val] := by decide +kernel
  blk_ext [iblk, V, hi t, hL]

/-- The strip of padded inputs at point `t`, row `n + 6`, is the padded sequence at `n`. -/
theorem q_row (t : Fin cfg0.N) (n : ℕ) (hn : n < 4098) (l : Fin 128) (L : Fin 1024) (hL : L.val = 128 * t.val + l.val) :
    qPad (iblk m c 1 t) (iblk m c 2 t) (ix2 ⟨n + 6, by omega⟩ l) = qAt (V m c main_arg0) n L := by
  change qRow (iblk m c 1 t) (iblk m c 2 t) (n + 6) _ l = _
  unfold qRow qAt
  by_cases h : 2 ≤ n
  · rw [dif_pos (by omega), dif_pos ⟨h, hn⟩]
    refine congrArg₂ (· * ·) ((blk_gc m c t _ l L hL).trans ?_) ((blk_hv m c t _ l L hL).trans ?_) <;> congr 2
  · rw [dif_neg (by omega), dif_neg (by omega)]

/-- The strip of gradients at point `t`, row `n`. -/
theorem d_row (t : Fin cfg0.N) (n : ℕ) (hn : n < 4104) (l : Fin 128) (L : Fin 1024) (hL : L.val = 128 * t.val + l.val) :
    dPad (iblk m c 3 t) (iblk m c 0 t) (ix2 ⟨n, hn⟩ l) = dAt (V m c main_arg0) (V m c main_arg1) n L := by
  change dRow (iblk m c 3 t) (iblk m c 0 t) n l = _
  unfold dRow dAt
  by_cases h : n < 4096
  · rw [dif_pos h, dif_pos h]
    exact congrArg₂ (· * ·) (blk_dz m c t _ l L hL) (blk_gb m c t _ l L hL)
  · rw [dif_neg h, dif_neg h]

/-- The three slabs at point `t` are the gradients at the point's lanes. -/
theorem slabs_eq (t : Fin cfg0.N) (j : Fin 3) (r : Fin 4096) (l : Fin 128) (L : Fin 1024) (hL : L.val = 128 * t.val + l.val) :
    slabs (iblk m c 1 t) (iblk m c 2 t) (iblk m c 3 t) (iblk m c 4 t) (qPad (iblk m c 1 t) (iblk m c 2 t))
      (dPad (iblk m c 3 t) (iblk m c 0 t)) j r l
    = gradProj (V m c main_arg0) (V m c main_arg1) (V m c main_arg2) j r L := by
  have hw := fun r => blk_w m c t r l L hL
  have hd := fun n hn => d_row m c t n hn l L hL
  have hq := fun n hn => q_row m c t n hn l L hL
  have e0 := hq r.val (by omega); have e1 := hq (r.val + 1) (by omega); have e2 := hq (r.val + 2) (by omega)
  match j with
  | 0 => simp only [slabs, gradProj, vAt, convAt]; rw [hw, hw, hw, blk_dz m c t r l L hL, ← e0, ← e1, ← e2]
  | 1 => simp only [slabs, gradProj, dqAt, backAt]; rw [hw, hw, hw, hd, hd, hd, blk_hv m c t r l L hL]
  | 2 => simp only [slabs, gradProj, dqAt, backAt]; rw [hw, hw, hw, hd, hd, hd, blk_gc m c t r l L hL]

/-- The first array after the run: the gradient of the projection. -/
theorem array5 : (dats m 0 c).arrAt 5 cfg0.N
    = fun y : S3x4096x1024.Idx => gradProj (V m c main_arg0) (V m c main_arg1) (V m c main_arg2) (y 0) (y 1) (y 2) := by
  refine (dats m 0 c).arrAt_eq_of_covers 5 _ (by decide +kernel) fun t hf y => ?_
  blk_simp
  rw [after0_5]
  unfold outsAt0
  dsimp only
  rw [block5]
  have hi : ∀ t : Fin cfg0.N, (cfg0.win 5).index t = ![0, 0, t.val] := by decide +kernel
  have h0 : (((cfg0.win 5).blk t).view.emb y 0 : ℕ) = (y 0).val := by blk_simp [hi t]
  have h1 : (((cfg0.win 5).blk t).view.emb y 1 : ℕ) = (y 1).val := by blk_simp [hi t]
  have h2 : (((cfg0.win 5).blk t).view.emb y 2 : ℕ) = 128 * t.val + (y 2).val := by blk_simp [hi t]; omega
  rw [slabs_eq m c t (y 0) (y 1) (y 2) _ h2]
  exact congrArg₂ (fun a b => gradProj _ _ _ a b _) (Fin.ext h0.symm) (Fin.ext h1.symm)

/-- The second array after the run: the gradient of the taps. -/
theorem array6 : (dats m 0 c).arrAt 6 cfg0.N
    = fun y : S3x1024.Idx => gradTap (V m c main_arg0) (V m c main_arg1) (y 0) (y 1) := by
  refine (dats m 0 c).arrAt_eq_of_covers 6 _ (by decide +kernel) fun t hf y => ?_
  blk_simp
  rw [after0_6]
  unfold outsAt0
  dsimp only
  have hi : ∀ t : Fin cfg0.N, (cfg0.win 6).index t = ![0, t.val] := by decide +kernel
  have h0 : (((cfg0.win 6).blk t).view.emb y 0 : ℕ) = (y 0).val := by blk_simp [hi t]
  have h1 : (((cfg0.win 6).blk t).view.emb y 1 : ℕ) = 128 * t.val + (y 1).val := by blk_simp [hi t]; omega
  change S3x128.Idx at y
  refine Eq.trans (b := ∑ n : Fin 4096, tapAt (qPad (iblk m c 1 t) (iblk m c 2 t)) (dPad (iblk m c 3 t) (iblk m c 0 t))
    (y 0) (y 1) n.val) ?_ ?_
  · idx_vars y
    rw [block6]
  · refine Eq.trans ?_ (congrArg (fun a => gradTap _ _ a (((cfg0.win 6).blk t).view.emb y 1)) (Fin.ext h0.symm))
    unfold gradTap
    refine Finset.sum_congr rfl fun n _ => ?_
    have hj : (y 0).val < 3 := (y 0).isLt
    unfold tapAt
    rw [dif_pos n.isLt]
    refine congrArg₂ (· * ·) (d_row m c t n.val (by omega) (y 1) _ h1) (Eq.trans ?_ (q_row m c t (n.val + (y 0).val) (by omega) (y 1) _ h1))
    refine congrArg (fun k => qPad (iblk m c 1 t) (iblk m c 2 t) (ix2 k (y 1))) (Fin.ext ?_)
    show n.val + 6 + (y 0).val = n.val + (y 0).val + 6
    omega

end Cert.Proof.Gate
-- ==== Proof.GateRef.lean ====
/- The reference's two results at an index are the gradients that GateSpec names. -/
module

public import proofs.«01_k».proof.Proof.Gen.ReferenceIdeal.Run
public import proofs.«01_k».proof.Proof.Gen.ReferenceIdeal.Read
public import proofs.«01_k».proof.Proof.GateSpec

@[expose] public section

set_option maxRecDepth 16384

noncomputable section

namespace Cert.Proof.GateRef

open Cert.ReferenceIdeal Cert.ReferenceIdeal.Gen Cert.ReferenceIdeal.Read Idealize.ShloMosaic Idealize.ShloMosaic.TcCoe
open Idealize.ShloMosaic.Tactic Idealize.SL.Sem Cert.Proof.Gate

variable (p : (⟨S3x4096x1024, .bf16⟩ : BufTy).Contents (Elt Ideal)) (dz : (⟨S4096x1024, .bf16⟩ : BufTy).Contents (Elt Ideal))
  (w : (⟨S3x1024, .f32⟩ : BufTy).Contents (Elt Ideal))

theorem q_at (t : Fin 4098) (l : Fin 1024) : val_main_v9 (F := Ideal) p (ix2 t l) = qAt p t.val l := by
  pointwise [val_main_v9, val_main_v8, val_main_v7, val_main_v6, val_main_v5, val_main_v4, val_main_v3, val_main_v0, val_main_cst]
  rw [qAt]
  by_cases h : t.val < 2
  · rw [dif_pos h, dif_neg (by omega)]
  · rw [dif_neg h, dif_pos ⟨by omega, t.isLt⟩]

theorem d_at (t : Fin 4096) (l : Fin 1024) : val_main_v35 (F := Ideal) p dz (ix2 t l) = dAt p dz t.val l := by
  pointwise [val_main_v35, val_main_v34, val_main_v2, val_main_v1, val_main_v0]
  rw [dAt, dif_pos t.isLt, mul_comm]

theorem conv_at (t : Fin 4096) (l : Fin 1024) : val_main_v32 (F := Ideal) p w (ix2 t l) = convAt p w t.val l := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_cst_1, q_at]
  simp only [convAt, zero_add, add_comm 1 t.val, add_comm 2 t.val]

theorem back_at (t : Fin 4096) (l : Fin 1024) : val_main_v69 (F := Ideal) p dz w (ix2 t l) = backAt p dz w t.val l := by
  pointwise [val_main_v69, val_main_v64, val_main_v63, val_main_v53, val_main_v52, val_main_v43, val_main_v38, val_main_v37,
    val_main_v47, val_main_v46, val_main_v58, val_main_v57, d_at, val_main_v29, val_main_v27, val_main_v26, val_main_v22,
    val_main_v20, val_main_v19, val_main_v14, val_main_v12, val_main_v11, val_main_cst_8, val_main_cst_12]
  simp only [backAt]
  congr 1
  · congr 1
    by_cases h : t.val + 1 < 4096
    · rw [dif_pos ⟨by omega, by omega⟩]; congr 2; omega
    · rw [dif_neg (by omega), dAt, dif_neg h, mul_zero]
  · by_cases h : 2 + t.val < 4096
    · rw [dif_pos h, add_comm 2 t.val]
    · rw [dif_neg h, dAt, dif_neg (by omega), mul_zero]

theorem res1_at (j : Fin 3) (l : Fin 1024) : val_main_v67 (F := Ideal) p dz (ix2 j l) = gradTap p dz j l := by
  pointwise [val_main_v67, val_main_v66, val_main_v65, val_main_v56, val_main_v62, val_main_v61, val_main_v60, val_main_v55,
    val_main_v54, val_main_v51, val_main_v50, val_main_v49, val_main_v45, val_main_v44, val_main_v42, val_main_v41, val_main_v40,
    val_main_v39, val_main_v48, val_main_v59, val_main_v28, val_main_v21, val_main_v13, q_at, d_at, val_main_cst_2, val_main_cst_3,
    val_main_cst_5, val_main_cst_6, val_main_cst_7, val_main_cst_9, val_main_cst_10, val_main_cst_11, val_main_cst_13]
  fin_cases j <;> simp [gradTap, add_comm]

theorem res0_at (j : Fin 3) (t : Fin 4096) (l : Fin 1024) :
    val_main_v80 (F := Ideal) p dz w (ix3 j t l) = gradProj p dz w j t l := by
  pointwise [val_main_v80, val_main_v79, val_main_v78, val_main_v77, val_main_v76, val_main_v75, val_main_v74, val_main_v73,
    val_main_v72, val_main_v71, val_main_v70, back_at, conv_at, val_main_v36, val_main_v34, val_main_v6, val_main_v5, val_main_v4,
    val_main_v3, val_main_v0, val_main_cst_14, val_main_cst_15, val_main_cst_16]
  fin_cases j <;> simp [gradProj, mul_comm]

end Cert.Proof.GateRef
-- ==== Proof.GateClaim.lean ====
/- The strip kernel leaves what the reference computes. -/
module

public import proofs.«01_k».proof.Defs
public import proofs.«01_k».proof.Proof.GateArray
public import proofs.«01_k».proof.Proof.GateRef

@[expose] public section

set_option maxRecDepth 16384

noncomputable section

namespace Cert.Proof.Gate

open Idealize.ShloMosaic Idealize.ShloMosaic.TcCoe Idealize.ShloMosaic.Tactic Idealize.SL.Sem

attribute [local instance] Cert.KernelIdeal.Gen.facts Cert.ReferenceIdeal.Gen.facts

/-- On the extended reals the kernel's two arrays are the reference's two results. -/
theorem algebraic : Cert.algebraic_KernelIdeal_ReferenceIdeal
    (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    · rw [Cert.ReferenceIdeal.Read.val_main_v80_eq, (hagree c).1, (hagree c).2.1, (hagree c).2.2, array5 m c]
      funext y
      change Cert.ReferenceIdeal.S3x4096x1024.Idx at y
      idx_vars y
      exact Cert.Proof.GateRef.res0_at _ _ _ y0 y1 y2
    · rw [array6 m c]
      refine (Cert.ReferenceIdeal.Read.val_main_v67_eq (F := Ideal) _ _).trans ?_
      funext y
      change Cert.ReferenceIdeal.S3x1024.Idx at y
      idx_vars y
      exact Cert.Proof.GateRef.res1_at _ _ y0 y1

end Cert.Proof.Gate
-- ==== Proof.WgradInArray.lean ====
/- The array that the input weight-gradient kernel of the feed-forward network leaves: a product over all tokens. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Proof.WgradIn

open Cert.Kernel3Ideal Cert.Kernel3Ideal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- One tile of tokens' share of an entry: the product of the two blocks there. -/
def part (u : Vec Ideal S1024x1024 .bf16) (v : Vec Ideal S1x1024x1408 .bf16) (j : S1024x1408.Idx) : EReal :=
  ∑ q : Fin 1024, u (ix2 q (j 0)) * v (ix3 0 q (j 1))

theorem pay2_at (u : Vec Ideal S1024x1024 .bf16) (v : Vec Ideal S1x1024x1408 .bf16) (j : S1024x1408.Idx) :
    k0_pay2 (F := Ideal) u v j = part u v j := by
  idx_vars j
  pointwise [k0_pay2, k0_pay1, part]
  try rfl

theorem pay3_at (u : Vec Ideal S1024x1024 .bf16) (v : Vec Ideal S1x1024x1408 .bf16) (a : Vec Ideal S1024x1408 .f32)
    (j : S1024x1408.Idx) : k0_pay3 (F := Ideal) u v a j = a j + part u v j := by
  idx_vars j
  pointwise [k0_pay3, k0_pay1, part]
  try rfl

theorem pay4_at (a : Vec Ideal S1024x1408 .f32) (j : S1x1x1024x1408.Idx) :
    k0_pay4 (F := Ideal) a j = a (ix2 (j 2) (j 3)) := by
  idx_vars j
  pointwise [k0_pay4]
  try rfl

/-- At the last tile of a run the block written back is the accumulator. -/
theorem out_eq_acc (t : Fin cfg0.N) (h : t.val % 4 = 3) :
    (outsAt0 m c t.val t.isLt).1 = k0_pay4 (F := Ideal) (outsAt0 m c t.val t.isLt).2 := by
  rw [outsAt0_C m c t (by omega) (by omega) h]
  frame_out

/-- The accumulator at the last tile of a run is the sum of the four tiles' products. -/
theorem acc_at (t : Fin cfg0.N) (h : t.val % 4 = 3) (j : S1024x1408.Idx) :
    (outsAt0 m c t.val t.isLt).2 j
      = ∑ s : Fin 4, part (iblk m c 0 ⟨4 * (t.val / 4) + s, by have := t.isLt; omega⟩)
          (iblk m c 1 ⟨4 * (t.val / 4) + s, by have := t.isLt; omega⟩) j := by
  rw [Pipeline.eq_sum_fin_of_reset_step_apply_of_flush (fun n h => (outsAt0 m c n h).2) 4 (fun _ => (0 : EReal))
      (fun t j => part (iblk m c 0 t) (iblk m c 1 t) j)
      (fun t h0 j => by
        rw [outsAt0_A m c t h0 (by omega) (by omega)]; frame_out; rw [pay2_at]; exact (zero_add _).symm)
      (fun t h0 j => by
        by_cases h3 : t.val % 4 = 3
        · rw [outsAt0_C m c t h0 (by omega) h3]; frame_out; rw [pay3_at]; exact congrArg (· + _) (congrFun ((Memref.isWhole_whole cc0_scratch0).read_unread (outsAt0 m c (t.val - 1) _).2) j)
        · rw [outsAt0_B m c t h0 (by omega) h3]; frame_out; rw [pay3_at]; exact congrArg (· + _) (congrFun ((Memref.isWhole_whole cc0_scratch0).read_unread (outsAt0 m c (t.val - 1) _).2) j)) t h j, zero_add]

/-- The product over all tokens. -/
def grad (u : Vec Ideal S4096x1024 .bf16) (v : Vec Ideal S2x4096x2816 .bf16) (j : Fin 4) (r : Fin 1024) (l : Fin 1408) : EReal :=
  ∑ s : Fin 4096, u (ix2 s r) * v (ix3 ⟨j.val / 2, by omega⟩ s ⟨j.val % 2 * 1408 + l.val, by omega⟩)

theorem blk_u (t : Fin cfg0.N) (q : Fin 1024) (r : Fin 1024) (s : Fin 4096) (hs : s.val = t.val % 4 * 1024 + q.val) :
    (iblk m c 0 t : Vec Ideal S1024x1024 .bf16) (ix2 q r) = (V m c main_arg0 : Vec Ideal S4096x1024 .bf16) (ix2 s r) := by
  have hi : ∀ t : Fin cfg0.N, (cfg0.win 0).index t = ![t.val % 4, 0] := by decide +kernel
  blk_ext [iblk, V, hi t, hs]

theorem blk_v (t : Fin cfg0.N) (q : Fin 1024) (l : Fin 1408) (p : Fin 2) (s : Fin 4096) (L : Fin 2816)
    (hp : p.val = t.val / 8) (hs : s.val = t.val % 4 * 1024 + q.val) (hL : L.val = t.val / 4 % 2 * 1408 + l.val) :
    (iblk m c 1 t : Vec Ideal S1x1024x1408 .bf16) (ix3 0 q l)
      = (V m c main_arg1 : Vec Ideal S2x4096x2816 .bf16) (ix3 p s L) := by
  have hi : ∀ t : Fin cfg0.N, (cfg0.win 1).index t = ![t.val / 8, t.val % 4, t.val / 4 % 2] := by decide +kernel
  blk_ext [iblk, V, hi t, hp, hs, hL]

/-- The accumulator at the last tile of a run holds the product over all tokens. -/
theorem acc_eq (t : Fin cfg0.N) (h : t.val % 4 = 3) (j : Fin 4) (hj : j.val = t.val / 4) (r : Fin 1024) (l : Fin 1408) :
    (outsAt0 m c t.val t.isLt).2 (ix2 r l) = grad (V m c main_arg0) (V m c main_arg1) j r l := by
  rw [acc_at m c t h]
  unfold part grad
  have hN : t.val < 16 := t.isLt
  refine Fin.sum_mul_add_congr fun s q hs => ?_
  refine congrArg₂ (· * ·) (blk_u m c _ _ _ _ ?_) (blk_v m c _ _ _ _ _ _ ?_ ?_ ?_) <;> simp <;> omega

/-- The array after the run. -/
theorem array2 : (dats m 0 c).arrAt 2 cfg0.N
    = fun y : S4x1x1024x1408.Idx => grad (V m c main_arg0) (V m c main_arg1) (y 0) (y 2) (y 3) := by
  refine (dats m 0 c).arrAt_eq_of_covers 2 _ (by decide +kernel) fun t hf y => ?_
  have h := (flush0_2 t).mp hf
  have hi : ∀ t : Fin cfg0.N, (cfg0.win 2).index t = ![t.val / 4, 0, 0, 0] := by decide +kernel
  have h0 : (((cfg0.win 2).blk t).view.emb y 0 : ℕ) = t.val / 4 := by
    have hy : (y 0).val < 1 := (y 0).isLt
    blk_simp [hi t]
    try omega
  have h2 : (((cfg0.win 2).blk t).view.emb y 2 : ℕ) = (y 2).val := by blk_simp [hi t]
  have h3 : (((cfg0.win 2).blk t).view.emb y 3 : ℕ) = (y 3).val := by blk_simp [hi t]
  blk_simp
  rw [after0_2, out_eq_acc m c t h]
  refine (pay4_at _ _).trans ((acc_eq m c t h _ h0 _ _).trans ?_)
  exact congrArg₂ (fun a b => grad _ _ _ a b) (Fin.ext h2.symm) (Fin.ext h3.symm)

end Cert.Proof.WgradIn
-- ==== Proof.WgradInClaim.lean ====
/- The input weight-gradient kernel of the feed-forward network leaves what the reference computes. -/
module

public import proofs.«01_k».proof.Defs
public import proofs.«01_k».proof.Proof.WgradInArray
public import proofs.«01_k».proof.Proof.Gen.Reference3Ideal.Run
public import proofs.«01_k».proof.Proof.Gen.Reference3Ideal.Read

@[expose] public section

set_option maxRecDepth 16384

noncomputable section

namespace Cert.Proof.WgradIn

open Idealize.ShloMosaic Idealize.ShloMosaic.TcCoe Idealize.ShloMosaic.Tactic Idealize.SL.Sem

section Reference

open Cert.Reference3Ideal Cert.Reference3Ideal.Gen Cert.Reference3Ideal.Read

/-- The reference's entry is the same product over all tokens. -/
theorem ref_at (u : (⟨S4096x1024, .bf16⟩ : BufTy).Contents (Elt Ideal)) (v : (⟨S2x4096x2816, .bf16⟩ : BufTy).Contents (Elt Ideal))
    (j : Fin 4) (z : Fin 1) (r : Fin 1024) (l : Fin 1408) : val_main_v19 (F := Ideal) u v (ix4 j z r l) = grad u v j r l := by
  pointwise [val_main_v19, val_main_v18, val_main_v17, val_main_v16, val_main_v15, val_main_v14_apply, val_main_v13, val_main_v12, val_main_v11, val_main_v10,
    val_main_v9, val_main_v8, val_main_v1]
  unfold grad
  refine Finset.sum_congr rfl fun s _ => ?_
  rw [mul_comm]
  refine congrArg₂ (· * ·) (congrArg u (by ext a; fin_cases a <;> rfl)) ?_
  split
  · congr 2 <;> apply Fin.ext <;> simp <;> omega
  · congr 2 <;> apply Fin.ext <;> simp <;> omega

end Reference

attribute [local instance] Cert.Kernel3Ideal.Gen.facts Cert.Reference3Ideal.Gen.facts

/-- On the extended reals the kernel's array is the reference's result. -/
theorem algebraic : Cert.algebraic_Kernel3Ideal_Reference3Ideal
    (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    rw [Cert.Reference3Ideal.Read.val_main_v19_eq, (hagree c).2.1, array2 m c]
    funext y
    change Cert.Reference3Ideal.S4x1x1024x1408.Idx at y
    idx_vars y
    exact ref_at _ _ y0 y1 y2 y3

end Cert.Proof.WgradIn
-- ==== Proof.WgradOutArray.lean ====
/- The array that the output weight-gradient kernel of the feed-forward network leaves: a product over all tokens. -/
module

public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Proof.WgradOut

open Cert.Kernel4Ideal Cert.Kernel4Ideal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- One tile of tokens' share of an entry: the product of the two blocks there. -/
def part (u : Vec Ideal S1024x1408 .bf16) (v : Vec Ideal S1024x1024 .bf16) (j : S1408x1024.Idx) : EReal :=
  ∑ q : Fin 1024, u (ix2 q (j 0)) * v (ix2 q (j 1))

theorem pay2_at (u : Vec Ideal S1024x1408 .bf16) (v : Vec Ideal S1024x1024 .bf16) (j : S1408x1024.Idx) :
    k0_pay2 (F := Ideal) u v j = part u v j := by
  idx_vars j
  pointwise [k0_pay2, k0_pay1, part]
  try rfl

theorem pay3_at (u : Vec Ideal S1024x1408 .bf16) (v : Vec Ideal S1024x1024 .bf16) (a : Vec Ideal S1408x1024 .f32)
    (j : S1408x1024.Idx) : k0_pay3 (F := Ideal) u v a j = a j + part u v j := by
  idx_vars j
  pointwise [k0_pay3, k0_pay1, part]
  try rfl

theorem pay4_at (a : Vec Ideal S1408x1024 .f32) (j : S1x1408x1024.Idx) :
    k0_pay4 (F := Ideal) a j = a (ix2 (j 1) (j 2)) := by
  idx_vars j
  pointwise [k0_pay4]
  try rfl

/-- At the last tile of a run the block written back is the accumulator. -/
theorem out_eq_acc (t : Fin cfg0.N) (h : t.val % 4 = 3) :
    (outsAt0 m c t.val t.isLt).1 = k0_pay4 (F := Ideal) (outsAt0 m c t.val t.isLt).2 := by
  rw [outsAt0_C m c t (by omega) (by omega) h]
  frame_out

/-- The accumulator at the last tile of a run is the sum of the four tiles' products. -/
theorem acc_at (t : Fin cfg0.N) (h : t.val % 4 = 3) (j : S1408x1024.Idx) :
    (outsAt0 m c t.val t.isLt).2 j
      = ∑ s : Fin 4, part (iblk m c 0 ⟨4 * (t.val / 4) + s, by have := t.isLt; omega⟩)
          (iblk m c 1 ⟨4 * (t.val / 4) + s, by have := t.isLt; omega⟩) j := by
  rw [Pipeline.eq_sum_fin_of_reset_step_apply_of_flush (fun n h => (outsAt0 m c n h).2) 4 (fun _ => (0 : EReal))
      (fun t j => part (iblk m c 0 t) (iblk m c 1 t) j)
      (fun t h0 j => by
        rw [outsAt0_A m c t h0 (by omega) (by omega)]; frame_out; rw [pay2_at]; exact (zero_add _).symm)
      (fun t h0 j => by
        by_cases h3 : t.val % 4 = 3
        · rw [outsAt0_C m c t h0 (by omega) h3]; frame_out; rw [pay3_at]; exact congrArg (· + _) (congrFun ((Memref.isWhole_whole cc0_scratch0).read_unread (outsAt0 m c (t.val - 1) _).2) j)
        · rw [outsAt0_B m c t h0 (by omega) h3]; frame_out; rw [pay3_at]; exact congrArg (· + _) (congrFun ((Memref.isWhole_whole cc0_scratch0).read_unread (outsAt0 m c (t.val - 1) _).2) j)) t h j, zero_add]

/-- The product over all tokens. -/
def grad (u : Vec Ideal S4096x2816 .bf16) (v : Vec Ideal S4096x1024 .bf16) (r : Fin 2816) (l : Fin 1024) : EReal :=
  ∑ s : Fin 4096, u (ix2 s r) * v (ix2 s l)

theorem blk_u (t : Fin cfg0.N) (q : Fin 1024) (r : Fin 1408) (s : Fin 4096) (R : Fin 2816)
    (hs : s.val = t.val % 4 * 1024 + q.val) (hR : R.val = t.val / 4 * 1408 + r.val) :
    (iblk m c 0 t : Vec Ideal S1024x1408 .bf16) (ix2 q r) = (V m c main_arg0 : Vec Ideal S4096x2816 .bf16) (ix2 s R) := by
  have hi : ∀ t : Fin cfg0.N, (cfg0.win 0).index t = ![t.val % 4, t.val / 4] := by decide +kernel
  blk_ext [iblk, V, hi t, hs, hR]

theorem blk_v (t : Fin cfg0.N) (q : Fin 1024) (l : Fin 1024) (s : Fin 4096) (hs : s.val = t.val % 4 * 1024 + q.val) :
    (iblk m c 1 t : Vec Ideal S1024x1024 .bf16) (ix2 q l) = (V m c main_arg1 : Vec Ideal S4096x1024 .bf16) (ix2 s l) := by
  have hi : ∀ t : Fin cfg0.N, (cfg0.win 1).index t = ![t.val % 4, 0] := by decide +kernel
  blk_ext [iblk, V, hi t, hs]

/-- The accumulator at the last tile of a run holds the product over all tokens. -/
theorem acc_eq (t : Fin cfg0.N) (h : t.val % 4 = 3) (r : Fin 1408) (l : Fin 1024) (R : Fin 2816)
    (hR : R.val = t.val / 4 * 1408 + r.val) :
    (outsAt0 m c t.val t.isLt).2 (ix2 r l) = grad (V m c main_arg0) (V m c main_arg1) R l := by
  rw [acc_at m c t h]
  unfold part grad
  have hN : t.val < 8 := t.isLt
  refine Fin.sum_mul_add_congr fun s q hs => ?_
  refine congrArg₂ (· * ·) (blk_u m c _ _ _ _ _ ?_ ?_) (blk_v m c _ _ _ _ ?_) <;> simp <;> omega

/-- The array after the run. -/
theorem array2 : (dats m 0 c).arrAt 2 cfg0.N
    = fun y : S1x2816x1024.Idx => grad (V m c main_arg0) (V m c main_arg1) (y 1) (y 2) := by
  refine (dats m 0 c).arrAt_eq_of_covers 2 _ (by decide +kernel) fun t hf y => ?_
  have h := (flush0_2 t).mp hf
  have hi : ∀ t : Fin cfg0.N, (cfg0.win 2).index t = ![0, t.val / 4, 0] := by decide +kernel
  have h1 : (((cfg0.win 2).blk t).view.emb y 1 : ℕ) = t.val / 4 * 1408 + (y 1).val := by
    blk_simp [hi t]
    try omega
  have h2 : (((cfg0.win 2).blk t).view.emb y 2 : ℕ) = (y 2).val := by blk_simp [hi t]
  blk_simp
  rw [after0_2, out_eq_acc m c t h]
  refine (pay4_at _ _).trans ((acc_eq m c t h _ _ _ h1).trans ?_)
  exact congrArg (fun a => grad _ _ _ a) (Fin.ext h2.symm)

end Cert.Proof.WgradOut
-- ==== Proof.WgradOutClaim.lean ====
/- The output weight-gradient kernel of the feed-forward network leaves what the reference computes. -/
module

public import proofs.«01_k».proof.Defs
public import proofs.«01_k».proof.Proof.WgradOutArray
public import proofs.«01_k».proof.Proof.Gen.Reference4Ideal.Run
public import proofs.«01_k».proof.Proof.Gen.Reference4Ideal.Read

@[expose] public section

set_option maxRecDepth 16384

noncomputable section

namespace Cert.Proof.WgradOut

open Idealize.ShloMosaic Idealize.ShloMosaic.TcCoe Idealize.ShloMosaic.Tactic Idealize.SL.Sem

section Reference

open Cert.Reference4Ideal Cert.Reference4Ideal.Gen Cert.Reference4Ideal.Read

/-- The reference's entry is the same product over all tokens. -/
theorem ref_at (u : (⟨S4096x2816, .bf16⟩ : BufTy).Contents (Elt Ideal)) (v : (⟨S4096x1024, .bf16⟩ : BufTy).Contents (Elt Ideal))
    (z : Fin 1) (r : Fin 2816) (l : Fin 1024) : val_main_v7 (F := Ideal) u v (ix3 z r l) = grad u v r l := by
  pointwise [val_main_v7, val_main_v6, val_main_v5, val_main_v4_apply, val_main_v3, val_main_v1]
  unfold grad
  refine Finset.sum_congr rfl fun s _ => ?_
  rw [mul_comm]
  refine congrArg₂ (· * ·) (congrArg u (by ext a; fin_cases a <;> rfl)) (congrArg v (by ext a; fin_cases a <;> rfl))

end Reference

attribute [local instance] Cert.Kernel4Ideal.Gen.facts Cert.Reference4Ideal.Gen.facts

/-- On the extended reals the kernel's array is the reference's result. -/
theorem algebraic : Cert.algebraic_Kernel4Ideal_Reference4Ideal
    (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    rw [Cert.Reference4Ideal.Read.val_main_v7_eq, array2 m c]
    funext y
    change Cert.Reference4Ideal.S1x2816x1024.Idx at y
    idx_vars y
    exact ref_at _ _ y0 y1 y2

end Cert.Proof.WgradOut
-- ==== Proof.FfnReal.lean ====
/- The feed-forward layer and its gradients over the real numbers, and how a sum of reals reads among the extended reals. -/
module

public import Idealize.ShloMosaic.Lib.Pipeline.ValueKit
public import Idealize.ShloMosaic.Lib.Pointwise

@[expose] public section

noncomputable section

namespace Cert.Proof.Ffn

open Idealize.ShloMosaic

/-- A sum of reals, taken among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The constant under the root. -/
def eps : ℝ := 8796093 / 2 ^ 43

theorem eps_bits : Ideal.ofBits .f32 0x358637BD#32 = ((eps : ℝ) : EReal) := by
  simp [Ideal.ofBits, Ideal.ieee, eps, -EReal.coe_mul]
  norm_num

theorem width_bits : Ideal.ofBits .f32 0x44800000#32 = ((1024 : ℝ) : EReal) := by
  simp [Ideal.ofBits, Ideal.ieee, -EReal.coe_mul]
  norm_num

theorem mhalf_bits : Ideal.ofBits .f32 0xBF000000#32 = ((-(1 / 2) : ℝ) : EReal) := by
  simp [Ideal.ofBits, Ideal.ieee, -EReal.coe_mul]
  norm_num

/-- The mean square of a row, with the constant. -/
def ms (x : Fin 4096 → Fin 1024 → ℝ) (t : Fin 4096) : ℝ := (∑ i, x t i * x t i) / 1024 + eps

theorem ms_pos (x : Fin 4096 → Fin 1024 → ℝ) (t : Fin 4096) : 0 < ms x t := by
  have h : 0 ≤ ∑ i, x t i * x t i := Finset.sum_nonneg fun i _ => mul_self_nonneg _
  have e : 0 < eps := by unfold eps; norm_num
  unfold ms; positivity

/-- One over the root of the mean square. -/
def rs (x : Fin 4096 → Fin 1024 → ℝ) (t : Fin 4096) : ℝ := (Real.sqrt (ms x t))⁻¹

theorem rs_coe (x : Fin 4096 → Fin 1024 → ℝ) (t : Fin 4096) :
    Ideal.rsqrt (Ideal.div (∑ i, (x t i : EReal) * (x t i : EReal)) (Ideal.ofBits .f32 0x44800000#32)
      + Ideal.ofBits .f32 0x358637BD#32) = (rs x t : EReal) := by
  rw [width_bits, eps_bits, Ideal.div_coe (by norm_num)]
  simp only [← EReal.coe_mul, coe_sum]
  rw [← EReal.coe_add, Ideal.rsqrt_coe]
  have e : (∑ i, x t i * x t i) * (1 / 1024) + eps = ms x t := by unfold ms; ring
  rw [e, if_neg (ms_pos x t).le.not_gt, if_neg (ms_pos x t).ne']
  rfl

/-- The logistic function. -/
def sg (z : ℝ) : ℝ := (1 + Real.exp (-z))⁻¹

section

variable (x : Fin 4096 → Fin 1024 → ℝ) (gn sc sh g2 : Fin 1024 → ℝ) (wi : Fin 1024 → Fin 5632 → ℝ) (wo : Fin 2816 → Fin 1024 → ℝ)
  (dx : Fin 4096 → Fin 1024 → ℝ)

/-- The normalised, scaled and shifted rows. -/
def hid (t : Fin 4096) (i : Fin 1024) : ℝ := x t i * rs x t * gn i * (1 + sc i) + sh i

/-- Column `f` of the first (`p = 0`) or second (`p = 1`) half of the input product. -/
def pre (p : Fin 2) (t : Fin 4096) (f : Fin 2816) : ℝ := ∑ i, hid x gn sc sh t i * wi i ⟨p.val * 2816 + f.val, by omega⟩

def gate (t : Fin 4096) (f : Fin 2816) : ℝ := pre x gn sc sh wi 0 t f
def up (t : Fin 4096) (f : Fin 2816) : ℝ := pre x gn sc sh wi 1 t f

/-- The gated rows. -/
def act (t : Fin 4096) (f : Fin 2816) : ℝ := gate x gn sc sh wi t f * sg (gate x gn sc sh wi t f) * up x gn sc sh wi t f

/-- The output product. -/
def yo (t : Fin 4096) (d : Fin 1024) : ℝ := ∑ f, act x gn sc sh wi t f * wo f d

/-- The layer's result. -/
def xout (t : Fin 4096) (d : Fin 1024) : ℝ := x t d + g2 d * yo x gn sc sh wi wo t d

/-- The gradient of the gated rows. -/
def da (t : Fin 4096) (f : Fin 2816) : ℝ := ∑ d, dx t d * g2 d * wo f d

def dgate (t : Fin 4096) (f : Fin 2816) : ℝ :=
  da g2 wo dx t f * up x gn sc sh wi t f
    * (sg (gate x gn sc sh wi t f) * (1 + gate x gn sc sh wi t f * (1 - sg (gate x gn sc sh wi t f))))

def dup (t : Fin 4096) (f : Fin 2816) : ℝ := da g2 wo dx t f * (gate x gn sc sh wi t f * sg (gate x gn sc sh wi t f))

/-- The gradient of the two halves. -/
def dpre (p : Fin 2) (t : Fin 4096) (f : Fin 2816) : ℝ :=
  if p.val = 0 then dgate x gn sc sh g2 wi wo dx t f else dup x gn sc sh g2 wi wo dx t f

/-- The gradient of the normalised, scaled and shifted rows. -/
def dh (t : Fin 4096) (i : Fin 1024) : ℝ :=
  ∑ f, dgate x gn sc sh g2 wi wo dx t f * wi i ⟨f.val, by omega⟩ + ∑ f, dup x gn sc sh g2 wi wo dx t f * wi i ⟨2816 + f.val, by omega⟩

/-- The gradient of the normalised rows. -/
def dxh (t : Fin 4096) (i : Fin 1024) : ℝ := dh x gn sc sh g2 wi wo dx t i * (gn i * (1 + sc i))

/-- The gradient of the layer's argument. -/
def dxin (t : Fin 4096) (i : Fin 1024) : ℝ :=
  dx t i + rs x t * (dxh x gn sc sh g2 wi wo dx t i
    - x t i * rs x t * ((∑ k, dxh x gn sc sh g2 wi wo dx t k * (x t k * rs x t)) / 1024))

/-- The sums over tokens. -/
def dsh (i : Fin 1024) : ℝ := ∑ t, dh x gn sc sh g2 wi wo dx t i
def dnorm (i : Fin 1024) : ℝ := ∑ t, dh x gn sc sh g2 wi wo dx t i * (x t i * rs x t)
def dg2 (d : Fin 1024) : ℝ := ∑ t, dx t d * yo x gn sc sh wi wo t d

end

end Cert.Proof.Ffn
-- ==== Proof.FfnIn.lean ====
/- The first call of the feed-forward layer: the normalised rows and the two halves of the input product. -/
module

public import proofs.«01_k».proof.Proof.Gen.Kernel2Ideal.Frame
public import proofs.«01_k».proof.Proof.FfnReal

@[expose] public section

set_option maxRecDepth 16384

noncomputable section

namespace Cert.Proof.Ffn

open Cert.Kernel2Ideal Cert.Kernel2Ideal.Gen Idealize.ShloMosaic Idealize.ShloMosaic.TcCoe Idealize.ShloMosaic.Tactic
open Idealize.SL.Sem
open Idealize.ShloMosaic.Pipeline (Dat)

variable (x : Fin 4096 → Fin 1024 → ℝ) (gn sc sh : Fin 1024 → ℝ) (wi : Fin 1024 → Fin 5632 → ℝ)

/-- A row of the first output. -/
theorem hid_row (v0 : Vec Ideal S512x1024 .f32) (v1 v2 v3 : Vec Ideal S1x1024 .f32) (q : Fin 512) (t : Fin 4096)
    (h0 : ∀ i, v0 (ix2 q i) = (x t i : EReal)) (h1 : ∀ i, v1 (ix2 0 i) = (gn i : EReal))
    (h2 : ∀ i, v2 (ix2 0 i) = (sc i : EReal)) (h3 : ∀ i, v3 (ix2 0 i) = (sh i : EReal)) (i : Fin 1024) :
    k0_pay3 (F := Ideal) v0 v1 v2 v3 (ix2 q i) = (hid x gn sc sh t i : EReal) := by
  pointwise [k0_pay3]
  simp only [h0, h1, h2, h3]
  rw [rs_coe]
  unfold hid
  push_cast
  rfl

/-- Two slabs of the input product, side by side. -/
def pair (h : Fin 1024 → EReal) (u v : Vec Ideal S1x1x1024x1408 .bf16) (f : Fin 2816) : EReal :=
  if e : f.val < 1408 then ∑ i, h i * u (ix4 0 0 i ⟨f.val, e⟩) else ∑ i, h i * v (ix4 0 0 i ⟨f.val - 1408, by omega⟩)

theorem gate_pay (v0 : Vec Ideal S512x1024 .f32) (v1 v2 v3 : Vec Ideal S1x1024 .f32) (u v : Vec Ideal S1x1x1024x1408 .bf16)
    (q : Fin 512) (f : Fin 2816) :
    k0_pay1 (F := Ideal) (k0_pay4 (F := Ideal) v0 v1 v2 v3 u) (k0_pay5 (F := Ideal) v0 v1 v2 v3 v) (ix3 0 q f)
      = pair (fun i => k0_pay3 (F := Ideal) v0 v1 v2 v3 (ix2 q i)) u v f := by
  pointwise [k0_pay1, k0_pay4, k0_pay5, pair]

theorem up_pay (h : FVec Ideal S512x1024 .bf16) (u v : Vec Ideal S1x1x1024x1408 .bf16) (q : Fin 512) (f : Fin 2816) :
    k0_pay2 (F := Ideal) h u v (ix3 0 q f) = pair (fun i => h (ix2 q i)) u v f := by
  pointwise [k0_pay2, pair]

/-- Two slabs of reals are half of the input product. -/
theorem pair_eq (h : Fin 1024 → EReal) (u v : Vec Ideal S1x1x1024x1408 .bf16) (p : Fin 2) (t : Fin 4096)
    (hh : ∀ i, h i = (hid x gn sc sh t i : EReal))
    (hu : ∀ i f, u (ix4 0 0 i f) = (wi i ⟨2 * p.val * 1408 + f.val, by omega⟩ : EReal))
    (hv : ∀ i f, v (ix4 0 0 i f) = (wi i ⟨(2 * p.val + 1) * 1408 + f.val, by omega⟩ : EReal)) (f : Fin 2816) :
    pair h u v f = (pre x gn sc sh wi p t f : EReal) := by
  unfold pair pre
  split_ifs with e <;> simp only [hh, hu, hv, ← EReal.coe_mul, coe_sum]
  · congr 1; refine Finset.sum_congr rfl fun i _ => ?_; congr 3; omega
  · congr 1; refine Finset.sum_congr rfl fun i _ => ?_; congr 3; omega

variable (V : (c : Dev nD) → (b : Ref sig .tc) → Buf (Elt Ideal) ((c : Thread nD τ).loc b)) (c : Dev nD)

/-- What a weight array holds, by slabs of 1408 columns. -/
def SlabsAre (v : Vec Ideal S4x1x1024x1408 .bf16) (wi : Fin 1024 → Fin 5632 → ℝ) : Prop :=
  ∀ (j : Fin 4) (i : Fin 1024) (f : Fin 1408), v (ix4 j 0 i f) = (wi i ⟨j.val * 1408 + f.val, by omega⟩ : EReal)

section

variable (hx : ∀ t i, (V c main_arg0 : Vec Ideal S4096x1024 .f32) (ix2 t i) = (x t i : EReal))
  (hgn : ∀ i, (V c main_arg1 : Vec Ideal S1x1024 .f32) (ix2 0 i) = (gn i : EReal))
  (hsc : ∀ i, (V c main_arg2 : Vec Ideal S1x1024 .f32) (ix2 0 i) = (sc i : EReal))
  (hsh : ∀ i, (V c main_arg3 : Vec Ideal S1x1024 .f32) (ix2 0 i) = (sh i : EReal))
  (hwi : SlabsAre (V c main_v3) wi)

theorem in_x (t : Fin cfg0.N) (q : Fin 512) (i : Fin 1024) (T : Fin 4096) (hT : T.val = t.val * 512 + q.val) :
    (View.ld (iblk0 V c 0 t) r0_0 : Vec Ideal S512x1024 .f32) (ix2 q i) = (V c main_arg0 : Vec Ideal S4096x1024 .f32) (ix2 T i) := by
  have hi : ∀ t : Fin cfg0.N, (cfg0.win 0).index t = ![t.val, 0] := by decide +kernel
  blk_ext [iblk0, hi t, hT, View.ld, LoadRect.idx_apply]
  all_goals simp [Rect.unit]

theorem in_gn (t : Fin cfg0.N) (i : Fin 1024) :
    (View.ld (iblk0 V c 1 t) r0_1 : Vec Ideal S1x1024 .f32) (ix2 0 i) = (V c main_arg1 : Vec Ideal S1x1024 .f32) (ix2 0 i) := by
  have hi : ∀ t : Fin cfg0.N, (cfg0.win 1).index t = ![0, 0] := by decide +kernel
  blk_ext [iblk0, hi t, View.ld, LoadRect.idx_apply]
  all_goals simp [Rect.unit]

theorem in_sc (t : Fin cfg0.N) (i : Fin 1024) :
    (View.ld (iblk0 V c 2 t) r0_1 : Vec Ideal S1x1024 .f32) (ix2 0 i) = (V c main_arg2 : Vec Ideal S1x1024 .f32) (ix2 0 i) := by
  have hi : ∀ t : Fin cfg0.N, (cfg0.win 2).index t = ![0, 0] := by decide +kernel
  blk_ext [iblk0, hi t, View.ld, LoadRect.idx_apply]
  all_goals simp [Rect.unit]

theorem in_sh (t : Fin cfg0.N) (i : Fin 1024) :
    (View.ld (iblk0 V c 3 t) r0_1 : Vec Ideal S1x1024 .f32) (ix2 0 i) = (V c main_arg3 : Vec Ideal S1x1024 .f32) (ix2 0 i) := by
  have hi : ∀ t : Fin cfg0.N, (cfg0.win 3).index t = ![0, 0] := by decide +kernel
  blk_ext [iblk0, hi t, View.ld, LoadRect.idx_apply]
  all_goals simp [Rect.unit]

theorem in_w0 (t : Fin cfg0.N) (i : Fin 1024) (f : Fin 1408) :
    (View.ld (iblk0 V c 4 t) r0_2 : Vec Ideal S1x1x1024x1408 .bf16) (ix4 0 0 i f) = (V c main_v3 : Vec Ideal S4x1x1024x1408 .bf16) (ix4 0 0 i f) := by
  have hi : ∀ t : Fin cfg0.N, (cfg0.win 4).index t = ![0, 0, 0, 0] := by decide +kernel
  blk_ext [iblk0, hi t, View.ld, LoadRect.idx_apply]
  all_goals simp [Rect.unit]

theorem in_w1 (t : Fin cfg0.N) (i : Fin 1024) (f : Fin 1408) :
    (View.ld (iblk0 V c 4 t) r0_3 : Vec Ideal S1x1x1024x1408 .bf16) (ix4 0 0 i f) = (V c main_v3 : Vec Ideal S4x1x1024x1408 .bf16) (ix4 1 0 i f) := by
  have hi : ∀ t : Fin cfg0.N, (cfg0.win 4).index t = ![0, 0, 0, 0] := by decide +kernel
  blk_ext [iblk0, hi t, View.ld, LoadRect.idx_apply]
  all_goals simp [Rect.unit]

theorem in_w2 (t : Fin cfg0.N) (i : Fin 1024) (f : Fin 1408) :
    (View.ld (iblk0 V c 4 t) r0_4 : Vec Ideal S1x1x1024x1408 .bf16) (ix4 0 0 i f) = (V c main_v3 : Vec Ideal S4x1x1024x1408 .bf16) (ix4 2 0 i f) := by
  have hi : ∀ t : Fin cfg0.N, (cfg0.win 4).index t = ![0, 0, 0, 0] := by decide +kernel
  blk_ext [iblk0, hi t, View.ld, LoadRect.idx_apply]
  all_goals simp [Rect.unit]

theorem in_w3 (t : Fin cfg0.N) (i : Fin 1024) (f : Fin 1408) :
    (View.ld (iblk0 V c 4 t) r0_5 : Vec Ideal S1x1x1024x1408 .bf16) (ix4 0 0 i f) = (V c main_v3 : Vec Ideal S4x1x1024x1408 .bf16) (ix4 3 0 i f) := by
  have hi : ∀ t : Fin cfg0.N, (cfg0.win 4).index t = ![0, 0, 0, 0] := by decide +kernel
  blk_ext [iblk0, hi t, View.ld, LoadRect.idx_apply]
  all_goals simp [Rect.unit]

include hx hgn hsc hsh hwi in
/-- The two halves of the input product, after the first call. -/
theorem pre_array : (dat0 V c).arrAt 6 cfg0.N = fun y : S2x4096x2816.Idx => (pre x gn sc sh wi (y 0) (y 1) (y 2) : EReal) := by
  refine (dat0 V c).arrAt_eq_of_covers 6 _ (by decide +kernel) fun t hf y => ?_
  blk_simp
  rw [after0_6]
  have hi : ∀ t : Fin cfg0.N, (cfg0.win 6).index t = ![0, t.val, 0] := by decide +kernel
  have h0 : (((cfg0.win 6).blk t).view.emb y 0 : ℕ) = (y 0).val := by blk_simp [hi t]
  have h1 : (((cfg0.win 6).blk t).view.emb y 1 : ℕ) = t.val * 512 + (y 1).val := by blk_simp [hi t]
  have h2 : (((cfg0.win 6).blk t).view.emb y 2 : ℕ) = (y 2).val := by blk_simp [hi t]
  have hN : t.val < 8 := t.isLt
  have hrow : ∀ (q : Fin 512) (i : Fin 1024), k0_pay3 (F := Ideal) (View.ld (iblk0 V c 0 t) r0_0) (View.ld (iblk0 V c 1 t) r0_1)
      (View.ld (iblk0 V c 2 t) r0_1) (View.ld (iblk0 V c 3 t) r0_1) (ix2 q i)
        = (hid x gn sc sh ⟨t.val * 512 + q.val, by omega⟩ i : EReal) := fun q i =>
    hid_row x gn sc sh _ _ _ _ q ⟨t.val * 512 + q.val, by omega⟩ (fun i => (in_x V c t q i _ rfl).trans (hx _ i))
      (fun i => (in_gn V c t i).trans (hgn i)) (fun i => (in_sc V c t i).trans (hsc i)) (fun i => (in_sh V c t i).trans (hsh i)) i
  change S2x512x2816.Idx at y
  refine Eq.trans (b := (pre x gn sc sh wi (y 0) ⟨t.val * 512 + (y 1).val, by have : (y 1).val < 512 := (y 1).isLt; omega⟩ (y 2) : EReal)) ?_ ?_
  · refine View.canon_apply_of_pieces (Val := Elt Ideal) (fun y : S2x512x2816.Idx => (pre x gn sc sh wi (y 0)
      ⟨t.val * 512 + (y 1).val, by have : (y 1).val < 512 := (y 1).isLt; omega⟩ (y 2) : EReal)) _ ?_ y (cover0_6 _ _ y)
    intro pc hpc z
    simp only [List.mem_cons, List.not_mem_nil, or_false] at hpc
    rcases hpc with rfl | rfl
    · have hz := fun a => Rect.emb_apply r0_7 z a
      change S1x512x2816.Idx at z
      dsimp only
      generalize r0_7.emb z = y at hz ⊢
      idx_vars z; idx_vars y
      have e0 : y0.val = 1 + 1 * z0.val := hz 0
      have e1 : y1.val = 0 + 1 * z1.val := hz 1
      have e2 : y2.val = 0 + 1 * z2.val := hz 2
      obtain rfl : z0 = 0 := Fin.ext (by omega)
      obtain rfl : y0 = 1 := Fin.ext (by simp only [e0]; omega)
      obtain rfl : y1 = z1 := Fin.ext (by omega)
      obtain rfl : y2 = z2 := Fin.ext (by omega)
      rw [up_pay]
      exact pair_eq x gn sc sh wi _ _ _ 1 _ (fun i => hrow y1 i) (fun i f => (in_w2 V c t i f).trans (hwi 2 i f))
        (fun i f => (in_w3 V c t i f).trans (hwi 3 i f)) y2
    · have hz := fun a => Rect.emb_apply r0_6 z a
      change S1x512x2816.Idx at z
      dsimp only
      generalize r0_6.emb z = y at hz ⊢
      idx_vars z; idx_vars y
      have e0 : y0.val = 0 + 1 * z0.val := hz 0
      have e1 : y1.val = 0 + 1 * z1.val := hz 1
      have e2 : y2.val = 0 + 1 * z2.val := hz 2
      obtain rfl : z0 = 0 := Fin.ext (by omega)
      obtain rfl : y0 = 0 := Fin.ext (by simp only [e0]; omega)
      obtain rfl : y1 = z1 := Fin.ext (by omega)
      obtain rfl : y2 = z2 := Fin.ext (by omega)
      rw [gate_pay]
      exact pair_eq x gn sc sh wi _ _ _ 0 _ (fun i => hrow y1 i) (fun i f => (in_w0 V c t i f).trans (hwi 0 i f))
        (fun i f => (in_w1 V c t i f).trans (hwi 1 i f)) y2
  · have e0 := Fin.ext (a := ((cfg0.win 6).blk t).view.emb y 0) (b := y 0) h0
    have e1 := Fin.ext (a := ((cfg0.win 6).blk t).view.emb y 1) (b := ⟨t.val * 512 + (y 1).val, by have : (y 1).val < 512 := (y 1).isLt; omega⟩) h1
    have e2 := Fin.ext (a := ((cfg0.win 6).blk t).view.emb y 2) (b := y 2) h2
    rw [e0, e1, e2]
    rfl

end

end Cert.Proof.Ffn
-- ==== Proof.FfnOut.lean ====
/- The second call of the feed-forward layer: the output product and the layer's result. -/
module

public import proofs.«01_k».proof.Proof.Gen.Kernel2Ideal.Frame
public import proofs.«01_k».proof.Proof.FfnIn

@[expose] public section

set_option maxRecDepth 16384

noncomputable section

namespace Cert.Proof.Ffn

open Cert.Kernel2Ideal Cert.Kernel2Ideal.Gen Idealize.ShloMosaic Idealize.ShloMosaic.TcCoe Idealize.ShloMosaic.Tactic
open Idealize.SL.Sem
open Idealize.ShloMosaic.Pipeline (Dat)

variable (x : Fin 4096 → Fin 1024 → ℝ) (gn sc sh g2 : Fin 1024 → ℝ) (wi : Fin 1024 → Fin 5632 → ℝ) (wo : Fin 2816 → Fin 1024 → ℝ)
  (dx : Fin 4096 → Fin 1024 → ℝ)

/-- The logistic function at a real. -/
theorem logistic_real (z : ℝ) : Ideal.logistic (z : EReal) = (sg z : EReal) := Ideal.logistic_coe z

/-- A row of the output product. -/
theorem yo_row (v0 v2 : Vec Ideal S1x512x2816 .bf16) (u : Vec Ideal S1x2816x1024 .bf16) (q : Fin 512) (t : Fin 4096)
    (h0 : ∀ f, v0 (ix3 0 q f) = (gate x gn sc sh wi t f : EReal)) (h2 : ∀ f, v2 (ix3 0 q f) = (up x gn sc sh wi t f : EReal))
    (hu : ∀ f d, u (ix3 0 f d) = (wo f d : EReal)) (d : Fin 1024) :
    k1_pay1 (F := Ideal) v0 v2 u (ix2 q d) = (yo x gn sc sh wi wo t d : EReal) := by
  pointwise [k1_pay1]
  simp only [h0, h2, hu, logistic_real, ← EReal.coe_mul, coe_sum]
  rfl

theorem yo_row' (v0 v2 : Vec Ideal S1x512x2816 .bf16) (u : Vec Ideal S1x2816x1024 .bf16) (q : Fin 512) (d : Fin 1024) :
    k1_pay3 (F := Ideal) v0 v2 u (ix2 q d) = k1_pay1 (F := Ideal) v0 v2 u (ix2 q d) := by
  pointwise [k1_pay3]

theorem xout_row (v0 v2 : Vec Ideal S1x512x2816 .bf16) (u : Vec Ideal S1x2816x1024 .bf16) (a : Vec Ideal S512x1024 .f32)
    (b : Vec Ideal S1x1024 .f32) (q : Fin 512) (d : Fin 1024) (t : Fin 4096) (ha : a (ix2 q d) = (x t d : EReal))
    (hb : b (ix2 0 d) = (g2 d : EReal)) (hy : k1_pay1 (F := Ideal) v0 v2 u (ix2 q d) = (yo x gn sc sh wi wo t d : EReal)) :
    k1_pay2 (F := Ideal) v0 v2 u a b (ix2 q d) = (xout x gn sc sh g2 wi wo t d : EReal) := by
  have e : k1_pay2 (F := Ideal) v0 v2 u a b (ix2 q d) = a (ix2 q d) + b (ix2 0 d) * k1_pay1 (F := Ideal) v0 v2 u (ix2 q d) := by
    pointwise [k1_pay2]
  rw [e, ha, hb, hy, ← EReal.coe_mul, ← EReal.coe_add]
  rfl

/-- What the output weights hold. -/
def WoAre (v : Vec Ideal S1x2816x1024 .bf16) (wo : Fin 2816 → Fin 1024 → ℝ) : Prop :=
  ∀ (f : Fin 2816) (d : Fin 1024), v (ix3 0 f d) = (wo f d : EReal)

variable (V : (c : Dev nD) → (b : Ref sig .tc) → Buf (Elt Ideal) ((c : Thread nD τ).loc b)) (c : Dev nD)

section

theorem out_gate (t : Fin cfg1.N) (q : Fin 512) (f : Fin 2816) (T : Fin 4096) (hT : T.val = t.val * 512 + q.val) :
    (View.ld (iblk1 V c 0 t) r1_0 : Vec Ideal S1x512x2816 .bf16) (ix3 0 q f) = (V c main_v6_1 : Vec Ideal S2x4096x2816 .bf16) (ix3 0 T f) := by
  have hi : ∀ t : Fin cfg1.N, (cfg1.win 0).index t = ![0, t.val, 0] := by decide +kernel
  blk_ext [iblk1, hi t, View.ld, LoadRect.idx_apply, hT]
  all_goals simp [Rect.unit]

theorem out_up (t : Fin cfg1.N) (q : Fin 512) (f : Fin 2816) (T : Fin 4096) (hT : T.val = t.val * 512 + q.val) :
    (View.ld (iblk1 V c 1 t) r1_0 : Vec Ideal S1x512x2816 .bf16) (ix3 0 q f) = (V c main_v6_1 : Vec Ideal S2x4096x2816 .bf16) (ix3 1 T f) := by
  have hi : ∀ t : Fin cfg1.N, (cfg1.win 1).index t = ![1, t.val, 0] := by decide +kernel
  blk_ext [iblk1, hi t, View.ld, LoadRect.idx_apply, hT]
  all_goals simp [Rect.unit]

theorem out_w (t : Fin cfg1.N) (f : Fin 2816) (d : Fin 1024) :
    (View.ld (iblk1 V c 2 t) r1_1 : Vec Ideal S1x2816x1024 .bf16) (ix3 0 f d) = (V c main_v5 : Vec Ideal S1x2816x1024 .bf16) (ix3 0 f d) := by
  have hi : ∀ t : Fin cfg1.N, (cfg1.win 2).index t = ![0, 0, 0] := by decide +kernel
  blk_ext [iblk1, hi t, View.ld, LoadRect.idx_apply]
  all_goals simp [Rect.unit]

theorem out_x (t : Fin cfg1.N) (q : Fin 512) (d : Fin 1024) (T : Fin 4096) (hT : T.val = t.val * 512 + q.val) :
    (View.ld (iblk1 V c 3 t) r1_2 : Vec Ideal S512x1024 .f32) (ix2 q d) = (V c main_arg0 : Vec Ideal S4096x1024 .f32) (ix2 T d) := by
  have hi : ∀ t : Fin cfg1.N, (cfg1.win 3).index t = ![t.val, 0] := by decide +kernel
  blk_ext [iblk1, hi t, View.ld, LoadRect.idx_apply, hT]
  all_goals simp [Rect.unit]

theorem out_g (t : Fin cfg1.N) (d : Fin 1024) :
    (View.ld (iblk1 V c 4 t) r1_3 : Vec Ideal S1x1024 .f32) (ix2 0 d) = (V c main_arg4 : Vec Ideal S1x1024 .f32) (ix2 0 d) := by
  have hi : ∀ t : Fin cfg1.N, (cfg1.win 4).index t = ![0, 0] := by decide +kernel
  blk_ext [iblk1, hi t, View.ld, LoadRect.idx_apply]
  all_goals simp [Rect.unit]

variable (hp : (V c main_v6_1 : Vec Ideal S2x4096x2816 .bf16) = fun y => (pre x gn sc sh wi (y 0) (y 1) (y 2) : EReal))
  (hwo : WoAre (V c main_v5) wo)
  (hx : ∀ t i, (V c main_arg0 : Vec Ideal S4096x1024 .f32) (ix2 t i) = (x t i : EReal))
  (hg : ∀ i, (V c main_arg4 : Vec Ideal S1x1024 .f32) (ix2 0 i) = (g2 i : EReal))

include hp hwo in
theorem out_yo (t : Fin cfg1.N) (q : Fin 512) (d : Fin 1024) (T : Fin 4096) (hT : T.val = t.val * 512 + q.val) :
    k1_pay1 (F := Ideal) (View.ld (iblk1 V c 0 t) r1_0) (View.ld (iblk1 V c 1 t) r1_0) (View.ld (iblk1 V c 2 t) r1_1) (ix2 q d)
      = (yo x gn sc sh wi wo T d : EReal) :=
  yo_row x gn sc sh wi wo _ _ _ q T (fun f => (out_gate V c t q f T hT).trans (congrFun hp _))
    (fun f => (out_up V c t q f T hT).trans (congrFun hp _)) (fun f d => (out_w V c t f d).trans (hwo f d)) d

include hp hwo in
/-- The output product, after the second call. -/
theorem yo_array : (dat1 V c).arrAt 5 cfg1.N = fun y : S4096x1024.Idx => (yo x gn sc sh wi wo (y 0) (y 1) : EReal) := by
  refine (dat1 V c).arrAt_eq_of_covers 5 _ (by decide +kernel) fun t hf y => ?_
  blk_simp
  rw [after1_5]
  have hi : ∀ t : Fin cfg1.N, (cfg1.win 5).index t = ![t.val, 0] := by decide +kernel
  have h0 : (((cfg1.win 5).blk t).view.emb y 0 : ℕ) = t.val * 512 + (y 0).val := by blk_simp [hi t]
  have h1 : (((cfg1.win 5).blk t).view.emb y 1 : ℕ) = (y 1).val := by blk_simp [hi t]
  have hN : t.val < 8 := t.isLt
  change S512x1024.Idx at y
  refine Eq.trans (b := (yo x gn sc sh wi wo ⟨t.val * 512 + (y 0).val, by have : (y 0).val < 512 := (y 0).isLt; omega⟩ (y 1) : EReal)) ?_ ?_
  · unfold out1_5
    rw [View.canon_cons_unit_zero (by decide)]
    idx_vars y
    exact (yo_row' _ _ _ y0 y1).trans (out_yo x gn sc sh wi wo V c hp hwo t y0 y1 _ rfl)
  · have e0 := Fin.ext (a := ((cfg1.win 5).blk t).view.emb y 0) (b := ⟨t.val * 512 + (y 0).val, by have : (y 0).val < 512 := (y 0).isLt; omega⟩) h0
    have e1 := Fin.ext (a := ((cfg1.win 5).blk t).view.emb y 1) (b := y 1) h1
    rw [e0, e1]
    rfl

include hp hwo hx hg in
/-- The layer's result, after the second call. -/
theorem xout_array : (dat1 V c).arrAt 6 cfg1.N = fun y : S4096x1024.Idx => (xout x gn sc sh g2 wi wo (y 0) (y 1) : EReal) := by
  refine (dat1 V c).arrAt_eq_of_covers 6 _ (by decide +kernel) fun t hf y => ?_
  blk_simp
  rw [after1_6]
  have hi : ∀ t : Fin cfg1.N, (cfg1.win 6).index t = ![t.val, 0] := by decide +kernel
  have h0 : (((cfg1.win 6).blk t).view.emb y 0 : ℕ) = t.val * 512 + (y 0).val := by blk_simp [hi t]
  have h1 : (((cfg1.win 6).blk t).view.emb y 1 : ℕ) = (y 1).val := by blk_simp [hi t]
  have hN : t.val < 8 := t.isLt
  change S512x1024.Idx at y
  refine Eq.trans (b := (xout x gn sc sh g2 wi wo ⟨t.val * 512 + (y 0).val, by have : (y 0).val < 512 := (y 0).isLt; omega⟩ (y 1) : EReal)) ?_ ?_
  · unfold out1_6
    rw [View.canon_cons_unit_zero (by decide)]
    idx_vars y
    exact xout_row x gn sc sh g2 wi wo _ _ _ _ _ y0 y1 _ ((out_x V c t y0 y1 _ rfl).trans (hx _ _)) ((out_g V c t y1).trans (hg _)) (out_yo x gn sc sh wi wo V c hp hwo t y0 y1 _ rfl)
  · have e0 := Fin.ext (a := ((cfg1.win 6).blk t).view.emb y 0) (b := ⟨t.val * 512 + (y 0).val, by have : (y 0).val < 512 := (y 0).isLt; omega⟩) h0
    have e1 := Fin.ext (a := ((cfg1.win 6).blk t).view.emb y 1) (b := y 1) h1
    rw [e0, e1]
    rfl

end

end Cert.Proof.Ffn
-- ==== Proof.FfnB1.lean ====
/- The first call of the layer's backward pass: the gradients of the two halves, and the sums for the output gain. -/
module

public import proofs.«01_k».proof.Proof.Gen.Kernel2Ideal.Frame
public import proofs.«01_k».proof.Proof.FfnOut

@[expose] public section

set_option maxRecDepth 16384

noncomputable section

namespace Cert.Proof.Ffn

open Cert.Kernel2Ideal Cert.Kernel2Ideal.Gen Idealize.ShloMosaic Idealize.ShloMosaic.TcCoe Idealize.ShloMosaic.Tactic
open Idealize.SL.Sem
open Idealize.ShloMosaic.Pipeline (Dat)

variable (x : Fin 4096 → Fin 1024 → ℝ) (gn sc sh g2 : Fin 1024 → ℝ) (wi : Fin 1024 → Fin 5632 → ℝ) (wo : Fin 2816 → Fin 1024 → ℝ)
  (dx : Fin 4096 → Fin 1024 → ℝ)

/-- A row of the gradient of the gated rows. -/
theorem da_row (v0 : Vec Ideal S256x1024 .f32) (v3 : Vec Ideal S1x1024 .f32) (u : Vec Ideal S1x2816x1024 .bf16) (q : Fin 256)
    (t : Fin 4096) (h0 : ∀ d, v0 (ix2 q d) = (dx t d : EReal)) (h3 : ∀ d, v3 (ix2 0 d) = (g2 d : EReal))
    (hu : ∀ f d, u (ix3 0 f d) = (wo f d : EReal)) (f : Fin 2816) :
    k2_pay6 (F := Ideal) v0 v3 u (ix2 q f) = (da g2 wo dx t f : EReal) := by
  pointwise [k2_pay6, k2_pay4]
  simp only [h0, h3, hu, ← EReal.coe_mul, coe_sum]
  rfl

/-- A row of the gradient of the gate. -/
theorem dgate_row (v0 : Vec Ideal S256x1024 .f32) (v3 : Vec Ideal S1x1024 .f32) (u : Vec Ideal S1x2816x1024 .bf16)
    (v18 v20 : Vec Ideal S1x256x2816 .bf16) (q : Fin 256) (t : Fin 4096) (f : Fin 2816)
    (ha : k2_pay6 (F := Ideal) v0 v3 u (ix2 q f) = (da g2 wo dx t f : EReal))
    (hg : v18 (ix3 0 q f) = (gate x gn sc sh wi t f : EReal)) (hu : v20 (ix3 0 q f) = (up x gn sc sh wi t f : EReal)) :
    k2_pay1 (F := Ideal) (k2_pay9 (F := Ideal) v18) (k2_pay11 (F := Ideal) v0 v3 u v20) (k2_pay12 (F := Ideal) v18)
      (k2_pay13 (F := Ideal)) (ix3 0 q f) = (dgate x gn sc sh g2 wi wo dx t f : EReal) := by
  have e : k2_pay1 (F := Ideal) (k2_pay9 (F := Ideal) v18) (k2_pay11 (F := Ideal) v0 v3 u v20) (k2_pay12 (F := Ideal) v18)
      (k2_pay13 (F := Ideal)) (ix3 0 q f)
      = k2_pay6 (F := Ideal) v0 v3 u (ix2 q f) * v20 (ix3 0 q f)
        * (Ideal.logistic (v18 (ix3 0 q f)) * (1 + v18 (ix3 0 q f) * (1 - Ideal.logistic (v18 (ix3 0 q f))))) := by
    pointwise [k2_pay1, k2_pay9, k2_pay11, k2_pay12, k2_pay13, k2_pay7, k2_pay8]
  rw [e, ha, hg, hu, logistic_real]
  unfold dgate
  push_cast
  rfl

/-- A row of the gradient of the other half. -/
theorem dup_row (v0 : Vec Ideal S256x1024 .f32) (v3 : Vec Ideal S1x1024 .f32) (u : Vec Ideal S1x2816x1024 .bf16)
    (v18 : Vec Ideal S1x256x2816 .bf16) (q : Fin 256) (t : Fin 4096) (f : Fin 2816)
    (ha : k2_pay6 (F := Ideal) v0 v3 u (ix2 q f) = (da g2 wo dx t f : EReal))
    (hg : v18 (ix3 0 q f) = (gate x gn sc sh wi t f : EReal)) :
    k2_pay2 (F := Ideal) (k2_pay6 (F := Ideal) v0 v3 u) (k2_pay10 (F := Ideal) v18) (ix3 0 q f)
      = (dup x gn sc sh g2 wi wo dx t f : EReal) := by
  have e : k2_pay2 (F := Ideal) (k2_pay6 (F := Ideal) v0 v3 u) (k2_pay10 (F := Ideal) v18) (ix3 0 q f)
      = k2_pay6 (F := Ideal) v0 v3 u (ix2 q f) * (v18 (ix3 0 q f) * Ideal.logistic (v18 (ix3 0 q f))) := by
    pointwise [k2_pay2, k2_pay10, k2_pay9, k2_pay7]
  rw [e, ha, hg, logistic_real]
  unfold dup
  push_cast
  rfl

/-- A tile's column sums for the output gain. -/
theorem gsum_row (v0 : Vec Ideal S256x1024 .f32) (v1 : Vec Ideal S256x1024 .bf16) (d : Fin 1024) (t : Fin 256 → Fin 4096)
    (h0 : ∀ q, v0 (ix2 q d) = (dx (t q) d : EReal)) (h1 : ∀ q, v1 (ix2 q d) = (yo x gn sc sh wi wo (t q) d : EReal)) :
    k2_pay5 (F := Ideal) v0 v1 (ix3 0 0 d) = ((∑ q, dx (t q) d * yo x gn sc sh wi wo (t q) d : ℝ) : EReal) := by
  pointwise [k2_pay5]
  simp only [h0, h1, ← EReal.coe_mul, coe_sum]

/-- Row `q` of tile `t`, of tiles of 256 rows. -/
def row256 (t : Fin 16) (q : Fin 256) : Fin 4096 := ⟨t.val * 256 + q.val, by omega⟩

variable (V : (c : Dev nD) → (b : Ref sig .tc) → Buf (Elt Ideal) ((c : Thread nD τ).loc b)) (c : Dev nD)

section

theorem b1_dx (t : Fin cfg2.N) (q : Fin 256) (d : Fin 1024) (T : Fin 4096) (hT : T.val = t.val * 256 + q.val) :
    (View.ld (iblk2 V c 0 t) r2_0 : Vec Ideal S256x1024 .f32) (ix2 q d) = (V c main_arg7 : Vec Ideal S4096x1024 .f32) (ix2 T d) := by
  have hi : ∀ t : Fin cfg2.N, (cfg2.win 0).index t = ![t.val, 0] := by decide +kernel
  blk_ext [iblk2, hi t, View.ld, LoadRect.idx_apply, hT]
  all_goals simp [Rect.unit]

theorem b1_y (t : Fin cfg2.N) (q : Fin 256) (d : Fin 1024) (T : Fin 4096) (hT : T.val = t.val * 256 + q.val) :
    (View.ld (iblk2 V c 1 t) r2_0 : Vec Ideal S256x1024 .bf16) (ix2 q d) = (V c main_v7_0 : Vec Ideal S4096x1024 .bf16) (ix2 T d) := by
  have hi : ∀ t : Fin cfg2.N, (cfg2.win 1).index t = ![t.val, 0] := by decide +kernel
  blk_ext [iblk2, hi t, View.ld, LoadRect.idx_apply, hT]
  all_goals simp [Rect.unit]

theorem b1_g (t : Fin cfg2.N) (d : Fin 1024) :
    (View.ld (iblk2 V c 2 t) r2_1 : Vec Ideal S1x1024 .f32) (ix2 0 d) = (V c main_arg4 : Vec Ideal S1x1024 .f32) (ix2 0 d) := by
  have hi : ∀ t : Fin cfg2.N, (cfg2.win 2).index t = ![0, 0] := by decide +kernel
  blk_ext [iblk2, hi t, View.ld, LoadRect.idx_apply]
  all_goals simp [Rect.unit]

theorem b1_w (t : Fin cfg2.N) (f : Fin 2816) (d : Fin 1024) :
    (View.ld (iblk2 V c 3 t) r2_3 : Vec Ideal S1x2816x1024 .bf16) (ix3 0 f d) = (V c main_v5 : Vec Ideal S1x2816x1024 .bf16) (ix3 0 f d) := by
  have hi : ∀ t : Fin cfg2.N, (cfg2.win 3).index t = ![0, 0, 0] := by decide +kernel
  blk_ext [iblk2, hi t, View.ld, LoadRect.idx_apply]
  all_goals simp [Rect.unit]

theorem b1_gate (t : Fin cfg2.N) (q : Fin 256) (f : Fin 2816) (T : Fin 4096) (hT : T.val = t.val * 256 + q.val) :
    (View.ld (iblk2 V c 4 t) r2_4 : Vec Ideal S1x256x2816 .bf16) (ix3 0 q f) = (V c main_v6_1 : Vec Ideal S2x4096x2816 .bf16) (ix3 0 T f) := by
  have hi : ∀ t : Fin cfg2.N, (cfg2.win 4).index t = ![0, t.val, 0] := by decide +kernel
  blk_ext [iblk2, hi t, View.ld, LoadRect.idx_apply, hT]
  all_goals simp [Rect.unit]

theorem b1_up (t : Fin cfg2.N) (q : Fin 256) (f : Fin 2816) (T : Fin 4096) (hT : T.val = t.val * 256 + q.val) :
    (View.ld (iblk2 V c 5 t) r2_4 : Vec Ideal S1x256x2816 .bf16) (ix3 0 q f) = (V c main_v6_1 : Vec Ideal S2x4096x2816 .bf16) (ix3 1 T f) := by
  have hi : ∀ t : Fin cfg2.N, (cfg2.win 5).index t = ![1, t.val, 0] := by decide +kernel
  blk_ext [iblk2, hi t, View.ld, LoadRect.idx_apply, hT]
  all_goals simp [Rect.unit]

variable (hp : (V c main_v6_1 : Vec Ideal S2x4096x2816 .bf16) = fun y => (pre x gn sc sh wi (y 0) (y 1) (y 2) : EReal))
  (hy : (V c main_v7_0 : Vec Ideal S4096x1024 .bf16) = fun y => (yo x gn sc sh wi wo (y 0) (y 1) : EReal))
  (hwo : WoAre (V c main_v5) wo)
  (hdx : ∀ t i, (V c main_arg7 : Vec Ideal S4096x1024 .f32) (ix2 t i) = (dx t i : EReal))
  (hg : ∀ i, (V c main_arg4 : Vec Ideal S1x1024 .f32) (ix2 0 i) = (g2 i : EReal))

include hy hdx in
/-- The tiles' column sums for the output gain. -/
theorem gsum_array : (dat2 V c).arrAt 7 cfg2.N
    = fun y : S16x1x1024.Idx => ((∑ q, dx (row256 (y 0) q) (y 2) * yo x gn sc sh wi wo (row256 (y 0) q) (y 2) : ℝ) : EReal) := by
  refine (dat2 V c).arrAt_eq_of_covers 7 _ (by decide +kernel) fun t hf y => ?_
  blk_simp
  rw [after2_7]
  have hi : ∀ t : Fin cfg2.N, (cfg2.win 7).index t = ![t.val, 0, 0] := by decide +kernel
  have hN : t.val < 16 := t.isLt
  have h0 : (((cfg2.win 7).blk t).view.emb y 0 : ℕ) = t.val := by
    blk_simp [hi t]
  have h2 : (((cfg2.win 7).blk t).view.emb y 2 : ℕ) = (y 2).val := by blk_simp [hi t]
  change S1x1x1024.Idx at y
  refine Eq.trans (b := ((∑ q, dx (row256 ⟨t.val, hN⟩ q) (y 2) * yo x gn sc sh wi wo (row256 ⟨t.val, hN⟩ q) (y 2) : ℝ) : EReal)) ?_ ?_
  · unfold out2_7
    rw [View.canon_cons_unit_zero (by decide)]
    idx_vars y
    obtain rfl : y0 = 0 := Fin.ext (by omega)
    obtain rfl : y1 = 0 := Fin.ext (by omega)
    exact gsum_row x gn sc sh wi wo dx _ _ y2 (row256 ⟨t.val, hN⟩) (fun q => (b1_dx V c t q y2 _ rfl).trans (hdx _ _))
      (fun q => (b1_y V c t q y2 _ rfl).trans (congrFun hy _))
  · have e0 := Fin.ext (a := ((cfg2.win 7).blk t).view.emb y 0) (b := ⟨t.val, hN⟩) h0
    have e2 := Fin.ext (a := ((cfg2.win 7).blk t).view.emb y 2) (b := y 2) h2
    rw [e0, e2]
    rfl

include hp hwo hdx hg in
/-- The gradients of the two halves, after the third call. -/
theorem dpre_array : (dat2 V c).arrAt 8 cfg2.N
    = fun y : S2x4096x2816.Idx => (dpre x gn sc sh g2 wi wo dx (y 0) (y 1) (y 2) : EReal) := by
  refine (dat2 V c).arrAt_eq_of_covers 8 _ (by decide +kernel) fun t hf y => ?_
  blk_simp
  rw [after2_8]
  have hi : ∀ t : Fin cfg2.N, (cfg2.win 8).index t = ![0, t.val, 0] := by decide +kernel
  have h0 : (((cfg2.win 8).blk t).view.emb y 0 : ℕ) = (y 0).val := by blk_simp [hi t]
  have h1 : (((cfg2.win 8).blk t).view.emb y 1 : ℕ) = t.val * 256 + (y 1).val := by blk_simp [hi t]
  have h2 : (((cfg2.win 8).blk t).view.emb y 2 : ℕ) = (y 2).val := by blk_simp [hi t]
  have hN : t.val < 16 := t.isLt
  have hda : ∀ (q : Fin 256) (f : Fin 2816), k2_pay6 (F := Ideal) (View.ld (iblk2 V c 0 t) r2_0) (View.ld (iblk2 V c 2 t) r2_1)
      (View.ld (iblk2 V c 3 t) r2_3) (ix2 q f) = (da g2 wo dx (row256 ⟨t.val, hN⟩ q) f : EReal) := fun q f =>
    da_row g2 wo dx _ _ _ q _ (fun d => (b1_dx V c t q d _ rfl).trans (hdx _ _)) (fun d => (b1_g V c t d).trans (hg _))
      (fun f d => (b1_w V c t f d).trans (hwo f d)) f
  change S2x256x2816.Idx at y
  refine Eq.trans (b := (dpre x gn sc sh g2 wi wo dx (y 0) (row256 ⟨t.val, hN⟩ (y 1)) (y 2) : EReal)) ?_ ?_
  · refine View.canon_apply_of_pieces (Val := Elt Ideal) (fun y : S2x256x2816.Idx =>
      (dpre x gn sc sh g2 wi wo dx (y 0) (row256 ⟨t.val, hN⟩ (y 1)) (y 2) : EReal)) _ ?_ y (cover2_8 _ _ y)
    intro pc hpc z
    simp only [List.mem_cons, List.not_mem_nil, or_false] at hpc
    rcases hpc with rfl | rfl
    · have hz := fun a => Rect.emb_apply r2_6 z a
      change S1x256x2816.Idx at z
      dsimp only
      generalize r2_6.emb z = y at hz ⊢
      idx_vars z; idx_vars y
      have e0 : y0.val = 1 + 1 * z0.val := hz 0
      have e1 : y1.val = 0 + 1 * z1.val := hz 1
      have e2 : y2.val = 0 + 1 * z2.val := hz 2
      obtain rfl : z0 = 0 := Fin.ext (by omega)
      obtain rfl : y0 = 1 := Fin.ext (by simp only [e0]; omega)
      obtain rfl : y1 = z1 := Fin.ext (by omega)
      obtain rfl : y2 = z2 := Fin.ext (by omega)
      exact dup_row x gn sc sh g2 wi wo dx _ _ _ _ y1 (row256 ⟨t.val, hN⟩ y1) y2 (hda y1 y2) ((b1_gate V c t y1 y2 _ rfl).trans (congrFun hp _))
    · have hz := fun a => Rect.emb_apply r2_5 z a
      change S1x256x2816.Idx at z
      dsimp only
      generalize r2_5.emb z = y at hz ⊢
      idx_vars z; idx_vars y
      have e0 : y0.val = 0 + 1 * z0.val := hz 0
      have e1 : y1.val = 0 + 1 * z1.val := hz 1
      have e2 : y2.val = 0 + 1 * z2.val := hz 2
      obtain rfl : z0 = 0 := Fin.ext (by omega)
      obtain rfl : y0 = 0 := Fin.ext (by simp only [e0]; omega)
      obtain rfl : y1 = z1 := Fin.ext (by omega)
      obtain rfl : y2 = z2 := Fin.ext (by omega)
      exact dgate_row x gn sc sh g2 wi wo dx _ _ _ _ _ y1 (row256 ⟨t.val, hN⟩ y1) y2 (hda y1 y2) ((b1_gate V c t y1 y2 _ rfl).trans (congrFun hp _))
        ((b1_up V c t y1 y2 _ rfl).trans (congrFun hp _))
  · have e0 := Fin.ext (a := ((cfg2.win 8).blk t).view.emb y 0) (b := y 0) h0
    have e1 := Fin.ext (a := ((cfg2.win 8).blk t).view.emb y 1) (b := row256 ⟨t.val, hN⟩ (y 1)) h1
    have e2 := Fin.ext (a := ((cfg2.win 8).blk t).view.emb y 2) (b := y 2) h2
    rw [e0, e1, e2]

end

end Cert.Proof.Ffn
-- ==== Proof.FfnB4.lean ====
/- The last call of the layer's backward pass: the gradient of the rows, of the argument, and the sums for the gains. -/
module

public import proofs.«01_k».proof.Proof.Gen.Kernel2Ideal.Frame
public import proofs.«01_k».proof.Proof.FfnB1

@[expose] public section

set_option maxRecDepth 16384

noncomputable section

namespace Cert.Proof.Ffn

open Cert.Kernel2Ideal Cert.Kernel2Ideal.Gen Idealize.ShloMosaic Idealize.ShloMosaic.TcCoe Idealize.ShloMosaic.Tactic
open Idealize.SL.Sem
open Idealize.ShloMosaic.Pipeline (Dat)

variable (x : Fin 4096 → Fin 1024 → ℝ) (gn sc sh g2 : Fin 1024 → ℝ) (wi : Fin 1024 → Fin 5632 → ℝ) (wo : Fin 2816 → Fin 1024 → ℝ)
  (dx : Fin 4096 → Fin 1024 → ℝ)

/-- A sum over 2816 columns is a sum over two slabs of 1408. -/
theorem sum_slabs (g : Fin 2816 → ℝ) :
    ∑ f, g f = ∑ f : Fin 1408, g ⟨f.val, by omega⟩ + ∑ f : Fin 1408, g ⟨1408 + f.val, by omega⟩ := by
  refine (Fin.sum_univ_add (a := 1408) (b := 1408) g).trans ?_
  refine congrArg₂ (· + ·) (Finset.sum_congr rfl fun f _ => congrArg g (Fin.ext rfl))
    (Finset.sum_congr rfl fun f _ => congrArg g (Fin.ext rfl))

/-- A row of the gradient of the normalised, scaled and shifted rows. -/
theorem dh_row (v0 : Vec Ideal S2x512x2816 .bf16) (u0 u1 u2 u3 : Vec Ideal S1x1x1024x1408 .bf16) (q : Fin 512) (t : Fin 4096)
    (h0 : ∀ p f, v0 (ix3 p q f) = (dpre x gn sc sh g2 wi wo dx p t f : EReal))
    (hu0 : ∀ i f, u0 (ix4 0 0 i f) = (wi i ⟨0 * 1408 + f.val, by omega⟩ : EReal))
    (hu1 : ∀ i f, u1 (ix4 0 0 i f) = (wi i ⟨1 * 1408 + f.val, by omega⟩ : EReal))
    (hu2 : ∀ i f, u2 (ix4 0 0 i f) = (wi i ⟨2 * 1408 + f.val, by omega⟩ : EReal))
    (hu3 : ∀ i f, u3 (ix4 0 0 i f) = (wi i ⟨3 * 1408 + f.val, by omega⟩ : EReal)) (i : Fin 1024) :
    k3_pay1 (F := Ideal) v0 u0 u1 u2 u3 (ix2 q i) = (dh x gn sc sh g2 wi wo dx t i : EReal) := by
  have e : k3_pay1 (F := Ideal) v0 u0 u1 u2 u3 (ix2 q i)
      = (((∑ f : Fin 1408, v0 (ix3 0 q ⟨f.val, by omega⟩) * u0 (ix4 0 0 i f))
        + ∑ f : Fin 1408, v0 (ix3 0 q ⟨1408 + f.val, by omega⟩) * u1 (ix4 0 0 i f))
        + ∑ f : Fin 1408, v0 (ix3 1 q ⟨f.val, by omega⟩) * u2 (ix4 0 0 i f))
        + ∑ f : Fin 1408, v0 (ix3 1 q ⟨1408 + f.val, by omega⟩) * u3 (ix4 0 0 i f) := by
    pointwise [k3_pay1]
  rw [e]
  simp only [h0, hu0, hu1, hu2, hu3, ← EReal.coe_mul, coe_sum, ← EReal.coe_add]
  congr 1
  unfold dh dpre
  rw [sum_slabs, sum_slabs]
  simp only [Fin.val_zero, if_true, Fin.val_one, one_ne_zero, if_false, add_assoc]
  refine congrArg₂ (· + ·) (Finset.sum_congr rfl fun f _ => ?_) (congrArg₂ (· + ·) (Finset.sum_congr rfl fun f _ => ?_)
    (congrArg₂ (· + ·) (Finset.sum_congr rfl fun f _ => ?_) (Finset.sum_congr rfl fun f _ => ?_))) <;> (congr 2; try (apply Fin.ext; simp only []; omega))

/-- One over the root of a row's mean square. -/
theorem rs_row (v25 : Vec Ideal S512x1024 .f32) (q : Fin 512) (t : Fin 4096) (h : ∀ i, v25 (ix2 q i) = (x t i : EReal)) :
    k3_pay2 (F := Ideal) v25 (ix2 q 0) = (rs x t : EReal) := by
  pointwise [k3_pay2]
  simp only [h]
  exact rs_coe x t

theorem norm_row (v25 : Vec Ideal S512x1024 .f32) (q : Fin 512) (t : Fin 4096) (h : ∀ i, v25 (ix2 q i) = (x t i : EReal))
    (i : Fin 1024) : k3_pay3 (F := Ideal) v25 (ix2 q i) = ((x t i * rs x t : ℝ) : EReal) := by
  have e : k3_pay3 (F := Ideal) v25 (ix2 q i) = v25 (ix2 q i) * k3_pay2 (F := Ideal) v25 (ix2 q 0) := by pointwise [k3_pay3]
  rw [e, rs_row x v25 q t h, h, ← EReal.coe_mul]

/-- A row of the gradient of the argument. -/
theorem dxin_row (v24 : FVec Ideal S512x1024 .f32) (v25 v26 : Vec Ideal S512x1024 .f32) (v27 v28 : Vec Ideal S1x1024 .f32)
    (q : Fin 512) (t : Fin 4096) (h24 : ∀ i, v24 (ix2 q i) = (dh x gn sc sh g2 wi wo dx t i : EReal))
    (h25 : ∀ i, v25 (ix2 q i) = (x t i : EReal)) (h26 : ∀ i, v26 (ix2 q i) = (dx t i : EReal))
    (h27 : ∀ i, v27 (ix2 0 i) = (gn i : EReal)) (h28 : ∀ i, v28 (ix2 0 i) = (sc i : EReal)) (i : Fin 1024) :
    k3_pay4 (F := Ideal) v24 v25 v26 v27 v28 (ix2 q i) = (dxin x gn sc sh g2 wi wo dx t i : EReal) := by
  have e : k3_pay4 (F := Ideal) v24 v25 v26 v27 v28 (ix2 q i)
      = v26 (ix2 q i) + k3_pay2 (F := Ideal) v25 (ix2 q 0) * (v24 (ix2 q i) * (v27 (ix2 0 i) * (1 + v28 (ix2 0 i)))
        - k3_pay3 (F := Ideal) v25 (ix2 q i) * Ideal.div (∑ k, v24 (ix2 q k) * (v27 (ix2 0 k) * (1 + v28 (ix2 0 k)))
            * k3_pay3 (F := Ideal) v25 (ix2 q k)) (Ideal.ofBits .f32 0x44800000#32)) := by
    pointwise [k3_pay4]
  rw [e, rs_row x v25 q t h25, width_bits, Ideal.div_coe (by norm_num)]
  simp only [norm_row x v25 q t h25, h24, h26, h27, h28]
  have o : (1 : EReal) = ((1 : ℝ) : EReal) := rfl
  rw [o]
  simp only [← EReal.coe_mul, ← EReal.coe_add, coe_sum, ← EReal.coe_sub]
  congr 1
  unfold dxin dxh
  ring

/-- A tile's column sums of the gradient of the rows. -/
theorem hsum_row (v24 : FVec Ideal S512x1024 .f32) (i : Fin 1024) (t : Fin 512 → Fin 4096)
    (h24 : ∀ q, v24 (ix2 q i) = (dh x gn sc sh g2 wi wo dx (t q) i : EReal)) :
    k3_pay5 (F := Ideal) v24 (ix3 0 0 i) = ((∑ q, dh x gn sc sh g2 wi wo dx (t q) i : ℝ) : EReal) := by
  pointwise [k3_pay5]
  simp only [h24, coe_sum]

/-- A tile's column sums of the gradient of the rows, times the normalised rows. -/
theorem nsum_row (v24 : FVec Ideal S512x1024 .f32) (v25 : Vec Ideal S512x1024 .f32) (i : Fin 1024) (t : Fin 512 → Fin 4096)
    (h24 : ∀ q, v24 (ix2 q i) = (dh x gn sc sh g2 wi wo dx (t q) i : EReal)) (h25 : ∀ q i, v25 (ix2 q i) = (x (t q) i : EReal)) :
    k3_pay6 (F := Ideal) v24 v25 (ix3 0 0 i)
      = ((∑ q, dh x gn sc sh g2 wi wo dx (t q) i * (x (t q) i * rs x (t q)) : ℝ) : EReal) := by
  have e : k3_pay6 (F := Ideal) v24 v25 (ix3 0 0 i) = ∑ q, v24 (ix2 q i) * k3_pay3 (F := Ideal) v25 (ix2 q i) := by
    pointwise [k3_pay6]
  rw [e]
  refine (Finset.sum_congr rfl fun q _ => congrArg₂ (· * ·) (h24 q) (norm_row x v25 q (t q) (h25 q) i)).trans ?_
  simp only [← EReal.coe_mul, coe_sum]

/-- Row `q` of tile `t`, of tiles of 512 rows. -/
def row512 (t : Fin 8) (q : Fin 512) : Fin 4096 := ⟨t.val * 512 + q.val, by omega⟩

variable (V : (c : Dev nD) → (b : Ref sig .tc) → Buf (Elt Ideal) ((c : Thread nD τ).loc b)) (c : Dev nD)

section

theorem b4_d (t : Fin cfg3.N) (p : Fin 2) (q : Fin 512) (f : Fin 2816) (T : Fin 4096) (hT : T.val = t.val * 512 + q.val) :
    (View.ld (iblk3 V c 0 t) r3_0 : Vec Ideal S2x512x2816 .bf16) (ix3 p q f) = (V c main_v8_2 : Vec Ideal S2x4096x2816 .bf16) (ix3 p T f) := by
  have hi : ∀ t : Fin cfg3.N, (cfg3.win 0).index t = ![0, t.val, 0] := by decide +kernel
  blk_ext [iblk3, hi t, View.ld, LoadRect.idx_apply, hT]
  all_goals simp [Rect.unit]

theorem b4_w0 (t : Fin cfg3.N) (i : Fin 1024) (f : Fin 1408) :
    (View.ld (iblk3 V c 1 t) r3_1 : Vec Ideal S1x1x1024x1408 .bf16) (ix4 0 0 i f) = (V c main_v3 : Vec Ideal S4x1x1024x1408 .bf16) (ix4 0 0 i f) := by
  have hi : ∀ t : Fin cfg3.N, (cfg3.win 1).index t = ![0, 0, 0, 0] := by decide +kernel
  blk_ext [iblk3, hi t, View.ld, LoadRect.idx_apply]
  all_goals simp [Rect.unit]

theorem b4_w1 (t : Fin cfg3.N) (i : Fin 1024) (f : Fin 1408) :
    (View.ld (iblk3 V c 1 t) r3_2 : Vec Ideal S1x1x1024x1408 .bf16) (ix4 0 0 i f) = (V c main_v3 : Vec Ideal S4x1x1024x1408 .bf16) (ix4 1 0 i f) := by
  have hi : ∀ t : Fin cfg3.N, (cfg3.win 1).index t = ![0, 0, 0, 0] := by decide +kernel
  blk_ext [iblk3, hi t, View.ld, LoadRect.idx_apply]
  all_goals simp [Rect.unit]

theorem b4_w2 (t : Fin cfg3.N) (i : Fin 1024) (f : Fin 1408) :
    (View.ld (iblk3 V c 1 t) r3_3 : Vec Ideal S1x1x1024x1408 .bf16) (ix4 0 0 i f) = (V c main_v3 : Vec Ideal S4x1x1024x1408 .bf16) (ix4 2 0 i f) := by
  have hi : ∀ t : Fin cfg3.N, (cfg3.win 1).index t = ![0, 0, 0, 0] := by decide +kernel
  blk_ext [iblk3, hi t, View.ld, LoadRect.idx_apply]
  all_goals simp [Rect.unit]

theorem b4_w3 (t : Fin cfg3.N) (i : Fin 1024) (f : Fin 1408) :
    (View.ld (iblk3 V c 1 t) r3_4 : Vec Ideal S1x1x1024x1408 .bf16) (ix4 0 0 i f) = (V c main_v3 : Vec Ideal S4x1x1024x1408 .bf16) (ix4 3 0 i f) := by
  have hi : ∀ t : Fin cfg3.N, (cfg3.win 1).index t = ![0, 0, 0, 0] := by decide +kernel
  blk_ext [iblk3, hi t, View.ld, LoadRect.idx_apply]
  all_goals simp [Rect.unit]

theorem b4_x (t : Fin cfg3.N) (q : Fin 512) (d : Fin 1024) (T : Fin 4096) (hT : T.val = t.val * 512 + q.val) :
    (View.ld (iblk3 V c 2 t) r3_5 : Vec Ideal S512x1024 .f32) (ix2 q d) = (V c main_arg0 : Vec Ideal S4096x1024 .f32) (ix2 T d) := by
  have hi : ∀ t : Fin cfg3.N, (cfg3.win 2).index t = ![t.val, 0] := by decide +kernel
  blk_ext [iblk3, hi t, View.ld, LoadRect.idx_apply, hT]
  all_goals simp [Rect.unit]

theorem b4_dx (t : Fin cfg3.N) (q : Fin 512) (d : Fin 1024) (T : Fin 4096) (hT : T.val = t.val * 512 + q.val) :
    (View.ld (iblk3 V c 3 t) r3_5 : Vec Ideal S512x1024 .f32) (ix2 q d) = (V c main_arg7 : Vec Ideal S4096x1024 .f32) (ix2 T d) := by
  have hi : ∀ t : Fin cfg3.N, (cfg3.win 3).index t = ![t.val, 0] := by decide +kernel
  blk_ext [iblk3, hi t, View.ld, LoadRect.idx_apply, hT]
  all_goals simp [Rect.unit]

theorem b4_gn (t : Fin cfg3.N) (d : Fin 1024) :
    (View.ld (iblk3 V c 4 t) r3_6 : Vec Ideal S1x1024 .f32) (ix2 0 d) = (V c main_arg1 : Vec Ideal S1x1024 .f32) (ix2 0 d) := by
  have hi : ∀ t : Fin cfg3.N, (cfg3.win 4).index t = ![0, 0] := by decide +kernel
  blk_ext [iblk3, hi t, View.ld, LoadRect.idx_apply]
  all_goals simp [Rect.unit]

theorem b4_sc (t : Fin cfg3.N) (d : Fin 1024) :
    (View.ld (iblk3 V c 5 t) r3_6 : Vec Ideal S1x1024 .f32) (ix2 0 d) = (V c main_arg2 : Vec Ideal S1x1024 .f32) (ix2 0 d) := by
  have hi : ∀ t : Fin cfg3.N, (cfg3.win 5).index t = ![0, 0] := by decide +kernel
  blk_ext [iblk3, hi t, View.ld, LoadRect.idx_apply]
  all_goals simp [Rect.unit]

variable (hd : (V c main_v8_2 : Vec Ideal S2x4096x2816 .bf16) = fun y => (dpre x gn sc sh g2 wi wo dx (y 0) (y 1) (y 2) : EReal))
  (hwi : SlabsAre (V c main_v3) wi)
  (hx : ∀ t i, (V c main_arg0 : Vec Ideal S4096x1024 .f32) (ix2 t i) = (x t i : EReal))
  (hdx : ∀ t i, (V c main_arg7 : Vec Ideal S4096x1024 .f32) (ix2 t i) = (dx t i : EReal))
  (hgn : ∀ i, (V c main_arg1 : Vec Ideal S1x1024 .f32) (ix2 0 i) = (gn i : EReal))
  (hsc : ∀ i, (V c main_arg2 : Vec Ideal S1x1024 .f32) (ix2 0 i) = (sc i : EReal))

include hd hwi in
theorem b4_dh (t : Fin cfg3.N) (q : Fin 512) (i : Fin 1024) (T : Fin 4096) (hT : T.val = t.val * 512 + q.val) :
    k3_pay7 (F := Ideal) (iblk3 V c 0 t) (iblk3 V c 1 t) (iblk3 V c 2 t) (iblk3 V c 3 t) (iblk3 V c 4 t) (iblk3 V c 5 t) (ix2 q i)
      = (dh x gn sc sh g2 wi wo dx T i : EReal) :=
  dh_row x gn sc sh g2 wi wo dx _ _ _ _ _ q T (fun p f => (b4_d V c t p q f T hT).trans (congrFun hd _))
    (fun i f => (b4_w0 V c t i f).trans (hwi 0 i f)) (fun i f => (b4_w1 V c t i f).trans (hwi 1 i f))
    (fun i f => (b4_w2 V c t i f).trans (hwi 2 i f)) (fun i f => (b4_w3 V c t i f).trans (hwi 3 i f)) i

include hd hwi hx hdx hgn hsc in
/-- The gradient of the argument, after the fourth call. -/
theorem dxin_array : (dat3 V c).arrAt 6 cfg3.N = fun y : S4096x1024.Idx => (dxin x gn sc sh g2 wi wo dx (y 0) (y 1) : EReal) := by
  refine (dat3 V c).arrAt_eq_of_covers 6 _ (by decide +kernel) fun t hf y => ?_
  blk_simp
  rw [after3_6]
  have hi : ∀ t : Fin cfg3.N, (cfg3.win 6).index t = ![t.val, 0] := by decide +kernel
  have h0 : (((cfg3.win 6).blk t).view.emb y 0 : ℕ) = t.val * 512 + (y 0).val := by blk_simp [hi t]
  have h1 : (((cfg3.win 6).blk t).view.emb y 1 : ℕ) = (y 1).val := by blk_simp [hi t]
  have hN : t.val < 8 := t.isLt
  change S512x1024.Idx at y
  refine Eq.trans (b := (dxin x gn sc sh g2 wi wo dx ⟨t.val * 512 + (y 0).val, by have : (y 0).val < 512 := (y 0).isLt; omega⟩ (y 1) : EReal)) ?_ ?_
  · unfold out3_6
    rw [View.canon_cons_unit_zero (by decide)]
    idx_vars y
    exact dxin_row x gn sc sh g2 wi wo dx _ _ _ _ _ y0 _ (fun i => b4_dh x gn sc sh g2 wi wo dx V c hd hwi t y0 i _ rfl)
      (fun i => (b4_x V c t y0 i _ rfl).trans (hx _ _)) (fun i => (b4_dx V c t y0 i _ rfl).trans (hdx _ _))
      (fun i => (b4_gn V c t i).trans (hgn i)) (fun i => (b4_sc V c t i).trans (hsc i)) y1
  · have e0 := Fin.ext (a := ((cfg3.win 6).blk t).view.emb y 0) (b := ⟨t.val * 512 + (y 0).val, by have : (y 0).val < 512 := (y 0).isLt; omega⟩) h0
    have e1 := Fin.ext (a := ((cfg3.win 6).blk t).view.emb y 1) (b := y 1) h1
    rw [e0, e1]
    rfl

include hd hwi in
/-- The tiles' column sums of the gradient of the rows. -/
theorem hsum_array : (dat3 V c).arrAt 7 cfg3.N
    = fun y : S8x1x1024.Idx => ((∑ q, dh x gn sc sh g2 wi wo dx (row512 (y 0) q) (y 2) : ℝ) : EReal) := by
  refine (dat3 V c).arrAt_eq_of_covers 7 _ (by decide +kernel) fun t hf y => ?_
  blk_simp
  rw [after3_7]
  have hi : ∀ t : Fin cfg3.N, (cfg3.win 7).index t = ![t.val, 0, 0] := by decide +kernel
  have hN : t.val < 8 := t.isLt
  have h0 : (((cfg3.win 7).blk t).view.emb y 0 : ℕ) = t.val := by
    blk_simp [hi t]
  have h2 : (((cfg3.win 7).blk t).view.emb y 2 : ℕ) = (y 2).val := by blk_simp [hi t]
  change S1x1x1024.Idx at y
  refine Eq.trans (b := ((∑ q, dh x gn sc sh g2 wi wo dx (row512 ⟨t.val, hN⟩ q) (y 2) : ℝ) : EReal)) ?_ ?_
  · unfold out3_7
    rw [View.canon_cons_unit_zero (by decide)]
    idx_vars y
    obtain rfl : y0 = 0 := Fin.ext (by omega)
    obtain rfl : y1 = 0 := Fin.ext (by omega)
    exact hsum_row x gn sc sh g2 wi wo dx _ y2 (row512 ⟨t.val, hN⟩)
      (fun q => b4_dh x gn sc sh g2 wi wo dx V c hd hwi t q y2 _ rfl)
  · have e0 := Fin.ext (a := ((cfg3.win 7).blk t).view.emb y 0) (b := ⟨t.val, hN⟩) h0
    have e2 := Fin.ext (a := ((cfg3.win 7).blk t).view.emb y 2) (b := y 2) h2
    rw [e0, e2]
    rfl

include hd hwi hx in
/-- The tiles' column sums of the gradient of the rows, times the normalised rows. -/
theorem nsum_array : (dat3 V c).arrAt 8 cfg3.N
    = fun y : S8x1x1024.Idx => ((∑ q, dh x gn sc sh g2 wi wo dx (row512 (y 0) q) (y 2) * (x (row512 (y 0) q) (y 2) * rs x (row512 (y 0) q)) : ℝ) : EReal) := by
  refine (dat3 V c).arrAt_eq_of_covers 8 _ (by decide +kernel) fun t hf y => ?_
  blk_simp
  rw [after3_8]
  have hi : ∀ t : Fin cfg3.N, (cfg3.win 8).index t = ![t.val, 0, 0] := by decide +kernel
  have hN : t.val < 8 := t.isLt
  have h0 : (((cfg3.win 8).blk t).view.emb y 0 : ℕ) = t.val := by
    blk_simp [hi t]
  have h2 : (((cfg3.win 8).blk t).view.emb y 2 : ℕ) = (y 2).val := by blk_simp [hi t]
  change S1x1x1024.Idx at y
  refine Eq.trans (b := ((∑ q, dh x gn sc sh g2 wi wo dx (row512 ⟨t.val, hN⟩ q) (y 2) * (x (row512 ⟨t.val, hN⟩ q) (y 2) * rs x (row512 ⟨t.val, hN⟩ q)) : ℝ) : EReal)) ?_ ?_
  · unfold out3_8
    rw [View.canon_cons_unit_zero (by decide)]
    idx_vars y
    obtain rfl : y0 = 0 := Fin.ext (by omega)
    obtain rfl : y1 = 0 := Fin.ext (by omega)
    exact nsum_row x gn sc sh g2 wi wo dx _ _ y2 (row512 ⟨t.val, hN⟩)
      (fun q => b4_dh x gn sc sh g2 wi wo dx V c hd hwi t q y2 _ rfl) (fun q i => (b4_x V c t q i _ rfl).trans (hx _ _))
  · have e0 := Fin.ext (a := ((cfg3.win 8).blk t).view.emb y 0) (b := ⟨t.val, hN⟩) h0
    have e2 := Fin.ext (a := ((cfg3.win 8).blk t).view.emb y 2) (b := y 2) h2
    rw [e0, e2]
    rfl

end

end Cert.Proof.Ffn
-- ==== Proof.FfnChain.lean ====
/- The feed-forward layer's four calls in a row: what each of the results holds at the end, in real terms. -/
module

public import proofs.«01_k».proof.Proof.FfnB4

@[expose] public section

set_option maxRecDepth 16384

noncomputable section

namespace Cert.Proof.Ffn

open Cert.Kernel2Ideal Cert.Kernel2Ideal.Gen Idealize.ShloMosaic Idealize.ShloMosaic.TcCoe Idealize.ShloMosaic.Tactic
open Idealize.SL.Sem Idealize.ShloMosaic.StableHlo

variable (m : (ℓ : Loc nD τ sig) → Buf (Elt Ideal) ℓ) (ρ : Dev nD → PrngReg) (c : Dev nD)

/-- The input weights as the calls take them: cast, and in slabs of 1408 columns. -/
def slabs (a : (⟨S1024x5632, .f32⟩ : BufTy).Contents (Elt Ideal)) : (⟨S4x1x1024x1408, .bf16⟩ : BufTy).Contents (Elt Ideal) :=
  broadcastInDim S4x1x1024x1408 ![0, 2, 3] bcast_S4x1024x1408_S4x1x1024x1408_0_2_3
    (transpose S4x1024x1408 [1, 0, 2] (shapeCast S1024x4x1408 (truncf (F := Ideal) .bf16 a bitsLt_bf16_f32) shapeCasts_S1024x5632_S1024x4x1408)
      transposes_S1024x4x1408_S4x1024x1408_1_0_2)

theorem slabs_at (a : (⟨S1024x5632, .f32⟩ : BufTy).Contents (Elt Ideal)) (j : Fin 4) (i : Fin 1024) (f : Fin 1408) :
    slabs a (ix4 j 0 i f) = a (ix2 i ⟨j.val * 1408 + f.val, by omega⟩) := by
  pointwise [slabs]

theorem w3_read : W1 m ρ c (Proc.devRef .tc main_v3) = slabs (m ((c : Thread nD τ).loc main_arg5)) := by
  unfold slabs W1
  after_results <;> rfl

theorem w5_read : W1 m ρ c (Proc.devRef .tc main_v5)
    = broadcastInDim S1x2816x1024 ![1, 2] bcast_S2816x1024_S1x2816x1024_1_2
      (truncf (F := Ideal) .bf16 (m ((c : Thread nD τ).loc main_arg6) : (⟨S2816x1024, .f32⟩ : BufTy).Contents (Elt Ideal)) bitsLt_bf16_f32) := by
  unfold W1
  after_results <;> rfl

theorem v10_read : W5 m ρ c (Proc.devRef .tc main_v10)
    = Host.reduceAdd (shapeCast S8x2x1x1024 (W4 m ρ c (Proc.devRef .tc main_v8_1) : (⟨S16x1x1024, .f32⟩ : BufTy).Contents (Elt Ideal)) shapeCasts_S16x1x1024_S8x2x1x1024)
        (constant (F := Ideal) S_ .f32 0x00000000#32) reducesTo_S8x2x1x1024_S8x1x1024_d1 h_S_ := by
  unfold W5
  after_results <;> rfl

theorem v13_read : W7 m ρ c (Proc.devRef .tc main_v13)
    = Host.reduceAdd (W6 m ρ c (Proc.devRef .tc main_v11_1) : (⟨S8x1x1024, .f32⟩ : BufTy).Contents (Elt Ideal))
        (constant (F := Ideal) S_ .f32 0x00000000#32) reducesTo_S8x1x1024_S1x1024_d0 h_S_ := by
  unfold W7
  after_results <;> rfl

theorem v18_read : W7 m ρ c (Proc.devRef .tc main_v18)
    = mulf (Host.reduceAdd (W6 m ρ c (Proc.devRef .tc main_v11_2) : (⟨S8x1x1024, .f32⟩ : BufTy).Contents (Elt Ideal))
        (constant (F := Ideal) S_ .f32 0x00000000#32) reducesTo_S8x1x1024_S1x1024_d0 h_S_)
      (W6 m ρ c (Proc.devRef .tc main_arg1) : (⟨S1x1024, .f32⟩ : BufTy).Contents (Elt Ideal)) := by
  unfold W7
  after_results <;> rfl

theorem v17_read : W7 m ρ c (Proc.devRef .tc main_v17)
    = mulf (Host.reduceAdd (W6 m ρ c (Proc.devRef .tc main_v11_2) : (⟨S8x1x1024, .f32⟩ : BufTy).Contents (Elt Ideal))
        (constant (F := Ideal) S_ .f32 0x00000000#32) reducesTo_S8x1x1024_S1x1024_d0 h_S_)
      (addf (broadcastInDim S1x1024 ![] bcast_S_S1x1024 (constant (F := Ideal) S_ .f32 0x3F800000#32))
        (W6 m ρ c (Proc.devRef .tc main_arg2) : (⟨S1x1024, .f32⟩ : BufTy).Contents (Elt Ideal))) := by
  unfold W7
  after_results <;> rfl

theorem v12_read : W7 m ρ c (Proc.devRef .tc main_v12)
    = Host.reduceAdd (W6 m ρ c (Proc.devRef .tc main_v10) : (⟨S8x1x1024, .f32⟩ : BufTy).Contents (Elt Ideal))
        (constant (F := Ideal) S_ .f32 0x00000000#32) reducesTo_S8x1x1024_S1x1024_d0 h_S_ := by
  unfold W7
  after_results <;> rfl

/-! ## The tiles' sums, added up -/

theorem sum_row512 (f : Fin 4096 → ℝ) : ∑ t : Fin 8, ∑ q : Fin 512, f (row512 t q) = ∑ t, f t :=
  Fin.sum_mul_add_congr fun _ _ _ => congrArg f (Fin.ext rfl)

theorem sum_row256 (f : Fin 4096 → ℝ) : ∑ t : Fin 16, ∑ q : Fin 256, f (row256 t q) = ∑ t, f t :=
  Fin.sum_mul_add_congr fun _ _ _ => congrArg f (Fin.ext rfl)

/-- A sum over the eight tiles of 512 rows. -/
theorem tiles8 (v : (⟨S8x1x1024, .f32⟩ : BufTy).Contents (Elt Ideal)) (f : Fin 8 → Fin 1024 → ℝ)
    (hv : ∀ t d, v (ix3 t 0 d) = (f t d : EReal)) (d : Fin 1024) :
    Host.reduceAdd (F := Ideal) v (constant (F := Ideal) S_ .f32 0x00000000#32) reducesTo_S8x1x1024_S1x1024_d0 h_S_ (ix2 0 d)
      = ((∑ t, f t d : ℝ) : EReal) := by
  pointwise []
  simp only [hv, coe_sum]

/-- The sixteen tiles of 256 rows, added up two by two. -/
theorem tiles16 (v : (⟨S16x1x1024, .f32⟩ : BufTy).Contents (Elt Ideal)) (t : Fin 8) (d : Fin 1024) :
    Host.reduceAdd (F := Ideal) (shapeCast S8x2x1x1024 v shapeCasts_S16x1x1024_S8x2x1x1024)
        (constant (F := Ideal) S_ .f32 0x00000000#32) reducesTo_S8x2x1x1024_S8x1x1024_d1 h_S_ (ix3 t 0 d)
      = ∑ b : Fin 2, v (ix3 ⟨t.val * 2 + b.val, by omega⟩ 0 d) := by
  pointwise []

section

variable (x : Fin 4096 → Fin 1024 → ℝ) (gn sc sh g2 : Fin 1024 → ℝ) (wi : Fin 1024 → Fin 5632 → ℝ) (wo : Fin 2816 → Fin 1024 → ℝ)
  (dx : Fin 4096 → Fin 1024 → ℝ)
  (h0 : ∀ t i, (m ((c : Thread nD τ).loc main_arg0) : Vec Ideal S4096x1024 .f32) (ix2 t i) = (x t i : EReal))
  (h1 : ∀ i, (m ((c : Thread nD τ).loc main_arg1) : Vec Ideal S1x1024 .f32) (ix2 0 i) = (gn i : EReal))
  (h2 : ∀ i, (m ((c : Thread nD τ).loc main_arg2) : Vec Ideal S1x1024 .f32) (ix2 0 i) = (sc i : EReal))
  (h3 : ∀ i, (m ((c : Thread nD τ).loc main_arg3) : Vec Ideal S1x1024 .f32) (ix2 0 i) = (sh i : EReal))
  (h4 : ∀ i, (m ((c : Thread nD τ).loc main_arg4) : Vec Ideal S1x1024 .f32) (ix2 0 i) = (g2 i : EReal))
  (h5 : ∀ i f, (m ((c : Thread nD τ).loc main_arg5) : Vec Ideal S1024x5632 .f32) (ix2 i f) = (wi i f : EReal))
  (h6 : ∀ f d, (m ((c : Thread nD τ).loc main_arg6) : Vec Ideal S2816x1024 .f32) (ix2 f d) = (wo f d : EReal))
  (h7 : ∀ t d, (m ((c : Thread nD τ).loc main_arg7) : Vec Ideal S4096x1024 .f32) (ix2 t d) = (dx t d : EReal))

include h5 in
theorem w3_are : SlabsAre (W1 m ρ c (Proc.devRef .tc main_v3)) wi := fun j i f => by
  rw [w3_read]
  exact (slabs_at _ j i f).trans (h5 _ _)

include h6 in
theorem w5_are : WoAre (W1 m ρ c (Proc.devRef .tc main_v5)) wo := fun f d => by
  rw [w5_read]
  refine Eq.trans ?_ (h6 f d)
  pointwise []

include h0 h1 h2 h3 h5 in
/-- The two halves, once the first call has run. -/
theorem pre2 : W2 m ρ c (Proc.devRef .tc main_v6_1) = fun y : S2x4096x2816.Idx => (pre x gn sc sh wi (y 0) (y 1) (y 2) : EReal) :=
  (W2_arr m ρ c 6).trans (pre_array x gn sc sh wi (V1 m ρ) c
    (fun t i => (congrFun (W1_args m ρ c main_arg0 (by decide)) _).trans (h0 t i))
    (fun i => (congrFun (W1_args m ρ c main_arg1 (by decide)) _).trans (h1 i))
    (fun i => (congrFun (W1_args m ρ c main_arg2 (by decide)) _).trans (h2 i))
    (fun i => (congrFun (W1_args m ρ c main_arg3 (by decide)) _).trans (h3 i)) (w3_are m ρ c wi h5))

include h6 in
theorem w5_are2 : WoAre (W2 m ρ c (Proc.devRef .tc main_v5)) wo := by
  rw [W2_of m ρ c main_v5 (by decide)]
  exact w5_are m ρ c wo h6

include h0 h1 h2 h3 h5 h6 in
theorem yo3 : W3 m ρ c (Proc.devRef .tc main_v7_0) = fun y : S4096x1024.Idx => (yo x gn sc sh wi wo (y 0) (y 1) : EReal) :=
  (W3_arr m ρ c 5).trans (yo_array x gn sc sh wi wo (V2 m ρ) c (pre2 m ρ c x gn sc sh wi h0 h1 h2 h3 h5) (w5_are2 m ρ c wo h6))

include h0 h1 h2 h3 h4 h5 h6 in
/-- The layer's result at the end. -/
theorem xout7 : W7 m ρ c (Proc.devRef .tc main_v7_1) = fun y : S4096x1024.Idx => (xout x gn sc sh g2 wi wo (y 0) (y 1) : EReal) := by
  rw [W7_of m ρ c main_v7_1 (by decide), W6_of m ρ c main_v7_1 (by decide), W5_of m ρ c main_v7_1 (by decide),
    W4_of m ρ c main_v7_1 (by decide)]
  exact (W3_arr m ρ c 6).trans (xout_array x gn sc sh g2 wi wo (V2 m ρ) c (pre2 m ρ c x gn sc sh wi h0 h1 h2 h3 h5)
    (w5_are2 m ρ c wo h6) (fun t i => (congrFun (W2_args m ρ c main_arg0 (by decide)) _).trans (h0 t i))
    (fun i => (congrFun (W2_args m ρ c main_arg4 (by decide)) _).trans (h4 i)))

include h0 h1 h2 h3 h5 in
theorem pre3 : W3 m ρ c (Proc.devRef .tc main_v6_1) = fun y : S2x4096x2816.Idx => (pre x gn sc sh wi (y 0) (y 1) (y 2) : EReal) :=
  (W3_of m ρ c main_v6_1 (by decide)).trans (pre2 m ρ c x gn sc sh wi h0 h1 h2 h3 h5)

include h6 in
theorem w5_are3 : WoAre (W3 m ρ c (Proc.devRef .tc main_v5)) wo := by
  rw [W3_of m ρ c main_v5 (by decide)]
  exact w5_are2 m ρ c wo h6

include h0 h1 h2 h3 h5 h6 h7 in
theorem gsum4 : W4 m ρ c (Proc.devRef .tc main_v8_1)
    = fun y : S16x1x1024.Idx => ((∑ q, dx (row256 (y 0) q) (y 2) * yo x gn sc sh wi wo (row256 (y 0) q) (y 2) : ℝ) : EReal) :=
  (W4_arr m ρ c 7).trans (gsum_array x gn sc sh wi wo dx (V3 m ρ) c (yo3 m ρ c x gn sc sh wi wo h0 h1 h2 h3 h5 h6)
    (fun t i => (congrFun (W3_args m ρ c main_arg7 (by decide)) _).trans (h7 t i)))

include h0 h1 h2 h3 h4 h5 h6 h7 in
/-- The gradients of the two halves, once the third call has run. -/
theorem dpre4 : W4 m ρ c (Proc.devRef .tc main_v8_2)
    = fun y : S2x4096x2816.Idx => (dpre x gn sc sh g2 wi wo dx (y 0) (y 1) (y 2) : EReal) :=
  (W4_arr m ρ c 8).trans (dpre_array x gn sc sh g2 wi wo dx (V3 m ρ) c (pre3 m ρ c x gn sc sh wi h0 h1 h2 h3 h5)
    (w5_are3 m ρ c wo h6) (fun t i => (congrFun (W3_args m ρ c main_arg7 (by decide)) _).trans (h7 t i))
    (fun i => (congrFun (W3_args m ρ c main_arg4 (by decide)) _).trans (h4 i)))

include h0 h1 h2 h3 h5 h6 h7 in
/-- The gradient of the output gain at the end. -/
theorem dg7 (d : Fin 1024) : (W7 m ρ c (Proc.devRef .tc main_v12) : Vec Ideal S1x1024 .f32) (ix2 0 d)
    = (dg2 x gn sc sh wi wo dx d : EReal) := by
  rw [v12_read, W6_of m ρ c main_v10 (by decide), v10_read, gsum4 m ρ c x gn sc sh wi wo dx h0 h1 h2 h3 h5 h6 h7]
  refine (tiles8 _ (fun t d => ∑ b : Fin 2, ∑ q : Fin 256, dx (row256 ⟨t.val * 2 + b.val, by omega⟩ q) d
    * yo x gn sc sh wi wo (row256 ⟨t.val * 2 + b.val, by omega⟩ q) d) (fun t d => (tiles16 _ t d).trans (coe_sum _ _)) d).trans ?_
  congr 1
  unfold dg2
  rw [← sum_row256]
  exact Fin.sum_mul_add_congr fun t b hs => by
    congr 1

include h0 h1 h2 h3 h4 h5 h6 h7 in
theorem dpre5 : W5 m ρ c (Proc.devRef .tc main_v8_2)
    = fun y : S2x4096x2816.Idx => (dpre x gn sc sh g2 wi wo dx (y 0) (y 1) (y 2) : EReal) :=
  (W5_of m ρ c main_v8_2 (by decide)).trans (dpre4 m ρ c x gn sc sh g2 wi wo dx h0 h1 h2 h3 h4 h5 h6 h7)

include h5 in
theorem w3_are5 : SlabsAre (W5 m ρ c (Proc.devRef .tc main_v3)) wi := by
  rw [W5_of m ρ c main_v3 (by decide), W4_of m ρ c main_v3 (by decide), W3_of m ρ c main_v3 (by decide),
    W2_of m ρ c main_v3 (by decide)]
  exact w3_are m ρ c wi h5

include h0 h1 h2 h3 h4 h5 h6 h7 in
/-- The gradient of the argument at the end. -/
theorem dx7 : W7 m ρ c (Proc.devRef .tc main_v11_0) = fun y : S4096x1024.Idx => (dxin x gn sc sh g2 wi wo dx (y 0) (y 1) : EReal) := by
  rw [W7_of m ρ c main_v11_0 (by decide)]
  exact (W6_arr m ρ c 6).trans (dxin_array x gn sc sh g2 wi wo dx (V5 m ρ) c
    (dpre5 m ρ c x gn sc sh g2 wi wo dx h0 h1 h2 h3 h4 h5 h6 h7) (w3_are5 m ρ c wi h5)
    (fun t i => (congrFun (W5_args m ρ c main_arg0 (by decide)) _).trans (h0 t i))
    (fun t i => (congrFun (W5_args m ρ c main_arg7 (by decide)) _).trans (h7 t i))
    (fun i => (congrFun (W5_args m ρ c main_arg1 (by decide)) _).trans (h1 i))
    (fun i => (congrFun (W5_args m ρ c main_arg2 (by decide)) _).trans (h2 i)))

include h0 h1 h2 h3 h4 h5 h6 h7 in
/-- The gradient of the shift at the end. -/
theorem dsh7 (d : Fin 1024) : (W7 m ρ c (Proc.devRef .tc main_v13) : Vec Ideal S1x1024 .f32) (ix2 0 d)
    = (dsh x gn sc sh g2 wi wo dx d : EReal) := by
  rw [v13_read]
  refine (tiles8 _ (fun t d => ∑ q : Fin 512, dh x gn sc sh g2 wi wo dx (row512 t q) d) (fun t d => ?_) d).trans ?_
  · exact congrFun ((W6_arr m ρ c 7).trans (hsum_array x gn sc sh g2 wi wo dx (V5 m ρ) c
      (dpre5 m ρ c x gn sc sh g2 wi wo dx h0 h1 h2 h3 h4 h5 h6 h7) (w3_are5 m ρ c wi h5))) (ix3 t 0 d)
  · congr 1
    exact sum_row512 (fun t => dh x gn sc sh g2 wi wo dx t d)

include h0 h1 h2 h3 h4 h5 h6 h7 in
theorem nsum7 (d : Fin 1024) :
    Host.reduceAdd (F := Ideal) (W6 m ρ c (Proc.devRef .tc main_v11_2) : (⟨S8x1x1024, .f32⟩ : BufTy).Contents (Elt Ideal))
      (constant (F := Ideal) S_ .f32 0x00000000#32) reducesTo_S8x1x1024_S1x1024_d0 h_S_ (ix2 0 d)
      = (dnorm x gn sc sh g2 wi wo dx d : EReal) := by
  refine (tiles8 _ (fun t d => ∑ q : Fin 512, dh x gn sc sh g2 wi wo dx (row512 t q) d * (x (row512 t q) d * rs x (row512 t q)))
    (fun t d => ?_) d).trans ?_
  · exact congrFun ((W6_arr m ρ c 8).trans (nsum_array x gn sc sh g2 wi wo dx (V5 m ρ) c
      (dpre5 m ρ c x gn sc sh g2 wi wo dx h0 h1 h2 h3 h4 h5 h6 h7) (w3_are5 m ρ c wi h5)
      (fun t i => (congrFun (W5_args m ρ c main_arg0 (by decide)) _).trans (h0 t i)))) (ix3 t 0 d)
  · congr 1
    exact sum_row512 (fun t => dh x gn sc sh g2 wi wo dx t d * (x t d * rs x t))

include h0 h1 h2 h3 h4 h5 h6 h7 in
/-- The gradient of the norm's gain at the end. -/
theorem dgn7 (d : Fin 1024) : (W7 m ρ c (Proc.devRef .tc main_v17) : Vec Ideal S1x1024 .f32) (ix2 0 d)
    = ((dnorm x gn sc sh g2 wi wo dx d * (1 + sc d) : ℝ) : EReal) := by
  rw [v17_read, W6_args m ρ c main_arg2 (by decide)]
  have e := nsum7 m ρ c x gn sc sh g2 wi wo dx h0 h1 h2 h3 h4 h5 h6 h7 d
  generalize Host.reduceAdd (F := Ideal) (W6 m ρ c (Proc.devRef .tc main_v11_2) : (⟨S8x1x1024, .f32⟩ : BufTy).Contents (Elt Ideal))
      (constant (F := Ideal) S_ .f32 0x00000000#32) reducesTo_S8x1x1024_S1x1024_d0 h_S_ = u at e ⊢
  pointwise []
  rw [e, h2, EReal.coe_mul, EReal.coe_add]
  rfl

include h0 h1 h2 h3 h4 h5 h6 h7 in
/-- The gradient of the scale at the end. -/
theorem dsc7 (d : Fin 1024) : (W7 m ρ c (Proc.devRef .tc main_v18) : Vec Ideal S1x1024 .f32) (ix2 0 d)
    = ((dnorm x gn sc sh g2 wi wo dx d * gn d : ℝ) : EReal) := by
  rw [v18_read, W6_args m ρ c main_arg1 (by decide)]
  have e := nsum7 m ρ c x gn sc sh g2 wi wo dx h0 h1 h2 h3 h4 h5 h6 h7 d
  generalize Host.reduceAdd (F := Ideal) (W6 m ρ c (Proc.devRef .tc main_v11_2) : (⟨S8x1x1024, .f32⟩ : BufTy).Contents (Elt Ideal))
      (constant (F := Ideal) S_ .f32 0x00000000#32) reducesTo_S8x1x1024_S1x1024_d0 h_S_ = u at e ⊢
  pointwise []
  rw [e, h1, EReal.coe_mul]

end

end Cert.Proof.Ffn
-- ==== Proof.FfnRun.lean ====
/- What every buffer holds after the four calls of the feed-forward layer have run. -/
module

public import proofs.«01_k».proof.Proof.Gen.Kernel2Ideal.Frame

@[expose] public section

set_option maxRecDepth 16384
set_option synthInstance.maxSize 4096

noncomputable section

namespace Cert.Proof.FfnRun

open Cert.Kernel2Ideal Cert.Kernel2Ideal.Gen Idealize.ShloMosaic Idealize.ShloMosaic.TcCoe
open Idealize.SL Idealize.SL.Sem

open Idealize.SL.RA Idealize.SL.BI Idealize.SL.BI.BIBase Idealize.SL.BI.Laws Idealize.SL.ProofMode Idealize.ShloMosaic.Rounds Idealize.ShloMosaic.Tactic
open scoped Idealize.SL.BI
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' own holds, after the run, what the last boundary says: the launch of the frame, with the whole
    last reading kept. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Proof.FfnRun
-- ==== Proof.FfnRef.lean ====
/- The feed-forward layer's reference, operation by operation: each of its results is the real function of the specification. -/
module

public import proofs.«01_k».proof.Proof.FfnReal
public import proofs.«01_k».proof.Proof.Gen.Reference2Ideal.Read

@[expose] public section

set_option maxRecDepth 4000

noncomputable section

namespace Cert.Proof.FfnRef

open Cert.Reference2Ideal Cert.Reference2Ideal.Gen Cert.Reference2Ideal.Read Idealize.ShloMosaic Idealize.ShloMosaic.TcCoe
  Idealize.ShloMosaic.StableHlo
open Cert.Proof.Ffn

/-- The arrays of reals, as arguments. -/
abbrev rows (x : Fin 4096 → Fin 1024 → ℝ) : (⟨S4096x1024, .f32⟩ : BufTy).Contents (Elt Ideal) := fun y => (x (y 0) (y 1) : EReal)
abbrev line (g : Fin 1024 → ℝ) : (⟨S1x1024, .f32⟩ : BufTy).Contents (Elt Ideal) := fun y => (g (y 1) : EReal)
abbrev win (w : Fin 1024 → Fin 5632 → ℝ) : (⟨S1024x5632, .f32⟩ : BufTy).Contents (Elt Ideal) := fun y => (w (y 0) (y 1) : EReal)
abbrev wout (w : Fin 2816 → Fin 1024 → ℝ) : (⟨S2816x1024, .f32⟩ : BufTy).Contents (Elt Ideal) := fun y => (w (y 0) (y 1) : EReal)

theorem one_bits : Ideal.ofBits .f32 0x3F800000#32 = ((1 : ℝ) : EReal) := by
  simp [Ideal.ofBits, Ideal.ieee, -EReal.coe_mul]
  norm_num

theorem zero_bits : Ideal.ofBits .f32 0x00000000#32 = 0 := by
  simp [Ideal.ofBits, Ideal.ieee, -EReal.coe_mul]

variable (x : Fin 4096 → Fin 1024 → ℝ) (gn sc sh g2 : Fin 1024 → ℝ) (wi : Fin 1024 → Fin 5632 → ℝ) (wo : Fin 2816 → Fin 1024 → ℝ)
  (dx : Fin 4096 → Fin 1024 → ℝ)

theorem ms_at (y : S4096x1.Idx) : val_main_v6 (F := Ideal) (rows x) y = (ms x (y 0) : EReal) := by
  rw [val_main_v6_apply, val_main_v4_apply, val_main_v2_apply, val_main_v1_apply, val_main_v3_apply, val_main_v5_apply,
    val_main_cst_0_apply, val_main_cst_1_apply, val_main_cst_apply]
  simp only [val_main_v0_apply, Ideal.mulf_def, Ideal.addf_def, Ideal.hostDivf_def, Ideal.ofBits_def, eps_bits, width_bits, zero_bits, zero_add]
  rw [Ideal.div_coe (by norm_num)]
  simp only [← EReal.coe_mul, coe_sum, ← EReal.coe_add]
  congr 1
  unfold ms
  rw [mul_one_div]
  rfl

theorem rs_at (y : S4096x1.Idx) : val_main_v7 (F := Ideal) (rows x) y = (rs x (y 0) : EReal) := by
  rw [val_main_v7_apply, ms_at]
  refine Eq.trans (b := Ideal.rsqrt (ms x (y 0) : EReal)) rfl ?_
  rw [Ideal.rsqrt_coe, if_neg (ms_pos x (y 0)).le.not_gt, if_neg (ms_pos x (y 0)).ne']
  rfl

/-- The slope of the root: minus a half of its cube. -/
theorem slope_at (y : S4096x1.Idx) : val_main_v10 (F := Ideal) (rows x) y = ((-(1 / 2) * (rs x (y 0) / ms x (y 0)) : ℝ) : EReal) := by
  rw [val_main_v10_apply, val_main_v9_apply, val_main_cst_2_apply, val_main_v8_apply, rs_at, ms_at]
  simp only [Ideal.mulf_def, Ideal.hostDivf_def, Ideal.ofBits_def, mhalf_bits]
  rw [Ideal.div_coe (ms_pos x (y 0)).ne']
  simp only [← EReal.coe_mul]
  congr 2
  ring

theorem norm_at (y : S4096x1024.Idx) : val_main_v12 (F := Ideal) (rows x) y = ((x (y 0) (y 1) * rs x (y 0) : ℝ) : EReal) := by
  rw [val_main_v12_apply, val_main_v11_apply, rs_at, EReal.coe_mul]
  rfl

theorem hid_at (y : S4096x1024.Idx) :
    val_main_v20 (F := Ideal) (rows x) (line gn) (line sc) (line sh) y = (hid x gn sc sh (y 0) (y 1) : EReal) := by
  rw [val_main_v20_apply, val_main_v18_apply, val_main_v14_apply, val_main_v13_apply, norm_at, val_main_v17_apply, val_main_v16_apply,
    val_main_v15_apply, val_main_cst_3_apply, val_main_v19_apply]
  simp only [Ideal.mulf_def, Ideal.addf_def, Ideal.ofBits_def, one_bits, ← EReal.coe_mul, ← EReal.coe_add]
  rfl

/-- The input product, at a column of its first half and at one of its second. -/
theorem pre_at (t : Fin 4096) (p : Fin 2) (f : Fin 2816) (y : S4096x5632.Idx) (h0 : y 0 = t) (h1 : (y 1).val = p.val * 2816 + f.val) :
    val_main_v21 (F := Ideal) (rows x) (line gn) (line sc) (line sh) (win wi) y = (pre x gn sc sh wi p t f : EReal) := by
  rw [val_main_v21_apply]
  simp only [hid_at, ← EReal.coe_mul, coe_sum]
  subst h0
  congr 1
  unfold pre
  refine Finset.sum_congr rfl fun i _ => ?_
  congr 2
  exact Fin.ext h1

theorem gate_at (y : S4096x2816.Idx) :
    val_main_v22 (F := Ideal) (rows x) (line gn) (line sc) (line sh) (win wi) y = (gate x gn sc sh wi (y 0) (y 1) : EReal) := by
  rw [val_main_v22_apply]
  refine pre_at x gn sc sh wi (y 0) 0 (y 1) _ rfl ?_
  change _ = 0 * 2816 + _
  simp

theorem up_at (y : S4096x2816.Idx) :
    val_main_v23 (F := Ideal) (rows x) (line gn) (line sc) (line sh) (win wi) y = (up x gn sc sh wi (y 0) (y 1) : EReal) := by
  rw [val_main_v23_apply]
  refine pre_at x gn sc sh wi (y 0) 1 (y 1) _ rfl ?_
  change _ = 1 * 2816 + _
  simp

theorem sg_at (y : S4096x2816.Idx) :
    val_main_v24_2 (F := Ideal) (rows x) (line gn) (line sc) (line sh) (win wi) y = (sg (gate x gn sc sh wi (y 0) (y 1)) : EReal) := by
  rw [val_main_v24_2_apply, val_main_call0_v4_apply, val_main_call0_v3_apply, val_main_call0_v2_apply, val_main_call0_v1_apply,
    val_main_call0_v0_apply, gate_at, val_main_call0_cst_apply, val_main_call0_cst_0_apply]
  generalize gate x gn sc sh wi (y 0) (y 1) = z
  refine Eq.trans (b := Ideal.div (Ideal.ofBits .f32 0x3F800000#32) (Ideal.ofBits .f32 0x3F800000#32 + Ideal.exp (-(z : EReal)))) rfl ?_
  have e : (1 + Real.exp (-z)) ≠ 0 := by positivity
  rw [← EReal.coe_neg, Ideal.exp_coe, one_bits, ← EReal.coe_add, Ideal.div_coe e, ← EReal.coe_mul, sg]
  congr 1
  field_simp

/-- The logistic function's slope. -/
theorem sgp_at (y : S4096x2816.Idx) :
    val_main_v24_1 (F := Ideal) (rows x) (line gn) (line sc) (line sh) (win wi) y
      = ((sg (gate x gn sc sh wi (y 0) (y 1)) * (1 - sg (gate x gn sc sh wi (y 0) (y 1))) : ℝ) : EReal) := by
  rw [val_main_v24_1_apply, val_main_call0_v7_apply, val_main_call0_v6_apply, sg_at, val_main_call0_cst_1_apply]
  simp only [Ideal.mulf_def, Ideal.subf_def, Ideal.ofBits_def, one_bits, ← EReal.coe_mul, ← EReal.coe_sub]

theorem silu_at (y : S4096x2816.Idx) :
    val_main_v24_0 (F := Ideal) (rows x) (line gn) (line sc) (line sh) (win wi) y
      = ((gate x gn sc sh wi (y 0) (y 1) * sg (gate x gn sc sh wi (y 0) (y 1)) : ℝ) : EReal) := by
  rw [val_main_v24_0_apply, gate_at, sg_at]
  simp only [Ideal.mulf_def, ← EReal.coe_mul]

theorem act_at (y : S4096x2816.Idx) :
    val_main_v25 (F := Ideal) (rows x) (line gn) (line sc) (line sh) (win wi) y = (act x gn sc sh wi (y 0) (y 1) : EReal) := by
  rw [val_main_v25_apply, silu_at, up_at]
  simp only [Ideal.mulf_def, ← EReal.coe_mul]
  rfl

theorem yo_at (y : S4096x1024.Idx) :
    val_main_v26 (F := Ideal) (rows x) (line gn) (line sc) (line sh) (win wi) (wout wo) y = (yo x gn sc sh wi wo (y 0) (y 1) : EReal) := by
  rw [val_main_v26_apply]
  simp only [act_at, ← EReal.coe_mul, coe_sum]
  rfl

/-- The layer's result. -/
theorem xout_at (y : S4096x1024.Idx) :
    val_main_v29 (F := Ideal) (rows x) (line gn) (line sc) (line sh) (line g2) (win wi) (wout wo) y
      = (xout x gn sc sh g2 wi wo (y 0) (y 1) : EReal) := by
  rw [val_main_v29_apply, val_main_v28_apply, val_main_v27_apply, yo_at]
  simp only [Ideal.mulf_def, Ideal.addf_def, ← EReal.coe_mul, ← EReal.coe_add]
  rfl

theorem ct_at (y : S4096x1024.Idx) : val_main_v30 (F := Ideal) (rows dx) y = (dx (y 0) (y 1) : EReal) := by
  rw [val_main_v30_apply]
  have h1 : (y 1).val < 1024 := (y 1).isLt
  refine congrArg (rows dx) (funext fun a => Fin.ext ?_)
  match a with
  | ⟨0, _⟩ => change ((y 0).val * 1024 + (y 1).val) / 1024 = (y 0).val; omega
  | ⟨1, _⟩ => change ((y 0).val * 1024 + (y 1).val) % 1024 = (y 1).val; omega

/-- A line read back from its one-axis copy. -/
theorem col (d : Fin 1024) (h : 0 * 1024 + d.val < 1024) : (⟨0 * 1024 + d.val, h⟩ : Fin 1024) = d := Fin.ext (by simp)

/-- The gradient of the output gain. -/
theorem dg2_at (d : Fin 1024) :
    val_main_v35 (F := Ideal) (rows x) (line gn) (line sc) (line sh) (win wi) (wout wo) (rows dx) (ix2 0 d)
      = (dg2 x gn sc sh wi wo dx d : EReal) := by
  rw [val_main_v35_apply, val_main_v34_apply, val_main_cst_4_apply]
  simp only [val_main_v33_apply, ct_at, yo_at, Ideal.mulf_def, Ideal.ofBits_def, zero_bits, zero_add, ← EReal.coe_mul, coe_sum]
  exact congrArg (fun d' => (dg2 x gn sc sh wi wo dx d' : EReal)) (col d _)

theorem da_at (y : S4096x2816.Idx) :
    val_main_v36 (F := Ideal) (line g2) (wout wo) (rows dx) y = (da g2 wo dx (y 0) (y 1) : EReal) := by
  rw [val_main_v36_apply]
  simp only [val_main_v32_apply, val_main_v31_apply, ct_at, Ideal.mulf_def, ← EReal.coe_mul, coe_sum]
  congr 1
  unfold da
  refine Finset.sum_congr rfl fun d _ => ?_
  exact congrArg (· * wo (y 1) d) (mul_comm (g2 d) (dx (y 0) d))

theorem dup_at (y : S4096x2816.Idx) :
    val_main_v37 (F := Ideal) (rows x) (line gn) (line sc) (line sh) (line g2) (win wi) (wout wo) (rows dx) y
      = (dup x gn sc sh g2 wi wo dx (y 0) (y 1) : EReal) := by
  rw [val_main_v37_apply, silu_at, da_at]
  simp only [Ideal.mulf_def, ← EReal.coe_mul]
  congr 1
  unfold dup
  ring

theorem dgate_at (y : S4096x2816.Idx) :
    val_main_v39 (F := Ideal) (rows x) (line gn) (line sc) (line sh) (line g2) (win wi) (wout wo) (rows dx) y
      = (dgate x gn sc sh g2 wi wo dx (y 0) (y 1) : EReal) := by
  rw [val_main_v39_apply, val_main_call1_v1_apply, val_main_call1_v2_apply, val_main_call1_v0_apply, val_main_v38_apply, sg_at, sgp_at,
    gate_at, up_at, da_at]
  simp only [Ideal.mulf_def, Ideal.addf_def, ← EReal.coe_mul, ← EReal.coe_add]
  congr 1
  unfold dgate
  ring

/-- The joined gradients, left of the seam. -/
theorem joined_left (t : Fin 4096) (f : Fin 2816) :
    val_main_v40 (F := Ideal) (rows x) (line gn) (line sc) (line sh) (line g2) (win wi) (wout wo) (rows dx) (ix2 t ⟨f.val, by omega⟩) = (dgate x gn sc sh g2 wi wo dx t f : EReal) := by
  refine Eq.trans ?_ (dgate_at x gn sc sh g2 wi wo dx (ix2 t f))
  unfold val_main_v40
  generalize val_main_v39 (F := Ideal) (rows x) (line gn) (line sc) (line sh) (line g2) (win wi) (wout wo) (rows dx) = a
  generalize val_main_v37 (F := Ideal) (rows x) (line gn) (line sc) (line sh) (line g2) (win wi) (wout wo) (rows dx) = b
  pointwise []

/-- The joined gradients, right of the seam. -/
theorem joined_right (t : Fin 4096) (f : Fin 2816) :
    val_main_v40 (F := Ideal) (rows x) (line gn) (line sc) (line sh) (line g2) (win wi) (wout wo) (rows dx) (ix2 t ⟨2816 + f.val, by omega⟩) = (dup x gn sc sh g2 wi wo dx t f : EReal) := by
  refine Eq.trans ?_ (dup_at x gn sc sh g2 wi wo dx (ix2 t f))
  unfold val_main_v40
  generalize val_main_v39 (F := Ideal) (rows x) (line gn) (line sc) (line sh) (line g2) (win wi) (wout wo) (rows dx) = a
  generalize val_main_v37 (F := Ideal) (rows x) (line gn) (line sc) (line sh) (line g2) (win wi) (wout wo) (rows dx) = b
  pointwise []

/-- The gradient of the normalised, scaled and shifted rows. -/
theorem dh_at (y : S4096x1024.Idx) : val_main_v41 (F := Ideal) (rows x) (line gn) (line sc) (line sh) (line g2) (win wi) (wout wo) (rows dx) y = (dh x gn sc sh g2 wi wo dx (y 0) (y 1) : EReal) := by
  rw [val_main_v41_apply]
  refine (Fin.sum_univ_add (a := 2816) (b := 2816) (fun k : Fin 5632 => val_main_v40 (F := Ideal) (rows x) (line gn) (line sc) (line sh) (line g2) (win wi) (wout wo) (rows dx) (lidx_main_v41 y k)
    * win wi (ridx_main_v41 y k))).trans ?_
  have el (k : Fin 5632) : lidx_main_v41 y k = ix2 (y 0) k := by
    funext a
    match a with | ⟨0, _⟩ => rfl | ⟨1, _⟩ => rfl
  simp only [el]
  refine (congrArg₂ (· + ·) (Finset.sum_congr rfl fun f _ => congrArg (· * _) (joined_left x gn sc sh g2 wi wo dx (y 0) f))
    (Finset.sum_congr rfl fun f _ => congrArg (· * _) (joined_right x gn sc sh g2 wi wo dx (y 0) f))).trans ?_
  simp only [← EReal.coe_mul, coe_sum, ← EReal.coe_add]
  rfl

/-- The gradient of the shift. -/
theorem dsh_at (d : Fin 1024) : val_main_v43 (F := Ideal) (rows x) (line gn) (line sc) (line sh) (line g2) (win wi) (wout wo) (rows dx) (ix2 0 d) = (dsh x gn sc sh g2 wi wo dx d : EReal) := by
  rw [val_main_v43_apply, val_main_v42_apply, val_main_cst_5_apply]
  simp only [dh_at, Ideal.ofBits_def, zero_bits, zero_add, coe_sum]
  exact congrArg (fun d' => (dsh x gn sc sh g2 wi wo dx d' : EReal)) (col d _)

theorem scale_at (y : S4096x1024.Idx) : val_main_v47 (F := Ideal) (line sc) y = ((1 + sc (y 1) : ℝ) : EReal) := by
  rw [val_main_v47_apply, val_main_v16_apply, val_main_v15_apply, val_main_cst_3_apply]
  simp only [Ideal.addf_def, Ideal.ofBits_def, one_bits, ← EReal.coe_add]
  rfl

theorem dsc_line (z : S1024.Idx) : val_main_v45 (F := Ideal) (rows x) (line gn) (line sc) (line sh) (line g2) (win wi) (wout wo) (rows dx) z = ((dnorm x gn sc sh g2 wi wo dx (z 0) * gn (z 0) : ℝ) : EReal) := by
  rw [val_main_v45_apply, val_main_cst_6_apply]
  simp only [val_main_v44_apply, val_main_v14_apply, val_main_v13_apply, norm_at, dh_at, Ideal.mulf_def, Ideal.ofBits_def, zero_bits, zero_add,
    ← EReal.coe_mul, coe_sum]
  refine congrArg (fun r : ℝ => (r : EReal)) ?_
  unfold dnorm
  rw [Finset.sum_mul]
  refine Finset.sum_congr rfl fun t _ => ?_
  change x t (z 0) * rs x t * gn (z 0) * dh x gn sc sh g2 wi wo dx t (z 0) = dh x gn sc sh g2 wi wo dx t (z 0) * (x t (z 0) * rs x t) * gn (z 0)
  ring

/-- The gradient of the scale. -/
theorem dsc_at (d : Fin 1024) : val_main_v46 (F := Ideal) (rows x) (line gn) (line sc) (line sh) (line g2) (win wi) (wout wo) (rows dx) (ix2 0 d) = ((dnorm x gn sc sh g2 wi wo dx d * gn d : ℝ) : EReal) := by
  rw [val_main_v46_apply, dsc_line]
  exact congrArg (fun d' => ((dnorm x gn sc sh g2 wi wo dx d' * gn d' : ℝ) : EReal)) (col d _)

theorem scaled_at (y : S4096x1024.Idx) :
    val_main_v48 (F := Ideal) (rows x) (line gn) (line sc) (line sh) (line g2) (win wi) (wout wo) (rows dx) y = ((dh x gn sc sh g2 wi wo dx (y 0) (y 1) * (1 + sc (y 1)) : ℝ) : EReal) := by
  rw [val_main_v48_apply, dh_at, scale_at]
  simp only [Ideal.mulf_def, ← EReal.coe_mul]

theorem dgn_line (z : S1024.Idx) :
    val_main_v50 (F := Ideal) (rows x) (line gn) (line sc) (line sh) (line g2) (win wi) (wout wo) (rows dx) z = ((dnorm x gn sc sh g2 wi wo dx (z 0) * (1 + sc (z 0)) : ℝ) : EReal) := by
  rw [val_main_v50_apply, val_main_cst_7_apply]
  simp only [val_main_v49_apply, norm_at, scaled_at, Ideal.mulf_def, Ideal.ofBits_def, zero_bits, zero_add, ← EReal.coe_mul, coe_sum]
  refine congrArg (fun r : ℝ => (r : EReal)) ?_
  unfold dnorm
  rw [Finset.sum_mul]
  refine Finset.sum_congr rfl fun t _ => ?_
  change x t (z 0) * rs x t * (dh x gn sc sh g2 wi wo dx t (z 0) * (1 + sc (z 0))) = dh x gn sc sh g2 wi wo dx t (z 0) * (x t (z 0) * rs x t) * (1 + sc (z 0))
  ring

/-- The gradient of the norm's gain. -/
theorem dgn_at (d : Fin 1024) : val_main_v51 (F := Ideal) (rows x) (line gn) (line sc) (line sh) (line g2) (win wi) (wout wo) (rows dx) (ix2 0 d) = ((dnorm x gn sc sh g2 wi wo dx d * (1 + sc d) : ℝ) : EReal) := by
  rw [val_main_v51_apply, dgn_line]
  exact congrArg (fun d' => ((dnorm x gn sc sh g2 wi wo dx d' * (1 + sc d') : ℝ) : EReal)) (col d _)

theorem dxh_at (y : S4096x1024.Idx) : val_main_v53 (F := Ideal) (rows x) (line gn) (line sc) (line sh) (line g2) (win wi) (wout wo) (rows dx) y = (dxh x gn sc sh g2 wi wo dx (y 0) (y 1) : EReal) := by
  rw [val_main_v53_apply, val_main_v52_apply, scaled_at]
  simp only [Ideal.mulf_def, ← EReal.coe_mul]
  congr 1
  change dh x gn sc sh g2 wi wo dx (y 0) (y 1) * (1 + sc (y 1)) * gn (y 1) = dh x gn sc sh g2 wi wo dx (y 0) (y 1) * (gn (y 1) * (1 + sc (y 1)))
  ring

/-- The gradient that reaches a row through its mean square, halved. -/
def back (t : Fin 4096) : ℝ := (∑ i, x t i * dxh x gn sc sh g2 wi wo dx t i) * (-(1 / 2) * (rs x t / ms x t)) / 1024

theorem inner_at (y : S4096x1.Idx) :
    val_main_v56 (F := Ideal) (rows x) (line gn) (line sc) (line sh) (line g2) (win wi) (wout wo) (rows dx) y = ((∑ i, x (y 0) i * dxh x gn sc sh g2 wi wo dx (y 0) i : ℝ) : EReal) := by
  rw [val_main_v56_apply, val_main_v55_apply, val_main_cst_8_apply]
  simp only [val_main_v54_apply, dxh_at, Ideal.mulf_def, Ideal.ofBits_def, zero_bits, zero_add, ← EReal.coe_mul, coe_sum]
  have h1 : (y 1).val < 1 := (y 1).isLt
  have h0 : (y 0).val < 4096 := (y 0).isLt
  have e : (⟨(y 0).val * 1 + (y 1).val, by omega⟩ : Fin 4096) = y 0 := Fin.ext (by change (y 0).val * 1 + (y 1).val = (y 0).val; omega)
  exact congrArg (fun t => ((∑ i, x t i * dxh x gn sc sh g2 wi wo dx t i : ℝ) : EReal)) e

theorem back_at (y : S4096x1024.Idx) : val_main_v64 (F := Ideal) (rows x) (line gn) (line sc) (line sh) (line g2) (win wi) (wout wo) (rows dx) y = (back x gn sc sh g2 wi wo dx (y 0) : EReal) := by
  rw [val_main_v64_apply, val_main_v63_apply, val_main_cst_10_apply]
  simp only [val_main_v62_apply, val_main_v60_apply, val_main_v61_apply, val_main_cst_9_apply, slope_at, inner_at, Ideal.mulf_def,
    Ideal.hostDivf_def, Ideal.ofBits_def, zero_bits, width_bits, zero_add, Finset.univ_unique, Finset.sum_singleton]
  rw [Ideal.div_coe (by norm_num)]
  simp only [← EReal.coe_mul]
  congr 1
  unfold back
  rw [mul_one_div]
  rfl

/-- The root's square is the mean square. -/
theorem rs_sq (t : Fin 4096) : rs x t * rs x t * ms x t = 1 := by
  have h := ms_pos x t
  have e : Real.sqrt (ms x t) * Real.sqrt (ms x t) = ms x t := Real.mul_self_sqrt h.le
  have n : Real.sqrt (ms x t) ≠ 0 := (Real.sqrt_pos.mpr h).ne'
  unfold rs
  nth_rw 3 [← e]
  field_simp

/-- The gradient of the layer's argument. -/
theorem dx_at (y : S4096x1024.Idx) : val_main_v68 (F := Ideal) (rows x) (line gn) (line sc) (line sh) (line g2) (win wi) (wout wo) (rows dx) y = (dxin x gn sc sh g2 wi wo dx (y 0) (y 1) : EReal) := by
  rw [val_main_v68_apply, val_main_v67_apply, val_main_v66_apply, val_main_v65_apply, val_main_v59_apply, val_main_v58_apply,
    val_main_v57_apply, rs_at, dxh_at, back_at]
  simp only [Ideal.mulf_def, Ideal.addf_def, ← EReal.coe_mul, ← EReal.coe_add]
  congr 1
  change dx (y 0) (y 1) + dxh x gn sc sh g2 wi wo dx (y 0) (y 1) * rs x (y 0) + x (y 0) (y 1) * back x gn sc sh g2 wi wo dx (y 0) + back x gn sc sh g2 wi wo dx (y 0) * x (y 0) (y 1)
    = dxin x gn sc sh g2 wi wo dx (y 0) (y 1)
  generalize (y 0 : Fin 4096) = t
  generalize (y 1 : Fin 1024) = i
  have h := ms_pos x t
  have e := rs_sq x t
  unfold dxin back
  have s1 : ∑ k, dxh x gn sc sh g2 wi wo dx t k * (x t k * rs x t) = (∑ i, x t i * dxh x gn sc sh g2 wi wo dx t i) * rs x t := by
    rw [Finset.sum_mul]
    exact Finset.sum_congr rfl fun k _ => by ring
  rw [s1]
  generalize ∑ i, x t i * dxh x gn sc sh g2 wi wo dx t i = S
  have e2 : rs x t / ms x t = rs x t * rs x t * rs x t := by
    rw [div_eq_iff h.ne']
    linear_combination (-rs x t) * e
  rw [e2]
  ring

end Cert.Proof.FfnRef
-- ==== Proof.FfnClaim.lean ====
/- The feed-forward layer's kernels and its gradient kernels leave what the reference computes, for arguments that are numbers. -/
module

public import proofs.«01_k».proof.Defs
public import proofs.«01_k».proof.Proof.FfnChain
public import proofs.«01_k».proof.Proof.FfnRun
public import proofs.«01_k».proof.Proof.FfnRef

@[expose] public section

set_option maxRecDepth 16384

noncomputable section

namespace Cert.Proof.Ffn

open Cert.Proof.FfnRef
open Idealize.ShloMosaic Idealize.ShloMosaic.TcCoe Idealize.ShloMosaic.Tactic Idealize.SL.Sem

theorem inf_bits : Ideal.ofBits .f32 0x7F800000#32 = ⊤ := by
  simp [Ideal.ofBits, Ideal.ieee]

/-- What is below infinity in absolute value is a number. -/
theorem finite_of {s : Shape} (a : FVec Ideal s .f32) (b : FVec Ideal s .f32) (hb : ∀ y, b y = ⊤)
    (h : cmpf (F := Ideal) .olt (Host.absf a) b = fun _ => 1#1) (y : s.Idx) : a y = ((a y).toReal : EReal) := by
  have e := congrFun h y
  have e1 : Ideal.cmp .olt (max (a y) (-(a y))) (b y) = 1#1 := e
  rw [hb] at e1
  have lt : max (a y) (-(a y)) < ⊤ := by
    by_contra hn
    simp [Ideal.cmp, hn] at e1
  rw [max_lt_iff] at lt
  refine (EReal.coe_toReal lt.1.ne fun hbot => ?_).symm
  rw [hbot] at lt
  exact absurd lt.2 (by simp)

/-- The shape relations the precondition's program states. -/
theorem preFacts : Cert.Pre_finite2.Facts :=
  ⟨by decide, by decide, by decide, by decide⟩

attribute [local instance] Cert.Kernel2Ideal.Gen.facts Cert.Reference2Ideal.Gen.facts preFacts

section

open Cert.Kernel2Ideal Cert.Kernel2Ideal.Gen Cert.Proof.FfnRef

variable (m : (ℓ : Loc nD τ sig) → Buf (Elt Ideal) ℓ) (c : Dev nD)

/-- The launch's arguments as arrays of reals. -/
def xR (t : Fin 4096) (i : Fin 1024) : ℝ := ((m ((c : Thread nD τ).loc main_arg0) : Vec Ideal S4096x1024 .f32) (ix2 t i)).toReal
def gnR (i : Fin 1024) : ℝ := ((m ((c : Thread nD τ).loc main_arg1) : Vec Ideal S1x1024 .f32) (ix2 0 i)).toReal
def scR (i : Fin 1024) : ℝ := ((m ((c : Thread nD τ).loc main_arg2) : Vec Ideal S1x1024 .f32) (ix2 0 i)).toReal
def shR (i : Fin 1024) : ℝ := ((m ((c : Thread nD τ).loc main_arg3) : Vec Ideal S1x1024 .f32) (ix2 0 i)).toReal
def g2R (i : Fin 1024) : ℝ := ((m ((c : Thread nD τ).loc main_arg4) : Vec Ideal S1x1024 .f32) (ix2 0 i)).toReal
def wiR (i : Fin 1024) (f : Fin 5632) : ℝ := ((m ((c : Thread nD τ).loc main_arg5) : Vec Ideal S1024x5632 .f32) (ix2 i f)).toReal
def woR (f : Fin 2816) (d : Fin 1024) : ℝ := ((m ((c : Thread nD τ).loc main_arg6) : Vec Ideal S2816x1024 .f32) (ix2 f d)).toReal
def dxR (t : Fin 4096) (i : Fin 1024) : ℝ := ((m ((c : Thread nD τ).loc main_arg7) : Vec Ideal S4096x1024 .f32) (ix2 t i)).toReal

variable (hpre : Cert.Pre_Kernel2Ideal_finite2 m)

include hpre in
theorem arg0_real : m ((c : Thread nD τ).loc main_arg0) = rows (xR m c) := by
  funext y
  idx_vars y
  exact finite_of _ _ (fun _ => inf_bits) (hpre c).1 _

include hpre in
theorem arg1_real : m ((c : Thread nD τ).loc main_arg1) = line (gnR m c) := by
  funext y
  idx_vars y
  obtain rfl : y0 = 0 := Fin.fin_one_eq_zero y0
  exact finite_of _ _ (fun _ => inf_bits) (hpre c).2.1 _

include hpre in
theorem arg2_real : m ((c : Thread nD τ).loc main_arg2) = line (scR m c) := by
  funext y
  idx_vars y
  obtain rfl : y0 = 0 := Fin.fin_one_eq_zero y0
  exact finite_of _ _ (fun _ => inf_bits) (hpre c).2.2.1 _

include hpre in
theorem arg3_real : m ((c : Thread nD τ).loc main_arg3) = line (shR m c) := by
  funext y
  idx_vars y
  obtain rfl : y0 = 0 := Fin.fin_one_eq_zero y0
  exact finite_of _ _ (fun _ => inf_bits) (hpre c).2.2.2.1 _

include hpre in
theorem arg4_real : m ((c : Thread nD τ).loc main_arg4) = line (g2R m c) := by
  funext y
  idx_vars y
  obtain rfl : y0 = 0 := Fin.fin_one_eq_zero y0
  exact finite_of _ _ (fun _ => inf_bits) (hpre c).2.2.2.2.1 _

include hpre in
theorem arg5_real : m ((c : Thread nD τ).loc main_arg5) = win (wiR m c) := by
  funext y
  idx_vars y
  exact finite_of _ _ (fun _ => inf_bits) (hpre c).2.2.2.2.2.1 _

include hpre in
theorem arg6_real : m ((c : Thread nD τ).loc main_arg6) = wout (woR m c) := by
  funext y
  idx_vars y
  exact finite_of _ _ (fun _ => inf_bits) (hpre c).2.2.2.2.2.2.1 _

include hpre in
theorem arg7_real : m ((c : Thread nD τ).loc main_arg7) = rows (dxR m c) := by
  funext y
  idx_vars y
  exact finite_of _ _ (fun _ => inf_bits) (hpre c).2.2.2.2.2.2.2 _

end

/-- On the extended reals the layer's kernels leave the reference's results, the arguments being numbers. -/
theorem algebraic : Cert.algebraic_Kernel2Ideal_Reference2Ideal_pre_finite2 (hKernel2Ideal := Cert.Kernel2Ideal.Gen.facts)
    (hReference2Ideal := Cert.Reference2Ideal.Gen.facts) (hPre_finite2 := preFacts) := by
  intro m g m' g' hpre hagree
  refine ⟨fun c => Cert.Kernel2Ideal.Gen.W7 m g c (Proc.devRef .tc Cert.Kernel2Ideal.main_v7_1),
    fun c => Cert.Kernel2Ideal.Gen.W7 m g c (Proc.devRef .tc Cert.Kernel2Ideal.main_v11_0),
    fun c => Cert.Kernel2Ideal.Gen.W7 m g c (Proc.devRef .tc Cert.Kernel2Ideal.main_v17),
    fun c => Cert.Kernel2Ideal.Gen.W7 m g c (Proc.devRef .tc Cert.Kernel2Ideal.main_v18),
    fun c => Cert.Kernel2Ideal.Gen.W7 m g c (Proc.devRef .tc Cert.Kernel2Ideal.main_v13),
    fun c => Cert.Kernel2Ideal.Gen.W7 m g c (Proc.devRef .tc Cert.Kernel2Ideal.main_v12), ?_, ?_⟩
  · exact (θ_run _ _ _).mono (fun r h c =>
      ⟨h c _ (Cert.Kernel2Ideal.Gen.mem_uc Cert.Kernel2Ideal.main_v7_1 (by decide)),
        h c _ (Cert.Kernel2Ideal.Gen.mem_uc Cert.Kernel2Ideal.main_v11_0 (by decide)),
        h c _ (Cert.Kernel2Ideal.Gen.mem_uc Cert.Kernel2Ideal.main_v17 (by decide)),
        h c _ (Cert.Kernel2Ideal.Gen.mem_uc Cert.Kernel2Ideal.main_v18 (by decide)),
        h c _ (Cert.Kernel2Ideal.Gen.mem_uc Cert.Kernel2Ideal.main_v13 (by decide)),
        h c _ (Cert.Kernel2Ideal.Gen.mem_uc Cert.Kernel2Ideal.main_v12 (by decide)),
        (h c _ (Cert.Kernel2Ideal.Gen.mem_uc Cert.Kernel2Ideal.main_arg0 (by decide))).trans (Cert.Kernel2Ideal.Gen.W7_main_arg0 m g c),
        (h c _ (Cert.Kernel2Ideal.Gen.mem_uc Cert.Kernel2Ideal.main_arg1 (by decide))).trans (Cert.Kernel2Ideal.Gen.W7_main_arg1 m g c),
        (h c _ (Cert.Kernel2Ideal.Gen.mem_uc Cert.Kernel2Ideal.main_arg2 (by decide))).trans (Cert.Kernel2Ideal.Gen.W7_main_arg2 m g c),
        (h c _ (Cert.Kernel2Ideal.Gen.mem_uc Cert.Kernel2Ideal.main_arg3 (by decide))).trans (Cert.Kernel2Ideal.Gen.W7_main_arg3 m g c),
        (h c _ (Cert.Kernel2Ideal.Gen.mem_uc Cert.Kernel2Ideal.main_arg4 (by decide))).trans (Cert.Kernel2Ideal.Gen.W7_main_arg4 m g c),
        (h c _ (Cert.Kernel2Ideal.Gen.mem_uc Cert.Kernel2Ideal.main_arg5 (by decide))).trans (Cert.Kernel2Ideal.Gen.W7_main_arg5 m g c),
        (h c _ (Cert.Kernel2Ideal.Gen.mem_uc Cert.Kernel2Ideal.main_arg6 (by decide))).trans (Cert.Kernel2Ideal.Gen.W7_main_arg6 m g c),
        (h c _ (Cert.Kernel2Ideal.Gen.mem_uc Cert.Kernel2Ideal.main_arg7 (by decide))).trans (Cert.Kernel2Ideal.Gen.W7_main_arg7 m g c)⟩)
      (Cert.Proof.FfnRun.run_all m g)
  · refine (θ_run _ _ _).mono (fun r h c => ?_) (Cert.Reference2Ideal.Value.run m' g')
    obtain ⟨r0, r1, r2, r3, r4, r5, ra⟩ := h c
    obtain ⟨a0, a1, a2, a3, a4, a5, a6, a7⟩ := hagree c
    have e0 := a0.trans (arg0_real m c hpre)
    have e1 := a1.trans (arg1_real m c hpre)
    have e2 := a2.trans (arg2_real m c hpre)
    have e3 := a3.trans (arg3_real m c hpre)
    have e4 := a4.trans (arg4_real m c hpre)
    have e5 := a5.trans (arg5_real m c hpre)
    have e6 := a6.trans (arg6_real m c hpre)
    have e7 := a7.trans (arg7_real m c hpre)
    have k0 := fun t i => congrFun (arg0_real m c hpre) (ix2 t i)
    have k1 := fun i => congrFun (arg1_real m c hpre) (ix2 0 i)
    have k2 := fun i => congrFun (arg2_real m c hpre) (ix2 0 i)
    have k3 := fun i => congrFun (arg3_real m c hpre) (ix2 0 i)
    have k4 := fun i => congrFun (arg4_real m c hpre) (ix2 0 i)
    have k5 := fun t i => congrFun (arg5_real m c hpre) (ix2 t i)
    have k6 := fun t i => congrFun (arg6_real m c hpre) (ix2 t i)
    have k7 := fun t i => congrFun (arg7_real m c hpre) (ix2 t i)
    refine ⟨r0.trans ?_, r1.trans ?_, r2.trans ?_, r3.trans ?_, r4.trans ?_, r5.trans ?_, ra⟩
    · rw [Cert.Reference2Ideal.Read.val_main_v29_eq, e0, e1, e2, e3, e4, e5, e6]
      refine Eq.trans ?_ (xout7 m g c (xR m c) (gnR m c) (scR m c) (shR m c) (g2R m c) (wiR m c) (woR m c) k0 k1 k2 k3 k4 k5 k6).symm
      exact funext fun y => xout_at (xR m c) (gnR m c) (scR m c) (shR m c) (g2R m c) (wiR m c) (woR m c) y
    · rw [Cert.Reference2Ideal.Read.val_main_v68_eq, e0, e1, e2, e3, e4, e5, e6, e7]
      refine Eq.trans ?_ (dx7 m g c (xR m c) (gnR m c) (scR m c) (shR m c) (g2R m c) (wiR m c) (woR m c) (dxR m c) k0 k1 k2 k3 k4 k5 k6 k7).symm
      exact funext fun y => dx_at (xR m c) (gnR m c) (scR m c) (shR m c) (g2R m c) (wiR m c) (woR m c) (dxR m c) y
    · rw [Cert.Reference2Ideal.Read.val_main_v51_eq, e0, e1, e2, e3, e4, e5, e6, e7]
      funext y
      change Cert.Reference2Ideal.S1x1024.Idx at y
      idx_vars y
      obtain rfl : y0 = 0 := Fin.fin_one_eq_zero y0
      exact (dgn_at (xR m c) (gnR m c) (scR m c) (shR m c) (g2R m c) (wiR m c) (woR m c) (dxR m c) y1).trans (dgn7 m g c (xR m c) (gnR m c) (scR m c) (shR m c) (g2R m c) (wiR m c) (woR m c) (dxR m c) k0 k1 k2 k3 k4 k5 k6 k7 y1).symm
    · rw [Cert.Reference2Ideal.Read.val_main_v46_eq, e0, e1, e2, e3, e4, e5, e6, e7]
      funext y
      change Cert.Reference2Ideal.S1x1024.Idx at y
      idx_vars y
      obtain rfl : y0 = 0 := Fin.fin_one_eq_zero y0
      exact (dsc_at (xR m c) (gnR m c) (scR m c) (shR m c) (g2R m c) (wiR m c) (woR m c) (dxR m c) y1).trans (dsc7 m g c (xR m c) (gnR m c) (scR m c) (shR m c) (g2R m c) (wiR m c) (woR m c) (dxR m c) k0 k1 k2 k3 k4 k5 k6 k7 y1).symm
    · rw [Cert.Reference2Ideal.Read.val_main_v43_eq, e0, e1, e2, e3, e4, e5, e6, e7]
      funext y
      change Cert.Reference2Ideal.S1x1024.Idx at y
      idx_vars y
      obtain rfl : y0 = 0 := Fin.fin_one_eq_zero y0
      exact (dsh_at (xR m c) (gnR m c) (scR m c) (shR m c) (g2R m c) (wiR m c) (woR m c) (dxR m c) y1).trans (dsh7 m g c (xR m c) (gnR m c) (scR m c) (shR m c) (g2R m c) (wiR m c) (woR m c) (dxR m c) k0 k1 k2 k3 k4 k5 k6 k7 y1).symm
    · rw [Cert.Reference2Ideal.Read.val_main_v35_eq, e0, e1, e2, e3, e5, e6, e7]
      funext y
      change Cert.Reference2Ideal.S1x1024.Idx at y
      idx_vars y
      obtain rfl : y0 = 0 := Fin.fin_one_eq_zero y0
      exact (dg2_at (xR m c) (gnR m c) (scR m c) (shR m c) (wiR m c) (woR m c) (dxR m c) y1).trans (dg7 m g c (xR m c) (gnR m c) (scR m c) (shR m c) (wiR m c) (woR m c) (dxR m c) k0 k1 k2 k3 k5 k6 k7 y1).symm

end Cert.Proof.Ffn
-- ==== Proof.MixSpec.lean ====
/- The forward pass of a short-gated-convolution layer, as plain functions of its arrays: the normalised rows, the three parts of
   the projection, the gated result, the output product and the layer's result. -/
module

public import proofs.«01_k».proof.Proof.GateSpec

@[expose] public section

noncomputable section

namespace Cert.Proof.Mix

open Idealize.ShloMosaic Idealize.ShloMosaic.TcCoe Idealize.ShloMosaic.Tactic

variable (x : (⟨2, ![4096, 1024]⟩ : Shape).Idx → EReal) (gn sc sh g : (⟨2, ![1, 1024]⟩ : Shape).Idx → EReal)
  (wi : (⟨2, ![1024, 3072]⟩ : Shape).Idx → EReal) (w : (⟨2, ![3, 1024]⟩ : Shape).Idx → EReal)
  (wo : (⟨2, ![1024, 1024]⟩ : Shape).Idx → EReal) (p : (⟨3, ![3, 4096, 1024]⟩ : Shape).Idx → EReal)

/-- The normalised, scaled and shifted rows. -/
def hidE (t : Fin 4096) (i : Fin 1024) : EReal :=
  x (ix2 t i) * Ideal.rsqrt (Ideal.div (∑ k, x (ix2 t k) * x (ix2 t k)) (Ideal.ofBits FTy.f32 1149239296#32) + Ideal.ofBits FTy.f32 897988541#32)
    * gn (ix2 0 i) * (1 + sc (ix2 0 i)) + sh (ix2 0 i)

/-- Part `j` of the projection. -/
def projE (j : Fin 3) (t : Fin 4096) (l : Fin 1024) : EReal :=
  ∑ i, hidE x gn sc sh t i * wi (ix2 i ⟨j.val * 1024 + l.val, by omega⟩)

/-- The gated result of the convolution of the parts `p`. -/
def gateE (t : Fin 4096) (l : Fin 1024) : EReal := p (ix3 0 t l) * Gate.convAt p w t.val l

/-- The layer's result. -/
def midE (t : Fin 4096) (d : Fin 1024) : EReal := x (ix2 t d) + g (ix2 0 d) * ∑ l, gateE w p t l * wo (ix2 l d)

end Cert.Proof.Mix
-- ==== Proof.MixIn.lean ====
/- The first call of the short-gated-convolution layer: the normalised rows and the three parts of the projection. -/
module

public import proofs.«01_k».proof.Proof.Gen.Kernel5Ideal.Frame
public import proofs.«01_k».proof.Proof.MixSpec

@[expose] public section

set_option maxRecDepth 16384

noncomputable section

namespace Cert.Proof.Mix

open Cert.Kernel5Ideal Cert.Kernel5Ideal.Gen Idealize.ShloMosaic Idealize.ShloMosaic.TcCoe Idealize.ShloMosaic.Tactic
open Idealize.SL.Sem
open Idealize.ShloMosaic.Pipeline (Dat)

/-- A row of the first output. -/
theorem hid_row (x : Vec Ideal S4096x1024 .f32) (gn sc sh : Vec Ideal S1x1024 .f32)
    (v0 : Vec Ideal S512x1024 .f32) (v1 v2 v3 : Vec Ideal S1x1024 .f32) (q : Fin 512) (t : Fin 4096)
    (h0 : ∀ i, v0 (ix2 q i) = x (ix2 t i)) (h1 : ∀ i, v1 (ix2 0 i) = gn (ix2 0 i))
    (h2 : ∀ i, v2 (ix2 0 i) = sc (ix2 0 i)) (h3 : ∀ i, v3 (ix2 0 i) = sh (ix2 0 i)) (i : Fin 1024) :
    k0_pay4 (F := Ideal) v0 v1 v2 v3 (ix2 q i) = hidE x gn sc sh t i := by
  pointwise [k0_pay4]
  simp only [h0, h1, h2, h3]
  rfl

theorem part0_pay (v0 : Vec Ideal S512x1024 .f32) (v1 v2 v3 : Vec Ideal S1x1024 .f32) (u : Vec Ideal S1x1024x1024 .bf16)
    (q : Fin 512) (l : Fin 1024) : k0_pay1 (F := Ideal) (k0_pay5 (F := Ideal) v0 v1 v2 v3 u) (ix3 0 q l)
      = ∑ i, k0_pay4 (F := Ideal) v0 v1 v2 v3 (ix2 q i) * u (ix3 0 i l) := by
  pointwise [k0_pay1, k0_pay5]

theorem part1_pay (v0 : Vec Ideal S512x1024 .f32) (v1 v2 v3 : Vec Ideal S1x1024 .f32) (u : Vec Ideal S1x1024x1024 .bf16)
    (q : Fin 512) (l : Fin 1024) : k0_pay2 (F := Ideal) (k0_pay6 (F := Ideal) v0 v1 v2 v3 u) (ix3 0 q l)
      = ∑ i, k0_pay4 (F := Ideal) v0 v1 v2 v3 (ix2 q i) * u (ix3 0 i l) := by
  pointwise [k0_pay2, k0_pay6]

theorem part2_pay (h : FVec Ideal S512x1024 .bf16) (u : Vec Ideal S1x1024x1024 .bf16)
    (q : Fin 512) (l : Fin 1024) : k0_pay3 (F := Ideal) h u (ix3 0 q l) = ∑ i, h (ix2 q i) * u (ix3 0 i l) := by
  pointwise [k0_pay3]

variable (V : (c : Dev nD) → (b : Ref sig .tc) → Buf (Elt Ideal) ((c : Thread nD τ).loc b)) (c : Dev nD)

theorem in_x (t : Fin cfg0.N) (q : Fin 512) (i : Fin 1024) (T : Fin 4096) (hT : T.val = t.val * 512 + q.val) :
    (View.ld (iblk0 V c 0 t) r0_0 : Vec Ideal S512x1024 .f32) (ix2 q i) = (V c main_arg0 : Vec Ideal S4096x1024 .f32) (ix2 T i) := by
  have hi : ∀ t : Fin cfg0.N, (cfg0.win 0).index t = ![t.val, 0] := by decide +kernel
  blk_ext [iblk0, hi t, hT, View.ld, LoadRect.idx_apply]
  all_goals simp [Rect.unit]

theorem in_gn (t : Fin cfg0.N) (i : Fin 1024) :
    (View.ld (iblk0 V c 1 t) r0_1 : Vec Ideal S1x1024 .f32) (ix2 0 i) = (V c main_arg1 : Vec Ideal S1x1024 .f32) (ix2 0 i) := by
  have hi : ∀ t : Fin cfg0.N, (cfg0.win 1).index t = ![0, 0] := by decide +kernel
  blk_ext [iblk0, hi t, View.ld, LoadRect.idx_apply]
  all_goals simp [Rect.unit]

theorem in_sc (t : Fin cfg0.N) (i : Fin 1024) :
    (View.ld (iblk0 V c 2 t) r0_1 : Vec Ideal S1x1024 .f32) (ix2 0 i) = (V c main_arg2 : Vec Ideal S1x1024 .f32) (ix2 0 i) := by
  have hi : ∀ t : Fin cfg0.N, (cfg0.win 2).index t = ![0, 0] := by decide +kernel
  blk_ext [iblk0, hi t, View.ld, LoadRect.idx_apply]
  all_goals simp [Rect.unit]

theorem in_sh (t : Fin cfg0.N) (i : Fin 1024) :
    (View.ld (iblk0 V c 3 t) r0_1 : Vec Ideal S1x1024 .f32) (ix2 0 i) = (V c main_arg3 : Vec Ideal S1x1024 .f32) (ix2 0 i) := by
  have hi : ∀ t : Fin cfg0.N, (cfg0.win 3).index t = ![0, 0] := by decide +kernel
  blk_ext [iblk0, hi t, View.ld, LoadRect.idx_apply]
  all_goals simp [Rect.unit]

theorem in_w0 (t : Fin cfg0.N) (i l : Fin 1024) :
    (View.ld (iblk0 V c 4 t) r0_2 : Vec Ideal S1x1024x1024 .bf16) (ix3 0 i l) = (V c main_v1 : Vec Ideal S1x1024x3072 .bf16) (ix3 0 i ⟨0 * 1024 + l.val, by omega⟩) := by
  have hi : ∀ t : Fin cfg0.N, (cfg0.win 4).index t = ![0, 0, 0] := by decide +kernel
  blk_ext [iblk0, hi t, View.ld, LoadRect.idx_apply]
  all_goals simp [Rect.unit]

theorem in_w1 (t : Fin cfg0.N) (i l : Fin 1024) :
    (View.ld (iblk0 V c 4 t) r0_3 : Vec Ideal S1x1024x1024 .bf16) (ix3 0 i l) = (V c main_v1 : Vec Ideal S1x1024x3072 .bf16) (ix3 0 i ⟨1 * 1024 + l.val, by omega⟩) := by
  have hi : ∀ t : Fin cfg0.N, (cfg0.win 4).index t = ![0, 0, 0] := by decide +kernel
  blk_ext [iblk0, hi t, View.ld, LoadRect.idx_apply]
  all_goals simp [Rect.unit]

theorem in_w2 (t : Fin cfg0.N) (i l : Fin 1024) :
    (View.ld (iblk0 V c 4 t) r0_4 : Vec Ideal S1x1024x1024 .bf16) (ix3 0 i l) = (V c main_v1 : Vec Ideal S1x1024x3072 .bf16) (ix3 0 i ⟨2 * 1024 + l.val, by omega⟩) := by
  have hi : ∀ t : Fin cfg0.N, (cfg0.win 4).index t = ![0, 0, 0] := by decide +kernel
  blk_ext [iblk0, hi t, View.ld, LoadRect.idx_apply]
  all_goals simp [Rect.unit]

/-- The three parts of the projection, after the first call: the weight's array is `wi` with a leading one. -/
theorem proj_array (wi : (⟨2, ![1024, 3072]⟩ : Shape).Idx → EReal)
    (hwi : ∀ i f, (V c main_v1 : Vec Ideal S1x1024x3072 .bf16) (ix3 0 i f) = wi (ix2 i f)) :
    (dat0 V c).arrAt 6 cfg0.N = fun y : S3x4096x1024.Idx =>
      projE (V c main_arg0) (V c main_arg1) (V c main_arg2) (V c main_arg3) wi (y 0) (y 1) (y 2) := by
  refine (dat0 V c).arrAt_eq_of_covers 6 _ (by decide +kernel) fun t hf y => ?_
  blk_simp
  rw [after0_6]
  have hi : ∀ t : Fin cfg0.N, (cfg0.win 6).index t = ![0, t.val, 0] := by decide +kernel
  have h0 : (((cfg0.win 6).blk t).view.emb y 0 : ℕ) = (y 0).val := by blk_simp [hi t]
  have h1 : (((cfg0.win 6).blk t).view.emb y 1 : ℕ) = t.val * 512 + (y 1).val := by blk_simp [hi t]
  have h2 : (((cfg0.win 6).blk t).view.emb y 2 : ℕ) = (y 2).val := by blk_simp [hi t]
  have hN : t.val < 8 := t.isLt
  have hrow : ∀ (q : Fin 512) (i : Fin 1024), k0_pay4 (F := Ideal) (View.ld (iblk0 V c 0 t) r0_0) (View.ld (iblk0 V c 1 t) r0_1)
      (View.ld (iblk0 V c 2 t) r0_1) (View.ld (iblk0 V c 3 t) r0_1) (ix2 q i)
        = hidE (V c main_arg0) (V c main_arg1) (V c main_arg2) (V c main_arg3) ⟨t.val * 512 + q.val, by omega⟩ i := fun q i =>
    hid_row _ _ _ _ _ _ _ _ q ⟨t.val * 512 + q.val, by omega⟩ (fun i => in_x V c t q i _ rfl)
      (fun i => in_gn V c t i) (fun i => in_sc V c t i) (fun i => in_sh V c t i) i
  change S3x512x1024.Idx at y
  refine Eq.trans (b := projE (V c main_arg0) (V c main_arg1) (V c main_arg2) (V c main_arg3) wi (y 0) ⟨t.val * 512 + (y 1).val, by have : (y 1).val < 512 := (y 1).isLt; omega⟩ (y 2)) ?_ ?_
  · refine View.canon_apply_of_pieces (Val := Elt Ideal) (fun y : S3x512x1024.Idx => projE (V c main_arg0) (V c main_arg1) (V c main_arg2) (V c main_arg3) wi (y 0)
      ⟨t.val * 512 + (y 1).val, by have : (y 1).val < 512 := (y 1).isLt; omega⟩ (y 2)) _ ?_ y (cover0_6 _ _ _ y)
    intro pc hpc z
    simp only [List.mem_cons, List.not_mem_nil, or_false] at hpc
    rcases hpc with rfl | rfl | rfl
    · have hz := fun a => Rect.emb_apply r0_7 z a
      change S1x512x1024.Idx at z
      dsimp only
      generalize r0_7.emb z = y at hz ⊢
      idx_vars z; idx_vars y
      have e0 : y0.val = 2 + 1 * z0.val := hz 0
      have e1 : y1.val = 0 + 1 * z1.val := hz 1
      have e2 : y2.val = 0 + 1 * z2.val := hz 2
      obtain rfl : z0 = 0 := Fin.ext (by omega)
      obtain rfl : y0 = 2 := Fin.ext (by simp only [e0]; omega)
      obtain rfl : y1 = z1 := Fin.ext (by omega)
      obtain rfl : y2 = z2 := Fin.ext (by omega)
      rw [part2_pay]
      exact Finset.sum_congr rfl fun i _ => congrArg₂ _ (hrow y1 i) ((in_w2 V c t i y2).trans (hwi i _))
    · have hz := fun a => Rect.emb_apply r0_6 z a
      change S1x512x1024.Idx at z
      dsimp only
      generalize r0_6.emb z = y at hz ⊢
      idx_vars z; idx_vars y
      have e0 : y0.val = 1 + 1 * z0.val := hz 0
      have e1 : y1.val = 0 + 1 * z1.val := hz 1
      have e2 : y2.val = 0 + 1 * z2.val := hz 2
      obtain rfl : z0 = 0 := Fin.ext (by omega)
      obtain rfl : y0 = 1 := Fin.ext (by simp only [e0]; omega)
      obtain rfl : y1 = z1 := Fin.ext (by omega)
      obtain rfl : y2 = z2 := Fin.ext (by omega)
      rw [part1_pay]
      exact Finset.sum_congr rfl fun i _ => congrArg₂ _ (hrow y1 i) ((in_w1 V c t i y2).trans (hwi i _))
    · have hz := fun a => Rect.emb_apply r0_5 z a
      change S1x512x1024.Idx at z
      dsimp only
      generalize r0_5.emb z = y at hz ⊢
      idx_vars z; idx_vars y
      have e0 : y0.val = 0 + 1 * z0.val := hz 0
      have e1 : y1.val = 0 + 1 * z1.val := hz 1
      have e2 : y2.val = 0 + 1 * z2.val := hz 2
      obtain rfl : z0 = 0 := Fin.ext (by omega)
      obtain rfl : y0 = 0 := Fin.ext (by simp only [e0]; omega)
      obtain rfl : y1 = z1 := Fin.ext (by omega)
      obtain rfl : y2 = z2 := Fin.ext (by omega)
      rw [part0_pay]
      exact Finset.sum_congr rfl fun i _ => congrArg₂ _ (hrow y1 i) ((in_w0 V c t i y2).trans (hwi i _))
  · have e0 := Fin.ext (a := ((cfg0.win 6).blk t).view.emb y 0) (b := y 0) h0
    have e1 := Fin.ext (a := ((cfg0.win 6).blk t).view.emb y 1) (b := ⟨t.val * 512 + (y 1).val, by have : (y 1).val < 512 := (y 1).isLt; omega⟩) h1
    have e2 := Fin.ext (a := ((cfg0.win 6).blk t).view.emb y 2) (b := y 2) h2
    rw [e0, e1, e2]
    rfl

end Cert.Proof.Mix
-- ==== Proof.MixStrip.lean ====
/- The second call of the short-gated-convolution layer: the strip kernel that gates and filters. -/
module

public import proofs.«01_k».proof.Proof.Gen.Kernel5Ideal.Frame
public import proofs.«01_k».proof.Proof.MixSpec

@[expose] public section

set_option maxRecDepth 16384

noncomputable section

namespace Cert.Proof.Mix

open Cert.Kernel5Ideal Cert.Kernel5Ideal.Gen Idealize.ShloMosaic Idealize.ShloMosaic.TcCoe Idealize.ShloMosaic.Tactic
open Idealize.SL.Sem
open Idealize.ShloMosaic.Pipeline (Dat)

/-- The gated, filtered value at row `t` of a padded strip `q` (eight rows of padding in front). -/
def zAt (gb : Vec Ideal S1x4096x128 .bf16) (w : Vec Ideal S3x128 .f32) (q : Vec Ideal S4104x128 .f32) (t : Fin 4096) (l : Fin 128) : EReal :=
  gb (ix3 0 t l) * (w (ix2 0 l) * q (ix2 ⟨t.val + 6, by omega⟩ l) + w (ix2 1 l) * q (ix2 ⟨t.val + 7, by omega⟩ l)
    + w (ix2 2 l) * q (ix2 ⟨t.val + 8, by omega⟩ l))

theorem s_off1 : ∀ k : Fin k1_t1_loop.trips,
    k1_off1 k 6#32 = ![64 * k.val + 6, 0] ∧ k1_off1 k 7#32 = ![64 * k.val + 7, 0] ∧ k1_off1 k 8#32 = ![64 * k.val + 8, 0] := by
  decide +kernel
theorem s_off2 : ∀ k : Fin k1_t1_loop.trips, k1_off2 k = ![0, 64 * k.val, 0] := by decide +kernel
theorem s_off3 : ∀ k : Fin k1_t1_loop.trips, k1_off3 k = ![64 * k.val, 0] := by decide +kernel
theorem s_trips : k1_t1_loop.trips = 64 := by decide +kernel

section

variable (𝒱 : Variants) (c : Dev nD) (bd : Option 𝒱.V) (i : grid1.Coords)
  (arg1 : Memref sig .tc .vmem S1x4096x128 .bf16) (harg1 : arg1.IsWhole)
  (arg2 : Memref sig .tc .vmem S1x4096x128 .bf16) (harg2 : arg2.IsWhole)
  (arg3 : Memref sig .tc .vmem S1x4096x128 .bf16) (harg3 : arg3.IsWhole)
  (arg4 : Memref sig .tc .vmem S3x128 .f32) (harg4 : arg4.IsWhole)
  (arg5 : Memref sig .tc .vmem S4096x128 .bf16) (harg5 : arg5.IsWhole)
  (arg6 : Memref sig .tc .vmem S4104x128 .f32) (harg6 : arg6.IsWhole)
  (X1 : BufTy.Contents (Elt Ideal) arg1.view.ty) (X4 : BufTy.Contents (Elt Ideal) arg4.view.ty)
  (X6 : BufTy.Contents (Elt Ideal) arg6.view.ty)

/-- The piece that a trip stores holds, at each of its places, the gated value. -/
theorem s_trip (k : Fin k1_t1_loop.trips) :
    ∀ pc ∈ tripL_k1_t1 (F := Ideal) 𝒱 c bd i arg1 harg1 arg2 harg2 arg3 harg3 arg4 harg4 arg5 harg5 arg6 harg6 X1 X4 X6 k,
      ∀ x : pc.1.shape.Idx, pc.2 x = zAt (View.read (Elt Ideal) arg1.view X1) (View.read (Elt Ideal) arg4.view X4)
        (View.read (Elt Ideal) arg6.view X6) (pc.1.emb x 0) (pc.1.emb x 1) := by
  have hk : k.val < 64 := s_trips ▸ k.isLt
  obtain ⟨o6, o7, o8⟩ := s_off1 k
  have e2 := s_off2 k; have e3 := s_off3 k
  unfold tripL_k1_t1 trip_k1_t1
  try dsimp only
  sl_unfold_run_names
  try dsimp only
  simp only [View.readAt_eq_ld]
  generalize View.read (Elt Ideal) arg1.view X1 = gb
  generalize View.read (Elt Ideal) arg4.view X4 = w
  generalize View.read (Elt Ideal) arg6.view X6 = q
  intro pc hpc x
  have hx := fun a => Rect.emb_apply pc.1 x a
  rcases List.mem_cons.mp hpc with rfl | hpc
  · change (⟨2, ![64, 128]⟩ : Shape).Idx at x
    dsimp only at hx ⊢
    generalize (Rect.unit (s := S4096x128) (k1_off3 k) ![64, 128] _).emb x = y at hx ⊢
    idx_vars y
    have hx0 : (x 0).val < 64 := (x 0).isLt
    have hb : 64 * k.val + (x 0).val < 4096 := by omega
    have h0 : y0.val = k1_off3 k 0 + 1 * (x 0).val := hx 0
    have h1 : y1.val = k1_off3 k 1 + 1 * (x 1).val := hx 1
    simp only [e3, Matrix.cons_val] at h0 h1
    obtain rfl : y0 = ⟨64 * k.val + (x 0).val, hb⟩ := Fin.ext (by simpa using h0)
    obtain rfl : y1 = x 1 := Fin.ext (by simpa using h1)
    pointwise [k1_pay3]
    simp only [zAt]
    blk_point [e2, o6, o7, o8, Matrix.cons_val]
  exact absurd hpc List.not_mem_nil

/-- So does every piece stored in the first `k` trips. -/
theorem s_pieces (k : ℕ) (hk : k ≤ k1_t1_loop.trips) :
    ∀ pc ∈ pb_k1_t1 (F := Ideal) 𝒱 c bd i arg1 harg1 arg2 harg2 arg3 harg3 arg4 harg4 arg5 harg5 arg6 harg6 X1 X4 X6 k,
      ∀ x : pc.1.shape.Idx, pc.2 x = zAt (View.read (Elt Ideal) arg1.view X1) (View.read (Elt Ideal) arg4.view X4)
        (View.read (Elt Ideal) arg6.view X6) (pc.1.emb x 0) (pc.1.emb x 1) := by
  induction k with
  | zero => exact fun pc hpc => absurd hpc List.not_mem_nil
  | succ n ih =>
    intro pc hpc
    rw [pb_k1_t1_succ (k := ⟨n, hk⟩)] at hpc
    rcases List.mem_append.mp hpc with h | h
    · exact s_trip 𝒱 c bd i arg1 harg1 arg2 harg2 arg3 harg3 arg4 harg4 arg5 harg5 arg6 harg6 X1 X4 X6 ⟨n, hk⟩ pc h
    · exact ih (by omega) pc h

/-- Row `n` of the gated input, eight rows of zeros in front of it. -/
def sRow (gc hv : Vec Ideal S1x4096x128 .bf16) (n : ℕ) (hn : n < 4104) (l : Fin 128) : EReal :=
  if h : 8 ≤ n then gc (ix3 0 ⟨n - 8, by omega⟩ l) * hv (ix3 0 ⟨n - 8, by omega⟩ l) else 0

/-- The gated input, eight rows of zeros in front of it. -/
def sPad (gc hv : Vec Ideal S1x4096x128 .bf16) : Vec Ideal S4104x128 .f32 := fun y => sRow gc hv (y 0).val (y 0).isLt (y 1)

/-- The padded strip, as its two stores leave it. -/
theorem s_canon (gc hv : Vec Ideal S1x4096x128 .bf16) :
    View.canon (Val := Elt Ideal) (s := S4104x128) (e := .f32)
      [⟨Rect.unit ![8, 0] ![4096, 128] inb_S4104x128_S4096x128_8_0,
          k1_pay2 (F := Ideal) (View.ld gc (Rect.unit ![0, 0, 0] ![1, 4096, 128] inb_S1x4096x128_S1x4096x128_0_0_0))
            (View.ld hv (Rect.unit ![0, 0, 0] ![1, 4096, 128] inb_S1x4096x128_S1x4096x128_0_0_0))⟩,
        ⟨Rect.unit ![0, 0] ![8, 128] inb_S4104x128_S8x128_0_0, k1_pay1 (F := Ideal)⟩] = sPad gc hv := by
  funext y
  refine View.canon_apply_of_pieces (sPad gc hv) _ ?_ y ?_
  · intro pc hpc x
    simp only [List.mem_cons, List.not_mem_nil, or_false] at hpc
    rcases hpc with rfl | rfl
    · have hx := fun a => Rect.emb_apply (Rect.unit (s := S4104x128) ![8, 0] ![4096, 128] inb_S4104x128_S4096x128_8_0) x a
      change (⟨2, ![4096, 128]⟩ : Shape).Idx at x
      generalize (Rect.unit (s := S4104x128) ![8, 0] ![4096, 128] inb_S4104x128_S4096x128_8_0).emb x = y at hx ⊢
      idx_vars x; idx_vars y
      have h0 : y0.val = 8 + 1 * x0.val := hx 0
      have h1 : y1.val = 0 + 1 * x1.val := hx 1
      obtain rfl : y1 = x1 := Fin.ext (by omega)
      pointwise [k1_pay2]
      unfold sPad sRow
      have hc : ((ix2 y0 y1 : S4104x128.Idx) 0).val = y0.val := rfl
      rw [dif_pos (by omega)]
      blk_point [hc, h0]
    · have hx := fun a => Rect.emb_apply (Rect.unit (s := S4104x128) ![0, 0] ![8, 128] inb_S4104x128_S8x128_0_0) x a
      change (⟨2, ![8, 128]⟩ : Shape).Idx at x
      generalize (Rect.unit (s := S4104x128) ![0, 0] ![8, 128] inb_S4104x128_S8x128_0_0).emb x = y at hx ⊢
      have h0 : (y 0).val = 0 + 1 * (x 0).val := hx 0
      have hb : (x 0).val < 8 := (x 0).isLt
      idx_vars x
      pointwise [k1_pay1]
      unfold sPad sRow
      rw [dif_neg (by omega)]
  · have hy0 : (y 0).val < 4104 := (y 0).isLt
    have hy1 : (y 1).val < 128 := (y 1).isLt
    by_cases h : 8 ≤ (y 0).val
    · refine ⟨_, List.mem_cons_self, (Rect.mem_set_unit (inb := inb_S4104x128_S4096x128_8_0)).mpr fun a => ?_⟩
      match a with
      | 0 => exact ⟨h, show (y 0).val < 8 + 4096 by omega⟩
      | 1 => exact ⟨Nat.zero_le _, show (y 1).val < 0 + 128 by omega⟩
    · refine ⟨_, List.mem_cons_of_mem _ List.mem_cons_self, (Rect.mem_set_unit (inb := inb_S4104x128_S8x128_0_0)).mpr fun a => ?_⟩
      match a with
      | 0 => exact ⟨Nat.zero_le _, show (y 0).val < 0 + 8 by omega⟩
      | 1 => exact ⟨Nat.zero_le _, show (y 1).val < 0 + 128 by omega⟩

/-- The output's block at a grid point: the gated values. -/
theorem s_block (gb gc hv : Vec Ideal S1x4096x128 .bf16) (w : Vec Ideal S3x128 .f32) (y : S4096x128.Idx) :
    out1_A_4 (F := Ideal) c i arg1 harg1 arg2 harg2 arg3 harg3 arg4 harg4 arg5 harg5 arg6 harg6 gb gc hv w y
      = zAt gb w (sPad gc hv) (y 0) (y 1) := by
  unfold out1_A_4
  rw [View.read_writes_junk_eq_canon]
  refine View.canon_apply_of_pieces (fun y => zAt gb w (sPad gc hv) (y 0) (y 1)) _ ?_ y
    (cover1_A_4 c i arg1 harg1 arg2 harg2 arg3 harg3 arg4 harg4 arg5 harg5 arg6 harg6 gb gc hv w y)
  unfold kernelRun1_A; dsimp only; sl_unfold_run_names; dsimp only
  simp only [View.readAt_eq_ld, harg2.read_unread, harg3.read_unread, harg1.read_unread]
  have h := fun X6 => s_pieces Variants.none c none i arg1 harg1 arg2 harg2 arg3 harg3 arg4 harg4 arg5 harg5
    arg6 harg6 (harg1.unread gb) (harg4.unread w) X6 k1_t1_loop.trips le_rfl
  simp only [harg1.read_unread, harg4.read_unread] at h
  intro pc hpc x
  refine (h _ pc hpc x).trans ?_
  rw [View.read_writes_junk_eq_canon, s_canon]

end

variable (V : (c : Dev nD) → (b : Ref sig .tc) → Buf (Elt Ideal) ((c : Thread nD τ).loc b)) (c : Dev nD)

theorem s_gb (t : Fin cfg1.N) (r : Fin 4096) (l : Fin 128) (L : Fin 1024) (hL : L.val = 128 * t.val + l.val) :
    (iblk1 V c 0 t : Vec Ideal S1x4096x128 .bf16) (ix3 0 r l) = (V c main_v5_1 : Vec Ideal S3x4096x1024 .bf16) (ix3 0 r L) := by
  have hi : ∀ t : Fin cfg1.N, (cfg1.win 0).index t = ![0, 0, t.val] := by decide +kernel
  blk_ext [iblk1, hi t, hL]

theorem s_gc (t : Fin cfg1.N) (r : Fin 4096) (l : Fin 128) (L : Fin 1024) (hL : L.val = 128 * t.val + l.val) :
    (iblk1 V c 1 t : Vec Ideal S1x4096x128 .bf16) (ix3 0 r l) = (V c main_v5_1 : Vec Ideal S3x4096x1024 .bf16) (ix3 1 r L) := by
  have hi : ∀ t : Fin cfg1.N, (cfg1.win 1).index t = ![1, 0, t.val] := by decide +kernel
  blk_ext [iblk1, hi t, hL]

theorem s_hv (t : Fin cfg1.N) (r : Fin 4096) (l : Fin 128) (L : Fin 1024) (hL : L.val = 128 * t.val + l.val) :
    (iblk1 V c 2 t : Vec Ideal S1x4096x128 .bf16) (ix3 0 r l) = (V c main_v5_1 : Vec Ideal S3x4096x1024 .bf16) (ix3 2 r L) := by
  have hi : ∀ t : Fin cfg1.N, (cfg1.win 2).index t = ![2, 0, t.val] := by decide +kernel
  blk_ext [iblk1, hi t, hL]

theorem s_w (t : Fin cfg1.N) (r : Fin 3) (l : Fin 128) (L : Fin 1024) (hL : L.val = 128 * t.val + l.val) :
    (iblk1 V c 3 t : Vec Ideal S3x128 .f32) (ix2 r l) = (V c main_v6 : Vec Ideal S3x1024 .f32) (ix2 r L) := by
  have hi : ∀ t : Fin cfg1.N, (cfg1.win 3).index t = ![0, t.val] := by decide +kernel
  blk_ext [iblk1, hi t, hL]

/-- The strip of padded inputs at point `t`, row `n + 6`, is the padded sequence at `n`. -/
theorem s_row (t : Fin cfg1.N) (n : ℕ) (hn : n < 4098) (l : Fin 128) (L : Fin 1024) (hL : L.val = 128 * t.val + l.val) :
    sPad (iblk1 V c 1 t) (iblk1 V c 2 t) (ix2 ⟨n + 6, by omega⟩ l) = Gate.qAt (V c main_v5_1) n L := by
  change sRow (iblk1 V c 1 t) (iblk1 V c 2 t) (n + 6) _ l = _
  unfold sRow Gate.qAt
  by_cases h : 2 ≤ n
  · rw [dif_pos (by omega), dif_pos ⟨h, hn⟩]
    refine congrArg₂ (· * ·) ((s_gc V c t _ l L hL).trans ?_) ((s_hv V c t _ l L hL).trans ?_) <;> congr 2
  · rw [dif_neg (by omega), dif_neg (by omega)]

/-- The gated array, after the second call. -/
theorem gate_array : (dat1 V c).arrAt 4 cfg1.N = fun y : S4096x1024.Idx => gateE (V c main_v6) (V c main_v5_1) (y 0) (y 1) := by
  refine (dat1 V c).arrAt_eq_of_covers 4 _ (by decide +kernel) fun t hf y => ?_
  blk_simp
  rw [after1_4]
  unfold outsAt1
  rw [s_block]
  have hi : ∀ t : Fin cfg1.N, (cfg1.win 4).index t = ![0, t.val] := by decide +kernel
  have h0 : (((cfg1.win 4).blk t).view.emb y 0 : ℕ) = (y 0).val := by blk_simp [hi t]
  have h1 : (((cfg1.win 4).blk t).view.emb y 1 : ℕ) = 128 * t.val + (y 1).val := by blk_simp [hi t]; omega
  have hr : (y 0).val < 4096 := (y 0).isLt
  change S4096x128.Idx at y
  refine Eq.trans (b := gateE (V c main_v6) (V c main_v5_1) (y 0) (((cfg1.win 4).blk t).view.emb y 1)) ?_ ?_
  · have hw := fun r => s_w V c t r (y 1) _ h1
    have hq := fun n hn => s_row V c t n hn (y 1) _ h1
    unfold zAt gateE Gate.convAt
    rw [hw, hw, hw, s_gb V c t (y 0) (y 1) _ h1, ← hq (y 0).val (by omega), ← hq ((y 0).val + 1) (by omega), ← hq ((y 0).val + 2) (by omega)]
  · exact congrArg (fun a => gateE _ _ a _) (Fin.ext h0.symm)

end Cert.Proof.Mix
-- ==== Proof.MixOut.lean ====
/- The third call of the short-gated-convolution layer: the output product and the layer's result. -/
module

public import proofs.«01_k».proof.Proof.Gen.Kernel5Ideal.Frame
public import proofs.«01_k».proof.Proof.MixSpec

@[expose] public section

set_option maxRecDepth 16384

noncomputable section

namespace Cert.Proof.Mix

open Cert.Kernel5Ideal Cert.Kernel5Ideal.Gen Idealize.ShloMosaic Idealize.ShloMosaic.TcCoe Idealize.ShloMosaic.Tactic
open Idealize.SL.Sem
open Idealize.ShloMosaic.Pipeline (Dat)

theorem mid_pay (z : Vec Ideal S512x1024 .bf16) (u : Vec Ideal S1x1024x1024 .bf16) (a : Vec Ideal S512x1024 .f32)
    (b : Vec Ideal S1x1024 .f32) (q : Fin 512) (d : Fin 1024) :
    k2_pay2 (F := Ideal) z u a b (ix2 q d) = a (ix2 q d) + b (ix2 0 d) * ∑ l, z (ix2 q l) * u (ix3 0 l d) := by
  pointwise [k2_pay2, k2_pay1]

variable (V : (c : Dev nD) → (b : Ref sig .tc) → Buf (Elt Ideal) ((c : Thread nD τ).loc b)) (c : Dev nD)

theorem out_z (t : Fin cfg2.N) (q : Fin 512) (d : Fin 1024) (T : Fin 4096) (hT : T.val = t.val * 512 + q.val) :
    (View.ld (iblk2 V c 0 t) r2_0 : Vec Ideal S512x1024 .bf16) (ix2 q d) = (V c main_v7 : Vec Ideal S4096x1024 .bf16) (ix2 T d) := by
  have hi : ∀ t : Fin cfg2.N, (cfg2.win 0).index t = ![t.val, 0] := by decide +kernel
  blk_ext [iblk2, hi t, View.ld, LoadRect.idx_apply, hT]
  all_goals simp [Rect.unit]

theorem out_w (t : Fin cfg2.N) (f : Fin 1024) (d : Fin 1024) :
    (View.ld (iblk2 V c 1 t) r2_1 : Vec Ideal S1x1024x1024 .bf16) (ix3 0 f d) = (V c main_v4 : Vec Ideal S1x1024x1024 .bf16) (ix3 0 f d) := by
  have hi : ∀ t : Fin cfg2.N, (cfg2.win 1).index t = ![0, 0, 0] := by decide +kernel
  blk_ext [iblk2, hi t, View.ld, LoadRect.idx_apply]
  all_goals simp [Rect.unit]

theorem out_x (t : Fin cfg2.N) (q : Fin 512) (d : Fin 1024) (T : Fin 4096) (hT : T.val = t.val * 512 + q.val) :
    (View.ld (iblk2 V c 2 t) r2_0 : Vec Ideal S512x1024 .f32) (ix2 q d) = (V c main_arg0 : Vec Ideal S4096x1024 .f32) (ix2 T d) := by
  have hi : ∀ t : Fin cfg2.N, (cfg2.win 2).index t = ![t.val, 0] := by decide +kernel
  blk_ext [iblk2, hi t, View.ld, LoadRect.idx_apply, hT]
  all_goals simp [Rect.unit]

theorem out_g (t : Fin cfg2.N) (d : Fin 1024) :
    (View.ld (iblk2 V c 3 t) r2_2 : Vec Ideal S1x1024 .f32) (ix2 0 d) = (V c main_arg4 : Vec Ideal S1x1024 .f32) (ix2 0 d) := by
  have hi : ∀ t : Fin cfg2.N, (cfg2.win 3).index t = ![0, 0] := by decide +kernel
  blk_ext [iblk2, hi t, View.ld, LoadRect.idx_apply]
  all_goals simp [Rect.unit]

/-- The layer's result, after the third call. -/
theorem mid_array (w : (⟨2, ![3, 1024]⟩ : Shape).Idx → EReal) (wo : (⟨2, ![1024, 1024]⟩ : Shape).Idx → EReal)
    (p : (⟨3, ![3, 4096, 1024]⟩ : Shape).Idx → EReal)
    (hz : (V c main_v7 : Vec Ideal S4096x1024 .bf16) = fun y => gateE w p (y 0) (y 1))
    (hwo : ∀ l d, (V c main_v4 : Vec Ideal S1x1024x1024 .bf16) (ix3 0 l d) = wo (ix2 l d)) :
    (dat2 V c).arrAt 5 cfg2.N = fun y : S4096x1024.Idx => midE (V c main_arg0) (V c main_arg4) w wo p (y 0) (y 1) := by
  refine (dat2 V c).arrAt_eq_of_covers 5 _ (by decide +kernel) fun t hf y => ?_
  blk_simp
  rw [after2_5]
  have hi : ∀ t : Fin cfg2.N, (cfg2.win 5).index t = ![t.val, 0] := by decide +kernel
  have h0 : (((cfg2.win 5).blk t).view.emb y 0 : ℕ) = t.val * 512 + (y 0).val := by blk_simp [hi t]
  have h1 : (((cfg2.win 5).blk t).view.emb y 1 : ℕ) = (y 1).val := by blk_simp [hi t]
  have hN : t.val < 8 := t.isLt
  change S512x1024.Idx at y
  refine Eq.trans (b := midE (V c main_arg0) (V c main_arg4) w wo p ⟨t.val * 512 + (y 0).val, by have : (y 0).val < 512 := (y 0).isLt; omega⟩ (y 1)) ?_ ?_
  · unfold out2_5
    rw [View.canon_cons_unit_zero (by decide)]
    idx_vars y
    rw [mid_pay]
    exact congrArg₂ (· + ·) (out_x V c t y0 y1 _ rfl) (congrArg₂ (· * ·) (out_g V c t y1) (Finset.sum_congr rfl fun l _ =>
      congrArg₂ (· * ·) ((out_z V c t y0 l _ rfl).trans (congrFun hz _)) ((out_w V c t l y1).trans (hwo l y1))))
  · have e0 := Fin.ext (a := ((cfg2.win 5).blk t).view.emb y 0) (b := ⟨t.val * 512 + (y 0).val, by have : (y 0).val < 512 := (y 0).isLt; omega⟩) h0
    have e1 := Fin.ext (a := ((cfg2.win 5).blk t).view.emb y 1) (b := y 1) h1
    rw [e0, e1]
    rfl

end Cert.Proof.Mix
-- ==== Proof.MixChain.lean ====
/- The short-gated-convolution layer's three calls in a row: what the result holds at the end. -/
module

public import proofs.«01_k».proof.Proof.MixIn
public import proofs.«01_k».proof.Proof.MixStrip
public import proofs.«01_k».proof.Proof.MixOut

@[expose] public section

set_option maxRecDepth 16384

noncomputable section

namespace Cert.Proof.Mix

open Cert.Kernel5Ideal Cert.Kernel5Ideal.Gen Idealize.ShloMosaic Idealize.ShloMosaic.TcCoe Idealize.ShloMosaic.Tactic
open Idealize.SL.Sem Idealize.ShloMosaic.StableHlo

variable (m : (ℓ : Loc nD τ sig) → Buf (Elt Ideal) ℓ) (ρ : Dev nD → PrngReg) (c : Dev nD)

theorem v1_read : W1 m ρ c (Proc.devRef .tc main_v1)
    = broadcastInDim S1x1024x3072 ![1, 2] bcast_S1024x3072_S1x1024x3072_1_2
      (truncf (F := Ideal) .bf16 (m ((c : Thread nD τ).loc main_arg5) : (⟨S1024x3072, .f32⟩ : BufTy).Contents (Elt Ideal)) bitsLt_bf16_f32) := by
  unfold W1
  after_results <;> rfl

theorem v4_read : W1 m ρ c (Proc.devRef .tc main_v4)
    = broadcastInDim S1x1024x1024 ![1, 2] bcast_S1024x1024_S1x1024x1024_1_2
      (truncf (F := Ideal) .bf16 (m ((c : Thread nD τ).loc main_arg7) : (⟨S1024x1024, .f32⟩ : BufTy).Contents (Elt Ideal)) bitsLt_bf16_f32) := by
  unfold W1
  after_results <;> rfl

theorem v2_read : W1 m ρ c (Proc.devRef .tc main_v2)
    = broadcastInDim S1x3x1024 ![1, 2] bcast_S3x1024_S1x3x1024_1_2
      (m ((c : Thread nD τ).loc main_arg6) : (⟨S3x1024, .f32⟩ : BufTy).Contents (Elt Ideal)) := by
  unfold W1
  after_results <;> rfl

theorem v6_read : W3 m ρ c (Proc.devRef .tc main_v6)
    = shapeCast S3x1024 (W2 m ρ c (Proc.devRef .tc main_v2) : (⟨S1x3x1024, .f32⟩ : BufTy).Contents (Elt Ideal)) shapeCasts_S1x3x1024_S3x1024 := by
  unfold W3
  after_results <;> rfl

/-- The taps, as the strip kernel takes them. -/
theorem taps3 : W3 m ρ c (Proc.devRef .tc main_v6) = m ((c : Thread nD τ).loc main_arg6) := by
  rw [v6_read, W2_of m ρ c main_v2 (by decide), v2_read]
  funext y
  change S3x1024.Idx at y
  idx_vars y
  pointwise []

/-- The arguments, as plain arrays. -/
abbrev aX : (⟨2, ![4096, 1024]⟩ : Shape).Idx → EReal := m ((c : Thread nD τ).loc main_arg0)
abbrev aN : (⟨2, ![1, 1024]⟩ : Shape).Idx → EReal := m ((c : Thread nD τ).loc main_arg1)
abbrev aC : (⟨2, ![1, 1024]⟩ : Shape).Idx → EReal := m ((c : Thread nD τ).loc main_arg2)
abbrev aH : (⟨2, ![1, 1024]⟩ : Shape).Idx → EReal := m ((c : Thread nD τ).loc main_arg3)
abbrev aG : (⟨2, ![1, 1024]⟩ : Shape).Idx → EReal := m ((c : Thread nD τ).loc main_arg4)
abbrev aI : (⟨2, ![1024, 3072]⟩ : Shape).Idx → EReal := m ((c : Thread nD τ).loc main_arg5)
abbrev aW : (⟨2, ![3, 1024]⟩ : Shape).Idx → EReal := m ((c : Thread nD τ).loc main_arg6)
abbrev aO : (⟨2, ![1024, 1024]⟩ : Shape).Idx → EReal := m ((c : Thread nD τ).loc main_arg7)

/-- The parts of the projection, as one array. -/
def parts (y : (⟨3, ![3, 4096, 1024]⟩ : Shape).Idx) : EReal :=
  projE (aX m c) (aN m c) (aC m c) (aH m c) (aI m c) (y 0) (y 1) (y 2)

theorem proj2 : W2 m ρ c (Proc.devRef .tc main_v5_1) = parts m c := by
  have e := (W2_arr m ρ c 6).trans (proj_array (V1 m ρ) c (aI m c) fun i f =>
    (congrFun (v1_read m ρ c) _).trans (by pointwise []))
  refine e.trans (funext fun y => ?_)
  unfold parts
  rw [show V1 m ρ c main_arg0 = aX m c from W1_args m ρ c main_arg0 (by decide),
    show V1 m ρ c main_arg1 = aN m c from W1_args m ρ c main_arg1 (by decide),
    show V1 m ρ c main_arg2 = aC m c from W1_args m ρ c main_arg2 (by decide),
    show V1 m ρ c main_arg3 = aH m c from W1_args m ρ c main_arg3 (by decide)]

theorem gate4 : W4 m ρ c (Proc.devRef .tc main_v7) = fun y : S4096x1024.Idx => gateE (aW m c) (parts m c) (y 0) (y 1) := by
  have e := (W4_arr m ρ c 4).trans (gate_array (V3 m ρ) c)
  refine e.trans (funext fun y => ?_)
  rw [show V3 m ρ c main_v6 = aW m c from taps3 m ρ c,
    show V3 m ρ c main_v5_1 = parts m c from (W3_of m ρ c main_v5_1 (by decide)).trans (proj2 m ρ c)]

/-- The layer's result at the end. -/
theorem mid5 : W5 m ρ c (Proc.devRef .tc main_v8_1)
    = fun y : S4096x1024.Idx => midE (aX m c) (aG m c) (aW m c) (aO m c) (parts m c) (y 0) (y 1) := by
  have e := (W5_arr m ρ c 5).trans (mid_array (V4 m ρ) c (aW m c) (aO m c) (parts m c) (gate4 m ρ c) fun l d => by
    refine (congrFun (((W4_of m ρ c main_v4 (by decide)).trans (W3_of m ρ c main_v4 (by decide))).trans
      ((W2_of m ρ c main_v4 (by decide)).trans (v4_read m ρ c))) _).trans ?_
    pointwise [])
  refine e.trans (funext fun y => ?_)
  rw [show V4 m ρ c main_arg0 = aX m c from W4_args m ρ c main_arg0 (by decide),
    show V4 m ρ c main_arg4 = aG m c from W4_args m ρ c main_arg4 (by decide)]

end Cert.Proof.Mix
-- ==== Proof.MixRun.lean ====
/- What every buffer holds after the three calls of the short-gated-convolution layer have run. -/
module

public import proofs.«01_k».proof.Proof.Gen.Kernel5Ideal.Frame

@[expose] public section

set_option maxRecDepth 16384
set_option synthInstance.maxSize 4096

noncomputable section

namespace Cert.Proof.MixRun

open Cert.Kernel5Ideal Cert.Kernel5Ideal.Gen Idealize.ShloMosaic Idealize.ShloMosaic.TcCoe
open Idealize.SL Idealize.SL.Sem

open Idealize.SL.RA Idealize.SL.BI Idealize.SL.BI.BIBase Idealize.SL.BI.Laws Idealize.SL.ProofMode Idealize.ShloMosaic.Rounds Idealize.ShloMosaic.Tactic
open scoped Idealize.SL.BI
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' own holds, after the run, what the last boundary says: the launch of the frame, with the whole
    last reading kept. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Proof.MixRun
-- ==== Proof.MixRef.lean ====
/- The reference's forward pass of the short-gated-convolution layer, at an index, is what MixSpec names. -/
module

public import proofs.«01_k».proof.Proof.Gen.Reference5Ideal.Run
public import proofs.«01_k».proof.Proof.Gen.Reference5Ideal.Read
public import proofs.«01_k».proof.Proof.MixSpec

@[expose] public section

set_option maxRecDepth 16384

noncomputable section

namespace Cert.Proof.MixRef

open Cert.Reference5Ideal Cert.Reference5Ideal.Gen Cert.Reference5Ideal.Read Idealize.ShloMosaic Idealize.ShloMosaic.TcCoe
open Idealize.ShloMosaic.Tactic Idealize.SL.Sem Cert.Proof.Mix

variable (x : (⟨S4096x1024, .f32⟩ : BufTy).Contents (Elt Ideal)) (gn sc sh g : (⟨S1x1024, .f32⟩ : BufTy).Contents (Elt Ideal))
  (wi : (⟨S1024x3072, .f32⟩ : BufTy).Contents (Elt Ideal)) (w : (⟨S3x1024, .f32⟩ : BufTy).Contents (Elt Ideal))
  (wo : (⟨S1024x1024, .f32⟩ : BufTy).Contents (Elt Ideal))

theorem hid_at (t : Fin 4096) (i : Fin 1024) : val_main_v17 (F := Ideal) x gn sc sh (ix2 t i) = hidE x gn sc sh t i := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]
  simp only [hidE]

theorem proj_at (t : Fin 4096) (l : Fin 3072) : val_main_v18 (F := Ideal) x gn sc sh wi (ix2 t l) = ∑ i, hidE x gn sc sh t i * wi (ix2 i l) := by
  pointwise [val_main_v18, hid_at]

/-- The three parts as one array. -/
def partsR (y : (⟨3, ![3, 4096, 1024]⟩ : Shape).Idx) : EReal := projE x gn sc sh wi (y 0) (y 1) (y 2)

theorem part0_at (t : Fin 4096) (l : Fin 1024) : val_main_v19 (F := Ideal) x gn sc sh wi (ix2 t l) = partsR x gn sc sh wi (ix3 0 t l) := by
  pointwise [val_main_v19, proj_at]
  unfold partsR projE
  refine Finset.sum_congr rfl fun i _ => ?_
  congr 3
  all_goals simp

theorem part1_at (t : Fin 4096) (l : Fin 1024) : val_main_v20 (F := Ideal) x gn sc sh wi (ix2 t l) = partsR x gn sc sh wi (ix3 1 t l) := by
  pointwise [val_main_v20, proj_at]
  unfold partsR projE
  refine Finset.sum_congr rfl fun i _ => ?_
  congr 3
  all_goals simp

theorem part2_at (t : Fin 4096) (l : Fin 1024) : val_main_v21 (F := Ideal) x gn sc sh wi (ix2 t l) = partsR x gn sc sh wi (ix3 2 t l) := by
  pointwise [val_main_v21, proj_at]
  unfold partsR projE
  refine Finset.sum_congr rfl fun i _ => ?_
  congr 3
  all_goals simp

theorem q_at (t : Fin 4098) (l : Fin 1024) : val_main_v24 (F := Ideal) x gn sc sh wi (ix2 t l) = Gate.qAt (partsR x gn sc sh wi) t.val l := by
  pointwise [val_main_v24, val_main_v23, val_main_v22, part1_at, part2_at, val_main_cst_3]
  rw [Gate.qAt]
  by_cases h : t.val < 2
  · rw [dif_pos h, dif_neg (by omega)]
  · rw [dif_neg h, dif_pos ⟨by omega, t.isLt⟩]

theorem conv_at (t : Fin 4096) (l : Fin 1024) :
    val_main_v46 (F := Ideal) x gn sc sh wi w (ix2 t l) = Gate.convAt (partsR x gn sc sh wi) w t.val l := by
  pointwise [val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29,
    val_main_v28, val_main_v27, val_main_v26, val_main_v25, val_main_cst_4, q_at]
  simp only [Gate.convAt, zero_add, add_comm 1 t.val, add_comm 2 t.val]

theorem gate_at (t : Fin 4096) (l : Fin 1024) :
    val_main_v47 (F := Ideal) x gn sc sh wi w (ix2 t l) = gateE w (partsR x gn sc sh wi) t l := by
  pointwise [val_main_v47, part0_at, conv_at]
  rfl

theorem mid_at (t : Fin 4096) (d : Fin 1024) :
    val_main_v51 (F := Ideal) x gn sc sh g wi w wo (ix2 t d) = midE x g w wo (partsR x gn sc sh wi) t d := by
  pointwise [val_main_v51, val_main_v50, val_main_v49, val_main_v48, gate_at]
  rfl

end Cert.Proof.MixRef
-- ==== Proof.MixClaim.lean ====
/- The short-gated-convolution layer's three kernels leave the result that the reference computes. -/
module

public import proofs.«01_k».proof.Defs
public import proofs.«01_k».proof.Proof.MixChain
public import proofs.«01_k».proof.Proof.MixRun
public import proofs.«01_k».proof.Proof.MixRef

@[expose] public section

set_option maxRecDepth 16384

noncomputable section

namespace Cert.Proof.Mix

open Idealize.ShloMosaic Idealize.ShloMosaic.TcCoe Idealize.ShloMosaic.Tactic Idealize.SL.Sem

/-- On the extended reals the layer's kernels leave the reference's result, whatever the arguments. -/
theorem algebraic : Cert.algebraic_Kernel5Ideal_Reference5Ideal (hKernel5Ideal := Cert.Kernel5Ideal.Gen.facts)
    (hReference5Ideal := Cert.Reference5Ideal.Gen.facts) := by
  intro m g m' g' hpre hagree
  refine ⟨fun c => Cert.Kernel5Ideal.Gen.W5 m g c (Proc.devRef .tc Cert.Kernel5Ideal.main_v8_1), ?_, ?_⟩
  · exact (θ_run _ _ _).mono (fun r h c =>
      ⟨h c _ (Cert.Kernel5Ideal.Gen.mem_uc Cert.Kernel5Ideal.main_v8_1 (by decide)),
        (h c _ (Cert.Kernel5Ideal.Gen.mem_uc Cert.Kernel5Ideal.main_arg0 (by decide))).trans (Cert.Kernel5Ideal.Gen.W5_main_arg0 m g c),
        (h c _ (Cert.Kernel5Ideal.Gen.mem_uc Cert.Kernel5Ideal.main_arg1 (by decide))).trans (Cert.Kernel5Ideal.Gen.W5_main_arg1 m g c),
        (h c _ (Cert.Kernel5Ideal.Gen.mem_uc Cert.Kernel5Ideal.main_arg2 (by decide))).trans (Cert.Kernel5Ideal.Gen.W5_main_arg2 m g c),
        (h c _ (Cert.Kernel5Ideal.Gen.mem_uc Cert.Kernel5Ideal.main_arg3 (by decide))).trans (Cert.Kernel5Ideal.Gen.W5_main_arg3 m g c),
        (h c _ (Cert.Kernel5Ideal.Gen.mem_uc Cert.Kernel5Ideal.main_arg4 (by decide))).trans (Cert.Kernel5Ideal.Gen.W5_main_arg4 m g c),
        (h c _ (Cert.Kernel5Ideal.Gen.mem_uc Cert.Kernel5Ideal.main_arg5 (by decide))).trans (Cert.Kernel5Ideal.Gen.W5_main_arg5 m g c),
        (h c _ (Cert.Kernel5Ideal.Gen.mem_uc Cert.Kernel5Ideal.main_arg6 (by decide))).trans (Cert.Kernel5Ideal.Gen.W5_main_arg6 m g c),
        (h c _ (Cert.Kernel5Ideal.Gen.mem_uc Cert.Kernel5Ideal.main_arg7 (by decide))).trans (Cert.Kernel5Ideal.Gen.W5_main_arg7 m g c)⟩)
      (Cert.Proof.MixRun.run_all m g)
  · refine (θ_run _ _ _).mono (fun r h c => ?_) (Cert.Reference5Ideal.Value.run m' g')
    obtain ⟨r0, ra⟩ := h c
    obtain ⟨a0, a1, a2, a3, a4, a5, a6, a7⟩ := hagree c
    refine ⟨r0.trans ?_, ra⟩
    rw [Cert.Reference5Ideal.Read.val_main_v51_eq, a0, a1, a2, a3, a4, a5, a6, a7]
    refine Eq.trans ?_ (mid5 m g c).symm
    funext y
    change Cert.Reference5Ideal.S4096x1024.Idx at y
    idx_vars y
    exact Cert.Proof.MixRef.mid_at _ _ _ _ _ _ _ _ y0 y1

end Cert.Proof.Mix
-- ==== Proof.MixBackReal.lean ====
/- The gradient through the gated-convolution mixer's norm and input product, over the real numbers. -/
module

public import proofs.«01_k».proof.Proof.FfnReal

@[expose] public section

noncomputable section

namespace Cert.Proof.MixBack

open Idealize.ShloMosaic
open Cert.Proof.Ffn

variable (x : Fin 4096 → Fin 1024 → ℝ) (gn sc : Fin 1024 → ℝ) (wi : Fin 1024 → Fin 3072 → ℝ) (dp : Fin 3 → Fin 4096 → Fin 1024 → ℝ)

/-- The gradient of the normalised, scaled and shifted rows. -/
def dh (t : Fin 4096) (i : Fin 1024) : ℝ :=
  (∑ l : Fin 1024, dp 0 t l * wi i ⟨l.val, by omega⟩ + ∑ l : Fin 1024, dp 1 t l * wi i ⟨1024 + l.val, by omega⟩)
    + ∑ l : Fin 1024, dp 2 t l * wi i ⟨2048 + l.val, by omega⟩

/-- The gradient of the normalised rows. -/
def dxh (t : Fin 4096) (i : Fin 1024) : ℝ := dh wi dp t i * (gn i * (1 + sc i))

/-- The gradient of the norm's argument. -/
def dxn (t : Fin 4096) (i : Fin 1024) : ℝ :=
  rs x t * (dxh gn sc wi dp t i - x t i * rs x t * ((∑ k, dxh gn sc wi dp t k * (x t k * rs x t)) / 1024))

/-- The sums over tokens. -/
def dsh (i : Fin 1024) : ℝ := ∑ t, dh wi dp t i
def dnorm (i : Fin 1024) : ℝ := ∑ t, dh wi dp t i * (x t i * rs x t)

end Cert.Proof.MixBack
-- ==== Proof.MixBack.lean ====
/- The last backward kernel of the gated-convolution mixer: the gradient of the argument, and the tiles' sums for the gains. -/
module

public import proofs.«01_k».proof.Proof.Gen.Kernel6Ideal.Frame
public import proofs.«01_k».proof.Proof.MixBackReal

@[expose] public section

set_option maxRecDepth 16384

noncomputable section

namespace Cert.Proof.MixBack

open Cert.Kernel6Ideal Cert.Kernel6Ideal.Gen Idealize.ShloMosaic Idealize.ShloMosaic.TcCoe Idealize.ShloMosaic.Tactic
open Idealize.SL.Sem
open Idealize.ShloMosaic.Pipeline (Dat)
open Cert.Proof.Ffn (coe_sum rs rs_coe width_bits)

variable (x : Fin 4096 → Fin 1024 → ℝ) (gn sc : Fin 1024 → ℝ) (wi : Fin 1024 → Fin 3072 → ℝ) (dp : Fin 3 → Fin 4096 → Fin 1024 → ℝ)

/-- A row of the gradient of the normalised, scaled and shifted rows. -/
theorem dh_row (v0 : Vec Ideal S3x512x1024 .bf16) (u0 u1 u2 : Vec Ideal S1x1024x1024 .bf16) (q : Fin 512) (t : Fin 4096)
    (h0 : ∀ p l, v0 (ix3 p q l) = (dp p t l : EReal))
    (hu0 : ∀ i l, u0 (ix3 0 i l) = (wi i ⟨l.val, by omega⟩ : EReal))
    (hu1 : ∀ i l, u1 (ix3 0 i l) = (wi i ⟨1024 + l.val, by omega⟩ : EReal))
    (hu2 : ∀ i l, u2 (ix3 0 i l) = (wi i ⟨2048 + l.val, by omega⟩ : EReal)) (i : Fin 1024) :
    k0_pay5 (F := Ideal) v0 u0 u1 u2 (ix2 q i) = (dh wi dp t i : EReal) := by
  have e : k0_pay5 (F := Ideal) v0 u0 u1 u2 (ix2 q i)
      = ((∑ l : Fin 1024, v0 (ix3 0 q l) * u0 (ix3 0 i l)) + ∑ l : Fin 1024, v0 (ix3 1 q l) * u1 (ix3 0 i l))
        + ∑ l : Fin 1024, v0 (ix3 2 q l) * u2 (ix3 0 i l) := by
    pointwise [k0_pay5]
  rw [e]
  simp only [h0, hu0, hu1, hu2, ← EReal.coe_mul, coe_sum, ← EReal.coe_add]
  rfl

/-- One over the root of a row's mean square. -/
theorem rs_row (v : Vec Ideal S512x1024 .f32) (q : Fin 512) (t : Fin 4096) (h : ∀ i, v (ix2 q i) = (x t i : EReal)) :
    k0_pay6 (F := Ideal) v (ix2 q 0) = (rs x t : EReal) := by
  pointwise [k0_pay6]
  simp only [h]
  exact rs_coe x t

theorem rsb_row (v : Vec Ideal S512x1024 .f32) (q : Fin 512) (t : Fin 4096) (h : ∀ i, v (ix2 q i) = (x t i : EReal)) (i : Fin 1024) :
    k0_pay7 (F := Ideal) v (ix2 q i) = (rs x t : EReal) := by
  have e : k0_pay7 (F := Ideal) v (ix2 q i) = k0_pay6 (F := Ideal) v (ix2 q 0) := by pointwise [k0_pay7]
  rw [e, rs_row x v q t h]

/-- A row of the gradient of the argument. -/
theorem dxin_row (v17 : FVec Ideal S512x1024 .f32) (v18 v19 : Vec Ideal S512x1024 .f32) (v20 v21 : Vec Ideal S1x1024 .f32)
    (v29 : FVec Ideal S512x1 .f32) (v30 : FVec Ideal S512x1024 .f32)
    (q : Fin 512) (t : Fin 4096) (h17 : ∀ i, v17 (ix2 q i) = (dh wi dp t i : EReal))
    (h18 : ∀ i, v18 (ix2 q i) = (x t i : EReal))
    (h20 : ∀ i, v20 (ix2 0 i) = (gn i : EReal)) (h21 : ∀ i, v21 (ix2 0 i) = (sc i : EReal))
    (h29 : v29 (ix2 q 0) = (rs x t : EReal)) (h30 : ∀ i, v30 (ix2 q i) = (rs x t : EReal)) (i : Fin 1024) :
    k0_pay2 (F := Ideal) v17 v18 v19 v20 v21 v29 v30 (ix2 q i) = v19 (ix2 q i) + (dxn x gn sc wi dp t i : EReal) := by
  have e : k0_pay2 (F := Ideal) v17 v18 v19 v20 v21 v29 v30 (ix2 q i)
      = v19 (ix2 q i) + v29 (ix2 q 0) * (v17 (ix2 q i) * (v20 (ix2 0 i) * (1 + v21 (ix2 0 i)))
        - v18 (ix2 q i) * v30 (ix2 q i) * Ideal.div (∑ k, v17 (ix2 q k) * (v20 (ix2 0 k) * (1 + v21 (ix2 0 k)))
            * (v18 (ix2 q k) * v30 (ix2 q k))) (Ideal.ofBits .f32 0x44800000#32)) := by
    pointwise [k0_pay2, k0_pay1]
  rw [e, h29, width_bits, Ideal.div_coe (by norm_num)]
  simp only [h17, h18, h20, h21, h30]
  have o : (1 : EReal) = ((1 : ℝ) : EReal) := rfl
  rw [o]
  simp only [← EReal.coe_mul, ← EReal.coe_add, coe_sum, ← EReal.coe_sub]
  congr 2
  unfold dxn dxh
  ring

/-- A tile's column sums of the gradient of the rows. -/
theorem hsum_row (v17 : FVec Ideal S512x1024 .f32) (i : Fin 1024) (t : Fin 512 → Fin 4096)
    (h17 : ∀ q, v17 (ix2 q i) = (dh wi dp (t q) i : EReal)) :
    k0_pay3 (F := Ideal) v17 (ix3 0 0 i) = ((∑ q, dh wi dp (t q) i : ℝ) : EReal) := by
  pointwise [k0_pay3]
  simp only [h17, coe_sum]

/-- A tile's column sums of the gradient of the rows, times the normalised rows. -/
theorem nsum_row (v17 : FVec Ideal S512x1024 .f32) (v18 : Vec Ideal S512x1024 .f32) (v30 : FVec Ideal S512x1024 .f32) (i : Fin 1024)
    (t : Fin 512 → Fin 4096) (h17 : ∀ q, v17 (ix2 q i) = (dh wi dp (t q) i : EReal)) (h18 : ∀ q, v18 (ix2 q i) = (x (t q) i : EReal))
    (h30 : ∀ q, v30 (ix2 q i) = (rs x (t q) : EReal)) :
    k0_pay4 (F := Ideal) v17 v18 v30 (ix3 0 0 i) = ((∑ q, dh wi dp (t q) i * (x (t q) i * rs x (t q)) : ℝ) : EReal) := by
  have e : k0_pay4 (F := Ideal) v17 v18 v30 (ix3 0 0 i) = ∑ q, v17 (ix2 q i) * (v18 (ix2 q i) * v30 (ix2 q i)) := by
    pointwise [k0_pay4, k0_pay1]
  rw [e]
  simp only [h17, h18, h30, ← EReal.coe_mul, coe_sum]

/-- Row `q` of tile `t`, of tiles of 512 rows. -/
def row512 (t : Fin 8) (q : Fin 512) : Fin 4096 := ⟨t.val * 512 + q.val, by omega⟩

variable (m : (ℓ : Loc nD τ sig) → Buf (Elt Ideal) ℓ) (c : Dev nD)

section

theorem b_d (t : Fin cfg0.N) (p : Fin 3) (q : Fin 512) (l : Fin 1024) (T : Fin 4096) (hT : T.val = t.val * 512 + q.val) :
    (View.ld (iblk m c 0 t) r0_0 : Vec Ideal S3x512x1024 .bf16) (ix3 p q l) = (V m c main_arg5 : Vec Ideal S3x4096x1024 .bf16) (ix3 p T l) := by
  have hi : ∀ t : Fin cfg0.N, (cfg0.win 0).index t = ![0, t.val, 0] := by decide +kernel
  blk_ext [iblk, V, hi t, View.ld, LoadRect.idx_apply, hT]
  all_goals simp [Rect.unit]

theorem b_w0 (t : Fin cfg0.N) (i l : Fin 1024) :
    (View.ld (iblk m c 1 t) r0_1 : Vec Ideal S1x1024x1024 .bf16) (ix3 0 i l) = (V m c main_v1 : Vec Ideal S1x1024x3072 .bf16) (ix3 0 i ⟨l.val, by omega⟩) := by
  have hi : ∀ t : Fin cfg0.N, (cfg0.win 1).index t = ![0, 0, 0] := by decide +kernel
  blk_ext [iblk, V, hi t, View.ld, LoadRect.idx_apply]
  all_goals simp [Rect.unit]

theorem b_w1 (t : Fin cfg0.N) (i l : Fin 1024) :
    (View.ld (iblk m c 1 t) r0_2 : Vec Ideal S1x1024x1024 .bf16) (ix3 0 i l) = (V m c main_v1 : Vec Ideal S1x1024x3072 .bf16) (ix3 0 i ⟨1024 + l.val, by omega⟩) := by
  have hi : ∀ t : Fin cfg0.N, (cfg0.win 1).index t = ![0, 0, 0] := by decide +kernel
  blk_ext [iblk, V, hi t, View.ld, LoadRect.idx_apply]
  all_goals simp [Rect.unit]

theorem b_w2 (t : Fin cfg0.N) (i l : Fin 1024) :
    (View.ld (iblk m c 1 t) r0_3 : Vec Ideal S1x1024x1024 .bf16) (ix3 0 i l) = (V m c main_v1 : Vec Ideal S1x1024x3072 .bf16) (ix3 0 i ⟨2048 + l.val, by omega⟩) := by
  have hi : ∀ t : Fin cfg0.N, (cfg0.win 1).index t = ![0, 0, 0] := by decide +kernel
  blk_ext [iblk, V, hi t, View.ld, LoadRect.idx_apply]
  all_goals simp [Rect.unit]

theorem b_x (t : Fin cfg0.N) (q : Fin 512) (d : Fin 1024) (T : Fin 4096) (hT : T.val = t.val * 512 + q.val) :
    (View.ld (iblk m c 2 t) r0_4 : Vec Ideal S512x1024 .f32) (ix2 q d) = (V m c main_arg0 : Vec Ideal S4096x1024 .f32) (ix2 T d) := by
  have hi : ∀ t : Fin cfg0.N, (cfg0.win 2).index t = ![t.val, 0] := by decide +kernel
  blk_ext [iblk, V, hi t, View.ld, LoadRect.idx_apply, hT]
  all_goals simp [Rect.unit]

theorem b_dx (t : Fin cfg0.N) (q : Fin 512) (d : Fin 1024) (T : Fin 4096) (hT : T.val = t.val * 512 + q.val) :
    (View.ld (iblk m c 3 t) r0_4 : Vec Ideal S512x1024 .f32) (ix2 q d) = (V m c main_arg6 : Vec Ideal S4096x1024 .f32) (ix2 T d) := by
  have hi : ∀ t : Fin cfg0.N, (cfg0.win 3).index t = ![t.val, 0] := by decide +kernel
  blk_ext [iblk, V, hi t, View.ld, LoadRect.idx_apply, hT]
  all_goals simp [Rect.unit]

theorem b_gn (t : Fin cfg0.N) (d : Fin 1024) :
    (View.ld (iblk m c 4 t) r0_5 : Vec Ideal S1x1024 .f32) (ix2 0 d) = (V m c main_arg1 : Vec Ideal S1x1024 .f32) (ix2 0 d) := by
  have hi : ∀ t : Fin cfg0.N, (cfg0.win 4).index t = ![0, 0] := by decide +kernel
  blk_ext [iblk, V, hi t, View.ld, LoadRect.idx_apply]
  all_goals simp [Rect.unit]

theorem b_sc (t : Fin cfg0.N) (d : Fin 1024) :
    (View.ld (iblk m c 5 t) r0_5 : Vec Ideal S1x1024 .f32) (ix2 0 d) = (V m c main_arg2 : Vec Ideal S1x1024 .f32) (ix2 0 d) := by
  have hi : ∀ t : Fin cfg0.N, (cfg0.win 5).index t = ![0, 0] := by decide +kernel
  blk_ext [iblk, V, hi t, View.ld, LoadRect.idx_apply]
  all_goals simp [Rect.unit]

/-- The weights as the kernel reads them. -/
theorem w_read : V m c main_v1 = broadcastInDim S1x1024x3072 ![1, 2] bcast_S1024x3072_S1x1024x3072_1_2
    (truncf (F := Ideal) .bf16 (m ((c : Thread nD τ).loc main_arg4) : Vec Ideal S1024x3072 .f32) bitsLt_bf16_f32) := by
  unfold V V0
  after_results <;> rfl

theorem w_at (i : Fin 1024) (f : Fin 3072) : (V m c main_v1 : Vec Ideal S1x1024x3072 .bf16) (ix3 0 i f)
    = (m ((c : Thread nD τ).loc main_arg4) : Vec Ideal S1024x3072 .f32) (ix2 i f) := by
  rw [w_read]
  pointwise []

variable (hx : ∀ t i, (m ((c : Thread nD τ).loc main_arg0) : Vec Ideal S4096x1024 .f32) (ix2 t i) = (x t i : EReal))
  (hgn : ∀ i, (m ((c : Thread nD τ).loc main_arg1) : Vec Ideal S1x1024 .f32) (ix2 0 i) = (gn i : EReal))
  (hsc : ∀ i, (m ((c : Thread nD τ).loc main_arg2) : Vec Ideal S1x1024 .f32) (ix2 0 i) = (sc i : EReal))
  (hwi : ∀ i f, (m ((c : Thread nD τ).loc main_arg4) : Vec Ideal S1024x3072 .f32) (ix2 i f) = (wi i f : EReal))
  (hdp : ∀ p t l, (m ((c : Thread nD τ).loc main_arg5) : Vec Ideal S3x4096x1024 .bf16) (ix3 p t l) = (dp p t l : EReal))

include hdp hwi in
theorem dh_block (t : Fin cfg0.N) (q : Fin 512) (i : Fin 1024) (T : Fin 4096) (hT : T.val = t.val * 512 + q.val) :
    k0_pay8 (F := Ideal) (iblk m c 0 t) (iblk m c 1 t) (iblk m c 2 t) (iblk m c 3 t) (iblk m c 4 t) (iblk m c 5 t) (ix2 q i)
      = (dh wi dp T i : EReal) :=
  dh_row wi dp _ _ _ _ q T (fun p l => (b_d m c t p q l T hT).trans ((congrFun (V_main_arg5 m c) _).trans (hdp p T l)))
    (fun i l => (b_w0 m c t i l).trans ((w_at m c i _).trans (hwi i _)))
    (fun i l => (b_w1 m c t i l).trans ((w_at m c i _).trans (hwi i _)))
    (fun i l => (b_w2 m c t i l).trans ((w_at m c i _).trans (hwi i _))) i

include hx in
theorem x_block (t : Fin cfg0.N) (q : Fin 512) (i : Fin 1024) (T : Fin 4096) (hT : T.val = t.val * 512 + q.val) :
    (View.ld (iblk m c 2 t) r0_4 : Vec Ideal S512x1024 .f32) (ix2 q i) = (x T i : EReal) :=
  (b_x m c t q i T hT).trans ((congrFun (V_main_arg0 m c) _).trans (hx T i))

include hx hgn hsc hwi hdp in
/-- The gradient of the argument, as the kernel leaves it. -/
theorem dxin_array : (dats m 0 c).arrAt 6 cfg0.N = fun y : S4096x1024.Idx =>
    HAdd.hAdd (α := EReal) (β := EReal) ((m ((c : Thread nD τ).loc main_arg6) : Vec Ideal S4096x1024 .f32) (ix2 (y 0) (y 1)))
      (dxn x gn sc wi dp (y 0) (y 1) : EReal) := by
  refine (dats m 0 c).arrAt_eq_of_covers 6 _ (by decide +kernel) fun t hf y => ?_
  blk_simp
  rw [after0_6]
  have hi : ∀ t : Fin cfg0.N, (cfg0.win 6).index t = ![t.val, 0] := by decide +kernel
  have h0 : (((cfg0.win 6).blk t).view.emb y 0 : ℕ) = t.val * 512 + (y 0).val := by blk_simp [hi t]
  have h1 : (((cfg0.win 6).blk t).view.emb y 1 : ℕ) = (y 1).val := by blk_simp [hi t]
  change S512x1024.Idx at y
  have e1 := Fin.ext (a := ((cfg0.win 6).blk t).view.emb y 1) (b := y 1) h1
  rw [e1]
  generalize ((cfg0.win 6).blk t).view.emb y 0 = T at h0 ⊢
  change Fin 4096 at T
  unfold out0_6
  rw [View.canon_cons_unit_zero (by decide)]
  idx_vars y
  refine (dxin_row x gn sc wi dp _ _ _ _ _ _ _ y0 T (fun i => dh_block wi dp m c hwi hdp t y0 i T h0)
    (fun i => x_block x m c hx t y0 i T h0)
    (fun i => (b_gn m c t i).trans ((congrFun (V_main_arg1 m c) _).trans (hgn i)))
    (fun i => (b_sc m c t i).trans ((congrFun (V_main_arg2 m c) _).trans (hsc i)))
    (rs_row x _ y0 T fun i => x_block x m c hx t y0 i T h0)
    (fun i => rsb_row x _ y0 T (fun i => x_block x m c hx t y0 i T h0) i) y1).trans ?_
  exact congrArg (· + (dxn x gn sc wi dp T y1 : EReal)) ((b_dx m c t y0 y1 T h0).trans (congrFun (V_main_arg6 m c) _))

include hwi hdp in
/-- The tiles' column sums of the gradient of the rows. -/
theorem hsum_array : (dats m 0 c).arrAt 7 cfg0.N
    = fun y : S8x1x1024.Idx => ((∑ q, dh wi dp (row512 (y 0) q) (y 2) : ℝ) : EReal) := by
  refine (dats m 0 c).arrAt_eq_of_covers 7 _ (by decide +kernel) fun t hf y => ?_
  blk_simp
  rw [after0_7]
  have hi : ∀ t : Fin cfg0.N, (cfg0.win 7).index t = ![t.val, 0, 0] := by decide +kernel
  have h0 : (((cfg0.win 7).blk t).view.emb y 0 : ℕ) = t.val := by blk_simp [hi t]
  have h2 : (((cfg0.win 7).blk t).view.emb y 2 : ℕ) = (y 2).val := by blk_simp [hi t]
  change S1x1x1024.Idx at y
  have e2 := Fin.ext (a := ((cfg0.win 7).blk t).view.emb y 2) (b := y 2) h2
  rw [e2]
  generalize ((cfg0.win 7).blk t).view.emb y 0 = T at h0 ⊢
  change Fin 8 at T
  have hT : ∀ q : Fin 512, (row512 T q).val = t.val * 512 + q.val := fun q => congrArg (· * 512 + q.val) h0
  unfold out0_7
  rw [View.canon_cons_unit_zero (by decide)]
  idx_vars y
  obtain rfl : y0 = 0 := Fin.ext (by omega)
  obtain rfl : y1 = 0 := Fin.ext (by omega)
  exact hsum_row wi dp _ y2 (row512 T) (fun q => dh_block wi dp m c hwi hdp t q y2 _ (hT q))

include hx hwi hdp in
/-- The tiles' column sums of the gradient of the rows, times the normalised rows. -/
theorem nsum_array : (dats m 0 c).arrAt 8 cfg0.N
    = fun y : S8x1x1024.Idx => ((∑ q, dh wi dp (row512 (y 0) q) (y 2) * (x (row512 (y 0) q) (y 2) * rs x (row512 (y 0) q)) : ℝ) : EReal) := by
  refine (dats m 0 c).arrAt_eq_of_covers 8 _ (by decide +kernel) fun t hf y => ?_
  blk_simp
  rw [after0_8]
  have hi : ∀ t : Fin cfg0.N, (cfg0.win 8).index t = ![t.val, 0, 0] := by decide +kernel
  have h0 : (((cfg0.win 8).blk t).view.emb y 0 : ℕ) = t.val := by blk_simp [hi t]
  have h2 : (((cfg0.win 8).blk t).view.emb y 2 : ℕ) = (y 2).val := by blk_simp [hi t]
  change S1x1x1024.Idx at y
  have e2 := Fin.ext (a := ((cfg0.win 8).blk t).view.emb y 2) (b := y 2) h2
  rw [e2]
  generalize ((cfg0.win 8).blk t).view.emb y 0 = T at h0 ⊢
  change Fin 8 at T
  have hT : ∀ q : Fin 512, (row512 T q).val = t.val * 512 + q.val := fun q => congrArg (· * 512 + q.val) h0
  unfold out0_8
  rw [View.canon_cons_unit_zero (by decide)]
  idx_vars y
  obtain rfl : y0 = 0 := Fin.ext (by omega)
  obtain rfl : y1 = 0 := Fin.ext (by omega)
  exact nsum_row x wi dp _ _ _ y2 (row512 T) (fun q => dh_block wi dp m c hwi hdp t q y2 _ (hT q))
    (fun q => x_block x m c hx t q y2 _ (hT q)) (fun q => rsb_row x _ q _ (fun i => x_block x m c hx t q i _ (hT q)) y2)

theorem sum_row512 (f : Fin 4096 → ℝ) : ∑ t : Fin 8, ∑ q : Fin 512, f (row512 t q) = ∑ t, f t :=
  Fin.sum_mul_add_congr fun _ _ _ => congrArg f (Fin.ext rfl)

/-- A sum over the eight tiles. -/
theorem tiles8 (v : (⟨S8x1x1024, .f32⟩ : BufTy).Contents (Elt Ideal)) (f : Fin 8 → Fin 1024 → ℝ)
    (hv : ∀ t d, v (ix3 t 0 d) = (f t d : EReal)) (d : Fin 1024) :
    Host.reduceAdd (F := Ideal) v (constant (F := Ideal) S_ .f32 0x00000000#32) reducesTo_S8x1x1024_S1x1024_d0 h_S_ (ix2 0 d)
      = ((∑ t, f t d : ℝ) : EReal) := by
  pointwise []
  simp only [hv, coe_sum]

/-- The sum over the tiles, as the lines after the kernel take it. -/
abbrev total (v : (⟨S8x1x1024, .f32⟩ : BufTy).Contents (Elt Ideal)) : (⟨S1x1024, .f32⟩ : BufTy).Contents (Elt Ideal) :=
  Host.reduceAdd (F := Ideal) v (constant (F := Ideal) S_ .f32 0x00000000#32) reducesTo_S8x1x1024_S1x1024_d0 h_S_

theorem tail3 (W : Valuation τ sig (Elt Ideal)) : StableHlo.after hostOps1 W (Proc.devRef .tc main_v3)
    = total (W (Proc.devRef .tc main_v2_1)) := by
  after_results <;> rfl

theorem tail7 (W : Valuation τ sig (Elt Ideal)) : StableHlo.after hostOps1 W (Proc.devRef .tc main_v7)
    = mulf (F := Ideal) (s := S1x1024) (φ := .f32) (total (W (Proc.devRef .tc main_v2_2)))
        (addf (F := Ideal) (s := S1x1024) (φ := .f32) (broadcastInDim S1x1024 ![] bcast_S_S1x1024 (constant (F := Ideal) S_ .f32 0x3F800000#32) : Vec Ideal S1x1024 .f32)
          (W (Proc.devRef .tc main_arg2) : Vec Ideal S1x1024 .f32)) := by
  after_results <;> rfl

theorem tail8 (W : Valuation τ sig (Elt Ideal)) : StableHlo.after hostOps1 W (Proc.devRef .tc main_v8)
    = mulf (F := Ideal) (s := S1x1024) (φ := .f32) (total (W (Proc.devRef .tc main_v2_2))) (W (Proc.devRef .tc main_arg1) : Vec Ideal S1x1024 .f32) := by
  after_results <;> rfl

/-- What the buffers hold when the kernel is done, before the lines after it. -/
abbrev W : Valuation τ sig (Elt Ideal) := Pipeline.withArrays spec0 c (V0 m c) fun w => (dats m 0 c).arrAt w cfg0.N

theorem W7 : W m c (Proc.devRef .tc main_v2_1) = (dats m 0 c).arrAt 7 cfg0.N :=
  Pipeline.withArrays_arr spec0 launch0.win.arr_inj c (V0 m c) _ 7
theorem W8 : W m c (Proc.devRef .tc main_v2_2) = (dats m 0 c).arrAt 8 cfg0.N :=
  Pipeline.withArrays_arr spec0 launch0.win.arr_inj c (V0 m c) _ 8
theorem Wgn : W m c (Proc.devRef .tc main_arg1) = m ((c : Thread nD τ).loc main_arg1) :=
  (Pipeline.withArrays_arr spec0 launch0.win.arr_inj c (V0 m c) _ 4).trans
    (((dats m 0 c).arrAt_in 4 rfl _).trans ((A_eq m c 4).trans (V_main_arg1 m c)))
theorem Wsc : W m c (Proc.devRef .tc main_arg2) = m ((c : Thread nD τ).loc main_arg2) :=
  (Pipeline.withArrays_arr spec0 launch0.win.arr_inj c (V0 m c) _ 5).trans
    (((dats m 0 c).arrAt_in 5 rfl _).trans ((A_eq m c 5).trans (V_main_arg2 m c)))

/-- A buffer after the lines that follow the kernel. -/
abbrev fin (b : Ref sig .tc) : Buf (Elt Ideal) ((c.tc : Thread nD τ).loc b) := Pipeline.afterTail₀ cfgs (dats m) 0 (V0 m) [hostOps1] c b

include hwi hdp in
theorem dsh_fin (d : Fin 1024) : (fin m c main_v3 : Vec Ideal S1x1024 .f32) (ix2 0 d) = (dsh wi dp d : EReal) := by
  refine (congrFun (tail3 (W m c)) _).trans ?_
  refine (tiles8 _ (fun t d => ∑ q : Fin 512, dh wi dp (row512 t q) d) (fun t d => ?_) d).trans ?_
  · exact congrFun ((W7 m c).trans (hsum_array wi dp m c hwi hdp)) (ix3 t 0 d)
  · congr 1
    exact sum_row512 (fun t => dh wi dp t d)

include hx hwi hdp in
theorem nsum_fin (d : Fin 1024) : total (W m c (Proc.devRef .tc main_v2_2)) (ix2 0 d) = (dnorm x wi dp d : EReal) := by
  refine (tiles8 _ (fun t d => ∑ q : Fin 512, dh wi dp (row512 t q) d * (x (row512 t q) d * rs x (row512 t q))) (fun t d => ?_) d).trans ?_
  · exact congrFun ((W8 m c).trans (nsum_array x wi dp m c hx hwi hdp)) (ix3 t 0 d)
  · congr 1
    exact sum_row512 (fun t => dh wi dp t d * (x t d * rs x t))

include hx hsc hwi hdp in
theorem dgn_fin (d : Fin 1024) : (fin m c main_v7 : Vec Ideal S1x1024 .f32) (ix2 0 d) = ((dnorm x wi dp d * (1 + sc d) : ℝ) : EReal) := by
  refine (congrFun (tail7 (W m c)) _).trans ?_
  rw [Wsc]
  have e := nsum_fin x wi dp m c hx hwi hdp d
  generalize total (W m c (Proc.devRef .tc main_v2_2)) = u at e ⊢
  pointwise []
  rw [e, hsc, EReal.coe_mul, EReal.coe_add]
  rfl

include hx hgn hwi hdp in
theorem dsc_fin (d : Fin 1024) : (fin m c main_v8 : Vec Ideal S1x1024 .f32) (ix2 0 d) = ((dnorm x wi dp d * gn d : ℝ) : EReal) := by
  refine (congrFun (tail8 (W m c)) _).trans ?_
  rw [Wgn]
  have e := nsum_fin x wi dp m c hx hwi hdp d
  generalize total (W m c (Proc.devRef .tc main_v2_2)) = u at e ⊢
  pointwise []
  rw [e, hgn, EReal.coe_mul]

end

end Cert.Proof.MixBack
-- ==== Proof.MixBackRef.lean ====
/- The reference of the gradient through the mixer's norm and input product, operation by operation. -/
module

public import proofs.«01_k».proof.Proof.MixBackReal
public import proofs.«01_k».proof.Proof.FfnRef
public import proofs.«01_k».proof.Proof.Gen.Reference6Ideal.Read

@[expose] public section

set_option maxRecDepth 4000

noncomputable section

namespace Cert.Proof.MixBackRef

open Cert.Reference6Ideal Cert.Reference6Ideal.Gen Cert.Reference6Ideal.Read Idealize.ShloMosaic Idealize.ShloMosaic.TcCoe
  Idealize.ShloMosaic.StableHlo
open Cert.Proof.Ffn (rs ms ms_pos eps_bits width_bits mhalf_bits coe_sum)
open Cert.Proof.MixBack
open Cert.Proof.FfnRef (one_bits zero_bits col rs_sq)

/-- The arrays of reals, as arguments. -/
abbrev rows (x : Fin 4096 → Fin 1024 → ℝ) : (⟨S4096x1024, .f32⟩ : BufTy).Contents (Elt Ideal) := fun y => (x (y 0) (y 1) : EReal)
abbrev line (g : Fin 1024 → ℝ) : (⟨S1x1024, .f32⟩ : BufTy).Contents (Elt Ideal) := fun y => (g (y 1) : EReal)
abbrev win (w : Fin 1024 → Fin 3072 → ℝ) : (⟨S1024x3072, .f32⟩ : BufTy).Contents (Elt Ideal) := fun y => (w (y 0) (y 1) : EReal)
abbrev parts (d : Fin 3 → Fin 4096 → Fin 1024 → ℝ) : (⟨S3x4096x1024, .bf16⟩ : BufTy).Contents (Elt Ideal) :=
  fun y => (d (y 0) (y 1) (y 2) : EReal)

variable (x : Fin 4096 → Fin 1024 → ℝ) (gn sc : Fin 1024 → ℝ) (wi : Fin 1024 → Fin 3072 → ℝ) (dp : Fin 3 → Fin 4096 → Fin 1024 → ℝ)

theorem ms_at (y : S4096x1.Idx) : val_main_v6 (F := Ideal) (rows x) y = (ms x (y 0) : EReal) := by
  rw [val_main_v6_apply, val_main_v4_apply, val_main_v2_apply, val_main_v1_apply, val_main_v3_apply, val_main_v5_apply,
    val_main_cst_0_apply, val_main_cst_1_apply, val_main_cst_apply]
  simp only [val_main_v0_apply, Ideal.mulf_def, Ideal.addf_def, Ideal.hostDivf_def, Ideal.ofBits_def, eps_bits, width_bits, zero_bits, zero_add]
  rw [Ideal.div_coe (by norm_num)]
  simp only [← EReal.coe_mul, coe_sum, ← EReal.coe_add]
  congr 1
  unfold ms
  rw [mul_one_div]
  rfl

theorem rs_at (y : S4096x1.Idx) : val_main_v7 (F := Ideal) (rows x) y = (rs x (y 0) : EReal) := by
  rw [val_main_v7_apply, ms_at]
  refine Eq.trans (b := Ideal.rsqrt (ms x (y 0) : EReal)) rfl ?_
  rw [Ideal.rsqrt_coe, if_neg (ms_pos x (y 0)).le.not_gt, if_neg (ms_pos x (y 0)).ne']
  rfl

/-- The slope of the root: minus a half of its cube. -/
theorem slope_at (y : S4096x1.Idx) : val_main_v10 (F := Ideal) (rows x) y = ((-(1 / 2) * (rs x (y 0) / ms x (y 0)) : ℝ) : EReal) := by
  rw [val_main_v10_apply, val_main_v9_apply, val_main_cst_2_apply, val_main_v8_apply, rs_at, ms_at]
  simp only [Ideal.mulf_def, Ideal.hostDivf_def, Ideal.ofBits_def, mhalf_bits]
  rw [Ideal.div_coe (ms_pos x (y 0)).ne']
  simp only [← EReal.coe_mul]
  congr 2
  ring

theorem norm_at (y : S4096x1024.Idx) : val_main_v12 (F := Ideal) (rows x) y = ((x (y 0) (y 1) * rs x (y 0) : ℝ) : EReal) := by
  rw [val_main_v12_apply, val_main_v11_apply, rs_at, EReal.coe_mul]
  rfl

/-- The three gradients, side by side. -/
theorem joined_first (t : Fin 4096) (l : Fin 1024) :
    val_main_v36 (F := Ideal) (parts dp) (ix2 t ⟨l.val, by omega⟩) = (dp 0 t l : EReal) := by
  have e : val_main_v31 (F := Ideal) (parts dp) (ix2 t l) = (dp 0 t l : EReal) := by
    pointwise [val_main_v31, val_main_v30, val_main_v29]
    rfl
  refine Eq.trans ?_ e
  unfold val_main_v36
  generalize val_main_v31 (F := Ideal) (parts dp) = a
  generalize val_main_v33 (F := Ideal) (parts dp) = b
  generalize val_main_v35 (F := Ideal) (parts dp) = d
  pointwise []

theorem joined_second (t : Fin 4096) (l : Fin 1024) :
    val_main_v36 (F := Ideal) (parts dp) (ix2 t ⟨1024 + l.val, by omega⟩) = (dp 1 t l : EReal) := by
  have e : val_main_v33 (F := Ideal) (parts dp) (ix2 t l) = (dp 1 t l : EReal) := by
    pointwise [val_main_v33, val_main_v32, val_main_v29]
    rfl
  refine Eq.trans ?_ e
  unfold val_main_v36
  generalize val_main_v31 (F := Ideal) (parts dp) = a
  generalize val_main_v33 (F := Ideal) (parts dp) = b
  generalize val_main_v35 (F := Ideal) (parts dp) = d
  pointwise []

theorem joined_third (t : Fin 4096) (l : Fin 1024) :
    val_main_v36 (F := Ideal) (parts dp) (ix2 t ⟨2048 + l.val, by omega⟩) = (dp 2 t l : EReal) := by
  have e : val_main_v35 (F := Ideal) (parts dp) (ix2 t l) = (dp 2 t l : EReal) := by
    pointwise [val_main_v35, val_main_v34, val_main_v29]
    rfl
  refine Eq.trans ?_ e
  unfold val_main_v36
  generalize val_main_v31 (F := Ideal) (parts dp) = a
  generalize val_main_v33 (F := Ideal) (parts dp) = b
  generalize val_main_v35 (F := Ideal) (parts dp) = d
  pointwise []
  rw [dif_neg (by omega), dif_neg (by omega)]
  refine congrArg d (congrArg (ix2 t) (Fin.ext ?_))
  change 2048 + l.val - 1024 - 1024 = l.val
  omega

/-- A sum over three stretches of 1024. -/
theorem sum3 (f : Fin 3072 → EReal) : ∑ k, f k
    = (∑ l : Fin 1024, f ⟨l.val, by omega⟩ + ∑ l : Fin 1024, f ⟨1024 + l.val, by omega⟩) + ∑ l : Fin 1024, f ⟨2048 + l.val, by omega⟩ :=
  (Fin.sum_univ_add (a := 2048) (b := 1024) f).trans
    (congrArg (· + _) (Fin.sum_univ_add (a := 1024) (b := 1024) fun k => f (Fin.castAdd 1024 k)))

/-- The gradient of the normalised, scaled and shifted rows. -/
theorem dh_at (y : S4096x1024.Idx) : val_main_v37 (F := Ideal) (win wi) (parts dp) y = (dh wi dp (y 0) (y 1) : EReal) := by
  rw [val_main_v37_apply]
  have el (k : Fin 3072) : lidx_main_v37 y k = ix2 (y 0) k := by
    funext a
    match a with | ⟨0, _⟩ => rfl | ⟨1, _⟩ => rfl
  simp only [el]
  refine (sum3 _).trans ?_
  refine (congrArg₂ (· + ·) (congrArg₂ (· + ·)
    (Finset.sum_congr rfl fun l _ => congrArg (· * _) (joined_first dp (y 0) l))
    (Finset.sum_congr rfl fun l _ => congrArg (· * _) (joined_second dp (y 0) l)))
    (Finset.sum_congr rfl fun l _ => congrArg (· * _) (joined_third dp (y 0) l))).trans ?_
  simp only [← EReal.coe_mul, coe_sum, ← EReal.coe_add]
  rfl

/-- The gradient of the shift. -/
theorem dsh_at (d : Fin 1024) : val_main_v39 (F := Ideal) (win wi) (parts dp) (ix2 0 d) = (dsh wi dp d : EReal) := by
  rw [val_main_v39_apply, val_main_v38_apply, val_main_cst_4_apply]
  simp only [dh_at, Ideal.ofBits_def, zero_bits, zero_add, coe_sum]
  exact congrArg (fun d' => (dsh wi dp d' : EReal)) (col d _)

theorem scale_at (y : S4096x1024.Idx) : val_main_v43 (F := Ideal) (line sc) y = ((1 + sc (y 1) : ℝ) : EReal) := by
  rw [val_main_v43_apply, val_main_v16_apply, val_main_v15_apply, val_main_cst_3_apply]
  simp only [Ideal.addf_def, Ideal.ofBits_def, one_bits, ← EReal.coe_add]
  rfl

theorem dsc_line (z : S1024.Idx) : val_main_v41 (F := Ideal) (rows x) (line gn) (win wi) (parts dp) z = ((dnorm x wi dp (z 0) * gn (z 0) : ℝ) : EReal) := by
  rw [val_main_v41_apply, val_main_cst_5_apply]
  simp only [val_main_v40_apply, val_main_v14_apply, val_main_v13_apply, norm_at, dh_at, Ideal.mulf_def, Ideal.ofBits_def, zero_bits, zero_add,
    ← EReal.coe_mul, coe_sum]
  refine congrArg (fun r : ℝ => (r : EReal)) ?_
  unfold dnorm
  rw [Finset.sum_mul]
  refine Finset.sum_congr rfl fun t _ => ?_
  change x t (z 0) * rs x t * gn (z 0) * dh wi dp t (z 0) = dh wi dp t (z 0) * (x t (z 0) * rs x t) * gn (z 0)
  ring

/-- The gradient of the scale. -/
theorem dsc_at (d : Fin 1024) : val_main_v42 (F := Ideal) (rows x) (line gn) (win wi) (parts dp) (ix2 0 d) = ((dnorm x wi dp d * gn d : ℝ) : EReal) := by
  rw [val_main_v42_apply, dsc_line]
  exact congrArg (fun d' => ((dnorm x wi dp d' * gn d' : ℝ) : EReal)) (col d _)

theorem scaled_at (y : S4096x1024.Idx) :
    val_main_v44 (F := Ideal) (line sc) (win wi) (parts dp) y = ((dh wi dp (y 0) (y 1) * (1 + sc (y 1)) : ℝ) : EReal) := by
  rw [val_main_v44_apply, dh_at, scale_at]
  simp only [Ideal.mulf_def, ← EReal.coe_mul]

theorem dgn_line (z : S1024.Idx) :
    val_main_v46 (F := Ideal) (rows x) (line sc) (win wi) (parts dp) z = ((dnorm x wi dp (z 0) * (1 + sc (z 0)) : ℝ) : EReal) := by
  rw [val_main_v46_apply, val_main_cst_6_apply]
  simp only [val_main_v45_apply, norm_at, scaled_at, Ideal.mulf_def, Ideal.ofBits_def, zero_bits, zero_add, ← EReal.coe_mul, coe_sum]
  refine congrArg (fun r : ℝ => (r : EReal)) ?_
  unfold dnorm
  rw [Finset.sum_mul]
  refine Finset.sum_congr rfl fun t _ => ?_
  change x t (z 0) * rs x t * (dh wi dp t (z 0) * (1 + sc (z 0))) = dh wi dp t (z 0) * (x t (z 0) * rs x t) * (1 + sc (z 0))
  ring

/-- The gradient of the norm's gain. -/
theorem dgn_at (d : Fin 1024) : val_main_v47 (F := Ideal) (rows x) (line sc) (win wi) (parts dp) (ix2 0 d) = ((dnorm x wi dp d * (1 + sc d) : ℝ) : EReal) := by
  rw [val_main_v47_apply, dgn_line]
  exact congrArg (fun d' => ((dnorm x wi dp d' * (1 + sc d') : ℝ) : EReal)) (col d _)

theorem dxh_at (y : S4096x1024.Idx) : val_main_v49 (F := Ideal) (line gn) (line sc) (win wi) (parts dp) y = (dxh gn sc wi dp (y 0) (y 1) : EReal) := by
  rw [val_main_v49_apply, val_main_v48_apply, scaled_at]
  simp only [Ideal.mulf_def, ← EReal.coe_mul]
  congr 1
  change dh wi dp (y 0) (y 1) * (1 + sc (y 1)) * gn (y 1) = dh wi dp (y 0) (y 1) * (gn (y 1) * (1 + sc (y 1)))
  ring

/-- The gradient that reaches a row through its mean square, halved. -/
def back (t : Fin 4096) : ℝ := (∑ i, x t i * dxh gn sc wi dp t i) * (-(1 / 2) * (rs x t / ms x t)) / 1024

theorem inner_at (y : S4096x1.Idx) :
    val_main_v52 (F := Ideal) (rows x) (line gn) (line sc) (win wi) (parts dp) y = ((∑ i, x (y 0) i * dxh gn sc wi dp (y 0) i : ℝ) : EReal) := by
  rw [val_main_v52_apply, val_main_v51_apply, val_main_cst_7_apply]
  simp only [val_main_v50_apply, dxh_at, Ideal.mulf_def, Ideal.ofBits_def, zero_bits, zero_add, ← EReal.coe_mul, coe_sum]
  have h1 : (y 1).val < 1 := (y 1).isLt
  have h0 : (y 0).val < 4096 := (y 0).isLt
  have e : (⟨(y 0).val * 1 + (y 1).val, by omega⟩ : Fin 4096) = y 0 := Fin.ext (by change (y 0).val * 1 + (y 1).val = (y 0).val; omega)
  exact congrArg (fun t => ((∑ i, x t i * dxh gn sc wi dp t i : ℝ) : EReal)) e

theorem back_at (y : S4096x1024.Idx) : val_main_v59 (F := Ideal) (rows x) (line gn) (line sc) (win wi) (parts dp) y = (back x gn sc wi dp (y 0) : EReal) := by
  rw [val_main_v59_apply, val_main_v58_apply, val_main_cst_9_apply]
  simp only [val_main_v57_apply, val_main_v55_apply, val_main_v56_apply, val_main_cst_8_apply, slope_at, inner_at, Ideal.mulf_def,
    Ideal.hostDivf_def, Ideal.ofBits_def, zero_bits, width_bits, zero_add, Finset.univ_unique, Finset.sum_singleton]
  rw [Ideal.div_coe (by norm_num)]
  simp only [← EReal.coe_mul]
  congr 1
  unfold back
  rw [mul_one_div]
  rfl

/-- The gradient of the norm's argument. -/
theorem dxn_at (y : S4096x1024.Idx) : val_main_v63 (F := Ideal) (rows x) (line gn) (line sc) (win wi) (parts dp) y = (dxn x gn sc wi dp (y 0) (y 1) : EReal) := by
  rw [val_main_v63_apply, val_main_v62_apply, val_main_v61_apply, val_main_v60_apply, val_main_v54_apply, val_main_v53_apply,
    rs_at, dxh_at, back_at]
  simp only [Ideal.mulf_def, Ideal.addf_def, ← EReal.coe_mul, ← EReal.coe_add]
  congr 1
  change dxh gn sc wi dp (y 0) (y 1) * rs x (y 0) + x (y 0) (y 1) * back x gn sc wi dp (y 0) + back x gn sc wi dp (y 0) * x (y 0) (y 1)
    = dxn x gn sc wi dp (y 0) (y 1)
  generalize (y 0 : Fin 4096) = t
  generalize (y 1 : Fin 1024) = i
  have h := ms_pos x t
  have e := rs_sq x t
  unfold dxn back
  have s1 : ∑ k, dxh gn sc wi dp t k * (x t k * rs x t) = (∑ i, x t i * dxh gn sc wi dp t i) * rs x t := by
    rw [Finset.sum_mul]
    exact Finset.sum_congr rfl fun k _ => by ring
  rw [s1]
  generalize ∑ i, x t i * dxh gn sc wi dp t i = S
  have e2 : rs x t / ms x t = rs x t * rs x t * rs x t := by
    rw [div_eq_iff h.ne']
    linear_combination (-rs x t) * e
  rw [e2]
  ring

end Cert.Proof.MixBackRef
-- ==== Proof.MixBackClaim.lean ====
/- The second backward kernel of the gated-convolution mixer leaves what the reference computes, for arguments that are numbers. -/
module

public import proofs.«01_k».proof.Defs
public import proofs.«01_k».proof.Proof.MixBack
public import proofs.«01_k».proof.Proof.MixBackRef
public import proofs.«01_k».proof.Proof.FfnClaim
public import proofs.«01_k».proof.Proof.Gen.Reference6Ideal.Run

@[expose] public section

set_option maxRecDepth 16384

noncomputable section

namespace Cert.Proof.MixBack

open Idealize.ShloMosaic Idealize.ShloMosaic.TcCoe Idealize.ShloMosaic.Tactic Idealize.SL.Sem
open Cert.Proof.MixBackRef
open Cert.Proof.Ffn (finite_of inf_bits)

/-- The shape relations the precondition's program states. -/
theorem preFacts : Cert.Pre_finite6.Facts :=
  ⟨by decide, by decide, by decide, by decide, by decide⟩

section

open Cert.Kernel6Ideal Cert.Kernel6Ideal.Gen

/-- The kernel's run: its four results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = (dats m 0 c).arrAt 6 cfg0.N
      ∧ r.2.mem ((c.tc : Thread nD τ).loc main_v7) = fin m c main_v7
      ∧ r.2.mem ((c.tc : Thread nD τ).loc main_v8) = fin m c main_v8
      ∧ r.2.mem ((c.tc : Thread nD τ).loc main_v3) = fin m c main_v3) :=
  (θ_run _ _ _).mono (fun r h c => ⟨(h c).1 6,
      (h c).2 main_v7 (Pipeline.mem_restRefs_of main_v7 (by decide) (by decide)),
      (h c).2 main_v8 (Pipeline.mem_restRefs_of main_v8 (by decide) (by decide)),
      (h c).2 main_v3 (Pipeline.mem_restRefs_of main_v3 (by decide) (by decide))⟩) (run_main m ρ)

end

attribute [local instance] Cert.Kernel6Ideal.Gen.facts Cert.Reference6Ideal.Gen.facts preFacts

section

open Cert.Kernel6Ideal Cert.Kernel6Ideal.Gen

variable (m : (ℓ : Loc nD τ sig) → Buf (Elt Ideal) ℓ) (c : Dev nD)

/-- The arguments as arrays of reals. -/
def xR (t : Fin 4096) (i : Fin 1024) : ℝ := ((m ((c : Thread nD τ).loc main_arg0) : Vec Ideal S4096x1024 .f32) (ix2 t i)).toReal
def gnR (i : Fin 1024) : ℝ := ((m ((c : Thread nD τ).loc main_arg1) : Vec Ideal S1x1024 .f32) (ix2 0 i)).toReal
def scR (i : Fin 1024) : ℝ := ((m ((c : Thread nD τ).loc main_arg2) : Vec Ideal S1x1024 .f32) (ix2 0 i)).toReal
def wiR (i : Fin 1024) (f : Fin 3072) : ℝ := ((m ((c : Thread nD τ).loc main_arg4) : Vec Ideal S1024x3072 .f32) (ix2 i f)).toReal
def dpR (p : Fin 3) (t : Fin 4096) (l : Fin 1024) : ℝ := ((m ((c : Thread nD τ).loc main_arg5) : Vec Ideal S3x4096x1024 .bf16) (ix3 p t l)).toReal

variable (hpre : Cert.Pre_Kernel6Ideal_finite6 m)

include hpre in
theorem arg0_real : m ((c : Thread nD τ).loc main_arg0) = rows (xR m c) := by
  funext y
  idx_vars y
  exact finite_of _ _ (fun _ => inf_bits) (hpre c).1 _

include hpre in
theorem arg1_real : m ((c : Thread nD τ).loc main_arg1) = line (gnR m c) := by
  funext y
  idx_vars y
  obtain rfl : y0 = 0 := Fin.fin_one_eq_zero y0
  exact finite_of _ _ (fun _ => inf_bits) (hpre c).2.1 _

include hpre in
theorem arg2_real : m ((c : Thread nD τ).loc main_arg2) = line (scR m c) := by
  funext y
  idx_vars y
  obtain rfl : y0 = 0 := Fin.fin_one_eq_zero y0
  exact finite_of _ _ (fun _ => inf_bits) (hpre c).2.2.1 _

include hpre in
theorem arg4_real : m ((c : Thread nD τ).loc main_arg4) = win (wiR m c) := by
  funext y
  idx_vars y
  exact finite_of _ _ (fun _ => inf_bits) (hpre c).2.2.2.1 _

include hpre in
theorem arg5_real : m ((c : Thread nD τ).loc main_arg5) = parts (dpR m c) := by
  funext y
  idx_vars y
  exact finite_of (s := S3x4096x1024) (m ((c : Thread nD τ).loc main_arg5)) _ (fun _ => inf_bits) (hpre c).2.2.2.2 (ix3 y0 y1 y2)

end

/-- On the extended reals the kernel's arrays are the reference's results, the arguments being numbers. -/
theorem algebraic : Cert.algebraic_Kernel6Ideal_Reference6Ideal_pre_finite6 (hKernel6Ideal := Cert.Kernel6Ideal.Gen.facts)
    (hReference6Ideal := Cert.Reference6Ideal.Gen.facts) (hPre_finite6 := preFacts) := by
  intro m g m' g' hpre hagree
  refine ⟨_, _, _, _, (θ_run _ _ _).mono (fun r h c => ⟨(h.1 c).1, (h.1 c).2.1, (h.1 c).2.2.1, (h.1 c).2.2.2, h.2 c⟩)
    (θ_run_and (run m g) (Cert.Kernel6Ideal.Gen.unchanged m g)), ?_⟩
  refine (θ_run _ _ _).mono (fun r h c => ?_) (Cert.Reference6Ideal.Value.run m' g')
  obtain ⟨r0, r1, r2, r3, ra⟩ := h c
  obtain ⟨a0, a1, a2, a3, a4, a5, a6⟩ := hagree c
  have e0 := a0.trans (arg0_real m c hpre)
  have e1 := a1.trans (arg1_real m c hpre)
  have e2 := a2.trans (arg2_real m c hpre)
  have e4 := a4.trans (arg4_real m c hpre)
  have e5 := a5.trans (arg5_real m c hpre)
  have k0 := fun t i => congrFun (arg0_real m c hpre) (ix2 t i)
  have k1 := fun i => congrFun (arg1_real m c hpre) (ix2 0 i)
  have k2 := fun i => congrFun (arg2_real m c hpre) (ix2 0 i)
  have k4 := fun i f => congrFun (arg4_real m c hpre) (ix2 i f)
  have k5 := fun p t l => congrFun (arg5_real m c hpre) (ix3 p t l)
  refine ⟨r0.trans ?_, r1.trans ?_, r2.trans ?_, r3.trans ?_, ra⟩
  · rw [Cert.Reference6Ideal.Read.val_main_v64_eq, e0, e1, e2, e4, e5, a6]
    refine Eq.trans ?_ (dxin_array (xR m c) (gnR m c) (scR m c) (wiR m c) (dpR m c) m c k0 k1 k2 k4 k5).symm
    funext y
    change Cert.Reference6Ideal.S4096x1024.Idx at y
    idx_vars y
    rw [Cert.Reference6Ideal.Read.val_main_v64_apply, dxn_at]
    rfl
  · rw [Cert.Reference6Ideal.Read.val_main_v47_eq, e0, e2, e4, e5]
    funext y
    change Cert.Reference6Ideal.S1x1024.Idx at y
    idx_vars y
    obtain rfl : y0 = 0 := Fin.fin_one_eq_zero y0
    exact (dgn_at (xR m c) (scR m c) (wiR m c) (dpR m c) y1).trans (dgn_fin (xR m c) (scR m c) (wiR m c) (dpR m c) m c k0 k2 k4 k5 y1).symm
  · rw [Cert.Reference6Ideal.Read.val_main_v42_eq, e0, e1, e4, e5]
    funext y
    change Cert.Reference6Ideal.S1x1024.Idx at y
    idx_vars y
    obtain rfl : y0 = 0 := Fin.fin_one_eq_zero y0
    exact (dsc_at (xR m c) (gnR m c) (wiR m c) (dpR m c) y1).trans (dsc_fin (xR m c) (gnR m c) (wiR m c) (dpR m c) m c k0 k1 k4 k5 y1).symm
  · rw [Cert.Reference6Ideal.Read.val_main_v39_eq, e4, e5]
    funext y
    change Cert.Reference6Ideal.S1x1024.Idx at y
    idx_vars y
    obtain rfl : y0 = 0 := Fin.fin_one_eq_zero y0
    exact (dsh_at (wiR m c) (dpR m c) y1).trans (dsh_fin (wiR m c) (dpR m c) m c k4 k5 y1).symm

end Cert.Proof.MixBack
-- ==== Proof.MixWgradIn.lean ====
/- The array that the input weight-gradient kernel of the gated-convolution mixer leaves: a product over all tokens. -/
module

public import proofs.«01_k».proof.Proof.Gen.Kernel7Ideal.Value
public import Idealize.ShloMosaic.Lib.Pipeline.ValueKit
public import Idealize.ShloMosaic.Lib.Pointwise

@[expose] public section

set_option maxRecDepth 16384

noncomputable section

namespace Cert.Proof.MixWgradIn

open Cert.Kernel7Ideal Cert.Kernel7Ideal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- One tile of tokens' share of an entry: the product of the two blocks there. -/
def part (u : Vec Ideal S1024x1024 .bf16) (v : Vec Ideal S1x1024x1024 .bf16) (j : S1024x1024.Idx) : EReal :=
  ∑ q : Fin 1024, u (ix2 q (j 0)) * v (ix3 0 q (j 1))

theorem pay2_at (u : Vec Ideal S1024x1024 .bf16) (v : Vec Ideal S1x1024x1024 .bf16) (j : S1024x1024.Idx) :
    k0_pay2 (F := Ideal) u v j = part u v j := by
  idx_vars j
  pointwise [k0_pay2, k0_pay1, part]
  try rfl

theorem pay3_at (u : Vec Ideal S1024x1024 .bf16) (v : Vec Ideal S1x1024x1024 .bf16) (a : Vec Ideal S1024x1024 .f32)
    (j : S1024x1024.Idx) : k0_pay3 (F := Ideal) u v a j = a j + part u v j := by
  idx_vars j
  pointwise [k0_pay3, k0_pay1, part]
  try rfl

theorem pay4_at (a : Vec Ideal S1024x1024 .f32) (j : S1x1024x1024.Idx) :
    k0_pay4 (F := Ideal) a j = a (ix2 (j 1) (j 2)) := by
  idx_vars j
  pointwise [k0_pay4]
  try rfl

/-- At the last tile of a run the block written back is the accumulator. -/
theorem out_eq_acc (t : Fin cfg0.N) (h : t.val % 4 = 3) :
    (outsAt0 m c t.val t.isLt).1 = k0_pay4 (F := Ideal) (outsAt0 m c t.val t.isLt).2 := by
  rw [outsAt0_C m c t (by omega) (by omega) h]
  frame_out

/-- The accumulator at the last tile of a run is the sum of the four tiles' products. -/
theorem acc_at (t : Fin cfg0.N) (h : t.val % 4 = 3) (j : S1024x1024.Idx) :
    (outsAt0 m c t.val t.isLt).2 j
      = ∑ s : Fin 4, part (iblk m c 0 ⟨4 * (t.val / 4) + s, by have := t.isLt; omega⟩)
          (iblk m c 1 ⟨4 * (t.val / 4) + s, by have := t.isLt; omega⟩) j := by
  rw [Pipeline.eq_sum_fin_of_reset_step_apply_of_flush (fun n h => (outsAt0 m c n h).2) 4 (fun _ => (0 : EReal))
      (fun t j => part (iblk m c 0 t) (iblk m c 1 t) j)
      (fun t h0 j => by
        rw [outsAt0_A m c t h0 (by omega) (by omega)]; frame_out; rw [pay2_at]; exact (zero_add _).symm)
      (fun t h0 j => by
        by_cases h3 : t.val % 4 = 3
        · rw [outsAt0_C m c t h0 (by omega) h3]; frame_out; rw [pay3_at]; exact congrArg (· + _) (congrFun ((Memref.isWhole_whole cc0_scratch0).read_unread (outsAt0 m c (t.val - 1) _).2) j)
        · rw [outsAt0_B m c t h0 (by omega) h3]; frame_out; rw [pay3_at]; exact congrArg (· + _) (congrFun ((Memref.isWhole_whole cc0_scratch0).read_unread (outsAt0 m c (t.val - 1) _).2) j)) t h j, zero_add]

/-- The product over all tokens. -/
def grad (u : Vec Ideal S4096x1024 .bf16) (v : Vec Ideal S3x4096x1024 .bf16) (j : Fin 3) (r : Fin 1024) (l : Fin 1024) : EReal :=
  ∑ s : Fin 4096, u (ix2 s r) * v (ix3 j s l)

theorem blk_u (t : Fin cfg0.N) (q : Fin 1024) (r : Fin 1024) (s : Fin 4096) (hs : s.val = t.val % 4 * 1024 + q.val) :
    (iblk m c 0 t : Vec Ideal S1024x1024 .bf16) (ix2 q r) = (V m c main_arg0 : Vec Ideal S4096x1024 .bf16) (ix2 s r) := by
  have hi : ∀ t : Fin cfg0.N, (cfg0.win 0).index t = ![t.val % 4, 0] := by decide +kernel
  blk_ext [iblk, V, hi t, hs]

theorem blk_v (t : Fin cfg0.N) (q : Fin 1024) (l : Fin 1024) (p : Fin 3) (s : Fin 4096)
    (hp : p.val = t.val / 4) (hs : s.val = t.val % 4 * 1024 + q.val) :
    (iblk m c 1 t : Vec Ideal S1x1024x1024 .bf16) (ix3 0 q l)
      = (V m c main_arg1 : Vec Ideal S3x4096x1024 .bf16) (ix3 p s l) := by
  have hi : ∀ t : Fin cfg0.N, (cfg0.win 1).index t = ![t.val / 4, t.val % 4, 0] := by decide +kernel
  blk_ext [iblk, V, hi t, hp, hs]

/-- The accumulator at the last tile of a run holds the product over all tokens. -/
theorem acc_eq (t : Fin cfg0.N) (h : t.val % 4 = 3) (j : Fin 3) (hj : j.val = t.val / 4) (r : Fin 1024) (l : Fin 1024) :
    (outsAt0 m c t.val t.isLt).2 (ix2 r l) = grad (V m c main_arg0) (V m c main_arg1) j r l := by
  rw [acc_at m c t h]
  unfold part grad
  have hN : t.val < 12 := t.isLt
  refine Fin.sum_mul_add_congr fun s q hs => ?_
  refine congrArg₂ (· * ·) (blk_u m c _ _ _ _ ?_) (blk_v m c _ _ _ _ _ ?_ ?_) <;> simp <;> omega

/-- The same product, at a column of the three parts side by side. -/
def gradCol (u : Vec Ideal S4096x1024 .bf16) (v : Vec Ideal S3x4096x1024 .bf16) (r : Fin 1024) (L : Fin 3072) : EReal :=
  grad u v ⟨L.val / 1024, by omega⟩ r ⟨L.val % 1024, by omega⟩

theorem gradCol_eq (u : Vec Ideal S4096x1024 .bf16) (v : Vec Ideal S3x4096x1024 .bf16) (r r' : Fin 1024) (L : Fin 3072) (j : Fin 3)
    (l : Fin 1024) (hr : r'.val = r.val) (h : L.val = j.val * 1024 + l.val) : grad u v j r l = gradCol u v r' L := by
  have e1 : (⟨L.val / 1024, by omega⟩ : Fin 3) = j := Fin.ext (by simp only; omega)
  have e2 : (⟨L.val % 1024, by omega⟩ : Fin 1024) = l := Fin.ext (by simp only; omega)
  unfold gradCol
  rw [e1, e2, Fin.ext hr]

/-- The array after the run. -/
theorem array2 : (dats m 0 c).arrAt 2 cfg0.N
    = fun y : S1x1024x3072.Idx => gradCol (V m c main_arg0) (V m c main_arg1) (y 1) (y 2) := by
  refine (dats m 0 c).arrAt_eq_of_covers 2 _ (by decide +kernel) fun t hf y => ?_
  have h := (flush0_2 t).mp hf
  have hi : ∀ t : Fin cfg0.N, (cfg0.win 2).index t = ![0, 0, t.val / 4] := by decide +kernel
  have h1 : (((cfg0.win 2).blk t).view.emb y 1 : ℕ) = (y 1).val := by blk_simp [hi t]
  have h2 : (((cfg0.win 2).blk t).view.emb y 2 : ℕ) = t.val / 4 * 1024 + (y 2).val := by blk_simp [hi t]
  have hN : t.val < 12 := t.isLt
  blk_simp
  rw [after0_2, out_eq_acc m c t h]
  refine (pay4_at _ _).trans ((acc_eq m c t h ⟨t.val / 4, by omega⟩ rfl _ _).trans ?_)
  exact gradCol_eq _ _ _ _ _ ⟨t.val / 4, by omega⟩ _ h1 h2

end Cert.Proof.MixWgradIn
-- ==== Proof.MixWgradInClaim.lean ====
/- The input weight-gradient kernel of the gated-convolution mixer leaves what the reference computes. -/
module

public import proofs.«01_k».proof.Defs
public import proofs.«01_k».proof.Proof.MixWgradIn
public import proofs.«01_k».proof.Proof.Gen.Reference7Ideal.Run
public import proofs.«01_k».proof.Proof.Gen.Reference7Ideal.Read

@[expose] public section

set_option maxRecDepth 16384

noncomputable section

namespace Cert.Proof.MixWgradIn

open Idealize.ShloMosaic Idealize.ShloMosaic.TcCoe Idealize.ShloMosaic.Tactic Idealize.SL.Sem

section Reference

open Cert.Reference7Ideal Cert.Reference7Ideal.Gen Cert.Reference7Ideal.Read

/-- The reference's entry is the same product over all tokens. -/
theorem ref_at (u : (⟨S4096x1024, .bf16⟩ : BufTy).Contents (Elt Ideal)) (v : (⟨S3x4096x1024, .bf16⟩ : BufTy).Contents (Elt Ideal))
    (z : Fin 1) (r : Fin 1024) (l : Fin 3072) : val_main_v21 (F := Ideal) u v (ix3 z r l) = gradCol u v r l := by
  pointwise [val_main_v21, val_main_v20, val_main_v19, val_main_v18_apply, val_main_v17, val_main_v16, val_main_v15, val_main_v14,
    val_main_v13, val_main_v12, val_main_v11, val_main_v10, val_main_v1]
  unfold gradCol grad
  refine Finset.sum_congr rfl fun s _ => ?_
  rw [mul_comm]
  refine congrArg₂ (· * ·) (congrArg u (by ext a; fin_cases a <;> rfl)) ?_
  split
  · exact congrArg v (by congr 1 <;> apply Fin.ext <;> simp <;> omega)
  · split
    · exact congrArg v (by congr 1 <;> apply Fin.ext <;> simp <;> omega)
    · exact congrArg v (by congr 1 <;> apply Fin.ext <;> simp <;> omega)

end Reference

attribute [local instance] Cert.Kernel7Ideal.Gen.facts Cert.Reference7Ideal.Gen.facts

/-- On the extended reals the kernel's array is the reference's result. -/
theorem algebraic : Cert.algebraic_Kernel7Ideal_Reference7Ideal
    (hKernel7Ideal := Cert.Kernel7Ideal.Gen.facts) (hReference7Ideal := Cert.Reference7Ideal.Gen.facts) := by
  pair_intro
  · run_from Cert.Kernel7Ideal.Value.run_blocks m g
  · run_from Cert.Reference7Ideal.Value.run m' g'
    rw [Cert.Reference7Ideal.Read.val_main_v21_eq, (hagree c).2.1, array2 m c]
    funext y
    change Cert.Reference7Ideal.S1x1024x3072.Idx at y
    idx_vars y
    exact ref_at _ _ y0 y1 y2

end Cert.Proof.MixWgradIn
-- ==== Proof.MixWgradOut.lean ====
/- The array that the output weight-gradient kernel of the gated-convolution mixer leaves: a product over all tokens. -/
module

public import proofs.«01_k».proof.Proof.Gen.Kernel8Ideal.Value
public import Idealize.ShloMosaic.Lib.Pipeline.ValueKit
public import Idealize.ShloMosaic.Lib.Pointwise

@[expose] public section

set_option maxRecDepth 16384

noncomputable section

namespace Cert.Proof.MixWgradOut

open Cert.Kernel8Ideal Cert.Kernel8Ideal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- One tile of tokens' share of an entry: the product of the two blocks there. -/
def part (u : Vec Ideal S1024x1024 .bf16) (v : Vec Ideal S1024x1024 .bf16) (j : S1024x1024.Idx) : EReal :=
  ∑ q : Fin 1024, u (ix2 q (j 0)) * v (ix2 q (j 1))

theorem pay2_at (u : Vec Ideal S1024x1024 .bf16) (v : Vec Ideal S1024x1024 .bf16) (j : S1024x1024.Idx) :
    k0_pay2 (F := Ideal) u v j = part u v j := by
  idx_vars j
  pointwise [k0_pay2, k0_pay1, part]
  try rfl

theorem pay3_at (u : Vec Ideal S1024x1024 .bf16) (v : Vec Ideal S1024x1024 .bf16) (a : Vec Ideal S1024x1024 .f32)
    (j : S1024x1024.Idx) : k0_pay3 (F := Ideal) u v a j = a j + part u v j := by
  idx_vars j
  pointwise [k0_pay3, k0_pay1, part]
  try rfl

theorem pay4_at (a : Vec Ideal S1024x1024 .f32) (j : S1x1024x1024.Idx) :
    k0_pay4 (F := Ideal) a j = a (ix2 (j 1) (j 2)) := by
  idx_vars j
  pointwise [k0_pay4]
  try rfl

/-- At the last tile of a run the block written back is the accumulator. -/
theorem out_eq_acc (t : Fin cfg0.N) (h : t.val % 4 = 3) :
    (outsAt0 m c t.val t.isLt).1 = k0_pay4 (F := Ideal) (outsAt0 m c t.val t.isLt).2 := by
  rw [outsAt0_C m c t (by omega) (by omega) h]
  frame_out

/-- The accumulator at the last tile of a run is the sum of the four tiles' products. -/
theorem acc_at (t : Fin cfg0.N) (h : t.val % 4 = 3) (j : S1024x1024.Idx) :
    (outsAt0 m c t.val t.isLt).2 j
      = ∑ s : Fin 4, part (iblk m c 0 ⟨4 * (t.val / 4) + s, by have := t.isLt; omega⟩)
          (iblk m c 1 ⟨4 * (t.val / 4) + s, by have := t.isLt; omega⟩) j := by
  rw [Pipeline.eq_sum_fin_of_reset_step_apply_of_flush (fun n h => (outsAt0 m c n h).2) 4 (fun _ => (0 : EReal))
      (fun t j => part (iblk m c 0 t) (iblk m c 1 t) j)
      (fun t h0 j => by
        have hN : t.val < 4 := t.isLt
        rw [outsAt0_A m c t h0 (by omega) (by omega)]; frame_out; rw [pay2_at]; exact (zero_add _).symm)
      (fun t h0 j => by
        have hN : t.val < 4 := t.isLt
        by_cases h3 : t.val % 4 = 3
        · rw [outsAt0_C m c t h0 (by omega) h3]; frame_out; rw [pay3_at]; exact congrArg (· + _) (congrFun ((Memref.isWhole_whole cc0_scratch0).read_unread (outsAt0 m c (t.val - 1) _).2) j)
        · rw [outsAt0_B m c t h0 (by omega) h3]; frame_out; rw [pay3_at]; exact congrArg (· + _) (congrFun ((Memref.isWhole_whole cc0_scratch0).read_unread (outsAt0 m c (t.val - 1) _).2) j)) t h j, zero_add]

/-- The product over all tokens. -/
def grad (u : Vec Ideal S4096x1024 .bf16) (v : Vec Ideal S4096x1024 .bf16) (r : Fin 1024) (l : Fin 1024) : EReal :=
  ∑ s : Fin 4096, u (ix2 s r) * v (ix2 s l)

theorem blk_u (t : Fin cfg0.N) (q : Fin 1024) (r : Fin 1024) (s : Fin 4096) (R : Fin 1024)
    (hs : s.val = t.val % 4 * 1024 + q.val) (hR : R.val = t.val / 4 * 1024 + r.val) :
    (iblk m c 0 t : Vec Ideal S1024x1024 .bf16) (ix2 q r) = (V m c main_arg0 : Vec Ideal S4096x1024 .bf16) (ix2 s R) := by
  have hi : ∀ t : Fin cfg0.N, (cfg0.win 0).index t = ![t.val % 4, t.val / 4] := by decide +kernel
  blk_ext [iblk, V, hi t, hs, hR]

theorem blk_v (t : Fin cfg0.N) (q : Fin 1024) (l : Fin 1024) (s : Fin 4096) (hs : s.val = t.val % 4 * 1024 + q.val) :
    (iblk m c 1 t : Vec Ideal S1024x1024 .bf16) (ix2 q l) = (V m c main_arg1 : Vec Ideal S4096x1024 .bf16) (ix2 s l) := by
  have hi : ∀ t : Fin cfg0.N, (cfg0.win 1).index t = ![t.val % 4, 0] := by decide +kernel
  blk_ext [iblk, V, hi t, hs]

/-- The accumulator at the last tile of a run holds the product over all tokens. -/
theorem acc_eq (t : Fin cfg0.N) (h : t.val % 4 = 3) (r : Fin 1024) (l : Fin 1024) (R : Fin 1024)
    (hR : R.val = t.val / 4 * 1024 + r.val) :
    (outsAt0 m c t.val t.isLt).2 (ix2 r l) = grad (V m c main_arg0) (V m c main_arg1) R l := by
  rw [acc_at m c t h]
  unfold part grad
  have hN : t.val < 4 := t.isLt
  refine Fin.sum_mul_add_congr fun s q hs => ?_
  refine congrArg₂ (· * ·) (blk_u m c _ _ _ _ _ ?_ ?_) (blk_v m c _ _ _ _ ?_) <;> simp <;> omega

/-- The array after the run. -/
theorem array2 : (dats m 0 c).arrAt 2 cfg0.N
    = fun y : S1x1024x1024.Idx => grad (V m c main_arg0) (V m c main_arg1) (y 1) (y 2) := by
  refine (dats m 0 c).arrAt_eq_of_covers 2 _ (by decide +kernel) fun t hf y => ?_
  have h := (flush0_2 t).mp hf
  have hi : ∀ t : Fin cfg0.N, (cfg0.win 2).index t = ![0, t.val / 4, 0] := by decide +kernel
  have h1 : (((cfg0.win 2).blk t).view.emb y 1 : ℕ) = t.val / 4 * 1024 + (y 1).val := by
    blk_simp [hi t]
    try omega
  have h2 : (((cfg0.win 2).blk t).view.emb y 2 : ℕ) = (y 2).val := by blk_simp [hi t]
  blk_simp
  rw [after0_2, out_eq_acc m c t h]
  refine (pay4_at _ _).trans ((acc_eq m c t h _ _ _ h1).trans ?_)
  exact congrArg (fun a => grad _ _ _ a) (Fin.ext h2.symm)

end Cert.Proof.MixWgradOut
-- ==== Proof.MixWgradOutClaim.lean ====
/- The output weight-gradient kernel of the gated-convolution mixer leaves what the reference computes. -/
module

public import proofs.«01_k».proof.Defs
public import proofs.«01_k».proof.Proof.MixWgradOut
public import proofs.«01_k».proof.Proof.Gen.Reference8Ideal.Run
public import proofs.«01_k».proof.Proof.Gen.Reference8Ideal.Read

@[expose] public section

set_option maxRecDepth 16384

noncomputable section

namespace Cert.Proof.MixWgradOut

open Idealize.ShloMosaic Idealize.ShloMosaic.TcCoe Idealize.ShloMosaic.Tactic Idealize.SL.Sem

section Reference

open Cert.Reference8Ideal Cert.Reference8Ideal.Gen Cert.Reference8Ideal.Read

/-- The reference's entry is the same product over all tokens. -/
theorem ref_at (u : (⟨S4096x1024, .bf16⟩ : BufTy).Contents (Elt Ideal)) (v : (⟨S4096x1024, .bf16⟩ : BufTy).Contents (Elt Ideal))
    (z : Fin 1) (r : Fin 1024) (l : Fin 1024) : val_main_v7 (F := Ideal) u v (ix3 z r l) = grad u v r l := by
  pointwise [val_main_v7, val_main_v6, val_main_v5, val_main_v4_apply, val_main_v3, val_main_v1]
  unfold grad
  refine Finset.sum_congr rfl fun s _ => ?_
  rw [mul_comm]
  refine congrArg₂ (· * ·) (congrArg u (by ext a; fin_cases a <;> rfl)) (congrArg v (by ext a; fin_cases a <;> rfl))

end Reference

attribute [local instance] Cert.Kernel8Ideal.Gen.facts Cert.Reference8Ideal.Gen.facts

/-- On the extended reals the kernel's array is the reference's result. -/
theorem algebraic : Cert.algebraic_Kernel8Ideal_Reference8Ideal
    (hKernel8Ideal := Cert.Kernel8Ideal.Gen.facts) (hReference8Ideal := Cert.Reference8Ideal.Gen.facts) := by
  pair_intro
  · run_from Cert.Kernel8Ideal.Value.run_blocks m g
  · run_from Cert.Reference8Ideal.Value.run m' g'
    rw [Cert.Reference8Ideal.Read.val_main_v7_eq, array2 m c]
    funext y
    change Cert.Reference8Ideal.S1x1024x1024.Idx at y
    idx_vars y
    exact ref_at _ _ y0 y1 y2

end Cert.Proof.MixWgradOut
-- ==== Proof.MixGateGrad.lean ====
/- What the first backward kernel of the gated-convolution mixer leaves: the gradient through the output gain, the tiles' sums
   for that gain, and the gradient through the output product. -/
module

public import proofs.«01_k».proof.Proof.Gen.Kernel9Ideal.Frame
public import Idealize.ShloMosaic.Lib.Pipeline.ValueKit
public import Idealize.ShloMosaic.Lib.Pointwise

@[expose] public section

set_option maxRecDepth 16384

noncomputable section

namespace Cert.Proof.MixGateGrad

open Cert.Kernel9Ideal Cert.Kernel9Ideal.Gen Idealize.ShloMosaic Idealize.ShloMosaic.TcCoe Idealize.ShloMosaic.Tactic
open Idealize.SL.Sem
open Idealize.ShloMosaic.Pipeline (Dat)

section Block

variable (c : Dev nD) (i : grid0.Coords) (arg3 : Memref sig .tc .vmem S512x1024 .f32) (harg3 : arg3.IsWhole)
  (arg4 : Memref sig .tc .vmem S512x1024 .bf16) (harg4 : arg4.IsWhole) (arg5 : Memref sig .tc .vmem S1x1024 .f32) (harg5 : arg5.IsWhole)
  (arg6 : Memref sig .tc .vmem S1x1024x1024 .bf16) (harg6 : arg6.IsWhole) (arg7 : Memref sig .tc .vmem S512x1024 .bf16) (harg7 : arg7.IsWhole)
  (arg8 : Memref sig .tc .vmem S1x1x1024 .f32) (harg8 : arg8.IsWhole) (arg9 : Memref sig .tc .vmem S512x1024 .bf16) (harg9 : arg9.IsWhole)
  (arg10 : Memref sig .tc .vmem S512x1024 .bf16) (harg10 : arg10.IsWhole) (hc0 : cond0_0 i)
  (x : Vec Ideal S512x1024 .f32) (y : Vec Ideal S512x1024 .bf16) (g : Vec Ideal S1x1024 .f32) (w : Vec Ideal S1x1024x1024 .bf16)

theorem block4 (q : Fin 512) (d : Fin 1024) :
    out0_A_4 (F := Ideal) c i arg3 harg3 arg4 harg4 arg5 harg5 arg6 harg6 arg7 harg7 arg8 harg8 arg9 harg9 arg10 harg10 hc0 x y g w (ix2 q d)
      = x (ix2 q d) * g (ix2 0 d) := by
  unfold out0_A_4
  frame_out
  pointwise [k0_pay2, k0_pay1]
  try rfl

theorem block5 (d : Fin 1024) :
    out0_A_5 (F := Ideal) c i arg3 harg3 arg4 harg4 arg5 harg5 arg6 harg6 arg7 harg7 arg8 harg8 arg9 harg9 arg10 harg10 hc0 x y g w (ix3 0 0 d)
      = ∑ q : Fin 512, x (ix2 q d) * y (ix2 q d) := by
  unfold out0_A_5
  frame_out
  pointwise [k0_pay3]
  try rfl

theorem block6 (q : Fin 512) (e : Fin 1024) :
    out0_A_6 (F := Ideal) c i arg3 harg3 arg4 harg4 arg5 harg5 arg6 harg6 arg7 harg7 arg8 harg8 arg9 harg9 arg10 harg10 hc0 x y g w (ix2 q e)
      = ∑ d : Fin 1024, x (ix2 q d) * g (ix2 0 d) * w (ix3 0 e d) := by
  unfold out0_A_6
  frame_out
  pointwise [k0_pay5, k0_pay4, k0_pay1]
  try rfl

end Block

variable (m : (ℓ : Loc nD τ sig) → Buf (Elt Ideal) ℓ) (c : Dev nD)

abbrev X : Vec Ideal S4096x1024 .f32 := m ((c : Thread nD τ).loc main_arg0)
abbrev Y : Vec Ideal S4096x1024 .bf16 := m ((c : Thread nD τ).loc main_arg1)
abbrev G : Vec Ideal S1x1024 .f32 := m ((c : Thread nD τ).loc main_arg2)
abbrev W : Vec Ideal S1024x1024 .f32 := m ((c : Thread nD τ).loc main_arg3)

section Read

variable (t : Fin cfg0.N) (q : Fin 512) (d : Fin 1024) (T : Fin 4096) (hT : T.val = t.val * 512 + q.val)

include hT in
theorem b_dx : (iblk m c 0 t : Vec Ideal S512x1024 .f32) (ix2 q d) = X m c (ix2 T d) := by
  have hi : ∀ t : Fin cfg0.N, (cfg0.win 0).index t = ![t.val, 0] := by decide +kernel
  rw [X, ← V_main_arg0 m c]
  blk_ext [iblk, V, hi t, hT]

include hT in
theorem b_y : (iblk m c 1 t : Vec Ideal S512x1024 .bf16) (ix2 q d) = Y m c (ix2 T d) := by
  have hi : ∀ t : Fin cfg0.N, (cfg0.win 1).index t = ![t.val, 0] := by decide +kernel
  rw [Y, ← V_main_arg1 m c]
  blk_ext [iblk, V, hi t, hT]

theorem b_g : (iblk m c 2 t : Vec Ideal S1x1024 .f32) (ix2 0 d) = G m c (ix2 0 d) := by
  have hi : ∀ t : Fin cfg0.N, (cfg0.win 2).index t = ![0, 0] := by decide +kernel
  rw [G, ← V_main_arg2 m c]
  blk_ext [iblk, V, hi t]

/-- The weights as the kernel reads them. -/
theorem w_read : V m c main_v1 = broadcastInDim S1x1024x1024 ![1, 2] bcast_S1024x1024_S1x1024x1024_1_2
    (truncf (F := Ideal) .bf16 (W m c) bitsLt_bf16_f32) := by
  unfold V V0
  after_results <;> rfl

theorem b_w (e : Fin 1024) : (iblk m c 3 t : Vec Ideal S1x1024x1024 .bf16) (ix3 0 e d) = W m c (ix2 e d) := by
  have hi : ∀ t : Fin cfg0.N, (cfg0.win 3).index t = ![0, 0, 0] := by decide +kernel
  refine Eq.trans (b := (V m c main_v1 : Vec Ideal S1x1024x1024 .bf16) (ix3 0 e d)) (by blk_ext [iblk, V, hi t]) ?_
  rw [w_read]
  pointwise []

end Read

/-- The gradient through the output gain. -/
def dyE (dx : Vec Ideal S4096x1024 .f32) (g : Vec Ideal S1x1024 .f32) (t : Fin 4096) (d : Fin 1024) : EReal := dx (ix2 t d) * g (ix2 0 d)

/-- The gradient through the output product. -/
def dzE (dx : Vec Ideal S4096x1024 .f32) (g : Vec Ideal S1x1024 .f32) (w : Vec Ideal S1024x1024 .f32) (t : Fin 4096) (e : Fin 1024) : EReal :=
  ∑ d : Fin 1024, dyE dx g t d * w (ix2 e d)

/-- Row `q` of tile `t`, of tiles of 512 rows. -/
def row512 (t : Fin 8) (q : Fin 512) : Fin 4096 := ⟨t.val * 512 + q.val, by omega⟩

theorem sum_row512 (f : Fin 4096 → EReal) : ∑ t : Fin 8, ∑ q : Fin 512, f (row512 t q) = ∑ t, f t :=
  Fin.sum_mul_add_congr fun _ _ _ => congrArg f (Fin.ext rfl)

/-- A token's share of the gradient of the output gain. -/
def dgE (dx : Vec Ideal S4096x1024 .f32) (y : Vec Ideal S4096x1024 .bf16) (t : Fin 4096) (d : Fin 1024) : EReal := dx (ix2 t d) * y (ix2 t d)

/-- The sum over one tile's tokens. -/
def tile (f : Fin 4096 → Fin 1024 → EReal) (y : S8x1x1024.Idx) : EReal := ∑ q : Fin 512, f (row512 (y 0) q) (y 2)

abbrev total (v : (⟨S8x1x1024, .f32⟩ : BufTy).Contents (Elt Ideal)) : (⟨S1x1024, .f32⟩ : BufTy).Contents (Elt Ideal) :=
  Host.reduceAdd (F := Ideal) v (constant (F := Ideal) S_ .f32 0x00000000#32) reducesTo_S8x1x1024_S1x1024_d0 h_S_

/-- The tiles' sums added are the sum over all tokens. -/
theorem total_tile (f : Fin 4096 → Fin 1024 → EReal) : total (tile f) = fun y : S1x1024.Idx => ∑ t, f t (y 1) := by
  funext y
  idx_vars y
  obtain rfl : y0 = 0 := Fin.fin_one_eq_zero y0
  refine Eq.trans ?_ (sum_row512 fun t => f t y1)
  unfold tile
  pointwise []
  try rfl

/-- The gradient through the output gain, as the kernel leaves it. -/
theorem array4 : (dats m 0 c).arrAt 4 cfg0.N = fun y : S4096x1024.Idx =>
    dyE (X m c) (G m c) (y 0) (y 1) := by
  refine (dats m 0 c).arrAt_eq_of_covers 4 _ (by decide +kernel) fun t hf y => ?_
  blk_simp
  rw [after0_4]; unfold outsAt0; dsimp only
  have hi : ∀ t : Fin cfg0.N, (cfg0.win 4).index t = ![t.val, 0] := by decide +kernel
  have h0 : (((cfg0.win 4).blk t).view.emb y 0 : ℕ) = t.val * 512 + (y 0).val := by blk_simp [hi t]
  have h1 : (((cfg0.win 4).blk t).view.emb y 1 : ℕ) = (y 1).val := by blk_simp [hi t]
  change S512x1024.Idx at y
  rw [Fin.ext (a := ((cfg0.win 4).blk t).view.emb y 1) (b := y 1) h1]
  generalize ((cfg0.win 4).blk t).view.emb y 0 = T at h0 ⊢
  idx_vars y
  refine (block4 ..).trans ?_
  rw [b_dx m c t y0 y1 T h0, b_g m c t y1]
  rfl

/-- The tiles' sums for the output gain. -/
theorem array5 : (dats m 0 c).arrAt 5 cfg0.N = tile (dgE (X m c) (Y m c)) := by
  refine (dats m 0 c).arrAt_eq_of_covers 5 _ (by decide +kernel) fun t hf y => ?_
  blk_simp
  rw [after0_5]; unfold outsAt0; dsimp only
  have hi : ∀ t : Fin cfg0.N, (cfg0.win 5).index t = ![t.val, 0, 0] := by decide +kernel
  have h0 : (((cfg0.win 5).blk t).view.emb y 0 : ℕ) = t.val := by blk_simp [hi t]
  have h2 : (((cfg0.win 5).blk t).view.emb y 2 : ℕ) = (y 2).val := by blk_simp [hi t]
  change S1x1x1024.Idx at y
  unfold tile
  rw [Fin.ext (a := ((cfg0.win 5).blk t).view.emb y 2) (b := y 2) h2]
  generalize ((cfg0.win 5).blk t).view.emb y 0 = T at h0 ⊢
  change Fin 8 at T
  idx_vars y
  obtain rfl : y0 = 0 := Fin.ext (by omega)
  obtain rfl : y1 = 0 := Fin.ext (by omega)
  refine (block5 ..).trans (Finset.sum_congr rfl fun q _ => ?_)
  have hT : (row512 T q).val = t.val * 512 + q.val := congrArg (· * 512 + q.val) h0
  rw [b_dx m c t q y2 _ hT, b_y m c t q y2 _ hT]
  rfl

/-- The gradient through the output product, as the kernel leaves it. -/
theorem array6 : (dats m 0 c).arrAt 6 cfg0.N = fun y : S4096x1024.Idx =>
    dzE (X m c) (G m c) (W m c) (y 0) (y 1) := by
  refine (dats m 0 c).arrAt_eq_of_covers 6 _ (by decide +kernel) fun t hf y => ?_
  blk_simp
  rw [after0_6]; unfold outsAt0; dsimp only
  have hi : ∀ t : Fin cfg0.N, (cfg0.win 6).index t = ![t.val, 0] := by decide +kernel
  have h0 : (((cfg0.win 6).blk t).view.emb y 0 : ℕ) = t.val * 512 + (y 0).val := by blk_simp [hi t]
  have h1 : (((cfg0.win 6).blk t).view.emb y 1 : ℕ) = (y 1).val := by blk_simp [hi t]
  change S512x1024.Idx at y
  rw [Fin.ext (a := ((cfg0.win 6).blk t).view.emb y 1) (b := y 1) h1]
  generalize ((cfg0.win 6).blk t).view.emb y 0 = T at h0 ⊢
  idx_vars y
  refine (block6 ..).trans (Finset.sum_congr rfl fun d _ => ?_)
  rw [b_dx m c t y0 d T h0, b_g m c t d, b_w m c t d y1]
  rfl

/-- The line after the kernel adds the tiles' sums. -/
theorem tail3 : Pipeline.afterTail₀ cfgs (dats m) 0 (V0 m) [hostOps1] c main_v3 = total ((dats m 0 c).arrAt 5 cfg0.N) := by
  have h (U : Valuation τ sig (Elt Ideal)) : StableHlo.after hostOps1 U (Proc.devRef .tc main_v3) = total (U (Proc.devRef .tc main_v2_1)) := by
    after_results <;> rfl
  exact (h _).trans (congrArg total (Pipeline.withArrays_arr spec0 launch0.win.arr_inj c (V0 m c) _ 5))

end Cert.Proof.MixGateGrad
-- ==== Proof.MixGateGradClaim.lean ====
/- The first backward kernel of the gated-convolution mixer leaves what the reference computes. -/
module

public import proofs.«01_k».proof.Defs
public import proofs.«01_k».proof.Proof.MixGateGrad
public import proofs.«01_k».proof.Proof.Gen.Reference9Ideal.Run
public import proofs.«01_k».proof.Proof.Gen.Reference9Ideal.Read

@[expose] public section

set_option maxRecDepth 16384

noncomputable section

namespace Cert.Proof.MixGateGrad

open Idealize.ShloMosaic Idealize.ShloMosaic.TcCoe Idealize.ShloMosaic.Tactic Idealize.SL.Sem

section Reference

open Cert.Reference9Ideal Cert.Reference9Ideal.Gen Cert.Reference9Ideal.Read

variable (dx : (⟨S4096x1024, .f32⟩ : BufTy).Contents (Elt Ideal)) (y : (⟨S4096x1024, .bf16⟩ : BufTy).Contents (Elt Ideal))
  (g : (⟨S1x1024, .f32⟩ : BufTy).Contents (Elt Ideal)) (w : (⟨S1024x1024, .f32⟩ : BufTy).Contents (Elt Ideal))

theorem dy_at : val_main_v11 (F := Ideal) dx g = fun i : S4096x1024.Idx => dyE dx g (i 0) (i 1) := by
  funext i
  idx_vars i
  pointwise [val_main_v11, val_main_v4, val_main_v3]
  exact mul_comm (G := EReal) _ _

theorem dg_at : val_main_v7 (F := Ideal) dx y = fun i : S1x1024.Idx => ∑ t, dgE dx y t (i 1) := by
  funext i
  idx_vars i
  pointwise [val_main_v7, val_main_v6, val_main_v5, val_main_v0, val_main_cst]
  rfl

theorem dz_at : val_main_v12 (F := Ideal) dx g w = fun i : S4096x1024.Idx => dzE dx g w (i 0) (i 1) := by
  funext i
  idx_vars i
  pointwise [val_main_v12, val_main_v10, val_main_v4, val_main_v3]
  exact Finset.sum_congr rfl fun d _ => congrArg (· * _) (mul_comm (G := EReal) _ _)

end Reference

section

open Cert.Kernel9Ideal Cert.Kernel9Ideal.Gen

/-- The kernel's run: its three results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = (dats m 0 c).arrAt 4 cfg0.N
      ∧ r.2.mem ((c.tc : Thread nD τ).loc main_v3) = total ((dats m 0 c).arrAt 5 cfg0.N)
      ∧ r.2.mem ((c.tc : Thread nD τ).loc main_v2_2) = (dats m 0 c).arrAt 6 cfg0.N) :=
  (θ_run _ _ _).mono (fun r h c => ⟨(h c).1 4,
      ((h c).2 main_v3 (Pipeline.mem_restRefs_of main_v3 (by decide) (by decide))).trans (tail3 m c), (h c).1 6⟩) (run_main m ρ)

end

attribute [local instance] Cert.Kernel9Ideal.Gen.facts Cert.Reference9Ideal.Gen.facts

/-- On the extended reals the kernel's arrays are the reference's results. -/
theorem algebraic : Cert.algebraic_Kernel9Ideal_Reference9Ideal
    (hKernel9Ideal := Cert.Kernel9Ideal.Gen.facts) (hReference9Ideal := Cert.Reference9Ideal.Gen.facts) := by
  intro m g m' g' _ hagree
  refine ⟨_, _, _, (θ_run _ _ _).mono (fun r h c => ⟨(h.1 c).1, (h.1 c).2.1, (h.1 c).2.2, h.2 c⟩) (θ_run_and (run m g) (Cert.Kernel9Ideal.Gen.unchanged m g)), ?_⟩
  refine (θ_run _ _ _).mono (fun r h c => ?_) (Cert.Reference9Ideal.Value.run m' g')
  obtain ⟨r0, r1, r2, ra⟩ := h c
  obtain ⟨a0, a1, a2, a3⟩ := hagree c
  refine ⟨r0.trans ?_, r1.trans ?_, r2.trans ?_, ra⟩
  · rw [Cert.Reference9Ideal.Read.val_main_v11_eq, a0, a2, dy_at]
    exact (array4 m c).symm
  · rw [Cert.Reference9Ideal.Read.val_main_v7_eq, a0, a1, dg_at]
    exact ((congrArg total (array5 m c)).trans (total_tile _)).symm
  · rw [Cert.Reference9Ideal.Read.val_main_v12_eq, a0, a2, a3, dz_at]
    exact (array6 m c).symm

end Cert.Proof.MixGateGrad
-- ==== Proof.ConfGateGrad.lean ====
/- What the first backward kernel of the convolution mixer leaves: the gradient through the output gain, the tiles' sums for that
   gain and for the output bias, and the gradient through the output product. -/
module

public import proofs.«01_k».proof.Proof.Gen.Kernel10Ideal.Frame
public import proofs.«01_k».proof.Proof.MixGateGrad

@[expose] public section

set_option maxRecDepth 16384

noncomputable section

namespace Cert.Proof.ConfGateGrad

open Cert.Kernel10Ideal Cert.Kernel10Ideal.Gen Idealize.ShloMosaic Idealize.ShloMosaic.TcCoe Idealize.ShloMosaic.Tactic
open Idealize.SL.Sem
open Idealize.ShloMosaic.Pipeline (Dat)
open Cert.Proof.MixGateGrad (row512 sum_row512)

section Block

variable (c : Dev nD) (i : grid0.Coords) (arg3 : Memref sig .tc .vmem S512x1024 .f32) (harg3 : arg3.IsWhole)
  (arg4 : Memref sig .tc .vmem S512x1024 .bf16) (harg4 : arg4.IsWhole) (arg5 : Memref sig .tc .vmem S1x1024 .f32) (harg5 : arg5.IsWhole)
  (arg6 : Memref sig .tc .vmem S1x1024x1024 .bf16) (harg6 : arg6.IsWhole) (arg7 : Memref sig .tc .vmem S512x1024 .bf16) (harg7 : arg7.IsWhole)
  (arg8 : Memref sig .tc .vmem S1x1x1024 .f32) (harg8 : arg8.IsWhole) (arg9 : Memref sig .tc .vmem S1x1x1024 .f32) (harg9 : arg9.IsWhole)
  (arg10 : Memref sig .tc .vmem S512x1024 .bf16) (harg10 : arg10.IsWhole) (arg11 : Memref sig .tc .vmem S512x1024 .bf16) (harg11 : arg11.IsWhole) (hc0 : cond0_0 i)
  (x : Vec Ideal S512x1024 .f32) (y : Vec Ideal S512x1024 .bf16) (g : Vec Ideal S1x1024 .f32) (w : Vec Ideal S1x1024x1024 .bf16)

theorem block4 (q : Fin 512) (d : Fin 1024) :
    out0_A_4 (F := Ideal) c i arg3 harg3 arg4 harg4 arg5 harg5 arg6 harg6 arg7 harg7 arg8 harg8 arg9 harg9 arg10 harg10 arg11 harg11 hc0 x y g w (ix2 q d)
      = x (ix2 q d) * g (ix2 0 d) := by
  unfold out0_A_4
  frame_out
  pointwise [k0_pay2, k0_pay1]
  try rfl

theorem block5 (d : Fin 1024) :
    out0_A_5 (F := Ideal) c i arg3 harg3 arg4 harg4 arg5 harg5 arg6 harg6 arg7 harg7 arg8 harg8 arg9 harg9 arg10 harg10 arg11 harg11 hc0 x y g w (ix3 0 0 d)
      = ∑ q : Fin 512, x (ix2 q d) * y (ix2 q d) := by
  unfold out0_A_5
  frame_out
  pointwise [k0_pay3]
  try rfl

theorem block6 (d : Fin 1024) :
    out0_A_6 (F := Ideal) c i arg3 harg3 arg4 harg4 arg5 harg5 arg6 harg6 arg7 harg7 arg8 harg8 arg9 harg9 arg10 harg10 arg11 harg11 hc0 x y g w (ix3 0 0 d)
      = ∑ q : Fin 512, x (ix2 q d) * g (ix2 0 d) := by
  unfold out0_A_6
  frame_out
  pointwise [k0_pay4, k0_pay1]
  try rfl

theorem block7 (q : Fin 512) (e : Fin 1024) :
    out0_A_7 (F := Ideal) c i arg3 harg3 arg4 harg4 arg5 harg5 arg6 harg6 arg7 harg7 arg8 harg8 arg9 harg9 arg10 harg10 arg11 harg11 hc0 x y g w (ix2 q e)
      = ∑ d : Fin 1024, x (ix2 q d) * g (ix2 0 d) * w (ix3 0 e d) := by
  unfold out0_A_7
  frame_out
  pointwise [k0_pay6, k0_pay5, k0_pay1]
  try rfl

end Block

variable (m : (ℓ : Loc nD τ sig) → Buf (Elt Ideal) ℓ) (c : Dev nD)

abbrev X : Vec Ideal S4096x1024 .f32 := m ((c : Thread nD τ).loc main_arg0)
abbrev Y : Vec Ideal S4096x1024 .bf16 := m ((c : Thread nD τ).loc main_arg1)
abbrev G : Vec Ideal S1x1024 .f32 := m ((c : Thread nD τ).loc main_arg2)
abbrev W : Vec Ideal S1024x1024 .f32 := m ((c : Thread nD τ).loc main_arg3)

section Read

variable (t : Fin cfg0.N) (q : Fin 512) (d : Fin 1024) (T : Fin 4096) (hT : T.val = t.val * 512 + q.val)

include hT in
theorem b_dx : (iblk m c 0 t : Vec Ideal S512x1024 .f32) (ix2 q d) = X m c (ix2 T d) := by
  have hi : ∀ t : Fin cfg0.N, (cfg0.win 0).index t = ![t.val, 0] := by decide +kernel
  rw [X, ← V_main_arg0 m c]
  blk_ext [iblk, V, hi t, hT]

include hT in
theorem b_y : (iblk m c 1 t : Vec Ideal S512x1024 .bf16) (ix2 q d) = Y m c (ix2 T d) := by
  have hi : ∀ t : Fin cfg0.N, (cfg0.win 1).index t = ![t.val, 0] := by decide +kernel
  rw [Y, ← V_main_arg1 m c]
  blk_ext [iblk, V, hi t, hT]

theorem b_g : (iblk m c 2 t : Vec Ideal S1x1024 .f32) (ix2 0 d) = G m c (ix2 0 d) := by
  have hi : ∀ t : Fin cfg0.N, (cfg0.win 2).index t = ![0, 0] := by decide +kernel
  rw [G, ← V_main_arg2 m c]
  blk_ext [iblk, V, hi t]

/-- The weights as the kernel reads them. -/
theorem w_read : V m c main_v1 = broadcastInDim S1x1024x1024 ![1, 2] bcast_S1024x1024_S1x1024x1024_1_2
    (truncf (F := Ideal) .bf16 (W m c) bitsLt_bf16_f32) := by
  unfold V V0
  after_results <;> rfl

theorem b_w (e : Fin 1024) : (iblk m c 3 t : Vec Ideal S1x1024x1024 .bf16) (ix3 0 e d) = W m c (ix2 e d) := by
  have hi : ∀ t : Fin cfg0.N, (cfg0.win 3).index t = ![0, 0, 0] := by decide +kernel
  refine Eq.trans (b := (V m c main_v1 : Vec Ideal S1x1024x1024 .bf16) (ix3 0 e d)) (by blk_ext [iblk, V, hi t]) ?_
  rw [w_read]
  pointwise []

end Read

/-- The gradient through the output gain. -/
def dyE (dx : Vec Ideal S4096x1024 .f32) (g : Vec Ideal S1x1024 .f32) (t : Fin 4096) (d : Fin 1024) : EReal := dx (ix2 t d) * g (ix2 0 d)

/-- The gradient through the output product. -/
def dzE (dx : Vec Ideal S4096x1024 .f32) (g : Vec Ideal S1x1024 .f32) (w : Vec Ideal S1024x1024 .f32) (t : Fin 4096) (e : Fin 1024) : EReal :=
  ∑ d : Fin 1024, dyE dx g t d * w (ix2 e d)

/-- A token's share of the gradient of the output gain. -/
def dgE (dx : Vec Ideal S4096x1024 .f32) (y : Vec Ideal S4096x1024 .bf16) (t : Fin 4096) (d : Fin 1024) : EReal := dx (ix2 t d) * y (ix2 t d)

/-- The sum over one tile's tokens. -/
def tile (f : Fin 4096 → Fin 1024 → EReal) (y : S8x1x1024.Idx) : EReal := ∑ q : Fin 512, f (row512 (y 0) q) (y 2)

abbrev total (v : (⟨S8x1x1024, .f32⟩ : BufTy).Contents (Elt Ideal)) : (⟨S1x1024, .f32⟩ : BufTy).Contents (Elt Ideal) :=
  Host.reduceAdd (F := Ideal) v (constant (F := Ideal) S_ .f32 0x00000000#32) reducesTo_S8x1x1024_S1x1024_d0 h_S_

/-- The tiles' sums added are the sum over all tokens. -/
theorem total_tile (f : Fin 4096 → Fin 1024 → EReal) : total (tile f) = fun y : S1x1024.Idx => ∑ t, f t (y 1) := by
  funext y
  idx_vars y
  obtain rfl : y0 = 0 := Fin.fin_one_eq_zero y0
  refine Eq.trans ?_ (sum_row512 fun t => f t y1)
  unfold tile
  pointwise []
  try rfl

/-- The gradient through the output gain, as the kernel leaves it. -/
theorem array4 : (dats m 0 c).arrAt 4 cfg0.N = fun y : S4096x1024.Idx =>
    dyE (X m c) (G m c) (y 0) (y 1) := by
  refine (dats m 0 c).arrAt_eq_of_covers 4 _ (by decide +kernel) fun t hf y => ?_
  blk_simp
  rw [after0_4]; unfold outsAt0; dsimp only
  have hi : ∀ t : Fin cfg0.N, (cfg0.win 4).index t = ![t.val, 0] := by decide +kernel
  have h0 : (((cfg0.win 4).blk t).view.emb y 0 : ℕ) = t.val * 512 + (y 0).val := by blk_simp [hi t]
  have h1 : (((cfg0.win 4).blk t).view.emb y 1 : ℕ) = (y 1).val := by blk_simp [hi t]
  change S512x1024.Idx at y
  rw [Fin.ext (a := ((cfg0.win 4).blk t).view.emb y 1) (b := y 1) h1]
  generalize ((cfg0.win 4).blk t).view.emb y 0 = T at h0 ⊢
  idx_vars y
  refine (block4 ..).trans ?_
  rw [b_dx m c t y0 y1 T h0, b_g m c t y1]
  rfl

/-- The tiles' sums for the output gain. -/
theorem array5 : (dats m 0 c).arrAt 5 cfg0.N = tile (dgE (X m c) (Y m c)) := by
  refine (dats m 0 c).arrAt_eq_of_covers 5 _ (by decide +kernel) fun t hf y => ?_
  blk_simp
  rw [after0_5]; unfold outsAt0; dsimp only
  have hi : ∀ t : Fin cfg0.N, (cfg0.win 5).index t = ![t.val, 0, 0] := by decide +kernel
  have h0 : (((cfg0.win 5).blk t).view.emb y 0 : ℕ) = t.val := by blk_simp [hi t]
  have h2 : (((cfg0.win 5).blk t).view.emb y 2 : ℕ) = (y 2).val := by blk_simp [hi t]
  change S1x1x1024.Idx at y
  unfold tile
  rw [Fin.ext (a := ((cfg0.win 5).blk t).view.emb y 2) (b := y 2) h2]
  generalize ((cfg0.win 5).blk t).view.emb y 0 = T at h0 ⊢
  change Fin 8 at T
  idx_vars y
  obtain rfl : y0 = 0 := Fin.ext (by omega)
  obtain rfl : y1 = 0 := Fin.ext (by omega)
  refine (block5 ..).trans (Finset.sum_congr rfl fun q _ => ?_)
  have hT : (row512 T q).val = t.val * 512 + q.val := congrArg (· * 512 + q.val) h0
  rw [b_dx m c t q y2 _ hT, b_y m c t q y2 _ hT]
  rfl

/-- The tiles' sums for the output bias. -/
theorem array6 : (dats m 0 c).arrAt 6 cfg0.N = tile (dyE (X m c) (G m c)) := by
  refine (dats m 0 c).arrAt_eq_of_covers 6 _ (by decide +kernel) fun t hf y => ?_
  blk_simp
  rw [after0_6]; unfold outsAt0; dsimp only
  have hi : ∀ t : Fin cfg0.N, (cfg0.win 6).index t = ![t.val, 0, 0] := by decide +kernel
  have h0 : (((cfg0.win 6).blk t).view.emb y 0 : ℕ) = t.val := by blk_simp [hi t]
  have h2 : (((cfg0.win 6).blk t).view.emb y 2 : ℕ) = (y 2).val := by blk_simp [hi t]
  change S1x1x1024.Idx at y
  unfold tile
  rw [Fin.ext (a := ((cfg0.win 6).blk t).view.emb y 2) (b := y 2) h2]
  generalize ((cfg0.win 6).blk t).view.emb y 0 = T at h0 ⊢
  change Fin 8 at T
  idx_vars y
  obtain rfl : y0 = 0 := Fin.ext (by omega)
  obtain rfl : y1 = 0 := Fin.ext (by omega)
  refine (block6 ..).trans (Finset.sum_congr rfl fun q _ => ?_)
  have hT : (row512 T q).val = t.val * 512 + q.val := congrArg (· * 512 + q.val) h0
  rw [b_dx m c t q y2 _ hT, b_g m c t y2]
  rfl

/-- The gradient through the output product, as the kernel leaves it. -/
theorem array7 : (dats m 0 c).arrAt 7 cfg0.N = fun y : S4096x1024.Idx =>
    dzE (X m c) (G m c) (W m c) (y 0) (y 1) := by
  refine (dats m 0 c).arrAt_eq_of_covers 7 _ (by decide +kernel) fun t hf y => ?_
  blk_simp
  rw [after0_7]; unfold outsAt0; dsimp only
  have hi : ∀ t : Fin cfg0.N, (cfg0.win 7).index t = ![t.val, 0] := by decide +kernel
  have h0 : (((cfg0.win 7).blk t).view.emb y 0 : ℕ) = t.val * 512 + (y 0).val := by blk_simp [hi t]
  have h1 : (((cfg0.win 7).blk t).view.emb y 1 : ℕ) = (y 1).val := by blk_simp [hi t]
  change S512x1024.Idx at y
  rw [Fin.ext (a := ((cfg0.win 7).blk t).view.emb y 1) (b := y 1) h1]
  generalize ((cfg0.win 7).blk t).view.emb y 0 = T at h0 ⊢
  idx_vars y
  refine (block7 ..).trans (Finset.sum_congr rfl fun d _ => ?_)
  rw [b_dx m c t y0 d T h0, b_g m c t d, b_w m c t d y1]
  rfl

/-- The lines after the kernel add the tiles' sums. -/
theorem tail3 : Pipeline.afterTail₀ cfgs (dats m) 0 (V0 m) [hostOps1] c main_v3 = total ((dats m 0 c).arrAt 5 cfg0.N) := by
  have h (U : Valuation τ sig (Elt Ideal)) : StableHlo.after hostOps1 U (Proc.devRef .tc main_v3) = total (U (Proc.devRef .tc main_v2_1)) := by
    after_results <;> rfl
  exact (h _).trans (congrArg total (Pipeline.withArrays_arr spec0 launch0.win.arr_inj c (V0 m c) _ 5))

theorem tail4 : Pipeline.afterTail₀ cfgs (dats m) 0 (V0 m) [hostOps1] c main_v4 = total ((dats m 0 c).arrAt 6 cfg0.N) := by
  have h (U : Valuation τ sig (Elt Ideal)) : StableHlo.after hostOps1 U (Proc.devRef .tc main_v4) = total (U (Proc.devRef .tc main_v2_2)) := by
    after_results <;> rfl
  exact (h _).trans (congrArg total (Pipeline.withArrays_arr spec0 launch0.win.arr_inj c (V0 m c) _ 6))

end Cert.Proof.ConfGateGrad
-- ==== Proof.ConfGateGradClaim.lean ====
/- The first backward kernel of the convolution mixer leaves what the reference computes. -/
module

public import proofs.«01_k».proof.Defs
public import proofs.«01_k».proof.Proof.ConfGateGrad
public import proofs.«01_k».proof.Proof.Gen.Reference10Ideal.Run
public import proofs.«01_k».proof.Proof.Gen.Reference10Ideal.Read

@[expose] public section

set_option maxRecDepth 16384

noncomputable section

namespace Cert.Proof.ConfGateGrad

open Idealize.ShloMosaic Idealize.ShloMosaic.TcCoe Idealize.ShloMosaic.Tactic Idealize.SL.Sem

section Reference

open Cert.Reference10Ideal Cert.Reference10Ideal.Gen Cert.Reference10Ideal.Read

variable (dx : (⟨S4096x1024, .f32⟩ : BufTy).Contents (Elt Ideal)) (y : (⟨S4096x1024, .bf16⟩ : BufTy).Contents (Elt Ideal))
  (g : (⟨S1x1024, .f32⟩ : BufTy).Contents (Elt Ideal)) (w : (⟨S1024x1024, .f32⟩ : BufTy).Contents (Elt Ideal))

theorem dy_at : val_main_v16 (F := Ideal) dx g = fun i : S4096x1024.Idx => dyE dx g (i 0) (i 1) := by
  funext i
  idx_vars i
  pointwise [val_main_v16, val_main_v4, val_main_v3]
  exact mul_comm (G := EReal) _ _

theorem dg_at : val_main_v7 (F := Ideal) dx y = fun i : S1x1024.Idx => ∑ t, dgE dx y t (i 1) := by
  funext i
  idx_vars i
  pointwise [val_main_v7, val_main_v6, val_main_v5, val_main_v0, val_main_cst]
  rfl

theorem db_at : val_main_v14 (F := Ideal) dx g = fun i : S1x1024.Idx => ∑ t, dyE dx g t (i 1) := by
  funext i
  idx_vars i
  pointwise [val_main_v14, val_main_v13, val_main_v4, val_main_v3, val_main_cst_2]
  exact Finset.sum_congr rfl fun t _ => mul_comm (G := EReal) _ _

theorem dz_at : val_main_v17 (F := Ideal) dx g w = fun i : S4096x1024.Idx => dzE dx g w (i 0) (i 1) := by
  funext i
  idx_vars i
  pointwise [val_main_v17, val_main_v15, val_main_v4, val_main_v3]
  exact Finset.sum_congr rfl fun d _ => congrArg (· * _) (mul_comm (G := EReal) _ _)

end Reference

section

open Cert.Kernel10Ideal Cert.Kernel10Ideal.Gen

/-- The kernel's run: its four results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = (dats m 0 c).arrAt 4 cfg0.N
      ∧ r.2.mem ((c.tc : Thread nD τ).loc main_v3) = total ((dats m 0 c).arrAt 5 cfg0.N)
      ∧ r.2.mem ((c.tc : Thread nD τ).loc main_v4) = total ((dats m 0 c).arrAt 6 cfg0.N)
      ∧ r.2.mem ((c.tc : Thread nD τ).loc main_v2_3) = (dats m 0 c).arrAt 7 cfg0.N) :=
  (θ_run _ _ _).mono (fun r h c => ⟨(h c).1 4,
      ((h c).2 main_v3 (Pipeline.mem_restRefs_of main_v3 (by decide) (by decide))).trans (tail3 m c),
      ((h c).2 main_v4 (Pipeline.mem_restRefs_of main_v4 (by decide) (by decide))).trans (tail4 m c), (h c).1 7⟩) (run_main m ρ)

end

attribute [local instance] Cert.Kernel10Ideal.Gen.facts Cert.Reference10Ideal.Gen.facts

/-- On the extended reals the kernel's arrays are the reference's results. -/
theorem algebraic : Cert.algebraic_Kernel10Ideal_Reference10Ideal
    (hKernel10Ideal := Cert.Kernel10Ideal.Gen.facts) (hReference10Ideal := Cert.Reference10Ideal.Gen.facts) := by
  intro m g m' g' _ hagree
  refine ⟨_, _, _, _, (θ_run _ _ _).mono (fun r h c => ⟨(h.1 c).1, (h.1 c).2.1, (h.1 c).2.2.1, (h.1 c).2.2.2, h.2 c⟩) (θ_run_and (run m g) (Cert.Kernel10Ideal.Gen.unchanged m g)), ?_⟩
  refine (θ_run _ _ _).mono (fun r h c => ?_) (Cert.Reference10Ideal.Value.run m' g')
  obtain ⟨r0, r1, r2, r3, ra⟩ := h c
  obtain ⟨a0, a1, a2, a3⟩ := hagree c
  refine ⟨r0.trans ?_, r1.trans ?_, r2.trans ?_, r3.trans ?_, ra⟩
  · rw [Cert.Reference10Ideal.Read.val_main_v16_eq, a0, a2, dy_at]
    exact (array4 m c).symm
  · rw [Cert.Reference10Ideal.Read.val_main_v7_eq, a0, a1, dg_at]
    exact ((congrArg total (array5 m c)).trans (total_tile _)).symm
  · rw [Cert.Reference10Ideal.Read.val_main_v14_eq, a0, a2, db_at]
    exact ((congrArg total (array6 m c)).trans (total_tile _)).symm
  · rw [Cert.Reference10Ideal.Read.val_main_v17_eq, a0, a2, a3, dz_at]
    exact (array7 m c).symm

end Cert.Proof.ConfGateGrad
-- ==== Proof.ConfWgradIn.lean ====
/- The array that the input weight-gradient kernel of the convolution mixer leaves: a product over all tokens. -/
module

public import proofs.«01_k».proof.Proof.Gen.Kernel11Ideal.Value
public import Idealize.ShloMosaic.Lib.Pipeline.ValueKit
public import Idealize.ShloMosaic.Lib.Pointwise

@[expose] public section

set_option maxRecDepth 16384

noncomputable section

namespace Cert.Proof.ConfWgradIn

open Cert.Kernel11Ideal Cert.Kernel11Ideal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- One tile of tokens' share of an entry: the product of the two blocks there. -/
def part (u : Vec Ideal S1024x1024 .bf16) (v : Vec Ideal S1x1024x1024 .bf16) (j : S1024x1024.Idx) : EReal :=
  ∑ q : Fin 1024, u (ix2 q (j 0)) * v (ix3 0 q (j 1))

theorem pay2_at (u : Vec Ideal S1024x1024 .bf16) (v : Vec Ideal S1x1024x1024 .bf16) (j : S1024x1024.Idx) :
    k0_pay2 (F := Ideal) u v j = part u v j := by
  idx_vars j
  pointwise [k0_pay2, k0_pay1, part]
  try rfl

theorem pay3_at (u : Vec Ideal S1024x1024 .bf16) (v : Vec Ideal S1x1024x1024 .bf16) (a : Vec Ideal S1024x1024 .f32)
    (j : S1024x1024.Idx) : k0_pay3 (F := Ideal) u v a j = a j + part u v j := by
  idx_vars j
  pointwise [k0_pay3, k0_pay1, part]
  try rfl

theorem pay4_at (a : Vec Ideal S1024x1024 .f32) (j : S1x1024x1024.Idx) :
    k0_pay4 (F := Ideal) a j = a (ix2 (j 1) (j 2)) := by
  idx_vars j
  pointwise [k0_pay4]
  try rfl

/-- At the last tile of a run the block written back is the accumulator. -/
theorem out_eq_acc (t : Fin cfg0.N) (h : t.val % 4 = 3) :
    (outsAt0 m c t.val t.isLt).1 = k0_pay4 (F := Ideal) (outsAt0 m c t.val t.isLt).2 := by
  rw [outsAt0_C m c t (by omega) (by omega) h]
  frame_out

/-- The accumulator at the last tile of a run is the sum of the four tiles' products. -/
theorem acc_at (t : Fin cfg0.N) (h : t.val % 4 = 3) (j : S1024x1024.Idx) :
    (outsAt0 m c t.val t.isLt).2 j
      = ∑ s : Fin 4, part (iblk m c 0 ⟨4 * (t.val / 4) + s, by have := t.isLt; omega⟩)
          (iblk m c 1 ⟨4 * (t.val / 4) + s, by have := t.isLt; omega⟩) j := by
  rw [Pipeline.eq_sum_fin_of_reset_step_apply_of_flush (fun n h => (outsAt0 m c n h).2) 4 (fun _ => (0 : EReal))
      (fun t j => part (iblk m c 0 t) (iblk m c 1 t) j)
      (fun t h0 j => by
        rw [outsAt0_A m c t h0 (by omega) (by omega)]; frame_out; rw [pay2_at]; exact (zero_add _).symm)
      (fun t h0 j => by
        by_cases h3 : t.val % 4 = 3
        · rw [outsAt0_C m c t h0 (by omega) h3]; frame_out; rw [pay3_at]; exact congrArg (· + _) (congrFun ((Memref.isWhole_whole cc0_scratch0).read_unread (outsAt0 m c (t.val - 1) _).2) j)
        · rw [outsAt0_B m c t h0 (by omega) h3]; frame_out; rw [pay3_at]; exact congrArg (· + _) (congrFun ((Memref.isWhole_whole cc0_scratch0).read_unread (outsAt0 m c (t.val - 1) _).2) j)) t h j, zero_add]

/-- The product over all tokens. -/
def grad (u : Vec Ideal S4096x1024 .bf16) (v : Vec Ideal S2x4096x1024 .bf16) (j : Fin 2) (r : Fin 1024) (l : Fin 1024) : EReal :=
  ∑ s : Fin 4096, u (ix2 s r) * v (ix3 j s l)

theorem blk_u (t : Fin cfg0.N) (q : Fin 1024) (r : Fin 1024) (s : Fin 4096) (hs : s.val = t.val % 4 * 1024 + q.val) :
    (iblk m c 0 t : Vec Ideal S1024x1024 .bf16) (ix2 q r) = (V m c main_arg0 : Vec Ideal S4096x1024 .bf16) (ix2 s r) := by
  have hi : ∀ t : Fin cfg0.N, (cfg0.win 0).index t = ![t.val % 4, 0] := by decide +kernel
  blk_ext [iblk, V, hi t, hs]

theorem blk_v (t : Fin cfg0.N) (q : Fin 1024) (l : Fin 1024) (p : Fin 2) (s : Fin 4096)
    (hp : p.val = t.val / 4) (hs : s.val = t.val % 4 * 1024 + q.val) :
    (iblk m c 1 t : Vec Ideal S1x1024x1024 .bf16) (ix3 0 q l)
      = (V m c main_arg1 : Vec Ideal S2x4096x1024 .bf16) (ix3 p s l) := by
  have hi : ∀ t : Fin cfg0.N, (cfg0.win 1).index t = ![t.val / 4, t.val % 4, 0] := by decide +kernel
  blk_ext [iblk, V, hi t, hp, hs]

/-- The accumulator at the last tile of a run holds the product over all tokens. -/
theorem acc_eq (t : Fin cfg0.N) (h : t.val % 4 = 3) (j : Fin 2) (hj : j.val = t.val / 4) (r : Fin 1024) (l : Fin 1024) :
    (outsAt0 m c t.val t.isLt).2 (ix2 r l) = grad (V m c main_arg0) (V m c main_arg1) j r l := by
  rw [acc_at m c t h]
  unfold part grad
  have hN : t.val < 8 := t.isLt
  refine Fin.sum_mul_add_congr fun s q hs => ?_
  refine congrArg₂ (· * ·) (blk_u m c _ _ _ _ ?_) (blk_v m c _ _ _ _ _ ?_ ?_) <;> simp <;> omega

/-- The same product, at a column of the two parts side by side. -/
def gradCol (u : Vec Ideal S4096x1024 .bf16) (v : Vec Ideal S2x4096x1024 .bf16) (r : Fin 1024) (L : Fin 2048) : EReal :=
  grad u v ⟨L.val / 1024, by omega⟩ r ⟨L.val % 1024, by omega⟩

theorem gradCol_eq (u : Vec Ideal S4096x1024 .bf16) (v : Vec Ideal S2x4096x1024 .bf16) (r r' : Fin 1024) (L : Fin 2048) (j : Fin 2)
    (l : Fin 1024) (hr : r'.val = r.val) (h : L.val = j.val * 1024 + l.val) : grad u v j r l = gradCol u v r' L := by
  have e1 : (⟨L.val / 1024, by omega⟩ : Fin 2) = j := Fin.ext (by simp only; omega)
  have e2 : (⟨L.val % 1024, by omega⟩ : Fin 1024) = l := Fin.ext (by simp only; omega)
  unfold gradCol
  rw [e1, e2, Fin.ext hr]

/-- The array after the run. -/
theorem array2 : (dats m 0 c).arrAt 2 cfg0.N
    = fun y : S1x1024x2048.Idx => gradCol (V m c main_arg0) (V m c main_arg1) (y 1) (y 2) := by
  refine (dats m 0 c).arrAt_eq_of_covers 2 _ (by decide +kernel) fun t hf y => ?_
  have h := (flush0_2 t).mp hf
  have hi : ∀ t : Fin cfg0.N, (cfg0.win 2).index t = ![0, 0, t.val / 4] := by decide +kernel
  have h1 : (((cfg0.win 2).blk t).view.emb y 1 : ℕ) = (y 1).val := by blk_simp [hi t]
  have h2 : (((cfg0.win 2).blk t).view.emb y 2 : ℕ) = t.val / 4 * 1024 + (y 2).val := by blk_simp [hi t]
  have hN : t.val < 8 := t.isLt
  blk_simp
  rw [after0_2, out_eq_acc m c t h]
  refine (pay4_at _ _).trans ((acc_eq m c t h ⟨t.val / 4, by omega⟩ rfl _ _).trans ?_)
  exact gradCol_eq _ _ _ _ _ ⟨t.val / 4, by omega⟩ _ h1 h2

end Cert.Proof.ConfWgradIn
-- ==== Proof.ConfWgradInClaim.lean ====
/- The input weight-gradient kernel of the convolution mixer leaves what the reference computes. -/
module

public import proofs.«01_k».proof.Defs
public import proofs.«01_k».proof.Proof.ConfWgradIn
public import proofs.«01_k».proof.Proof.Gen.Reference11Ideal.Run
public import proofs.«01_k».proof.Proof.Gen.Reference11Ideal.Read

@[expose] public section

set_option maxRecDepth 16384

noncomputable section

namespace Cert.Proof.ConfWgradIn

open Idealize.ShloMosaic Idealize.ShloMosaic.TcCoe Idealize.ShloMosaic.Tactic Idealize.SL.Sem

section Reference

open Cert.Reference11Ideal Cert.Reference11Ideal.Gen Cert.Reference11Ideal.Read

/-- The reference's entry is the same product over all tokens. -/
theorem ref_at (u : (⟨S4096x1024, .bf16⟩ : BufTy).Contents (Elt Ideal)) (v : (⟨S2x4096x1024, .bf16⟩ : BufTy).Contents (Elt Ideal))
    (z : Fin 1) (r : Fin 1024) (l : Fin 2048) : val_main_v17 (F := Ideal) u v (ix3 z r l) = gradCol u v r l := by
  pointwise [val_main_v17, val_main_v16, val_main_v15, val_main_v14_apply, val_main_v13, val_main_v12, val_main_v11, val_main_v10,
    val_main_v9, val_main_v8, val_main_v1]
  unfold gradCol grad
  refine Finset.sum_congr rfl fun s _ => ?_
  rw [mul_comm]
  refine congrArg₂ (· * ·) (congrArg u (by ext a; fin_cases a <;> rfl)) ?_
  split
  · exact congrArg v (by congr 1 <;> apply Fin.ext <;> simp <;> omega)
  · exact congrArg v (by congr 1 <;> apply Fin.ext <;> simp <;> omega)

end Reference

attribute [local instance] Cert.Kernel11Ideal.Gen.facts Cert.Reference11Ideal.Gen.facts

/-- On the extended reals the kernel's array is the reference's result. -/
theorem algebraic : Cert.algebraic_Kernel11Ideal_Reference11Ideal
    (hKernel11Ideal := Cert.Kernel11Ideal.Gen.facts) (hReference11Ideal := Cert.Reference11Ideal.Gen.facts) := by
  pair_intro
  · run_from Cert.Kernel11Ideal.Value.run_blocks m g
  · run_from Cert.Reference11Ideal.Value.run m' g'
    rw [Cert.Reference11Ideal.Read.val_main_v17_eq, (hagree c).2.1, array2 m c]
    funext y
    change Cert.Reference11Ideal.S1x1024x2048.Idx at y
    idx_vars y
    exact ref_at _ _ y0 y1 y2

end Cert.Proof.ConfWgradIn
-- ==== Proof.ConfBackReal.lean ====
/- The gradient through the convolution mixer's norm and input product, over the real numbers. -/
module

public import proofs.«01_k».proof.Proof.FfnReal

@[expose] public section

noncomputable section

namespace Cert.Proof.ConfBack

open Idealize.ShloMosaic
open Cert.Proof.Ffn

variable (x : Fin 4096 → Fin 1024 → ℝ) (gn sc : Fin 1024 → ℝ) (wi : Fin 1024 → Fin 2048 → ℝ) (dp : Fin 2 → Fin 4096 → Fin 1024 → ℝ)

/-- The gradient of the normalised, scaled and shifted rows. -/
def dh (t : Fin 4096) (i : Fin 1024) : ℝ :=
  ∑ l : Fin 1024, dp 0 t l * wi i ⟨l.val, by omega⟩ + ∑ l : Fin 1024, dp 1 t l * wi i ⟨1024 + l.val, by omega⟩

/-- The gradient of the normalised rows. -/
def dxh (t : Fin 4096) (i : Fin 1024) : ℝ := dh wi dp t i * (gn i * (1 + sc i))

/-- The gradient of the norm's argument. -/
def dxn (t : Fin 4096) (i : Fin 1024) : ℝ :=
  rs x t * (dxh gn sc wi dp t i - x t i * rs x t * ((∑ k, dxh gn sc wi dp t k * (x t k * rs x t)) / 1024))

/-- The sums over tokens. -/
def dsh (i : Fin 1024) : ℝ := ∑ t, dh wi dp t i
def dnorm (i : Fin 1024) : ℝ := ∑ t, dh wi dp t i * (x t i * rs x t)

end Cert.Proof.ConfBack
-- ==== Proof.ConfBack.lean ====
/- The last backward kernel of the convolution mixer: the gradient of the argument, and the tiles' sums for the gains. -/
module

public import proofs.«01_k».proof.Proof.Gen.Kernel12Ideal.Frame
public import proofs.«01_k».proof.Proof.ConfBackReal

@[expose] public section

set_option maxRecDepth 16384

noncomputable section

namespace Cert.Proof.ConfBack

open Cert.Kernel12Ideal Cert.Kernel12Ideal.Gen Idealize.ShloMosaic Idealize.ShloMosaic.TcCoe Idealize.ShloMosaic.Tactic
open Idealize.SL.Sem
open Idealize.ShloMosaic.Pipeline (Dat)
open Cert.Proof.Ffn (coe_sum rs rs_coe width_bits)

variable (x : Fin 4096 → Fin 1024 → ℝ) (gn sc : Fin 1024 → ℝ) (wi : Fin 1024 → Fin 2048 → ℝ) (dp : Fin 2 → Fin 4096 → Fin 1024 → ℝ)

/-- A row of the gradient of the normalised, scaled and shifted rows. -/
theorem dh_row (v0 : Vec Ideal S2x512x1024 .bf16) (u0 u1 : Vec Ideal S1x1024x1024 .bf16) (q : Fin 512) (t : Fin 4096)
    (h0 : ∀ p l, v0 (ix3 p q l) = (dp p t l : EReal))
    (hu0 : ∀ i l, u0 (ix3 0 i l) = (wi i ⟨l.val, by omega⟩ : EReal))
    (hu1 : ∀ i l, u1 (ix3 0 i l) = (wi i ⟨1024 + l.val, by omega⟩ : EReal)) (i : Fin 1024) :
    k0_pay4 (F := Ideal) v0 u0 u1 (ix2 q i) = (dh wi dp t i : EReal) := by
  have e : k0_pay4 (F := Ideal) v0 u0 u1 (ix2 q i)
      = (∑ l : Fin 1024, v0 (ix3 0 q l) * u0 (ix3 0 i l)) + ∑ l : Fin 1024, v0 (ix3 1 q l) * u1 (ix3 0 i l) := by
    pointwise [k0_pay4]
  rw [e]
  simp only [h0, hu0, hu1, ← EReal.coe_mul, coe_sum, ← EReal.coe_add]
  rfl

/-- One over the root of a row's mean square. -/
theorem rs_row (v : Vec Ideal S512x1024 .f32) (q : Fin 512) (t : Fin 4096) (h : ∀ i, v (ix2 q i) = (x t i : EReal)) :
    k0_pay5 (F := Ideal) v (ix2 q 0) = (rs x t : EReal) := by
  pointwise [k0_pay5]
  simp only [h]
  exact rs_coe x t

/-- A normalised row. -/
theorem norm_row (v : Vec Ideal S512x1024 .f32) (q : Fin 512) (t : Fin 4096) (h : ∀ i, v (ix2 q i) = (x t i : EReal)) (i : Fin 1024) :
    k0_pay6 (F := Ideal) v (ix2 q i) = ((x t i * rs x t : ℝ) : EReal) := by
  have e : k0_pay6 (F := Ideal) v (ix2 q i) = v (ix2 q i) * k0_pay5 (F := Ideal) v (ix2 q 0) := by pointwise [k0_pay6]
  rw [e, rs_row x v q t h, h, EReal.coe_mul]

/-- A row of the gradient of the normalised rows. -/
theorem dxh_row (v0 : Vec Ideal S2x512x1024 .bf16) (u0 u1 : Vec Ideal S1x1024x1024 .bf16) (v14 v15 : Vec Ideal S1x1024 .f32)
    (q : Fin 512) (t : Fin 4096) (h : ∀ i, k0_pay4 (F := Ideal) v0 u0 u1 (ix2 q i) = (dh wi dp t i : EReal))
    (h14 : ∀ i, v14 (ix2 0 i) = (gn i : EReal)) (h15 : ∀ i, v15 (ix2 0 i) = (sc i : EReal)) (i : Fin 1024) :
    k0_pay8 (F := Ideal) v0 u0 u1 v14 v15 (ix2 q i) = (dxh gn sc wi dp t i : EReal) := by
  have e : k0_pay8 (F := Ideal) v0 u0 u1 v14 v15 (ix2 q i)
      = k0_pay4 (F := Ideal) v0 u0 u1 (ix2 q i) * (v14 (ix2 0 i) * (1 + v15 (ix2 0 i))) := by
    unfold k0_pay8
    generalize k0_pay4 (F := Ideal) v0 u0 u1 = w
    pointwise []
  have o : (1 : EReal) = ((1 : ℝ) : EReal) := rfl
  rw [e, h, h14, h15, o]
  simp only [← EReal.coe_mul, ← EReal.coe_add]
  rfl

/-- A row of the gradient of the argument. -/
theorem dxin_row (v13 : Vec Ideal S512x1024 .f32) (v23 : FVec Ideal S512x1 .f32) (v25 v31 v32 : FVec Ideal S512x1024 .f32)
    (q : Fin 512) (t : Fin 4096) (h23 : v23 (ix2 q 0) = (rs x t : EReal))
    (h25 : ∀ i, v25 (ix2 q i) = ((x t i * rs x t : ℝ) : EReal)) (h31 : ∀ i, v31 (ix2 q i) = (dxh gn sc wi dp t i : EReal))
    (h32 : ∀ i, v32 (ix2 q i) = ((dxh gn sc wi dp t i * (x t i * rs x t) : ℝ) : EReal)) (i : Fin 1024) :
    k0_pay1 (F := Ideal) v13 v23 v25 v31 v32 (ix2 q i) = v13 (ix2 q i) + (dxn x gn sc wi dp t i : EReal) := by
  have e : k0_pay1 (F := Ideal) v13 v23 v25 v31 v32 (ix2 q i)
      = v13 (ix2 q i) + v23 (ix2 q 0) * (v31 (ix2 q i)
        - v25 (ix2 q i) * Ideal.div (∑ k, v32 (ix2 q k)) (Ideal.ofBits .f32 0x44800000#32)) := by
    pointwise [k0_pay1]
  rw [e, h23, width_bits, Ideal.div_coe (by norm_num)]
  simp only [h25, h31, h32, ← EReal.coe_mul, coe_sum, ← EReal.coe_sub]
  congr 2
  unfold dxn
  ring

/-- A tile's column sums of the gradient of the rows. -/
theorem hsum_row (v : FVec Ideal S512x1024 .f32) (i : Fin 1024) (t : Fin 512 → Fin 4096)
    (h : ∀ q, v (ix2 q i) = (dh wi dp (t q) i : EReal)) :
    k0_pay2 (F := Ideal) v (ix3 0 0 i) = ((∑ q, dh wi dp (t q) i : ℝ) : EReal) := by
  pointwise [k0_pay2]
  simp only [h, coe_sum]

/-- A tile's column sums of the gradient of the rows, times the normalised rows. -/
theorem nsum_row (v : FVec Ideal S512x1024 .f32) (i : Fin 1024) (t : Fin 512 → Fin 4096)
    (h : ∀ q, v (ix2 q i) = ((dh wi dp (t q) i * (x (t q) i * rs x (t q)) : ℝ) : EReal)) :
    k0_pay3 (F := Ideal) v (ix3 0 0 i) = ((∑ q, dh wi dp (t q) i * (x (t q) i * rs x (t q)) : ℝ) : EReal) := by
  pointwise [k0_pay3]
  simp only [h, coe_sum]

/-- Row `q` of tile `t`, of tiles of 512 rows. -/
def row512 (t : Fin 8) (q : Fin 512) : Fin 4096 := ⟨t.val * 512 + q.val, by omega⟩

variable (m : (ℓ : Loc nD τ sig) → Buf (Elt Ideal) ℓ) (c : Dev nD)

section

theorem b_d (t : Fin cfg0.N) (p : Fin 2) (q : Fin 512) (l : Fin 1024) (T : Fin 4096) (hT : T.val = t.val * 512 + q.val) :
    (View.ld (iblk m c 0 t) r0_0 : Vec Ideal S2x512x1024 .bf16) (ix3 p q l) = (V m c main_arg5 : Vec Ideal S2x4096x1024 .bf16) (ix3 p T l) := by
  have hi : ∀ t : Fin cfg0.N, (cfg0.win 0).index t = ![0, t.val, 0] := by decide +kernel
  blk_ext [iblk, V, hi t, View.ld, LoadRect.idx_apply, hT]
  all_goals simp [Rect.unit]

theorem b_w0 (t : Fin cfg0.N) (i l : Fin 1024) :
    (View.ld (iblk m c 1 t) r0_1 : Vec Ideal S1x1024x1024 .bf16) (ix3 0 i l) = (V m c main_v1 : Vec Ideal S1x1024x2048 .bf16) (ix3 0 i ⟨l.val, by omega⟩) := by
  have hi : ∀ t : Fin cfg0.N, (cfg0.win 1).index t = ![0, 0, 0] := by decide +kernel
  blk_ext [iblk, V, hi t, View.ld, LoadRect.idx_apply]
  all_goals simp [Rect.unit]

theorem b_w1 (t : Fin cfg0.N) (i l : Fin 1024) :
    (View.ld (iblk m c 1 t) r0_2 : Vec Ideal S1x1024x1024 .bf16) (ix3 0 i l) = (V m c main_v1 : Vec Ideal S1x1024x2048 .bf16) (ix3 0 i ⟨1024 + l.val, by omega⟩) := by
  have hi : ∀ t : Fin cfg0.N, (cfg0.win 1).index t = ![0, 0, 0] := by decide +kernel
  blk_ext [iblk, V, hi t, View.ld, LoadRect.idx_apply]
  all_goals simp [Rect.unit]

theorem b_x (t : Fin cfg0.N) (q : Fin 512) (d : Fin 1024) (T : Fin 4096) (hT : T.val = t.val * 512 + q.val) :
    (View.ld (iblk m c 2 t) r0_3 : Vec Ideal S512x1024 .f32) (ix2 q d) = (V m c main_arg0 : Vec Ideal S4096x1024 .f32) (ix2 T d) := by
  have hi : ∀ t : Fin cfg0.N, (cfg0.win 2).index t = ![t.val, 0] := by decide +kernel
  blk_ext [iblk, V, hi t, View.ld, LoadRect.idx_apply, hT]
  all_goals simp [Rect.unit]

theorem b_dx (t : Fin cfg0.N) (q : Fin 512) (d : Fin 1024) (T : Fin 4096) (hT : T.val = t.val * 512 + q.val) :
    (View.ld (iblk m c 3 t) r0_3 : Vec Ideal S512x1024 .f32) (ix2 q d) = (V m c main_arg6 : Vec Ideal S4096x1024 .f32) (ix2 T d) := by
  have hi : ∀ t : Fin cfg0.N, (cfg0.win 3).index t = ![t.val, 0] := by decide +kernel
  blk_ext [iblk, V, hi t, View.ld, LoadRect.idx_apply, hT]
  all_goals simp [Rect.unit]

theorem b_gn (t : Fin cfg0.N) (d : Fin 1024) :
    (View.ld (iblk m c 4 t) r0_4 : Vec Ideal S1x1024 .f32) (ix2 0 d) = (V m c main_arg1 : Vec Ideal S1x1024 .f32) (ix2 0 d) := by
  have hi : ∀ t : Fin cfg0.N, (cfg0.win 4).index t = ![0, 0] := by decide +kernel
  blk_ext [iblk, V, hi t, View.ld, LoadRect.idx_apply]
  all_goals simp [Rect.unit]

theorem b_sc (t : Fin cfg0.N) (d : Fin 1024) :
    (View.ld (iblk m c 5 t) r0_4 : Vec Ideal S1x1024 .f32) (ix2 0 d) = (V m c main_arg2 : Vec Ideal S1x1024 .f32) (ix2 0 d) := by
  have hi : ∀ t : Fin cfg0.N, (cfg0.win 5).index t = ![0, 0] := by decide +kernel
  blk_ext [iblk, V, hi t, View.ld, LoadRect.idx_apply]
  all_goals simp [Rect.unit]

/-- The weights as the kernel reads them. -/
theorem w_read : V m c main_v1 = broadcastInDim S1x1024x2048 ![1, 2] bcast_S1024x2048_S1x1024x2048_1_2
    (truncf (F := Ideal) .bf16 (m ((c : Thread nD τ).loc main_arg4) : Vec Ideal S1024x2048 .f32) bitsLt_bf16_f32) := by
  unfold V V0
  after_results <;> rfl

theorem w_at (i : Fin 1024) (f : Fin 2048) : (V m c main_v1 : Vec Ideal S1x1024x2048 .bf16) (ix3 0 i f)
    = (m ((c : Thread nD τ).loc main_arg4) : Vec Ideal S1024x2048 .f32) (ix2 i f) := by
  rw [w_read]
  pointwise []

variable (hx : ∀ t i, (m ((c : Thread nD τ).loc main_arg0) : Vec Ideal S4096x1024 .f32) (ix2 t i) = (x t i : EReal))
  (hgn : ∀ i, (m ((c : Thread nD τ).loc main_arg1) : Vec Ideal S1x1024 .f32) (ix2 0 i) = (gn i : EReal))
  (hsc : ∀ i, (m ((c : Thread nD τ).loc main_arg2) : Vec Ideal S1x1024 .f32) (ix2 0 i) = (sc i : EReal))
  (hwi : ∀ i f, (m ((c : Thread nD τ).loc main_arg4) : Vec Ideal S1024x2048 .f32) (ix2 i f) = (wi i f : EReal))
  (hdp : ∀ p t l, (m ((c : Thread nD τ).loc main_arg5) : Vec Ideal S2x4096x1024 .bf16) (ix3 p t l) = (dp p t l : EReal))

include hdp hwi in
theorem dh_block (t : Fin cfg0.N) (q : Fin 512) (i : Fin 1024) (T : Fin 4096) (hT : T.val = t.val * 512 + q.val) :
    k0_pay4 (F := Ideal) (View.ld (iblk m c 0 t) r0_0) (View.ld (iblk m c 1 t) r0_1) (View.ld (iblk m c 1 t) r0_2) (ix2 q i)
      = (dh wi dp T i : EReal) :=
  dh_row wi dp _ _ _ q T (fun p l => (b_d m c t p q l T hT).trans ((congrFun (V_main_arg5 m c) _).trans (hdp p T l)))
    (fun i l => (b_w0 m c t i l).trans ((w_at m c i _).trans (hwi i _)))
    (fun i l => (b_w1 m c t i l).trans ((w_at m c i _).trans (hwi i _))) i

include hx in
theorem x_block (t : Fin cfg0.N) (q : Fin 512) (i : Fin 1024) (T : Fin 4096) (hT : T.val = t.val * 512 + q.val) :
    (View.ld (iblk m c 2 t) r0_3 : Vec Ideal S512x1024 .f32) (ix2 q i) = (x T i : EReal) :=
  (b_x m c t q i T hT).trans ((congrFun (V_main_arg0 m c) _).trans (hx T i))

include hx in
theorem norm_block (t : Fin cfg0.N) (q : Fin 512) (i : Fin 1024) (T : Fin 4096) (hT : T.val = t.val * 512 + q.val) :
    k0_pay6 (F := Ideal) (View.ld (iblk m c 2 t) r0_3) (ix2 q i) = ((x T i * rs x T : ℝ) : EReal) :=
  norm_row x _ q T (fun i => x_block x m c hx t q i T hT) i

include hgn hsc hwi hdp in
theorem dxh_block (t : Fin cfg0.N) (q : Fin 512) (i : Fin 1024) (T : Fin 4096) (hT : T.val = t.val * 512 + q.val) :
    k0_pay8 (F := Ideal) (View.ld (iblk m c 0 t) r0_0) (View.ld (iblk m c 1 t) r0_1) (View.ld (iblk m c 1 t) r0_2)
      (View.ld (iblk m c 4 t) r0_4) (View.ld (iblk m c 5 t) r0_4) (ix2 q i) = (dxh gn sc wi dp T i : EReal) :=
  dxh_row gn sc wi dp _ _ _ _ _ q T (fun i => dh_block wi dp m c hwi hdp t q i T hT)
    (fun i => (b_gn m c t i).trans ((congrFun (V_main_arg1 m c) _).trans (hgn i)))
    (fun i => (b_sc m c t i).trans ((congrFun (V_main_arg2 m c) _).trans (hsc i))) i

include hx hgn hsc hwi hdp in
/-- The gradient of the argument, as the kernel leaves it. -/
theorem dxin_array : (dats m 0 c).arrAt 6 cfg0.N = fun y : S4096x1024.Idx =>
    HAdd.hAdd (α := EReal) (β := EReal) ((m ((c : Thread nD τ).loc main_arg6) : Vec Ideal S4096x1024 .f32) (ix2 (y 0) (y 1)))
      (dxn x gn sc wi dp (y 0) (y 1) : EReal) := by
  refine (dats m 0 c).arrAt_eq_of_covers 6 _ (by decide +kernel) fun t hf y => ?_
  blk_simp
  rw [after0_6]
  have hi : ∀ t : Fin cfg0.N, (cfg0.win 6).index t = ![t.val, 0] := by decide +kernel
  have h0 : (((cfg0.win 6).blk t).view.emb y 0 : ℕ) = t.val * 512 + (y 0).val := by blk_simp [hi t]
  have h1 : (((cfg0.win 6).blk t).view.emb y 1 : ℕ) = (y 1).val := by blk_simp [hi t]
  change S512x1024.Idx at y
  have e1 := Fin.ext (a := ((cfg0.win 6).blk t).view.emb y 1) (b := y 1) h1
  rw [e1]
  generalize ((cfg0.win 6).blk t).view.emb y 0 = T at h0 ⊢
  change Fin 4096 at T
  unfold out0_6
  rw [View.canon_cons_unit_zero (by decide)]
  idx_vars y
  refine (dxin_row x gn sc wi dp _ _ _ _ _ y0 T (rs_row x _ y0 T fun i => x_block x m c hx t y0 i T h0)
    (fun i => norm_block x m c hx t y0 i T h0) (fun i => dxh_block gn sc wi dp m c hgn hsc hwi hdp t y0 i T h0)
    (fun i => ?_) y1).trans ?_
  · have e : ∀ (a b : FVec Ideal S512x1024 .f32), mulf (F := Ideal) a b (ix2 y0 i) = a (ix2 y0 i) * b (ix2 y0 i) := fun a b => rfl
    exact (e _ _).trans ((congrArg₂ (· * ·) (dxh_block gn sc wi dp m c hgn hsc hwi hdp t y0 i T h0)
      (norm_block x m c hx t y0 i T h0)).trans (EReal.coe_mul _ _).symm)
  exact congrArg (· + (dxn x gn sc wi dp T y1 : EReal)) ((b_dx m c t y0 y1 T h0).trans (congrFun (V_main_arg6 m c) _))

include hwi hdp in
/-- The tiles' column sums of the gradient of the rows. -/
theorem hsum_array : (dats m 0 c).arrAt 7 cfg0.N
    = fun y : S8x1x1024.Idx => ((∑ q, dh wi dp (row512 (y 0) q) (y 2) : ℝ) : EReal) := by
  refine (dats m 0 c).arrAt_eq_of_covers 7 _ (by decide +kernel) fun t hf y => ?_
  blk_simp
  rw [after0_7]
  have hi : ∀ t : Fin cfg0.N, (cfg0.win 7).index t = ![t.val, 0, 0] := by decide +kernel
  have h0 : (((cfg0.win 7).blk t).view.emb y 0 : ℕ) = t.val := by blk_simp [hi t]
  have h2 : (((cfg0.win 7).blk t).view.emb y 2 : ℕ) = (y 2).val := by blk_simp [hi t]
  change S1x1x1024.Idx at y
  have e2 := Fin.ext (a := ((cfg0.win 7).blk t).view.emb y 2) (b := y 2) h2
  rw [e2]
  generalize ((cfg0.win 7).blk t).view.emb y 0 = T at h0 ⊢
  change Fin 8 at T
  have hT : ∀ q : Fin 512, (row512 T q).val = t.val * 512 + q.val := fun q => congrArg (· * 512 + q.val) h0
  unfold out0_7
  rw [View.canon_cons_unit_zero (by decide)]
  idx_vars y
  obtain rfl : y0 = 0 := Fin.ext (by omega)
  obtain rfl : y1 = 0 := Fin.ext (by omega)
  exact hsum_row wi dp _ y2 (row512 T) (fun q => dh_block wi dp m c hwi hdp t q y2 _ (hT q))

include hx hwi hdp in
/-- The tiles' column sums of the gradient of the rows, times the normalised rows. -/
theorem nsum_array : (dats m 0 c).arrAt 8 cfg0.N
    = fun y : S8x1x1024.Idx => ((∑ q, dh wi dp (row512 (y 0) q) (y 2) * (x (row512 (y 0) q) (y 2) * rs x (row512 (y 0) q)) : ℝ) : EReal) := by
  refine (dats m 0 c).arrAt_eq_of_covers 8 _ (by decide +kernel) fun t hf y => ?_
  blk_simp
  rw [after0_8]
  have hi : ∀ t : Fin cfg0.N, (cfg0.win 8).index t = ![t.val, 0, 0] := by decide +kernel
  have h0 : (((cfg0.win 8).blk t).view.emb y 0 : ℕ) = t.val := by blk_simp [hi t]
  have h2 : (((cfg0.win 8).blk t).view.emb y 2 : ℕ) = (y 2).val := by blk_simp [hi t]
  change S1x1x1024.Idx at y
  have e2 := Fin.ext (a := ((cfg0.win 8).blk t).view.emb y 2) (b := y 2) h2
  rw [e2]
  generalize ((cfg0.win 8).blk t).view.emb y 0 = T at h0 ⊢
  change Fin 8 at T
  have hT : ∀ q : Fin 512, (row512 T q).val = t.val * 512 + q.val := fun q => congrArg (· * 512 + q.val) h0
  unfold out0_8
  rw [View.canon_cons_unit_zero (by decide)]
  idx_vars y
  obtain rfl : y0 = 0 := Fin.ext (by omega)
  obtain rfl : y1 = 0 := Fin.ext (by omega)
  refine nsum_row x wi dp _ y2 (row512 T) (fun q => ?_)
  have e : ∀ (a b : FVec Ideal S512x1024 .f32), mulf (F := Ideal) a b (ix2 q y2) = a (ix2 q y2) * b (ix2 q y2) := fun a b => rfl
  exact (e _ _).trans ((congrArg₂ (· * ·) (dh_block wi dp m c hwi hdp t q y2 _ (hT q))
    (norm_block x m c hx t q y2 _ (hT q))).trans (EReal.coe_mul _ _).symm)

theorem sum_row512 (f : Fin 4096 → ℝ) : ∑ t : Fin 8, ∑ q : Fin 512, f (row512 t q) = ∑ t, f t :=
  Fin.sum_mul_add_congr fun _ _ _ => congrArg f (Fin.ext rfl)

/-- A sum over the eight tiles. -/
theorem tiles8 (v : (⟨S8x1x1024, .f32⟩ : BufTy).Contents (Elt Ideal)) (f : Fin 8 → Fin 1024 → ℝ)
    (hv : ∀ t d, v (ix3 t 0 d) = (f t d : EReal)) (d : Fin 1024) :
    Host.reduceAdd (F := Ideal) v (constant (F := Ideal) S_ .f32 0x00000000#32) reducesTo_S8x1x1024_S1x1024_d0 h_S_ (ix2 0 d)
      = ((∑ t, f t d : ℝ) : EReal) := by
  pointwise []
  simp only [hv, coe_sum]

/-- The sum over the tiles, as the lines after the kernel take it. -/
abbrev total (v : (⟨S8x1x1024, .f32⟩ : BufTy).Contents (Elt Ideal)) : (⟨S1x1024, .f32⟩ : BufTy).Contents (Elt Ideal) :=
  Host.reduceAdd (F := Ideal) v (constant (F := Ideal) S_ .f32 0x00000000#32) reducesTo_S8x1x1024_S1x1024_d0 h_S_

theorem tail3 (W : Valuation τ sig (Elt Ideal)) : StableHlo.after hostOps1 W (Proc.devRef .tc main_v3)
    = total (W (Proc.devRef .tc main_v2_1)) := by
  after_results <;> rfl

theorem tail7 (W : Valuation τ sig (Elt Ideal)) : StableHlo.after hostOps1 W (Proc.devRef .tc main_v7)
    = mulf (F := Ideal) (s := S1x1024) (φ := .f32) (total (W (Proc.devRef .tc main_v2_2)))
        (addf (F := Ideal) (s := S1x1024) (φ := .f32) (broadcastInDim S1x1024 ![] bcast_S_S1x1024 (constant (F := Ideal) S_ .f32 0x3F800000#32) : Vec Ideal S1x1024 .f32)
          (W (Proc.devRef .tc main_arg2) : Vec Ideal S1x1024 .f32)) := by
  after_results <;> rfl

theorem tail8 (W : Valuation τ sig (Elt Ideal)) : StableHlo.after hostOps1 W (Proc.devRef .tc main_v8)
    = mulf (F := Ideal) (s := S1x1024) (φ := .f32) (total (W (Proc.devRef .tc main_v2_2))) (W (Proc.devRef .tc main_arg1) : Vec Ideal S1x1024 .f32) := by
  after_results <;> rfl

/-- What the buffers hold when the kernel is done, before the lines after it. -/
abbrev W : Valuation τ sig (Elt Ideal) := Pipeline.withArrays spec0 c (V0 m c) fun w => (dats m 0 c).arrAt w cfg0.N

theorem W7 : W m c (Proc.devRef .tc main_v2_1) = (dats m 0 c).arrAt 7 cfg0.N :=
  Pipeline.withArrays_arr spec0 launch0.win.arr_inj c (V0 m c) _ 7
theorem W8 : W m c (Proc.devRef .tc main_v2_2) = (dats m 0 c).arrAt 8 cfg0.N :=
  Pipeline.withArrays_arr spec0 launch0.win.arr_inj c (V0 m c) _ 8
theorem Wgn : W m c (Proc.devRef .tc main_arg1) = m ((c : Thread nD τ).loc main_arg1) :=
  (Pipeline.withArrays_arr spec0 launch0.win.arr_inj c (V0 m c) _ 4).trans
    (((dats m 0 c).arrAt_in 4 rfl _).trans ((A_eq m c 4).trans (V_main_arg1 m c)))
theorem Wsc : W m c (Proc.devRef .tc main_arg2) = m ((c : Thread nD τ).loc main_arg2) :=
  (Pipeline.withArrays_arr spec0 launch0.win.arr_inj c (V0 m c) _ 5).trans
    (((dats m 0 c).arrAt_in 5 rfl _).trans ((A_eq m c 5).trans (V_main_arg2 m c)))

/-- A buffer after the lines that follow the kernel. -/
abbrev fin (b : Ref sig .tc) : Buf (Elt Ideal) ((c.tc : Thread nD τ).loc b) := Pipeline.afterTail₀ cfgs (dats m) 0 (V0 m) [hostOps1] c b

include hwi hdp in
theorem dsh_fin (d : Fin 1024) : (fin m c main_v3 : Vec Ideal S1x1024 .f32) (ix2 0 d) = (dsh wi dp d : EReal) := by
  refine (congrFun (tail3 (W m c)) _).trans ?_
  refine (tiles8 _ (fun t d => ∑ q : Fin 512, dh wi dp (row512 t q) d) (fun t d => ?_) d).trans ?_
  · exact congrFun ((W7 m c).trans (hsum_array wi dp m c hwi hdp)) (ix3 t 0 d)
  · congr 1
    exact sum_row512 (fun t => dh wi dp t d)

include hx hwi hdp in
theorem nsum_fin (d : Fin 1024) : total (W m c (Proc.devRef .tc main_v2_2)) (ix2 0 d) = (dnorm x wi dp d : EReal) := by
  refine (tiles8 _ (fun t d => ∑ q : Fin 512, dh wi dp (row512 t q) d * (x (row512 t q) d * rs x (row512 t q))) (fun t d => ?_) d).trans ?_
  · exact congrFun ((W8 m c).trans (nsum_array x wi dp m c hx hwi hdp)) (ix3 t 0 d)
  · congr 1
    exact sum_row512 (fun t => dh wi dp t d * (x t d * rs x t))

include hx hsc hwi hdp in
theorem dgn_fin (d : Fin 1024) : (fin m c main_v7 : Vec Ideal S1x1024 .f32) (ix2 0 d) = ((dnorm x wi dp d * (1 + sc d) : ℝ) : EReal) := by
  refine (congrFun (tail7 (W m c)) _).trans ?_
  rw [Wsc]
  have e := nsum_fin x wi dp m c hx hwi hdp d
  generalize total (W m c (Proc.devRef .tc main_v2_2)) = u at e ⊢
  pointwise []
  rw [e, hsc, EReal.coe_mul, EReal.coe_add]
  rfl

include hx hgn hwi hdp in
theorem dsc_fin (d : Fin 1024) : (fin m c main_v8 : Vec Ideal S1x1024 .f32) (ix2 0 d) = ((dnorm x wi dp d * gn d : ℝ) : EReal) := by
  refine (congrFun (tail8 (W m c)) _).trans ?_
  rw [Wgn]
  have e := nsum_fin x wi dp m c hx hwi hdp d
  generalize total (W m c (Proc.devRef .tc main_v2_2)) = u at e ⊢
  pointwise []
  rw [e, hgn, EReal.coe_mul]

end

end Cert.Proof.ConfBack
-- ==== Proof.ConfBackRef.lean ====
/- The reference of the gradient through the convolution mixer's norm and input product, operation by operation. -/
module

public import proofs.«01_k».proof.Proof.ConfBackReal
public import proofs.«01_k».proof.Proof.FfnRef
public import proofs.«01_k».proof.Proof.Gen.Reference12Ideal.Read

@[expose] public section

set_option maxRecDepth 4000

noncomputable section

namespace Cert.Proof.ConfBackRef

open Cert.Reference12Ideal Cert.Reference12Ideal.Gen Cert.Reference12Ideal.Read Idealize.ShloMosaic Idealize.ShloMosaic.TcCoe
  Idealize.ShloMosaic.StableHlo
open Cert.Proof.Ffn (rs ms ms_pos eps_bits width_bits mhalf_bits coe_sum)
open Cert.Proof.ConfBack
open Cert.Proof.FfnRef (one_bits zero_bits col rs_sq)

/-- The arrays of reals, as arguments. -/
abbrev rows (x : Fin 4096 → Fin 1024 → ℝ) : (⟨S4096x1024, .f32⟩ : BufTy).Contents (Elt Ideal) := fun y => (x (y 0) (y 1) : EReal)
abbrev line (g : Fin 1024 → ℝ) : (⟨S1x1024, .f32⟩ : BufTy).Contents (Elt Ideal) := fun y => (g (y 1) : EReal)
abbrev win (w : Fin 1024 → Fin 2048 → ℝ) : (⟨S1024x2048, .f32⟩ : BufTy).Contents (Elt Ideal) := fun y => (w (y 0) (y 1) : EReal)
abbrev parts (d : Fin 2 → Fin 4096 → Fin 1024 → ℝ) : (⟨S2x4096x1024, .bf16⟩ : BufTy).Contents (Elt Ideal) :=
  fun y => (d (y 0) (y 1) (y 2) : EReal)

variable (x : Fin 4096 → Fin 1024 → ℝ) (gn sc : Fin 1024 → ℝ) (wi : Fin 1024 → Fin 2048 → ℝ) (dp : Fin 2 → Fin 4096 → Fin 1024 → ℝ)

theorem ms_at (y : S4096x1.Idx) : val_main_v6 (F := Ideal) (rows x) y = (ms x (y 0) : EReal) := by
  rw [val_main_v6_apply, val_main_v4_apply, val_main_v2_apply, val_main_v1_apply, val_main_v3_apply, val_main_v5_apply,
    val_main_cst_0_apply, val_main_cst_1_apply, val_main_cst_apply]
  simp only [val_main_v0_apply, Ideal.mulf_def, Ideal.addf_def, Ideal.hostDivf_def, Ideal.ofBits_def, eps_bits, width_bits, zero_bits, zero_add]
  rw [Ideal.div_coe (by norm_num)]
  simp only [← EReal.coe_mul, coe_sum, ← EReal.coe_add]
  congr 1
  unfold ms
  rw [mul_one_div]
  rfl

theorem rs_at (y : S4096x1.Idx) : val_main_v7 (F := Ideal) (rows x) y = (rs x (y 0) : EReal) := by
  rw [val_main_v7_apply, ms_at]
  refine Eq.trans (b := Ideal.rsqrt (ms x (y 0) : EReal)) rfl ?_
  rw [Ideal.rsqrt_coe, if_neg (ms_pos x (y 0)).le.not_gt, if_neg (ms_pos x (y 0)).ne']
  rfl

/-- The slope of the root: minus a half of its cube. -/
theorem slope_at (y : S4096x1.Idx) : val_main_v10 (F := Ideal) (rows x) y = ((-(1 / 2) * (rs x (y 0) / ms x (y 0)) : ℝ) : EReal) := by
  rw [val_main_v10_apply, val_main_v9_apply, val_main_cst_2_apply, val_main_v8_apply, rs_at, ms_at]
  simp only [Ideal.mulf_def, Ideal.hostDivf_def, Ideal.ofBits_def, mhalf_bits]
  rw [Ideal.div_coe (ms_pos x (y 0)).ne']
  simp only [← EReal.coe_mul]
  congr 2
  ring

theorem norm_at (y : S4096x1024.Idx) : val_main_v12 (F := Ideal) (rows x) y = ((x (y 0) (y 1) * rs x (y 0) : ℝ) : EReal) := by
  rw [val_main_v12_apply, val_main_v11_apply, rs_at, EReal.coe_mul]
  rfl

/-- The two gradients, side by side. -/
theorem joined_first (t : Fin 4096) (l : Fin 1024) :
    val_main_v32 (F := Ideal) (parts dp) (ix2 t ⟨l.val, by omega⟩) = (dp 0 t l : EReal) := by
  have e : val_main_v29 (F := Ideal) (parts dp) (ix2 t l) = (dp 0 t l : EReal) := by
    pointwise [val_main_v29, val_main_v28, val_main_v27]
    rfl
  refine Eq.trans ?_ e
  unfold val_main_v32
  generalize val_main_v29 (F := Ideal) (parts dp) = a
  generalize val_main_v31 (F := Ideal) (parts dp) = b
  pointwise []

theorem joined_second (t : Fin 4096) (l : Fin 1024) :
    val_main_v32 (F := Ideal) (parts dp) (ix2 t ⟨1024 + l.val, by omega⟩) = (dp 1 t l : EReal) := by
  have e : val_main_v31 (F := Ideal) (parts dp) (ix2 t l) = (dp 1 t l : EReal) := by
    pointwise [val_main_v31, val_main_v30, val_main_v27]
    rfl
  refine Eq.trans ?_ e
  unfold val_main_v32
  generalize val_main_v29 (F := Ideal) (parts dp) = a
  generalize val_main_v31 (F := Ideal) (parts dp) = b
  pointwise []

/-- A sum over two stretches of 1024. -/
theorem sum2 (f : Fin 2048 → EReal) : ∑ k, f k = ∑ l : Fin 1024, f ⟨l.val, by omega⟩ + ∑ l : Fin 1024, f ⟨1024 + l.val, by omega⟩ :=
  Fin.sum_univ_add (a := 1024) (b := 1024) f

/-- The gradient of the normalised, scaled and shifted rows. -/
theorem dh_at (y : S4096x1024.Idx) : val_main_v33 (F := Ideal) (win wi) (parts dp) y = (dh wi dp (y 0) (y 1) : EReal) := by
  rw [val_main_v33_apply]
  have el (k : Fin 2048) : lidx_main_v33 y k = ix2 (y 0) k := by
    funext a
    match a with | ⟨0, _⟩ => rfl | ⟨1, _⟩ => rfl
  simp only [el]
  refine (sum2 _).trans ?_
  refine (congrArg₂ (· + ·)
    (Finset.sum_congr rfl fun l _ => congrArg (· * _) (joined_first dp (y 0) l))
    (Finset.sum_congr rfl fun l _ => congrArg (· * _) (joined_second dp (y 0) l))).trans ?_
  simp only [← EReal.coe_mul, coe_sum, ← EReal.coe_add]
  rfl

/-- The gradient of the shift. -/
theorem dsh_at (d : Fin 1024) : val_main_v35 (F := Ideal) (win wi) (parts dp) (ix2 0 d) = (dsh wi dp d : EReal) := by
  rw [val_main_v35_apply, val_main_v34_apply, val_main_cst_4_apply]
  simp only [dh_at, Ideal.ofBits_def, zero_bits, zero_add, coe_sum]
  exact congrArg (fun d' => (dsh wi dp d' : EReal)) (col d _)

theorem scale_at (y : S4096x1024.Idx) : val_main_v39 (F := Ideal) (line sc) y = ((1 + sc (y 1) : ℝ) : EReal) := by
  rw [val_main_v39_apply, val_main_v16_apply, val_main_v15_apply, val_main_cst_3_apply]
  simp only [Ideal.addf_def, Ideal.ofBits_def, one_bits, ← EReal.coe_add]
  rfl

theorem dsc_line (z : S1024.Idx) : val_main_v37 (F := Ideal) (rows x) (line gn) (win wi) (parts dp) z = ((dnorm x wi dp (z 0) * gn (z 0) : ℝ) : EReal) := by
  rw [val_main_v37_apply, val_main_cst_5_apply]
  simp only [val_main_v36_apply, val_main_v14_apply, val_main_v13_apply, norm_at, dh_at, Ideal.mulf_def, Ideal.ofBits_def, zero_bits, zero_add,
    ← EReal.coe_mul, coe_sum]
  refine congrArg (fun r : ℝ => (r : EReal)) ?_
  unfold dnorm
  rw [Finset.sum_mul]
  refine Finset.sum_congr rfl fun t _ => ?_
  change x t (z 0) * rs x t * gn (z 0) * dh wi dp t (z 0) = dh wi dp t (z 0) * (x t (z 0) * rs x t) * gn (z 0)
  ring

/-- The gradient of the scale. -/
theorem dsc_at (d : Fin 1024) : val_main_v38 (F := Ideal) (rows x) (line gn) (win wi) (parts dp) (ix2 0 d) = ((dnorm x wi dp d * gn d : ℝ) : EReal) := by
  rw [val_main_v38_apply, dsc_line]
  exact congrArg (fun d' => ((dnorm x wi dp d' * gn d' : ℝ) : EReal)) (col d _)

theorem scaled_at (y : S4096x1024.Idx) :
    val_main_v40 (F := Ideal) (line sc) (win wi) (parts dp) y = ((dh wi dp (y 0) (y 1) * (1 + sc (y 1)) : ℝ) : EReal) := by
  rw [val_main_v40_apply, dh_at, scale_at]
  simp only [Ideal.mulf_def, ← EReal.coe_mul]

theorem dgn_line (z : S1024.Idx) :
    val_main_v42 (F := Ideal) (rows x) (line sc) (win wi) (parts dp) z = ((dnorm x wi dp (z 0) * (1 + sc (z 0)) : ℝ) : EReal) := by
  rw [val_main_v42_apply, val_main_cst_6_apply]
  simp only [val_main_v41_apply, norm_at, scaled_at, Ideal.mulf_def, Ideal.ofBits_def, zero_bits, zero_add, ← EReal.coe_mul, coe_sum]
  refine congrArg (fun r : ℝ => (r : EReal)) ?_
  unfold dnorm
  rw [Finset.sum_mul]
  refine Finset.sum_congr rfl fun t _ => ?_
  change x t (z 0) * rs x t * (dh wi dp t (z 0) * (1 + sc (z 0))) = dh wi dp t (z 0) * (x t (z 0) * rs x t) * (1 + sc (z 0))
  ring

/-- The gradient of the norm's gain. -/
theorem dgn_at (d : Fin 1024) : val_main_v43 (F := Ideal) (rows x) (line sc) (win wi) (parts dp) (ix2 0 d) = ((dnorm x wi dp d * (1 + sc d) : ℝ) : EReal) := by
  rw [val_main_v43_apply, dgn_line]
  exact congrArg (fun d' => ((dnorm x wi dp d' * (1 + sc d') : ℝ) : EReal)) (col d _)

theorem dxh_at (y : S4096x1024.Idx) : val_main_v45 (F := Ideal) (line gn) (line sc) (win wi) (parts dp) y = (dxh gn sc wi dp (y 0) (y 1) : EReal) := by
  rw [val_main_v45_apply, val_main_v44_apply, scaled_at]
  simp only [Ideal.mulf_def, ← EReal.coe_mul]
  congr 1
  change dh wi dp (y 0) (y 1) * (1 + sc (y 1)) * gn (y 1) = dh wi dp (y 0) (y 1) * (gn (y 1) * (1 + sc (y 1)))
  ring

/-- The gradient that reaches a row through its mean square, halved. -/
def back (t : Fin 4096) : ℝ := (∑ i, x t i * dxh gn sc wi dp t i) * (-(1 / 2) * (rs x t / ms x t)) / 1024

theorem inner_at (y : S4096x1.Idx) :
    val_main_v48 (F := Ideal) (rows x) (line gn) (line sc) (win wi) (parts dp) y = ((∑ i, x (y 0) i * dxh gn sc wi dp (y 0) i : ℝ) : EReal) := by
  rw [val_main_v48_apply, val_main_v47_apply, val_main_cst_7_apply]
  simp only [val_main_v46_apply, dxh_at, Ideal.mulf_def, Ideal.ofBits_def, zero_bits, zero_add, ← EReal.coe_mul, coe_sum]
  have h1 : (y 1).val < 1 := (y 1).isLt
  have h0 : (y 0).val < 4096 := (y 0).isLt
  have e : (⟨(y 0).val * 1 + (y 1).val, by omega⟩ : Fin 4096) = y 0 := Fin.ext (by change (y 0).val * 1 + (y 1).val = (y 0).val; omega)
  exact congrArg (fun t => ((∑ i, x t i * dxh gn sc wi dp t i : ℝ) : EReal)) e

theorem back_at (y : S4096x1024.Idx) : val_main_v55 (F := Ideal) (rows x) (line gn) (line sc) (win wi) (parts dp) y = (back x gn sc wi dp (y 0) : EReal) := by
  rw [val_main_v55_apply, val_main_v54_apply, val_main_cst_9_apply]
  simp only [val_main_v53_apply, val_main_v51_apply, val_main_v52_apply, val_main_cst_8_apply, slope_at, inner_at, Ideal.mulf_def,
    Ideal.hostDivf_def, Ideal.ofBits_def, zero_bits, width_bits, zero_add, Finset.univ_unique, Finset.sum_singleton]
  rw [Ideal.div_coe (by norm_num)]
  simp only [← EReal.coe_mul]
  congr 1
  unfold back
  rw [mul_one_div]
  rfl

/-- The gradient of the norm's argument. -/
theorem dxn_at (y : S4096x1024.Idx) : val_main_v59 (F := Ideal) (rows x) (line gn) (line sc) (win wi) (parts dp) y = (dxn x gn sc wi dp (y 0) (y 1) : EReal) := by
  rw [val_main_v59_apply, val_main_v58_apply, val_main_v57_apply, val_main_v56_apply, val_main_v50_apply, val_main_v49_apply,
    rs_at, dxh_at, back_at]
  simp only [Ideal.mulf_def, Ideal.addf_def, ← EReal.coe_mul, ← EReal.coe_add]
  congr 1
  change dxh gn sc wi dp (y 0) (y 1) * rs x (y 0) + x (y 0) (y 1) * back x gn sc wi dp (y 0) + back x gn sc wi dp (y 0) * x (y 0) (y 1)
    = dxn x gn sc wi dp (y 0) (y 1)
  generalize (y 0 : Fin 4096) = t
  generalize (y 1 : Fin 1024) = i
  have h := ms_pos x t
  have e := rs_sq x t
  unfold dxn back
  have s1 : ∑ k, dxh gn sc wi dp t k * (x t k * rs x t) = (∑ i, x t i * dxh gn sc wi dp t i) * rs x t := by
    rw [Finset.sum_mul]
    exact Finset.sum_congr rfl fun k _ => by ring
  rw [s1]
  generalize ∑ i, x t i * dxh gn sc wi dp t i = S
  have e2 : rs x t / ms x t = rs x t * rs x t * rs x t := by
    rw [div_eq_iff h.ne']
    linear_combination (-rs x t) * e
  rw [e2]
  ring

end Cert.Proof.ConfBackRef
-- ==== Proof.ConfBackClaim.lean ====
/- The last backward kernel of the convolution mixer leaves what the reference computes, for arguments that are numbers. -/
module

public import proofs.«01_k».proof.Defs
public import proofs.«01_k».proof.Proof.ConfBack
public import proofs.«01_k».proof.Proof.ConfBackRef
public import proofs.«01_k».proof.Proof.FfnClaim
public import proofs.«01_k».proof.Proof.Gen.Reference12Ideal.Run

@[expose] public section

set_option maxRecDepth 16384

noncomputable section

namespace Cert.Proof.ConfBack

open Idealize.ShloMosaic Idealize.ShloMosaic.TcCoe Idealize.ShloMosaic.Tactic Idealize.SL.Sem
open Cert.Proof.ConfBackRef
open Cert.Proof.Ffn (finite_of inf_bits)

/-- The shape relations the precondition's program states. -/
theorem preFacts : Cert.Pre_finite12.Facts :=
  ⟨by decide, by decide, by decide, by decide, by decide⟩

section

open Cert.Kernel12Ideal Cert.Kernel12Ideal.Gen

/-- The kernel's run: its four results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = (dats m 0 c).arrAt 6 cfg0.N
      ∧ r.2.mem ((c.tc : Thread nD τ).loc main_v7) = fin m c main_v7
      ∧ r.2.mem ((c.tc : Thread nD τ).loc main_v8) = fin m c main_v8
      ∧ r.2.mem ((c.tc : Thread nD τ).loc main_v3) = fin m c main_v3) :=
  (θ_run _ _ _).mono (fun r h c => ⟨(h c).1 6,
      (h c).2 main_v7 (Pipeline.mem_restRefs_of main_v7 (by decide) (by decide)),
      (h c).2 main_v8 (Pipeline.mem_restRefs_of main_v8 (by decide) (by decide)),
      (h c).2 main_v3 (Pipeline.mem_restRefs_of main_v3 (by decide) (by decide))⟩) (run_main m ρ)

end

attribute [local instance] Cert.Kernel12Ideal.Gen.facts Cert.Reference12Ideal.Gen.facts preFacts

section

open Cert.Kernel12Ideal Cert.Kernel12Ideal.Gen

variable (m : (ℓ : Loc nD τ sig) → Buf (Elt Ideal) ℓ) (c : Dev nD)

/-- The arguments as arrays of reals. -/
def xR (t : Fin 4096) (i : Fin 1024) : ℝ := ((m ((c : Thread nD τ).loc main_arg0) : Vec Ideal S4096x1024 .f32) (ix2 t i)).toReal
def gnR (i : Fin 1024) : ℝ := ((m ((c : Thread nD τ).loc main_arg1) : Vec Ideal S1x1024 .f32) (ix2 0 i)).toReal
def scR (i : Fin 1024) : ℝ := ((m ((c : Thread nD τ).loc main_arg2) : Vec Ideal S1x1024 .f32) (ix2 0 i)).toReal
def wiR (i : Fin 1024) (f : Fin 2048) : ℝ := ((m ((c : Thread nD τ).loc main_arg4) : Vec Ideal S1024x2048 .f32) (ix2 i f)).toReal
def dpR (p : Fin 2) (t : Fin 4096) (l : Fin 1024) : ℝ := ((m ((c : Thread nD τ).loc main_arg5) : Vec Ideal S2x4096x1024 .bf16) (ix3 p t l)).toReal

variable (hpre : Cert.Pre_Kernel12Ideal_finite12 m)

include hpre in
theorem arg0_real : m ((c : Thread nD τ).loc main_arg0) = rows (xR m c) := by
  funext y
  idx_vars y
  exact finite_of _ _ (fun _ => inf_bits) (hpre c).1 _

include hpre in
theorem arg1_real : m ((c : Thread nD τ).loc main_arg1) = line (gnR m c) := by
  funext y
  idx_vars y
  obtain rfl : y0 = 0 := Fin.fin_one_eq_zero y0
  exact finite_of _ _ (fun _ => inf_bits) (hpre c).2.1 _

include hpre in
theorem arg2_real : m ((c : Thread nD τ).loc main_arg2) = line (scR m c) := by
  funext y
  idx_vars y
  obtain rfl : y0 = 0 := Fin.fin_one_eq_zero y0
  exact finite_of _ _ (fun _ => inf_bits) (hpre c).2.2.1 _

include hpre in
theorem arg4_real : m ((c : Thread nD τ).loc main_arg4) = win (wiR m c) := by
  funext y
  idx_vars y
  exact finite_of _ _ (fun _ => inf_bits) (hpre c).2.2.2.1 _

include hpre in
theorem arg5_real : m ((c : Thread nD τ).loc main_arg5) = parts (dpR m c) := by
  funext y
  idx_vars y
  exact finite_of (s := S2x4096x1024) (m ((c : Thread nD τ).loc main_arg5)) _ (fun _ => inf_bits) (hpre c).2.2.2.2 (ix3 y0 y1 y2)

end

/-- On the extended reals the kernel's arrays are the reference's results, the arguments being numbers. -/
theorem algebraic : Cert.algebraic_Kernel12Ideal_Reference12Ideal_pre_finite12 (hKernel12Ideal := Cert.Kernel12Ideal.Gen.facts)
    (hReference12Ideal := Cert.Reference12Ideal.Gen.facts) (hPre_finite12 := preFacts) := by
  intro m g m' g' hpre hagree
  refine ⟨_, _, _, _, (θ_run _ _ _).mono (fun r h c => ⟨(h.1 c).1, (h.1 c).2.1, (h.1 c).2.2.1, (h.1 c).2.2.2, h.2 c⟩)
    (θ_run_and (run m g) (Cert.Kernel12Ideal.Gen.unchanged m g)), ?_⟩
  refine (θ_run _ _ _).mono (fun r h c => ?_) (Cert.Reference12Ideal.Value.run m' g')
  obtain ⟨r0, r1, r2, r3, ra⟩ := h c
  obtain ⟨a0, a1, a2, a3, a4, a5, a6⟩ := hagree c
  have e0 := a0.trans (arg0_real m c hpre)
  have e1 := a1.trans (arg1_real m c hpre)
  have e2 := a2.trans (arg2_real m c hpre)
  have e4 := a4.trans (arg4_real m c hpre)
  have e5 := a5.trans (arg5_real m c hpre)
  have k0 := fun t i => congrFun (arg0_real m c hpre) (ix2 t i)
  have k1 := fun i => congrFun (arg1_real m c hpre) (ix2 0 i)
  have k2 := fun i => congrFun (arg2_real m c hpre) (ix2 0 i)
  have k4 := fun i f => congrFun (arg4_real m c hpre) (ix2 i f)
  have k5 := fun p t l => congrFun (arg5_real m c hpre) (ix3 p t l)
  refine ⟨r0.trans ?_, r1.trans ?_, r2.trans ?_, r3.trans ?_, ra⟩
  · rw [Cert.Reference12Ideal.Read.val_main_v60_eq, e0, e1, e2, e4, e5, a6]
    refine Eq.trans ?_ (dxin_array (xR m c) (gnR m c) (scR m c) (wiR m c) (dpR m c) m c k0 k1 k2 k4 k5).symm
    funext y
    change Cert.Reference12Ideal.S4096x1024.Idx at y
    idx_vars y
    rw [Cert.Reference12Ideal.Read.val_main_v60_apply, dxn_at]
    rfl
  · rw [Cert.Reference12Ideal.Read.val_main_v43_eq, e0, e2, e4, e5]
    funext y
    change Cert.Reference12Ideal.S1x1024.Idx at y
    idx_vars y
    obtain rfl : y0 = 0 := Fin.fin_one_eq_zero y0
    exact (dgn_at (xR m c) (scR m c) (wiR m c) (dpR m c) y1).trans (dgn_fin (xR m c) (scR m c) (wiR m c) (dpR m c) m c k0 k2 k4 k5 y1).symm
  · rw [Cert.Reference12Ideal.Read.val_main_v38_eq, e0, e1, e4, e5]
    funext y
    change Cert.Reference12Ideal.S1x1024.Idx at y
    idx_vars y
    obtain rfl : y0 = 0 := Fin.fin_one_eq_zero y0
    exact (dsc_at (xR m c) (gnR m c) (wiR m c) (dpR m c) y1).trans (dsc_fin (xR m c) (gnR m c) (wiR m c) (dpR m c) m c k0 k1 k4 k5 y1).symm
  · rw [Cert.Reference12Ideal.Read.val_main_v35_eq, e4, e5]
    funext y
    change Cert.Reference12Ideal.S1x1024.Idx at y
    idx_vars y
    obtain rfl : y0 = 0 := Fin.fin_one_eq_zero y0
    exact (dsh_at (wiR m c) (dpR m c) y1).trans (dsh_fin (wiR m c) (dpR m c) m c k4 k5 y1).symm

end Cert.Proof.ConfBack
-- ==== Proof.ConfSpec.lean ====
/- The forward pass of a conformer-convolution layer, as plain functions of its arrays: the two parts of the first pointwise product,
   the gated sequence, its convolution of 31 taps, the layer norm with the activation, the second product and the layer's result. -/
module

public import proofs.«01_k».proof.Proof.MixSpec

@[expose] public section

noncomputable section

namespace Cert.Proof.Conf

open Idealize.ShloMosaic Idealize.ShloMosaic.TcCoe Idealize.ShloMosaic.Tactic

variable (x : (⟨2, ![4096, 1024]⟩ : Shape).Idx → EReal) (gn sc sh g : (⟨2, ![1, 1024]⟩ : Shape).Idx → EReal)
  (wi : (⟨2, ![1024, 2048]⟩ : Shape).Idx → EReal) (bi : (⟨2, ![1, 2048]⟩ : Shape).Idx → EReal)
  (w : (⟨2, ![31, 1024]⟩ : Shape).Idx → EReal) (cb lg lb bo : (⟨2, ![1, 1024]⟩ : Shape).Idx → EReal)
  (wo : (⟨2, ![1024, 1024]⟩ : Shape).Idx → EReal) (p : (⟨3, ![2, 4096, 1024]⟩ : Shape).Idx → EReal)

/-- Part `j` of the first product. -/
def projE (j : Fin 2) (t : Fin 4096) (l : Fin 1024) : EReal :=
  ∑ i, Mix.hidE x gn sc sh t i * wi (ix2 i ⟨j.val * 1024 + l.val, by omega⟩) + bi (ix2 0 ⟨j.val * 1024 + l.val, by omega⟩)

/-- The gated sequence, with thirty zeros in front. -/
def seqE (n : ℕ) (l : Fin 1024) : EReal :=
  if h : 30 ≤ n ∧ n < 4126 then p (ix3 0 ⟨n - 30, by omega⟩ l) * Ideal.logistic (p (ix3 1 ⟨n - 30, by omega⟩ l)) else 0

/-- The convolution with its bias. -/
def convE (t : Fin 4096) (l : Fin 1024) : EReal := cb (ix2 0 l) + ∑ k : Fin 31, w (ix2 k l) * seqE p (t.val + k.val) l

/-- A row's mean, and its mean squared distance from it. -/
def meanE (v : Fin 1024 → EReal) : EReal := Ideal.div (∑ k, v k) (Ideal.ofBits FTy.f32 1149239296#32)
def varE (v : Fin 1024 → EReal) : EReal :=
  Ideal.div (∑ k, (v k - meanE v) * (v k - meanE v)) (Ideal.ofBits FTy.f32 1149239296#32)

/-- The layer norm of a row, and the activation of it. -/
def normE (v : Fin 1024 → EReal) (i : Fin 1024) : EReal :=
  (v i - meanE v) * Ideal.rsqrt (varE v + Ideal.ofBits FTy.f32 897988541#32) * lg (ix2 0 i) + lb (ix2 0 i)
def actE (v : Fin 1024 → EReal) (i : Fin 1024) : EReal := normE lg lb v i * Ideal.logistic (normE lg lb v i)

/-- The layer's result. -/
def midE (v : (⟨2, ![4096, 1024]⟩ : Shape).Idx → EReal) (t : Fin 4096) (d : Fin 1024) : EReal :=
  x (ix2 t d) + g (ix2 0 d) * (∑ l, actE lg lb (fun i => v (ix2 t i)) l * wo (ix2 l d) + bo (ix2 0 d))

/-- A sum of thirty-one terms, written out from the first. -/
theorem sum_first (f : Fin 31 → EReal) : 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ k, f k := by
  simp only [Fin.sum_univ_castSucc, Fin.sum_univ_zero]
  rfl

/-- A sum of thirty-one terms written out behind a summand, the last term first. -/
theorem sum_last (f : Fin 31 → EReal) (b : EReal) :
    b + f 30 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 = b + ∑ k, f k := by
  rw [← sum_first f]
  generalize f 30 = z
  rw [zero_add]
  simp only [← add_assoc]
  repeat rw [add_right_comm _ z _]

end Cert.Proof.Conf
-- ==== Proof.ConfIn.lean ====
/- The first call of the conformer-convolution layer: the normalised rows and the two parts of the first product. -/
module

public import proofs.«01_k».proof.Proof.Gen.Kernel15Ideal.Frame
public import proofs.«01_k».proof.Proof.ConfSpec

@[expose] public section

set_option maxRecDepth 16384

noncomputable section

namespace Cert.Proof.Conf

open Cert.Kernel15Ideal Cert.Kernel15Ideal.Gen Idealize.ShloMosaic Idealize.ShloMosaic.TcCoe Idealize.ShloMosaic.Tactic
open Idealize.SL.Sem
open Idealize.ShloMosaic.Pipeline (Dat)

/-- A row of the first output. -/
theorem hid_row (x : Vec Ideal S4096x1024 .f32) (gn sc sh : Vec Ideal S1x1024 .f32)
    (v0 : Vec Ideal S512x1024 .f32) (v1 v2 v3 : Vec Ideal S1x1024 .f32) (q : Fin 512) (t : Fin 4096)
    (h0 : ∀ i, v0 (ix2 q i) = x (ix2 t i)) (h1 : ∀ i, v1 (ix2 0 i) = gn (ix2 0 i))
    (h2 : ∀ i, v2 (ix2 0 i) = sc (ix2 0 i)) (h3 : ∀ i, v3 (ix2 0 i) = sh (ix2 0 i)) (i : Fin 1024) :
    k0_pay3 (F := Ideal) v0 v1 v2 v3 (ix2 q i) = Mix.hidE x gn sc sh t i := by
  pointwise [k0_pay3]
  simp only [h0, h1, h2, h3]
  rfl

theorem part0_pay (v0 : Vec Ideal S512x1024 .f32) (v1 v2 v3 : Vec Ideal S1x1024 .f32) (u : Vec Ideal S1x1024x1024 .bf16)
    (b : Vec Ideal S1x2048 .f32) (q : Fin 512) (l : Fin 1024) :
    k0_pay1 (F := Ideal) (k0_pay4 (F := Ideal) v0 v1 v2 v3 u) (k0_pay6 (F := Ideal) b) (ix3 0 q l)
      = ∑ i, k0_pay3 (F := Ideal) v0 v1 v2 v3 (ix2 q i) * u (ix3 0 i l) + b (ix2 0 ⟨0 * 1024 + l.val, by omega⟩) := by
  pointwise [k0_pay1, k0_pay4, k0_pay6]

theorem part1_pay (v0 : Vec Ideal S512x1024 .f32) (v1 v2 v3 : Vec Ideal S1x1024 .f32) (u : Vec Ideal S1x1024x1024 .bf16)
    (b : Vec Ideal S1x2048 .f32) (q : Fin 512) (l : Fin 1024) :
    k0_pay2 (F := Ideal) (k0_pay5 (F := Ideal) v0 v1 v2 v3 u) b (ix3 0 q l)
      = ∑ i, k0_pay3 (F := Ideal) v0 v1 v2 v3 (ix2 q i) * u (ix3 0 i l) + b (ix2 0 ⟨1 * 1024 + l.val, by omega⟩) := by
  pointwise [k0_pay2, k0_pay5]

variable (V : (c : Dev nD) → (b : Ref sig .tc) → Buf (Elt Ideal) ((c : Thread nD τ).loc b)) (c : Dev nD)

theorem in_x (t : Fin cfg0.N) (q : Fin 512) (i : Fin 1024) (T : Fin 4096) (hT : T.val = t.val * 512 + q.val) :
    (View.ld (iblk0 V c 0 t) r0_0 : Vec Ideal S512x1024 .f32) (ix2 q i) = (V c main_arg0 : Vec Ideal S4096x1024 .f32) (ix2 T i) := by
  have hi : ∀ t : Fin cfg0.N, (cfg0.win 0).index t = ![t.val, 0] := by decide +kernel
  blk_ext [iblk0, hi t, hT, View.ld, LoadRect.idx_apply]
  all_goals simp [Rect.unit]

theorem in_gn (t : Fin cfg0.N) (i : Fin 1024) :
    (View.ld (iblk0 V c 1 t) r0_1 : Vec Ideal S1x1024 .f32) (ix2 0 i) = (V c main_arg1 : Vec Ideal S1x1024 .f32) (ix2 0 i) := by
  have hi : ∀ t : Fin cfg0.N, (cfg0.win 1).index t = ![0, 0] := by decide +kernel
  blk_ext [iblk0, hi t, View.ld, LoadRect.idx_apply]
  all_goals simp [Rect.unit]

theorem in_sc (t : Fin cfg0.N) (i : Fin 1024) :
    (View.ld (iblk0 V c 2 t) r0_1 : Vec Ideal S1x1024 .f32) (ix2 0 i) = (V c main_arg2 : Vec Ideal S1x1024 .f32) (ix2 0 i) := by
  have hi : ∀ t : Fin cfg0.N, (cfg0.win 2).index t = ![0, 0] := by decide +kernel
  blk_ext [iblk0, hi t, View.ld, LoadRect.idx_apply]
  all_goals simp [Rect.unit]

theorem in_sh (t : Fin cfg0.N) (i : Fin 1024) :
    (View.ld (iblk0 V c 3 t) r0_1 : Vec Ideal S1x1024 .f32) (ix2 0 i) = (V c main_arg3 : Vec Ideal S1x1024 .f32) (ix2 0 i) := by
  have hi : ∀ t : Fin cfg0.N, (cfg0.win 3).index t = ![0, 0] := by decide +kernel
  blk_ext [iblk0, hi t, View.ld, LoadRect.idx_apply]
  all_goals simp [Rect.unit]

theorem in_w0 (t : Fin cfg0.N) (i l : Fin 1024) :
    (View.ld (iblk0 V c 4 t) r0_2 : Vec Ideal S1x1024x1024 .bf16) (ix3 0 i l) = (V c main_v1 : Vec Ideal S1x1024x2048 .bf16) (ix3 0 i ⟨0 * 1024 + l.val, by omega⟩) := by
  have hi : ∀ t : Fin cfg0.N, (cfg0.win 4).index t = ![0, 0, 0] := by decide +kernel
  blk_ext [iblk0, hi t, View.ld, LoadRect.idx_apply]
  all_goals simp [Rect.unit]

theorem in_w1 (t : Fin cfg0.N) (i l : Fin 1024) :
    (View.ld (iblk0 V c 4 t) r0_3 : Vec Ideal S1x1024x1024 .bf16) (ix3 0 i l) = (V c main_v1 : Vec Ideal S1x1024x2048 .bf16) (ix3 0 i ⟨1 * 1024 + l.val, by omega⟩) := by
  have hi : ∀ t : Fin cfg0.N, (cfg0.win 4).index t = ![0, 0, 0] := by decide +kernel
  blk_ext [iblk0, hi t, View.ld, LoadRect.idx_apply]
  all_goals simp [Rect.unit]

theorem in_b (t : Fin cfg0.N) (f : Fin 2048) :
    (View.ld (iblk0 V c 5 t) r0_4 : Vec Ideal S1x2048 .f32) (ix2 0 f) = (V c main_arg6 : Vec Ideal S1x2048 .f32) (ix2 0 f) := by
  have hi : ∀ t : Fin cfg0.N, (cfg0.win 5).index t = ![0, 0] := by decide +kernel
  blk_ext [iblk0, hi t, View.ld, LoadRect.idx_apply]
  all_goals simp [Rect.unit]

/-- The two parts of the first product, after the first call: the weight's array is `wi` with a leading one. -/
theorem proj_array (wi : (⟨2, ![1024, 2048]⟩ : Shape).Idx → EReal)
    (hwi : ∀ i f, (V c main_v1 : Vec Ideal S1x1024x2048 .bf16) (ix3 0 i f) = wi (ix2 i f)) :
    (dat0 V c).arrAt 7 cfg0.N = fun y : S2x4096x1024.Idx =>
      projE (V c main_arg0) (V c main_arg1) (V c main_arg2) (V c main_arg3) wi (V c main_arg6) (y 0) (y 1) (y 2) := by
  refine (dat0 V c).arrAt_eq_of_covers 7 _ (by decide +kernel) fun t hf y => ?_
  blk_simp
  rw [after0_7]
  have hi : ∀ t : Fin cfg0.N, (cfg0.win 7).index t = ![0, t.val, 0] := by decide +kernel
  have h0 : (((cfg0.win 7).blk t).view.emb y 0 : ℕ) = (y 0).val := by blk_simp [hi t]
  have h1 : (((cfg0.win 7).blk t).view.emb y 1 : ℕ) = t.val * 512 + (y 1).val := by blk_simp [hi t]
  have h2 : (((cfg0.win 7).blk t).view.emb y 2 : ℕ) = (y 2).val := by blk_simp [hi t]
  have hN : t.val < 8 := t.isLt
  have hrow : ∀ (q : Fin 512) (i : Fin 1024), k0_pay3 (F := Ideal) (View.ld (iblk0 V c 0 t) r0_0) (View.ld (iblk0 V c 1 t) r0_1)
      (View.ld (iblk0 V c 2 t) r0_1) (View.ld (iblk0 V c 3 t) r0_1) (ix2 q i)
        = Mix.hidE (V c main_arg0) (V c main_arg1) (V c main_arg2) (V c main_arg3) ⟨t.val * 512 + q.val, by omega⟩ i := fun q i =>
    hid_row _ _ _ _ _ _ _ _ q ⟨t.val * 512 + q.val, by omega⟩ (fun i => in_x V c t q i _ rfl)
      (fun i => in_gn V c t i) (fun i => in_sc V c t i) (fun i => in_sh V c t i) i
  change S2x512x1024.Idx at y
  refine Eq.trans (b := projE (V c main_arg0) (V c main_arg1) (V c main_arg2) (V c main_arg3) wi (V c main_arg6) (y 0) ⟨t.val * 512 + (y 1).val, by have : (y 1).val < 512 := (y 1).isLt; omega⟩ (y 2)) ?_ ?_
  · refine View.canon_apply_of_pieces (Val := Elt Ideal) (fun y : S2x512x1024.Idx => projE (V c main_arg0) (V c main_arg1) (V c main_arg2) (V c main_arg3) wi (V c main_arg6) (y 0)
      ⟨t.val * 512 + (y 1).val, by have : (y 1).val < 512 := (y 1).isLt; omega⟩ (y 2)) _ ?_ y (cover0_7 _ _ y)
    intro pc hpc z
    simp only [List.mem_cons, List.not_mem_nil, or_false] at hpc
    rcases hpc with rfl | rfl
    · have hz := fun a => Rect.emb_apply r0_6 z a
      change S1x512x1024.Idx at z
      dsimp only
      generalize r0_6.emb z = y at hz ⊢
      idx_vars z; idx_vars y
      have e0 : y0.val = 1 + 1 * z0.val := hz 0
      have e1 : y1.val = 0 + 1 * z1.val := hz 1
      have e2 : y2.val = 0 + 1 * z2.val := hz 2
      obtain rfl : z0 = 0 := Fin.ext (by omega)
      obtain rfl : y0 = 1 := Fin.ext (by simp only [e0]; omega)
      obtain rfl : y1 = z1 := Fin.ext (by omega)
      obtain rfl : y2 = z2 := Fin.ext (by omega)
      rw [part1_pay]
      exact congrArg₂ (· + ·) (Finset.sum_congr rfl fun i _ => congrArg₂ _ (hrow y1 i) ((in_w1 V c t i y2).trans (hwi i _))) (in_b V c t _)
    · have hz := fun a => Rect.emb_apply r0_5 z a
      change S1x512x1024.Idx at z
      dsimp only
      generalize r0_5.emb z = y at hz ⊢
      idx_vars z; idx_vars y
      have e0 : y0.val = 0 + 1 * z0.val := hz 0
      have e1 : y1.val = 0 + 1 * z1.val := hz 1
      have e2 : y2.val = 0 + 1 * z2.val := hz 2
      obtain rfl : z0 = 0 := Fin.ext (by omega)
      obtain rfl : y0 = 0 := Fin.ext (by simp only [e0]; omega)
      obtain rfl : y1 = z1 := Fin.ext (by omega)
      obtain rfl : y2 = z2 := Fin.ext (by omega)
      rw [part0_pay]
      exact congrArg₂ (· + ·) (Finset.sum_congr rfl fun i _ => congrArg₂ _ (hrow y1 i) ((in_w0 V c t i y2).trans (hwi i _))) (in_b V c t _)
  · have e0 := Fin.ext (a := ((cfg0.win 7).blk t).view.emb y 0) (b := y 0) h0
    have e1 := Fin.ext (a := ((cfg0.win 7).blk t).view.emb y 1) (b := ⟨t.val * 512 + (y 1).val, by have : (y 1).val < 512 := (y 1).isLt; omega⟩) h1
    have e2 := Fin.ext (a := ((cfg0.win 7).blk t).view.emb y 2) (b := y 2) h2
    rw [e0, e1, e2]
    rfl

end Cert.Proof.Conf
-- ==== Proof.ConfStrip.lean ====
/- The second call of the conformer-convolution layer: the strip kernel that gates and filters. -/
module

public import proofs.«01_k».proof.Proof.Gen.Kernel15Ideal.Frame
public import proofs.«01_k».proof.Proof.ConfSpec

@[expose] public section

set_option maxRecDepth 16384

noncomputable section

namespace Cert.Proof.Conf

open Cert.Kernel15Ideal Cert.Kernel15Ideal.Gen Idealize.ShloMosaic Idealize.ShloMosaic.TcCoe Idealize.ShloMosaic.Tactic
open Idealize.SL.Sem
open Idealize.ShloMosaic.Pipeline (Dat)

/-- The filtered value at row `t` of a padded strip `q` (thirty-two rows of padding in front). -/
def vAt (w : Vec Ideal S31x128 .f32) (b : Vec Ideal S1x128 .f32) (q : Vec Ideal S4128x128 .f32) (t : Fin 4096) (l : Fin 128) : EReal :=
  b (ix2 0 l) + ∑ k : Fin 31, w (ix2 k l) * q (ix2 ⟨t.val + (2 + k.val), by omega⟩ l)

theorem s_off1 : ∀ k : Fin k1_t1_loop.trips, ∀ r : Fin 31, k1_off1 k (BitVec.ofNat 32 (2 + r.val)) = ![64 * k.val + (2 + r.val), 0] := by
  decide +kernel
theorem s_off2 : ∀ k : Fin k1_t1_loop.trips, k1_off2 k = ![64 * k.val, 0] := by decide +kernel
theorem s_trips : k1_t1_loop.trips = 64 := by decide +kernel

section

variable (𝒱 : Variants) (c : Dev nD) (bd : Option 𝒱.V) (i : grid1.Coords)
  (arg1 : Memref sig .tc .vmem S1x4096x128 .bf16) (harg1 : arg1.IsWhole)
  (arg2 : Memref sig .tc .vmem S1x4096x128 .bf16) (harg2 : arg2.IsWhole)
  (arg3 : Memref sig .tc .vmem S31x128 .f32) (harg3 : arg3.IsWhole)
  (arg4 : Memref sig .tc .vmem S1x128 .f32) (harg4 : arg4.IsWhole)
  (arg5 : Memref sig .tc .vmem S4096x128 .f32) (harg5 : arg5.IsWhole)
  (arg6 : Memref sig .tc .vmem S4128x128 .f32) (harg6 : arg6.IsWhole)
  (X3 : BufTy.Contents (Elt Ideal) arg3.view.ty) (X4 : BufTy.Contents (Elt Ideal) arg4.view.ty)
  (X6 : BufTy.Contents (Elt Ideal) arg6.view.ty)

/-- The piece that a trip stores holds, at each of its places, the filtered value. -/
theorem s_trip (k : Fin k1_t1_loop.trips) :
    ∀ pc ∈ tripL_k1_t1 (F := Ideal) 𝒱 c bd i arg1 harg1 arg2 harg2 arg3 harg3 arg4 harg4 arg5 harg5 arg6 harg6 X3 X4 X6 k,
      ∀ x : pc.1.shape.Idx, pc.2 x = vAt (View.read (Elt Ideal) arg3.view X3) (View.read (Elt Ideal) arg4.view X4)
        (View.read (Elt Ideal) arg6.view X6) (pc.1.emb x 0) (pc.1.emb x 1) := by
  have hk : k.val < 64 := s_trips ▸ k.isLt
  have e2 := s_off2 k
  have o0 : k1_off1 k 2#32 = ![64 * k.val + 2, 0] := s_off1 k 0
  have o1 : k1_off1 k 3#32 = ![64 * k.val + 3, 0] := s_off1 k 1
  have o2 : k1_off1 k 4#32 = ![64 * k.val + 4, 0] := s_off1 k 2
  have o3 : k1_off1 k 5#32 = ![64 * k.val + 5, 0] := s_off1 k 3
  have o4 : k1_off1 k 6#32 = ![64 * k.val + 6, 0] := s_off1 k 4
  have o5 : k1_off1 k 7#32 = ![64 * k.val + 7, 0] := s_off1 k 5
  have o6 : k1_off1 k 8#32 = ![64 * k.val + 8, 0] := s_off1 k 6
  have o7 : k1_off1 k 9#32 = ![64 * k.val + 9, 0] := s_off1 k 7
  have o8 : k1_off1 k 10#32 = ![64 * k.val + 10, 0] := s_off1 k 8
  have o9 : k1_off1 k 11#32 = ![64 * k.val + 11, 0] := s_off1 k 9
  have o10 : k1_off1 k 12#32 = ![64 * k.val + 12, 0] := s_off1 k 10
  have o11 : k1_off1 k 13#32 = ![64 * k.val + 13, 0] := s_off1 k 11
  have o12 : k1_off1 k 14#32 = ![64 * k.val + 14, 0] := s_off1 k 12
  have o13 : k1_off1 k 15#32 = ![64 * k.val + 15, 0] := s_off1 k 13
  have o14 : k1_off1 k 16#32 = ![64 * k.val + 16, 0] := s_off1 k 14
  have o15 : k1_off1 k 17#32 = ![64 * k.val + 17, 0] := s_off1 k 15
  have o16 : k1_off1 k 18#32 = ![64 * k.val + 18, 0] := s_off1 k 16
  have o17 : k1_off1 k 19#32 = ![64 * k.val + 19, 0] := s_off1 k 17
  have o18 : k1_off1 k 20#32 = ![64 * k.val + 20, 0] := s_off1 k 18
  have o19 : k1_off1 k 21#32 = ![64 * k.val + 21, 0] := s_off1 k 19
  have o20 : k1_off1 k 22#32 = ![64 * k.val + 22, 0] := s_off1 k 20
  have o21 : k1_off1 k 23#32 = ![64 * k.val + 23, 0] := s_off1 k 21
  have o22 : k1_off1 k 24#32 = ![64 * k.val + 24, 0] := s_off1 k 22
  have o23 : k1_off1 k 25#32 = ![64 * k.val + 25, 0] := s_off1 k 23
  have o24 : k1_off1 k 26#32 = ![64 * k.val + 26, 0] := s_off1 k 24
  have o25 : k1_off1 k 27#32 = ![64 * k.val + 27, 0] := s_off1 k 25
  have o26 : k1_off1 k 28#32 = ![64 * k.val + 28, 0] := s_off1 k 26
  have o27 : k1_off1 k 29#32 = ![64 * k.val + 29, 0] := s_off1 k 27
  have o28 : k1_off1 k 30#32 = ![64 * k.val + 30, 0] := s_off1 k 28
  have o29 : k1_off1 k 31#32 = ![64 * k.val + 31, 0] := s_off1 k 29
  have o30 : k1_off1 k 32#32 = ![64 * k.val + 32, 0] := s_off1 k 30
  unfold tripL_k1_t1 trip_k1_t1
  try dsimp only
  sl_unfold_run_names
  try dsimp only
  simp only [View.readAt_eq_ld]
  generalize View.read (Elt Ideal) arg3.view X3 = w
  generalize View.read (Elt Ideal) arg4.view X4 = b
  generalize View.read (Elt Ideal) arg6.view X6 = q
  intro pc hpc x
  have hx := fun a => Rect.emb_apply pc.1 x a
  rcases List.mem_cons.mp hpc with rfl | hpc
  · change (⟨2, ![64, 128]⟩ : Shape).Idx at x
    dsimp only at hx ⊢
    generalize (Rect.unit (s := S4096x128) (k1_off2 k) ![64, 128] _).emb x = y at hx ⊢
    idx_vars y
    have hx0 : (x 0).val < 64 := (x 0).isLt
    have hb : 64 * k.val + (x 0).val < 4096 := by omega
    have h0 : y0.val = k1_off2 k 0 + 1 * (x 0).val := hx 0
    have h1 : y1.val = k1_off2 k 1 + 1 * (x 1).val := hx 1
    simp only [e2, Matrix.cons_val] at h0 h1
    obtain rfl : y0 = ⟨64 * k.val + (x 0).val, hb⟩ := Fin.ext (by simpa using h0)
    obtain rfl : y1 = x 1 := Fin.ext (by simpa using h1)
    pointwise [k1_pay3, k1_pay4, k1_pay5, k1_pay6, k1_pay7, k1_pay8]
    simp only [vAt]
    rw [← sum_last]
    blk_point [o0, o1, o2, o3, o4, o5, o6, o7, o8, o9, o10, o11, o12, o13, o14, o15, o16, o17, o18, o19, o20, o21, o22, o23, o24, o25, o26, o27, o28, o29, o30, Matrix.cons_val]
  exact absurd hpc List.not_mem_nil

/-- So does every piece stored in the first `k` trips. -/
theorem s_pieces (k : ℕ) (hk : k ≤ k1_t1_loop.trips) :
    ∀ pc ∈ pb_k1_t1 (F := Ideal) 𝒱 c bd i arg1 harg1 arg2 harg2 arg3 harg3 arg4 harg4 arg5 harg5 arg6 harg6 X3 X4 X6 k,
      ∀ x : pc.1.shape.Idx, pc.2 x = vAt (View.read (Elt Ideal) arg3.view X3) (View.read (Elt Ideal) arg4.view X4)
        (View.read (Elt Ideal) arg6.view X6) (pc.1.emb x 0) (pc.1.emb x 1) := by
  induction k with
  | zero => exact fun pc hpc => absurd hpc List.not_mem_nil
  | succ n ih =>
    intro pc hpc
    rw [pb_k1_t1_succ (k := ⟨n, hk⟩)] at hpc
    rcases List.mem_append.mp hpc with h | h
    · exact s_trip 𝒱 c bd i arg1 harg1 arg2 harg2 arg3 harg3 arg4 harg4 arg5 harg5 arg6 harg6 X3 X4 X6 ⟨n, hk⟩ pc h
    · exact ih (by omega) pc h

/-- Row `n` of the gated sequence, thirty-two rows of zeros in front of it. -/
def sRow (gc hv : Vec Ideal S1x4096x128 .bf16) (n : ℕ) (hn : n < 4128) (l : Fin 128) : EReal :=
  if h : 32 ≤ n then gc (ix3 0 ⟨n - 32, by omega⟩ l) * Ideal.logistic (hv (ix3 0 ⟨n - 32, by omega⟩ l)) else 0

/-- The gated sequence, thirty-two rows of zeros in front of it. -/
def sPad (gc hv : Vec Ideal S1x4096x128 .bf16) : Vec Ideal S4128x128 .f32 := fun y => sRow gc hv (y 0).val (y 0).isLt (y 1)

/-- The padded strip, as its two stores leave it. -/
theorem s_canon (gc hv : Vec Ideal S1x4096x128 .bf16) :
    View.canon (Val := Elt Ideal) (s := S4128x128) (e := .f32)
      [⟨Rect.unit ![32, 0] ![4096, 128] inb_S4128x128_S4096x128_32_0,
          k1_pay2 (F := Ideal) (View.ld gc (Rect.unit ![0, 0, 0] ![1, 4096, 128] inb_S1x4096x128_S1x4096x128_0_0_0))
            (View.ld hv (Rect.unit ![0, 0, 0] ![1, 4096, 128] inb_S1x4096x128_S1x4096x128_0_0_0))⟩,
        ⟨Rect.unit ![0, 0] ![32, 128] inb_S4128x128_S32x128_0_0, k1_pay1 (F := Ideal)⟩] = sPad gc hv := by
  funext y
  refine View.canon_apply_of_pieces (sPad gc hv) _ ?_ y ?_
  · intro pc hpc x
    simp only [List.mem_cons, List.not_mem_nil, or_false] at hpc
    rcases hpc with rfl | rfl
    · have hx := fun a => Rect.emb_apply (Rect.unit (s := S4128x128) ![32, 0] ![4096, 128] inb_S4128x128_S4096x128_32_0) x a
      change (⟨2, ![4096, 128]⟩ : Shape).Idx at x
      generalize (Rect.unit (s := S4128x128) ![32, 0] ![4096, 128] inb_S4128x128_S4096x128_32_0).emb x = y at hx ⊢
      idx_vars x; idx_vars y
      have h0 : y0.val = 32 + 1 * x0.val := hx 0
      have h1 : y1.val = 0 + 1 * x1.val := hx 1
      obtain rfl : y1 = x1 := Fin.ext (by omega)
      pointwise [k1_pay2]
      unfold sPad sRow
      have hc : ((ix2 y0 y1 : S4128x128.Idx) 0).val = y0.val := rfl
      rw [dif_pos (by omega)]
      blk_point [hc, h0]
    · have hx := fun a => Rect.emb_apply (Rect.unit (s := S4128x128) ![0, 0] ![32, 128] inb_S4128x128_S32x128_0_0) x a
      change (⟨2, ![32, 128]⟩ : Shape).Idx at x
      generalize (Rect.unit (s := S4128x128) ![0, 0] ![32, 128] inb_S4128x128_S32x128_0_0).emb x = y at hx ⊢
      have h0 : (y 0).val = 0 + 1 * (x 0).val := hx 0
      have hb : (x 0).val < 32 := (x 0).isLt
      idx_vars x
      pointwise [k1_pay1]
      unfold sPad sRow
      rw [dif_neg (by omega)]
  · have hy0 : (y 0).val < 4128 := (y 0).isLt
    have hy1 : (y 1).val < 128 := (y 1).isLt
    by_cases h : 32 ≤ (y 0).val
    · refine ⟨_, List.mem_cons_self, (Rect.mem_set_unit (inb := inb_S4128x128_S4096x128_32_0)).mpr fun a => ?_⟩
      match a with
      | 0 => exact ⟨h, show (y 0).val < 32 + 4096 by omega⟩
      | 1 => exact ⟨Nat.zero_le _, show (y 1).val < 0 + 128 by omega⟩
    · refine ⟨_, List.mem_cons_of_mem _ List.mem_cons_self, (Rect.mem_set_unit (inb := inb_S4128x128_S32x128_0_0)).mpr fun a => ?_⟩
      match a with
      | 0 => exact ⟨Nat.zero_le _, show (y 0).val < 0 + 32 by omega⟩
      | 1 => exact ⟨Nat.zero_le _, show (y 1).val < 0 + 128 by omega⟩

/-- The output's block at a grid point: the filtered values. -/
theorem s_block (gc hv : Vec Ideal S1x4096x128 .bf16) (w : Vec Ideal S31x128 .f32) (b : Vec Ideal S1x128 .f32) (y : S4096x128.Idx) :
    out1_A_4 (F := Ideal) c i arg1 harg1 arg2 harg2 arg3 harg3 arg4 harg4 arg5 harg5 arg6 harg6 gc hv w b y
      = vAt w b (sPad gc hv) (y 0) (y 1) := by
  unfold out1_A_4
  rw [View.read_writes_junk_eq_canon]
  refine View.canon_apply_of_pieces (fun y => vAt w b (sPad gc hv) (y 0) (y 1)) _ ?_ y
    (cover1_A_4 c i arg1 harg1 arg2 harg2 arg3 harg3 arg4 harg4 arg5 harg5 arg6 harg6 gc hv w b y)
  unfold kernelRun1_A; dsimp only; sl_unfold_run_names; dsimp only
  simp only [View.readAt_eq_ld, harg1.read_unread, harg2.read_unread]
  have h := fun X6 => s_pieces Variants.none c none i arg1 harg1 arg2 harg2 arg3 harg3 arg4 harg4 arg5 harg5
    arg6 harg6 (harg3.unread w) (harg4.unread b) X6 k1_t1_loop.trips le_rfl
  simp only [harg3.read_unread, harg4.read_unread] at h
  intro pc hpc x
  refine (h _ pc hpc x).trans ?_
  rw [View.read_writes_junk_eq_canon, s_canon]

end

variable (V : (c : Dev nD) → (b : Ref sig .tc) → Buf (Elt Ideal) ((c : Thread nD τ).loc b)) (c : Dev nD)

theorem s_gc (t : Fin cfg1.N) (r : Fin 4096) (l : Fin 128) (L : Fin 1024) (hL : L.val = 128 * t.val + l.val) :
    (iblk1 V c 0 t : Vec Ideal S1x4096x128 .bf16) (ix3 0 r l) = (V c main_v4_1 : Vec Ideal S2x4096x1024 .bf16) (ix3 0 r L) := by
  have hi : ∀ t : Fin cfg1.N, (cfg1.win 0).index t = ![0, 0, t.val] := by decide +kernel
  blk_ext [iblk1, hi t, hL]

theorem s_hv (t : Fin cfg1.N) (r : Fin 4096) (l : Fin 128) (L : Fin 1024) (hL : L.val = 128 * t.val + l.val) :
    (iblk1 V c 1 t : Vec Ideal S1x4096x128 .bf16) (ix3 0 r l) = (V c main_v4_1 : Vec Ideal S2x4096x1024 .bf16) (ix3 1 r L) := by
  have hi : ∀ t : Fin cfg1.N, (cfg1.win 1).index t = ![1, 0, t.val] := by decide +kernel
  blk_ext [iblk1, hi t, hL]

theorem s_w (t : Fin cfg1.N) (r : Fin 31) (l : Fin 128) (L : Fin 1024) (hL : L.val = 128 * t.val + l.val) :
    (iblk1 V c 2 t : Vec Ideal S31x128 .f32) (ix2 r l) = (V c main_arg7 : Vec Ideal S31x1024 .f32) (ix2 r L) := by
  have hi : ∀ t : Fin cfg1.N, (cfg1.win 2).index t = ![0, t.val] := by decide +kernel
  blk_ext [iblk1, hi t, hL]

theorem s_b (t : Fin cfg1.N) (l : Fin 128) (L : Fin 1024) (hL : L.val = 128 * t.val + l.val) :
    (iblk1 V c 3 t : Vec Ideal S1x128 .f32) (ix2 0 l) = (V c main_arg8 : Vec Ideal S1x1024 .f32) (ix2 0 L) := by
  have hi : ∀ t : Fin cfg1.N, (cfg1.win 3).index t = ![0, t.val] := by decide +kernel
  blk_ext [iblk1, hi t, hL]

/-- The padded strip at point `t`, row `n + 2`, is the padded sequence at `n`. -/
theorem s_row (t : Fin cfg1.N) (n : ℕ) (hn : n < 4126) (r : ℕ) (hr : r < 4128) (h2 : r = n + 2) (l : Fin 128) (L : Fin 1024)
    (hL : L.val = 128 * t.val + l.val) :
    sPad (iblk1 V c 0 t) (iblk1 V c 1 t) (ix2 ⟨r, hr⟩ l) = seqE (V c main_v4_1) n L := by
  subst h2
  change sRow (iblk1 V c 0 t) (iblk1 V c 1 t) (n + 2) _ l = _
  unfold sRow seqE
  by_cases h : 30 ≤ n
  · rw [dif_pos (by omega), dif_pos ⟨h, hn⟩]
    refine congrArg₂ (· * ·) ((s_gc V c t _ l L hL).trans ?_) (congrArg Ideal.logistic ((s_hv V c t _ l L hL).trans ?_)) <;> congr 2
  · rw [dif_neg (by omega), dif_neg (by omega)]

/-- The filtered array, after the second call. -/
theorem conv_array : (dat1 V c).arrAt 4 cfg1.N
    = fun y : S4096x1024.Idx => convE (V c main_arg7) (V c main_arg8) (V c main_v4_1) (y 0) (y 1) := by
  refine (dat1 V c).arrAt_eq_of_covers 4 _ (by decide +kernel) fun t hf y => ?_
  blk_simp
  rw [after1_4]
  unfold outsAt1
  rw [s_block]
  have hi : ∀ t : Fin cfg1.N, (cfg1.win 4).index t = ![0, t.val] := by decide +kernel
  have h0 : (((cfg1.win 4).blk t).view.emb y 0 : ℕ) = (y 0).val := by blk_simp [hi t]
  have h1 : (((cfg1.win 4).blk t).view.emb y 1 : ℕ) = 128 * t.val + (y 1).val := by blk_simp [hi t]; omega
  have hr : (y 0).val < 4096 := (y 0).isLt
  change S4096x128.Idx at y
  refine Eq.trans (b := convE (V c main_arg7) (V c main_arg8) (V c main_v4_1) (y 0) (((cfg1.win 4).blk t).view.emb y 1)) ?_ ?_
  · unfold vAt convE
    exact congrArg₂ (· + ·) (s_b V c t (y 1) _ h1) (Finset.sum_congr rfl fun k _ => congrArg₂ (· * ·) (s_w V c t k (y 1) _ h1)
      (s_row V c t ((y 0).val + k.val) (by omega) _ _ (by omega) (y 1) _ h1))
  · exact congrArg (fun a => convE _ _ _ a _) (Fin.ext h0.symm)

end Cert.Proof.Conf
-- ==== Proof.ConfOut.lean ====
/- The third call of the conformer-convolution layer: the layer norm with its activation, the second product and the layer's result. -/
module

public import proofs.«01_k».proof.Proof.Gen.Kernel15Ideal.Frame
public import proofs.«01_k».proof.Proof.ConfSpec

@[expose] public section

set_option maxRecDepth 16384

noncomputable section

namespace Cert.Proof.Conf

open Cert.Kernel15Ideal Cert.Kernel15Ideal.Gen Idealize.ShloMosaic Idealize.ShloMosaic.TcCoe Idealize.ShloMosaic.Tactic
open Idealize.SL.Sem
open Idealize.ShloMosaic.Pipeline (Dat)

theorem act_pay (v : Vec Ideal S512x1024 .f32) (lg lb : Vec Ideal S1x1024 .f32) (q : Fin 512) (l : Fin 1024) :
    k2_pay4 (F := Ideal) v lg lb (ix2 q l) = actE lg lb (fun i => v (ix2 q i)) l := by
  pointwise [k2_pay4]
  rfl

theorem mid_pay (v : Vec Ideal S512x1024 .f32) (lg lb : Vec Ideal S1x1024 .f32) (u : Vec Ideal S1x1024x1024 .bf16)
    (b2 : Vec Ideal S1x1024 .f32) (a : Vec Ideal S512x1024 .f32) (b : Vec Ideal S1x1024 .f32) (q : Fin 512) (d : Fin 1024) :
    k2_pay2 (F := Ideal) (k2_pay5 (F := Ideal) v lg lb u) b2 a b (ix2 q d)
      = a (ix2 q d) + b (ix2 0 d) * (∑ l, actE lg lb (fun i => v (ix2 q i)) l * u (ix3 0 l d) + b2 (ix2 0 d)) := by
  pointwise [k2_pay2, k2_pay1, k2_pay5, act_pay]

variable (V : (c : Dev nD) → (b : Ref sig .tc) → Buf (Elt Ideal) ((c : Thread nD τ).loc b)) (c : Dev nD)

theorem out_v (t : Fin cfg2.N) (q : Fin 512) (d : Fin 1024) (T : Fin 4096) (hT : T.val = t.val * 512 + q.val) :
    (View.ld (iblk2 V c 0 t) r2_0 : Vec Ideal S512x1024 .f32) (ix2 q d) = (V c main_v5 : Vec Ideal S4096x1024 .f32) (ix2 T d) := by
  have hi : ∀ t : Fin cfg2.N, (cfg2.win 0).index t = ![t.val, 0] := by decide +kernel
  blk_ext [iblk2, hi t, View.ld, LoadRect.idx_apply, hT]
  all_goals simp [Rect.unit]

theorem out_lg (t : Fin cfg2.N) : (View.ld (iblk2 V c 1 t) r2_1 : Vec Ideal S1x1024 .f32) = (V c main_arg9 : Vec Ideal S1x1024 .f32) := by
  have hi : ∀ t : Fin cfg2.N, (cfg2.win 1).index t = ![0, 0] := by decide +kernel
  funext y
  change S1x1024.Idx at y
  blk_ext [iblk2, hi t, View.ld, LoadRect.idx_apply]
  all_goals simp [Rect.unit]

theorem out_lb (t : Fin cfg2.N) : (View.ld (iblk2 V c 2 t) r2_1 : Vec Ideal S1x1024 .f32) = (V c main_arg10 : Vec Ideal S1x1024 .f32) := by
  have hi : ∀ t : Fin cfg2.N, (cfg2.win 2).index t = ![0, 0] := by decide +kernel
  funext y
  change S1x1024.Idx at y
  blk_ext [iblk2, hi t, View.ld, LoadRect.idx_apply]
  all_goals simp [Rect.unit]

theorem out_w (t : Fin cfg2.N) (f : Fin 1024) (d : Fin 1024) :
    (View.ld (iblk2 V c 3 t) r2_2 : Vec Ideal S1x1024x1024 .bf16) (ix3 0 f d) = (V c main_v3 : Vec Ideal S1x1024x1024 .bf16) (ix3 0 f d) := by
  have hi : ∀ t : Fin cfg2.N, (cfg2.win 3).index t = ![0, 0, 0] := by decide +kernel
  blk_ext [iblk2, hi t, View.ld, LoadRect.idx_apply]
  all_goals simp [Rect.unit]

theorem out_b (t : Fin cfg2.N) : (View.ld (iblk2 V c 4 t) r2_1 : Vec Ideal S1x1024 .f32) = (V c main_arg12 : Vec Ideal S1x1024 .f32) := by
  have hi : ∀ t : Fin cfg2.N, (cfg2.win 4).index t = ![0, 0] := by decide +kernel
  funext y
  change S1x1024.Idx at y
  blk_ext [iblk2, hi t, View.ld, LoadRect.idx_apply]
  all_goals simp [Rect.unit]

theorem out_x (t : Fin cfg2.N) (q : Fin 512) (d : Fin 1024) (T : Fin 4096) (hT : T.val = t.val * 512 + q.val) :
    (View.ld (iblk2 V c 5 t) r2_0 : Vec Ideal S512x1024 .f32) (ix2 q d) = (V c main_arg0 : Vec Ideal S4096x1024 .f32) (ix2 T d) := by
  have hi : ∀ t : Fin cfg2.N, (cfg2.win 5).index t = ![t.val, 0] := by decide +kernel
  blk_ext [iblk2, hi t, View.ld, LoadRect.idx_apply, hT]
  all_goals simp [Rect.unit]

theorem out_g (t : Fin cfg2.N) : (View.ld (iblk2 V c 6 t) r2_1 : Vec Ideal S1x1024 .f32) = (V c main_arg4 : Vec Ideal S1x1024 .f32) := by
  have hi : ∀ t : Fin cfg2.N, (cfg2.win 6).index t = ![0, 0] := by decide +kernel
  funext y
  change S1x1024.Idx at y
  blk_ext [iblk2, hi t, View.ld, LoadRect.idx_apply]
  all_goals simp [Rect.unit]

/-- The layer's result, after the third call. -/
theorem mid_array (wo : (⟨2, ![1024, 1024]⟩ : Shape).Idx → EReal)
    (hwo : ∀ l d, (V c main_v3 : Vec Ideal S1x1024x1024 .bf16) (ix3 0 l d) = wo (ix2 l d)) :
    (dat2 V c).arrAt 9 cfg2.N = fun y : S4096x1024.Idx => midE (V c main_arg0) (V c main_arg4) (V c main_arg9) (V c main_arg10) (V c main_arg12) wo (V c main_v5) (y 0) (y 1) := by
  refine (dat2 V c).arrAt_eq_of_covers 9 _ (by decide +kernel) fun t hf y => ?_
  blk_simp
  rw [after2_9]
  have hi : ∀ t : Fin cfg2.N, (cfg2.win 9).index t = ![t.val, 0] := by decide +kernel
  have h0 : (((cfg2.win 9).blk t).view.emb y 0 : ℕ) = t.val * 512 + (y 0).val := by blk_simp [hi t]
  have h1 : (((cfg2.win 9).blk t).view.emb y 1 : ℕ) = (y 1).val := by blk_simp [hi t]
  have hN : t.val < 8 := t.isLt
  change S512x1024.Idx at y
  refine Eq.trans (b := midE (V c main_arg0) (V c main_arg4) (V c main_arg9) (V c main_arg10) (V c main_arg12) wo (V c main_v5) ⟨t.val * 512 + (y 0).val, by have : (y 0).val < 512 := (y 0).isLt; omega⟩ (y 1)) ?_ ?_
  · unfold_out out2_9
    rw [View.canon_cons_unit_zero (by decide)]
    idx_vars y
    rw [mid_pay, out_lg, out_lb, out_b, out_g]
    refine congrArg₂ (· + ·) (out_x V c t y0 y1 _ rfl) (congrArg₂ (· * ·) rfl (congrArg₂ (· + ·) (Finset.sum_congr rfl fun l _ =>
      congrArg₂ (· * ·) (congrArg (fun f => actE _ _ f l) (funext fun i => out_v V c t y0 i _ rfl)) ((out_w V c t l y1).trans (hwo l y1))) rfl))
  · have e0 := Fin.ext (a := ((cfg2.win 9).blk t).view.emb y 0) (b := ⟨t.val * 512 + (y 0).val, by have : (y 0).val < 512 := (y 0).isLt; omega⟩) h0
    have e1 := Fin.ext (a := ((cfg2.win 9).blk t).view.emb y 1) (b := y 1) h1
    rw [e0, e1]
    rfl

end Cert.Proof.Conf
-- ==== Proof.ConfChain.lean ====
/- The conformer-convolution layer's three calls in a row: what the result holds at the end. -/
module

public import proofs.«01_k».proof.Proof.ConfIn
public import proofs.«01_k».proof.Proof.ConfStrip
public import proofs.«01_k».proof.Proof.ConfOut

@[expose] public section

set_option maxRecDepth 16384

noncomputable section

namespace Cert.Proof.Conf

open Cert.Kernel15Ideal Cert.Kernel15Ideal.Gen Idealize.ShloMosaic Idealize.ShloMosaic.TcCoe Idealize.ShloMosaic.Tactic
open Idealize.SL.Sem Idealize.ShloMosaic.StableHlo

variable (m : (ℓ : Loc nD τ sig) → Buf (Elt Ideal) ℓ) (ρ : Dev nD → PrngReg) (c : Dev nD)

theorem v1_read : W1 m ρ c (Proc.devRef .tc main_v1)
    = broadcastInDim S1x1024x2048 ![1, 2] bcast_S1024x2048_S1x1024x2048_1_2
      (truncf (F := Ideal) .bf16 (m ((c : Thread nD τ).loc main_arg5) : (⟨S1024x2048, .f32⟩ : BufTy).Contents (Elt Ideal)) bitsLt_bf16_f32) := by
  unfold W1
  after_results <;> rfl

theorem v3_read : W1 m ρ c (Proc.devRef .tc main_v3)
    = broadcastInDim S1x1024x1024 ![1, 2] bcast_S1024x1024_S1x1024x1024_1_2
      (truncf (F := Ideal) .bf16 (m ((c : Thread nD τ).loc main_arg11) : (⟨S1024x1024, .f32⟩ : BufTy).Contents (Elt Ideal)) bitsLt_bf16_f32) := by
  unfold W1
  after_results <;> rfl

/-- The arguments, as plain arrays. -/
abbrev aX : (⟨2, ![4096, 1024]⟩ : Shape).Idx → EReal := m ((c : Thread nD τ).loc main_arg0)
abbrev aN : (⟨2, ![1, 1024]⟩ : Shape).Idx → EReal := m ((c : Thread nD τ).loc main_arg1)
abbrev aC : (⟨2, ![1, 1024]⟩ : Shape).Idx → EReal := m ((c : Thread nD τ).loc main_arg2)
abbrev aH : (⟨2, ![1, 1024]⟩ : Shape).Idx → EReal := m ((c : Thread nD τ).loc main_arg3)
abbrev aG : (⟨2, ![1, 1024]⟩ : Shape).Idx → EReal := m ((c : Thread nD τ).loc main_arg4)
abbrev aI : (⟨2, ![1024, 2048]⟩ : Shape).Idx → EReal := m ((c : Thread nD τ).loc main_arg5)
abbrev aBi : (⟨2, ![1, 2048]⟩ : Shape).Idx → EReal := m ((c : Thread nD τ).loc main_arg6)
abbrev aW : (⟨2, ![31, 1024]⟩ : Shape).Idx → EReal := m ((c : Thread nD τ).loc main_arg7)
abbrev aCb : (⟨2, ![1, 1024]⟩ : Shape).Idx → EReal := m ((c : Thread nD τ).loc main_arg8)
abbrev aLg : (⟨2, ![1, 1024]⟩ : Shape).Idx → EReal := m ((c : Thread nD τ).loc main_arg9)
abbrev aLb : (⟨2, ![1, 1024]⟩ : Shape).Idx → EReal := m ((c : Thread nD τ).loc main_arg10)
abbrev aO : (⟨2, ![1024, 1024]⟩ : Shape).Idx → EReal := m ((c : Thread nD τ).loc main_arg11)
abbrev aBo : (⟨2, ![1, 1024]⟩ : Shape).Idx → EReal := m ((c : Thread nD τ).loc main_arg12)

/-- The parts of the first product, as one array. -/
def parts (y : (⟨3, ![2, 4096, 1024]⟩ : Shape).Idx) : EReal :=
  projE (aX m c) (aN m c) (aC m c) (aH m c) (aI m c) (aBi m c) (y 0) (y 1) (y 2)

theorem proj2 : W2 m ρ c (Proc.devRef .tc main_v4_1) = parts m c := by
  have e := (W2_arr m ρ c 7).trans (proj_array (V1 m ρ) c (aI m c) fun i f =>
    (congrFun (v1_read m ρ c) _).trans (by pointwise []))
  refine e.trans (funext fun y => ?_)
  unfold parts
  rw [show V1 m ρ c main_arg0 = aX m c from W1_args m ρ c main_arg0 (by decide),
    show V1 m ρ c main_arg1 = aN m c from W1_args m ρ c main_arg1 (by decide),
    show V1 m ρ c main_arg2 = aC m c from W1_args m ρ c main_arg2 (by decide),
    show V1 m ρ c main_arg3 = aH m c from W1_args m ρ c main_arg3 (by decide),
    show V1 m ρ c main_arg6 = aBi m c from W1_args m ρ c main_arg6 (by decide)]

/-- The filtered sequence, as an array. -/
def convs (y : (⟨2, ![4096, 1024]⟩ : Shape).Idx) : EReal := convE (aW m c) (aCb m c) (parts m c) (y 0) (y 1)

theorem conv3 : W3 m ρ c (Proc.devRef .tc main_v5) = convs m c := by
  have e := (W3_arr m ρ c 4).trans (conv_array (V2 m ρ) c)
  refine e.trans (funext fun y => ?_)
  unfold convs
  rw [show V2 m ρ c main_arg7 = aW m c from W2_args m ρ c main_arg7 (by decide),
    show V2 m ρ c main_arg8 = aCb m c from W2_args m ρ c main_arg8 (by decide),
    show V2 m ρ c main_v4_1 = parts m c from proj2 m ρ c]

/-- The layer's result at the end. -/
theorem mid4 : W4 m ρ c (Proc.devRef .tc main_v6_2)
    = fun y : S4096x1024.Idx => midE (aX m c) (aG m c) (aLg m c) (aLb m c) (aBo m c) (aO m c) (convs m c) (y 0) (y 1) := by
  have e := (W4_arr m ρ c 9).trans (mid_array (V3 m ρ) c (aO m c) fun l d => by
    refine (congrFun ((W3_of m ρ c main_v3 (by decide)).trans ((W2_of m ρ c main_v3 (by decide)).trans (v3_read m ρ c))) _).trans ?_
    pointwise [])
  refine e.trans (funext fun y => ?_)
  rw [show V3 m ρ c main_arg0 = aX m c from W3_args m ρ c main_arg0 (by decide),
    show V3 m ρ c main_arg4 = aG m c from W3_args m ρ c main_arg4 (by decide),
    show V3 m ρ c main_arg9 = aLg m c from W3_args m ρ c main_arg9 (by decide),
    show V3 m ρ c main_arg10 = aLb m c from W3_args m ρ c main_arg10 (by decide),
    show V3 m ρ c main_arg12 = aBo m c from W3_args m ρ c main_arg12 (by decide),
    show V3 m ρ c main_v5 = convs m c from conv3 m ρ c]

end Cert.Proof.Conf
-- ==== Proof.ConfRun.lean ====
/- What every buffer holds after the three calls of the conformer-convolution layer have run. -/
module

public import proofs.«01_k».proof.Proof.Gen.Kernel15Ideal.Frame

@[expose] public section

set_option maxRecDepth 16384
set_option synthInstance.maxSize 4096

noncomputable section

namespace Cert.Proof.ConfRun

open Cert.Kernel15Ideal Cert.Kernel15Ideal.Gen Idealize.ShloMosaic Idealize.ShloMosaic.TcCoe
open Idealize.SL Idealize.SL.Sem

open Idealize.SL.RA Idealize.SL.BI Idealize.SL.BI.BIBase Idealize.SL.BI.Laws Idealize.SL.ProofMode Idealize.ShloMosaic.Rounds Idealize.ShloMosaic.Tactic
open scoped Idealize.SL.BI
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' own holds, after the run, what the last boundary says: the launch of the frame, with the whole
    last reading kept. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Proof.ConfRun
-- ==== Proof.ConfRef.lean ====
/- The reference's forward pass of the conformer-convolution layer, at an index, is what ConfSpec names. -/
module

public import proofs.«01_k».proof.Proof.Gen.Reference15Ideal.Run
public import proofs.«01_k».proof.Proof.Gen.Reference15Ideal.Read
public import proofs.«01_k».proof.Proof.ConfSpec

@[expose] public section

set_option maxRecDepth 16384

noncomputable section

namespace Cert.Proof.ConfRef

open Cert.Reference15Ideal Cert.Reference15Ideal.Gen Cert.Reference15Ideal.Read Idealize.ShloMosaic Idealize.ShloMosaic.TcCoe
open Idealize.ShloMosaic.Tactic Idealize.SL.Sem Cert.Proof.Conf

variable (x : (⟨S4096x1024, .f32⟩ : BufTy).Contents (Elt Ideal)) (gn sc sh g : (⟨S1x1024, .f32⟩ : BufTy).Contents (Elt Ideal))
  (wi : (⟨S1024x2048, .f32⟩ : BufTy).Contents (Elt Ideal)) (bi : (⟨S1x2048, .f32⟩ : BufTy).Contents (Elt Ideal))
  (w : (⟨S31x1024, .f32⟩ : BufTy).Contents (Elt Ideal)) (cb lg lb bo : (⟨S1x1024, .f32⟩ : BufTy).Contents (Elt Ideal))
  (wo : (⟨S1024x1024, .f32⟩ : BufTy).Contents (Elt Ideal))

theorem hid_at (t : Fin 4096) (i : Fin 1024) : val_main_v17 (F := Ideal) x gn sc sh (ix2 t i) = Mix.hidE x gn sc sh t i := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]
  simp only [Mix.hidE]

theorem proj_at (t : Fin 4096) (l : Fin 2048) : val_main_v20 (F := Ideal) x gn sc sh wi bi (ix2 t l)
    = ∑ i, Mix.hidE x gn sc sh t i * wi (ix2 i l) + bi (ix2 0 l) := by
  pointwise [val_main_v20, val_main_v19, val_main_v18, hid_at]

/-- The two parts as one array. -/
def partsR (y : (⟨3, ![2, 4096, 1024]⟩ : Shape).Idx) : EReal := projE x gn sc sh wi bi (y 0) (y 1) (y 2)

theorem part0_at (t : Fin 4096) (l : Fin 1024) :
    val_main_v21 (F := Ideal) x gn sc sh wi bi (ix2 t l) = partsR x gn sc sh wi bi (ix3 0 t l) := by
  have e : (⟨l.val, by omega⟩ : Fin 2048) = ⟨0 * 1024 + l.val, by omega⟩ := Fin.ext (by simp)
  pointwise [val_main_v21, proj_at]
  unfold partsR projE
  first | rfl | exact congrArg₂ (· + ·) (Finset.sum_congr rfl fun i _ => congrArg (_ * ·) (congrArg (fun a => wi (ix2 i a)) e)) (congrArg (fun a => bi (ix2 0 a)) e)

theorem part1_at (t : Fin 4096) (l : Fin 1024) :
    val_main_v22 (F := Ideal) x gn sc sh wi bi (ix2 t l) = partsR x gn sc sh wi bi (ix3 1 t l) := by
  have e : (⟨1024 + l.val, by omega⟩ : Fin 2048) = ⟨1 * 1024 + l.val, by omega⟩ := Fin.ext (by simp)
  pointwise [val_main_v22, proj_at]
  unfold partsR projE
  first | rfl | exact congrArg₂ (· + ·) (Finset.sum_congr rfl fun i _ => congrArg (_ * ·) (congrArg (fun a => wi (ix2 i a)) e)) (congrArg (fun a => bi (ix2 0 a)) e)

theorem seq_at (t : Fin 4126) (l : Fin 1024) :
    val_main_v31 (F := Ideal) x gn sc sh wi bi (ix2 t l) = seqE (partsR x gn sc sh wi bi) t.val l := by
  pointwise [val_main_v31, val_main_v30, val_main_v29, val_main_v28, val_main_v27, val_main_v26, val_main_v25, val_main_v24, val_main_v23,
    part0_at, part1_at, val_main_cst_3, val_main_cst_4, val_main_cst_5]
  rw [seqE]
  by_cases h : t.val < 30
  · rw [dif_pos h, dif_neg (by omega)]
  · rw [dif_neg h, dif_pos ⟨by omega, t.isLt⟩]
    first | rfl | simp only [Ideal.logistic]

theorem tap0_at (t : Fin 4096) (l : Fin 1024) : val_main_v39 (F := Ideal) x gn sc sh wi bi w (ix2 t l)
    = HAdd.hAdd (α := EReal) (0) (w (ix2 0 l) * seqE (partsR x gn sc sh wi bi) (t.val + 0) l) := by
  pointwise [val_main_v39, val_main_v38, val_main_v37, val_main_v36, val_main_v35, val_main_v34, val_main_v33, val_main_v32, val_main_cst_6, seq_at, add_comm 0 t.val]

theorem tap1_at (t : Fin 4096) (l : Fin 1024) : val_main_v46 (F := Ideal) x gn sc sh wi bi w (ix2 t l)
    = HAdd.hAdd (α := EReal) (val_main_v39 (F := Ideal) x gn sc sh wi bi w (ix2 t l)) (w (ix2 1 l) * seqE (partsR x gn sc sh wi bi) (t.val + 1) l) := by
  pointwise [val_main_v46, val_main_v45, val_main_v44, val_main_v43, val_main_v42, val_main_v41, val_main_v40, seq_at, add_comm 1 t.val]

theorem tap2_at (t : Fin 4096) (l : Fin 1024) : val_main_v53 (F := Ideal) x gn sc sh wi bi w (ix2 t l)
    = HAdd.hAdd (α := EReal) (val_main_v46 (F := Ideal) x gn sc sh wi bi w (ix2 t l)) (w (ix2 2 l) * seqE (partsR x gn sc sh wi bi) (t.val + 2) l) := by
  pointwise [val_main_v53, val_main_v52, val_main_v51, val_main_v50, val_main_v49, val_main_v48, val_main_v47, seq_at, add_comm 2 t.val]

theorem tap3_at (t : Fin 4096) (l : Fin 1024) : val_main_v60 (F := Ideal) x gn sc sh wi bi w (ix2 t l)
    = HAdd.hAdd (α := EReal) (val_main_v53 (F := Ideal) x gn sc sh wi bi w (ix2 t l)) (w (ix2 3 l) * seqE (partsR x gn sc sh wi bi) (t.val + 3) l) := by
  pointwise [val_main_v60, val_main_v59, val_main_v58, val_main_v57, val_main_v56, val_main_v55, val_main_v54, seq_at, add_comm 3 t.val]

theorem tap4_at (t : Fin 4096) (l : Fin 1024) : val_main_v67 (F := Ideal) x gn sc sh wi bi w (ix2 t l)
    = HAdd.hAdd (α := EReal) (val_main_v60 (F := Ideal) x gn sc sh wi bi w (ix2 t l)) (w (ix2 4 l) * seqE (partsR x gn sc sh wi bi) (t.val + 4) l) := by
  pointwise [val_main_v67, val_main_v66, val_main_v65, val_main_v64, val_main_v63, val_main_v62, val_main_v61, seq_at, add_comm 4 t.val]

theorem tap5_at (t : Fin 4096) (l : Fin 1024) : val_main_v74 (F := Ideal) x gn sc sh wi bi w (ix2 t l)
    = HAdd.hAdd (α := EReal) (val_main_v67 (F := Ideal) x gn sc sh wi bi w (ix2 t l)) (w (ix2 5 l) * seqE (partsR x gn sc sh wi bi) (t.val + 5) l) := by
  pointwise [val_main_v74, val_main_v73, val_main_v72, val_main_v71, val_main_v70, val_main_v69, val_main_v68, seq_at, add_comm 5 t.val]

theorem tap6_at (t : Fin 4096) (l : Fin 1024) : val_main_v81 (F := Ideal) x gn sc sh wi bi w (ix2 t l)
    = HAdd.hAdd (α := EReal) (val_main_v74 (F := Ideal) x gn sc sh wi bi w (ix2 t l)) (w (ix2 6 l) * seqE (partsR x gn sc sh wi bi) (t.val + 6) l) := by
  pointwise [val_main_v81, val_main_v80, val_main_v79, val_main_v78, val_main_v77, val_main_v76, val_main_v75, seq_at, add_comm 6 t.val]

theorem tap7_at (t : Fin 4096) (l : Fin 1024) : val_main_v88 (F := Ideal) x gn sc sh wi bi w (ix2 t l)
    = HAdd.hAdd (α := EReal) (val_main_v81 (F := Ideal) x gn sc sh wi bi w (ix2 t l)) (w (ix2 7 l) * seqE (partsR x gn sc sh wi bi) (t.val + 7) l) := by
  pointwise [val_main_v88, val_main_v87, val_main_v86, val_main_v85, val_main_v84, val_main_v83, val_main_v82, seq_at, add_comm 7 t.val]

theorem tap8_at (t : Fin 4096) (l : Fin 1024) : val_main_v95 (F := Ideal) x gn sc sh wi bi w (ix2 t l)
    = HAdd.hAdd (α := EReal) (val_main_v88 (F := Ideal) x gn sc sh wi bi w (ix2 t l)) (w (ix2 8 l) * seqE (partsR x gn sc sh wi bi) (t.val + 8) l) := by
  pointwise [val_main_v95, val_main_v94, val_main_v93, val_main_v92, val_main_v91, val_main_v90, val_main_v89, seq_at, add_comm 8 t.val]

theorem tap9_at (t : Fin 4096) (l : Fin 1024) : val_main_v102 (F := Ideal) x gn sc sh wi bi w (ix2 t l)
    = HAdd.hAdd (α := EReal) (val_main_v95 (F := Ideal) x gn sc sh wi bi w (ix2 t l)) (w (ix2 9 l) * seqE (partsR x gn sc sh wi bi) (t.val + 9) l) := by
  pointwise [val_main_v102, val_main_v101, val_main_v100, val_main_v99, val_main_v98, val_main_v97, val_main_v96, seq_at, add_comm 9 t.val]

theorem tap10_at (t : Fin 4096) (l : Fin 1024) : val_main_v109 (F := Ideal) x gn sc sh wi bi w (ix2 t l)
    = HAdd.hAdd (α := EReal) (val_main_v102 (F := Ideal) x gn sc sh wi bi w (ix2 t l)) (w (ix2 10 l) * seqE (partsR x gn sc sh wi bi) (t.val + 10) l) := by
  pointwise [val_main_v109, val_main_v108, val_main_v107, val_main_v106, val_main_v105, val_main_v104, val_main_v103, seq_at, add_comm 10 t.val]

theorem tap11_at (t : Fin 4096) (l : Fin 1024) : val_main_v116 (F := Ideal) x gn sc sh wi bi w (ix2 t l)
    = HAdd.hAdd (α := EReal) (val_main_v109 (F := Ideal) x gn sc sh wi bi w (ix2 t l)) (w (ix2 11 l) * seqE (partsR x gn sc sh wi bi) (t.val + 11) l) := by
  pointwise [val_main_v116, val_main_v115, val_main_v114, val_main_v113, val_main_v112, val_main_v111, val_main_v110, seq_at, add_comm 11 t.val]

theorem tap12_at (t : Fin 4096) (l : Fin 1024) : val_main_v123 (F := Ideal) x gn sc sh wi bi w (ix2 t l)
    = HAdd.hAdd (α := EReal) (val_main_v116 (F := Ideal) x gn sc sh wi bi w (ix2 t l)) (w (ix2 12 l) * seqE (partsR x gn sc sh wi bi) (t.val + 12) l) := by
  pointwise [val_main_v123, val_main_v122, val_main_v121, val_main_v120, val_main_v119, val_main_v118, val_main_v117, seq_at, add_comm 12 t.val]

theorem tap13_at (t : Fin 4096) (l : Fin 1024) : val_main_v130 (F := Ideal) x gn sc sh wi bi w (ix2 t l)
    = HAdd.hAdd (α := EReal) (val_main_v123 (F := Ideal) x gn sc sh wi bi w (ix2 t l)) (w (ix2 13 l) * seqE (partsR x gn sc sh wi bi) (t.val + 13) l) := by
  pointwise [val_main_v130, val_main_v129, val_main_v128, val_main_v127, val_main_v126, val_main_v125, val_main_v124, seq_at, add_comm 13 t.val]

theorem tap14_at (t : Fin 4096) (l : Fin 1024) : val_main_v137 (F := Ideal) x gn sc sh wi bi w (ix2 t l)
    = HAdd.hAdd (α := EReal) (val_main_v130 (F := Ideal) x gn sc sh wi bi w (ix2 t l)) (w (ix2 14 l) * seqE (partsR x gn sc sh wi bi) (t.val + 14) l) := by
  pointwise [val_main_v137, val_main_v136, val_main_v135, val_main_v134, val_main_v133, val_main_v132, val_main_v131, seq_at, add_comm 14 t.val]

theorem tap15_at (t : Fin 4096) (l : Fin 1024) : val_main_v144 (F := Ideal) x gn sc sh wi bi w (ix2 t l)
    = HAdd.hAdd (α := EReal) (val_main_v137 (F := Ideal) x gn sc sh wi bi w (ix2 t l)) (w (ix2 15 l) * seqE (partsR x gn sc sh wi bi) (t.val + 15) l) := by
  pointwise [val_main_v144, val_main_v143, val_main_v142, val_main_v141, val_main_v140, val_main_v139, val_main_v138, seq_at, add_comm 15 t.val]

theorem tap16_at (t : Fin 4096) (l : Fin 1024) : val_main_v151 (F := Ideal) x gn sc sh wi bi w (ix2 t l)
    = HAdd.hAdd (α := EReal) (val_main_v144 (F := Ideal) x gn sc sh wi bi w (ix2 t l)) (w (ix2 16 l) * seqE (partsR x gn sc sh wi bi) (t.val + 16) l) := by
  pointwise [val_main_v151, val_main_v150, val_main_v149, val_main_v148, val_main_v147, val_main_v146, val_main_v145, seq_at, add_comm 16 t.val]

theorem tap17_at (t : Fin 4096) (l : Fin 1024) : val_main_v158 (F := Ideal) x gn sc sh wi bi w (ix2 t l)
    = HAdd.hAdd (α := EReal) (val_main_v151 (F := Ideal) x gn sc sh wi bi w (ix2 t l)) (w (ix2 17 l) * seqE (partsR x gn sc sh wi bi) (t.val + 17) l) := by
  pointwise [val_main_v158, val_main_v157, val_main_v156, val_main_v155, val_main_v154, val_main_v153, val_main_v152, seq_at, add_comm 17 t.val]

theorem tap18_at (t : Fin 4096) (l : Fin 1024) : val_main_v165 (F := Ideal) x gn sc sh wi bi w (ix2 t l)
    = HAdd.hAdd (α := EReal) (val_main_v158 (F := Ideal) x gn sc sh wi bi w (ix2 t l)) (w (ix2 18 l) * seqE (partsR x gn sc sh wi bi) (t.val + 18) l) := by
  pointwise [val_main_v165, val_main_v164, val_main_v163, val_main_v162, val_main_v161, val_main_v160, val_main_v159, seq_at, add_comm 18 t.val]

theorem tap19_at (t : Fin 4096) (l : Fin 1024) : val_main_v172 (F := Ideal) x gn sc sh wi bi w (ix2 t l)
    = HAdd.hAdd (α := EReal) (val_main_v165 (F := Ideal) x gn sc sh wi bi w (ix2 t l)) (w (ix2 19 l) * seqE (partsR x gn sc sh wi bi) (t.val + 19) l) := by
  pointwise [val_main_v172, val_main_v171, val_main_v170, val_main_v169, val_main_v168, val_main_v167, val_main_v166, seq_at, add_comm 19 t.val]

theorem tap20_at (t : Fin 4096) (l : Fin 1024) : val_main_v179 (F := Ideal) x gn sc sh wi bi w (ix2 t l)
    = HAdd.hAdd (α := EReal) (val_main_v172 (F := Ideal) x gn sc sh wi bi w (ix2 t l)) (w (ix2 20 l) * seqE (partsR x gn sc sh wi bi) (t.val + 20) l) := by
  pointwise [val_main_v179, val_main_v178, val_main_v177, val_main_v176, val_main_v175, val_main_v174, val_main_v173, seq_at, add_comm 20 t.val]

theorem tap21_at (t : Fin 4096) (l : Fin 1024) : val_main_v186 (F := Ideal) x gn sc sh wi bi w (ix2 t l)
    = HAdd.hAdd (α := EReal) (val_main_v179 (F := Ideal) x gn sc sh wi bi w (ix2 t l)) (w (ix2 21 l) * seqE (partsR x gn sc sh wi bi) (t.val + 21) l) := by
  pointwise [val_main_v186, val_main_v185, val_main_v184, val_main_v183, val_main_v182, val_main_v181, val_main_v180, seq_at, add_comm 21 t.val]

theorem tap22_at (t : Fin 4096) (l : Fin 1024) : val_main_v193 (F := Ideal) x gn sc sh wi bi w (ix2 t l)
    = HAdd.hAdd (α := EReal) (val_main_v186 (F := Ideal) x gn sc sh wi bi w (ix2 t l)) (w (ix2 22 l) * seqE (partsR x gn sc sh wi bi) (t.val + 22) l) := by
  pointwise [val_main_v193, val_main_v192, val_main_v191, val_main_v190, val_main_v189, val_main_v188, val_main_v187, seq_at, add_comm 22 t.val]

theorem tap23_at (t : Fin 4096) (l : Fin 1024) : val_main_v200 (F := Ideal) x gn sc sh wi bi w (ix2 t l)
    = HAdd.hAdd (α := EReal) (val_main_v193 (F := Ideal) x gn sc sh wi bi w (ix2 t l)) (w (ix2 23 l) * seqE (partsR x gn sc sh wi bi) (t.val + 23) l) := by
  pointwise [val_main_v200, val_main_v199, val_main_v198, val_main_v197, val_main_v196, val_main_v195, val_main_v194, seq_at, add_comm 23 t.val]

theorem tap24_at (t : Fin 4096) (l : Fin 1024) : val_main_v207 (F := Ideal) x gn sc sh wi bi w (ix2 t l)
    = HAdd.hAdd (α := EReal) (val_main_v200 (F := Ideal) x gn sc sh wi bi w (ix2 t l)) (w (ix2 24 l) * seqE (partsR x gn sc sh wi bi) (t.val + 24) l) := by
  pointwise [val_main_v207, val_main_v206, val_main_v205, val_main_v204, val_main_v203, val_main_v202, val_main_v201, seq_at, add_comm 24 t.val]

theorem tap25_at (t : Fin 4096) (l : Fin 1024) : val_main_v214 (F := Ideal) x gn sc sh wi bi w (ix2 t l)
    = HAdd.hAdd (α := EReal) (val_main_v207 (F := Ideal) x gn sc sh wi bi w (ix2 t l)) (w (ix2 25 l) * seqE (partsR x gn sc sh wi bi) (t.val + 25) l) := by
  pointwise [val_main_v214, val_main_v213, val_main_v212, val_main_v211, val_main_v210, val_main_v209, val_main_v208, seq_at, add_comm 25 t.val]

theorem tap26_at (t : Fin 4096) (l : Fin 1024) : val_main_v221 (F := Ideal) x gn sc sh wi bi w (ix2 t l)
    = HAdd.hAdd (α := EReal) (val_main_v214 (F := Ideal) x gn sc sh wi bi w (ix2 t l)) (w (ix2 26 l) * seqE (partsR x gn sc sh wi bi) (t.val + 26) l) := by
  pointwise [val_main_v221, val_main_v220, val_main_v219, val_main_v218, val_main_v217, val_main_v216, val_main_v215, seq_at, add_comm 26 t.val]

theorem tap27_at (t : Fin 4096) (l : Fin 1024) : val_main_v228 (F := Ideal) x gn sc sh wi bi w (ix2 t l)
    = HAdd.hAdd (α := EReal) (val_main_v221 (F := Ideal) x gn sc sh wi bi w (ix2 t l)) (w (ix2 27 l) * seqE (partsR x gn sc sh wi bi) (t.val + 27) l) := by
  pointwise [val_main_v228, val_main_v227, val_main_v226, val_main_v225, val_main_v224, val_main_v223, val_main_v222, seq_at, add_comm 27 t.val]

theorem tap28_at (t : Fin 4096) (l : Fin 1024) : val_main_v235 (F := Ideal) x gn sc sh wi bi w (ix2 t l)
    = HAdd.hAdd (α := EReal) (val_main_v228 (F := Ideal) x gn sc sh wi bi w (ix2 t l)) (w (ix2 28 l) * seqE (partsR x gn sc sh wi bi) (t.val + 28) l) := by
  pointwise [val_main_v235, val_main_v234, val_main_v233, val_main_v232, val_main_v231, val_main_v230, val_main_v229, seq_at, add_comm 28 t.val]

theorem tap29_at (t : Fin 4096) (l : Fin 1024) : val_main_v242 (F := Ideal) x gn sc sh wi bi w (ix2 t l)
    = HAdd.hAdd (α := EReal) (val_main_v235 (F := Ideal) x gn sc sh wi bi w (ix2 t l)) (w (ix2 29 l) * seqE (partsR x gn sc sh wi bi) (t.val + 29) l) := by
  pointwise [val_main_v242, val_main_v241, val_main_v240, val_main_v239, val_main_v238, val_main_v237, val_main_v236, seq_at, add_comm 29 t.val]

theorem tap30_at (t : Fin 4096) (l : Fin 1024) : val_main_v249 (F := Ideal) x gn sc sh wi bi w (ix2 t l)
    = HAdd.hAdd (α := EReal) (val_main_v242 (F := Ideal) x gn sc sh wi bi w (ix2 t l)) (w (ix2 30 l) * seqE (partsR x gn sc sh wi bi) (t.val + 30) l) := by
  pointwise [val_main_v249, val_main_v248, val_main_v247, val_main_v246, val_main_v245, val_main_v244, val_main_v243, seq_at, add_comm 30 t.val]

theorem conv_at (t : Fin 4096) (l : Fin 1024) :
    val_main_v251 (F := Ideal) x gn sc sh wi bi w cb (ix2 t l) = convE w cb (partsR x gn sc sh wi bi) t l := by
  pointwise [val_main_v251, val_main_v250]
  rw [tap30_at, tap29_at, tap28_at, tap27_at, tap26_at, tap25_at, tap24_at, tap23_at, tap22_at, tap21_at, tap20_at, tap19_at, tap18_at, tap17_at, tap16_at, tap15_at, tap14_at, tap13_at, tap12_at, tap11_at, tap10_at, tap9_at, tap8_at, tap7_at, tap6_at, tap5_at, tap4_at, tap3_at, tap2_at, tap1_at, tap0_at]
  refine (add_comm _ _).trans (congrArg (cb (ix2 0 l) + ·) ?_)
  exact sum_first fun k => w (ix2 k l) * seqE (partsR x gn sc sh wi bi) (t.val + k.val) l

/-- The filtered sequence, as an array. -/
def convsR (y : (⟨2, ![4096, 1024]⟩ : Shape).Idx) : EReal := convE w cb (partsR x gn sc sh wi bi) (y 0) (y 1)

theorem mean_at (t : Fin 4096) : val_main_v255 (F := Ideal) x gn sc sh wi bi w cb (ix2 t 0) = meanE fun i => convsR x gn sc sh wi bi w cb (ix2 t i) := by
  pointwise [val_main_v255, val_main_v254, val_main_v253, val_main_v252, val_main_cst_7, val_main_cst_8, conv_at]
  rfl

theorem var_at (t : Fin 4096) : val_main_v262 (F := Ideal) x gn sc sh wi bi w cb (ix2 t 0) = varE fun i => convsR x gn sc sh wi bi w cb (ix2 t i) := by
  pointwise [val_main_v262, val_main_v261, val_main_v260, val_main_v259, val_main_v258, val_main_v257, val_main_v256, val_main_cst_9, val_main_cst_10,
    conv_at, mean_at]
  rfl

theorem norm_at (t : Fin 4096) (i : Fin 1024) :
    val_main_v273 (F := Ideal) x gn sc sh wi bi w cb lg lb (ix2 t i) = normE lg lb (fun i => convsR x gn sc sh wi bi w cb (ix2 t i)) i := by
  pointwise [val_main_v273, val_main_v272, val_main_v271, val_main_v270, val_main_v269, val_main_v268, val_main_v267, val_main_v266, val_main_v265,
    val_main_v264, val_main_v263, val_main_cst_11, conv_at, mean_at, var_at]
  rfl

theorem act_at (t : Fin 4096) (i : Fin 1024) :
    val_main_v274 (F := Ideal) x gn sc sh wi bi w cb lg lb (ix2 t i) = actE lg lb (fun i => convsR x gn sc sh wi bi w cb (ix2 t i)) i := by
  pointwise [val_main_v274, val_main_call0_v5, val_main_call0_v4, val_main_call0_v3, val_main_call0_v2, val_main_call0_v1, val_main_call0_v0,
    val_main_call0_cst, val_main_call0_cst_0, norm_at]
  rfl

theorem mid_at (t : Fin 4096) (d : Fin 1024) :
    val_main_v280 (F := Ideal) x gn sc sh g wi bi w cb lg lb wo bo (ix2 t d) = midE x g lg lb bo wo (convsR x gn sc sh wi bi w cb) t d := by
  pointwise [val_main_v280, val_main_v279, val_main_v278, val_main_v277, val_main_v276, val_main_v275, act_at]
  rfl

end Cert.Proof.ConfRef
-- ==== Proof.ConfClaim.lean ====
/- The conformer-convolution layer's three kernels leave the result that the reference computes. -/
module

public import proofs.«01_k».proof.Defs
public import proofs.«01_k».proof.Proof.ConfChain
public import proofs.«01_k».proof.Proof.ConfRun
public import proofs.«01_k».proof.Proof.ConfRef

@[expose] public section

set_option maxRecDepth 16384

noncomputable section

namespace Cert.Proof.Conf

open Idealize.ShloMosaic Idealize.ShloMosaic.TcCoe Idealize.ShloMosaic.Tactic Idealize.SL.Sem

/-- On the extended reals the layer's kernels leave the reference's result, whatever the arguments. -/
theorem algebraic : Cert.algebraic_Kernel15Ideal_Reference15Ideal (hKernel15Ideal := Cert.Kernel15Ideal.Gen.facts)
    (hReference15Ideal := Cert.Reference15Ideal.Gen.facts) := by
  intro m g m' g' hpre hagree
  refine ⟨fun c => Cert.Kernel15Ideal.Gen.W4 m g c (Proc.devRef .tc Cert.Kernel15Ideal.main_v6_2), ?_, ?_⟩
  · exact (θ_run _ _ _).mono (fun r h c =>
      ⟨h c _ (Cert.Kernel15Ideal.Gen.mem_uc Cert.Kernel15Ideal.main_v6_2 (by decide)),
        (h c _ (Cert.Kernel15Ideal.Gen.mem_uc Cert.Kernel15Ideal.main_arg0 (by decide))).trans (Cert.Kernel15Ideal.Gen.W4_main_arg0 m g c),
        (h c _ (Cert.Kernel15Ideal.Gen.mem_uc Cert.Kernel15Ideal.main_arg1 (by decide))).trans (Cert.Kernel15Ideal.Gen.W4_main_arg1 m g c),
        (h c _ (Cert.Kernel15Ideal.Gen.mem_uc Cert.Kernel15Ideal.main_arg2 (by decide))).trans (Cert.Kernel15Ideal.Gen.W4_main_arg2 m g c),
        (h c _ (Cert.Kernel15Ideal.Gen.mem_uc Cert.Kernel15Ideal.main_arg3 (by decide))).trans (Cert.Kernel15Ideal.Gen.W4_main_arg3 m g c),
        (h c _ (Cert.Kernel15Ideal.Gen.mem_uc Cert.Kernel15Ideal.main_arg4 (by decide))).trans (Cert.Kernel15Ideal.Gen.W4_main_arg4 m g c),
        (h c _ (Cert.Kernel15Ideal.Gen.mem_uc Cert.Kernel15Ideal.main_arg5 (by decide))).trans (Cert.Kernel15Ideal.Gen.W4_main_arg5 m g c),
        (h c _ (Cert.Kernel15Ideal.Gen.mem_uc Cert.Kernel15Ideal.main_arg6 (by decide))).trans (Cert.Kernel15Ideal.Gen.W4_main_arg6 m g c),
        (h c _ (Cert.Kernel15Ideal.Gen.mem_uc Cert.Kernel15Ideal.main_arg7 (by decide))).trans (Cert.Kernel15Ideal.Gen.W4_main_arg7 m g c),
        (h c _ (Cert.Kernel15Ideal.Gen.mem_uc Cert.Kernel15Ideal.main_arg8 (by decide))).trans (Cert.Kernel15Ideal.Gen.W4_main_arg8 m g c),
        (h c _ (Cert.Kernel15Ideal.Gen.mem_uc Cert.Kernel15Ideal.main_arg9 (by decide))).trans (Cert.Kernel15Ideal.Gen.W4_main_arg9 m g c),
        (h c _ (Cert.Kernel15Ideal.Gen.mem_uc Cert.Kernel15Ideal.main_arg10 (by decide))).trans (Cert.Kernel15Ideal.Gen.W4_main_arg10 m g c),
        (h c _ (Cert.Kernel15Ideal.Gen.mem_uc Cert.Kernel15Ideal.main_arg11 (by decide))).trans (Cert.Kernel15Ideal.Gen.W4_main_arg11 m g c),
        (h c _ (Cert.Kernel15Ideal.Gen.mem_uc Cert.Kernel15Ideal.main_arg12 (by decide))).trans (Cert.Kernel15Ideal.Gen.W4_main_arg12 m g c)⟩)
      (Cert.Proof.ConfRun.run_all m g)
  · refine (θ_run _ _ _).mono (fun r h c => ?_) (Cert.Reference15Ideal.Value.run m' g')
    obtain ⟨r0, ra⟩ := h c
    obtain ⟨a0, a1, a2, a3, a4, a5, a6, a7, a8, a9, a10, a11, a12⟩ := hagree c
    refine ⟨r0.trans ?_, ra⟩
    replace a0 : StableHlo.launchContents m' c (Proc.devRef .tc Cert.Reference15Ideal.main_arg0) = _ := a0
    replace a1 : StableHlo.launchContents m' c (Proc.devRef .tc Cert.Reference15Ideal.main_arg1) = _ := a1
    replace a2 : StableHlo.launchContents m' c (Proc.devRef .tc Cert.Reference15Ideal.main_arg2) = _ := a2
    replace a3 : StableHlo.launchContents m' c (Proc.devRef .tc Cert.Reference15Ideal.main_arg3) = _ := a3
    replace a4 : StableHlo.launchContents m' c (Proc.devRef .tc Cert.Reference15Ideal.main_arg4) = _ := a4
    replace a5 : StableHlo.launchContents m' c (Proc.devRef .tc Cert.Reference15Ideal.main_arg5) = _ := a5
    replace a6 : StableHlo.launchContents m' c (Proc.devRef .tc Cert.Reference15Ideal.main_arg6) = _ := a6
    replace a7 : StableHlo.launchContents m' c (Proc.devRef .tc Cert.Reference15Ideal.main_arg7) = _ := a7
    replace a8 : StableHlo.launchContents m' c (Proc.devRef .tc Cert.Reference15Ideal.main_arg8) = _ := a8
    replace a9 : StableHlo.launchContents m' c (Proc.devRef .tc Cert.Reference15Ideal.main_arg9) = _ := a9
    replace a10 : StableHlo.launchContents m' c (Proc.devRef .tc Cert.Reference15Ideal.main_arg10) = _ := a10
    replace a11 : StableHlo.launchContents m' c (Proc.devRef .tc Cert.Reference15Ideal.main_arg11) = _ := a11
    replace a12 : StableHlo.launchContents m' c (Proc.devRef .tc Cert.Reference15Ideal.main_arg12) = _ := a12
    rw [Cert.Reference15Ideal.Read.val_main_v280_eq, a0, a1, a2, a3, a4, a5, a6, a7, a8, a9, a10, a11, a12]
    refine Eq.trans ?_ (mid4 m g c).symm
    funext y
    change Cert.Reference15Ideal.S4096x1024.Idx at y
    idx_vars y
    exact Cert.Proof.ConfRef.mid_at _ _ _ _ _ _ _ _ _ _ _ _ _ y0 y1

end Cert.Proof.Conf
-- ==== Proof.Adam.lean ====
/- One step of the optimiser on one entry: the new moments and the change of the weight. -/
module

public import Idealize.ShloMosaic.Lib.Pipeline.ValueKit
public import Idealize.ShloMosaic.Lib.Pointwise

@[expose] public section

noncomputable section

namespace Cert.Proof.Adam

open Idealize.ShloMosaic

/-- An array of numbers. -/
abbrev Arr (s : Shape) : Type := (⟨s, .f32⟩ : BufTy).Contents (Elt Ideal)

/-- The number that a float word stands for. -/
abbrev num (b : BitVec 32) : Ideal .f32 := Scalar.ofBits .f32 b

/-- The new first moment: nine tenths of the old one and a tenth of the gradient. -/
def newM (g m : Ideal .f32) : Ideal .f32 :=
  FloatOps.addf (FloatOps.mulf (num 0x3F666666#32) m) (FloatOps.mulf (num 0x3DCCCCCD#32) g)

/-- The new second moment: 0.999 of the old one and a thousandth of the gradient's square. -/
def newV (g v : Ideal .f32) : Ideal .f32 :=
  FloatOps.addf (FloatOps.mulf (num 0x3F7FBE77#32) v) (FloatOps.mulf (num 0x3A83126F#32) (FloatOps.mulf g g))

/-- The change of the weight: the corrected first moment over the root of the corrected second one, with the weight's decay,
    times the negated learning rate. -/
def delta (g w m v : Ideal .f32) : Ideal .f32 :=
  FloatOps.mulf (num 0xBA83126F#32) (FloatOps.addf
    (FloatOps.divf (FloatOps.divf (newM g m) (num 0x3F26BD02#32))
      (FloatOps.addf (FloatOps.sqrt (FloatOps.divf (newV g v) (num 0x3C231ACC#32))) (num 0x322BCC77#32)))
    (FloatOps.mulf (num 0x3C23D70A#32) w))

theorem delta_congr {g g' w w' m m' v v' : Ideal .f32} (hg : g = g') (hw : w = w') (hm : m = m') (hv : v = v') :
    delta g w m v = delta g' w' m' v' := by rw [hg, hw, hm, hv]

/-- An index with two known entries. -/
theorem ix_of {a b c : ℕ} (e : (⟨3, ![a, b, c]⟩ : Shape).Idx) (L : Fin a) (l : Fin c) (h0 : (e 0 : ℕ) = L.val) (h2 : (e 2 : ℕ) = l.val) :
    e = ix3 L (e 1) l := by
  funext k
  fin_cases k
  exacts [Fin.ext h0, rfl, Fin.ext h2]

end Cert.Proof.Adam
-- ==== Proof.AdamFfnIn.lean ====
/- The optimiser's call for the feed-forward input weight: the gradients put together, the changes of the weight and the new moments. -/
module

public import proofs.«01_k».proof.Defs
public import proofs.«01_k».proof.Proof.Adam
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

namespace Cert.Proof.AdamFfnIn

open Idealize.ShloMosaic Idealize.ShloMosaic.TcCoe Idealize.ShloMosaic.Tactic Idealize.SL.Sem
open Idealize.ShloMosaic.Pipeline (Dat)

section Kernel

open Cert.Kernel16Ideal Cert.Kernel16Ideal.Gen

/-- The layer's own gradient is the one taken. -/
theorem pick (i : grid0.Coords) (u0 u1 u2 u3 : Vec Ideal S256x1408 .f32) (L : Fin 4) (h : (i 0).val = L.val) :
    k0_pay5 (F := Ideal) i u0 u1 u2 u3 = (![u0, u1, u2, u3] : Fin 4 → Vec Ideal S256x1408 .f32) L := by
  unfold k0_pay5
  simp only [h]
  fin_cases L <;> rfl

variable (i : grid0.Coords) (u0 u1 u2 u3 : Vec Ideal S256x1408 .f32) (w mm vv : Vec Ideal S1x256x1408 .f32) (q : Fin 256) (l : Fin 1408)

theorem pay_g : k0_pay1 (F := Ideal) (k0_pay5 (F := Ideal) i u0 u1 u2 u3) (ix3 0 q l) = (k0_pay5 (F := Ideal) i u0 u1 u2 u3) (ix2 q l) := by
  pointwise [k0_pay1, k0_pay2, k0_pay3, k0_pay4, k0_pay6, k0_pay7, k0_pay8, k0_pay9, k0_pay10]

theorem pay_d : k0_pay2 (F := Ideal) (k0_pay6 (F := Ideal) w) (k0_pay9 (F := Ideal) i u0 u1 u2 u3 mm) (k0_pay10 (F := Ideal) i u0 u1 u2 u3 vv) (ix3 0 q l)
    = Adam.delta ((k0_pay5 (F := Ideal) i u0 u1 u2 u3) (ix2 q l)) (w (ix3 0 q l)) (mm (ix3 0 q l)) (vv (ix3 0 q l)) := by
  pointwise [k0_pay1, k0_pay2, k0_pay3, k0_pay4, k0_pay6, k0_pay7, k0_pay8, k0_pay9, k0_pay10]
  rfl

theorem pay_m : k0_pay3 (F := Ideal) (k0_pay7 (F := Ideal) i u0 u1 u2 u3 mm) (ix3 0 q l) = Adam.newM ((k0_pay5 (F := Ideal) i u0 u1 u2 u3) (ix2 q l)) (mm (ix3 0 q l)) := by
  pointwise [k0_pay1, k0_pay2, k0_pay3, k0_pay4, k0_pay6, k0_pay7, k0_pay8, k0_pay9, k0_pay10]
  rfl

theorem pay_v : k0_pay4 (F := Ideal) (k0_pay8 (F := Ideal) i u0 u1 u2 u3 vv) (ix3 0 q l) = Adam.newV ((k0_pay5 (F := Ideal) i u0 u1 u2 u3) (ix2 q l)) (vv (ix3 0 q l)) := by
  pointwise [k0_pay1, k0_pay2, k0_pay3, k0_pay4, k0_pay6, k0_pay7, k0_pay8, k0_pay9, k0_pay10]
  rfl

end Kernel

section Arrays

open Cert.Kernel16Ideal Cert.Kernel16Ideal.Gen

variable (m : (ℓ : Loc nD τ sig) → Buf (Elt Ideal) ℓ) (c : Dev nD)

theorem blk_g0 (t : Fin cfg0.N) (h : t.val / 4 = 0) (q : Fin 256) (l : Fin 1408) (R : Fin 1024) (hR : R.val = t.val % 4 * 256 + q.val) :
    (View.ld (iblk m c 0 t) r0_0 : Vec Ideal S256x1408 .f32) (ix2 q l) = (V m c main_arg0 : Vec Ideal S1024x1408 .f32) (ix2 R l) := by
  have hi : ∀ t : Fin cfg0.N, t.val / 4 = 0 → (cfg0.win 0).index t = ![t.val % 4, 0] := by decide +kernel
  blk_ext [iblk, V, hi t h, hR, View.ld, LoadRect.idx_apply]
  all_goals simp [Rect.unit]

theorem blk_g1 (t : Fin cfg0.N) (h : t.val / 4 = 1) (q : Fin 256) (l : Fin 1408) (R : Fin 1024) (hR : R.val = t.val % 4 * 256 + q.val) :
    (View.ld (iblk m c 1 t) r0_0 : Vec Ideal S256x1408 .f32) (ix2 q l) = (V m c main_arg1 : Vec Ideal S1024x1408 .f32) (ix2 R l) := by
  have hi : ∀ t : Fin cfg0.N, t.val / 4 = 1 → (cfg0.win 1).index t = ![t.val % 4, 0] := by decide +kernel
  blk_ext [iblk, V, hi t h, hR, View.ld, LoadRect.idx_apply]
  all_goals simp [Rect.unit]

theorem blk_g2 (t : Fin cfg0.N) (h : t.val / 4 = 2) (q : Fin 256) (l : Fin 1408) (R : Fin 1024) (hR : R.val = t.val % 4 * 256 + q.val) :
    (View.ld (iblk m c 2 t) r0_0 : Vec Ideal S256x1408 .f32) (ix2 q l) = (V m c main_arg2 : Vec Ideal S1024x1408 .f32) (ix2 R l) := by
  have hi : ∀ t : Fin cfg0.N, t.val / 4 = 2 → (cfg0.win 2).index t = ![t.val % 4, 0] := by decide +kernel
  blk_ext [iblk, V, hi t h, hR, View.ld, LoadRect.idx_apply]
  all_goals simp [Rect.unit]

theorem blk_g3 (t : Fin cfg0.N) (h : t.val / 4 = 3) (q : Fin 256) (l : Fin 1408) (R : Fin 1024) (hR : R.val = t.val % 4 * 256 + q.val) :
    (View.ld (iblk m c 3 t) r0_0 : Vec Ideal S256x1408 .f32) (ix2 q l) = (V m c main_arg3 : Vec Ideal S1024x1408 .f32) (ix2 R l) := by
  have hi : ∀ t : Fin cfg0.N, t.val / 4 = 3 → (cfg0.win 3).index t = ![t.val % 4, 0] := by decide +kernel
  blk_ext [iblk, V, hi t h, hR, View.ld, LoadRect.idx_apply]
  all_goals simp [Rect.unit]

section

variable (t : Fin cfg0.N) (q : Fin 256) (l : Fin 1408) (L : Fin 4) (R : Fin 1024) (hL : L.val = t.val / 4) (hR : R.val = t.val % 4 * 256 + q.val)

include hL hR

theorem blk_w :
    (View.ld (iblk m c 4 t) r0_1 : Vec Ideal S1x256x1408 .f32) (ix3 0 q l) = (V m c main_arg4 : Vec Ideal S4x1024x1408 .f32) (ix3 L R l) := by
  have hi : ∀ t : Fin cfg0.N, (cfg0.win 4).index t = ![t.val / 4, t.val % 4, 0] := by decide +kernel
  blk_ext [iblk, V, hi t, hL, hR, View.ld, LoadRect.idx_apply]
  all_goals simp [Rect.unit]

theorem blk_m :
    (View.ld (iblk m c 5 t) r0_1 : Vec Ideal S1x256x1408 .f32) (ix3 0 q l) = (V m c main_arg5 : Vec Ideal S4x1024x1408 .f32) (ix3 L R l) := by
  have hi : ∀ t : Fin cfg0.N, (cfg0.win 5).index t = ![t.val / 4, t.val % 4, 0] := by decide +kernel
  blk_ext [iblk, V, hi t, hL, hR, View.ld, LoadRect.idx_apply]
  all_goals simp [Rect.unit]

theorem blk_v :
    (View.ld (iblk m c 6 t) r0_1 : Vec Ideal S1x256x1408 .f32) (ix3 0 q l) = (V m c main_arg6 : Vec Ideal S4x1024x1408 .f32) (ix3 L R l) := by
  have hi : ∀ t : Fin cfg0.N, (cfg0.win 6).index t = ![t.val / 4, t.val % 4, 0] := by decide +kernel
  blk_ext [iblk, V, hi t, hL, hR, View.ld, LoadRect.idx_apply]
  all_goals simp [Rect.unit]

end

/-- The gradients of all layers, one array. -/
def gradE (g : Fin 4 → Vec Ideal S1024x1408 .f32) (L : Fin 4) (R : Fin 1024) (l : Fin 1408) : Ideal .f32 := g L (ix2 R l)

abbrev gradA := gradE ![V m c main_arg0, V m c main_arg1, V m c main_arg2, V m c main_arg3]

theorem grad_at (t : Fin cfg0.N) (q : Fin 256) (l : Fin 1408) (L : Fin 4) (R : Fin 1024) (hL : L.val = t.val / 4)
    (hR : R.val = t.val % 4 * 256 + q.val) :
    (k0_pay5 (F := Ideal) (grid0.coords t) (View.ld (iblk m c 0 t) r0_0) (View.ld (iblk m c 1 t) r0_0) (View.ld (iblk m c 2 t) r0_0) (View.ld (iblk m c 3 t) r0_0)) (ix2 q l) = gradA m c L R l := by
  have hc : ∀ t : Fin cfg0.N, (grid0.coords t 0).val = t.val / 4 := by decide +kernel
  rw [pick (grid0.coords t) _ _ _ _ L ((hc t).trans hL.symm)]
  obtain ⟨L, hl⟩ := L
  obtain rfl | rfl | rfl | rfl : L = 0 ∨ L = 1 ∨ L = 2 ∨ L = 3 := by omega
  · exact blk_g0 m c t hL.symm q l R hR
  · exact blk_g1 m c t hL.symm q l R hR
  · exact blk_g2 m c t hL.symm q l R hR
  · exact blk_g3 m c t hL.symm q l R hR

theorem array7 : (dats m 0 c).arrAt 7 cfg0.N = fun y : S4x1024x1408.Idx => gradA m c (y 0) (y 1) (y 2) := by
  refine (dats m 0 c).arrAt_eq_of_covers 7 _ (by decide +kernel) fun t hf y => ?_
  have hi : ∀ t : Fin cfg0.N, (cfg0.win 7).index t = ![t.val / 4, t.val % 4, 0] := by decide +kernel
  have hL : t.val / 4 < 4 := by have : t.val < 16 := t.isLt; omega
  have h1 : (((cfg0.win 7).blk t).view.emb y 1 : ℕ) = t.val % 4 * 256 + (y 1).val := by
    blk_simp [hi t] <;> omega
  have hy := Adam.ix_of (((cfg0.win 7).blk t).view.emb y) ⟨t.val / 4, hL⟩ (y 2) (by blk_simp [hi t]) (by blk_simp [hi t])
  blk_simp
  rw [after0_7, out0_7, View.canon_cons_unit_zero (by decide), hy]
  change S1x256x1408.Idx at y
  idx_vars y
  obtain rfl : y0 = 0 := Fin.fin_one_eq_zero y0
  refine (pay_g _ _ _ _ _  _ _).trans ?_
  exact (grad_at m c t y1 y2 ⟨_, hL⟩ _ rfl h1)

theorem array8 : (dats m 0 c).arrAt 8 cfg0.N = fun y : S4x1024x1408.Idx => Adam.delta (gradA m c (y 0) (y 1) (y 2)) ((V m c main_arg4 : Vec Ideal S4x1024x1408 .f32) y) ((V m c main_arg5 : Vec Ideal S4x1024x1408 .f32) y) ((V m c main_arg6 : Vec Ideal S4x1024x1408 .f32) y) := by
  refine (dats m 0 c).arrAt_eq_of_covers 8 _ (by decide +kernel) fun t hf y => ?_
  have hi : ∀ t : Fin cfg0.N, (cfg0.win 8).index t = ![t.val / 4, t.val % 4, 0] := by decide +kernel
  have hL : t.val / 4 < 4 := by have : t.val < 16 := t.isLt; omega
  have h1 : (((cfg0.win 8).blk t).view.emb y 1 : ℕ) = t.val % 4 * 256 + (y 1).val := by
    blk_simp [hi t] <;> omega
  have hy := Adam.ix_of (((cfg0.win 8).blk t).view.emb y) ⟨t.val / 4, hL⟩ (y 2) (by blk_simp [hi t]) (by blk_simp [hi t])
  blk_simp
  rw [after0_8, out0_8, View.canon_cons_unit_zero (by decide), hy]
  change S1x256x1408.Idx at y
  idx_vars y
  obtain rfl : y0 = 0 := Fin.fin_one_eq_zero y0
  refine (pay_d _ _ _ _ _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array9 : (dats m 0 c).arrAt 9 cfg0.N = fun y : S4x1024x1408.Idx => Adam.newM (gradA m c (y 0) (y 1) (y 2)) ((V m c main_arg5 : Vec Ideal S4x1024x1408 .f32) y) := by
  refine (dats m 0 c).arrAt_eq_of_covers 9 _ (by decide +kernel) fun t hf y => ?_
  have hi : ∀ t : Fin cfg0.N, (cfg0.win 9).index t = ![t.val / 4, t.val % 4, 0] := by decide +kernel
  have hL : t.val / 4 < 4 := by have : t.val < 16 := t.isLt; omega
  have h1 : (((cfg0.win 9).blk t).view.emb y 1 : ℕ) = t.val % 4 * 256 + (y 1).val := by
    blk_simp [hi t] <;> omega
  have hy := Adam.ix_of (((cfg0.win 9).blk t).view.emb y) ⟨t.val / 4, hL⟩ (y 2) (by blk_simp [hi t]) (by blk_simp [hi t])
  blk_simp
  rw [after0_9, out0_9, View.canon_cons_unit_zero (by decide), hy]
  change S1x256x1408.Idx at y
  idx_vars y
  obtain rfl : y0 = 0 := Fin.fin_one_eq_zero y0
  refine (pay_m _ _ _ _ _ _ _ _).trans ?_
  exact congrArg₂ Adam.newM (grad_at m c t y1 y2 ⟨_, hL⟩ _ rfl h1) (blk_m m c t y1 y2 ⟨_, hL⟩ _ rfl h1)

theorem array10 : (dats m 0 c).arrAt 10 cfg0.N = fun y : S4x1024x1408.Idx => Adam.newV (gradA m c (y 0) (y 1) (y 2)) ((V m c main_arg6 : Vec Ideal S4x1024x1408 .f32) y) := by
  refine (dats m 0 c).arrAt_eq_of_covers 10 _ (by decide +kernel) fun t hf y => ?_
  have hi : ∀ t : Fin cfg0.N, (cfg0.win 10).index t = ![t.val / 4, t.val % 4, 0] := by decide +kernel
  have hL : t.val / 4 < 4 := by have : t.val < 16 := t.isLt; omega
  have h1 : (((cfg0.win 10).blk t).view.emb y 1 : ℕ) = t.val % 4 * 256 + (y 1).val := by
    blk_simp [hi t] <;> omega
  have hy := Adam.ix_of (((cfg0.win 10).blk t).view.emb y) ⟨t.val / 4, hL⟩ (y 2) (by blk_simp [hi t]) (by blk_simp [hi t])
  blk_simp
  rw [after0_10]
  unfold out0_10
  rw [View.canon_cons_unit_zero (by decide), hy]
  change S1x256x1408.Idx at y
  idx_vars y
  obtain rfl : y0 = 0 := Fin.fin_one_eq_zero y0
  refine (pay_v _ _ _ _ _ _ _ _).trans ?_
  exact congrArg₂ Adam.newV (grad_at m c t y1 y2 ⟨_, hL⟩ _ rfl h1) (blk_v m c t y1 y2 ⟨_, hL⟩ _ rfl h1)

end Arrays

section Reference

open Cert.Reference16Ideal Cert.Reference16Ideal.Gen Cert.Reference16Ideal.Read

variable (g0 g1 g2 g3 : Adam.Arr S1024x1408) (w mm vv : Adam.Arr S4x1024x1408)

theorem ref_g (L : Fin 4) (R : Fin 1024) (l : Fin 1408) :
    val_main_v4 (F := Ideal) g0 g1 g2 g3 (ix3 L R l) = gradE ![g0, g1, g2, g3] L R l := by
  obtain ⟨L, hl⟩ := L
  obtain rfl | rfl | rfl | rfl : L = 0 ∨ L = 1 ∨ L = 2 ∨ L = 3 := by omega
  all_goals
    pointwise [val_main_v0, val_main_v1, val_main_v2, val_main_v3, val_main_v4]
    try rfl

theorem ref_d (y : S4x1024x1408.Idx) : val_main_v28 (F := Ideal) g0 g1 g2 g3 w mm vv y
    = Adam.delta (val_main_v4 (F := Ideal) g0 g1 g2 g3 y) (w y) (mm y) (vv y) := by
  idx_vars y
  rfl

theorem ref_m (y : S4x1024x1408.Idx) : val_main_v9 (F := Ideal) g0 g1 g2 g3 mm y = Adam.newM (val_main_v4 (F := Ideal) g0 g1 g2 g3 y) (mm y) := by
  idx_vars y
  rfl

theorem ref_v (y : S4x1024x1408.Idx) : val_main_v15 (F := Ideal) g0 g1 g2 g3 vv y = Adam.newV (val_main_v4 (F := Ideal) g0 g1 g2 g3 y) (vv y) := by
  idx_vars y
  rfl

end Reference

attribute [local instance] Cert.Kernel16Ideal.Gen.facts Cert.Reference16Ideal.Gen.facts

/-- On the extended reals the kernel's arrays are the reference's results. -/
theorem algebraic : Cert.algebraic_Kernel16Ideal_Reference16Ideal
    (hKernel16Ideal := Cert.Kernel16Ideal.Gen.facts) (hReference16Ideal := Cert.Reference16Ideal.Gen.facts) := by
  intro m g m' g' _ hagree
  refine ⟨_, _, _, _, Cert.Kernel16Ideal.Value.run_blocks m g, ?_⟩
  refine (θ_run _ _ _).mono (fun r h c => ?_) (Cert.Reference16Ideal.Value.run m' g')
  obtain ⟨r0, r1, r2, r3, ra⟩ := h c
  obtain ⟨a0, a1, a2, a3, a4, a5, a6⟩ := hagree c
  refine ⟨r0.trans ?_, r1.trans ?_, r2.trans ?_, r3.trans ?_, ra⟩
  · rw [Cert.Reference16Ideal.Read.val_main_v4_eq, a0, a1, a2, a3]
    refine Eq.trans (funext fun y => ?_) (array7 m c).symm
    change Cert.Reference16Ideal.S4x1024x1408.Idx at y
    idx_vars y
    exact ref_g _ _ _ _ y0 y1 y2
  · rw [Cert.Reference16Ideal.Read.val_main_v28_eq, a0, a1, a2, a3, a4, a5, a6]
    refine Eq.trans (funext fun y => ?_) (array8 m c).symm
    change Cert.Reference16Ideal.S4x1024x1408.Idx at y
    refine (ref_d _ _ _ _ _ _ _ y).trans ?_
    idx_vars y
    rw [ref_g]
    try rfl
  · rw [Cert.Reference16Ideal.Read.val_main_v9_eq, a0, a1, a2, a3, a5]
    refine Eq.trans (funext fun y => ?_) (array9 m c).symm
    change Cert.Reference16Ideal.S4x1024x1408.Idx at y
    refine (ref_m _ _ _ _ _ y).trans ?_
    idx_vars y
    rw [ref_g]
    try rfl
  · rw [Cert.Reference16Ideal.Read.val_main_v15_eq, a0, a1, a2, a3, a6]
    refine Eq.trans (funext fun y => ?_) (array10 m c).symm
    change Cert.Reference16Ideal.S4x1024x1408.Idx at y
    refine (ref_v _ _ _ _ _ y).trans ?_
    idx_vars y
    rw [ref_g]
    try rfl

end Cert.Proof.AdamFfnIn
-- ==== Proof.AdamFfnOut.lean ====
/- The optimiser's call for the feed-forward output weight: the gradients put together, the changes of the weight and the new moments. -/
module

public import proofs.«01_k».proof.Defs
public import proofs.«01_k».proof.Proof.Adam
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

namespace Cert.Proof.AdamFfnOut

open Idealize.ShloMosaic Idealize.ShloMosaic.TcCoe Idealize.ShloMosaic.Tactic Idealize.SL.Sem
open Idealize.ShloMosaic.Pipeline (Dat)

section Kernel

open Cert.Kernel17Ideal Cert.Kernel17Ideal.Gen

/-- The layer's own gradient is the one taken. -/
theorem pick (i : grid0.Coords) (u0 u1 u2 u3 : Vec Ideal S352x1024 .f32) (L : Fin 4) (h : (i 0).val = L.val) :
    k0_pay5 (F := Ideal) i u0 u1 u2 u3 = (![u0, u1, u2, u3] : Fin 4 → Vec Ideal S352x1024 .f32) L := by
  unfold k0_pay5
  simp only [h]
  fin_cases L <;> rfl

variable (i : grid0.Coords) (u0 u1 u2 u3 : Vec Ideal S352x1024 .f32) (w mm vv : Vec Ideal S1x352x1024 .f32) (q : Fin 352) (l : Fin 1024)

theorem pay_g : k0_pay1 (F := Ideal) (k0_pay5 (F := Ideal) i u0 u1 u2 u3) (ix3 0 q l) = (k0_pay5 (F := Ideal) i u0 u1 u2 u3) (ix2 q l) := by
  pointwise [k0_pay1, k0_pay2, k0_pay3, k0_pay4, k0_pay6, k0_pay7, k0_pay8, k0_pay9, k0_pay10]

theorem pay_d : k0_pay2 (F := Ideal) (k0_pay6 (F := Ideal) w) (k0_pay9 (F := Ideal) i u0 u1 u2 u3 mm) (k0_pay10 (F := Ideal) i u0 u1 u2 u3 vv) (ix3 0 q l)
    = Adam.delta ((k0_pay5 (F := Ideal) i u0 u1 u2 u3) (ix2 q l)) (w (ix3 0 q l)) (mm (ix3 0 q l)) (vv (ix3 0 q l)) := by
  pointwise [k0_pay1, k0_pay2, k0_pay3, k0_pay4, k0_pay6, k0_pay7, k0_pay8, k0_pay9, k0_pay10]
  rfl

theorem pay_m : k0_pay3 (F := Ideal) (k0_pay7 (F := Ideal) i u0 u1 u2 u3 mm) (ix3 0 q l) = Adam.newM ((k0_pay5 (F := Ideal) i u0 u1 u2 u3) (ix2 q l)) (mm (ix3 0 q l)) := by
  pointwise [k0_pay1, k0_pay2, k0_pay3, k0_pay4, k0_pay6, k0_pay7, k0_pay8, k0_pay9, k0_pay10]
  rfl

theorem pay_v : k0_pay4 (F := Ideal) (k0_pay8 (F := Ideal) i u0 u1 u2 u3 vv) (ix3 0 q l) = Adam.newV ((k0_pay5 (F := Ideal) i u0 u1 u2 u3) (ix2 q l)) (vv (ix3 0 q l)) := by
  pointwise [k0_pay1, k0_pay2, k0_pay3, k0_pay4, k0_pay6, k0_pay7, k0_pay8, k0_pay9, k0_pay10]
  rfl

end Kernel

section Arrays

open Cert.Kernel17Ideal Cert.Kernel17Ideal.Gen

variable (m : (ℓ : Loc nD τ sig) → Buf (Elt Ideal) ℓ) (c : Dev nD)

theorem blk_g0 (t : Fin cfg0.N) (h : t.val / 2 = 0) (q : Fin 352) (l : Fin 1024) (R : Fin 704) (hR : R.val = t.val % 2 * 352 + q.val) :
    (View.ld (iblk m c 0 t) r0_0 : Vec Ideal S352x1024 .f32) (ix2 q l) = (V m c main_arg0 : Vec Ideal S704x1024 .f32) (ix2 R l) := by
  have hi : ∀ t : Fin cfg0.N, t.val / 2 = 0 → (cfg0.win 0).index t = ![t.val % 2, 0] := by decide +kernel
  blk_ext [iblk, V, hi t h, hR, View.ld, LoadRect.idx_apply]
  all_goals simp [Rect.unit]

theorem blk_g1 (t : Fin cfg0.N) (h : t.val / 2 = 1) (q : Fin 352) (l : Fin 1024) (R : Fin 704) (hR : R.val = t.val % 2 * 352 + q.val) :
    (View.ld (iblk m c 1 t) r0_0 : Vec Ideal S352x1024 .f32) (ix2 q l) = (V m c main_arg1 : Vec Ideal S704x1024 .f32) (ix2 R l) := by
  have hi : ∀ t : Fin cfg0.N, t.val / 2 = 1 → (cfg0.win 1).index t = ![t.val % 2, 0] := by decide +kernel
  blk_ext [iblk, V, hi t h, hR, View.ld, LoadRect.idx_apply]
  all_goals simp [Rect.unit]

theorem blk_g2 (t : Fin cfg0.N) (h : t.val / 2 = 2) (q : Fin 352) (l : Fin 1024) (R : Fin 704) (hR : R.val = t.val % 2 * 352 + q.val) :
    (View.ld (iblk m c 2 t) r0_0 : Vec Ideal S352x1024 .f32) (ix2 q l) = (V m c main_arg2 : Vec Ideal S704x1024 .f32) (ix2 R l) := by
  have hi : ∀ t : Fin cfg0.N, t.val / 2 = 2 → (cfg0.win 2).index t = ![t.val % 2, 0] := by decide +kernel
  blk_ext [iblk, V, hi t h, hR, View.ld, LoadRect.idx_apply]
  all_goals simp [Rect.unit]

theorem blk_g3 (t : Fin cfg0.N) (h : t.val / 2 = 3) (q : Fin 352) (l : Fin 1024) (R : Fin 704) (hR : R.val = t.val % 2 * 352 + q.val) :
    (View.ld (iblk m c 3 t) r0_0 : Vec Ideal S352x1024 .f32) (ix2 q l) = (V m c main_arg3 : Vec Ideal S704x1024 .f32) (ix2 R l) := by
  have hi : ∀ t : Fin cfg0.N, t.val / 2 = 3 → (cfg0.win 3).index t = ![t.val % 2, 0] := by decide +kernel
  blk_ext [iblk, V, hi t h, hR, View.ld, LoadRect.idx_apply]
  all_goals simp [Rect.unit]

section

variable (t : Fin cfg0.N) (q : Fin 352) (l : Fin 1024) (L : Fin 4) (R : Fin 704) (hL : L.val = t.val / 2) (hR : R.val = t.val % 2 * 352 + q.val)

include hL hR

theorem blk_w :
    (View.ld (iblk m c 4 t) r0_1 : Vec Ideal S1x352x1024 .f32) (ix3 0 q l) = (V m c main_arg4 : Vec Ideal S4x704x1024 .f32) (ix3 L R l) := by
  have hi : ∀ t : Fin cfg0.N, (cfg0.win 4).index t = ![t.val / 2, t.val % 2, 0] := by decide +kernel
  blk_ext [iblk, V, hi t, hL, hR, View.ld, LoadRect.idx_apply]
  all_goals simp [Rect.unit]

theorem blk_m :
    (View.ld (iblk m c 5 t) r0_1 : Vec Ideal S1x352x1024 .f32) (ix3 0 q l) = (V m c main_arg5 : Vec Ideal S4x704x1024 .f32) (ix3 L R l) := by
  have hi : ∀ t : Fin cfg0.N, (cfg0.win 5).index t = ![t.val / 2, t.val % 2, 0] := by decide +kernel
  blk_ext [iblk, V, hi t, hL, hR, View.ld, LoadRect.idx_apply]
  all_goals simp [Rect.unit]

theorem blk_v :
    (View.ld (iblk m c 6 t) r0_1 : Vec Ideal S1x352x1024 .f32) (ix3 0 q l) = (V m c main_arg6 : Vec Ideal S4x704x1024 .f32) (ix3 L R l) := by
  have hi : ∀ t : Fin cfg0.N, (cfg0.win 6).index t = ![t.val / 2, t.val % 2, 0] := by decide +kernel
  blk_ext [iblk, V, hi t, hL, hR, View.ld, LoadRect.idx_apply]
  all_goals simp [Rect.unit]

end

/-- The gradients of all layers, one array. -/
def gradE (g : Fin 4 → Vec Ideal S704x1024 .f32) (L : Fin 4) (R : Fin 704) (l : Fin 1024) : Ideal .f32 := g L (ix2 R l)

abbrev gradA := gradE ![V m c main_arg0, V m c main_arg1, V m c main_arg2, V m c main_arg3]

theorem grad_at (t : Fin cfg0.N) (q : Fin 352) (l : Fin 1024) (L : Fin 4) (R : Fin 704) (hL : L.val = t.val / 2)
    (hR : R.val = t.val % 2 * 352 + q.val) :
    (k0_pay5 (F := Ideal) (grid0.coords t) (View.ld (iblk m c 0 t) r0_0) (View.ld (iblk m c 1 t) r0_0) (View.ld (iblk m c 2 t) r0_0) (View.ld (iblk m c 3 t) r0_0)) (ix2 q l) = gradA m c L R l := by
  have hc : ∀ t : Fin cfg0.N, (grid0.coords t 0).val = t.val / 2 := by decide +kernel
  rw [pick (grid0.coords t) _ _ _ _ L ((hc t).trans hL.symm)]
  obtain ⟨L, hl⟩ := L
  obtain rfl | rfl | rfl | rfl : L = 0 ∨ L = 1 ∨ L = 2 ∨ L = 3 := by omega
  · exact blk_g0 m c t hL.symm q l R hR
  · exact blk_g1 m c t hL.symm q l R hR
  · exact blk_g2 m c t hL.symm q l R hR
  · exact blk_g3 m c t hL.symm q l R hR

theorem array7 : (dats m 0 c).arrAt 7 cfg0.N = fun y : S4x704x1024.Idx => gradA m c (y 0) (y 1) (y 2) := by
  refine (dats m 0 c).arrAt_eq_of_covers 7 _ (by decide +kernel) fun t hf y => ?_
  have hi : ∀ t : Fin cfg0.N, (cfg0.win 7).index t = ![t.val / 2, t.val % 2, 0] := by decide +kernel
  have hL : t.val / 2 < 4 := by have : t.val < 8 := t.isLt; omega
  have h1 : (((cfg0.win 7).blk t).view.emb y 1 : ℕ) = t.val % 2 * 352 + (y 1).val := by
    blk_simp [hi t] <;> omega
  have hy := Adam.ix_of (((cfg0.win 7).blk t).view.emb y) ⟨t.val / 2, hL⟩ (y 2) (by blk_simp [hi t]) (by blk_simp [hi t])
  blk_simp
  rw [after0_7, out0_7, View.canon_cons_unit_zero (by decide), hy]
  change S1x352x1024.Idx at y
  idx_vars y
  obtain rfl : y0 = 0 := Fin.fin_one_eq_zero y0
  refine (pay_g _ _ _ _ _  _ _).trans ?_
  exact (grad_at m c t y1 y2 ⟨_, hL⟩ _ rfl h1)

theorem array8 : (dats m 0 c).arrAt 8 cfg0.N = fun y : S4x704x1024.Idx => Adam.delta (gradA m c (y 0) (y 1) (y 2)) ((V m c main_arg4 : Vec Ideal S4x704x1024 .f32) y) ((V m c main_arg5 : Vec Ideal S4x704x1024 .f32) y) ((V m c main_arg6 : Vec Ideal S4x704x1024 .f32) y) := by
  refine (dats m 0 c).arrAt_eq_of_covers 8 _ (by decide +kernel) fun t hf y => ?_
  have hi : ∀ t : Fin cfg0.N, (cfg0.win 8).index t = ![t.val / 2, t.val % 2, 0] := by decide +kernel
  have hL : t.val / 2 < 4 := by have : t.val < 8 := t.isLt; omega
  have h1 : (((cfg0.win 8).blk t).view.emb y 1 : ℕ) = t.val % 2 * 352 + (y 1).val := by
    blk_simp [hi t] <;> omega
  have hy := Adam.ix_of (((cfg0.win 8).blk t).view.emb y) ⟨t.val / 2, hL⟩ (y 2) (by blk_simp [hi t]) (by blk_simp [hi t])
  blk_simp
  rw [after0_8, out0_8, View.canon_cons_unit_zero (by decide), hy]
  change S1x352x1024.Idx at y
  idx_vars y
  obtain rfl : y0 = 0 := Fin.fin_one_eq_zero y0
  refine (pay_d _ _ _ _ _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array9 : (dats m 0 c).arrAt 9 cfg0.N = fun y : S4x704x1024.Idx => Adam.newM (gradA m c (y 0) (y 1) (y 2)) ((V m c main_arg5 : Vec Ideal S4x704x1024 .f32) y) := by
  refine (dats m 0 c).arrAt_eq_of_covers 9 _ (by decide +kernel) fun t hf y => ?_
  have hi : ∀ t : Fin cfg0.N, (cfg0.win 9).index t = ![t.val / 2, t.val % 2, 0] := by decide +kernel
  have hL : t.val / 2 < 4 := by have : t.val < 8 := t.isLt; omega
  have h1 : (((cfg0.win 9).blk t).view.emb y 1 : ℕ) = t.val % 2 * 352 + (y 1).val := by
    blk_simp [hi t] <;> omega
  have hy := Adam.ix_of (((cfg0.win 9).blk t).view.emb y) ⟨t.val / 2, hL⟩ (y 2) (by blk_simp [hi t]) (by blk_simp [hi t])
  blk_simp
  rw [after0_9, out0_9, View.canon_cons_unit_zero (by decide), hy]
  change S1x352x1024.Idx at y
  idx_vars y
  obtain rfl : y0 = 0 := Fin.fin_one_eq_zero y0
  refine (pay_m _ _ _ _ _ _ _ _).trans ?_
  exact congrArg₂ Adam.newM (grad_at m c t y1 y2 ⟨_, hL⟩ _ rfl h1) (blk_m m c t y1 y2 ⟨_, hL⟩ _ rfl h1)

theorem array10 : (dats m 0 c).arrAt 10 cfg0.N = fun y : S4x704x1024.Idx => Adam.newV (gradA m c (y 0) (y 1) (y 2)) ((V m c main_arg6 : Vec Ideal S4x704x1024 .f32) y) := by
  refine (dats m 0 c).arrAt_eq_of_covers 10 _ (by decide +kernel) fun t hf y => ?_
  have hi : ∀ t : Fin cfg0.N, (cfg0.win 10).index t = ![t.val / 2, t.val % 2, 0] := by decide +kernel
  have hL : t.val / 2 < 4 := by have : t.val < 8 := t.isLt; omega
  have h1 : (((cfg0.win 10).blk t).view.emb y 1 : ℕ) = t.val % 2 * 352 + (y 1).val := by
    blk_simp [hi t] <;> omega
  have hy := Adam.ix_of (((cfg0.win 10).blk t).view.emb y) ⟨t.val / 2, hL⟩ (y 2) (by blk_simp [hi t]) (by blk_simp [hi t])
  blk_simp
  rw [after0_10]
  unfold out0_10
  rw [View.canon_cons_unit_zero (by decide), hy]
  change S1x352x1024.Idx at y
  idx_vars y
  obtain rfl : y0 = 0 := Fin.fin_one_eq_zero y0
  refine (pay_v _ _ _ _ _ _ _ _).trans ?_
  exact congrArg₂ Adam.newV (grad_at m c t y1 y2 ⟨_, hL⟩ _ rfl h1) (blk_v m c t y1 y2 ⟨_, hL⟩ _ rfl h1)

end Arrays

section Reference

open Cert.Reference17Ideal Cert.Reference17Ideal.Gen Cert.Reference17Ideal.Read

variable (g0 g1 g2 g3 : Adam.Arr S704x1024) (w mm vv : Adam.Arr S4x704x1024)

theorem ref_g (L : Fin 4) (R : Fin 704) (l : Fin 1024) :
    val_main_v4 (F := Ideal) g0 g1 g2 g3 (ix3 L R l) = gradE ![g0, g1, g2, g3] L R l := by
  obtain ⟨L, hl⟩ := L
  obtain rfl | rfl | rfl | rfl : L = 0 ∨ L = 1 ∨ L = 2 ∨ L = 3 := by omega
  all_goals
    pointwise [val_main_v0, val_main_v1, val_main_v2, val_main_v3, val_main_v4]
    try rfl

theorem ref_d (y : S4x704x1024.Idx) : val_main_v28 (F := Ideal) g0 g1 g2 g3 w mm vv y
    = Adam.delta (val_main_v4 (F := Ideal) g0 g1 g2 g3 y) (w y) (mm y) (vv y) := by
  idx_vars y
  rfl

theorem ref_m (y : S4x704x1024.Idx) : val_main_v9 (F := Ideal) g0 g1 g2 g3 mm y = Adam.newM (val_main_v4 (F := Ideal) g0 g1 g2 g3 y) (mm y) := by
  idx_vars y
  rfl

theorem ref_v (y : S4x704x1024.Idx) : val_main_v15 (F := Ideal) g0 g1 g2 g3 vv y = Adam.newV (val_main_v4 (F := Ideal) g0 g1 g2 g3 y) (vv y) := by
  idx_vars y
  rfl

end Reference

attribute [local instance] Cert.Kernel17Ideal.Gen.facts Cert.Reference17Ideal.Gen.facts

/-- On the extended reals the kernel's arrays are the reference's results. -/
theorem algebraic : Cert.algebraic_Kernel17Ideal_Reference17Ideal
    (hKernel17Ideal := Cert.Kernel17Ideal.Gen.facts) (hReference17Ideal := Cert.Reference17Ideal.Gen.facts) := by
  intro m g m' g' _ hagree
  refine ⟨_, _, _, _, Cert.Kernel17Ideal.Value.run_blocks m g, ?_⟩
  refine (θ_run _ _ _).mono (fun r h c => ?_) (Cert.Reference17Ideal.Value.run m' g')
  obtain ⟨r0, r1, r2, r3, ra⟩ := h c
  obtain ⟨a0, a1, a2, a3, a4, a5, a6⟩ := hagree c
  refine ⟨r0.trans ?_, r1.trans ?_, r2.trans ?_, r3.trans ?_, ra⟩
  · rw [Cert.Reference17Ideal.Read.val_main_v4_eq, a0, a1, a2, a3]
    refine Eq.trans (funext fun y => ?_) (array7 m c).symm
    change Cert.Reference17Ideal.S4x704x1024.Idx at y
    idx_vars y
    exact ref_g _ _ _ _ y0 y1 y2
  · rw [Cert.Reference17Ideal.Read.val_main_v28_eq, a0, a1, a2, a3, a4, a5, a6]
    refine Eq.trans (funext fun y => ?_) (array8 m c).symm
    change Cert.Reference17Ideal.S4x704x1024.Idx at y
    refine (ref_d _ _ _ _ _ _ _ y).trans ?_
    idx_vars y
    rw [ref_g]
    try rfl
  · rw [Cert.Reference17Ideal.Read.val_main_v9_eq, a0, a1, a2, a3, a5]
    refine Eq.trans (funext fun y => ?_) (array9 m c).symm
    change Cert.Reference17Ideal.S4x704x1024.Idx at y
    refine (ref_m _ _ _ _ _ y).trans ?_
    idx_vars y
    rw [ref_g]
    try rfl
  · rw [Cert.Reference17Ideal.Read.val_main_v15_eq, a0, a1, a2, a3, a6]
    refine Eq.trans (funext fun y => ?_) (array10 m c).symm
    change Cert.Reference17Ideal.S4x704x1024.Idx at y
    refine (ref_v _ _ _ _ _ y).trans ?_
    idx_vars y
    rw [ref_g]
    try rfl

end Cert.Proof.AdamFfnOut
-- ==== Proof.AdamMixIn.lean ====
/- The optimiser's call for the gated-convolution mixer's input weight: the gradients put together, the changes of the weight and the new moments. -/
module

public import proofs.«01_k».proof.Defs
public import proofs.«01_k».proof.Proof.Adam
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384

noncomputable section

namespace Cert.Proof.AdamMixIn

open Idealize.ShloMosaic Idealize.ShloMosaic.TcCoe Idealize.ShloMosaic.Tactic Idealize.SL.Sem
open Idealize.ShloMosaic.Pipeline (Dat)

section Kernel

open Cert.Kernel18Ideal Cert.Kernel18Ideal.Gen

/-- The layer's own gradient is the one taken. -/
theorem pick (i : grid0.Coords) (u0 u1 : Vec Ideal S256x768 .f32) (L : Fin 2) (h : (i 0).val = L.val) :
    k0_pay5 (F := Ideal) i u0 u1 = (![u0, u1] : Fin 2 → Vec Ideal S256x768 .f32) L := by
  unfold k0_pay5
  simp only [h]
  fin_cases L <;> rfl

variable (i : grid0.Coords) (u0 u1 : Vec Ideal S256x768 .f32) (w mm vv : Vec Ideal S1x256x768 .f32) (q : Fin 256) (l : Fin 768)

theorem pay_g : k0_pay1 (F := Ideal) (k0_pay5 (F := Ideal) i u0 u1) (ix3 0 q l) = (k0_pay5 (F := Ideal) i u0 u1) (ix2 q l) := by
  pointwise [k0_pay1, k0_pay2, k0_pay3, k0_pay4, k0_pay6, k0_pay7, k0_pay8]

theorem pay_d : k0_pay2 (F := Ideal) (k0_pay8 (F := Ideal) i u0 u1 w mm vv) (ix3 0 q l)
    = Adam.delta ((k0_pay5 (F := Ideal) i u0 u1) (ix2 q l)) (w (ix3 0 q l)) (mm (ix3 0 q l)) (vv (ix3 0 q l)) := by
  pointwise [k0_pay1, k0_pay2, k0_pay3, k0_pay4, k0_pay6, k0_pay7, k0_pay8]
  rfl

theorem pay_m : k0_pay3 (F := Ideal) (k0_pay6 (F := Ideal) i u0 u1 mm) (ix3 0 q l) = Adam.newM ((k0_pay5 (F := Ideal) i u0 u1) (ix2 q l)) (mm (ix3 0 q l)) := by
  pointwise [k0_pay1, k0_pay2, k0_pay3, k0_pay4, k0_pay6, k0_pay7, k0_pay8]
  rfl

theorem pay_v : k0_pay4 (F := Ideal) (k0_pay7 (F := Ideal) i u0 u1 vv) (ix3 0 q l) = Adam.newV ((k0_pay5 (F := Ideal) i u0 u1) (ix2 q l)) (vv (ix3 0 q l)) := by
  pointwise [k0_pay1, k0_pay2, k0_pay3, k0_pay4, k0_pay6, k0_pay7, k0_pay8]
  rfl

end Kernel

section Arrays

open Cert.Kernel18Ideal Cert.Kernel18Ideal.Gen

variable (m : (ℓ : Loc nD τ sig) → Buf (Elt Ideal) ℓ) (c : Dev nD)

theorem blk_g0 (t : Fin cfg0.N) (h : t.val / 4 = 0) (q : Fin 256) (l : Fin 768) (R : Fin 1024) (hR : R.val = t.val % 4 * 256 + q.val) :
    (View.ld (iblk m c 0 t) r0_0 : Vec Ideal S256x768 .f32) (ix2 q l) = (V m c main_arg0 : Vec Ideal S1024x768 .f32) (ix2 R l) := by
  have hi : ∀ t : Fin cfg0.N, t.val / 4 = 0 → (cfg0.win 0).index t = ![t.val % 4, 0] := by decide +kernel
  blk_ext [iblk, V, hi t h, hR, View.ld, LoadRect.idx_apply]
  all_goals simp [Rect.unit]

theorem blk_g1 (t : Fin cfg0.N) (h : t.val / 4 = 1) (q : Fin 256) (l : Fin 768) (R : Fin 1024) (hR : R.val = t.val % 4 * 256 + q.val) :
    (View.ld (iblk m c 1 t) r0_0 : Vec Ideal S256x768 .f32) (ix2 q l) = (V m c main_arg1 : Vec Ideal S1024x768 .f32) (ix2 R l) := by
  have hi : ∀ t : Fin cfg0.N, t.val / 4 = 1 → (cfg0.win 1).index t = ![t.val % 4, 0] := by decide +kernel
  blk_ext [iblk, V, hi t h, hR, View.ld, LoadRect.idx_apply]
  all_goals simp [Rect.unit]

section

variable (t : Fin cfg0.N) (q : Fin 256) (l : Fin 768) (L : Fin 2) (R : Fin 1024) (hL : L.val = t.val / 4) (hR : R.val = t.val % 4 * 256 + q.val)

include hL hR

theorem blk_w :
    (View.ld (iblk m c 2 t) r0_1 : Vec Ideal S1x256x768 .f32) (ix3 0 q l) = (V m c main_arg2 : Vec Ideal S2x1024x768 .f32) (ix3 L R l) := by
  have hi : ∀ t : Fin cfg0.N, (cfg0.win 2).index t = ![t.val / 4, t.val % 4, 0] := by decide +kernel
  blk_ext [iblk, V, hi t, hL, hR, View.ld, LoadRect.idx_apply]
  all_goals simp [Rect.unit]

theorem blk_m :
    (View.ld (iblk m c 3 t) r0_1 : Vec Ideal S1x256x768 .f32) (ix3 0 q l) = (V m c main_arg3 : Vec Ideal S2x1024x768 .f32) (ix3 L R l) := by
  have hi : ∀ t : Fin cfg0.N, (cfg0.win 3).index t = ![t.val / 4, t.val % 4, 0] := by decide +kernel
  blk_ext [iblk, V, hi t, hL, hR, View.ld, LoadRect.idx_apply]
  all_goals simp [Rect.unit]

theorem blk_v :
    (View.ld (iblk m c 4 t) r0_1 : Vec Ideal S1x256x768 .f32) (ix3 0 q l) = (V m c main_arg4 : Vec Ideal S2x1024x768 .f32) (ix3 L R l) := by
  have hi : ∀ t : Fin cfg0.N, (cfg0.win 4).index t = ![t.val / 4, t.val % 4, 0] := by decide +kernel
  blk_ext [iblk, V, hi t, hL, hR, View.ld, LoadRect.idx_apply]
  all_goals simp [Rect.unit]

end

/-- The gradients of all layers, one array. -/
def gradE (g : Fin 2 → Vec Ideal S1024x768 .f32) (L : Fin 2) (R : Fin 1024) (l : Fin 768) : Ideal .f32 := g L (ix2 R l)

abbrev gradA := gradE ![V m c main_arg0, V m c main_arg1]

theorem grad_at (t : Fin cfg0.N) (q : Fin 256) (l : Fin 768) (L : Fin 2) (R : Fin 1024) (hL : L.val = t.val / 4)
    (hR : R.val = t.val % 4 * 256 + q.val) :
    (k0_pay5 (F := Ideal) (grid0.coords t) (View.ld (iblk m c 0 t) r0_0) (View.ld (iblk m c 1 t) r0_0)) (ix2 q l) = gradA m c L R l := by
  have hc : ∀ t : Fin cfg0.N, (grid0.coords t 0).val = t.val / 4 := by decide +kernel
  rw [pick (grid0.coords t) _ _ L ((hc t).trans hL.symm)]
  obtain ⟨L, hl⟩ := L
  obtain rfl | rfl : L = 0 ∨ L = 1 := by omega
  · exact blk_g0 m c t hL.symm q l R hR
  · exact blk_g1 m c t hL.symm q l R hR

theorem array5 : (dats m 0 c).arrAt 5 cfg0.N = fun y : S2x1024x768.Idx => gradA m c (y 0) (y 1) (y 2) := by
  refine (dats m 0 c).arrAt_eq_of_covers 5 _ (by decide +kernel) fun t hf y => ?_
  have hi : ∀ t : Fin cfg0.N, (cfg0.win 5).index t = ![t.val / 4, t.val % 4, 0] := by decide +kernel
  have hL : t.val / 4 < 2 := by have : t.val < 8 := t.isLt; omega
  have h1 : (((cfg0.win 5).blk t).view.emb y 1 : ℕ) = t.val % 4 * 256 + (y 1).val := by
    blk_simp [hi t] <;> omega
  have hy := Adam.ix_of (((cfg0.win 5).blk t).view.emb y) ⟨t.val / 4, hL⟩ (y 2) (by blk_simp [hi t]) (by blk_simp [hi t])
  blk_simp
  rw [after0_5, out0_5, View.canon_cons_unit_zero (by decide), hy]
  change S1x256x768.Idx at y
  idx_vars y
  obtain rfl : y0 = 0 := Fin.fin_one_eq_zero y0
  refine (pay_g _ _ _  _ _).trans ?_
  exact (grad_at m c t y1 y2 ⟨_, hL⟩ _ rfl h1)

theorem array6 : (dats m 0 c).arrAt 6 cfg0.N = fun y : S2x1024x768.Idx => Adam.delta (gradA m c (y 0) (y 1) (y 2)) ((V m c main_arg2 : Vec Ideal S2x1024x768 .f32) y) ((V m c main_arg3 : Vec Ideal S2x1024x768 .f32) y) ((V m c main_arg4 : Vec Ideal S2x1024x768 .f32) y) := by
  refine (dats m 0 c).arrAt_eq_of_covers 6 _ (by decide +kernel) fun t hf y => ?_
  have hi : ∀ t : Fin cfg0.N, (cfg0.win 6).index t = ![t.val / 4, t.val % 4, 0] := by decide +kernel
  have hL : t.val / 4 < 2 := by have : t.val < 8 := t.isLt; omega
  have h1 : (((cfg0.win 6).blk t).view.emb y 1 : ℕ) = t.val % 4 * 256 + (y 1).val := by
    blk_simp [hi t] <;> omega
  have hy := Adam.ix_of (((cfg0.win 6).blk t).view.emb y) ⟨t.val / 4, hL⟩ (y 2) (by blk_simp [hi t]) (by blk_simp [hi t])
  blk_simp
  rw [after0_6, out0_6, View.canon_cons_unit_zero (by decide), hy]
  change S1x256x768.Idx at y
  idx_vars y
  obtain rfl : y0 = 0 := Fin.fin_one_eq_zero y0
  refine (pay_d _ _ _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array7 : (dats m 0 c).arrAt 7 cfg0.N = fun y : S2x1024x768.Idx => Adam.newM (gradA m c (y 0) (y 1) (y 2)) ((V m c main_arg3 : Vec Ideal S2x1024x768 .f32) y) := by
  refine (dats m 0 c).arrAt_eq_of_covers 7 _ (by decide +kernel) fun t hf y => ?_
  have hi : ∀ t : Fin cfg0.N, (cfg0.win 7).index t = ![t.val / 4, t.val % 4, 0] := by decide +kernel
  have hL : t.val / 4 < 2 := by have : t.val < 8 := t.isLt; omega
  have h1 : (((cfg0.win 7).blk t).view.emb y 1 : ℕ) = t.val % 4 * 256 + (y 1).val := by
    blk_simp [hi t] <;> omega
  have hy := Adam.ix_of (((cfg0.win 7).blk t).view.emb y) ⟨t.val / 4, hL⟩ (y 2) (by blk_simp [hi t]) (by blk_simp [hi t])
  blk_simp
  rw [after0_7, out0_7, View.canon_cons_unit_zero (by decide), hy]
  change S1x256x768.Idx at y
  idx_vars y
  obtain rfl : y0 = 0 := Fin.fin_one_eq_zero y0
  refine (pay_m _ _ _ _ _ _).trans ?_
  exact congrArg₂ Adam.newM (grad_at m c t y1 y2 ⟨_, hL⟩ _ rfl h1) (blk_m m c t y1 y2 ⟨_, hL⟩ _ rfl h1)

theorem array8 : (dats m 0 c).arrAt 8 cfg0.N = fun y : S2x1024x768.Idx => Adam.newV (gradA m c (y 0) (y 1) (y 2)) ((V m c main_arg4 : Vec Ideal S2x1024x768 .f32) y) := by
  refine (dats m 0 c).arrAt_eq_of_covers 8 _ (by decide +kernel) fun t hf y => ?_
  have hi : ∀ t : Fin cfg0.N, (cfg0.win 8).index t = ![t.val / 4, t.val % 4, 0] := by decide +kernel
  have hL : t.val / 4 < 2 := by have : t.val < 8 := t.isLt; omega
  have h1 : (((cfg0.win 8).blk t).view.emb y 1 : ℕ) = t.val % 4 * 256 + (y 1).val := by
    blk_simp [hi t] <;> omega
  have hy := Adam.ix_of (((cfg0.win 8).blk t).view.emb y) ⟨t.val / 4, hL⟩ (y 2) (by blk_simp [hi t]) (by blk_simp [hi t])
  blk_simp
  rw [after0_8, out0_8, View.canon_cons_unit_zero (by decide), hy]
  change S1x256x768.Idx at y
  idx_vars y
  obtain rfl : y0 = 0 := Fin.fin_one_eq_zero y0
  refine (pay_v _ _ _ _ _ _).trans ?_
  exact congrArg₂ Adam.newV (grad_at m c t y1 y2 ⟨_, hL⟩ _ rfl h1) (blk_v m c t y1 y2 ⟨_, hL⟩ _ rfl h1)

end Arrays

section Reference

open Cert.Reference18Ideal Cert.Reference18Ideal.Gen Cert.Reference18Ideal.Read

variable (g0 g1 : Adam.Arr S1024x768) (w mm vv : Adam.Arr S2x1024x768)

theorem ref_g (L : Fin 2) (R : Fin 1024) (l : Fin 768) :
    val_main_v2 (F := Ideal) g0 g1 (ix3 L R l) = gradE ![g0, g1] L R l := by
  obtain ⟨L, hl⟩ := L
  obtain rfl | rfl : L = 0 ∨ L = 1 := by omega
  all_goals
    pointwise [val_main_v0, val_main_v1, val_main_v2]
    try rfl

theorem ref_d (y : S2x1024x768.Idx) : val_main_v26 (F := Ideal) g0 g1 w mm vv y
    = Adam.delta (val_main_v2 (F := Ideal) g0 g1 y) (w y) (mm y) (vv y) := by
  idx_vars y
  rfl

theorem ref_m (y : S2x1024x768.Idx) : val_main_v7 (F := Ideal) g0 g1 mm y = Adam.newM (val_main_v2 (F := Ideal) g0 g1 y) (mm y) := by
  idx_vars y
  rfl

theorem ref_v (y : S2x1024x768.Idx) : val_main_v13 (F := Ideal) g0 g1 vv y = Adam.newV (val_main_v2 (F := Ideal) g0 g1 y) (vv y) := by
  idx_vars y
  rfl

end Reference

attribute [local instance] Cert.Kernel18Ideal.Gen.facts Cert.Reference18Ideal.Gen.facts

/-- On the extended reals the kernel's arrays are the reference's results. -/
theorem algebraic : Cert.algebraic_Kernel18Ideal_Reference18Ideal
    (hKernel18Ideal := Cert.Kernel18Ideal.Gen.facts) (hReference18Ideal := Cert.Reference18Ideal.Gen.facts) := by
  intro m g m' g' _ hagree
  refine ⟨_, _, _, _, Cert.Kernel18Ideal.Value.run_blocks m g, ?_⟩
  refine (θ_run _ _ _).mono (fun r h c => ?_) (Cert.Reference18Ideal.Value.run m' g')
  obtain ⟨r0, r1, r2, r3, ra⟩ := h c
  obtain ⟨a0, a1, a2, a3, a4⟩ := hagree c
  refine ⟨r0.trans ?_, r1.trans ?_, r2.trans ?_, r3.trans ?_, ra⟩
  · rw [Cert.Reference18Ideal.Read.val_main_v2_eq, a0, a1]
    refine Eq.trans (funext fun y => ?_) (array5 m c).symm
    change Cert.Reference18Ideal.S2x1024x768.Idx at y
    idx_vars y
    exact ref_g _ _ y0 y1 y2
  · rw [Cert.Reference18Ideal.Read.val_main_v26_eq, a0, a1, a2, a3, a4]
    refine Eq.trans (funext fun y => ?_) (array6 m c).symm
    change Cert.Reference18Ideal.S2x1024x768.Idx at y
    refine (ref_d _ _ _ _ _ y).trans ?_
    idx_vars y
    rw [ref_g]
    try rfl
  · rw [Cert.Reference18Ideal.Read.val_main_v7_eq, a0, a1, a3]
    refine Eq.trans (funext fun y => ?_) (array7 m c).symm
    change Cert.Reference18Ideal.S2x1024x768.Idx at y
    refine (ref_m _ _ _ y).trans ?_
    idx_vars y
    rw [ref_g]
    try rfl
  · rw [Cert.Reference18Ideal.Read.val_main_v13_eq, a0, a1, a4]
    refine Eq.trans (funext fun y => ?_) (array8 m c).symm
    change Cert.Reference18Ideal.S2x1024x768.Idx at y
    refine (ref_v _ _ _ y).trans ?_
    idx_vars y
    rw [ref_g]
    try rfl

end Cert.Proof.AdamMixIn
-- ==== Proof.AdamMixOut.lean ====
/- The optimiser's call for the gated-convolution mixer's output weight: the gradients put together, the changes of the weight and the new moments. -/
module

public import proofs.«01_k».proof.Defs
public import proofs.«01_k».proof.Proof.Adam
public import proofs.«01_k».proof.Proof.Gen.Kernel19Ideal.Value
public import proofs.«01_k».proof.Proof.Gen.Reference19Ideal.Run
public import proofs.«01_k».proof.Proof.Gen.Reference19Ideal.Read

@[expose] public section

set_option maxRecDepth 16384

noncomputable section

namespace Cert.Proof.AdamMixOut

open Idealize.ShloMosaic Idealize.ShloMosaic.TcCoe Idealize.ShloMosaic.Tactic Idealize.SL.Sem
open Idealize.ShloMosaic.Pipeline (Dat)

section Kernel

open Cert.Kernel19Ideal Cert.Kernel19Ideal.Gen

/-- The layer's own gradient is the one taken. -/
theorem pick (i : grid0.Coords) (u0 u1 : Vec Ideal S256x1024 .f32) (L : Fin 2) (h : (i 0).val = L.val) :
    k0_pay5 (F := Ideal) i u0 u1 = (![u0, u1] : Fin 2 → Vec Ideal S256x1024 .f32) L := by
  unfold k0_pay5
  simp only [h]
  fin_cases L <;> rfl

variable (i : grid0.Coords) (u0 u1 : Vec Ideal S256x1024 .f32) (w mm vv : Vec Ideal S1x256x1024 .f32) (q : Fin 256) (l : Fin 1024)

theorem pay_g : k0_pay1 (F := Ideal) (k0_pay5 (F := Ideal) i u0 u1) (ix3 0 q l) = (k0_pay5 (F := Ideal) i u0 u1) (ix2 q l) := by
  pointwise [k0_pay1, k0_pay2, k0_pay3, k0_pay4, k0_pay6, k0_pay7, k0_pay8]

theorem pay_d : k0_pay2 (F := Ideal) (k0_pay8 (F := Ideal) i u0 u1 w mm vv) (ix3 0 q l)
    = Adam.delta ((k0_pay5 (F := Ideal) i u0 u1) (ix2 q l)) (w (ix3 0 q l)) (mm (ix3 0 q l)) (vv (ix3 0 q l)) := by
  pointwise [k0_pay1, k0_pay2, k0_pay3, k0_pay4, k0_pay6, k0_pay7, k0_pay8]
  rfl

theorem pay_m : k0_pay3 (F := Ideal) (k0_pay6 (F := Ideal) i u0 u1 mm) (ix3 0 q l) = Adam.newM ((k0_pay5 (F := Ideal) i u0 u1) (ix2 q l)) (mm (ix3 0 q l)) := by
  pointwise [k0_pay1, k0_pay2, k0_pay3, k0_pay4, k0_pay6, k0_pay7, k0_pay8]
  rfl

theorem pay_v : k0_pay4 (F := Ideal) (k0_pay7 (F := Ideal) i u0 u1 vv) (ix3 0 q l) = Adam.newV ((k0_pay5 (F := Ideal) i u0 u1) (ix2 q l)) (vv (ix3 0 q l)) := by
  pointwise [k0_pay1, k0_pay2, k0_pay3, k0_pay4, k0_pay6, k0_pay7, k0_pay8]
  rfl

end Kernel

section Arrays

open Cert.Kernel19Ideal Cert.Kernel19Ideal.Gen

variable (m : (ℓ : Loc nD τ sig) → Buf (Elt Ideal) ℓ) (c : Dev nD)

theorem blk_g0 (t : Fin cfg0.N) (h : t.val / 1 = 0) (q : Fin 256) (l : Fin 1024) (R : Fin 256) (hR : R.val = t.val % 1 * 256 + q.val) :
    (View.ld (iblk m c 0 t) r0_0 : Vec Ideal S256x1024 .f32) (ix2 q l) = (V m c main_arg0 : Vec Ideal S256x1024 .f32) (ix2 R l) := by
  have hi : ∀ t : Fin cfg0.N, t.val / 1 = 0 → (cfg0.win 0).index t = ![t.val % 1, 0] := by decide +kernel
  blk_ext [iblk, V, hi t h, hR, View.ld, LoadRect.idx_apply]
  all_goals simp [Rect.unit]

theorem blk_g1 (t : Fin cfg0.N) (h : t.val / 1 = 1) (q : Fin 256) (l : Fin 1024) (R : Fin 256) (hR : R.val = t.val % 1 * 256 + q.val) :
    (View.ld (iblk m c 1 t) r0_0 : Vec Ideal S256x1024 .f32) (ix2 q l) = (V m c main_arg1 : Vec Ideal S256x1024 .f32) (ix2 R l) := by
  have hi : ∀ t : Fin cfg0.N, t.val / 1 = 1 → (cfg0.win 1).index t = ![t.val % 1, 0] := by decide +kernel
  blk_ext [iblk, V, hi t h, hR, View.ld, LoadRect.idx_apply]
  all_goals simp [Rect.unit]

section

variable (t : Fin cfg0.N) (q : Fin 256) (l : Fin 1024) (L : Fin 2) (R : Fin 256) (hL : L.val = t.val / 1) (hR : R.val = t.val % 1 * 256 + q.val)

include hL hR

theorem blk_w :
    (View.ld (iblk m c 2 t) r0_1 : Vec Ideal S1x256x1024 .f32) (ix3 0 q l) = (V m c main_arg2 : Vec Ideal S2x256x1024 .f32) (ix3 L R l) := by
  have hi : ∀ t : Fin cfg0.N, (cfg0.win 2).index t = ![t.val / 1, t.val % 1, 0] := by decide +kernel
  blk_ext [iblk, V, hi t, hL, hR, View.ld, LoadRect.idx_apply]
  all_goals simp [Rect.unit]

theorem blk_m :
    (View.ld (iblk m c 3 t) r0_1 : Vec Ideal S1x256x1024 .f32) (ix3 0 q l) = (V m c main_arg3 : Vec Ideal S2x256x1024 .f32) (ix3 L R l) := by
  have hi : ∀ t : Fin cfg0.N, (cfg0.win 3).index t = ![t.val / 1, t.val % 1, 0] := by decide +kernel
  blk_ext [iblk, V, hi t, hL, hR, View.ld, LoadRect.idx_apply]
  all_goals simp [Rect.unit]

theorem blk_v :
    (View.ld (iblk m c 4 t) r0_1 : Vec Ideal S1x256x1024 .f32) (ix3 0 q l) = (V m c main_arg4 : Vec Ideal S2x256x1024 .f32) (ix3 L R l) := by
  have hi : ∀ t : Fin cfg0.N, (cfg0.win 4).index t = ![t.val / 1, t.val % 1, 0] := by decide +kernel
  blk_ext [iblk, V, hi t, hL, hR, View.ld, LoadRect.idx_apply]
  all_goals simp [Rect.unit]

end

/-- The gradients of all layers, one array. -/
def gradE (g : Fin 2 → Vec Ideal S256x1024 .f32) (L : Fin 2) (R : Fin 256) (l : Fin 1024) : Ideal .f32 := g L (ix2 R l)

abbrev gradA := gradE ![V m c main_arg0, V m c main_arg1]

theorem grad_at (t : Fin cfg0.N) (q : Fin 256) (l : Fin 1024) (L : Fin 2) (R : Fin 256) (hL : L.val = t.val / 1)
    (hR : R.val = t.val % 1 * 256 + q.val) :
    (k0_pay5 (F := Ideal) (grid0.coords t) (View.ld (iblk m c 0 t) r0_0) (View.ld (iblk m c 1 t) r0_0)) (ix2 q l) = gradA m c L R l := by
  have hc : ∀ t : Fin cfg0.N, (grid0.coords t 0).val = t.val / 1 := by decide +kernel
  rw [pick (grid0.coords t) _ _ L ((hc t).trans hL.symm)]
  obtain ⟨L, hl⟩ := L
  obtain rfl | rfl : L = 0 ∨ L = 1 := by omega
  · exact blk_g0 m c t hL.symm q l R hR
  · exact blk_g1 m c t hL.symm q l R hR

theorem array5 : (dats m 0 c).arrAt 5 cfg0.N = fun y : S2x256x1024.Idx => gradA m c (y 0) (y 1) (y 2) := by
  refine (dats m 0 c).arrAt_eq_of_covers 5 _ (by decide +kernel) fun t hf y => ?_
  have hi : ∀ t : Fin cfg0.N, (cfg0.win 5).index t = ![t.val / 1, t.val % 1, 0] := by decide +kernel
  have hL : t.val / 1 < 2 := by have : t.val < 2 := t.isLt; omega
  have h1 : (((cfg0.win 5).blk t).view.emb y 1 : ℕ) = t.val % 1 * 256 + (y 1).val := by
    blk_simp [hi t] <;> omega
  have hy := Adam.ix_of (((cfg0.win 5).blk t).view.emb y) ⟨t.val / 1, hL⟩ (y 2) (by blk_simp [hi t]) (by blk_simp [hi t])
  blk_simp
  rw [after0_5, out0_5, View.canon_cons_unit_zero (by decide), hy]
  change S1x256x1024.Idx at y
  idx_vars y
  obtain rfl : y0 = 0 := Fin.fin_one_eq_zero y0
  refine (pay_g _ _ _  _ _).trans ?_
  exact (grad_at m c t y1 y2 ⟨_, hL⟩ _ rfl h1)

theorem array6 : (dats m 0 c).arrAt 6 cfg0.N = fun y : S2x256x1024.Idx => Adam.delta (gradA m c (y 0) (y 1) (y 2)) ((V m c main_arg2 : Vec Ideal S2x256x1024 .f32) y) ((V m c main_arg3 : Vec Ideal S2x256x1024 .f32) y) ((V m c main_arg4 : Vec Ideal S2x256x1024 .f32) y) := by
  refine (dats m 0 c).arrAt_eq_of_covers 6 _ (by decide +kernel) fun t hf y => ?_
  have hi : ∀ t : Fin cfg0.N, (cfg0.win 6).index t = ![t.val / 1, t.val % 1, 0] := by decide +kernel
  have hL : t.val / 1 < 2 := by have : t.val < 2 := t.isLt; omega
  have h1 : (((cfg0.win 6).blk t).view.emb y 1 : ℕ) = t.val % 1 * 256 + (y 1).val := by
    blk_simp [hi t] <;> omega
  have hy := Adam.ix_of (((cfg0.win 6).blk t).view.emb y) ⟨t.val / 1, hL⟩ (y 2) (by blk_simp [hi t]) (by blk_simp [hi t])
  blk_simp
  rw [after0_6, out0_6, View.canon_cons_unit_zero (by decide), hy]
  change S1x256x1024.Idx at y
  idx_vars y
  obtain rfl : y0 = 0 := Fin.fin_one_eq_zero y0
  refine (pay_d _ _ _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array7 : (dats m 0 c).arrAt 7 cfg0.N = fun y : S2x256x1024.Idx => Adam.newM (gradA m c (y 0) (y 1) (y 2)) ((V m c main_arg3 : Vec Ideal S2x256x1024 .f32) y) := by
  refine (dats m 0 c).arrAt_eq_of_covers 7 _ (by decide +kernel) fun t hf y => ?_
  have hi : ∀ t : Fin cfg0.N, (cfg0.win 7).index t = ![t.val / 1, t.val % 1, 0] := by decide +kernel
  have hL : t.val / 1 < 2 := by have : t.val < 2 := t.isLt; omega
  have h1 : (((cfg0.win 7).blk t).view.emb y 1 : ℕ) = t.val % 1 * 256 + (y 1).val := by
    blk_simp [hi t] <;> omega
  have hy := Adam.ix_of (((cfg0.win 7).blk t).view.emb y) ⟨t.val / 1, hL⟩ (y 2) (by blk_simp [hi t]) (by blk_simp [hi t])
  blk_simp
  rw [after0_7, out0_7, View.canon_cons_unit_zero (by decide), hy]
  change S1x256x1024.Idx at y
  idx_vars y
  obtain rfl : y0 = 0 := Fin.fin_one_eq_zero y0
  refine (pay_m _ _ _ _ _ _).trans ?_
  exact congrArg₂ Adam.newM (grad_at m c t y1 y2 ⟨_, hL⟩ _ rfl h1) (blk_m m c t y1 y2 ⟨_, hL⟩ _ rfl h1)

theorem array8 : (dats m 0 c).arrAt 8 cfg0.N = fun y : S2x256x1024.Idx => Adam.newV (gradA m c (y 0) (y 1) (y 2)) ((V m c main_arg4 : Vec Ideal S2x256x1024 .f32) y) := by
  refine (dats m 0 c).arrAt_eq_of_covers 8 _ (by decide +kernel) fun t hf y => ?_
  have hi : ∀ t : Fin cfg0.N, (cfg0.win 8).index t = ![t.val / 1, t.val % 1, 0] := by decide +kernel
  have hL : t.val / 1 < 2 := by have : t.val < 2 := t.isLt; omega
  have h1 : (((cfg0.win 8).blk t).view.emb y 1 : ℕ) = t.val % 1 * 256 + (y 1).val := by
    blk_simp [hi t] <;> omega
  have hy := Adam.ix_of (((cfg0.win 8).blk t).view.emb y) ⟨t.val / 1, hL⟩ (y 2) (by blk_simp [hi t]) (by blk_simp [hi t])
  blk_simp
  rw [after0_8, out0_8, View.canon_cons_unit_zero (by decide), hy]
  change S1x256x1024.Idx at y
  idx_vars y
  obtain rfl : y0 = 0 := Fin.fin_one_eq_zero y0
  refine (pay_v _ _ _ _ _ _).trans ?_
  exact congrArg₂ Adam.newV (grad_at m c t y1 y2 ⟨_, hL⟩ _ rfl h1) (blk_v m c t y1 y2 ⟨_, hL⟩ _ rfl h1)

end Arrays

section Reference

open Cert.Reference19Ideal Cert.Reference19Ideal.Gen Cert.Reference19Ideal.Read

variable (g0 g1 : Adam.Arr S256x1024) (w mm vv : Adam.Arr S2x256x1024)

theorem ref_g (L : Fin 2) (R : Fin 256) (l : Fin 1024) :
    val_main_v2 (F := Ideal) g0 g1 (ix3 L R l) = gradE ![g0, g1] L R l := by
  obtain ⟨L, hl⟩ := L
  obtain rfl | rfl : L = 0 ∨ L = 1 := by omega
  all_goals
    pointwise [val_main_v0, val_main_v1, val_main_v2]
    try rfl

theorem ref_d (y : S2x256x1024.Idx) : val_main_v26 (F := Ideal) g0 g1 w mm vv y
    = Adam.delta (val_main_v2 (F := Ideal) g0 g1 y) (w y) (mm y) (vv y) := by
  idx_vars y
  rfl

theorem ref_m (y : S2x256x1024.Idx) : val_main_v7 (F := Ideal) g0 g1 mm y = Adam.newM (val_main_v2 (F := Ideal) g0 g1 y) (mm y) := by
  idx_vars y
  rfl

theorem ref_v (y : S2x256x1024.Idx) : val_main_v13 (F := Ideal) g0 g1 vv y = Adam.newV (val_main_v2 (F := Ideal) g0 g1 y) (vv y) := by
  idx_vars y
  rfl

end Reference

attribute [local instance] Cert.Kernel19Ideal.Gen.facts Cert.Reference19Ideal.Gen.facts

/-- On the extended reals the kernel's arrays are the reference's results. -/
theorem algebraic : Cert.algebraic_Kernel19Ideal_Reference19Ideal
    (hKernel19Ideal := Cert.Kernel19Ideal.Gen.facts) (hReference19Ideal := Cert.Reference19Ideal.Gen.facts) := by
  intro m g m' g' _ hagree
  refine ⟨_, _, _, _, Cert.Kernel19Ideal.Value.run_blocks m g, ?_⟩
  refine (θ_run _ _ _).mono (fun r h c => ?_) (Cert.Reference19Ideal.Value.run m' g')
  obtain ⟨r0, r1, r2, r3, ra⟩ := h c
  obtain ⟨a0, a1, a2, a3, a4⟩ := hagree c
  refine ⟨r0.trans ?_, r1.trans ?_, r2.trans ?_, r3.trans ?_, ra⟩
  · rw [Cert.Reference19Ideal.Read.val_main_v2_eq, a0, a1]
    refine Eq.trans (funext fun y => ?_) (array5 m c).symm
    change Cert.Reference19Ideal.S2x256x1024.Idx at y
    idx_vars y
    exact ref_g _ _ y0 y1 y2
  · rw [Cert.Reference19Ideal.Read.val_main_v26_eq, a0, a1, a2, a3, a4]
    refine Eq.trans (funext fun y => ?_) (array6 m c).symm
    change Cert.Reference19Ideal.S2x256x1024.Idx at y
    refine (ref_d _ _ _ _ _ y).trans ?_
    idx_vars y
    rw [ref_g]
    try rfl
  · rw [Cert.Reference19Ideal.Read.val_main_v7_eq, a0, a1, a3]
    refine Eq.trans (funext fun y => ?_) (array7 m c).symm
    change Cert.Reference19Ideal.S2x256x1024.Idx at y
    refine (ref_m _ _ _ y).trans ?_
    idx_vars y
    rw [ref_g]
    try rfl
  · rw [Cert.Reference19Ideal.Read.val_main_v13_eq, a0, a1, a4]
    refine Eq.trans (funext fun y => ?_) (array8 m c).symm
    change Cert.Reference19Ideal.S2x256x1024.Idx at y
    refine (ref_v _ _ _ y).trans ?_
    idx_vars y
    rw [ref_g]
    try rfl

end Cert.Proof.AdamMixOut
-- ==== Proof.AdamConfIn.lean ====
/- The optimiser's call for the convolution mixer's input weight: the gradients put together, the changes of the weight and the new moments. -/
module

public import proofs.«01_k».proof.Defs
public import proofs.«01_k».proof.Proof.Adam
public import proofs.«01_k».proof.Proof.Gen.Kernel20Ideal.Value
public import proofs.«01_k».proof.Proof.Gen.Reference20Ideal.Run
public import proofs.«01_k».proof.Proof.Gen.Reference20Ideal.Read

@[expose] public section

set_option maxRecDepth 16384

noncomputable section

namespace Cert.Proof.AdamConfIn

open Idealize.ShloMosaic Idealize.ShloMosaic.TcCoe Idealize.ShloMosaic.Tactic Idealize.SL.Sem
open Idealize.ShloMosaic.Pipeline (Dat)

section Kernel

open Cert.Kernel20Ideal Cert.Kernel20Ideal.Gen

variable (u0 : Vec Ideal S256x512 .f32) (w mm vv : Vec Ideal S1x256x512 .f32) (q : Fin 256) (l : Fin 512)

theorem pay_g : k0_pay7 (F := Ideal) u0 (ix3 0 q l) = u0 (ix2 q l) := by
  pointwise [k0_pay1, k0_pay2, k0_pay3, k0_pay4, k0_pay5, k0_pay6, k0_pay7]

theorem pay_d : k0_pay1 (F := Ideal) (k0_pay6 (F := Ideal) u0 w mm vv) (ix3 0 q l)
    = Adam.delta (u0 (ix2 q l)) (w (ix3 0 q l)) (mm (ix3 0 q l)) (vv (ix3 0 q l)) := by
  pointwise [k0_pay1, k0_pay2, k0_pay3, k0_pay4, k0_pay5, k0_pay6, k0_pay7]
  rfl

theorem pay_m : k0_pay2 (F := Ideal) (k0_pay4 (F := Ideal) u0 mm) (ix3 0 q l) = Adam.newM (u0 (ix2 q l)) (mm (ix3 0 q l)) := by
  pointwise [k0_pay1, k0_pay2, k0_pay3, k0_pay4, k0_pay5, k0_pay6, k0_pay7]
  rfl

theorem pay_v : k0_pay3 (F := Ideal) (k0_pay5 (F := Ideal) u0 vv) (ix3 0 q l) = Adam.newV (u0 (ix2 q l)) (vv (ix3 0 q l)) := by
  pointwise [k0_pay1, k0_pay2, k0_pay3, k0_pay4, k0_pay5, k0_pay6, k0_pay7]
  rfl

end Kernel

section Arrays

open Cert.Kernel20Ideal Cert.Kernel20Ideal.Gen

variable (m : (ℓ : Loc nD τ sig) → Buf (Elt Ideal) ℓ) (c : Dev nD)

theorem blk_g0 (t : Fin cfg0.N) (h : t.val / 4 = 0) (q : Fin 256) (l : Fin 512) (R : Fin 1024) (hR : R.val = t.val % 4 * 256 + q.val) :
    (View.ld (iblk m c 0 t) r0_0 : Vec Ideal S256x512 .f32) (ix2 q l) = (V m c main_arg0 : Vec Ideal S1024x512 .f32) (ix2 R l) := by
  have hi : ∀ t : Fin cfg0.N, t.val / 4 = 0 → (cfg0.win 0).index t = ![t.val % 4, 0] := by decide +kernel
  blk_ext [iblk, V, hi t h, hR, View.ld, LoadRect.idx_apply]
  all_goals simp [Rect.unit]

section

variable (t : Fin cfg0.N) (q : Fin 256) (l : Fin 512) (L : Fin 1) (R : Fin 1024) (hL : L.val = t.val / 4) (hR : R.val = t.val % 4 * 256 + q.val)

include hL hR

theorem blk_w :
    (View.ld (iblk m c 1 t) r0_1 : Vec Ideal S1x256x512 .f32) (ix3 0 q l) = (V m c main_arg1 : Vec Ideal S1x1024x512 .f32) (ix3 L R l) := by
  have hi : ∀ t : Fin cfg0.N, (cfg0.win 1).index t = ![t.val / 4, t.val % 4, 0] := by decide +kernel
  blk_ext [iblk, V, hi t, hL, hR, View.ld, LoadRect.idx_apply]
  all_goals simp [Rect.unit]

theorem blk_m :
    (View.ld (iblk m c 2 t) r0_1 : Vec Ideal S1x256x512 .f32) (ix3 0 q l) = (V m c main_arg2 : Vec Ideal S1x1024x512 .f32) (ix3 L R l) := by
  have hi : ∀ t : Fin cfg0.N, (cfg0.win 2).index t = ![t.val / 4, t.val % 4, 0] := by decide +kernel
  blk_ext [iblk, V, hi t, hL, hR, View.ld, LoadRect.idx_apply]
  all_goals simp [Rect.unit]

theorem blk_v :
    (View.ld (iblk m c 3 t) r0_1 : Vec Ideal S1x256x512 .f32) (ix3 0 q l) = (V m c main_arg3 : Vec Ideal S1x1024x512 .f32) (ix3 L R l) := by
  have hi : ∀ t : Fin cfg0.N, (cfg0.win 3).index t = ![t.val / 4, t.val % 4, 0] := by decide +kernel
  blk_ext [iblk, V, hi t, hL, hR, View.ld, LoadRect.idx_apply]
  all_goals simp [Rect.unit]

end

/-- The gradients of all layers, one array. -/
def gradE (g : Fin 1 → Vec Ideal S1024x512 .f32) (L : Fin 1) (R : Fin 1024) (l : Fin 512) : Ideal .f32 := g L (ix2 R l)

abbrev gradA := gradE ![V m c main_arg0]

theorem grad_at (t : Fin cfg0.N) (q : Fin 256) (l : Fin 512) (L : Fin 1) (R : Fin 1024) (hL : L.val = t.val / 4)
    (hR : R.val = t.val % 4 * 256 + q.val) :
    (View.ld (iblk m c 0 t) r0_0) (ix2 q l) = gradA m c L R l := by
  obtain rfl : L = 0 := Fin.fin_one_eq_zero L
  exact blk_g0 m c t hL.symm q l R hR

theorem array4 : (dats m 0 c).arrAt 4 cfg0.N = fun y : S1x1024x512.Idx => gradA m c (y 0) (y 1) (y 2) := by
  refine (dats m 0 c).arrAt_eq_of_covers 4 _ (by decide +kernel) fun t hf y => ?_
  have hi : ∀ t : Fin cfg0.N, (cfg0.win 4).index t = ![t.val / 4, t.val % 4, 0] := by decide +kernel
  have hL : t.val / 4 < 1 := by have : t.val < 4 := t.isLt; omega
  have h1 : (((cfg0.win 4).blk t).view.emb y 1 : ℕ) = t.val % 4 * 256 + (y 1).val := by
    blk_simp [hi t] <;> omega
  have hy := Adam.ix_of (((cfg0.win 4).blk t).view.emb y) ⟨t.val / 4, hL⟩ (y 2) (by blk_simp [hi t]) (by blk_simp [hi t])
  blk_simp
  rw [after0_4, out0_4, View.canon_cons_unit_zero (by decide), hy]
  change S1x256x512.Idx at y
  idx_vars y
  obtain rfl : y0 = 0 := Fin.fin_one_eq_zero y0
  refine (pay_g _  _ _).trans ?_
  exact (grad_at m c t y1 y2 ⟨_, hL⟩ _ rfl h1)

theorem array5 : (dats m 0 c).arrAt 5 cfg0.N = fun y : S1x1024x512.Idx => Adam.delta (gradA m c (y 0) (y 1) (y 2)) ((V m c main_arg1 : Vec Ideal S1x1024x512 .f32) y) ((V m c main_arg2 : Vec Ideal S1x1024x512 .f32) y) ((V m c main_arg3 : Vec Ideal S1x1024x512 .f32) y) := by
  refine (dats m 0 c).arrAt_eq_of_covers 5 _ (by decide +kernel) fun t hf y => ?_
  have hi : ∀ t : Fin cfg0.N, (cfg0.win 5).index t = ![t.val / 4, t.val % 4, 0] := by decide +kernel
  have hL : t.val / 4 < 1 := by have : t.val < 4 := t.isLt; omega
  have h1 : (((cfg0.win 5).blk t).view.emb y 1 : ℕ) = t.val % 4 * 256 + (y 1).val := by
    blk_simp [hi t] <;> omega
  have hy := Adam.ix_of (((cfg0.win 5).blk t).view.emb y) ⟨t.val / 4, hL⟩ (y 2) (by blk_simp [hi t]) (by blk_simp [hi t])
  blk_simp
  rw [after0_5, out0_5, View.canon_cons_unit_zero (by decide), hy]
  change S1x256x512.Idx at y
  idx_vars y
  obtain rfl : y0 = 0 := Fin.fin_one_eq_zero y0
  refine (pay_d _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array6 : (dats m 0 c).arrAt 6 cfg0.N = fun y : S1x1024x512.Idx => Adam.newM (gradA m c (y 0) (y 1) (y 2)) ((V m c main_arg2 : Vec Ideal S1x1024x512 .f32) y) := by
  refine (dats m 0 c).arrAt_eq_of_covers 6 _ (by decide +kernel) fun t hf y => ?_
  have hi : ∀ t : Fin cfg0.N, (cfg0.win 6).index t = ![t.val / 4, t.val % 4, 0] := by decide +kernel
  have hL : t.val / 4 < 1 := by have : t.val < 4 := t.isLt; omega
  have h1 : (((cfg0.win 6).blk t).view.emb y 1 : ℕ) = t.val % 4 * 256 + (y 1).val := by
    blk_simp [hi t] <;> omega
  have hy := Adam.ix_of (((cfg0.win 6).blk t).view.emb y) ⟨t.val / 4, hL⟩ (y 2) (by blk_simp [hi t]) (by blk_simp [hi t])
  blk_simp
  rw [after0_6, out0_6, View.canon_cons_unit_zero (by decide), hy]
  change S1x256x512.Idx at y
  idx_vars y
  obtain rfl : y0 = 0 := Fin.fin_one_eq_zero y0
  refine (pay_m _ _ _ _).trans ?_
  exact congrArg₂ Adam.newM (grad_at m c t y1 y2 ⟨_, hL⟩ _ rfl h1) (blk_m m c t y1 y2 ⟨_, hL⟩ _ rfl h1)

theorem array7 : (dats m 0 c).arrAt 7 cfg0.N = fun y : S1x1024x512.Idx => Adam.newV (gradA m c (y 0) (y 1) (y 2)) ((V m c main_arg3 : Vec Ideal S1x1024x512 .f32) y) := by
  refine (dats m 0 c).arrAt_eq_of_covers 7 _ (by decide +kernel) fun t hf y => ?_
  have hi : ∀ t : Fin cfg0.N, (cfg0.win 7).index t = ![t.val / 4, t.val % 4, 0] := by decide +kernel
  have hL : t.val / 4 < 1 := by have : t.val < 4 := t.isLt; omega
  have h1 : (((cfg0.win 7).blk t).view.emb y 1 : ℕ) = t.val % 4 * 256 + (y 1).val := by
    blk_simp [hi t] <;> omega
  have hy := Adam.ix_of (((cfg0.win 7).blk t).view.emb y) ⟨t.val / 4, hL⟩ (y 2) (by blk_simp [hi t]) (by blk_simp [hi t])
  blk_simp
  rw [after0_7, out0_7, View.canon_cons_unit_zero (by decide), hy]
  change S1x256x512.Idx at y
  idx_vars y
  obtain rfl : y0 = 0 := Fin.fin_one_eq_zero y0
  refine (pay_v _ _ _ _).trans ?_
  exact congrArg₂ Adam.newV (grad_at m c t y1 y2 ⟨_, hL⟩ _ rfl h1) (blk_v m c t y1 y2 ⟨_, hL⟩ _ rfl h1)

end Arrays

section Reference

open Cert.Reference20Ideal Cert.Reference20Ideal.Gen Cert.Reference20Ideal.Read

variable (g0 : Adam.Arr S1024x512) (w mm vv : Adam.Arr S1x1024x512)

theorem ref_g (L : Fin 1) (R : Fin 1024) (l : Fin 512) :
    val_main_v0 (F := Ideal) g0 (ix3 L R l) = gradE ![g0] L R l := by
  obtain ⟨L, hl⟩ := L
  obtain rfl : L = 0 := by omega
  all_goals
    pointwise [val_main_v0]
    try rfl

theorem ref_d (y : S1x1024x512.Idx) : val_main_v24 (F := Ideal) g0 w mm vv y
    = Adam.delta (val_main_v0 (F := Ideal) g0 y) (w y) (mm y) (vv y) := by
  idx_vars y
  rfl

theorem ref_m (y : S1x1024x512.Idx) : val_main_v5 (F := Ideal) g0 mm y = Adam.newM (val_main_v0 (F := Ideal) g0 y) (mm y) := by
  idx_vars y
  rfl

theorem ref_v (y : S1x1024x512.Idx) : val_main_v11 (F := Ideal) g0 vv y = Adam.newV (val_main_v0 (F := Ideal) g0 y) (vv y) := by
  idx_vars y
  rfl

end Reference

attribute [local instance] Cert.Kernel20Ideal.Gen.facts Cert.Reference20Ideal.Gen.facts

/-- On the extended reals the kernel's arrays are the reference's results. -/
theorem algebraic : Cert.algebraic_Kernel20Ideal_Reference20Ideal
    (hKernel20Ideal := Cert.Kernel20Ideal.Gen.facts) (hReference20Ideal := Cert.Reference20Ideal.Gen.facts) := by
  intro m g m' g' _ hagree
  refine ⟨_, _, _, _, Cert.Kernel20Ideal.Value.run_blocks m g, ?_⟩
  refine (θ_run _ _ _).mono (fun r h c => ?_) (Cert.Reference20Ideal.Value.run m' g')
  obtain ⟨r0, r1, r2, r3, ra⟩ := h c
  obtain ⟨a0, a1, a2, a3⟩ := hagree c
  refine ⟨r0.trans ?_, r1.trans ?_, r2.trans ?_, r3.trans ?_, ra⟩
  · rw [Cert.Reference20Ideal.Read.val_main_v0_eq, a0]
    refine Eq.trans (funext fun y => ?_) (array4 m c).symm
    change Cert.Reference20Ideal.S1x1024x512.Idx at y
    idx_vars y
    exact (ref_g _ y0 y1 y2)
  · rw [Cert.Reference20Ideal.Read.val_main_v24_eq, a0, a1, a2, a3]
    refine Eq.trans (funext fun y => ?_) (array5 m c).symm
    change Cert.Reference20Ideal.S1x1024x512.Idx at y
    refine (ref_d _ _ _ _ y).trans ?_
    idx_vars y
    rw [ref_g]
    try rfl
    try rfl
  · rw [Cert.Reference20Ideal.Read.val_main_v5_eq, a0, a2]
    refine Eq.trans (funext fun y => ?_) (array6 m c).symm
    change Cert.Reference20Ideal.S1x1024x512.Idx at y
    refine (ref_m _ _ y).trans ?_
    idx_vars y
    rw [ref_g]
    try rfl
    try rfl
  · rw [Cert.Reference20Ideal.Read.val_main_v11_eq, a0, a3]
    refine Eq.trans (funext fun y => ?_) (array7 m c).symm
    change Cert.Reference20Ideal.S1x1024x512.Idx at y
    refine (ref_v _ _ y).trans ?_
    idx_vars y
    rw [ref_g]
    try rfl
    try rfl

end Cert.Proof.AdamConfIn
-- ==== Proof.AdamConfOut.lean ====
/- The optimiser's call for the convolution mixer's output weight: the gradients put together, the changes of the weight and the new moments. -/
module

public import proofs.«01_k».proof.Defs
public import proofs.«01_k».proof.Proof.Adam
public import proofs.«01_k».proof.Proof.Gen.Kernel21Ideal.Value
public import proofs.«01_k».proof.Proof.Gen.Reference21Ideal.Run
public import proofs.«01_k».proof.Proof.Gen.Reference21Ideal.Read

@[expose] public section

set_option maxRecDepth 16384

noncomputable section

namespace Cert.Proof.AdamConfOut

open Idealize.ShloMosaic Idealize.ShloMosaic.TcCoe Idealize.ShloMosaic.Tactic Idealize.SL.Sem
open Idealize.ShloMosaic.Pipeline (Dat)

section Kernel

open Cert.Kernel21Ideal Cert.Kernel21Ideal.Gen

variable (u0 : Vec Ideal S256x1024 .f32) (w mm vv : Vec Ideal S1x256x1024 .f32) (q : Fin 256) (l : Fin 1024)

theorem pay_g : k0_pay7 (F := Ideal) u0 (ix3 0 q l) = u0 (ix2 q l) := by
  pointwise [k0_pay1, k0_pay2, k0_pay3, k0_pay4, k0_pay5, k0_pay6, k0_pay7]

theorem pay_d : k0_pay1 (F := Ideal) (k0_pay6 (F := Ideal) u0 w mm vv) (ix3 0 q l)
    = Adam.delta (u0 (ix2 q l)) (w (ix3 0 q l)) (mm (ix3 0 q l)) (vv (ix3 0 q l)) := by
  pointwise [k0_pay1, k0_pay2, k0_pay3, k0_pay4, k0_pay5, k0_pay6, k0_pay7]
  rfl

theorem pay_m : k0_pay2 (F := Ideal) (k0_pay4 (F := Ideal) u0 mm) (ix3 0 q l) = Adam.newM (u0 (ix2 q l)) (mm (ix3 0 q l)) := by
  pointwise [k0_pay1, k0_pay2, k0_pay3, k0_pay4, k0_pay5, k0_pay6, k0_pay7]
  rfl

theorem pay_v : k0_pay3 (F := Ideal) (k0_pay5 (F := Ideal) u0 vv) (ix3 0 q l) = Adam.newV (u0 (ix2 q l)) (vv (ix3 0 q l)) := by
  pointwise [k0_pay1, k0_pay2, k0_pay3, k0_pay4, k0_pay5, k0_pay6, k0_pay7]
  rfl

end Kernel

section Arrays

open Cert.Kernel21Ideal Cert.Kernel21Ideal.Gen

variable (m : (ℓ : Loc nD τ sig) → Buf (Elt Ideal) ℓ) (c : Dev nD)

theorem blk_g0 (t : Fin cfg0.N) (h : t.val / 1 = 0) (q : Fin 256) (l : Fin 1024) (R : Fin 256) (hR : R.val = t.val % 1 * 256 + q.val) :
    (View.ld (iblk m c 0 t) r0_0 : Vec Ideal S256x1024 .f32) (ix2 q l) = (V m c main_arg0 : Vec Ideal S256x1024 .f32) (ix2 R l) := by
  have hi : ∀ t : Fin cfg0.N, t.val / 1 = 0 → (cfg0.win 0).index t = ![t.val % 1, 0] := by decide +kernel
  blk_ext [iblk, V, hi t h, hR, View.ld, LoadRect.idx_apply]
  all_goals simp [Rect.unit]

section

variable (t : Fin cfg0.N) (q : Fin 256) (l : Fin 1024) (L : Fin 1) (R : Fin 256) (hL : L.val = t.val / 1) (hR : R.val = t.val % 1 * 256 + q.val)

include hL hR

theorem blk_w :
    (View.ld (iblk m c 1 t) r0_1 : Vec Ideal S1x256x1024 .f32) (ix3 0 q l) = (V m c main_arg1 : Vec Ideal S1x256x1024 .f32) (ix3 L R l) := by
  have hi : ∀ t : Fin cfg0.N, (cfg0.win 1).index t = ![t.val / 1, t.val % 1, 0] := by decide +kernel
  blk_ext [iblk, V, hi t, hL, hR, View.ld, LoadRect.idx_apply]
  all_goals simp [Rect.unit]

theorem blk_m :
    (View.ld (iblk m c 2 t) r0_1 : Vec Ideal S1x256x1024 .f32) (ix3 0 q l) = (V m c main_arg2 : Vec Ideal S1x256x1024 .f32) (ix3 L R l) := by
  have hi : ∀ t : Fin cfg0.N, (cfg0.win 2).index t = ![t.val / 1, t.val % 1, 0] := by decide +kernel
  blk_ext [iblk, V, hi t, hL, hR, View.ld, LoadRect.idx_apply]
  all_goals simp [Rect.unit]

theorem blk_v :
    (View.ld (iblk m c 3 t) r0_1 : Vec Ideal S1x256x1024 .f32) (ix3 0 q l) = (V m c main_arg3 : Vec Ideal S1x256x1024 .f32) (ix3 L R l) := by
  have hi : ∀ t : Fin cfg0.N, (cfg0.win 3).index t = ![t.val / 1, t.val % 1, 0] := by decide +kernel
  blk_ext [iblk, V, hi t, hL, hR, View.ld, LoadRect.idx_apply]
  all_goals simp [Rect.unit]

end

/-- The gradients of all layers, one array. -/
def gradE (g : Fin 1 → Vec Ideal S256x1024 .f32) (L : Fin 1) (R : Fin 256) (l : Fin 1024) : Ideal .f32 := g L (ix2 R l)

abbrev gradA := gradE ![V m c main_arg0]

theorem grad_at (t : Fin cfg0.N) (q : Fin 256) (l : Fin 1024) (L : Fin 1) (R : Fin 256) (hL : L.val = t.val / 1)
    (hR : R.val = t.val % 1 * 256 + q.val) :
    (View.ld (iblk m c 0 t) r0_0) (ix2 q l) = gradA m c L R l := by
  obtain rfl : L = 0 := Fin.fin_one_eq_zero L
  exact blk_g0 m c t hL.symm q l R hR

theorem array4 : (dats m 0 c).arrAt 4 cfg0.N = fun y : S1x256x1024.Idx => gradA m c (y 0) (y 1) (y 2) := by
  refine (dats m 0 c).arrAt_eq_of_covers 4 _ (by decide +kernel) fun t hf y => ?_
  have hi : ∀ t : Fin cfg0.N, (cfg0.win 4).index t = ![t.val / 1, t.val % 1, 0] := by decide +kernel
  have hL : t.val / 1 < 1 := by have : t.val < 1 := t.isLt; omega
  have h1 : (((cfg0.win 4).blk t).view.emb y 1 : ℕ) = t.val % 1 * 256 + (y 1).val := by
    blk_simp [hi t] <;> omega
  have hy := Adam.ix_of (((cfg0.win 4).blk t).view.emb y) ⟨t.val / 1, hL⟩ (y 2) (by blk_simp [hi t]) (by blk_simp [hi t])
  blk_simp
  rw [after0_4, out0_4, View.canon_cons_unit_zero (by decide), hy]
  change S1x256x1024.Idx at y
  idx_vars y
  obtain rfl : y0 = 0 := Fin.fin_one_eq_zero y0
  refine (pay_g _  _ _).trans ?_
  exact (grad_at m c t y1 y2 ⟨_, hL⟩ _ rfl h1)

theorem array5 : (dats m 0 c).arrAt 5 cfg0.N = fun y : S1x256x1024.Idx => Adam.delta (gradA m c (y 0) (y 1) (y 2)) ((V m c main_arg1 : Vec Ideal S1x256x1024 .f32) y) ((V m c main_arg2 : Vec Ideal S1x256x1024 .f32) y) ((V m c main_arg3 : Vec Ideal S1x256x1024 .f32) y) := by
  refine (dats m 0 c).arrAt_eq_of_covers 5 _ (by decide +kernel) fun t hf y => ?_
  have hi : ∀ t : Fin cfg0.N, (cfg0.win 5).index t = ![t.val / 1, t.val % 1, 0] := by decide +kernel
  have hL : t.val / 1 < 1 := by have : t.val < 1 := t.isLt; omega
  have h1 : (((cfg0.win 5).blk t).view.emb y 1 : ℕ) = t.val % 1 * 256 + (y 1).val := by
    blk_simp [hi t] <;> omega
  have hy := Adam.ix_of (((cfg0.win 5).blk t).view.emb y) ⟨t.val / 1, hL⟩ (y 2) (by blk_simp [hi t]) (by blk_simp [hi t])
  blk_simp
  rw [after0_5, out0_5, View.canon_cons_unit_zero (by decide), hy]
  change S1x256x1024.Idx at y
  idx_vars y
  obtain rfl : y0 = 0 := Fin.fin_one_eq_zero y0
  refine (pay_d _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array6 : (dats m 0 c).arrAt 6 cfg0.N = fun y : S1x256x1024.Idx => Adam.newM (gradA m c (y 0) (y 1) (y 2)) ((V m c main_arg2 : Vec Ideal S1x256x1024 .f32) y) := by
  refine (dats m 0 c).arrAt_eq_of_covers 6 _ (by decide +kernel) fun t hf y => ?_
  have hi : ∀ t : Fin cfg0.N, (cfg0.win 6).index t = ![t.val / 1, t.val % 1, 0] := by decide +kernel
  have hL : t.val / 1 < 1 := by have : t.val < 1 := t.isLt; omega
  have h1 : (((cfg0.win 6).blk t).view.emb y 1 : ℕ) = t.val % 1 * 256 + (y 1).val := by
    blk_simp [hi t] <;> omega
  have hy := Adam.ix_of (((cfg0.win 6).blk t).view.emb y) ⟨t.val / 1, hL⟩ (y 2) (by blk_simp [hi t]) (by blk_simp [hi t])
  blk_simp
  rw [after0_6, out0_6, View.canon_cons_unit_zero (by decide), hy]
  change S1x256x1024.Idx at y
  idx_vars y
  obtain rfl : y0 = 0 := Fin.fin_one_eq_zero y0
  refine (pay_m _ _ _ _).trans ?_
  exact congrArg₂ Adam.newM (grad_at m c t y1 y2 ⟨_, hL⟩ _ rfl h1) (blk_m m c t y1 y2 ⟨_, hL⟩ _ rfl h1)

theorem array7 : (dats m 0 c).arrAt 7 cfg0.N = fun y : S1x256x1024.Idx => Adam.newV (gradA m c (y 0) (y 1) (y 2)) ((V m c main_arg3 : Vec Ideal S1x256x1024 .f32) y) := by
  refine (dats m 0 c).arrAt_eq_of_covers 7 _ (by decide +kernel) fun t hf y => ?_
  have hi : ∀ t : Fin cfg0.N, (cfg0.win 7).index t = ![t.val / 1, t.val % 1, 0] := by decide +kernel
  have hL : t.val / 1 < 1 := by have : t.val < 1 := t.isLt; omega
  have h1 : (((cfg0.win 7).blk t).view.emb y 1 : ℕ) = t.val % 1 * 256 + (y 1).val := by
    blk_simp [hi t] <;> omega
  have hy := Adam.ix_of (((cfg0.win 7).blk t).view.emb y) ⟨t.val / 1, hL⟩ (y 2) (by blk_simp [hi t]) (by blk_simp [hi t])
  blk_simp
  rw [after0_7, out0_7, View.canon_cons_unit_zero (by decide), hy]
  change S1x256x1024.Idx at y
  idx_vars y
  obtain rfl : y0 = 0 := Fin.fin_one_eq_zero y0
  refine (pay_v _ _ _ _).trans ?_
  exact congrArg₂ Adam.newV (grad_at m c t y1 y2 ⟨_, hL⟩ _ rfl h1) (blk_v m c t y1 y2 ⟨_, hL⟩ _ rfl h1)

end Arrays

section Reference

open Cert.Reference21Ideal Cert.Reference21Ideal.Gen Cert.Reference21Ideal.Read

variable (g0 : Adam.Arr S256x1024) (w mm vv : Adam.Arr S1x256x1024)

theorem ref_g (L : Fin 1) (R : Fin 256) (l : Fin 1024) :
    val_main_v0 (F := Ideal) g0 (ix3 L R l) = gradE ![g0] L R l := by
  obtain ⟨L, hl⟩ := L
  obtain rfl : L = 0 := by omega
  all_goals
    pointwise [val_main_v0]
    try rfl

theorem ref_d (y : S1x256x1024.Idx) : val_main_v24 (F := Ideal) g0 w mm vv y
    = Adam.delta (val_main_v0 (F := Ideal) g0 y) (w y) (mm y) (vv y) := by
  idx_vars y
  rfl

theorem ref_m (y : S1x256x1024.Idx) : val_main_v5 (F := Ideal) g0 mm y = Adam.newM (val_main_v0 (F := Ideal) g0 y) (mm y) := by
  idx_vars y
  rfl

theorem ref_v (y : S1x256x1024.Idx) : val_main_v11 (F := Ideal) g0 vv y = Adam.newV (val_main_v0 (F := Ideal) g0 y) (vv y) := by
  idx_vars y
  rfl

end Reference

attribute [local instance] Cert.Kernel21Ideal.Gen.facts Cert.Reference21Ideal.Gen.facts

/-- On the extended reals the kernel's arrays are the reference's results. -/
theorem algebraic : Cert.algebraic_Kernel21Ideal_Reference21Ideal
    (hKernel21Ideal := Cert.Kernel21Ideal.Gen.facts) (hReference21Ideal := Cert.Reference21Ideal.Gen.facts) := by
  intro m g m' g' _ hagree
  refine ⟨_, _, _, _, Cert.Kernel21Ideal.Value.run_blocks m g, ?_⟩
  refine (θ_run _ _ _).mono (fun r h c => ?_) (Cert.Reference21Ideal.Value.run m' g')
  obtain ⟨r0, r1, r2, r3, ra⟩ := h c
  obtain ⟨a0, a1, a2, a3⟩ := hagree c
  refine ⟨r0.trans ?_, r1.trans ?_, r2.trans ?_, r3.trans ?_, ra⟩
  · rw [Cert.Reference21Ideal.Read.val_main_v0_eq, a0]
    refine Eq.trans (funext fun y => ?_) (array4 m c).symm
    change Cert.Reference21Ideal.S1x256x1024.Idx at y
    idx_vars y
    exact (ref_g _ y0 y1 y2)
  · rw [Cert.Reference21Ideal.Read.val_main_v24_eq, a0, a1, a2, a3]
    refine Eq.trans (funext fun y => ?_) (array5 m c).symm
    change Cert.Reference21Ideal.S1x256x1024.Idx at y
    refine (ref_d _ _ _ _ y).trans ?_
    idx_vars y
    rw [ref_g]
    try rfl
    try rfl
  · rw [Cert.Reference21Ideal.Read.val_main_v5_eq, a0, a2]
    refine Eq.trans (funext fun y => ?_) (array6 m c).symm
    change Cert.Reference21Ideal.S1x256x1024.Idx at y
    refine (ref_m _ _ y).trans ?_
    idx_vars y
    rw [ref_g]
    try rfl
    try rfl
  · rw [Cert.Reference21Ideal.Read.val_main_v11_eq, a0, a3]
    refine Eq.trans (funext fun y => ?_) (array7 m c).symm
    change Cert.Reference21Ideal.S1x256x1024.Idx at y
    refine (ref_v _ _ y).trans ?_
    idx_vars y
    rw [ref_g]
    try rfl
    try rfl

end Cert.Proof.AdamConfOut
-- ==== Proof.AdamPool.lean ====
/- The optimiser's call for the pooling mixer's grouped weight: the gradients put together, the changes of the weight and the new moments. -/
module

public import proofs.«01_k».proof.Defs
public import proofs.«01_k».proof.Proof.Adam
public import proofs.«01_k».proof.Proof.Gen.Kernel22Ideal.Value
public import proofs.«01_k».proof.Proof.Gen.Reference22Ideal.Run
public import proofs.«01_k».proof.Proof.Gen.Reference22Ideal.Read

@[expose] public section

set_option maxRecDepth 16384

noncomputable section

namespace Cert.Proof.AdamPool

open Idealize.ShloMosaic Idealize.ShloMosaic.TcCoe Idealize.ShloMosaic.Tactic Idealize.SL.Sem
open Idealize.ShloMosaic.Pipeline (Dat)

section Kernel

open Cert.Kernel22Ideal Cert.Kernel22Ideal.Gen

variable (u0 : Vec Ideal S256x256 .f32) (w mm vv : Vec Ideal S1x256x256 .f32) (q : Fin 256) (l : Fin 256)

theorem pay_g : k0_pay7 (F := Ideal) u0 (ix3 0 q l) = u0 (ix2 q l) := by
  pointwise [k0_pay1, k0_pay2, k0_pay3, k0_pay4, k0_pay5, k0_pay6, k0_pay7]

theorem pay_d : k0_pay1 (F := Ideal) (k0_pay6 (F := Ideal) u0 w mm vv) (ix3 0 q l)
    = Adam.delta (u0 (ix2 q l)) (w (ix3 0 q l)) (mm (ix3 0 q l)) (vv (ix3 0 q l)) := by
  pointwise [k0_pay1, k0_pay2, k0_pay3, k0_pay4, k0_pay5, k0_pay6, k0_pay7]
  rfl

theorem pay_m : k0_pay2 (F := Ideal) (k0_pay4 (F := Ideal) u0 mm) (ix3 0 q l) = Adam.newM (u0 (ix2 q l)) (mm (ix3 0 q l)) := by
  pointwise [k0_pay1, k0_pay2, k0_pay3, k0_pay4, k0_pay5, k0_pay6, k0_pay7]
  rfl

theorem pay_v : k0_pay3 (F := Ideal) (k0_pay5 (F := Ideal) u0 vv) (ix3 0 q l) = Adam.newV (u0 (ix2 q l)) (vv (ix3 0 q l)) := by
  pointwise [k0_pay1, k0_pay2, k0_pay3, k0_pay4, k0_pay5, k0_pay6, k0_pay7]
  rfl

end Kernel

section Arrays

open Cert.Kernel22Ideal Cert.Kernel22Ideal.Gen

variable (m : (ℓ : Loc nD τ sig) → Buf (Elt Ideal) ℓ) (c : Dev nD)

theorem blk_g0 (t : Fin cfg0.N) (h : t.val / 1 = 0) (q : Fin 256) (l : Fin 256) (R : Fin 256) (hR : R.val = t.val % 1 * 256 + q.val) :
    (View.ld (iblk m c 0 t) r0_0 : Vec Ideal S256x256 .f32) (ix2 q l) = (V m c main_arg0 : Vec Ideal S256x256 .f32) (ix2 R l) := by
  have hi : ∀ t : Fin cfg0.N, t.val / 1 = 0 → (cfg0.win 0).index t = ![t.val % 1, 0] := by decide +kernel
  blk_ext [iblk, V, hi t h, hR, View.ld, LoadRect.idx_apply]
  all_goals simp [Rect.unit]

section

variable (t : Fin cfg0.N) (q : Fin 256) (l : Fin 256) (L : Fin 1) (R : Fin 256) (hL : L.val = t.val / 1) (hR : R.val = t.val % 1 * 256 + q.val)

include hL hR

theorem blk_w :
    (View.ld (iblk m c 1 t) r0_1 : Vec Ideal S1x256x256 .f32) (ix3 0 q l) = (V m c main_v0 : Vec Ideal S1x256x256 .f32) (ix3 L R l) := by
  have hi : ∀ t : Fin cfg0.N, (cfg0.win 1).index t = ![t.val / 1, t.val % 1, 0] := by decide +kernel
  blk_ext [iblk, V, hi t, hL, hR, View.ld, LoadRect.idx_apply]
  all_goals simp [Rect.unit]

theorem blk_m :
    (View.ld (iblk m c 2 t) r0_1 : Vec Ideal S1x256x256 .f32) (ix3 0 q l) = (V m c main_v1 : Vec Ideal S1x256x256 .f32) (ix3 L R l) := by
  have hi : ∀ t : Fin cfg0.N, (cfg0.win 2).index t = ![t.val / 1, t.val % 1, 0] := by decide +kernel
  blk_ext [iblk, V, hi t, hL, hR, View.ld, LoadRect.idx_apply]
  all_goals simp [Rect.unit]

theorem blk_v :
    (View.ld (iblk m c 3 t) r0_1 : Vec Ideal S1x256x256 .f32) (ix3 0 q l) = (V m c main_v2 : Vec Ideal S1x256x256 .f32) (ix3 L R l) := by
  have hi : ∀ t : Fin cfg0.N, (cfg0.win 3).index t = ![t.val / 1, t.val % 1, 0] := by decide +kernel
  blk_ext [iblk, V, hi t, hL, hR, View.ld, LoadRect.idx_apply]
  all_goals simp [Rect.unit]

end

/-- The gradients of all layers, one array. -/
def gradE (g : Fin 1 → Vec Ideal S256x256 .f32) (L : Fin 1) (R : Fin 256) (l : Fin 256) : Ideal .f32 := g L (ix2 R l)

abbrev gradA := gradE ![V m c main_arg0]

theorem grad_at (t : Fin cfg0.N) (q : Fin 256) (l : Fin 256) (L : Fin 1) (R : Fin 256) (hL : L.val = t.val / 1)
    (hR : R.val = t.val % 1 * 256 + q.val) :
    (View.ld (iblk m c 0 t) r0_0) (ix2 q l) = gradA m c L R l := by
  obtain rfl : L = 0 := Fin.fin_one_eq_zero L
  exact blk_g0 m c t hL.symm q l R hR

theorem array4 : (dats m 0 c).arrAt 4 cfg0.N = fun y : S1x256x256.Idx => gradA m c (y 0) (y 1) (y 2) := by
  refine (dats m 0 c).arrAt_eq_of_covers 4 _ (by decide +kernel) fun t hf y => ?_
  have hi : ∀ t : Fin cfg0.N, (cfg0.win 4).index t = ![t.val / 1, t.val % 1, 0] := by decide +kernel
  have hL : t.val / 1 < 1 := by have : t.val < 1 := t.isLt; omega
  have h1 : (((cfg0.win 4).blk t).view.emb y 1 : ℕ) = t.val % 1 * 256 + (y 1).val := by
    blk_simp [hi t] <;> omega
  have hy := Adam.ix_of (((cfg0.win 4).blk t).view.emb y) ⟨t.val / 1, hL⟩ (y 2) (by blk_simp [hi t]) (by blk_simp [hi t])
  blk_simp
  rw [after0_4, out0_4, View.canon_cons_unit_zero (by decide), hy]
  change S1x256x256.Idx at y
  idx_vars y
  obtain rfl : y0 = 0 := Fin.fin_one_eq_zero y0
  refine (pay_g _  _ _).trans ?_
  exact (grad_at m c t y1 y2 ⟨_, hL⟩ _ rfl h1)

theorem array5 : (dats m 0 c).arrAt 5 cfg0.N = fun y : S1x256x256.Idx => Adam.delta (gradA m c (y 0) (y 1) (y 2)) ((V m c main_v0 : Vec Ideal S1x256x256 .f32) y) ((V m c main_v1 : Vec Ideal S1x256x256 .f32) y) ((V m c main_v2 : Vec Ideal S1x256x256 .f32) y) := by
  refine (dats m 0 c).arrAt_eq_of_covers 5 _ (by decide +kernel) fun t hf y => ?_
  have hi : ∀ t : Fin cfg0.N, (cfg0.win 5).index t = ![t.val / 1, t.val % 1, 0] := by decide +kernel
  have hL : t.val / 1 < 1 := by have : t.val < 1 := t.isLt; omega
  have h1 : (((cfg0.win 5).blk t).view.emb y 1 : ℕ) = t.val % 1 * 256 + (y 1).val := by
    blk_simp [hi t] <;> omega
  have hy := Adam.ix_of (((cfg0.win 5).blk t).view.emb y) ⟨t.val / 1, hL⟩ (y 2) (by blk_simp [hi t]) (by blk_simp [hi t])
  blk_simp
  rw [after0_5, out0_5, View.canon_cons_unit_zero (by decide), hy]
  change S1x256x256.Idx at y
  idx_vars y
  obtain rfl : y0 = 0 := Fin.fin_one_eq_zero y0
  refine (pay_d _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array6 : (dats m 0 c).arrAt 6 cfg0.N = fun y : S1x256x256.Idx => Adam.newM (gradA m c (y 0) (y 1) (y 2)) ((V m c main_v1 : Vec Ideal S1x256x256 .f32) y) := by
  refine (dats m 0 c).arrAt_eq_of_covers 6 _ (by decide +kernel) fun t hf y => ?_
  have hi : ∀ t : Fin cfg0.N, (cfg0.win 6).index t = ![t.val / 1, t.val % 1, 0] := by decide +kernel
  have hL : t.val / 1 < 1 := by have : t.val < 1 := t.isLt; omega
  have h1 : (((cfg0.win 6).blk t).view.emb y 1 : ℕ) = t.val % 1 * 256 + (y 1).val := by
    blk_simp [hi t] <;> omega
  have hy := Adam.ix_of (((cfg0.win 6).blk t).view.emb y) ⟨t.val / 1, hL⟩ (y 2) (by blk_simp [hi t]) (by blk_simp [hi t])
  blk_simp
  rw [after0_6, out0_6, View.canon_cons_unit_zero (by decide), hy]
  change S1x256x256.Idx at y
  idx_vars y
  obtain rfl : y0 = 0 := Fin.fin_one_eq_zero y0
  refine (pay_m _ _ _ _).trans ?_
  exact congrArg₂ Adam.newM (grad_at m c t y1 y2 ⟨_, hL⟩ _ rfl h1) (blk_m m c t y1 y2 ⟨_, hL⟩ _ rfl h1)

theorem array7 : (dats m 0 c).arrAt 7 cfg0.N = fun y : S1x256x256.Idx => Adam.newV (gradA m c (y 0) (y 1) (y 2)) ((V m c main_v2 : Vec Ideal S1x256x256 .f32) y) := by
  refine (dats m 0 c).arrAt_eq_of_covers 7 _ (by decide +kernel) fun t hf y => ?_
  have hi : ∀ t : Fin cfg0.N, (cfg0.win 7).index t = ![t.val / 1, t.val % 1, 0] := by decide +kernel
  have hL : t.val / 1 < 1 := by have : t.val < 1 := t.isLt; omega
  have h1 : (((cfg0.win 7).blk t).view.emb y 1 : ℕ) = t.val % 1 * 256 + (y 1).val := by
    blk_simp [hi t] <;> omega
  have hy := Adam.ix_of (((cfg0.win 7).blk t).view.emb y) ⟨t.val / 1, hL⟩ (y 2) (by blk_simp [hi t]) (by blk_simp [hi t])
  blk_simp
  rw [after0_7, out0_7, View.canon_cons_unit_zero (by decide), hy]
  change S1x256x256.Idx at y
  idx_vars y
  obtain rfl : y0 = 0 := Fin.fin_one_eq_zero y0
  refine (pay_v _ _ _ _).trans ?_
  exact congrArg₂ Adam.newV (grad_at m c t y1 y2 ⟨_, hL⟩ _ rfl h1) (blk_v m c t y1 y2 ⟨_, hL⟩ _ rfl h1)

end Arrays

section Reference

open Cert.Reference22Ideal Cert.Reference22Ideal.Gen Cert.Reference22Ideal.Read

variable (g0 : Adam.Arr S256x256) (w mm vv : Adam.Arr S1x4x64x256)

/-- The weight's four groups of rows, one under the other. -/
abbrev flat (x : Adam.Arr S1x4x64x256) : Adam.Arr S1x256x256 :=
  shapeCast S1x256x256 x shapeCasts_S1x4x64x256_S1x256x256

theorem ref_g (L : Fin 1) (R : Fin 256) (l : Fin 256) : val_main_v25 (F := Ideal) g0 (ix3 L R l) = gradE ![g0] L R l := by
  obtain rfl : L = 0 := Fin.fin_one_eq_zero L
  pointwise [val_main_v25, val_main_v0]
  all_goals rfl

theorem ref_d (y : S1x256x256.Idx) : val_main_v26 (F := Ideal) g0 w mm vv y
    = Adam.delta (val_main_v25 (F := Ideal) g0 y) (flat w y) (flat mm y) (flat vv y) := rfl

theorem ref_m (y : S1x256x256.Idx) : val_main_v27 (F := Ideal) g0 mm y = Adam.newM (val_main_v25 (F := Ideal) g0 y) (flat mm y) := rfl

theorem ref_v (y : S1x256x256.Idx) : val_main_v28 (F := Ideal) g0 vv y = Adam.newV (val_main_v25 (F := Ideal) g0 y) (flat vv y) := rfl

end Reference

section Host

open Cert.Kernel22Ideal Cert.Kernel22Ideal.Gen

variable (m : (ℓ : Loc nD τ sig) → Buf (Elt Ideal) ℓ) (c : Dev nD)

theorem host_w : (V m c main_v0 : Vec Ideal S1x256x256 .f32) = shapeCast S1x256x256 (m ((c : Thread nD τ).loc main_arg1)) shapeCasts_S1x4x64x256_S1x256x256 := by
  unfold V
  after_results <;> rfl

theorem host_m : (V m c main_v1 : Vec Ideal S1x256x256 .f32) = shapeCast S1x256x256 (m ((c : Thread nD τ).loc main_arg2)) shapeCasts_S1x4x64x256_S1x256x256 := by
  unfold V
  after_results <;> rfl

theorem host_v : (V m c main_v2 : Vec Ideal S1x256x256 .f32) = shapeCast S1x256x256 (m ((c : Thread nD τ).loc main_arg3)) shapeCasts_S1x4x64x256_S1x256x256 := by
  unfold V
  after_results <;> rfl

theorem host_g : (V m c main_arg0 : Vec Ideal S256x256 .f32) = m ((c : Thread nD τ).loc main_arg0) := by
  unfold V
  after_results <;> rfl

end Host

attribute [local instance] Cert.Kernel22Ideal.Gen.facts Cert.Reference22Ideal.Gen.facts

/-- On the extended reals the kernel's arrays are the reference's results. -/
theorem algebraic : Cert.algebraic_Kernel22Ideal_Reference22Ideal
    (hKernel22Ideal := Cert.Kernel22Ideal.Gen.facts) (hReference22Ideal := Cert.Reference22Ideal.Gen.facts) := by
  intro m g m' g' _ hagree
  refine ⟨_, _, _, _, Cert.Kernel22Ideal.Value.run_blocks m g, ?_⟩
  refine (θ_run _ _ _).mono (fun r h c => ?_) (Cert.Reference22Ideal.Value.run m' g')
  obtain ⟨r0, r1, r2, r3, ra⟩ := h c
  obtain ⟨a0, a1, a2, a3⟩ := hagree c
  refine ⟨r0.trans ?_, r1.trans ?_, r2.trans ?_, r3.trans ?_, ra⟩
  · rw [Cert.Reference22Ideal.Read.val_main_v25_eq, a0]
    refine Eq.trans (funext fun y => ?_) (array4 m c).symm
    change Cert.Reference22Ideal.S1x256x256.Idx at y
    idx_vars y
    exact (ref_g _ y0 y1 y2).trans (by rw [← host_g m c])
  · rw [Cert.Reference22Ideal.Read.val_main_v26_eq, a0, a1, a2, a3]
    refine Eq.trans (funext fun y => ?_) (array5 m c).symm
    change Cert.Reference22Ideal.S1x256x256.Idx at y
    refine (ref_d _ _ _ _ y).trans ?_
    idx_vars y
    rw [ref_g]
    exact Adam.delta_congr (by rw [← host_g m c]) (congrFun (host_w m c).symm _) (congrFun (host_m m c).symm _) (congrFun (host_v m c).symm _)
  · rw [Cert.Reference22Ideal.Read.val_main_v27_eq, a0, a2]
    refine Eq.trans (funext fun y => ?_) (array6 m c).symm
    change Cert.Reference22Ideal.S1x256x256.Idx at y
    refine (ref_m _ _ y).trans ?_
    idx_vars y
    rw [ref_g]
    exact congrArg₂ Adam.newM (by rw [← host_g m c]) (congrFun (host_m m c).symm _)
  · rw [Cert.Reference22Ideal.Read.val_main_v28_eq, a0, a3]
    refine Eq.trans (funext fun y => ?_) (array7 m c).symm
    change Cert.Reference22Ideal.S1x256x256.Idx at y
    refine (ref_v _ _ y).trans ?_
    idx_vars y
    rw [ref_g]
    exact congrArg₂ Adam.newV (by rw [← host_g m c]) (congrFun (host_v m c).symm _)

end Cert.Proof.AdamPool
-- ==== Proof.AdamMod.lean ====
/- The optimiser's call for the modulation's weight, whose gradient it computes from the batch's conditioning: the gradients put together, the changes of the weight and the new moments. -/
module

public import proofs.«01_k».proof.Defs
public import proofs.«01_k».proof.Proof.Adam
public import proofs.«01_k».proof.Proof.Gen.Kernel23Ideal.Value
public import proofs.«01_k».proof.Proof.Gen.Reference23Ideal.Run
public import proofs.«01_k».proof.Proof.Gen.Reference23Ideal.Read

@[expose] public section

set_option maxRecDepth 16384

noncomputable section

namespace Cert.Proof.AdamMod

open Idealize.ShloMosaic Idealize.ShloMosaic.TcCoe Idealize.ShloMosaic.Tactic Idealize.SL.Sem
open Idealize.ShloMosaic.Pipeline (Dat)

section Kernel

open Cert.Kernel23Ideal Cert.Kernel23Ideal.Gen

theorem grad_term (u0 : Vec Ideal S8x256 .f32) (u1 : Vec Ideal S1x8x1536 .f32) (q : Fin 256) (l : Fin 1536) :
    (k0_pay5 (F := Ideal) u0 u1) (ix2 q l) = ∑ k : Fin 8, u0 (ix2 k q) * u1 (ix3 0 k l) := by
  pointwise [k0_pay5]

variable (u0 : Vec Ideal S8x256 .f32) (u1 : Vec Ideal S1x8x1536 .f32) (w mm vv : Vec Ideal S1x256x1536 .f32) (q : Fin 256) (l : Fin 1536)

theorem pay_g : k0_pay1 (F := Ideal) (k0_pay5 (F := Ideal) u0 u1) (ix3 0 q l) = (k0_pay5 (F := Ideal) u0 u1) (ix2 q l) := by
  pointwise [k0_pay1, k0_pay2, k0_pay3, k0_pay4, k0_pay6, k0_pay7, k0_pay8]

theorem pay_d : k0_pay2 (F := Ideal) (k0_pay8 (F := Ideal) u0 u1 w mm vv) (Scalar.ofBits .f32 0xBA83126F#32) (ix3 0 q l)
    = Adam.delta ((k0_pay5 (F := Ideal) u0 u1) (ix2 q l)) (w (ix3 0 q l)) (mm (ix3 0 q l)) (vv (ix3 0 q l)) := by
  pointwise [k0_pay1, k0_pay2, k0_pay3, k0_pay4, k0_pay6, k0_pay7, k0_pay8]
  rfl

theorem pay_m : k0_pay3 (F := Ideal) (k0_pay6 (F := Ideal) u0 u1 mm) (ix3 0 q l) = Adam.newM ((k0_pay5 (F := Ideal) u0 u1) (ix2 q l)) (mm (ix3 0 q l)) := by
  pointwise [k0_pay1, k0_pay2, k0_pay3, k0_pay4, k0_pay6, k0_pay7, k0_pay8]
  rfl

theorem pay_v : k0_pay4 (F := Ideal) (k0_pay7 (F := Ideal) u0 u1 vv) (ix3 0 q l) = Adam.newV ((k0_pay5 (F := Ideal) u0 u1) (ix2 q l)) (vv (ix3 0 q l)) := by
  pointwise [k0_pay1, k0_pay2, k0_pay3, k0_pay4, k0_pay6, k0_pay7, k0_pay8]
  rfl

end Kernel

section Arrays

open Cert.Kernel23Ideal Cert.Kernel23Ideal.Gen

variable (m : (ℓ : Loc nD τ sig) → Buf (Elt Ideal) ℓ) (c : Dev nD)

theorem blk_g0 (t : Fin cfg0.N) (k : Fin 8) (q : Fin 256) (R : Fin 1024) (hR : R.val = t.val % 4 * 256 + q.val) :
    (View.ld (iblk m c 0 t) r0_0 : Vec Ideal S8x256 .f32) (ix2 k q) = (V m c main_arg0 : Vec Ideal S8x1024 .f32) (ix2 k R) := by
  have hi : ∀ t : Fin cfg0.N, (cfg0.win 0).index t = ![0, t.val % 4] := by decide +kernel
  blk_ext [iblk, V, hi t, hR, View.ld, LoadRect.idx_apply]
  all_goals simp [Rect.unit]

theorem blk_g1 (t : Fin cfg0.N) (k : Fin 8) (l : Fin 1536) (L : Fin 4) (hL : L.val = t.val / 4) :
    (View.ld (iblk m c 1 t) r0_1 : Vec Ideal S1x8x1536 .f32) (ix3 0 k l) = (V m c main_arg1 : Vec Ideal S4x8x1536 .f32) (ix3 L k l) := by
  have hi : ∀ t : Fin cfg0.N, (cfg0.win 1).index t = ![t.val / 4, 0, 0] := by decide +kernel
  blk_ext [iblk, V, hi t, hL, View.ld, LoadRect.idx_apply]
  all_goals simp [Rect.unit]

section

variable (t : Fin cfg0.N) (q : Fin 256) (l : Fin 1536) (L : Fin 4) (R : Fin 1024) (hL : L.val = t.val / 4) (hR : R.val = t.val % 4 * 256 + q.val)

include hL hR

theorem blk_w :
    (View.ld (iblk m c 2 t) r0_2 : Vec Ideal S1x256x1536 .f32) (ix3 0 q l) = (V m c main_arg2 : Vec Ideal S4x1024x1536 .f32) (ix3 L R l) := by
  have hi : ∀ t : Fin cfg0.N, (cfg0.win 2).index t = ![t.val / 4, t.val % 4, 0] := by decide +kernel
  blk_ext [iblk, V, hi t, hL, hR, View.ld, LoadRect.idx_apply]
  all_goals simp [Rect.unit]

theorem blk_m :
    (View.ld (iblk m c 3 t) r0_2 : Vec Ideal S1x256x1536 .f32) (ix3 0 q l) = (V m c main_arg3 : Vec Ideal S4x1024x1536 .f32) (ix3 L R l) := by
  have hi : ∀ t : Fin cfg0.N, (cfg0.win 3).index t = ![t.val / 4, t.val % 4, 0] := by decide +kernel
  blk_ext [iblk, V, hi t, hL, hR, View.ld, LoadRect.idx_apply]
  all_goals simp [Rect.unit]

theorem blk_v :
    (View.ld (iblk m c 4 t) r0_2 : Vec Ideal S1x256x1536 .f32) (ix3 0 q l) = (V m c main_arg4 : Vec Ideal S4x1024x1536 .f32) (ix3 L R l) := by
  have hi : ∀ t : Fin cfg0.N, (cfg0.win 4).index t = ![t.val / 4, t.val % 4, 0] := by decide +kernel
  blk_ext [iblk, V, hi t, hL, hR, View.ld, LoadRect.idx_apply]
  all_goals simp [Rect.unit]

end

/-- The weight's gradient: the sum over the batch. -/
def gradE (a : Vec Ideal S8x1024 .f32) (d : Vec Ideal S4x8x1536 .f32) (L : Fin 4) (R : Fin 1024) (l : Fin 1536) : Ideal .f32 :=
  ∑ k : Fin 8, HMul.hMul (α := EReal) (a (ix2 k R)) (d (ix3 L k l))

theorem grad_at (t : Fin cfg0.N) (q : Fin 256) (l : Fin 1536) (L : Fin 4) (R : Fin 1024) (hL : L.val = t.val / 4)
    (hR : R.val = t.val % 4 * 256 + q.val) :
    (k0_pay5 (F := Ideal) (View.ld (iblk m c 0 t) r0_0) (View.ld (iblk m c 1 t) r0_1)) (ix2 q l) = gradE (V m c main_arg0) (V m c main_arg1) L R l := by
  refine (grad_term _ _ q l).trans (Finset.sum_congr rfl fun k _ => ?_)
  exact congrArg₂ (HMul.hMul (α := EReal)) (blk_g0 m c t k q R hR) (blk_g1 m c t k l L hL)

theorem array5 : (dats m 0 c).arrAt 5 cfg0.N = fun y : S4x1024x1536.Idx => gradE (V m c main_arg0) (V m c main_arg1) (y 0) (y 1) (y 2) := by
  refine (dats m 0 c).arrAt_eq_of_covers 5 _ (by decide +kernel) fun t hf y => ?_
  have hi : ∀ t : Fin cfg0.N, (cfg0.win 5).index t = ![t.val / 4, t.val % 4, 0] := by decide +kernel
  have hL : t.val / 4 < 4 := by have : t.val < 16 := t.isLt; omega
  have h1 : (((cfg0.win 5).blk t).view.emb y 1 : ℕ) = t.val % 4 * 256 + (y 1).val := by
    blk_simp [hi t] <;> omega
  have hy := Adam.ix_of (((cfg0.win 5).blk t).view.emb y) ⟨t.val / 4, hL⟩ (y 2) (by blk_simp [hi t]) (by blk_simp [hi t])
  blk_simp
  rw [after0_5, out0_5, View.canon_cons_unit_zero (by decide), hy]
  change S1x256x1536.Idx at y
  idx_vars y
  obtain rfl : y0 = 0 := Fin.fin_one_eq_zero y0
  refine (pay_g _ _  _ _).trans ?_
  exact (grad_at m c t y1 y2 ⟨_, hL⟩ _ rfl h1)

theorem array6 : (dats m 0 c).arrAt 6 cfg0.N = fun y : S4x1024x1536.Idx => Adam.delta (gradE (V m c main_arg0) (V m c main_arg1) (y 0) (y 1) (y 2)) ((V m c main_arg2 : Vec Ideal S4x1024x1536 .f32) y) ((V m c main_arg3 : Vec Ideal S4x1024x1536 .f32) y) ((V m c main_arg4 : Vec Ideal S4x1024x1536 .f32) y) := by
  refine (dats m 0 c).arrAt_eq_of_covers 6 _ (by decide +kernel) fun t hf y => ?_
  have hi : ∀ t : Fin cfg0.N, (cfg0.win 6).index t = ![t.val / 4, t.val % 4, 0] := by decide +kernel
  have hL : t.val / 4 < 4 := by have : t.val < 16 := t.isLt; omega
  have h1 : (((cfg0.win 6).blk t).view.emb y 1 : ℕ) = t.val % 4 * 256 + (y 1).val := by
    blk_simp [hi t] <;> omega
  have hy := Adam.ix_of (((cfg0.win 6).blk t).view.emb y) ⟨t.val / 4, hL⟩ (y 2) (by blk_simp [hi t]) (by blk_simp [hi t])
  blk_simp
  rw [after0_6, out0_6, View.canon_cons_unit_zero (by decide), hy]
  change S1x256x1536.Idx at y
  idx_vars y
  obtain rfl : y0 = 0 := Fin.fin_one_eq_zero y0
  refine (pay_d _ _ _ _ _ _ _).trans ?_
  exact Adam.delta_congr (grad_at m c t y1 y2 ⟨_, hL⟩ _ rfl h1) (blk_w m c t y1 y2 ⟨_, hL⟩ _ rfl h1) (blk_m m c t y1 y2 ⟨_, hL⟩ _ rfl h1) (blk_v m c t y1 y2 ⟨_, hL⟩ _ rfl h1)

theorem array7 : (dats m 0 c).arrAt 7 cfg0.N = fun y : S4x1024x1536.Idx => Adam.newM (gradE (V m c main_arg0) (V m c main_arg1) (y 0) (y 1) (y 2)) ((V m c main_arg3 : Vec Ideal S4x1024x1536 .f32) y) := by
  refine (dats m 0 c).arrAt_eq_of_covers 7 _ (by decide +kernel) fun t hf y => ?_
  have hi : ∀ t : Fin cfg0.N, (cfg0.win 7).index t = ![t.val / 4, t.val % 4, 0] := by decide +kernel
  have hL : t.val / 4 < 4 := by have : t.val < 16 := t.isLt; omega
  have h1 : (((cfg0.win 7).blk t).view.emb y 1 : ℕ) = t.val % 4 * 256 + (y 1).val := by
    blk_simp [hi t] <;> omega
  have hy := Adam.ix_of (((cfg0.win 7).blk t).view.emb y) ⟨t.val / 4, hL⟩ (y 2) (by blk_simp [hi t]) (by blk_simp [hi t])
  blk_simp
  rw [after0_7, out0_7, View.canon_cons_unit_zero (by decide), hy]
  change S1x256x1536.Idx at y
  idx_vars y
  obtain rfl : y0 = 0 := Fin.fin_one_eq_zero y0
  refine (pay_m _ _ _ _ _).trans ?_
  exact congrArg₂ Adam.newM (grad_at m c t y1 y2 ⟨_, hL⟩ _ rfl h1) (blk_m m c t y1 y2 ⟨_, hL⟩ _ rfl h1)

theorem array8 : (dats m 0 c).arrAt 8 cfg0.N = fun y : S4x1024x1536.Idx => Adam.newV (gradE (V m c main_arg0) (V m c main_arg1) (y 0) (y 1) (y 2)) ((V m c main_arg4 : Vec Ideal S4x1024x1536 .f32) y) := by
  refine (dats m 0 c).arrAt_eq_of_covers 8 _ (by decide +kernel) fun t hf y => ?_
  have hi : ∀ t : Fin cfg0.N, (cfg0.win 8).index t = ![t.val / 4, t.val % 4, 0] := by decide +kernel
  have hL : t.val / 4 < 4 := by have : t.val < 16 := t.isLt; omega
  have h1 : (((cfg0.win 8).blk t).view.emb y 1 : ℕ) = t.val % 4 * 256 + (y 1).val := by
    blk_simp [hi t] <;> omega
  have hy := Adam.ix_of (((cfg0.win 8).blk t).view.emb y) ⟨t.val / 4, hL⟩ (y 2) (by blk_simp [hi t]) (by blk_simp [hi t])
  blk_simp
  rw [after0_8, out0_8, View.canon_cons_unit_zero (by decide), hy]
  change S1x256x1536.Idx at y
  idx_vars y
  obtain rfl : y0 = 0 := Fin.fin_one_eq_zero y0
  refine (pay_v _ _ _ _ _).trans ?_
  exact congrArg₂ Adam.newV (grad_at m c t y1 y2 ⟨_, hL⟩ _ rfl h1) (blk_v m c t y1 y2 ⟨_, hL⟩ _ rfl h1)

end Arrays

section Reference

open Cert.Reference23Ideal Cert.Reference23Ideal.Gen Cert.Reference23Ideal.Read

variable (g0 : Adam.Arr S8x1024) (g1 : Adam.Arr S4x8x1536) (w mm vv : Adam.Arr S4x1024x1536)

theorem ref_g (L : Fin 4) (R : Fin 1024) (l : Fin 1536) :
    val_main_v4 (F := Ideal) g0 g1 (ix3 L R l) = gradE g0 g1 L R l := by
  pointwise [val_main_v0, val_main_v1, val_main_v2, val_main_v3, val_main_v4]
  exact Finset.sum_congr rfl fun k _ => mul_comm (G := EReal) _ _

theorem ref_d (y : S4x1024x1536.Idx) : val_main_v28 (F := Ideal) g0 g1 w mm vv y
    = Adam.delta (val_main_v4 (F := Ideal) g0 g1 y) (w y) (mm y) (vv y) := by
  idx_vars y
  rfl

theorem ref_m (y : S4x1024x1536.Idx) : val_main_v9 (F := Ideal) g0 g1 mm y = Adam.newM (val_main_v4 (F := Ideal) g0 g1 y) (mm y) := by
  idx_vars y
  rfl

theorem ref_v (y : S4x1024x1536.Idx) : val_main_v15 (F := Ideal) g0 g1 vv y = Adam.newV (val_main_v4 (F := Ideal) g0 g1 y) (vv y) := by
  idx_vars y
  rfl

end Reference

attribute [local instance] Cert.Kernel23Ideal.Gen.facts Cert.Reference23Ideal.Gen.facts

/-- On the extended reals the kernel's arrays are the reference's results. -/
theorem algebraic : Cert.algebraic_Kernel23Ideal_Reference23Ideal
    (hKernel23Ideal := Cert.Kernel23Ideal.Gen.facts) (hReference23Ideal := Cert.Reference23Ideal.Gen.facts) := by
  intro m g m' g' _ hagree
  refine ⟨_, _, _, _, Cert.Kernel23Ideal.Value.run_blocks m g, ?_⟩
  refine (θ_run _ _ _).mono (fun r h c => ?_) (Cert.Reference23Ideal.Value.run m' g')
  obtain ⟨r0, r1, r2, r3, ra⟩ := h c
  obtain ⟨a0, a1, a2, a3, a4⟩ := hagree c
  refine ⟨r0.trans ?_, r1.trans ?_, r2.trans ?_, r3.trans ?_, ra⟩
  · rw [Cert.Reference23Ideal.Read.val_main_v4_eq, a0, a1]
    refine Eq.trans (funext fun y => ?_) (array5 m c).symm
    change Cert.Reference23Ideal.S4x1024x1536.Idx at y
    idx_vars y
    exact ref_g _ _ y0 y1 y2
  · rw [Cert.Reference23Ideal.Read.val_main_v28_eq, a0, a1, a2, a3, a4]
    refine Eq.trans (funext fun y => ?_) (array6 m c).symm
    change Cert.Reference23Ideal.S4x1024x1536.Idx at y
    refine (ref_d _ _ _ _ _ y).trans ?_
    idx_vars y
    rw [ref_g]
    try rfl
  · rw [Cert.Reference23Ideal.Read.val_main_v9_eq, a0, a1, a3]
    refine Eq.trans (funext fun y => ?_) (array7 m c).symm
    change Cert.Reference23Ideal.S4x1024x1536.Idx at y
    refine (ref_m _ _ _ y).trans ?_
    idx_vars y
    rw [ref_g]
    try rfl
  · rw [Cert.Reference23Ideal.Read.val_main_v15_eq, a0, a1, a4]
    refine Eq.trans (funext fun y => ?_) (array8 m c).symm
    change Cert.Reference23Ideal.S4x1024x1536.Idx at y
    refine (ref_v _ _ _ y).trans ?_
    idx_vars y
    rw [ref_g]
    try rfl

end Cert.Proof.AdamMod
-- ==== Proof.AdamRep.lean ====
/- The optimiser's call for the small weights that every device holds, packed into one array: the changes of the weights and the new moments, unpacked. -/
module

public import proofs.«01_k».proof.Defs
public import proofs.«01_k».proof.Proof.Adam
public import proofs.«01_k».proof.Proof.Gen.Kernel24Ideal.Frame
public import proofs.«01_k».proof.Proof.Gen.Reference24Ideal.Run
public import proofs.«01_k».proof.Proof.Gen.Reference24Ideal.Read

@[expose] public section

set_option maxRecDepth 16384

noncomputable section

namespace Cert.Proof.AdamRep

open Idealize.ShloMosaic Idealize.ShloMosaic.TcCoe Idealize.ShloMosaic.Tactic Idealize.SL.Sem
open Idealize.ShloMosaic.Pipeline (Dat)
open Cert.Kernel24Ideal Cert.Kernel24Ideal.Gen

section Kernel

variable (g w mm vv : Vec Ideal S80x1024 .f32) (q : Fin 80) (l : Fin 1024)

theorem pay_d : k0_pay3 (F := Ideal) g w mm vv (ix2 q l)
    = Adam.delta (g (ix2 q l)) (w (ix2 q l)) (mm (ix2 q l)) (vv (ix2 q l)) := by
  pointwise [k0_pay1, k0_pay2, k0_pay3]
  rfl

theorem pay_m : k0_pay1 (F := Ideal) g mm (ix2 q l) = Adam.newM (g (ix2 q l)) (mm (ix2 q l)) := by
  pointwise [k0_pay1, k0_pay2, k0_pay3]
  rfl

theorem pay_v : k0_pay2 (F := Ideal) g vv (ix2 q l) = Adam.newV (g (ix2 q l)) (vv (ix2 q l)) := by
  pointwise [k0_pay1, k0_pay2, k0_pay3]
  rfl

end Kernel

/-- The changes of all rows. -/
abbrev stepD (g w mm vv : Adam.Arr S80x1024) : Adam.Arr S80x1024 := fun y => Adam.delta (g y) (w y) (mm y) (vv y)

/-- The new first moments of all rows. -/
abbrev stepM (g mm : Adam.Arr S80x1024) : Adam.Arr S80x1024 := fun y => Adam.newM (g y) (mm y)

/-- The new second moments of all rows. -/
abbrev stepV (g vv : Adam.Arr S80x1024) : Adam.Arr S80x1024 := fun y => Adam.newV (g y) (vv y)

section Arrays

variable (m : (ℓ : Loc nD τ sig) → Buf (Elt Ideal) ℓ) (c : Dev nD)

theorem blk0 (t : Fin cfg0.N) : (View.ld (iblk m c 0 t) r0_0 : Vec Ideal S80x1024 .f32) = V m c main_arg0 := by
  have hi : ∀ t : Fin cfg0.N, (cfg0.win 0).index t = ![0, 0] := by decide +kernel
  funext y
  change S80x1024.Idx at y
  idx_vars y
  blk_ext [iblk, V, hi t, View.ld, LoadRect.idx_apply]
  all_goals simp [Rect.unit]

theorem blk1 (t : Fin cfg0.N) : (View.ld (iblk m c 1 t) r0_0 : Vec Ideal S80x1024 .f32) = V m c main_v12 := by
  have hi : ∀ t : Fin cfg0.N, (cfg0.win 1).index t = ![0, 0] := by decide +kernel
  funext y
  change S80x1024.Idx at y
  idx_vars y
  blk_ext [iblk, V, hi t, View.ld, LoadRect.idx_apply]
  all_goals simp [Rect.unit]

theorem blk2 (t : Fin cfg0.N) : (View.ld (iblk m c 2 t) r0_0 : Vec Ideal S80x1024 .f32) = V m c main_v25 := by
  have hi : ∀ t : Fin cfg0.N, (cfg0.win 2).index t = ![0, 0] := by decide +kernel
  funext y
  change S80x1024.Idx at y
  idx_vars y
  blk_ext [iblk, V, hi t, View.ld, LoadRect.idx_apply]
  all_goals simp [Rect.unit]

theorem blk3 (t : Fin cfg0.N) : (View.ld (iblk m c 3 t) r0_0 : Vec Ideal S80x1024 .f32) = V m c main_v38 := by
  have hi : ∀ t : Fin cfg0.N, (cfg0.win 3).index t = ![0, 0] := by decide +kernel
  funext y
  change S80x1024.Idx at y
  idx_vars y
  blk_ext [iblk, V, hi t, View.ld, LoadRect.idx_apply]
  all_goals simp [Rect.unit]

theorem array4 : (dats m 0 c).arrAt 4 cfg0.N = stepD (V m c main_arg0) (V m c main_v12) (V m c main_v25) (V m c main_v38) := by
  refine (dats m 0 c).arrAt_eq_of_covers 4 _ (by decide +kernel) fun t hf y => ?_
  have hi : ∀ t : Fin cfg0.N, (cfg0.win 4).index t = ![0, 0] := by decide +kernel
  have hy : ((cfg0.win 4).blk t).view.emb y = y := by
    funext a
    fin_cases a <;> exact Fin.ext (by blk_simp [hi t])
  blk_simp
  rw [after0_4]
  unfold out0_4
  rw [View.canon_cons_unit_zero (by decide), hy, blk0, blk1, blk2, blk3]
  change S80x1024.Idx at y
  idx_vars y
  exact pay_d _ _ _ _ y0 y1

theorem array5 : (dats m 0 c).arrAt 5 cfg0.N = stepM (V m c main_arg0) (V m c main_v25) := by
  refine (dats m 0 c).arrAt_eq_of_covers 5 _ (by decide +kernel) fun t hf y => ?_
  have hi : ∀ t : Fin cfg0.N, (cfg0.win 5).index t = ![0, 0] := by decide +kernel
  have hy : ((cfg0.win 5).blk t).view.emb y = y := by
    funext a
    fin_cases a <;> exact Fin.ext (by blk_simp [hi t])
  blk_simp
  rw [after0_5]
  unfold out0_5
  rw [View.canon_cons_unit_zero (by decide), hy, blk0, blk2]
  change S80x1024.Idx at y
  idx_vars y
  exact pay_m _ _ y0 y1

theorem array6 : (dats m 0 c).arrAt 6 cfg0.N = stepV (V m c main_arg0) (V m c main_v38) := by
  refine (dats m 0 c).arrAt_eq_of_covers 6 _ (by decide +kernel) fun t hf y => ?_
  have hi : ∀ t : Fin cfg0.N, (cfg0.win 6).index t = ![0, 0] := by decide +kernel
  have hy : ((cfg0.win 6).blk t).view.emb y = y := by
    funext a
    fin_cases a <;> exact Fin.ext (by blk_simp [hi t])
  blk_simp
  rw [after0_6]
  unfold out0_6
  rw [View.canon_cons_unit_zero (by decide), hy, blk0, blk3]
  change S80x1024.Idx at y
  idx_vars y
  exact pay_v _ _ y0 y1

end Arrays

section Pack

/-- Rows put into the array from row `r` on. -/
abbrev up (r : BitVec 32) {u : Shape} (x : Adam.Arr S80x1024) (a : u.Idx → Elt Ideal .f32) (h : S80x1024.Slices (fun _ => 0) u) : Adam.Arr S80x1024 :=
  Host.dynamicUpdateSlice x a (fun k => ((![constantI S_ 32 r, constantI S_ 32 0#32] : Fin 2 → (⟨S_, .i32⟩ : BufTy).Contents (Elt Ideal)) k (Shape.Idx.first h_S_)).toInt) h

/-- Rows put in from a row given by the program's own constants. -/
theorem up_of (r : BitVec 32) {u : Shape} {x x' : Adam.Arr S80x1024} {a a' : u.Idx → Elt Ideal .f32} {h : S80x1024.Slices (fun _ => 0) u} {i : Fin 2 → (⟨S_, .i32⟩ : BufTy).Contents (Elt Ideal)}
    (h0 : i 0 = constantI S_ 32 r) (h1 : i 1 = constantI S_ 32 0#32) (hx : x = x') (ha : a = a') :
    Host.dynamicUpdateSlice x a (fun k => (i k (Shape.Idx.first h_S_)).toInt) h = up r x' a' h := by
  have hi : i = ![constantI S_ 32 r, constantI S_ 32 0#32] := by
    funext k
    fin_cases k
    · exact h0
    · exact h1
  rw [hx, ha, hi]

/-- Where rows are put from row `r` on. -/
theorem start_at (r : BitVec 32) (ρ n : ℕ) (hr : r.toInt = ρ) (hn : ρ + n ≤ 80) (h : S80x1024.Slices (fun _ => 0) (⟨2, ![n, 1024]⟩ : Shape)) :
    Host.clampedStart S80x1024 (⟨2, ![n, 1024]⟩ : Shape) h.1 (fun k => ((![constantI S_ 32 r, constantI S_ 32 0#32] : Fin 2 → (⟨S_, .i32⟩ : BufTy).Contents (Elt Ideal)) k (Shape.Idx.first h_S_)).toInt) 0 = ρ
    ∧ Host.clampedStart S80x1024 (⟨2, ![n, 1024]⟩ : Shape) h.1 (fun k => ((![constantI S_ 32 r, constantI S_ 32 0#32] : Fin 2 → (⟨S_, .i32⟩ : BufTy).Contents (Elt Ideal)) k (Shape.Idx.first h_S_)).toInt) 1 = 0 := by
  constructor
  · change (min (max r.toInt 0) ((80 - n : ℕ) : ℤ)).toNat = ρ
    rw [hr]
    omega
  · change (min (max (0#32 : BitVec 32).toInt 0) ((1024 - 1024 : ℕ) : ℤ)).toNat = 0
    decide

/-- Outside of the rows put in, the array is as before. -/
theorem up_out (r : BitVec 32) (ρ n : ℕ) (x : Adam.Arr S80x1024) (a : (⟨2, ![n, 1024]⟩ : Shape).Idx → Elt Ideal .f32)
    (h : S80x1024.Slices (fun _ => 0) (⟨2, ![n, 1024]⟩ : Shape)) (R : Fin 80) (l : Fin 1024) (hR : R.val < ρ ∨ ρ + n ≤ R.val)
    (hr : r.toInt = ρ := by decide) (hn : ρ + n ≤ 80 := by decide) :
    up r x a h (ix2 R l) = x (ix2 R l) := by
  rw [up, Host.dynamicUpdateSlice_apply, dif_neg]
  intro hin
  have h0 := hin 0
  rw [(start_at r ρ n hr hn h).1] at h0
  change ρ ≤ R.val ∧ R.val < ρ + n at h0
  omega

/-- The same for a row `k + q`. -/
theorem up_past (r : BitVec 32) (ρ n : ℕ) {x : Adam.Arr S80x1024} {a : (⟨2, ![n, 1024]⟩ : Shape).Idx → Elt Ideal .f32} {e : EReal}
    {h : S80x1024.Slices (fun _ => 0) (⟨2, ![n, 1024]⟩ : Shape)} {R : Fin 80} {l : Fin 1024} (e' : x (ix2 R l) = e) (hR : R.val < ρ := by dsimp only; omega)
    (hr : r.toInt = ρ := by decide) (hn : ρ + n ≤ 80 := by decide) : up r x a h (ix2 R l) = e :=
  (up_out r ρ n x a h R l (Or.inl hR) hr hn).trans e'

/-- In the rows put in, the array is what was put in. -/
theorem up_in (r : BitVec 32) (ρ n : ℕ) (x : Adam.Arr S80x1024) (a : (⟨2, ![n, 1024]⟩ : Shape).Idx → Elt Ideal .f32)
    (h : S80x1024.Slices (fun _ => 0) (⟨2, ![n, 1024]⟩ : Shape)) (R : Fin 80) (l : Fin 1024) (q : Fin n) (hq : R.val = ρ + q.val)
    (hr : r.toInt = ρ := by decide) (hn : ρ + n ≤ 80 := by decide) :
    up r x a h (ix2 R l) = a (ix2 q l) := by
  have hs := start_at r ρ n hr hn h
  rw [up, Host.dynamicUpdateSlice_apply, dif_pos]
  · refine congrArg a (funext fun b => Fin.ext ?_)
    fin_cases b
    · change R.val - Host.clampedStart _ _ _ _ 0 = q.val
      rw [hs.1]
      omega
    · change l.val - Host.clampedStart _ _ _ _ 1 = l.val
      rw [hs.2]
      omega
  · intro b
    fin_cases b
    · change Host.clampedStart _ _ _ _ 0 ≤ R.val ∧ R.val < Host.clampedStart _ _ _ _ 0 + n
      rw [hs.1]
      have := q.isLt
      omega
    · change Host.clampedStart _ _ _ _ 1 ≤ l.val ∧ l.val < Host.clampedStart _ _ _ _ 1 + 1024
      rw [hs.2]
      have := l.isLt
      omega

/-- Reading rows of the array from row `r` on. -/
theorem rows_at {n : ℕ} (z : Adam.Arr S80x1024) (r : ℕ) (hn : r + n ≤ 80) (h) (q : Fin n) (l : Fin 1024) :
    extractStridedSlice (⟨2, ![n, 1024]⟩ : Shape) ![r, 0] z h (ix2 q l) = z (ix2 (⟨r + q.val, by have := q.isLt; omega⟩ : Fin 80) l) := by
  refine congrArg z (funext fun b => Fin.ext ?_)
  fin_cases b
  · rfl
  · exact Nat.zero_add _

variable {a0 : Adam.Arr S4x6144} {a1 a2 : Adam.Arr S4x1024} {a3 a4 a5 a6 : Adam.Arr S1x1024} {a7 : Adam.Arr S1024} {a8 : Adam.Arr S1x2048}

/-- The weights' rows, one under the other. -/
def pack (a0 : Adam.Arr S4x6144) (a1 a2 : Adam.Arr S4x1024) (a3 a4 a5 a6 : Adam.Arr S1x1024) (a7 : Adam.Arr S1024) (a8 : Adam.Arr S1x2048) : Adam.Arr S80x1024 :=
  up 46#32 (up 37#32 (up 35#32 (up 34#32 (up 33#32 (up 32#32 (up 28#32 (up 24#32 (up 0#32 (broadcastInDim S80x1024 ![] bcast_S_S80x1024 (constant (F := Ideal) S_ .f32 0x00000000#32)) (shapeCast S24x1024 a0 shapeCasts_S4x6144_S24x1024) updateFits_S80x1024_S24x1024) a1 updateFits_S80x1024_S4x1024) a2 updateFits_S80x1024_S4x1024) a3 updateFits_S80x1024_S1x1024) a4 updateFits_S80x1024_S1x1024) a5 updateFits_S80x1024_S1x1024) a6 updateFits_S80x1024_S1x1024) (shapeCast S1x1024 a7 shapeCasts_S1024_S1x1024) updateFits_S80x1024_S1x1024) (shapeCast S2x1024 a8 shapeCasts_S1x2048_S2x1024) updateFits_S80x1024_S2x1024

/-- The part of the rows that belongs to weight 0. -/
abbrev cut0 (z : Adam.Arr S80x1024) : Adam.Arr S4x6144 :=
  shapeCast S4x6144 (extractStridedSlice S24x1024 ![0, 0] z slices_S80x1024_S24x1024_0_0) shapeCasts_S24x1024_S4x6144

theorem slice0 : extractStridedSlice S24x1024 ![0, 0] (pack a0 a1 a2 a3 a4 a5 a6 a7 a8) slices_S80x1024_S24x1024_0_0 = (shapeCast S24x1024 a0 shapeCasts_S4x6144_S24x1024) := by
  funext y
  change S24x1024.Idx at y
  idx_vars y
  have := y0.isLt
  refine (rows_at _ 0 (by decide) _ y0 y1).trans ?_
  unfold pack
  refine up_past 46#32 46 2 (up_past 37#32 37 1 (up_past 35#32 35 1 (up_past 34#32 34 1 (up_past 33#32 33 1 (up_past 32#32 32 1 (up_past 28#32 28 4 (up_past 24#32 24 4 ?_)))))))
  exact up_in 0#32 0 24 _ _ _ _ _ y0 rfl

theorem cut_pack0 : cut0 (pack a0 a1 a2 a3 a4 a5 a6 a7 a8) = a0 := by
  unfold cut0
  rw [slice0]
  exact shapeCast_shapeCast _ _ _

/-- The part of the rows that belongs to weight 1. -/
abbrev cut1 (z : Adam.Arr S80x1024) : Adam.Arr S4x1024 :=
  extractStridedSlice S4x1024 ![24, 0] z slices_S80x1024_S4x1024_24_0

theorem slice1 : extractStridedSlice S4x1024 ![24, 0] (pack a0 a1 a2 a3 a4 a5 a6 a7 a8) slices_S80x1024_S4x1024_24_0 = a1 := by
  funext y
  change S4x1024.Idx at y
  idx_vars y
  have := y0.isLt
  refine (rows_at _ 24 (by decide) _ y0 y1).trans ?_
  unfold pack
  refine up_past 46#32 46 2 (up_past 37#32 37 1 (up_past 35#32 35 1 (up_past 34#32 34 1 (up_past 33#32 33 1 (up_past 32#32 32 1 (up_past 28#32 28 4 ?_))))))
  exact up_in 24#32 24 4 _ _ _ _ _ y0 rfl

theorem cut_pack1 : cut1 (pack a0 a1 a2 a3 a4 a5 a6 a7 a8) = a1 := by
  unfold cut1
  rw [slice1]

/-- The part of the rows that belongs to weight 2. -/
abbrev cut2 (z : Adam.Arr S80x1024) : Adam.Arr S4x1024 :=
  extractStridedSlice S4x1024 ![28, 0] z slices_S80x1024_S4x1024_28_0

theorem slice2 : extractStridedSlice S4x1024 ![28, 0] (pack a0 a1 a2 a3 a4 a5 a6 a7 a8) slices_S80x1024_S4x1024_28_0 = a2 := by
  funext y
  change S4x1024.Idx at y
  idx_vars y
  have := y0.isLt
  refine (rows_at _ 28 (by decide) _ y0 y1).trans ?_
  unfold pack
  refine up_past 46#32 46 2 (up_past 37#32 37 1 (up_past 35#32 35 1 (up_past 34#32 34 1 (up_past 33#32 33 1 (up_past 32#32 32 1 ?_)))))
  exact up_in 28#32 28 4 _ _ _ _ _ y0 rfl

theorem cut_pack2 : cut2 (pack a0 a1 a2 a3 a4 a5 a6 a7 a8) = a2 := by
  unfold cut2
  rw [slice2]

/-- The part of the rows that belongs to weight 3. -/
abbrev cut3 (z : Adam.Arr S80x1024) : Adam.Arr S1x1024 :=
  extractStridedSlice S1x1024 ![32, 0] z slices_S80x1024_S1x1024_32_0

theorem slice3 : extractStridedSlice S1x1024 ![32, 0] (pack a0 a1 a2 a3 a4 a5 a6 a7 a8) slices_S80x1024_S1x1024_32_0 = a3 := by
  funext y
  change S1x1024.Idx at y
  idx_vars y
  have := y0.isLt
  refine (rows_at _ 32 (by decide) _ y0 y1).trans ?_
  unfold pack
  refine up_past 46#32 46 2 (up_past 37#32 37 1 (up_past 35#32 35 1 (up_past 34#32 34 1 (up_past 33#32 33 1 ?_))))
  exact up_in 32#32 32 1 _ _ _ _ _ y0 rfl

theorem cut_pack3 : cut3 (pack a0 a1 a2 a3 a4 a5 a6 a7 a8) = a3 := by
  unfold cut3
  rw [slice3]

/-- The part of the rows that belongs to weight 4. -/
abbrev cut4 (z : Adam.Arr S80x1024) : Adam.Arr S1x1024 :=
  extractStridedSlice S1x1024 ![33, 0] z slices_S80x1024_S1x1024_33_0

theorem slice4 : extractStridedSlice S1x1024 ![33, 0] (pack a0 a1 a2 a3 a4 a5 a6 a7 a8) slices_S80x1024_S1x1024_33_0 = a4 := by
  funext y
  change S1x1024.Idx at y
  idx_vars y
  have := y0.isLt
  refine (rows_at _ 33 (by decide) _ y0 y1).trans ?_
  unfold pack
  refine up_past 46#32 46 2 (up_past 37#32 37 1 (up_past 35#32 35 1 (up_past 34#32 34 1 ?_)))
  exact up_in 33#32 33 1 _ _ _ _ _ y0 rfl

theorem cut_pack4 : cut4 (pack a0 a1 a2 a3 a4 a5 a6 a7 a8) = a4 := by
  unfold cut4
  rw [slice4]

/-- The part of the rows that belongs to weight 5. -/
abbrev cut5 (z : Adam.Arr S80x1024) : Adam.Arr S1x1024 :=
  extractStridedSlice S1x1024 ![34, 0] z slices_S80x1024_S1x1024_34_0

theorem slice5 : extractStridedSlice S1x1024 ![34, 0] (pack a0 a1 a2 a3 a4 a5 a6 a7 a8) slices_S80x1024_S1x1024_34_0 = a5 := by
  funext y
  change S1x1024.Idx at y
  idx_vars y
  have := y0.isLt
  refine (rows_at _ 34 (by decide) _ y0 y1).trans ?_
  unfold pack
  refine up_past 46#32 46 2 (up_past 37#32 37 1 (up_past 35#32 35 1 ?_))
  exact up_in 34#32 34 1 _ _ _ _ _ y0 rfl

theorem cut_pack5 : cut5 (pack a0 a1 a2 a3 a4 a5 a6 a7 a8) = a5 := by
  unfold cut5
  rw [slice5]

/-- The part of the rows that belongs to weight 6. -/
abbrev cut6 (z : Adam.Arr S80x1024) : Adam.Arr S1x1024 :=
  extractStridedSlice S1x1024 ![35, 0] z slices_S80x1024_S1x1024_35_0

theorem slice6 : extractStridedSlice S1x1024 ![35, 0] (pack a0 a1 a2 a3 a4 a5 a6 a7 a8) slices_S80x1024_S1x1024_35_0 = a6 := by
  funext y
  change S1x1024.Idx at y
  idx_vars y
  have := y0.isLt
  refine (rows_at _ 35 (by decide) _ y0 y1).trans ?_
  unfold pack
  refine up_past 46#32 46 2 (up_past 37#32 37 1 ?_)
  exact up_in 35#32 35 1 _ _ _ _ _ y0 rfl

theorem cut_pack6 : cut6 (pack a0 a1 a2 a3 a4 a5 a6 a7 a8) = a6 := by
  unfold cut6
  rw [slice6]

/-- The part of the rows that belongs to weight 7. -/
abbrev cut7 (z : Adam.Arr S80x1024) : Adam.Arr S1024 :=
  shapeCast S1024 (extractStridedSlice S1x1024 ![37, 0] z slices_S80x1024_S1x1024_37_0) shapeCasts_S1x1024_S1024

theorem slice7 : extractStridedSlice S1x1024 ![37, 0] (pack a0 a1 a2 a3 a4 a5 a6 a7 a8) slices_S80x1024_S1x1024_37_0 = (shapeCast S1x1024 a7 shapeCasts_S1024_S1x1024) := by
  funext y
  change S1x1024.Idx at y
  idx_vars y
  have := y0.isLt
  refine (rows_at _ 37 (by decide) _ y0 y1).trans ?_
  unfold pack
  refine up_past 46#32 46 2 ?_
  exact up_in 37#32 37 1 _ _ _ _ _ y0 rfl

theorem cut_pack7 : cut7 (pack a0 a1 a2 a3 a4 a5 a6 a7 a8) = a7 := by
  unfold cut7
  rw [slice7]
  exact shapeCast_shapeCast _ _ _

/-- The part of the rows that belongs to weight 8. -/
abbrev cut8 (z : Adam.Arr S80x1024) : Adam.Arr S1x2048 :=
  shapeCast S1x2048 (extractStridedSlice S2x1024 ![46, 0] z slices_S80x1024_S2x1024_46_0) shapeCasts_S2x1024_S1x2048

theorem slice8 : extractStridedSlice S2x1024 ![46, 0] (pack a0 a1 a2 a3 a4 a5 a6 a7 a8) slices_S80x1024_S2x1024_46_0 = (shapeCast S2x1024 a8 shapeCasts_S1x2048_S2x1024) := by
  funext y
  change S2x1024.Idx at y
  idx_vars y
  have := y0.isLt
  refine (rows_at _ 46 (by decide) _ y0 y1).trans ?_
  unfold pack
  exact up_in 46#32 46 2 _ _ _ _ _ y0 rfl

theorem cut_pack8 : cut8 (pack a0 a1 a2 a3 a4 a5 a6 a7 a8) = a8 := by
  unfold cut8
  rw [slice8]
  exact shapeCast_shapeCast _ _ _

end Pack

section Host

variable (m : (ℓ : Loc nD τ sig) → Buf (Elt Ideal) ℓ) (c : Dev nD)

/-- The packed weights. -/
abbrev pkW := pack (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem host_w : V m c main_v12 = pkW m c := by
  change StableHlo.after hostOps0 (fun b => m (c, b)) (Proc.devRef .tc main_v12) = _
  after_results_simp
  unfold pkW pack
  iterate 9 refine up_of _ (by rfl) (by rfl) ?_ rfl
  rfl

/-- The packed first moments. -/
abbrev pkM := pack (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

theorem host_m : V m c main_v25 = pkM m c := by
  change StableHlo.after hostOps0 (fun b => m (c, b)) (Proc.devRef .tc main_v25) = _
  after_results_simp
  unfold pkM pack
  iterate 9 refine up_of _ (by rfl) (by rfl) ?_ rfl
  rfl

/-- The packed second moments. -/
abbrev pkV := pack (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

theorem host_v : V m c main_v38 = pkV m c := by
  change StableHlo.after hostOps0 (fun b => m (c, b)) (Proc.devRef .tc main_v38) = _
  after_results_simp
  unfold pkV pack
  iterate 9 refine up_of _ (by rfl) (by rfl) ?_ rfl
  rfl

/-- The call's array 0, from the arguments. -/
def outD : Adam.Arr S80x1024 :=
  stepD (m ((c : Thread nD τ).loc main_arg0)) (pkW m c) (pkM m c) (pkV m c)

theorem outD_eq : Pipeline.withArrays spec0 c (V0 m c) (fun w => (dats m 0 c).arrAt w cfg0.N) (Proc.devRef .tc main_v39_0) = outD m c := by
  refine (Pipeline.withArrays_arr spec0 launch0.win.arr_inj c (V0 m c) _ 4).trans ((array4 m c).trans ?_)
  rw [V_main_arg0, host_w, host_m, host_v]
  rfl

/-- The call's array 1, from the arguments. -/
def outM : Adam.Arr S80x1024 :=
  stepM (m ((c : Thread nD τ).loc main_arg0)) (pkM m c)

theorem outM_eq : Pipeline.withArrays spec0 c (V0 m c) (fun w => (dats m 0 c).arrAt w cfg0.N) (Proc.devRef .tc main_v39_1) = outM m c := by
  refine (Pipeline.withArrays_arr spec0 launch0.win.arr_inj c (V0 m c) _ 5).trans ((array5 m c).trans ?_)
  rw [V_main_arg0, host_m]
  rfl

/-- The call's array 2, from the arguments. -/
def outV : Adam.Arr S80x1024 :=
  stepV (m ((c : Thread nD τ).loc main_arg0)) (pkV m c)

theorem outV_eq : Pipeline.withArrays spec0 c (V0 m c) (fun w => (dats m 0 c).arrAt w cfg0.N) (Proc.devRef .tc main_v39_2) = outV m c := by
  refine (Pipeline.withArrays_arr spec0 launch0.win.arr_inj c (V0 m c) _ 6).trans ((array6 m c).trans ?_)
  rw [V_main_arg0, host_v]
  rfl

/-- What a buffer holds at the end. -/
abbrev fin (b : Ref sig .tc) := Pipeline.afterTail₀ cfgs (dats m) 0 (V0 m) [hostOps1] c b

theorem final0 : fin m c main_v41 = cut0 (outD m c) := by
  refine Eq.trans ?_ (congrArg cut0 (outD_eq m c))
  after_results <;> rfl

theorem final1 : fin m c main_v43 = cut0 (outM m c) := by
  refine Eq.trans ?_ (congrArg cut0 (outM_eq m c))
  after_results <;> rfl

theorem final2 : fin m c main_v45 = cut0 (outV m c) := by
  refine Eq.trans ?_ (congrArg cut0 (outV_eq m c))
  after_results <;> rfl

theorem final3 : fin m c main_v46 = cut1 (outD m c) := by
  refine Eq.trans ?_ (congrArg cut1 (outD_eq m c))
  after_results <;> rfl

theorem final4 : fin m c main_v47 = cut1 (outM m c) := by
  refine Eq.trans ?_ (congrArg cut1 (outM_eq m c))
  after_results <;> rfl

theorem final5 : fin m c main_v48 = cut1 (outV m c) := by
  refine Eq.trans ?_ (congrArg cut1 (outV_eq m c))
  after_results <;> rfl

theorem final6 : fin m c main_v49 = cut2 (outD m c) := by
  refine Eq.trans ?_ (congrArg cut2 (outD_eq m c))
  after_results <;> rfl

theorem final7 : fin m c main_v50 = cut2 (outM m c) := by
  refine Eq.trans ?_ (congrArg cut2 (outM_eq m c))
  after_results <;> rfl

theorem final8 : fin m c main_v51 = cut2 (outV m c) := by
  refine Eq.trans ?_ (congrArg cut2 (outV_eq m c))
  after_results <;> rfl

theorem final9 : fin m c main_v52 = cut3 (outD m c) := by
  refine Eq.trans ?_ (congrArg cut3 (outD_eq m c))
  after_results <;> rfl

theorem final10 : fin m c main_v53 = cut3 (outM m c) := by
  refine Eq.trans ?_ (congrArg cut3 (outM_eq m c))
  after_results <;> rfl

theorem final11 : fin m c main_v54 = cut3 (outV m c) := by
  refine Eq.trans ?_ (congrArg cut3 (outV_eq m c))
  after_results <;> rfl

theorem final12 : fin m c main_v55 = cut4 (outD m c) := by
  refine Eq.trans ?_ (congrArg cut4 (outD_eq m c))
  after_results <;> rfl

theorem final13 : fin m c main_v56 = cut4 (outM m c) := by
  refine Eq.trans ?_ (congrArg cut4 (outM_eq m c))
  after_results <;> rfl

theorem final14 : fin m c main_v57 = cut4 (outV m c) := by
  refine Eq.trans ?_ (congrArg cut4 (outV_eq m c))
  after_results <;> rfl

theorem final15 : fin m c main_v58 = cut5 (outD m c) := by
  refine Eq.trans ?_ (congrArg cut5 (outD_eq m c))
  after_results <;> rfl

theorem final16 : fin m c main_v59 = cut5 (outM m c) := by
  refine Eq.trans ?_ (congrArg cut5 (outM_eq m c))
  after_results <;> rfl

theorem final17 : fin m c main_v60 = cut5 (outV m c) := by
  refine Eq.trans ?_ (congrArg cut5 (outV_eq m c))
  after_results <;> rfl

theorem final18 : fin m c main_v61 = cut6 (outD m c) := by
  refine Eq.trans ?_ (congrArg cut6 (outD_eq m c))
  after_results <;> rfl

theorem final19 : fin m c main_v62 = cut6 (outM m c) := by
  refine Eq.trans ?_ (congrArg cut6 (outM_eq m c))
  after_results <;> rfl

theorem final20 : fin m c main_v63 = cut6 (outV m c) := by
  refine Eq.trans ?_ (congrArg cut6 (outV_eq m c))
  after_results <;> rfl

theorem final21 : fin m c main_v65 = cut7 (outD m c) := by
  refine Eq.trans ?_ (congrArg cut7 (outD_eq m c))
  after_results <;> rfl

theorem final22 : fin m c main_v67 = cut7 (outM m c) := by
  refine Eq.trans ?_ (congrArg cut7 (outM_eq m c))
  after_results <;> rfl

theorem final23 : fin m c main_v69 = cut7 (outV m c) := by
  refine Eq.trans ?_ (congrArg cut7 (outV_eq m c))
  after_results <;> rfl

theorem final24 : fin m c main_v71 = cut8 (outD m c) := by
  refine Eq.trans ?_ (congrArg cut8 (outD_eq m c))
  after_results <;> rfl

theorem final25 : fin m c main_v73 = cut8 (outM m c) := by
  refine Eq.trans ?_ (congrArg cut8 (outM_eq m c))
  after_results <;> rfl

theorem final26 : fin m c main_v75 = cut8 (outV m c) := by
  refine Eq.trans ?_ (congrArg cut8 (outV_eq m c))
  after_results <;> rfl

section Parts

variable {s : Shape} (cut : Adam.Arr S80x1024 → Adam.Arr s) {z : Adam.Arr s} {g w mm vv : Adam.Arr S80x1024} {e a b d : Adam.Arr s}

/-- A weight's change, from its own part of each array. -/
theorem fin_d (hz : z = cut (stepD g w mm vv)) (hc : cut (stepD g w mm vv) = fun y => Adam.delta (cut g y) (cut w y) (cut mm y) (cut vv y))
    (hg : cut g = e) (hw : cut w = a) (hm : cut mm = b) (hv : cut vv = d) : (fun y => Adam.delta (e y) (a y) (b y) (d y)) = z := by
  subst hg hw hm hv
  exact (hz.trans hc).symm

/-- A weight's new first moment, from its own part of each array. -/
theorem fin_m (hz : z = cut (stepM g mm)) (hc : cut (stepM g mm) = fun y => Adam.newM (cut g y) (cut mm y))
    (hg : cut g = e) (hm : cut mm = b) : (fun y => Adam.newM (e y) (b y)) = z := by
  subst hg hm
  exact (hz.trans hc).symm

/-- A weight's new second moment, from its own part of each array. -/
theorem fin_v (hz : z = cut (stepV g vv)) (hc : cut (stepV g vv) = fun y => Adam.newV (cut g y) (cut vv y))
    (hg : cut g = e) (hv : cut vv = d) : (fun y => Adam.newV (e y) (d y)) = z := by
  subst hg hv
  exact (hz.trans hc).symm

end Parts

end Host

attribute [local instance] Cert.Kernel24Ideal.Gen.facts Cert.Reference24Ideal.Gen.facts

/-- On the extended reals the kernel's arrays are the reference's results. -/
theorem algebraic : Cert.algebraic_Kernel24Ideal_Reference24Ideal
    (hKernel24Ideal := Cert.Kernel24Ideal.Gen.facts) (hReference24Ideal := Cert.Reference24Ideal.Gen.facts) := by
  intro m g m' g' _ hagree
  refine ⟨(fin m · main_v41), (fin m · main_v43), (fin m · main_v45), (fin m · main_v46), (fin m · main_v47), (fin m · main_v48), (fin m · main_v49), (fin m · main_v50), (fin m · main_v51), (fin m · main_v52), (fin m · main_v53), (fin m · main_v54), (fin m · main_v55), (fin m · main_v56), (fin m · main_v57), (fin m · main_v58), (fin m · main_v59), (fin m · main_v60), (fin m · main_v61), (fin m · main_v62), (fin m · main_v63), (fin m · main_v65), (fin m · main_v67), (fin m · main_v69), (fin m · main_v71), (fin m · main_v73), (fin m · main_v75), ?_, ?_⟩
  · refine (θ_run _ _ _).mono (fun r h c => ?_) (θ_run_and (run_main m g) (unchanged m g))
    have hr := fun b u v => (h.1 c).2 b (Pipeline.mem_restRefs_of b u v)
    exact ⟨hr main_v41 (by decide) (by decide), hr main_v43 (by decide) (by decide), hr main_v45 (by decide) (by decide), hr main_v46 (by decide) (by decide), hr main_v47 (by decide) (by decide), hr main_v48 (by decide) (by decide), hr main_v49 (by decide) (by decide), hr main_v50 (by decide) (by decide), hr main_v51 (by decide) (by decide), hr main_v52 (by decide) (by decide), hr main_v53 (by decide) (by decide), hr main_v54 (by decide) (by decide), hr main_v55 (by decide) (by decide), hr main_v56 (by decide) (by decide), hr main_v57 (by decide) (by decide), hr main_v58 (by decide) (by decide), hr main_v59 (by decide) (by decide), hr main_v60 (by decide) (by decide), hr main_v61 (by decide) (by decide), hr main_v62 (by decide) (by decide), hr main_v63 (by decide) (by decide), hr main_v65 (by decide) (by decide), hr main_v67 (by decide) (by decide), hr main_v69 (by decide) (by decide), hr main_v71 (by decide) (by decide), hr main_v73 (by decide) (by decide), hr main_v75 (by decide) (by decide), h.2 c⟩
  · refine (θ_run _ _ _).mono (fun r h c => ?_) (Cert.Reference24Ideal.Value.run m' g')
    obtain ⟨r0, r1, r2, r3, r4, r5, r6, r7, r8, r9, r10, r11, r12, r13, r14, r15, r16, r17, r18, r19, r20, r21, r22, r23, r24, r25, r26, ra⟩ := h c
    obtain ⟨a0, a1, a2, a3, a4, a5, a6, a7, a8, a9, a10, a11, a12, a13, a14, a15, a16, a17, a18, a19, a20, a21, a22, a23, a24, a25, a26, a27⟩ := hagree c
    refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, r14.trans ?_, r15.trans ?_, r16.trans ?_, r17.trans ?_, r18.trans ?_, r19.trans ?_, r20.trans ?_, r21.trans ?_, r22.trans ?_, r23.trans ?_, r24.trans ?_, r25.trans ?_, r26.trans ?_, ra⟩
    · refine Eq.trans ?_ (fin_d cut0 (final0 m c) rfl rfl cut_pack0 cut_pack0 cut_pack0)
      rw [← a0, ← a1, ← a10, ← a19]
      rfl
    · refine Eq.trans ?_ (fin_m cut0 (final1 m c) rfl rfl cut_pack0)
      rw [← a0, ← a10]
      rfl
    · refine Eq.trans ?_ (fin_v cut0 (final2 m c) rfl rfl cut_pack0)
      rw [← a0, ← a19]
      rfl
    · refine Eq.trans ?_ (fin_d cut1 (final3 m c) rfl rfl cut_pack1 cut_pack1 cut_pack1)
      rw [← a0, ← a2, ← a11, ← a20]
      rfl
    · refine Eq.trans ?_ (fin_m cut1 (final4 m c) rfl rfl cut_pack1)
      rw [← a0, ← a11]
      rfl
    · refine Eq.trans ?_ (fin_v cut1 (final5 m c) rfl rfl cut_pack1)
      rw [← a0, ← a20]
      rfl
    · refine Eq.trans ?_ (fin_d cut2 (final6 m c) rfl rfl cut_pack2 cut_pack2 cut_pack2)
      rw [← a0, ← a3, ← a12, ← a21]
      rfl
    · refine Eq.trans ?_ (fin_m cut2 (final7 m c) rfl rfl cut_pack2)
      rw [← a0, ← a12]
      rfl
    · refine Eq.trans ?_ (fin_v cut2 (final8 m c) rfl rfl cut_pack2)
      rw [← a0, ← a21]
      rfl
    · refine Eq.trans ?_ (fin_d cut3 (final9 m c) rfl rfl cut_pack3 cut_pack3 cut_pack3)
      rw [← a0, ← a4, ← a13, ← a22]
      rfl
    · refine Eq.trans ?_ (fin_m cut3 (final10 m c) rfl rfl cut_pack3)
      rw [← a0, ← a13]
      rfl
    · refine Eq.trans ?_ (fin_v cut3 (final11 m c) rfl rfl cut_pack3)
      rw [← a0, ← a22]
      rfl
    · refine Eq.trans ?_ (fin_d cut4 (final12 m c) rfl rfl cut_pack4 cut_pack4 cut_pack4)
      rw [← a0, ← a5, ← a14, ← a23]
      rfl
    · refine Eq.trans ?_ (fin_m cut4 (final13 m c) rfl rfl cut_pack4)
      rw [← a0, ← a14]
      rfl
    · refine Eq.trans ?_ (fin_v cut4 (final14 m c) rfl rfl cut_pack4)
      rw [← a0, ← a23]
      rfl
    · refine Eq.trans ?_ (fin_d cut5 (final15 m c) rfl rfl cut_pack5 cut_pack5 cut_pack5)
      rw [← a0, ← a6, ← a15, ← a24]
      rfl
    · refine Eq.trans ?_ (fin_m cut5 (final16 m c) rfl rfl cut_pack5)
      rw [← a0, ← a15]
      rfl
    · refine Eq.trans ?_ (fin_v cut5 (final17 m c) rfl rfl cut_pack5)
      rw [← a0, ← a24]
      rfl
    · refine Eq.trans ?_ (fin_d cut6 (final18 m c) rfl rfl cut_pack6 cut_pack6 cut_pack6)
      rw [← a0, ← a7, ← a16, ← a25]
      rfl
    · refine Eq.trans ?_ (fin_m cut6 (final19 m c) rfl rfl cut_pack6)
      rw [← a0, ← a16]
      rfl
    · refine Eq.trans ?_ (fin_v cut6 (final20 m c) rfl rfl cut_pack6)
      rw [← a0, ← a25]
      rfl
    · refine Eq.trans ?_ (fin_d cut7 (final21 m c) rfl rfl cut_pack7 cut_pack7 cut_pack7)
      rw [← a0, ← a8, ← a17, ← a26]
      rfl
    · refine Eq.trans ?_ (fin_m cut7 (final22 m c) rfl rfl cut_pack7)
      rw [← a0, ← a17]
      rfl
    · refine Eq.trans ?_ (fin_v cut7 (final23 m c) rfl rfl cut_pack7)
      rw [← a0, ← a26]
      rfl
    · refine Eq.trans ?_ (fin_d cut8 (final24 m c) rfl rfl cut_pack8 cut_pack8 cut_pack8)
      rw [← a0, ← a9, ← a18, ← a27]
      rfl
    · refine Eq.trans ?_ (fin_m cut8 (final25 m c) rfl rfl cut_pack8)
      rw [← a0, ← a18]
      rfl
    · refine Eq.trans ?_ (fin_v cut8 (final26 m c) rfl rfl cut_pack8)
      rw [← a0, ← a27]
      rfl

end Cert.Proof.AdamRep
-- ==== Proof.AdamCols.lean ====
/- The optimiser's call for the weights held by columns, packed into one array: the changes of the weights and the new moments, unpacked. -/
module

public import proofs.«01_k».proof.Defs
public import proofs.«01_k».proof.Proof.Adam
public import proofs.«01_k».proof.Proof.Gen.Kernel25Ideal.Frame
public import proofs.«01_k».proof.Proof.Gen.Reference25Ideal.Run
public import proofs.«01_k».proof.Proof.Gen.Reference25Ideal.Read

@[expose] public section

set_option maxRecDepth 16384

noncomputable section

namespace Cert.Proof.AdamCols

open Idealize.ShloMosaic Idealize.ShloMosaic.TcCoe Idealize.ShloMosaic.Tactic Idealize.SL.Sem
open Idealize.ShloMosaic.Pipeline (Dat)
open Cert.Kernel25Ideal Cert.Kernel25Ideal.Gen

section Kernel

variable (g w mm vv : Vec Ideal S40x256 .f32) (q : Fin 40) (l : Fin 256)

theorem pay_d : k0_pay4 (F := Ideal) g w mm vv (ix2 q l)
    = Adam.delta (g (ix2 q l)) (w (ix2 q l)) (mm (ix2 q l)) (vv (ix2 q l)) := by
  pointwise [k0_pay1, k0_pay2, k0_pay3, k0_pay4]
  rfl

theorem pay_m : k0_pay2 (F := Ideal) g mm (ix2 q l) = Adam.newM (g (ix2 q l)) (mm (ix2 q l)) := by
  pointwise [k0_pay1, k0_pay2, k0_pay3, k0_pay4]
  rfl

theorem pay_v : k0_pay3 (F := Ideal) g vv (ix2 q l) = Adam.newV (g (ix2 q l)) (vv (ix2 q l)) := by
  pointwise [k0_pay1, k0_pay2, k0_pay3, k0_pay4]
  rfl

end Kernel

/-- The changes of all rows. -/
abbrev stepD (g w mm vv : Adam.Arr S40x256) : Adam.Arr S40x256 := fun y => Adam.delta (g y) (w y) (mm y) (vv y)

/-- The new first moments of all rows. -/
abbrev stepM (g mm : Adam.Arr S40x256) : Adam.Arr S40x256 := fun y => Adam.newM (g y) (mm y)

/-- The new second moments of all rows. -/
abbrev stepV (g vv : Adam.Arr S40x256) : Adam.Arr S40x256 := fun y => Adam.newV (g y) (vv y)

section Arrays

variable (m : (ℓ : Loc nD τ sig) → Buf (Elt Ideal) ℓ) (c : Dev nD)

theorem blk0 (t : Fin cfg0.N) : (View.ld (iblk m c 0 t) r0_0 : Vec Ideal S40x256 .f32) = V m c main_v3 := by
  have hi : ∀ t : Fin cfg0.N, (cfg0.win 0).index t = ![0, 0] := by decide +kernel
  funext y
  change S40x256.Idx at y
  idx_vars y
  blk_ext [iblk, V, hi t, View.ld, LoadRect.idx_apply]
  all_goals simp [Rect.unit]

theorem blk1 (t : Fin cfg0.N) : (View.ld (iblk m c 1 t) r0_0 : Vec Ideal S40x256 .f32) = V m c main_v7 := by
  have hi : ∀ t : Fin cfg0.N, (cfg0.win 1).index t = ![0, 0] := by decide +kernel
  funext y
  change S40x256.Idx at y
  idx_vars y
  blk_ext [iblk, V, hi t, View.ld, LoadRect.idx_apply]
  all_goals simp [Rect.unit]

theorem blk2 (t : Fin cfg0.N) : (View.ld (iblk m c 2 t) r0_0 : Vec Ideal S40x256 .f32) = V m c main_v11 := by
  have hi : ∀ t : Fin cfg0.N, (cfg0.win 2).index t = ![0, 0] := by decide +kernel
  funext y
  change S40x256.Idx at y
  idx_vars y
  blk_ext [iblk, V, hi t, View.ld, LoadRect.idx_apply]
  all_goals simp [Rect.unit]

theorem blk3 (t : Fin cfg0.N) : (View.ld (iblk m c 3 t) r0_0 : Vec Ideal S40x256 .f32) = V m c main_v15 := by
  have hi : ∀ t : Fin cfg0.N, (cfg0.win 3).index t = ![0, 0] := by decide +kernel
  funext y
  change S40x256.Idx at y
  idx_vars y
  blk_ext [iblk, V, hi t, View.ld, LoadRect.idx_apply]
  all_goals simp [Rect.unit]

theorem array4 : (dats m 0 c).arrAt 4 cfg0.N = stepD (V m c main_v3) (V m c main_v7) (V m c main_v11) (V m c main_v15) := by
  refine (dats m 0 c).arrAt_eq_of_covers 4 _ (by decide +kernel) fun t hf y => ?_
  have hi : ∀ t : Fin cfg0.N, (cfg0.win 4).index t = ![0, 0] := by decide +kernel
  have hy : ((cfg0.win 4).blk t).view.emb y = y := by
    funext a
    fin_cases a <;> exact Fin.ext (by blk_simp [hi t])
  blk_simp
  rw [after0_4]
  unfold out0_4
  rw [View.canon_cons_unit_zero (by decide), hy, blk0, blk1, blk2, blk3]
  change S40x256.Idx at y
  idx_vars y
  exact pay_d _ _ _ _ y0 y1

theorem array5 : (dats m 0 c).arrAt 5 cfg0.N = stepM (V m c main_v3) (V m c main_v11) := by
  refine (dats m 0 c).arrAt_eq_of_covers 5 _ (by decide +kernel) fun t hf y => ?_
  have hi : ∀ t : Fin cfg0.N, (cfg0.win 5).index t = ![0, 0] := by decide +kernel
  have hy : ((cfg0.win 5).blk t).view.emb y = y := by
    funext a
    fin_cases a <;> exact Fin.ext (by blk_simp [hi t])
  blk_simp
  rw [after0_5]
  unfold out0_5
  rw [View.canon_cons_unit_zero (by decide), hy, blk0, blk2]
  change S40x256.Idx at y
  idx_vars y
  exact pay_m _ _ y0 y1

theorem array6 : (dats m 0 c).arrAt 6 cfg0.N = stepV (V m c main_v3) (V m c main_v15) := by
  refine (dats m 0 c).arrAt_eq_of_covers 6 _ (by decide +kernel) fun t hf y => ?_
  have hi : ∀ t : Fin cfg0.N, (cfg0.win 6).index t = ![0, 0] := by decide +kernel
  have hy : ((cfg0.win 6).blk t).view.emb y = y := by
    funext a
    fin_cases a <;> exact Fin.ext (by blk_simp [hi t])
  blk_simp
  rw [after0_6]
  unfold out0_6
  rw [View.canon_cons_unit_zero (by decide), hy, blk0, blk3]
  change S40x256.Idx at y
  idx_vars y
  exact pay_v _ _ y0 y1

end Arrays

section Pack

/-- Reading rows of the array from row `r` on. -/
theorem rows_at {n : ℕ} (z : Adam.Arr S40x256) (r : ℕ) (hn : r + n ≤ 40) (h) (q : Fin n) (l : Fin 256) :
    extractStridedSlice (⟨2, ![n, 256]⟩ : Shape) ![r, 0] z h (ix2 q l) = z (ix2 (⟨r + q.val, by have := q.isLt; omega⟩ : Fin 40) l) := by
  refine congrArg z (funext fun b => Fin.ext ?_)
  fin_cases b
  · rfl
  · exact Nat.zero_add _

variable {a0 : Adam.Arr S2x3x256} {a1 : Adam.Arr S1x31x256} {a2 : Adam.Arr S1x256}

/-- The weights' rows, one under the other. -/
def pack (a0 : Adam.Arr S2x3x256) (a1 : Adam.Arr S1x31x256) (a2 : Adam.Arr S1x256) : Adam.Arr S40x256 :=
  concatenate S40x256 0 [⟨S6x256, ((shapeCast S6x256 a0 shapeCasts_S2x3x256_S6x256) : Adam.Arr S6x256)⟩, ⟨S31x256, ((shapeCast S31x256 a1 shapeCasts_S1x31x256_S31x256) : Adam.Arr S31x256)⟩, ⟨S1x256, (a2 : Adam.Arr S1x256)⟩, ⟨S2x256, broadcastInDim S2x256 ![] bcast_S_S2x256 (constant (F := Ideal) S_ .f32 0x00000000#32)⟩] concatenates_S6x256_S31x256_S1x256_S2x256_S40x256_d0

/-- The part of the rows that belongs to weight 0. -/
abbrev cut0 (z : Adam.Arr S40x256) : Adam.Arr S2x3x256 :=
  shapeCast S2x3x256 (extractStridedSlice S6x256 ![0, 0] z slices_S40x256_S6x256_0_0) shapeCasts_S6x256_S2x3x256

theorem slice0 : extractStridedSlice S6x256 ![0, 0] (pack a0 a1 a2) slices_S40x256_S6x256_0_0 = (shapeCast S6x256 a0 shapeCasts_S2x3x256_S6x256) := by
  funext y
  change S6x256.Idx at y
  idx_vars y
  refine (rows_at _ 0 (by decide) _ y0 y1).trans ?_
  unfold pack
  refine concatenate_apply_piece (t := S40x256) 0 _ _ _ 0 ?_ S6x256 _ ?_ rfl 0 ?_ (ix2 y0 y1) (fun b hb => ?_) ?_
  · change 0 < 4
    decide
  · rfl
  · rfl
  · fin_cases b
    · exact absurd rfl hb
    · rfl
  · rfl

theorem cut_pack0 : cut0 (pack a0 a1 a2) = a0 := by
  unfold cut0
  rw [slice0]
  exact shapeCast_shapeCast _ _ _

/-- The part of the rows that belongs to weight 1. -/
abbrev cut1 (z : Adam.Arr S40x256) : Adam.Arr S1x31x256 :=
  shapeCast S1x31x256 (extractStridedSlice S31x256 ![6, 0] z slices_S40x256_S31x256_6_0) shapeCasts_S31x256_S1x31x256

theorem slice1 : extractStridedSlice S31x256 ![6, 0] (pack a0 a1 a2) slices_S40x256_S31x256_6_0 = (shapeCast S31x256 a1 shapeCasts_S1x31x256_S31x256) := by
  funext y
  change S31x256.Idx at y
  idx_vars y
  refine (rows_at _ 6 (by decide) _ y0 y1).trans ?_
  unfold pack
  refine concatenate_apply_piece (t := S40x256) 0 _ _ _ 1 ?_ S31x256 _ ?_ rfl 6 ?_ (ix2 y0 y1) (fun b hb => ?_) ?_
  · change 1 < 4
    decide
  · rfl
  · rfl
  · fin_cases b
    · exact absurd rfl hb
    · rfl
  · rfl

theorem cut_pack1 : cut1 (pack a0 a1 a2) = a1 := by
  unfold cut1
  rw [slice1]
  exact shapeCast_shapeCast _ _ _

/-- The part of the rows that belongs to weight 2. -/
abbrev cut2 (z : Adam.Arr S40x256) : Adam.Arr S1x256 :=
  extractStridedSlice S1x256 ![37, 0] z slices_S40x256_S1x256_37_0

theorem slice2 : extractStridedSlice S1x256 ![37, 0] (pack a0 a1 a2) slices_S40x256_S1x256_37_0 = a2 := by
  funext y
  change S1x256.Idx at y
  idx_vars y
  refine (rows_at _ 37 (by decide) _ y0 y1).trans ?_
  unfold pack
  refine concatenate_apply_piece (t := S40x256) 0 _ _ _ 2 ?_ S1x256 _ ?_ rfl 37 ?_ (ix2 y0 y1) (fun b hb => ?_) ?_
  · change 2 < 4
    decide
  · rfl
  · rfl
  · fin_cases b
    · exact absurd rfl hb
    · rfl
  · rfl

theorem cut_pack2 : cut2 (pack a0 a1 a2) = a2 := by
  unfold cut2
  rw [slice2]

end Pack

section Host

variable (m : (ℓ : Loc nD τ sig) → Buf (Elt Ideal) ℓ) (c : Dev nD)

theorem host_g : V m c main_v3 = pack (m ((c : Thread nD τ).loc main_arg0)) (m ((c : Thread nD τ).loc main_arg1)) (m ((c : Thread nD τ).loc main_arg2)) := by
  change StableHlo.after hostOps0 (fun b => m (c, b)) (Proc.devRef .tc main_v3) = _
  after_results <;> rfl

theorem host_w : V m c main_v7 = pack (m ((c : Thread nD τ).loc main_arg3)) (m ((c : Thread nD τ).loc main_arg4)) (m ((c : Thread nD τ).loc main_arg5)) := by
  change StableHlo.after hostOps0 (fun b => m (c, b)) (Proc.devRef .tc main_v7) = _
  after_results <;> rfl

theorem host_m : V m c main_v11 = pack (m ((c : Thread nD τ).loc main_arg6)) (m ((c : Thread nD τ).loc main_arg7)) (m ((c : Thread nD τ).loc main_arg8)) := by
  change StableHlo.after hostOps0 (fun b => m (c, b)) (Proc.devRef .tc main_v11) = _
  after_results <;> rfl

theorem host_v : V m c main_v15 = pack (m ((c : Thread nD τ).loc main_arg9)) (m ((c : Thread nD τ).loc main_arg10)) (m ((c : Thread nD τ).loc main_arg11)) := by
  change StableHlo.after hostOps0 (fun b => m (c, b)) (Proc.devRef .tc main_v15) = _
  after_results <;> rfl

theorem tail0 (W : Valuation τ sig (Elt Ideal)) : StableHlo.after hostOps1 W (Proc.devRef .tc main_v18) = cut0 (W (Proc.devRef .tc main_v16_0)) := by
  after_results <;> rfl

theorem tail1 (W : Valuation τ sig (Elt Ideal)) : StableHlo.after hostOps1 W (Proc.devRef .tc main_v20) = cut0 (W (Proc.devRef .tc main_v16_1)) := by
  after_results <;> rfl

theorem tail2 (W : Valuation τ sig (Elt Ideal)) : StableHlo.after hostOps1 W (Proc.devRef .tc main_v22) = cut0 (W (Proc.devRef .tc main_v16_2)) := by
  after_results <;> rfl

theorem tail3 (W : Valuation τ sig (Elt Ideal)) : StableHlo.after hostOps1 W (Proc.devRef .tc main_v24) = cut1 (W (Proc.devRef .tc main_v16_0)) := by
  after_results <;> rfl

theorem tail4 (W : Valuation τ sig (Elt Ideal)) : StableHlo.after hostOps1 W (Proc.devRef .tc main_v26) = cut1 (W (Proc.devRef .tc main_v16_1)) := by
  after_results <;> rfl

theorem tail5 (W : Valuation τ sig (Elt Ideal)) : StableHlo.after hostOps1 W (Proc.devRef .tc main_v28) = cut1 (W (Proc.devRef .tc main_v16_2)) := by
  after_results <;> rfl

theorem tail6 (W : Valuation τ sig (Elt Ideal)) : StableHlo.after hostOps1 W (Proc.devRef .tc main_v29) = cut2 (W (Proc.devRef .tc main_v16_0)) := by
  after_results <;> rfl

theorem tail7 (W : Valuation τ sig (Elt Ideal)) : StableHlo.after hostOps1 W (Proc.devRef .tc main_v30) = cut2 (W (Proc.devRef .tc main_v16_1)) := by
  after_results <;> rfl

theorem tail8 (W : Valuation τ sig (Elt Ideal)) : StableHlo.after hostOps1 W (Proc.devRef .tc main_v31) = cut2 (W (Proc.devRef .tc main_v16_2)) := by
  after_results <;> rfl

/-- The call's array 0, from the arguments. -/
def outD : Adam.Arr S40x256 :=
  stepD (pack (m ((c : Thread nD τ).loc main_arg0)) (m ((c : Thread nD τ).loc main_arg1)) (m ((c : Thread nD τ).loc main_arg2))) (pack (m ((c : Thread nD τ).loc main_arg3)) (m ((c : Thread nD τ).loc main_arg4)) (m ((c : Thread nD τ).loc main_arg5))) (pack (m ((c : Thread nD τ).loc main_arg6)) (m ((c : Thread nD τ).loc main_arg7)) (m ((c : Thread nD τ).loc main_arg8))) (pack (m ((c : Thread nD τ).loc main_arg9)) (m ((c : Thread nD τ).loc main_arg10)) (m ((c : Thread nD τ).loc main_arg11)))

theorem outD_eq : Pipeline.withArrays spec0 c (V0 m c) (fun w => (dats m 0 c).arrAt w cfg0.N) (Proc.devRef .tc main_v16_0) = outD m c := by
  refine (Pipeline.withArrays_arr spec0 launch0.win.arr_inj c (V0 m c) _ 4).trans ((array4 m c).trans ?_)
  rw [host_g, host_w, host_m, host_v]
  rfl

/-- The call's array 1, from the arguments. -/
def outM : Adam.Arr S40x256 :=
  stepM (pack (m ((c : Thread nD τ).loc main_arg0)) (m ((c : Thread nD τ).loc main_arg1)) (m ((c : Thread nD τ).loc main_arg2))) (pack (m ((c : Thread nD τ).loc main_arg6)) (m ((c : Thread nD τ).loc main_arg7)) (m ((c : Thread nD τ).loc main_arg8)))

theorem outM_eq : Pipeline.withArrays spec0 c (V0 m c) (fun w => (dats m 0 c).arrAt w cfg0.N) (Proc.devRef .tc main_v16_1) = outM m c := by
  refine (Pipeline.withArrays_arr spec0 launch0.win.arr_inj c (V0 m c) _ 5).trans ((array5 m c).trans ?_)
  rw [host_g, host_m]
  rfl

/-- The call's array 2, from the arguments. -/
def outV : Adam.Arr S40x256 :=
  stepV (pack (m ((c : Thread nD τ).loc main_arg0)) (m ((c : Thread nD τ).loc main_arg1)) (m ((c : Thread nD τ).loc main_arg2))) (pack (m ((c : Thread nD τ).loc main_arg9)) (m ((c : Thread nD τ).loc main_arg10)) (m ((c : Thread nD τ).loc main_arg11)))

theorem outV_eq : Pipeline.withArrays spec0 c (V0 m c) (fun w => (dats m 0 c).arrAt w cfg0.N) (Proc.devRef .tc main_v16_2) = outV m c := by
  refine (Pipeline.withArrays_arr spec0 launch0.win.arr_inj c (V0 m c) _ 6).trans ((array6 m c).trans ?_)
  rw [host_g, host_v]
  rfl

theorem final0 : Pipeline.afterTail₀ cfgs (dats m) 0 (V0 m) [hostOps1] c main_v18 = cut0 (outD m c) :=
  (tail0 _).trans (congrArg cut0 (outD_eq m c))

theorem final1 : Pipeline.afterTail₀ cfgs (dats m) 0 (V0 m) [hostOps1] c main_v20 = cut0 (outM m c) :=
  (tail1 _).trans (congrArg cut0 (outM_eq m c))

theorem final2 : Pipeline.afterTail₀ cfgs (dats m) 0 (V0 m) [hostOps1] c main_v22 = cut0 (outV m c) :=
  (tail2 _).trans (congrArg cut0 (outV_eq m c))

theorem final3 : Pipeline.afterTail₀ cfgs (dats m) 0 (V0 m) [hostOps1] c main_v24 = cut1 (outD m c) :=
  (tail3 _).trans (congrArg cut1 (outD_eq m c))

theorem final4 : Pipeline.afterTail₀ cfgs (dats m) 0 (V0 m) [hostOps1] c main_v26 = cut1 (outM m c) :=
  (tail4 _).trans (congrArg cut1 (outM_eq m c))

theorem final5 : Pipeline.afterTail₀ cfgs (dats m) 0 (V0 m) [hostOps1] c main_v28 = cut1 (outV m c) :=
  (tail5 _).trans (congrArg cut1 (outV_eq m c))

theorem final6 : Pipeline.afterTail₀ cfgs (dats m) 0 (V0 m) [hostOps1] c main_v29 = cut2 (outD m c) :=
  (tail6 _).trans (congrArg cut2 (outD_eq m c))

theorem final7 : Pipeline.afterTail₀ cfgs (dats m) 0 (V0 m) [hostOps1] c main_v30 = cut2 (outM m c) :=
  (tail7 _).trans (congrArg cut2 (outM_eq m c))

theorem final8 : Pipeline.afterTail₀ cfgs (dats m) 0 (V0 m) [hostOps1] c main_v31 = cut2 (outV m c) :=
  (tail8 _).trans (congrArg cut2 (outV_eq m c))

section Parts

variable {s : Shape} (cut : Adam.Arr S40x256 → Adam.Arr s) {z : Adam.Arr s} {g w mm vv : Adam.Arr S40x256} {e a b d : Adam.Arr s}

/-- A weight's change, from its own part of each array. -/
theorem fin_d (hz : z = cut (stepD g w mm vv)) (hc : cut (stepD g w mm vv) = fun y => Adam.delta (cut g y) (cut w y) (cut mm y) (cut vv y))
    (hg : cut g = e) (hw : cut w = a) (hm : cut mm = b) (hv : cut vv = d) : (fun y => Adam.delta (e y) (a y) (b y) (d y)) = z := by
  subst hg hw hm hv
  exact (hz.trans hc).symm

/-- A weight's new first moment, from its own part of each array. -/
theorem fin_m (hz : z = cut (stepM g mm)) (hc : cut (stepM g mm) = fun y => Adam.newM (cut g y) (cut mm y))
    (hg : cut g = e) (hm : cut mm = b) : (fun y => Adam.newM (e y) (b y)) = z := by
  subst hg hm
  exact (hz.trans hc).symm

/-- A weight's new second moment, from its own part of each array. -/
theorem fin_v (hz : z = cut (stepV g vv)) (hc : cut (stepV g vv) = fun y => Adam.newV (cut g y) (cut vv y))
    (hg : cut g = e) (hv : cut vv = d) : (fun y => Adam.newV (e y) (d y)) = z := by
  subst hg hv
  exact (hz.trans hc).symm

end Parts

end Host

attribute [local instance] Cert.Kernel25Ideal.Gen.facts Cert.Reference25Ideal.Gen.facts

/-- On the extended reals the kernel's arrays are the reference's results. -/
theorem algebraic : Cert.algebraic_Kernel25Ideal_Reference25Ideal
    (hKernel25Ideal := Cert.Kernel25Ideal.Gen.facts) (hReference25Ideal := Cert.Reference25Ideal.Gen.facts) := by
  intro m g m' g' _ hagree
  refine ⟨fun c => Pipeline.afterTail₀ cfgs (dats m) 0 (V0 m) [hostOps1] c main_v18, fun c => Pipeline.afterTail₀ cfgs (dats m) 0 (V0 m) [hostOps1] c main_v20, fun c => Pipeline.afterTail₀ cfgs (dats m) 0 (V0 m) [hostOps1] c main_v22, fun c => Pipeline.afterTail₀ cfgs (dats m) 0 (V0 m) [hostOps1] c main_v24, fun c => Pipeline.afterTail₀ cfgs (dats m) 0 (V0 m) [hostOps1] c main_v26, fun c => Pipeline.afterTail₀ cfgs (dats m) 0 (V0 m) [hostOps1] c main_v28, fun c => Pipeline.afterTail₀ cfgs (dats m) 0 (V0 m) [hostOps1] c main_v29, fun c => Pipeline.afterTail₀ cfgs (dats m) 0 (V0 m) [hostOps1] c main_v30, fun c => Pipeline.afterTail₀ cfgs (dats m) 0 (V0 m) [hostOps1] c main_v31, ?_, ?_⟩
  · refine (θ_run _ _ _).mono (fun r h c => ?_) (θ_run_and (run_main m g) (unchanged m g))
    have hr := (h.1 c).2
    exact ⟨hr main_v18 (Pipeline.mem_restRefs_of main_v18 (by decide) (by decide)), hr main_v20 (Pipeline.mem_restRefs_of main_v20 (by decide) (by decide)), hr main_v22 (Pipeline.mem_restRefs_of main_v22 (by decide) (by decide)), hr main_v24 (Pipeline.mem_restRefs_of main_v24 (by decide) (by decide)), hr main_v26 (Pipeline.mem_restRefs_of main_v26 (by decide) (by decide)), hr main_v28 (Pipeline.mem_restRefs_of main_v28 (by decide) (by decide)), hr main_v29 (Pipeline.mem_restRefs_of main_v29 (by decide) (by decide)), hr main_v30 (Pipeline.mem_restRefs_of main_v30 (by decide) (by decide)), hr main_v31 (Pipeline.mem_restRefs_of main_v31 (by decide) (by decide)), h.2 c⟩
  · refine (θ_run _ _ _).mono (fun r h c => ?_) (Cert.Reference25Ideal.Value.run m' g')
    obtain ⟨r0, r1, r2, r3, r4, r5, r6, r7, r8, ra⟩ := h c
    obtain ⟨a0, a1, a2, a3, a4, a5, a6, a7, a8, a9, a10, a11⟩ := hagree c
    refine ⟨r0.trans ?_, r1.trans ?_, r2.trans ?_, r3.trans ?_, r4.trans ?_, r5.trans ?_, r6.trans ?_, r7.trans ?_, r8.trans ?_, ra⟩
    · refine Eq.trans ?_ (fin_d cut0 (final0 m c) rfl cut_pack0 cut_pack0 cut_pack0 cut_pack0)
      rw [← a0, ← a3, ← a6, ← a9]
      rfl
    · refine Eq.trans ?_ (fin_m cut0 (final1 m c) rfl cut_pack0 cut_pack0)
      rw [← a0, ← a6]
      rfl
    · refine Eq.trans ?_ (fin_v cut0 (final2 m c) rfl cut_pack0 cut_pack0)
      rw [← a0, ← a9]
      rfl
    · refine Eq.trans ?_ (fin_d cut1 (final3 m c) rfl cut_pack1 cut_pack1 cut_pack1 cut_pack1)
      rw [← a1, ← a4, ← a7, ← a10]
      rfl
    · refine Eq.trans ?_ (fin_m cut1 (final4 m c) rfl cut_pack1 cut_pack1)
      rw [← a1, ← a7]
      rfl
    · refine Eq.trans ?_ (fin_v cut1 (final5 m c) rfl cut_pack1 cut_pack1)
      rw [← a1, ← a10]
      rfl
    · refine Eq.trans ?_ (fin_d cut2 (final6 m c) rfl cut_pack2 cut_pack2 cut_pack2 cut_pack2)
      rw [← a2, ← a5, ← a8, ← a11]
      rfl
    · refine Eq.trans ?_ (fin_m cut2 (final7 m c) rfl cut_pack2 cut_pack2)
      rw [← a2, ← a8]
      rfl
    · refine Eq.trans ?_ (fin_v cut2 (final8 m c) rfl cut_pack2 cut_pack2)
      rw [← a2, ← a11]
      rfl

end Cert.Proof.AdamCols
-- ==== Proof.LossMath.lean ====
/- The loss over the extended reals: the gradient through the normalisation, the loss and its constants, with no finiteness. -/
module

public import proofs.«01_k».proof.Proof.FfnReal
public import proofs.«01_k».proof.Proof.FfnRef

@[expose] public section

noncomputable section

namespace Cert.Proof.LossHead

open Idealize.ShloMosaic
open Cert.Proof.Ffn (rs ms ms_pos rs_coe eps eps_bits width_bits mhalf_bits coe_sum)
open Cert.Proof.FfnRef (one_bits zero_bits rs_sq)

theorem half_bits : Ideal.ofBits .f32 0x3F000000#32 = ((1 / 2 : ℝ) : EReal) := by
  simp [Ideal.ofBits, Ideal.ieee, -EReal.coe_mul]
  norm_num

theorem two_bits : Ideal.ofBits .f32 0x40000000#32 = ((2 : ℝ) : EReal) := by
  simp [Ideal.ofBits, Ideal.ieee, -EReal.coe_mul]
  norm_num

theorem mean_bits : Ideal.ofBits .f32 0x3A800000#32 = ((1 / 1024 : ℝ) : EReal) := by
  simp [Ideal.ofBits, Ideal.ieee, -EReal.coe_mul]
  norm_num

theorem half_mean_bits : Ideal.ofBits .f32 0x3A000000#32 = ((1 / 2048 : ℝ) : EReal) := by
  simp [Ideal.ofBits, Ideal.ieee, -EReal.coe_mul]
  norm_num

/-- A real that is not negative goes into a sum. -/
theorem coe_mul_sum {ι : Type*} (s : Finset ι) {r : ℝ} (hr : 0 ≤ r) (f : ι → EReal) : (r : EReal) * ∑ i ∈ s, f i = ∑ i ∈ s, (r : EReal) * f i := by
  classical
  induction s using Finset.induction_on with
  | empty => simp
  | insert a s h ih =>
    rw [Finset.sum_insert h, Finset.sum_insert h, EReal.left_distrib_of_nonneg_of_ne_top (EReal.coe_nonneg.2 hr) (EReal.coe_ne_top r), ih]

/-- A square is not negative. -/
theorem sq_nonneg' (x : EReal) : 0 ≤ x * x := by
  induction x using EReal.rec with
  | bot => simp
  | top => simp
  | coe r => exact_mod_cast mul_self_nonneg r

/-- The mean square of a row, with the constant. -/
def msE (x : Fin 1024 → EReal) : EReal := Ideal.div (∑ i, x i * x i) (Ideal.ofBits .f32 0x44800000#32) + Ideal.ofBits .f32 0x358637BD#32

/-- One over the root of the mean square. -/
def rtE (x : Fin 1024 → EReal) : EReal := Ideal.rsqrt (msE x)

/-- The normalised row times the gain, less the target. -/
def errE (x g y : Fin 1024 → EReal) (i : Fin 1024) : EReal := x i * rtE x * g i - y i

/-- The gradient of the normalised row times the gain. -/
def doutE (x g y : Fin 1024 → EReal) (i : Fin 1024) : EReal := errE x g y i * Ideal.ofBits .f32 0x3A800000#32

/-- The gradient of the row, as the kernel has it. -/
def dxE (x a : Fin 1024 → EReal) (i : Fin 1024) : EReal :=
  rtE x * (a i - x i * rtE x * Ideal.div (∑ k, a k * (x k * rtE x)) (Ideal.ofBits .f32 0x44800000#32))

/-- The factor of the row in its gradient, as the reference has it. -/
def backE (x a : Fin 1024 → EReal) : EReal :=
  Ideal.div ((∑ k, x k * a k) * (Ideal.ofBits .f32 0xBF000000#32 * Ideal.div (rtE x) (msE x))) (Ideal.ofBits .f32 0x44800000#32)

theorem dout_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [half_bits, one_bits, width_bits, two_bits, mean_bits, Ideal.div_coe (by norm_num), ← EReal.coe_mul, ← EReal.coe_mul, ← mul_assoc, ← EReal.coe_mul,
    mul_comm]
  congr 2
  norm_num

theorem loss_eq (f : Fin 4096 → Fin 1024 → EReal) : Ideal.ofBits .f32 0x3A000000#32 * ∑ t, ∑ i, f t i
    = Ideal.ofBits .f32 0x3F000000#32 * ∑ t, Ideal.div (∑ i, f t i) (Ideal.ofBits .f32 0x44800000#32) := by
  rw [half_mean_bits, half_bits, width_bits]
  have e : ∑ t, Ideal.div (∑ i, f t i) ((1024 : ℝ) : EReal) = ((1 / 1024 : ℝ) : EReal) * ∑ t, ∑ i, f t i := by
    rw [coe_mul_sum _ (by norm_num)]
    refine Finset.sum_congr rfl fun t _ => ?_
    rw [Ideal.div_coe (by norm_num), mul_comm]
  rw [e, ← mul_assoc, ← EReal.coe_mul]
  congr 2
  norm_num

/-- A row with an infinite entry has an infinite mean square. -/
theorem ms_top {x : Fin 1024 → EReal} {j : Fin 1024} (h : x j * x j = ⊤) : msE x = ⊤ := by
  have hs : ∑ i, x i * x i = ⊤ := by
    refine top_le_iff.1 (h ▸ ?_)
    exact Finset.single_le_sum (f := fun i => x i * x i) (fun i _ => sq_nonneg' (x i)) (Finset.mem_univ j)
  unfold msE
  rw [hs, width_bits, Ideal.div_coe (by norm_num), EReal.top_mul_coe_of_pos (by norm_num), eps_bits, EReal.top_add_coe]

theorem twice (a : ℝ) (s : EReal) : (a : EReal) * s + (a : EReal) * s = ((2 * a : ℝ) : EReal) * s := by
  rw [EReal.coe_mul, mul_assoc]
  refine Eq.symm ?_
  have e : ((2 : ℝ) : EReal) = 1 + 1 := by norm_cast
  rw [e, EReal.right_distrib_of_nonneg zero_le_one zero_le_one, one_mul]

/-- The kernel's gradient of a row is the reference's. -/
theorem dx_eq (x a : Fin 1024 → EReal) (i : Fin 1024) : dxE x a i = (a i * rtE x + x i * backE x a) + backE x a * x i := by
  by_cases h : ∀ j, x j ≠ ⊤ ∧ x j ≠ ⊥
  · lift x to Fin 1024 → ℝ using h
    have hr : rtE (fun j => (x j : EReal)) = (rs (fun _ => x) 0 : EReal) := rs_coe (fun _ => x) 0
    have hm : msE (fun j => (x j : EReal)) = (ms (fun _ => x) 0 : EReal) := by
      unfold msE
      rw [width_bits, eps_bits, Ideal.div_coe (by norm_num)]
      simp only [← EReal.coe_mul, coe_sum, ← EReal.coe_add]
      congr 1
      unfold ms
      ring
    have hq := rs_sq (fun _ => x) 0
    have hp := ms_pos (fun _ => x) 0
    have h0 : 0 ≤ rs (fun _ => x) 0 := by unfold rs; positivity
    unfold dxE backE
    rw [hr, hm, width_bits, mhalf_bits, Ideal.div_coe (by norm_num), Ideal.div_coe (by norm_num), Ideal.div_coe hp.ne']
    generalize rs (fun _ => x) 0 = ρ at *
    generalize ms (fun _ => x) 0 = v at *
    have hs : ∑ k, a k * ((x k : EReal) * (ρ : EReal)) = (ρ : EReal) * ∑ k, (x k : EReal) * a k := by
      rw [coe_mul_sum _ h0]
      refine Finset.sum_congr rfl fun k _ => ?_
      rw [mul_comm, mul_comm (x k : EReal), mul_assoc]
    rw [hs, sub_eq_add_neg, EReal.left_distrib_of_nonneg_of_ne_top (EReal.coe_nonneg.2 h0) (EReal.coe_ne_top ρ), add_assoc, mul_comm (a i)]
    generalize ∑ k, (x k : EReal) * a k = S
    refine congrArg ((ρ : EReal) * a i + ·) ?_
    have e1 : (ρ : EReal) * -((x i : EReal) * (ρ : EReal) * ((ρ : EReal) * S * ((1 / 1024 : ℝ) : EReal)))
        = ((-(ρ * x i * ρ * ρ * (1 / 1024)) : ℝ) : EReal) * S := by
      rw [mul_neg, EReal.coe_neg, neg_mul]
      simp only [EReal.coe_mul]
      congr 1
      ac_rfl
    have e2 : (x i : EReal) * (S * (((-(1 / 2) : ℝ) : EReal) * ((ρ : EReal) * ((1 / v : ℝ) : EReal))) * ((1 / 1024 : ℝ) : EReal))
        = ((x i * (-(1 / 2) * (ρ * (1 / v))) * (1 / 1024) : ℝ) : EReal) * S := by
      simp only [EReal.coe_mul]
      ac_rfl
    rw [e1, mul_comm _ (x i : EReal), e2, twice]
    congr 2
    have : ρ * (1 / v) = ρ * ρ * ρ := by
      field_simp
      nlinarith [hq]
    rw [this]
    ring
  · obtain ⟨j, hj⟩ := not_forall.1 h
    have ht : x j * x j = ⊤ := by
      rcases eq_or_ne (x j) ⊤ with e | e
      · rw [e]; rfl
      · have : x j = ⊥ := by
          by_contra hb
          exact hj ⟨e, hb⟩
        rw [this]; rfl
    have hr : rtE x = 0 := by
      unfold rtE
      rw [ms_top ht]
      rfl
    have hb : backE x a = 0 := by
      unfold backE
      rw [hr, ms_top ht, width_bits, Ideal.div_coe (by norm_num)]
      simp [Ideal.div]
    unfold dxE
    rw [hb, hr]
    simp

end Cert.Proof.LossHead
-- ==== Proof.LossHead.lean ====
/- The loss head: the loss, the gradient of the last rows and of the final gain. -/
module

public import proofs.«01_k».proof.Defs
public import proofs.«01_k».proof.Proof.LossMath
public import proofs.«01_k».proof.Proof.Gen.Kernel26Ideal.Frame
public import proofs.«01_k».proof.Proof.Gen.Reference26Ideal.Run
public import proofs.«01_k».proof.Proof.Gen.Reference26Ideal.Read
public import Idealize.ShloMosaic.Lib.Pipeline.ValueKit
public import Idealize.ShloMosaic.Lib.Pointwise

@[expose] public section

set_option maxRecDepth 16384

noncomputable section

namespace Cert.Proof.LossHead

open Idealize.ShloMosaic Idealize.ShloMosaic.TcCoe Idealize.ShloMosaic.Tactic Idealize.SL.Sem
open Idealize.ShloMosaic.Pipeline (Dat)

/-- Row `q` of tile `t`, of tiles of 512 rows. -/
def row512 (t : Fin 8) (q : Fin 512) : Fin 4096 := ⟨t.val * 512 + q.val, by omega⟩

theorem sum_row512 (f : Fin 4096 → EReal) : ∑ t : Fin 8, ∑ q : Fin 512, f (row512 t q) = ∑ t, f t :=
  Fin.sum_mul_add_congr fun _ _ _ => congrArg f (Fin.ext rfl)

section Kernel

open Cert.Kernel26Ideal Cert.Kernel26Ideal.Gen

section Block

variable (u : Vec Ideal S512x1024 .f32) (g : Vec Ideal S1x1024 .f32) (y : Vec Ideal S512x1024 .f32)

/-- A row of a block. -/
abbrev brow (u : Vec Ideal S512x1024 .f32) (q : Fin 512) (i : Fin 1024) : EReal := u (ix2 q i)
abbrev bline (g : Vec Ideal S1x1024 .f32) (i : Fin 1024) : EReal := g (ix2 0 i)

theorem pay_dx (q : Fin 512) (d : Fin 1024) : k0_pay8 (F := Ideal) u g y (ix2 q d)
    = dxE (brow u q) (fun i => doutE (brow u q) (bline g) (brow y q) i * bline g i) d := by
  pointwise [k0_pay8, k0_pay7, k0_pay6, k0_pay5, k0_pay4, k0_pay3]
  rfl

theorem pay_sq (d : Fin 1024) : k0_pay1 (F := Ideal) (k0_pay9 (F := Ideal) u g y) (ix3 0 0 d)
    = ∑ q : Fin 512, errE (brow u q) (bline g) (brow y q) d * errE (brow u q) (bline g) (brow y q) d := by
  pointwise [k0_pay1, k0_pay9, k0_pay7, k0_pay6, k0_pay5, k0_pay4, k0_pay3]
  rfl

theorem pay_gain (d : Fin 1024) : k0_pay2 (F := Ideal) (k0_pay10 (F := Ideal) u g y) (ix3 0 0 d)
    = ∑ q : Fin 512, doutE (brow u q) (bline g) (brow y q) d * (brow u q d * rtE (brow u q)) := by
  pointwise [k0_pay2, k0_pay10, k0_pay7, k0_pay6, k0_pay5, k0_pay4, k0_pay3]
  rfl

end Block

variable (m : (ℓ : Loc nD τ sig) → Buf (Elt Ideal) ℓ) (c : Dev nD)

/-- The rows, the gain and the targets. -/
abbrev rowX (t : Fin 4096) (i : Fin 1024) : EReal := (m ((c : Thread nD τ).loc main_arg0) : Vec Ideal S4096x1024 .f32) (ix2 t i)
abbrev lineG (i : Fin 1024) : EReal := (m ((c : Thread nD τ).loc main_arg1) : Vec Ideal S1024 .f32) (ix1 i)
abbrev rowY (t : Fin 4096) (i : Fin 1024) : EReal := (m ((c : Thread nD τ).loc main_arg2) : Vec Ideal S4096x1024 .f32) (ix2 t i)

theorem b_x (t : Fin cfg0.N) (q : Fin 512) (T : Fin 4096) (hT : T.val = t.val * 512 + q.val) :
    brow (View.ld (iblk m c 0 t) r0_0) q = rowX m c T := by
  have hi : ∀ t : Fin cfg0.N, (cfg0.win 0).index t = ![t.val, 0] := by decide +kernel
  funext d
  refine Eq.trans (b := (V m c main_arg0 : Vec Ideal S4096x1024 .f32) (ix2 T d)) ?_ (congrFun (V_main_arg0 m c) _)
  unfold brow
  blk_ext [iblk, V, hi t, hT, View.ld, LoadRect.idx_apply]
  all_goals simp [Rect.unit]

theorem b_y (t : Fin cfg0.N) (q : Fin 512) (T : Fin 4096) (hT : T.val = t.val * 512 + q.val) :
    brow (View.ld (iblk m c 2 t) r0_0) q = rowY m c T := by
  have hi : ∀ t : Fin cfg0.N, (cfg0.win 2).index t = ![t.val, 0] := by decide +kernel
  funext d
  refine Eq.trans (b := (V m c main_arg2 : Vec Ideal S4096x1024 .f32) (ix2 T d)) ?_ (congrFun (V_main_arg2 m c) _)
  unfold brow
  blk_ext [iblk, V, hi t, hT, View.ld, LoadRect.idx_apply]
  all_goals simp [Rect.unit]

theorem g_read : V m c main_v0 = broadcastInDim S1x1024 ![1] bcast_S1024_S1x1024_1 (m ((c : Thread nD τ).loc main_arg1) : Vec Ideal S1024 .f32) := by
  change StableHlo.after hostOps0 (fun b => m (c, b)) (Proc.devRef .tc main_v0) = _
  after_results <;> rfl

theorem b_g (t : Fin cfg0.N) : bline (View.ld (iblk m c 1 t) r0_1) = lineG m c := by
  have hi : ∀ t : Fin cfg0.N, (cfg0.win 1).index t = ![0, 0] := by decide +kernel
  funext d
  refine Eq.trans (b := (V m c main_v0 : Vec Ideal S1x1024 .f32) (ix2 0 d)) ?_ ?_
  · unfold bline
    blk_ext [iblk, V, hi t, View.ld, LoadRect.idx_apply]
    all_goals first | done | simp [Rect.unit] | (simp [Rect.unit]; omega)
  · rw [g_read]
    pointwise []

/-- A row's error and gradient, from the arguments. -/
abbrev errA (t : Fin 4096) (i : Fin 1024) : EReal := errE (rowX m c t) (lineG m c) (rowY m c t) i
abbrev doutA (t : Fin 4096) (i : Fin 1024) : EReal := doutE (rowX m c t) (lineG m c) (rowY m c t) i

theorem array3 : (dats m 0 c).arrAt 3 cfg0.N = fun y : S4096x1024.Idx => dxE (rowX m c (y 0)) (fun i => doutA m c (y 0) i * lineG m c i) (y 1) := by
  refine (dats m 0 c).arrAt_eq_of_covers 3 _ (by decide +kernel) fun t hf y => ?_
  have hi : ∀ t : Fin cfg0.N, (cfg0.win 3).index t = ![t.val, 0] := by decide +kernel
  have h0 : (((cfg0.win 3).blk t).view.emb y 0 : ℕ) = t.val * 512 + (y 0).val := by blk_simp [hi t]
  have h1 : (((cfg0.win 3).blk t).view.emb y 1 : ℕ) = (y 1).val := by blk_simp [hi t]
  blk_simp
  rw [after0_3]
  unfold out0_3
  rw [View.canon_cons_unit_zero (by decide)]
  change S512x1024.Idx at y
  have e1 := Fin.ext (a := ((cfg0.win 3).blk t).view.emb y 1) (b := y 1) h1
  rw [e1]
  generalize ((cfg0.win 3).blk t).view.emb y 0 = T at h0 ⊢
  idx_vars y
  refine (pay_dx ..).trans ?_
  rw [b_x m c t y0 T h0, b_y m c t y0 T h0, b_g m c t]

theorem array4 : (dats m 0 c).arrAt 4 cfg0.N = fun y : S8x1x1024.Idx =>
    ∑ q : Fin 512, errA m c (row512 (y 0) q) (y 2) * errA m c (row512 (y 0) q) (y 2) := by
  refine (dats m 0 c).arrAt_eq_of_covers 4 _ (by decide +kernel) fun t hf y => ?_
  have hi : ∀ t : Fin cfg0.N, (cfg0.win 4).index t = ![t.val, 0, 0] := by decide +kernel
  have h0 : (((cfg0.win 4).blk t).view.emb y 0 : ℕ) = t.val := by blk_simp [hi t]
  have h2 : (((cfg0.win 4).blk t).view.emb y 2 : ℕ) = (y 2).val := by blk_simp [hi t]
  blk_simp
  rw [after0_4]
  unfold out0_4
  rw [View.canon_cons_unit_zero (by decide)]
  change S1x1x1024.Idx at y
  have e2 := Fin.ext (a := ((cfg0.win 4).blk t).view.emb y 2) (b := y 2) h2
  rw [e2]
  generalize ((cfg0.win 4).blk t).view.emb y 0 = T at h0 ⊢
  change Fin 8 at T
  idx_vars y
  obtain rfl : y0 = 0 := Fin.ext (by omega)
  obtain rfl : y1 = 0 := Fin.ext (by omega)
  refine (pay_sq ..).trans (Finset.sum_congr rfl fun q _ => ?_)
  have hT : (row512 T q).val = t.val * 512 + q.val := congrArg (· * 512 + q.val) h0
  rw [b_x m c t q _ hT, b_y m c t q _ hT, b_g m c t]

theorem array5 : (dats m 0 c).arrAt 5 cfg0.N = fun y : S8x1x1024.Idx =>
    ∑ q : Fin 512, doutA m c (row512 (y 0) q) (y 2) * (rowX m c (row512 (y 0) q) (y 2) * rtE (rowX m c (row512 (y 0) q))) := by
  refine (dats m 0 c).arrAt_eq_of_covers 5 _ (by decide +kernel) fun t hf y => ?_
  have hi : ∀ t : Fin cfg0.N, (cfg0.win 5).index t = ![t.val, 0, 0] := by decide +kernel
  have h0 : (((cfg0.win 5).blk t).view.emb y 0 : ℕ) = t.val := by blk_simp [hi t]
  have h2 : (((cfg0.win 5).blk t).view.emb y 2 : ℕ) = (y 2).val := by blk_simp [hi t]
  blk_simp
  rw [after0_5]
  unfold out0_5
  rw [View.canon_cons_unit_zero (by decide)]
  change S1x1x1024.Idx at y
  have e2 := Fin.ext (a := ((cfg0.win 5).blk t).view.emb y 2) (b := y 2) h2
  rw [e2]
  generalize ((cfg0.win 5).blk t).view.emb y 0 = T at h0 ⊢
  change Fin 8 at T
  idx_vars y
  obtain rfl : y0 = 0 := Fin.ext (by omega)
  obtain rfl : y1 = 0 := Fin.ext (by omega)
  refine (pay_gain ..).trans (Finset.sum_congr rfl fun q _ => ?_)
  have hT : (row512 T q).val = t.val * 512 + q.val := congrArg (· * 512 + q.val) h0
  rw [b_x m c t q _ hT, b_y m c t q _ hT, b_g m c t]

/-- The lines after the kernel: the loss. -/
def lossOf (v : (⟨S8x1x1024, .f32⟩ : BufTy).Contents (Elt Ideal)) : (⟨S_, .f32⟩ : BufTy).Contents (Elt Ideal) :=
  mulf (constant (F := Ideal) S_ .f32 0x3A000000#32)
    (Host.reduceAdd (F := Ideal) v (constant (F := Ideal) S_ .f32 0x00000000#32) reducesTo_S8x1x1024_S_d0_1_2 h_S_)

/-- The lines after the kernel: the gain's gradient. -/
def gainOf (v : (⟨S8x1x1024, .f32⟩ : BufTy).Contents (Elt Ideal)) : (⟨S1024, .f32⟩ : BufTy).Contents (Elt Ideal) :=
  Host.reduceAdd (F := Ideal) (shapeCast S8x1024 v shapeCasts_S8x1x1024_S8x1024) (constant (F := Ideal) S_ .f32 0x00000000#32) reducesTo_S8x1024_S1024_d0 h_S_

theorem tail3 (W : Valuation τ sig (Elt Ideal)) : StableHlo.after hostOps1 W (Proc.devRef .tc main_v3) = lossOf (W (Proc.devRef .tc main_v1_1)) := by
  after_results <;> rfl

theorem tail5 (W : Valuation τ sig (Elt Ideal)) : StableHlo.after hostOps1 W (Proc.devRef .tc main_v5) = gainOf (W (Proc.devRef .tc main_v1_2)) := by
  after_results <;> rfl

theorem loss_at (v : (⟨S8x1x1024, .f32⟩ : BufTy).Contents (Elt Ideal)) (y : S_.Idx) : lossOf v y
    = Ideal.ofBits .f32 0x3A000000#32 * ∑ t : Fin 8, ∑ d : Fin 1024, v (ix3 t 0 d) := by
  pointwise [lossOf]
  exact congrArg (_ * ·) (Finset.sum_congr rfl fun t _ => Fin.sum_univ_one fun k => ∑ d, v (ix3 t k d))

theorem gain_at (v : (⟨S8x1x1024, .f32⟩ : BufTy).Contents (Elt Ideal)) (d : Fin 1024) : gainOf v (ix1 d) = ∑ t : Fin 8, v (ix3 t 0 d) := by
  pointwise [gainOf]

theorem fin_loss : Pipeline.afterTail₀ cfgs (dats m) 0 (V0 m) [hostOps1] c main_v3 = fun _ : S_.Idx =>
    Ideal.ofBits .f32 0x3A000000#32 * ∑ t, ∑ i, errA m c t i * errA m c t i := by
  unfold Pipeline.afterTail₀
  refine (tail3 _).trans ((congrArg lossOf ((Pipeline.withArrays_arr spec0 launch0.win.arr_inj c (V0 m c) _ 4).trans (array4 m c))).trans ?_)
  funext y
  refine (loss_at _ y).trans (congrArg (_ * ·) ?_)
  refine Eq.trans (Finset.sum_congr rfl fun t _ => Finset.sum_comm) ?_
  exact sum_row512 fun t => ∑ i, errA m c t i * errA m c t i

theorem fin_gain : Pipeline.afterTail₀ cfgs (dats m) 0 (V0 m) [hostOps1] c main_v5 = fun y : S1024.Idx =>
    ∑ t, doutA m c t (y 0) * (rowX m c t (y 0) * rtE (rowX m c t)) := by
  unfold Pipeline.afterTail₀
  refine (tail5 _).trans ((congrArg gainOf ((Pipeline.withArrays_arr spec0 launch0.win.arr_inj c (V0 m c) _ 5).trans (array5 m c))).trans ?_)
  funext y
  change S1024.Idx at y
  idx_vars y
  refine (gain_at _ y0).trans ?_
  exact sum_row512 fun t => doutA m c t y0 * (rowX m c t y0 * rtE (rowX m c t))

end Kernel

section Reference

open Cert.Reference26Ideal Cert.Reference26Ideal.Gen Cert.Reference26Ideal.Read

variable (x : (⟨S4096x1024, .f32⟩ : BufTy).Contents (Elt Ideal)) (g : (⟨S1024, .f32⟩ : BufTy).Contents (Elt Ideal))
  (y : (⟨S4096x1024, .f32⟩ : BufTy).Contents (Elt Ideal))

abbrev rx (x : (⟨S4096x1024, .f32⟩ : BufTy).Contents (Elt Ideal)) (t : Fin 4096) (i : Fin 1024) : EReal := x (ix2 t i)
abbrev lg (g : (⟨S1024, .f32⟩ : BufTy).Contents (Elt Ideal)) (i : Fin 1024) : EReal := g (ix1 i)

theorem ms_at (t : Fin 4096) : val_main_v6 (F := Ideal) x (ix2 t 0) = msE (rx x t) := by
  pointwise [val_main_v6, val_main_v5, val_main_v4, val_main_v3, val_main_v2, val_main_v1, val_main_v0, val_main_cst, val_main_cst_0, val_main_cst_1]
  rfl

theorem rt_at (t : Fin 4096) : val_main_v7 (F := Ideal) x (ix2 t 0) = rtE (rx x t) := by
  unfold rtE
  rw [← ms_at]
  rfl

theorem xh_at (t : Fin 4096) (i : Fin 1024) : val_main_v12 (F := Ideal) x (ix2 t i) = rx x t i * rtE (rx x t) := by
  rw [← rt_at]
  pointwise [val_main_v12, val_main_v11]

theorem err_at (t : Fin 4096) (i : Fin 1024) : val_main_v16 (F := Ideal) x g y (ix2 t i) = errE (rx x t) (lg g) (rx y t) i := by
  unfold errE
  rw [← xh_at]
  pointwise [val_main_v16, val_main_v15, val_main_v14, val_main_v13]

theorem loss_ref (z : S_.Idx) : val_main_v24 (F := Ideal) x g y z = Ideal.ofBits .f32 0x3F000000#32
    * ∑ t, Ideal.div (∑ i, errE (rx x t) (lg g) (rx y t) i * errE (rx x t) (lg g) (rx y t) i) (Ideal.ofBits .f32 0x44800000#32) := by
  simp only [← err_at]
  pointwise [val_main_v24, val_main_v23, val_main_v22, val_main_v21, val_main_v20, val_main_v17, val_main_cst_4, val_main_cst_5, val_main_cst_6, val_main_cst_7]

theorem dout_at (t : Fin 4096) (i : Fin 1024) : val_main_v30 (F := Ideal) x g y (ix2 t i) = doutE (rx x t) (lg g) (rx y t) i := by
  unfold doutE
  rw [← dout_eq, ← err_at]
  pointwise [val_main_v30, val_main_v29, val_main_v28, val_main_v27, val_main_v26, val_main_v25, val_main_v19, val_main_v18, val_main_cst_3,
    val_main_cst_8, val_main_cst_9, val_main_cst_10]

theorem gain_ref (i : Fin 1024) : val_main_v36 (F := Ideal) x g y (ix1 i)
    = ∑ t, doutE (rx x t) (lg g) (rx y t) i * (rx x t i * rtE (rx x t)) := by
  simp only [← dout_at, ← xh_at]
  pointwise [val_main_v36, val_main_v33, val_main_v32, val_main_v31, val_main_cst_11, val_main_cst_12]
  refine (Fin.sum_univ_one _).trans (Finset.sum_congr rfl fun t _ => mul_comm (G := EReal) _ _)

theorem a_at (t : Fin 4096) (i : Fin 1024) : val_main_v35 (F := Ideal) x g y (ix2 t i) = doutE (rx x t) (lg g) (rx y t) i * lg g i := by
  rw [← dout_at]
  pointwise [val_main_v35, val_main_v34, val_main_v13]

theorem back_at (t : Fin 4096) : val_main_v45 (F := Ideal) x g y (ix1 t) = backE (rx x t) fun i => doutE (rx x t) (lg g) (rx y t) i * lg g i := by
  unfold backE
  simp only [← a_at, ← rt_at, ← ms_at]
  pointwise [val_main_v45, val_main_v44, val_main_v43, val_main_v42, val_main_v39, val_main_v38, val_main_v37, val_main_v10, val_main_v9, val_main_v8,
    val_main_cst_2, val_main_cst_13, val_main_cst_14, val_main_cst_15]
  exact Fin.sum_univ_one _

theorem dx_ref (t : Fin 4096) (i : Fin 1024) : val_main_v50 (F := Ideal) x g y (ix2 t i)
    = dxE (rx x t) (fun i => doutE (rx x t) (lg g) (rx y t) i * lg g i) i := by
  rw [dx_eq, ← back_at, ← rt_at, ← a_at]
  pointwise [val_main_v50, val_main_v49, val_main_v48, val_main_v47, val_main_v46, val_main_v41, val_main_v40]

end Reference

attribute [local instance] Cert.Kernel26Ideal.Gen.facts Cert.Reference26Ideal.Gen.facts

open Cert.Kernel26Ideal Cert.Kernel26Ideal.Gen in
/-- On the extended reals the kernel's arrays are the reference's results. -/
theorem algebraic : Cert.algebraic_Kernel26Ideal_Reference26Ideal
    (hKernel26Ideal := Cert.Kernel26Ideal.Gen.facts) (hReference26Ideal := Cert.Reference26Ideal.Gen.facts) := by
  intro m g m' g' _ hagree
  refine ⟨fun c => Pipeline.afterTail₀ cfgs (dats m) 0 (V0 m) [hostOps1] c main_v3, fun c => (dats m 0 c).arrAt 3 cfg0.N,
    fun c => Pipeline.afterTail₀ cfgs (dats m) 0 (V0 m) [hostOps1] c main_v5, ?_, ?_⟩
  · refine (θ_run _ _ _).mono (fun r h c => ?_) (θ_run_and (run_main m g) (unchanged m g))
    have hr := (h.1 c).2
    exact ⟨hr main_v3 (Pipeline.mem_restRefs_of main_v3 (by decide) (by decide)), (h.1 c).1 3,
      hr main_v5 (Pipeline.mem_restRefs_of main_v5 (by decide) (by decide)), h.2 c⟩
  · refine (θ_run _ _ _).mono (fun r h c => ?_) (Cert.Reference26Ideal.Value.run m' g')
    obtain ⟨r0, r1, r2, ra⟩ := h c
    obtain ⟨a0, a1, a2⟩ := hagree c
    refine ⟨r0.trans ?_, r1.trans ?_, r2.trans ?_, ra⟩
    · rw [Cert.Reference26Ideal.Read.val_main_v24_eq, a0, a1, a2]
      refine Eq.trans ?_ (fin_loss m c).symm
      funext y
      exact (loss_ref _ _ _ y).trans (loss_eq _).symm
    · rw [Cert.Reference26Ideal.Read.val_main_v50_eq, a0, a1, a2]
      refine Eq.trans ?_ (array3 m c).symm
      funext y
      change Cert.Reference26Ideal.S4096x1024.Idx at y
      idx_vars y
      exact dx_ref _ _ _ y0 y1
    · rw [Cert.Reference26Ideal.Read.val_main_v36_eq, a0, a1, a2]
      refine Eq.trans ?_ (fin_gain m c).symm
      funext y
      change Cert.Reference26Ideal.S1024.Idx at y
      idx_vars y
      exact gain_ref _ _ _ y0

end Cert.Proof.LossHead
-- ==== Proof.PoolWgrad.lean ====
/- The weight-gradient kernel of the multi-scale pool's group products: a product over all tokens for each group, its rows laid out by chips. -/
module

public import proofs.«01_k».proof.Defs
public import proofs.«01_k».proof.Proof.Gen.Kernel27Ideal.Frame
public import proofs.«01_k».proof.Proof.Gen.Reference27Ideal.Run
public import proofs.«01_k».proof.Proof.Gen.Reference27Ideal.Read
public import Idealize.ShloMosaic.Lib.Pipeline.ValueKit
public import Idealize.ShloMosaic.Lib.Pointwise

@[expose] public section

set_option maxRecDepth 16384

noncomputable section

namespace Cert.Proof.PoolWgrad

open Idealize.ShloMosaic Idealize.ShloMosaic.TcCoe Idealize.ShloMosaic.Tactic Idealize.SL.Sem
open Idealize.ShloMosaic.Pipeline (Dat)

section Kernel

open Cert.Kernel27Ideal Cert.Kernel27Ideal.Gen

variable (u v : Vec Ideal S1024x256 .bf16) (a : Vec Ideal S256x256 .f32)

/-- One tile of tokens' share of an entry. -/
def part (j : S256x256.Idx) : EReal := ∑ q : Fin 1024, u (ix2 q (j 0)) * v (ix2 q (j 1))

theorem pay2_at (j : S256x256.Idx) : k0_pay2 (F := Ideal) u v j = part u v j := by
  idx_vars j
  pointwise [k0_pay2, k0_pay1, part]
  try rfl

theorem pay3_at (j : S256x256.Idx) : k0_pay3 (F := Ideal) u v a j = a j + part u v j := by
  idx_vars j
  pointwise [k0_pay3, k0_pay1, part]
  try rfl

/-- The rows of the accumulator, 64 for each chip. -/
def slabs (y : S4x1x1x64x256.Idx) : EReal := a (ix2 (⟨(y 0).val * 64 + (y 3).val, by have := (y 0).isLt; have := (y 3).isLt; simp at *; omega⟩ : Fin 256) (y 4))

/-- A chip's rows, stored at its place. -/
theorem slab_at (k : Fin 4) (inb : ∀ b, (![k.val, 0, 0, 0, 0] : Fin 5 → ℕ) b + S1x1x1x64x256.size b ≤ S4x1x1x64x256.size b)
    (p : S1x1x1x64x256.Idx → EReal) (hp : ∀ (r : Fin 64) (l : Fin 256), p (ix5 0 0 0 r l) = a (ix2 (⟨k.val * 64 + r.val, by omega⟩ : Fin 256) l))
    (x : S1x1x1x64x256.Idx) : p x = slabs a ((Rect.unit (s := S4x1x1x64x256) ![k.val, 0, 0, 0, 0] S1x1x1x64x256.size inb).emb x) := by
  have e := fun b => Rect.emb_apply (Rect.unit (s := S4x1x1x64x256) ![k.val, 0, 0, 0, 0] S1x1x1x64x256.size inb) x b
  generalize (Rect.unit (s := S4x1x1x64x256) ![k.val, 0, 0, 0, 0] S1x1x1x64x256.size inb).emb x = y at e ⊢
  idx_vars x
  have e0 : (y 0).val = k.val + 1 * x0.val := e 0
  have e3 : (y 3).val = 0 + 1 * x3.val := e 3
  have e4 : (y 4).val = 0 + 1 * x4.val := e 4
  obtain rfl : x0 = 0 := Fin.ext (by omega)
  obtain rfl : x1 = 0 := Fin.ext (by omega)
  obtain rfl : x2 = 0 := Fin.ext (by omega)
  refine (hp x3 x4).trans (congrArg₂ (fun r l => a (ix2 r l)) (Fin.ext ?_) (Fin.ext ?_))
  · simp only [e0, e3]
    omega
  · simp only [e4]
    omega

variable (m : (ℓ : Loc nD τ sig) → Buf (Elt Ideal) ℓ) (c : Dev nD)

/-- At the last tile of a group the block written back is the accumulator, cut into the chips' rows. -/
theorem out_eq_acc (t : Fin cfg0.N) (h : t.val % 4 = 3) :
    (outsAt0 m c t.val t.isLt).1 = slabs (outsAt0 m c t.val t.isLt).2 := by
  rw [outsAt0_C m c t (by omega) (by omega) h]
  funext y
  dsimp only
  unfold out0_C_2
  rw [View.read_writes_junk_eq_canon]
  refine View.canon_apply_of_pieces (Val := Elt Ideal) (slabs (sout0_C_0 c (grid0.coords t) (ms0_0 t) (hs0_0 t) (ms0_1 t) (hs0_1 t) (ms0_2 t) (hs0_2 t) scM0_0 (Memref.isWhole_whole _) (fun h0 => by have := (hcond0_0 t).mp h0; omega) ((hcond0_1 t).mpr (by omega)) ((hcond0_2 t).mpr h) (iblk m c 0 t) (iblk m c 1 t) (outsAt0 m c (t.val - 1) (Nat.lt_of_le_of_lt (Nat.sub_le _ _) t.isLt)).2)) _ ?_ y (cover0_C_2 _ _ _ _ _ _ _ _ _ _ _ _ _ _ _ _ y)
  frame_out
  generalize k0_pay3 (F := Ideal) _ _ _ = A
  intro p hp x
  simp only [List.mem_cons, List.not_mem_nil, or_false] at hp
  rcases hp with rfl | rfl | rfl | rfl
  · exact slab_at A 3 inb_S4x1x1x64x256_S1x1x1x64x256_3_0_0_0_0 (k0_pay7 (F := Ideal) A) (fun r l => by pointwise [k0_pay7]) x
  · exact slab_at A 2 inb_S4x1x1x64x256_S1x1x1x64x256_2_0_0_0_0 (k0_pay6 (F := Ideal) A) (fun r l => by pointwise [k0_pay6]) x
  · exact slab_at A 1 inb_S4x1x1x64x256_S1x1x1x64x256_1_0_0_0_0 (k0_pay5 (F := Ideal) A) (fun r l => by pointwise [k0_pay5]) x
  · exact slab_at A 0 inb_S4x1x1x64x256_S1x1x1x64x256_0_0_0_0_0 (k0_pay4 (F := Ideal) A) (fun r l => by pointwise [k0_pay4]) x

/-- The accumulator at the last tile of a group is the sum of the four tiles' products. -/
theorem acc_at (t : Fin cfg0.N) (h : t.val % 4 = 3) (j : S256x256.Idx) :
    (outsAt0 m c t.val t.isLt).2 j
      = ∑ s : Fin 4, part (iblk m c 0 ⟨4 * (t.val / 4) + s, by have := t.isLt; omega⟩)
          (iblk m c 1 ⟨4 * (t.val / 4) + s, by have := t.isLt; omega⟩) j := by
  rw [Pipeline.eq_sum_fin_of_reset_step_apply_of_flush (fun n h => (outsAt0 m c n h).2) 4 (fun _ => (0 : EReal))
      (fun t j => part (iblk m c 0 t) (iblk m c 1 t) j)
      (fun t h0 j => by
        rw [outsAt0_A m c t h0 (by omega) (by omega)]; frame_out; rw [pay2_at]; exact (zero_add _).symm)
      (fun t h0 j => by
        by_cases h3 : t.val % 4 = 3
        · rw [outsAt0_C m c t h0 (by omega) h3]; frame_out; rw [pay3_at]; exact congrArg (· + _) (congrFun ((Memref.isWhole_whole cc0_scratch0).read_unread (outsAt0 m c (t.val - 1) _).2) j)
        · rw [outsAt0_B m c t h0 (by omega) h3]; frame_out; rw [pay3_at]; exact congrArg (· + _) (congrFun ((Memref.isWhole_whole cc0_scratch0).read_unread (outsAt0 m c (t.val - 1) _).2) j)) t h j, zero_add]

/-- The product over all tokens, of two columns. -/
def grad (u v : Vec Ideal S4096x1024 .bf16) (r l : Fin 1024) : EReal :=
  ∑ s : Fin 4096, u (ix2 s r) * v (ix2 s l)

theorem blk_u (t : Fin cfg0.N) (q : Fin 1024) (r : Fin 256) (s : Fin 4096) (R : Fin 1024)
    (hs : s.val = t.val % 4 * 1024 + q.val) (hR : R.val = t.val / 4 * 256 + r.val) :
    (iblk m c 0 t : Vec Ideal S1024x256 .bf16) (ix2 q r) = (V m c main_arg0 : Vec Ideal S4096x1024 .bf16) (ix2 s R) := by
  have hi : ∀ t : Fin cfg0.N, (cfg0.win 0).index t = ![t.val % 4, t.val / 4] := by decide +kernel
  blk_ext [iblk, V, hi t, hs, hR]

theorem blk_v (t : Fin cfg0.N) (q : Fin 1024) (r : Fin 256) (s : Fin 4096) (R : Fin 1024)
    (hs : s.val = t.val % 4 * 1024 + q.val) (hR : R.val = t.val / 4 * 256 + r.val) :
    (iblk m c 1 t : Vec Ideal S1024x256 .bf16) (ix2 q r) = (V m c main_arg1 : Vec Ideal S4096x1024 .bf16) (ix2 s R) := by
  have hi : ∀ t : Fin cfg0.N, (cfg0.win 1).index t = ![t.val % 4, t.val / 4] := by decide +kernel
  blk_ext [iblk, V, hi t, hs, hR]

/-- The accumulator at the last tile of a group holds the product over all tokens. -/
theorem acc_eq (t : Fin cfg0.N) (h : t.val % 4 = 3) (r l : Fin 256) (R L : Fin 1024)
    (hR : R.val = t.val / 4 * 256 + r.val) (hL : L.val = t.val / 4 * 256 + l.val) :
    (outsAt0 m c t.val t.isLt).2 (ix2 r l) = grad (V m c main_arg0) (V m c main_arg1) R L := by
  rw [acc_at m c t h]
  unfold part grad
  have hN : t.val < 16 := t.isLt
  refine Fin.sum_mul_add_congr fun s q hs => ?_
  refine congrArg₂ (· * ·) (blk_u m c _ _ _ _ _ ?_ ?_) (blk_v m c _ _ _ _ _ ?_ ?_) <;> simp <;> omega

/-- Entry of chip `s`, group `g`, row `r`, column `l`. -/
def entry (u v : Vec Ideal S4096x1024 .bf16) (s g : Fin 4) (r : Fin 64) (l : Fin 256) : EReal :=
  grad u v ⟨g.val * 256 + (s.val * 64 + r.val), by omega⟩ ⟨g.val * 256 + l.val, by omega⟩

/-- The array after the run. -/
theorem array2 : (dats m 0 c).arrAt 2 cfg0.N
    = fun y : S4x1x4x64x256.Idx => entry (V m c main_arg0) (V m c main_arg1) (y 0) (y 2) (y 3) (y 4) := by
  refine (dats m 0 c).arrAt_eq_of_covers 2 _ (by decide +kernel) fun t hf y => ?_
  have h := (flush0_2 t).mp hf
  have hi : ∀ t : Fin cfg0.N, (cfg0.win 2).index t = ![0, 0, t.val / 4, 0, 0] := by decide +kernel
  have h0 : (((cfg0.win 2).blk t).view.emb y 0 : ℕ) = (y 0).val := by blk_simp [hi t]
  have h2 : (((cfg0.win 2).blk t).view.emb y 2 : ℕ) = t.val / 4 := by blk_simp [hi t]
  have h3 : (((cfg0.win 2).blk t).view.emb y 3 : ℕ) = (y 3).val := by blk_simp [hi t]
  have h4 : (((cfg0.win 2).blk t).view.emb y 4 : ℕ) = (y 4).val := by blk_simp [hi t]
  blk_simp
  rw [after0_2, out_eq_acc m c t h]
  exact acc_eq m c t h _ _ _ _ (by simp only [h0, h2, h3]) (by simp only [h2, h4])

end Kernel

section Reference

open Cert.Reference27Ideal Cert.Reference27Ideal.Gen Cert.Reference27Ideal.Read

/-- The reference's entry is the same product over all tokens. -/
theorem ref_at (u v : (⟨S4096x1024, .bf16⟩ : BufTy).Contents (Elt Ideal)) (s : Fin 4) (z : Fin 1) (g : Fin 4) (r : Fin 64) (l : Fin 256) :
    val_main_v13 (F := Ideal) u v (ix5 s z g r l) = entry u v s g r l := by
  pointwise [val_main_v13, val_main_v12, val_main_v11, val_main_v10, val_main_v9, val_main_v8, val_main_v7, val_main_v6, val_main_v5, val_main_v2, val_main_v1]
  unfold entry grad
  exact Finset.sum_congr rfl fun s _ => mul_comm (G := EReal) _ _

end Reference

attribute [local instance] Cert.Kernel27Ideal.Gen.facts Cert.Reference27Ideal.Gen.facts

/-- On the extended reals the kernel's array is the reference's result. -/
theorem algebraic : Cert.algebraic_Kernel27Ideal_Reference27Ideal
    (hKernel27Ideal := Cert.Kernel27Ideal.Gen.facts) (hReference27Ideal := Cert.Reference27Ideal.Gen.facts) := by
  pair_intro
  · run_from Cert.Kernel27Ideal.Gen.run_main m g
  · run_from Cert.Reference27Ideal.Value.run m' g'
    rw [Cert.Reference27Ideal.Read.val_main_v13_eq, array2 m c]
    funext y
    change Cert.Reference27Ideal.S4x1x4x64x256.Idx at y
    idx_vars y
    exact ref_at _ _ y0 y1 y2 y3 y4

end Cert.Proof.PoolWgrad
-- ==== Proof.PoolGateGrad.lean ====
/- The first backward kernel of the pooling mixer leaves what the reference computes: the gradient through gain and scale, the gradients of
   the gain and of the scale, and the gradient through the group products. -/
module

public import proofs.«01_k».proof.Defs
public import proofs.«01_k».proof.Proof.Gen.Kernel28Ideal.Frame
public import proofs.«01_k».proof.Proof.Gen.Reference28Ideal.Run
public import proofs.«01_k».proof.Proof.Gen.Reference28Ideal.Read
public import proofs.«01_k».proof.Proof.MixGateGrad
public import Idealize.ShloMosaic.Lib.Pipeline.ValueKit
public import Idealize.ShloMosaic.Lib.Pointwise

@[expose] public section

set_option maxRecDepth 16384

noncomputable section

namespace Cert.Proof.PoolGateGrad

open Idealize.ShloMosaic Idealize.ShloMosaic.TcCoe Idealize.ShloMosaic.Tactic Idealize.SL.Sem
open Idealize.ShloMosaic.Pipeline (Dat)
open Cert.Proof.MixGateGrad (row512 sum_row512)

/-- Column `i` of group `G`, of four groups of 256 columns. -/
def col (G : Fin 4) (i : Fin 256) : Fin 1024 := ⟨G.val * 256 + i.val, by omega⟩

section Kernel

open Cert.Kernel28Ideal Cert.Kernel28Ideal.Gen

section Block

variable (x : Vec Ideal S512x1024 .f32) (o : Vec Ideal S512x1024 .bf16) (g s : Vec Ideal S1x1024 .f32) (w : Vec Ideal S4x256x256 .bf16)

theorem block5 (q : Fin 512) (d : Fin 1024) : out0_5 (F := Ideal) x o g s w (ix2 q d) = x (ix2 q d) * g (ix2 0 d) * s (ix2 0 d) := by
  unfold out0_5
  frame_out
  pointwise [k0_pay3, k0_pay2]
  try rfl

theorem block6 (d : Fin 1024) : out0_6 (F := Ideal) x o g s w (ix3 0 0 d) = ∑ q : Fin 512, x (ix2 q d) * (o (ix2 q d) * s (ix2 0 d)) := by
  unfold out0_6
  frame_out
  pointwise [k0_pay4]
  try rfl

theorem block7 (d : Fin 1024) : out0_7 (F := Ideal) x o g s w (ix3 0 0 d) = ∑ q : Fin 512, x (ix2 q d) * g (ix2 0 d) * o (ix2 q d) := by
  unfold out0_7
  frame_out
  pointwise [k0_pay5, k0_pay2]
  try rfl

theorem block8 (q : Fin 512) (G : Fin 4) (i : Fin 256) : out0_8 (F := Ideal) x o g s w (ix2 q (col G i))
    = ∑ e : Fin 256, x (ix2 q (col G e)) * g (ix2 0 (col G e)) * s (ix2 0 (col G e)) * w (ix3 G i e) := by
  unfold out0_8 col
  rw [View.canon_cons_unit_zero (by decide)]
  fin_cases G
  all_goals
    pointwise [k0_pay1, k0_pay2, k0_pay3, k0_pay6, k0_pay7]
    try rfl
  all_goals
    split_ifs <;> first
      | (exfalso; omega)
      | exact Finset.sum_congr rfl fun e _ => congrArg (fun r => _ * w (ix3 _ r e)) (Fin.ext (by dsimp only; omega))

end Block

variable (x : Vec Ideal S4096x1024 .f32) (o : Vec Ideal S4096x1024 .bf16) (g s : Vec Ideal S1x1024 .f32) (w : Vec Ideal S4x256x256 .f32)

/-- The gradient through the gain and the scale. -/
def doE (t : Fin 4096) (d : Fin 1024) : EReal := x (ix2 t d) * g (ix2 0 d) * s (ix2 0 d)

/-- A token's share of the gradient of the gain. -/
def dgE (t : Fin 4096) (d : Fin 1024) : EReal := x (ix2 t d) * (o (ix2 t d) * s (ix2 0 d))

/-- A token's share of the gradient of the scale. -/
def dsE (t : Fin 4096) (d : Fin 1024) : EReal := x (ix2 t d) * g (ix2 0 d) * o (ix2 t d)

/-- The gradient through the group products. -/
def dpE (t : Fin 4096) (d : Fin 1024) : EReal := ∑ e : Fin 256, doE x g s t (col ⟨d.val / 256, by omega⟩ e)
  * w (ix3 (⟨d.val / 256, by omega⟩ : Fin 4) (⟨d.val % 256, by omega⟩ : Fin 256) e)

/-- The sum over one tile's tokens. -/
def tile (f : Fin 4096 → Fin 1024 → EReal) (y : S8x1x1024.Idx) : EReal := ∑ q : Fin 512, f (row512 (y 0) q) (y 2)

abbrev total (v : (⟨S8x1x1024, .f32⟩ : BufTy).Contents (Elt Ideal)) : (⟨S1x1024, .f32⟩ : BufTy).Contents (Elt Ideal) :=
  Host.reduceAdd (F := Ideal) v (constant (F := Ideal) S_ .f32 0x00000000#32) reducesTo_S8x1x1024_S1x1024_d0 h_S_

/-- The tiles' sums added are the sum over all tokens. -/
theorem total_tile (f : Fin 4096 → Fin 1024 → EReal) : total (tile f) = fun y : S1x1024.Idx => ∑ t, f t (y 1) := by
  funext y
  idx_vars y
  obtain rfl : y0 = 0 := Fin.fin_one_eq_zero y0
  refine Eq.trans ?_ (sum_row512 fun t => f t y1)
  unfold tile
  pointwise []
  try rfl

variable (m : (ℓ : Loc nD τ sig) → Buf (Elt Ideal) ℓ) (c : Dev nD)

abbrev X : Vec Ideal S4096x1024 .f32 := m ((c : Thread nD τ).loc main_arg0)
abbrev O : Vec Ideal S4096x1024 .bf16 := m ((c : Thread nD τ).loc main_arg1)
abbrev G1 : Vec Ideal S1x1024 .f32 := m ((c : Thread nD τ).loc main_arg2)
abbrev Sc : Vec Ideal S1x1024 .f32 := m ((c : Thread nD τ).loc main_arg3)
abbrev W : Vec Ideal S4x256x256 .f32 := m ((c : Thread nD τ).loc main_arg4)

section Read

variable (t : Fin cfg0.N) (q : Fin 512) (d : Fin 1024) (T : Fin 4096) (hT : T.val = t.val * 512 + q.val)

include hT in
theorem b_x : (iblk m c 0 t : Vec Ideal S512x1024 .f32) (ix2 q d) = X m c (ix2 T d) := by
  have hi : ∀ t : Fin cfg0.N, (cfg0.win 0).index t = ![t.val, 0] := by decide +kernel
  rw [X, ← V_main_arg0 m c]
  blk_ext [iblk, V, hi t, hT]

include hT in
theorem b_o : (iblk m c 1 t : Vec Ideal S512x1024 .bf16) (ix2 q d) = O m c (ix2 T d) := by
  have hi : ∀ t : Fin cfg0.N, (cfg0.win 1).index t = ![t.val, 0] := by decide +kernel
  rw [O, ← V_main_arg1 m c]
  blk_ext [iblk, V, hi t, hT]

theorem b_g : (iblk m c 2 t : Vec Ideal S1x1024 .f32) (ix2 0 d) = G1 m c (ix2 0 d) := by
  have hi : ∀ t : Fin cfg0.N, (cfg0.win 2).index t = ![0, 0] := by decide +kernel
  rw [G1, ← V_main_arg2 m c]
  blk_ext [iblk, V, hi t]

theorem b_s : (iblk m c 3 t : Vec Ideal S1x1024 .f32) (ix2 0 d) = Sc m c (ix2 0 d) := by
  have hi : ∀ t : Fin cfg0.N, (cfg0.win 3).index t = ![0, 0] := by decide +kernel
  rw [Sc, ← V_main_arg3 m c]
  blk_ext [iblk, V, hi t]

theorem w_read : (V m c main_v0 : Vec Ideal S4x256x256 .bf16) = truncf (F := Ideal) .bf16 (W m c) bitsLt_bf16_f32 := rfl

theorem b_w (G : Fin 4) (i e : Fin 256) : (iblk m c 4 t : Vec Ideal S4x256x256 .bf16) (ix3 G i e) = W m c (ix3 G i e) := by
  have hi : ∀ t : Fin cfg0.N, (cfg0.win 4).index t = ![0, 0, 0] := by decide +kernel
  refine Eq.trans ?_ (congrFun (w_read m c) (ix3 G i e))
  blk_ext [iblk, V, hi t]

end Read

theorem array5 : (dats m 0 c).arrAt 5 cfg0.N = fun y : S4096x1024.Idx => doE (X m c) (G1 m c) (Sc m c) (y 0) (y 1) := by
  refine (dats m 0 c).arrAt_eq_of_covers 5 _ (by decide +kernel) fun t hf y => ?_
  blk_simp
  rw [after0_5]
  have hi : ∀ t : Fin cfg0.N, (cfg0.win 5).index t = ![t.val, 0] := by decide +kernel
  have h0 : (((cfg0.win 5).blk t).view.emb y 0 : ℕ) = t.val * 512 + (y 0).val := by blk_simp [hi t]
  have h1 : (((cfg0.win 5).blk t).view.emb y 1 : ℕ) = (y 1).val := by blk_simp [hi t]
  change S512x1024.Idx at y
  rw [Fin.ext (a := ((cfg0.win 5).blk t).view.emb y 1) (b := y 1) h1]
  generalize ((cfg0.win 5).blk t).view.emb y 0 = T at h0 ⊢
  idx_vars y
  rw [block5, b_x m c t y0 y1 T h0, b_g m c t y1, b_s m c t y1]
  rfl

theorem array8 : (dats m 0 c).arrAt 8 cfg0.N = fun y : S4096x1024.Idx => dpE (X m c) (G1 m c) (Sc m c) (W m c) (y 0) (y 1) := by
  refine (dats m 0 c).arrAt_eq_of_covers 8 _ (by decide +kernel) fun t hf y => ?_
  blk_simp
  rw [after0_8]
  have hi : ∀ t : Fin cfg0.N, (cfg0.win 8).index t = ![t.val, 0] := by decide +kernel
  have h0 : (((cfg0.win 8).blk t).view.emb y 0 : ℕ) = t.val * 512 + (y 0).val := by blk_simp [hi t]
  have h1 : (((cfg0.win 8).blk t).view.emb y 1 : ℕ) = (y 1).val := by blk_simp [hi t]
  change S512x1024.Idx at y
  rw [Fin.ext (a := ((cfg0.win 8).blk t).view.emb y 1) (b := y 1) h1]
  generalize ((cfg0.win 8).blk t).view.emb y 0 = T at h0 ⊢
  idx_vars y
  have h : y1.val < 1024 := y1.isLt
  have hd : y1 = col ⟨y1.val / 256, by omega⟩ ⟨y1.val % 256, by omega⟩ := Fin.ext (by unfold col; dsimp only; omega)
  refine (congrArg (fun d => out0_8 (F := Ideal) _ _ _ _ _ (ix2 y0 d)) hd).trans ((block8 ..).trans (Finset.sum_congr rfl fun e _ => ?_))
  rw [b_x m c t y0 _ T h0, b_g m c t, b_s m c t, b_w m c t]
  rfl

theorem array6 : (dats m 0 c).arrAt 6 cfg0.N = tile (dgE (X m c) (O m c) (Sc m c)) := by
  refine (dats m 0 c).arrAt_eq_of_covers 6 _ (by decide +kernel) fun t hf y => ?_
  blk_simp
  rw [after0_6]
  have hi : ∀ t : Fin cfg0.N, (cfg0.win 6).index t = ![t.val, 0, 0] := by decide +kernel
  have h0 : (((cfg0.win 6).blk t).view.emb y 0 : ℕ) = t.val := by blk_simp [hi t]
  have h2 : (((cfg0.win 6).blk t).view.emb y 2 : ℕ) = (y 2).val := by blk_simp [hi t]
  change S1x1x1024.Idx at y
  unfold tile
  rw [Fin.ext (a := ((cfg0.win 6).blk t).view.emb y 2) (b := y 2) h2]
  generalize ((cfg0.win 6).blk t).view.emb y 0 = T at h0 ⊢
  change Fin 8 at T
  idx_vars y
  obtain rfl : y0 = 0 := Fin.ext (by omega)
  obtain rfl : y1 = 0 := Fin.ext (by omega)
  refine (block6 ..).trans (Finset.sum_congr rfl fun q _ => ?_)
  have hT : (row512 T q).val = t.val * 512 + q.val := congrArg (· * 512 + q.val) h0
  rw [b_x m c t q y2 _ hT, b_o m c t q y2 _ hT, b_s m c t]
  rfl

theorem array7 : (dats m 0 c).arrAt 7 cfg0.N = tile (dsE (X m c) (O m c) (G1 m c)) := by
  refine (dats m 0 c).arrAt_eq_of_covers 7 _ (by decide +kernel) fun t hf y => ?_
  blk_simp
  rw [after0_7]
  have hi : ∀ t : Fin cfg0.N, (cfg0.win 7).index t = ![t.val, 0, 0] := by decide +kernel
  have h0 : (((cfg0.win 7).blk t).view.emb y 0 : ℕ) = t.val := by blk_simp [hi t]
  have h2 : (((cfg0.win 7).blk t).view.emb y 2 : ℕ) = (y 2).val := by blk_simp [hi t]
  change S1x1x1024.Idx at y
  unfold tile
  rw [Fin.ext (a := ((cfg0.win 7).blk t).view.emb y 2) (b := y 2) h2]
  generalize ((cfg0.win 7).blk t).view.emb y 0 = T at h0 ⊢
  change Fin 8 at T
  idx_vars y
  obtain rfl : y0 = 0 := Fin.ext (by omega)
  obtain rfl : y1 = 0 := Fin.ext (by omega)
  refine (block7 ..).trans (Finset.sum_congr rfl fun q _ => ?_)
  have hT : (row512 T q).val = t.val * 512 + q.val := congrArg (· * 512 + q.val) h0
  rw [b_x m c t q y2 _ hT, b_o m c t q y2 _ hT, b_g m c t]
  rfl

/-- The lines after the kernel add the tiles' sums. -/
theorem tail2 : Pipeline.afterTail₀ cfgs (dats m) 0 (V0 m) [hostOps1] c main_v2 = total ((dats m 0 c).arrAt 6 cfg0.N) := by
  have h (U : Valuation τ sig (Elt Ideal)) : StableHlo.after hostOps1 U (Proc.devRef .tc main_v2) = total (U (Proc.devRef .tc main_v1_1)) := by
    after_results <;> rfl
  exact (h _).trans (congrArg total (Pipeline.withArrays_arr spec0 launch0.win.arr_inj c (V0 m c) _ 6))

theorem tail3 : Pipeline.afterTail₀ cfgs (dats m) 0 (V0 m) [hostOps1] c main_v3 = total ((dats m 0 c).arrAt 7 cfg0.N) := by
  have h (U : Valuation τ sig (Elt Ideal)) : StableHlo.after hostOps1 U (Proc.devRef .tc main_v3) = total (U (Proc.devRef .tc main_v1_2)) := by
    after_results <;> rfl
  exact (h _).trans (congrArg total (Pipeline.withArrays_arr spec0 launch0.win.arr_inj c (V0 m c) _ 7))

/-- The kernel's run: its four results. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1_0) = (dats m 0 c).arrAt 5 cfg0.N
      ∧ r.2.mem ((c.tc : Thread nD τ).loc main_v2) = total ((dats m 0 c).arrAt 6 cfg0.N)
      ∧ r.2.mem ((c.tc : Thread nD τ).loc main_v3) = total ((dats m 0 c).arrAt 7 cfg0.N)
      ∧ r.2.mem ((c.tc : Thread nD τ).loc main_v1_3) = (dats m 0 c).arrAt 8 cfg0.N) :=
  (θ_run _ _ _).mono (fun r h c => ⟨(h c).1 5,
      ((h c).2 main_v2 (Pipeline.mem_restRefs_of main_v2 (by decide) (by decide))).trans (tail2 m c),
      ((h c).2 main_v3 (Pipeline.mem_restRefs_of main_v3 (by decide) (by decide))).trans (tail3 m c), (h c).1 8⟩) (run_main m ρ)

end Kernel

section Reference

open Cert.Reference28Ideal Cert.Reference28Ideal.Gen Cert.Reference28Ideal.Read

variable (x : (⟨S4096x1024, .f32⟩ : BufTy).Contents (Elt Ideal)) (o : (⟨S4096x1024, .bf16⟩ : BufTy).Contents (Elt Ideal))
  (g s : (⟨S1x1024, .f32⟩ : BufTy).Contents (Elt Ideal)) (w : (⟨S4x256x256, .f32⟩ : BufTy).Contents (Elt Ideal))

theorem do_at : val_main_v25 (F := Ideal) x g s = fun y : S4096x1024.Idx => doE x g s (y 0) (y 1) := by
  funext y
  idx_vars y
  pointwise [val_main_v25, val_main_v14, val_main_v13, val_main_v6, val_main_v5]
  exact congrArg (· * _) (mul_comm (G := EReal) _ _)

theorem dg_at : val_main_v9 (F := Ideal) x o s = fun y : S1x1024.Idx => ∑ t, dgE x o s t (y 1) := by
  funext y
  idx_vars y
  pointwise [val_main_v9, val_main_v8, val_main_v7, val_main_v2, val_main_v1, val_main_v0, val_main_cst]
  rfl

theorem ds_at : val_main_v12 (F := Ideal) x o g = fun y : S1x1024.Idx => ∑ t, dsE x o g t (y 1) := by
  funext y
  idx_vars y
  pointwise [val_main_v12, val_main_v11, val_main_v10, val_main_v6, val_main_v5, val_main_v0, val_main_cst_0]
  refine Finset.sum_congr rfl fun t _ => (mul_comm (G := EReal) _ _).trans (congrArg (· * _) (mul_comm (G := EReal) _ _))

theorem dp_at : val_main_v26 (F := Ideal) x g s w = fun y : S4096x1024.Idx => dpE x g s w (y 0) (y 1) := by
  funext y
  idx_vars y
  pointwise [val_main_v26, val_main_v24, val_main_v23, val_main_v22, val_main_v21, val_main_v20, val_main_v14, val_main_v13, val_main_v6, val_main_v5]
  refine Finset.sum_congr rfl fun e _ => congrArg (· * _) (congrArg (· * _) (mul_comm (G := EReal) _ _))

end Reference

attribute [local instance] Cert.Kernel28Ideal.Gen.facts Cert.Reference28Ideal.Gen.facts

/-- On the extended reals the kernel's arrays are the reference's results. -/
theorem algebraic : Cert.algebraic_Kernel28Ideal_Reference28Ideal
    (hKernel28Ideal := Cert.Kernel28Ideal.Gen.facts) (hReference28Ideal := Cert.Reference28Ideal.Gen.facts) := by
  intro m g m' g' _ hagree
  refine ⟨_, _, _, _, (θ_run _ _ _).mono (fun r h c => ⟨(h.1 c).1, (h.1 c).2.1, (h.1 c).2.2.1, (h.1 c).2.2.2, h.2 c⟩)
    (θ_run_and (run m g) (Cert.Kernel28Ideal.Gen.unchanged m g)), ?_⟩
  refine (θ_run _ _ _).mono (fun r h c => ?_) (Cert.Reference28Ideal.Value.run m' g')
  obtain ⟨r0, r1, r2, r3, ra⟩ := h c
  obtain ⟨a0, a1, a2, a3, a4⟩ := hagree c
  refine ⟨r0.trans ?_, r1.trans ?_, r2.trans ?_, r3.trans ?_, ra⟩
  · rw [Cert.Reference28Ideal.Read.val_main_v25_eq, a0, a2, a3, do_at]
    exact (array5 m c).symm
  · rw [Cert.Reference28Ideal.Read.val_main_v9_eq, a0, a1, a3, dg_at]
    exact ((congrArg total (array6 m c)).trans (total_tile _)).symm
  · rw [Cert.Reference28Ideal.Read.val_main_v12_eq, a0, a1, a2, ds_at]
    exact ((congrArg total (array7 m c)).trans (total_tile _)).symm
  · rw [Cert.Reference28Ideal.Read.val_main_v26_eq, a0, a2, a3, a4, dp_at]
    exact (array8 m c).symm

end Cert.Proof.PoolGateGrad
-- ==== Proof.PoolProj.lean ====
/- The pooling mixer's group products and the residual after them: the kernel leaves what the reference computes. -/
module

public import proofs.«01_k».proof.Defs
public import proofs.«01_k».proof.Proof.Gen.Kernel29Ideal.Frame
public import proofs.«01_k».proof.Proof.Gen.Reference29Ideal.Run
public import proofs.«01_k».proof.Proof.Gen.Reference29Ideal.Read
public import proofs.«01_k».proof.Proof.PoolGateGrad

@[expose] public section

set_option maxRecDepth 16384

noncomputable section

namespace Cert.Proof.PoolProj

open Idealize.ShloMosaic Idealize.ShloMosaic.TcCoe Idealize.ShloMosaic.Tactic Idealize.SL.Sem
open Idealize.ShloMosaic.Pipeline (Dat)
open Cert.Proof.PoolGateGrad (col)

section Kernel

open Cert.Kernel29Ideal Cert.Kernel29Ideal.Gen

section Block

variable (p : Vec Ideal S512x1024 .bf16) (w : Vec Ideal S4x256x256 .bf16) (x : Vec Ideal S512x1024 .f32) (g s : Vec Ideal S1x1024 .f32)

theorem block5 (q : Fin 512) (G : Fin 4) (i : Fin 256) : out0_5 (F := Ideal) p w x g s (ix2 q (col G i))
    = ∑ e : Fin 256, p (ix2 q (col G e)) * w (ix3 G e i) := by
  unfold out0_5 col
  rw [View.canon_cons_unit_zero (by decide)]
  fin_cases G
  all_goals
    pointwise [k0_pay1]
    try rfl
  all_goals
    split_ifs <;> first
      | (exfalso; omega)
      | exact Finset.sum_congr rfl fun e _ => congrArg (fun r => _ * w (ix3 _ e r)) (Fin.ext (by dsimp only; omega))

theorem block6 (q : Fin 512) (d : Fin 1024) : out0_6 (F := Ideal) p w x g s (ix2 q d)
    = x (ix2 q d) + g (ix2 0 d) * (out0_5 (F := Ideal) p w x g s (ix2 q d) * s (ix2 0 d)) := by
  unfold out0_6 out0_5
  rw [View.canon_cons_unit_zero (by decide), View.canon_cons_unit_zero (by decide)]
  pointwise [k0_pay2]
  try rfl

end Block

/-- The group products. -/
def oE (p : Vec Ideal S4096x1024 .bf16) (w : Vec Ideal S4x256x256 .f32) (t : Fin 4096) (d : Fin 1024) : EReal :=
  ∑ e : Fin 256, p (ix2 t (col ⟨d.val / 256, by omega⟩ e)) * w (ix3 (⟨d.val / 256, by omega⟩ : Fin 4) e (⟨d.val % 256, by omega⟩ : Fin 256))

/-- The residual after them. -/
def xE (p : Vec Ideal S4096x1024 .bf16) (x : Vec Ideal S4096x1024 .f32) (g s : Vec Ideal S1x1024 .f32) (w : Vec Ideal S4x256x256 .f32)
    (t : Fin 4096) (d : Fin 1024) : EReal := x (ix2 t d) + g (ix2 0 d) * (oE p w t d * s (ix2 0 d))

variable (m : (ℓ : Loc nD τ sig) → Buf (Elt Ideal) ℓ) (c : Dev nD)

abbrev Po : Vec Ideal S4096x1024 .bf16 := m ((c : Thread nD τ).loc main_arg0)
abbrev X : Vec Ideal S4096x1024 .f32 := m ((c : Thread nD τ).loc main_arg1)
abbrev G1 : Vec Ideal S1x1024 .f32 := m ((c : Thread nD τ).loc main_arg2)
abbrev Sc : Vec Ideal S1x1024 .f32 := m ((c : Thread nD τ).loc main_arg3)
abbrev W : Vec Ideal S4x256x256 .f32 := m ((c : Thread nD τ).loc main_arg4)

section Read

variable (t : Fin cfg0.N) (q : Fin 512) (d : Fin 1024) (T : Fin 4096) (hT : T.val = t.val * 512 + q.val)

include hT in
theorem b_p : (iblk m c 0 t : Vec Ideal S512x1024 .bf16) (ix2 q d) = Po m c (ix2 T d) := by
  have hi : ∀ t : Fin cfg0.N, (cfg0.win 0).index t = ![t.val, 0] := by decide +kernel
  rw [Po, ← V_main_arg0 m c]
  blk_ext [iblk, V, hi t, hT]

theorem w_read : (V m c main_v0 : Vec Ideal S4x256x256 .bf16) = truncf (F := Ideal) .bf16 (W m c) bitsLt_bf16_f32 := rfl

theorem b_w (G : Fin 4) (i e : Fin 256) : (iblk m c 1 t : Vec Ideal S4x256x256 .bf16) (ix3 G i e) = W m c (ix3 G i e) := by
  have hi : ∀ t : Fin cfg0.N, (cfg0.win 1).index t = ![0, 0, 0] := by decide +kernel
  refine Eq.trans ?_ (congrFun (w_read m c) (ix3 G i e))
  blk_ext [iblk, V, hi t]

include hT in
theorem b_x : (iblk m c 2 t : Vec Ideal S512x1024 .f32) (ix2 q d) = X m c (ix2 T d) := by
  have hi : ∀ t : Fin cfg0.N, (cfg0.win 2).index t = ![t.val, 0] := by decide +kernel
  rw [X, ← V_main_arg1 m c]
  blk_ext [iblk, V, hi t, hT]

theorem b_g : (iblk m c 3 t : Vec Ideal S1x1024 .f32) (ix2 0 d) = G1 m c (ix2 0 d) := by
  have hi : ∀ t : Fin cfg0.N, (cfg0.win 3).index t = ![0, 0] := by decide +kernel
  rw [G1, ← V_main_arg2 m c]
  blk_ext [iblk, V, hi t]

theorem b_s : (iblk m c 4 t : Vec Ideal S1x1024 .f32) (ix2 0 d) = Sc m c (ix2 0 d) := by
  have hi : ∀ t : Fin cfg0.N, (cfg0.win 4).index t = ![0, 0] := by decide +kernel
  rw [Sc, ← V_main_arg3 m c]
  blk_ext [iblk, V, hi t]

include hT in
theorem o_at (p : Vec Ideal S512x1024 .bf16) (w : Vec Ideal S4x256x256 .bf16) (x : Vec Ideal S512x1024 .f32) (g s : Vec Ideal S1x1024 .f32)
    (hp : p = iblk m c 0 t) (hw : w = iblk m c 1 t) : out0_5 (F := Ideal) p w x g s (ix2 q d) = oE (Po m c) (W m c) T d := by
  subst hp hw
  have hd : d = col ⟨d.val / 256, by omega⟩ ⟨d.val % 256, by omega⟩ := Fin.ext (by unfold col; dsimp only; omega)
  refine (congrArg (fun d => out0_5 (F := Ideal) _ _ _ _ _ (ix2 q d)) hd).trans ((block5 ..).trans (Finset.sum_congr rfl fun e _ => ?_))
  rw [b_p m c t q _ T hT, b_w m c t]

end Read

theorem array5 : (dats m 0 c).arrAt 5 cfg0.N = fun y : S4096x1024.Idx => oE (Po m c) (W m c) (y 0) (y 1) := by
  refine (dats m 0 c).arrAt_eq_of_covers 5 _ (by decide +kernel) fun t hf y => ?_
  blk_simp
  rw [after0_5]
  have hi : ∀ t : Fin cfg0.N, (cfg0.win 5).index t = ![t.val, 0] := by decide +kernel
  have h0 : (((cfg0.win 5).blk t).view.emb y 0 : ℕ) = t.val * 512 + (y 0).val := by blk_simp [hi t]
  have h1 : (((cfg0.win 5).blk t).view.emb y 1 : ℕ) = (y 1).val := by blk_simp [hi t]
  change S512x1024.Idx at y
  rw [Fin.ext (a := ((cfg0.win 5).blk t).view.emb y 1) (b := y 1) h1]
  generalize ((cfg0.win 5).blk t).view.emb y 0 = T at h0 ⊢
  idx_vars y
  exact o_at m c t y0 y1 T h0 _ _ _ _ _ rfl rfl

theorem array6 : (dats m 0 c).arrAt 6 cfg0.N = fun y : S4096x1024.Idx => xE (Po m c) (X m c) (G1 m c) (Sc m c) (W m c) (y 0) (y 1) := by
  refine (dats m 0 c).arrAt_eq_of_covers 6 _ (by decide +kernel) fun t hf y => ?_
  blk_simp
  rw [after0_6]
  have hi : ∀ t : Fin cfg0.N, (cfg0.win 6).index t = ![t.val, 0] := by decide +kernel
  have h0 : (((cfg0.win 6).blk t).view.emb y 0 : ℕ) = t.val * 512 + (y 0).val := by blk_simp [hi t]
  have h1 : (((cfg0.win 6).blk t).view.emb y 1 : ℕ) = (y 1).val := by blk_simp [hi t]
  change S512x1024.Idx at y
  rw [Fin.ext (a := ((cfg0.win 6).blk t).view.emb y 1) (b := y 1) h1]
  generalize ((cfg0.win 6).blk t).view.emb y 0 = T at h0 ⊢
  idx_vars y
  rw [block6, o_at m c t y0 y1 T h0 _ _ _ _ _ rfl rfl, b_x m c t y0 y1 T h0, b_g m c t y1, b_s m c t y1]
  rfl

end Kernel

section Reference

open Cert.Reference29Ideal Cert.Reference29Ideal.Gen Cert.Reference29Ideal.Read

variable (p : (⟨S4096x1024, .bf16⟩ : BufTy).Contents (Elt Ideal)) (x : (⟨S4096x1024, .f32⟩ : BufTy).Contents (Elt Ideal))
  (g s : (⟨S1x1024, .f32⟩ : BufTy).Contents (Elt Ideal)) (w : (⟨S4x256x256, .f32⟩ : BufTy).Contents (Elt Ideal))

theorem o_ref : val_main_v4 (F := Ideal) p w = fun y : S4096x1024.Idx => oE p w (y 0) (y 1) := by
  funext y
  idx_vars y
  pointwise [val_main_v4, val_main_v3, val_main_v2, val_main_v1, val_main_v0]
  exact Finset.sum_congr rfl fun e _ => mul_comm (G := EReal) _ _

theorem x_ref : val_main_v9 (F := Ideal) p x g s w = fun y : S4096x1024.Idx => xE p x g s w (y 0) (y 1) := by
  funext y
  idx_vars y
  rw [val_main_v9_apply, val_main_v8_apply, val_main_v6_apply, o_ref]
  pointwise [val_main_v7, val_main_v5]
  rfl

end Reference

attribute [local instance] Cert.Kernel29Ideal.Gen.facts Cert.Reference29Ideal.Gen.facts

/-- On the extended reals the kernel's arrays are the reference's results. -/
theorem algebraic : Cert.algebraic_Kernel29Ideal_Reference29Ideal
    (hKernel29Ideal := Cert.Kernel29Ideal.Gen.facts) (hReference29Ideal := Cert.Reference29Ideal.Gen.facts) := by
  intro m g m' g' _ hagree
  refine ⟨_, _, (θ_run _ _ _).mono (fun r h c => ⟨(h.1 c).1 5, (h.1 c).1 6, h.2 c⟩)
    (θ_run_and (Cert.Kernel29Ideal.Gen.run_main m g) (Cert.Kernel29Ideal.Gen.unchanged m g)), ?_⟩
  refine (θ_run _ _ _).mono (fun r h c => ?_) (Cert.Reference29Ideal.Value.run m' g')
  obtain ⟨r0, r1, ra⟩ := h c
  obtain ⟨a0, a1, a2, a3, a4⟩ := hagree c
  refine ⟨r0.trans ?_, r1.trans ?_, ra⟩
  · rw [Cert.Reference29Ideal.Read.val_main_v4_eq, a0, a4, o_ref]
    exact (array5 m c).symm
  · refine (Cert.Reference29Ideal.Read.val_main_v9_eq ..).trans ?_
    rw [a0, a1, a2, a3, a4, x_ref]
    exact (array6 m c).symm

end Cert.Proof.PoolProj
-- ==== Proof.PoolNorm.lean ====
/- The pooling mixer's norm and modulation: the kernel leaves what the reference computes. -/
module

public import proofs.«01_k».proof.Defs
public import proofs.«01_k».proof.Proof.Gen.Kernel31Ideal.Frame
public import proofs.«01_k».proof.Proof.Gen.Reference31Ideal.Run
public import proofs.«01_k».proof.Proof.Gen.Reference31Ideal.Read
public import proofs.«01_k».proof.Proof.MixRef

@[expose] public section

set_option maxRecDepth 16384

noncomputable section

namespace Cert.Proof.PoolNorm

open Idealize.ShloMosaic Idealize.ShloMosaic.TcCoe Idealize.ShloMosaic.Tactic Idealize.SL.Sem
open Idealize.ShloMosaic.Pipeline (Dat)
open Cert.Proof.Mix (hidE)
open Cert.Kernel31Ideal Cert.Kernel31Ideal.Gen

/-- A row of the kernel's block. -/
theorem block (v0 : Vec Ideal S512x1024 .f32) (v1 v2 v3 : Vec Ideal S1x1024 .f32) (x : Vec Ideal S4096x1024 .f32) (gn sc sh : Vec Ideal S1x1024 .f32)
    (q : Fin 512) (t : Fin 4096) (h0 : ∀ i, v0 (ix2 q i) = x (ix2 t i)) (h1 : ∀ i, v1 (ix2 0 i) = gn (ix2 0 i))
    (h2 : ∀ i, v2 (ix2 0 i) = sc (ix2 0 i)) (h3 : ∀ i, v3 (ix2 0 i) = sh (ix2 0 i)) (i : Fin 1024) :
    out0_4 (F := Ideal) v0 v1 v2 v3 (ix2 q i) = hidE x gn sc sh t i := by
  unfold out0_4
  rw [View.canon_cons_unit_zero (by decide)]
  pointwise [k0_pay1]
  simp only [h0, h1, h2, h3]
  rfl

variable (m : (ℓ : Loc nD τ sig) → Buf (Elt Ideal) ℓ) (c : Dev nD)

abbrev X : Vec Ideal S4096x1024 .f32 := m ((c : Thread nD τ).loc main_arg0)
abbrev Gn : Vec Ideal S1x1024 .f32 := m ((c : Thread nD τ).loc main_arg1)
abbrev Sc : Vec Ideal S1x1024 .f32 := m ((c : Thread nD τ).loc main_arg2)
abbrev Sh : Vec Ideal S1x1024 .f32 := m ((c : Thread nD τ).loc main_arg3)

variable (t : Fin cfg0.N) (d : Fin 1024)

theorem b_x (q : Fin 512) (T : Fin 4096) (hT : T.val = t.val * 512 + q.val) :
    (iblk m c 0 t : Vec Ideal S512x1024 .f32) (ix2 q d) = X m c (ix2 T d) := by
  have hi : ∀ t : Fin cfg0.N, (cfg0.win 0).index t = ![t.val, 0] := by decide +kernel
  rw [X, ← V_main_arg0 m c]
  blk_ext [iblk, V, hi t, hT]

theorem b_gn : (iblk m c 1 t : Vec Ideal S1x1024 .f32) (ix2 0 d) = Gn m c (ix2 0 d) := by
  have hi : ∀ t : Fin cfg0.N, (cfg0.win 1).index t = ![0, 0] := by decide +kernel
  rw [Gn, ← V_main_arg1 m c]
  blk_ext [iblk, V, hi t]

theorem b_sc : (iblk m c 2 t : Vec Ideal S1x1024 .f32) (ix2 0 d) = Sc m c (ix2 0 d) := by
  have hi : ∀ t : Fin cfg0.N, (cfg0.win 2).index t = ![0, 0] := by decide +kernel
  rw [Sc, ← V_main_arg2 m c]
  blk_ext [iblk, V, hi t]

theorem b_sh : (iblk m c 3 t : Vec Ideal S1x1024 .f32) (ix2 0 d) = Sh m c (ix2 0 d) := by
  have hi : ∀ t : Fin cfg0.N, (cfg0.win 3).index t = ![0, 0] := by decide +kernel
  rw [Sh, ← V_main_arg3 m c]
  blk_ext [iblk, V, hi t]

theorem array4 : (dats m 0 c).arrAt 4 cfg0.N = fun y : S4096x1024.Idx => hidE (X m c) (Gn m c) (Sc m c) (Sh m c) (y 0) (y 1) := by
  refine (dats m 0 c).arrAt_eq_of_covers 4 _ (by decide +kernel) fun t hf y => ?_
  blk_simp
  rw [after0_4]
  have hi : ∀ t : Fin cfg0.N, (cfg0.win 4).index t = ![t.val, 0] := by decide +kernel
  have h0 : (((cfg0.win 4).blk t).view.emb y 0 : ℕ) = t.val * 512 + (y 0).val := by blk_simp [hi t]
  have h1 : (((cfg0.win 4).blk t).view.emb y 1 : ℕ) = (y 1).val := by blk_simp [hi t]
  change S512x1024.Idx at y
  rw [Fin.ext (a := ((cfg0.win 4).blk t).view.emb y 1) (b := y 1) h1]
  generalize ((cfg0.win 4).blk t).view.emb y 0 = T at h0 ⊢
  idx_vars y
  exact block _ _ _ _ _ _ _ _ y0 T (fun i => b_x m c t i y0 T h0) (fun i => b_gn m c t i) (fun i => b_sc m c t i) (fun i => b_sh m c t i) y1

attribute [local instance] Cert.Kernel31Ideal.Gen.facts Cert.Reference31Ideal.Gen.facts

/-- On the extended reals the kernel's array is the reference's result. -/
theorem algebraic : Cert.algebraic_Kernel31Ideal_Reference31Ideal
    (hKernel31Ideal := Cert.Kernel31Ideal.Gen.facts) (hReference31Ideal := Cert.Reference31Ideal.Gen.facts) := by
  intro m g m' g' _ hagree
  refine ⟨_, (θ_run _ _ _).mono (fun r h c => ⟨(h.1 c).1 4, h.2 c⟩)
    (θ_run_and (Cert.Kernel31Ideal.Gen.run_main m g) (Cert.Kernel31Ideal.Gen.unchanged m g)), ?_⟩
  refine (θ_run _ _ _).mono (fun r h c => ?_) (Cert.Reference31Ideal.Value.run m' g')
  obtain ⟨r0, ra⟩ := h c
  obtain ⟨a0, a1, a2, a3⟩ := hagree c
  refine ⟨r0.trans ?_, ra⟩
  refine (Cert.Reference31Ideal.Read.val_main_v17_eq ..).trans ?_
  rw [a0, a1, a2, a3]
  refine Eq.trans ?_ (array4 m c).symm
  funext y
  idx_vars y
  exact MixRef.hid_at _ _ _ _ y0 y1

end Cert.Proof.PoolNorm
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Reference2Ideal.Run
public import proofs.«01_k».proof.Proof.GateClaim
public import proofs.«01_k».proof.Proof.WgradInClaim
public import proofs.«01_k».proof.Proof.WgradOutClaim
public import proofs.«01_k».proof.Proof.FfnClaim
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.MixClaim
public import proofs.«01_k».proof.Proof.MixBackClaim
public import proofs.«01_k».proof.Proof.MixWgradInClaim
public import proofs.«01_k».proof.Proof.MixWgradOutClaim
public import proofs.«01_k».proof.Proof.MixGateGradClaim
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel27.Frame
public import proofs.«01_k».proof.Proof.Gen.Kernel26Ideal.Frame
public import proofs.«01_k».proof.Proof.Gen.Kernel27Ideal.Frame
public import proofs.«01_k».proof.Proof.Gen.Reference26Ideal.Run
public import proofs.«01_k».proof.Proof.Gen.Reference27Ideal.Run
public import proofs.«01_k».proof.Proof.Gen.Reference26Ideal.Read
public import proofs.«01_k».proof.Proof.Gen.Reference27Ideal.Read
public import proofs.«01_k».proof.Proof.Gen.Kernel28.Frame
public import proofs.«01_k».proof.Proof.Gen.Kernel29.Frame
public import proofs.«01_k».proof.Proof.Gen.Kernel31.Frame
public import proofs.«01_k».proof.Proof.Gen.Kernel28Ideal.Frame
public import proofs.«01_k».proof.Proof.Gen.Kernel29Ideal.Frame
public import proofs.«01_k».proof.Proof.Gen.Kernel31Ideal.Frame
public import proofs.«01_k».proof.Proof.Gen.Reference28Ideal.Run
public import proofs.«01_k».proof.Proof.Gen.Reference29Ideal.Run
public import proofs.«01_k».proof.Proof.Gen.Reference31Ideal.Run
public import proofs.«01_k».proof.Proof.Gen.Reference28Ideal.Read
public import proofs.«01_k».proof.Proof.Gen.Reference29Ideal.Read
public import proofs.«01_k».proof.Proof.Gen.Reference31Ideal.Read
public import proofs.«01_k».proof.Proof.ConfGateGradClaim
public import proofs.«01_k».proof.Proof.ConfWgradInClaim
public import proofs.«01_k».proof.Proof.ConfBackClaim
public import proofs.«01_k».proof.Proof.ConfClaim
public import proofs.«01_k».proof.Proof.AdamFfnIn
public import proofs.«01_k».proof.Proof.AdamFfnOut
public import proofs.«01_k».proof.Proof.AdamMixIn
public import proofs.«01_k».proof.Proof.AdamMixOut
public import proofs.«01_k».proof.Proof.AdamConfIn
public import proofs.«01_k».proof.Proof.AdamConfOut
public import proofs.«01_k».proof.Proof.AdamPool
public import proofs.«01_k».proof.Proof.AdamMod
public import proofs.«01_k».proof.Proof.AdamRep
public import proofs.«01_k».proof.Proof.AdamCols
public import proofs.«01_k».proof.Proof.LossHead
public import proofs.«01_k».proof.Proof.PoolWgrad
public import proofs.«01_k».proof.Proof.PoolGateGrad
public import proofs.«01_k».proof.Proof.PoolProj
public import proofs.«01_k».proof.Proof.PoolNorm
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel31.Gen.facts, Cert.Kernel31Ideal.Gen.facts, Cert.Reference31Ideal.Gen.facts,
  Ffn.preFacts, MixBack.preFacts, ConfBack.preFacts,
  fun m ρ _ => Cert.Kernel.Gen.frame m ρ, fun m ρ _ => Cert.KernelIdeal.Gen.frame m ρ,
  fun m ρ _ => (θ_run Cert.ReferenceIdeal.defs _ _).mono
    (fun r h => ⟨fun c => (h c).2.2, Idealize.ShloMosaic.sem_eq_zero_of_no_sems (by decide) r.2⟩) (Cert.ReferenceIdeal.Value.run m ρ),
  fun m ρ _ => Cert.Kernel2.Gen.frame m ρ, fun m ρ _ => Cert.Kernel2Ideal.Gen.frame m ρ, fun m ρ _ => Cert.Kernel2Ideal.Gen.frame m ρ,
  fun m ρ _ => (θ_run Cert.Reference2Ideal.defs _ _).mono
    (fun r h => ⟨fun c => (h c).2.2.2.2.2.2, Idealize.ShloMosaic.sem_eq_zero_of_no_sems (by decide) r.2⟩) (Cert.Reference2Ideal.Value.run m ρ),
  fun m ρ _ => (θ_run Cert.Reference2Ideal.defs _ _).mono
    (fun r h => ⟨fun c => (h c).2.2.2.2.2.2, Idealize.ShloMosaic.sem_eq_zero_of_no_sems (by decide) r.2⟩) (Cert.Reference2Ideal.Value.run m ρ),
  fun m ρ _ => Cert.Kernel3.Gen.frame m ρ, fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩) (Cert.Reference3Ideal.Value.run m ρ),
  fun m ρ _ => Cert.Kernel4.Gen.frame m ρ, fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩) (Cert.Reference4Ideal.Value.run m ρ),
  fun m ρ _ => Cert.Kernel5.Gen.frame m ρ, fun m ρ _ => Cert.Kernel5Ideal.Gen.frame m ρ,
  fun m ρ _ => (θ_run Cert.Reference5Ideal.defs _ _).mono
    (fun r h => ⟨fun c => (h c).2, Idealize.ShloMosaic.sem_eq_zero_of_no_sems (by decide) r.2⟩) (Cert.Reference5Ideal.Value.run m ρ),
  fun m ρ _ => Cert.Kernel6.Gen.frame m ρ, fun m ρ _ => Cert.Kernel6Ideal.Gen.frame m ρ, fun m ρ _ => Cert.Kernel6Ideal.Gen.frame m ρ,
  fun m ρ _ => (θ_run Cert.Reference6Ideal.defs _ _).mono
    (fun r h => ⟨fun c => (h c).2.2.2.2, Idealize.ShloMosaic.sem_eq_zero_of_no_sems (by decide) r.2⟩) (Cert.Reference6Ideal.Value.run m ρ),
  fun m ρ _ => (θ_run Cert.Reference6Ideal.defs _ _).mono
    (fun r h => ⟨fun c => (h c).2.2.2.2, Idealize.ShloMosaic.sem_eq_zero_of_no_sems (by decide) r.2⟩) (Cert.Reference6Ideal.Value.run m ρ),
  fun m ρ _ => Cert.Kernel7.Gen.frame m ρ, fun m ρ _ => Cert.Kernel7Ideal.Gen.frame m ρ,
  fun m ρ _ => (θ_run Cert.Reference7Ideal.defs _ _).mono
    (fun r h => ⟨fun c => (h c).2, Idealize.ShloMosaic.sem_eq_zero_of_no_sems (by decide) r.2⟩) (Cert.Reference7Ideal.Value.run m ρ),
  fun m ρ _ => Cert.Kernel8.Gen.frame m ρ, fun m ρ _ => Cert.Kernel8Ideal.Gen.frame m ρ,
  fun m ρ _ => (θ_run Cert.Reference8Ideal.defs _ _).mono
    (fun r h => ⟨fun c => (h c).2, Idealize.ShloMosaic.sem_eq_zero_of_no_sems (by decide) r.2⟩) (Cert.Reference8Ideal.Value.run m ρ),
  fun m ρ _ => Cert.Kernel9.Gen.frame m ρ, fun m ρ _ => Cert.Kernel9Ideal.Gen.frame m ρ,
  fun m ρ _ => (θ_run Cert.Reference9Ideal.defs _ _).mono
    (fun r h => ⟨fun c => (h c).2.2.2, Idealize.ShloMosaic.sem_eq_zero_of_no_sems (by decide) r.2⟩) (Cert.Reference9Ideal.Value.run m ρ),
  fun m ρ _ => Cert.Kernel10.Gen.frame m ρ, fun m ρ _ => Cert.Kernel10Ideal.Gen.frame m ρ,
  fun m ρ _ => (θ_run Cert.Reference10Ideal.defs _ _).mono
    (fun r h => ⟨fun c => (h c).2.2.2.2, Idealize.ShloMosaic.sem_eq_zero_of_no_sems (by decide) r.2⟩) (Cert.Reference10Ideal.Value.run m ρ),
  fun m ρ _ => Cert.Kernel11.Gen.frame m ρ, fun m ρ _ => Cert.Kernel11Ideal.Gen.frame m ρ,
  fun m ρ _ => (θ_run Cert.Reference11Ideal.defs _ _).mono
    (fun r h => ⟨fun c => (h c).2, Idealize.ShloMosaic.sem_eq_zero_of_no_sems (by decide) r.2⟩) (Cert.Reference11Ideal.Value.run m ρ),
  fun m ρ _ => Cert.Kernel12.Gen.frame m ρ, fun m ρ _ => Cert.Kernel12Ideal.Gen.frame m ρ, fun m ρ _ => Cert.Kernel12Ideal.Gen.frame m ρ,
  fun m ρ _ => (θ_run Cert.Reference12Ideal.defs _ _).mono
    (fun r h => ⟨fun c => (h c).2.2.2.2, Idealize.ShloMosaic.sem_eq_zero_of_no_sems (by decide) r.2⟩) (Cert.Reference12Ideal.Value.run m ρ),
  fun m ρ _ => (θ_run Cert.Reference12Ideal.defs _ _).mono
    (fun r h => ⟨fun c => (h c).2.2.2.2, Idealize.ShloMosaic.sem_eq_zero_of_no_sems (by decide) r.2⟩) (Cert.Reference12Ideal.Value.run m ρ),
  fun m ρ _ => Cert.Kernel15.Gen.frame m ρ, fun m ρ _ => Cert.Kernel15Ideal.Gen.frame m ρ,
  fun m ρ _ => (θ_run Cert.Reference15Ideal.defs _ _).mono
    (fun r h => ⟨fun c => (h c).2, Idealize.ShloMosaic.sem_eq_zero_of_no_sems (by decide) r.2⟩) (Cert.Reference15Ideal.Value.run m ρ),
  fun m ρ _ => Cert.Kernel16.Gen.frame m ρ, fun m ρ _ => Cert.Kernel16Ideal.Gen.frame m ρ,
  fun m ρ _ => (θ_run Cert.Reference16Ideal.defs _ _).mono
    (fun r h => ⟨fun c => (h c).2.2.2.2, Idealize.ShloMosaic.sem_eq_zero_of_no_sems (by decide) r.2⟩) (Cert.Reference16Ideal.Value.run m ρ),
  fun m ρ _ => Cert.Kernel17.Gen.frame m ρ, fun m ρ _ => Cert.Kernel17Ideal.Gen.frame m ρ,
  fun m ρ _ => (θ_run Cert.Reference17Ideal.defs _ _).mono
    (fun r h => ⟨fun c => (h c).2.2.2.2, Idealize.ShloMosaic.sem_eq_zero_of_no_sems (by decide) r.2⟩) (Cert.Reference17Ideal.Value.run m ρ),
  fun m ρ _ => Cert.Kernel18.Gen.frame m ρ, fun m ρ _ => Cert.Kernel18Ideal.Gen.frame m ρ,
  fun m ρ _ => (θ_run Cert.Reference18Ideal.defs _ _).mono
    (fun r h => ⟨fun c => (h c).2.2.2.2, Idealize.ShloMosaic.sem_eq_zero_of_no_sems (by decide) r.2⟩) (Cert.Reference18Ideal.Value.run m ρ),
  fun m ρ _ => Cert.Kernel19.Gen.frame m ρ, fun m ρ _ => Cert.Kernel19Ideal.Gen.frame m ρ,
  fun m ρ _ => (θ_run Cert.Reference19Ideal.defs _ _).mono
    (fun r h => ⟨fun c => (h c).2.2.2.2, Idealize.ShloMosaic.sem_eq_zero_of_no_sems (by decide) r.2⟩) (Cert.Reference19Ideal.Value.run m ρ),
  fun m ρ _ => Cert.Kernel20.Gen.frame m ρ, fun m ρ _ => Cert.Kernel20Ideal.Gen.frame m ρ,
  fun m ρ _ => (θ_run Cert.Reference20Ideal.defs _ _).mono
    (fun r h => ⟨fun c => (h c).2.2.2.2, Idealize.ShloMosaic.sem_eq_zero_of_no_sems (by decide) r.2⟩) (Cert.Reference20Ideal.Value.run m ρ),
  fun m ρ _ => Cert.Kernel21.Gen.frame m ρ, fun m ρ _ => Cert.Kernel21Ideal.Gen.frame m ρ,
  fun m ρ _ => (θ_run Cert.Reference21Ideal.defs _ _).mono
    (fun r h => ⟨fun c => (h c).2.2.2.2, Idealize.ShloMosaic.sem_eq_zero_of_no_sems (by decide) r.2⟩) (Cert.Reference21Ideal.Value.run m ρ),
  fun m ρ _ => Cert.Kernel22.Gen.frame m ρ, fun m ρ _ => Cert.Kernel22Ideal.Gen.frame m ρ,
  fun m ρ _ => (θ_run Cert.Reference22Ideal.defs _ _).mono
    (fun r h => ⟨fun c => (h c).2.2.2.2, Idealize.ShloMosaic.sem_eq_zero_of_no_sems (by decide) r.2⟩) (Cert.Reference22Ideal.Value.run m ρ),
  fun m ρ _ => Cert.Kernel23.Gen.frame m ρ, fun m ρ _ => Cert.Kernel23Ideal.Gen.frame m ρ,
  fun m ρ _ => (θ_run Cert.Reference23Ideal.defs _ _).mono
    (fun r h => ⟨fun c => (h c).2.2.2.2, Idealize.ShloMosaic.sem_eq_zero_of_no_sems (by decide) r.2⟩) (Cert.Reference23Ideal.Value.run m ρ),
  fun m ρ _ => Cert.Kernel24.Gen.frame m ρ, fun m ρ _ => Cert.Kernel24Ideal.Gen.frame m ρ,
  fun m ρ _ => (θ_run Cert.Reference24Ideal.defs _ _).mono
    (fun r h => ⟨fun c => (h c).2.2.2.2.2.2.2.2.2.2.2.2.2.2.2.2.2.2.2.2.2.2.2.2.2.2.2, Idealize.ShloMosaic.sem_eq_zero_of_no_sems (by decide) r.2⟩) (Cert.Reference24Ideal.Value.run m ρ),
  fun m ρ _ => Cert.Kernel25.Gen.frame m ρ, fun m ρ _ => Cert.Kernel25Ideal.Gen.frame m ρ,
  fun m ρ _ => (θ_run Cert.Reference25Ideal.defs _ _).mono
    (fun r h => ⟨fun c => (h c).2.2.2.2.2.2.2.2.2, Idealize.ShloMosaic.sem_eq_zero_of_no_sems (by decide) r.2⟩) (Cert.Reference25Ideal.Value.run m ρ),
  fun m ρ _ => Cert.Kernel26.Gen.frame m ρ, fun m ρ _ => Cert.Kernel26Ideal.Gen.frame m ρ,
  fun m ρ _ => (θ_run Cert.Reference26Ideal.defs _ _).mono
    (fun r h => ⟨fun c => (h c).2.2.2, Idealize.ShloMosaic.sem_eq_zero_of_no_sems (by decide) r.2⟩) (Cert.Reference26Ideal.Value.run m ρ),
  fun m ρ _ => Cert.Kernel27.Gen.frame m ρ, fun m ρ _ => Cert.Kernel27Ideal.Gen.frame m ρ,
  fun m ρ _ => (θ_run Cert.Reference27Ideal.defs _ _).mono
    (fun r h => ⟨fun c => (h c).2, Idealize.ShloMosaic.sem_eq_zero_of_no_sems (by decide) r.2⟩) (Cert.Reference27Ideal.Value.run m ρ),
  fun m ρ _ => Cert.Kernel28.Gen.frame m ρ, fun m ρ _ => Cert.Kernel28Ideal.Gen.frame m ρ,
  fun m ρ _ => (θ_run Cert.Reference28Ideal.defs _ _).mono
    (fun r h => ⟨fun c => (h c).2.2.2.2, Idealize.ShloMosaic.sem_eq_zero_of_no_sems (by decide) r.2⟩) (Cert.Reference28Ideal.Value.run m ρ),
  fun m ρ _ => Cert.Kernel29.Gen.frame m ρ, fun m ρ _ => Cert.Kernel29Ideal.Gen.frame m ρ,
  fun m ρ _ => (θ_run Cert.Reference29Ideal.defs _ _).mono
    (fun r h => ⟨fun c => (h c).2.2, Idealize.ShloMosaic.sem_eq_zero_of_no_sems (by decide) r.2⟩) (Cert.Reference29Ideal.Value.run m ρ),
  fun m ρ _ => Cert.Kernel31.Gen.frame m ρ, fun m ρ _ => Cert.Kernel31Ideal.Gen.frame m ρ,
  fun m ρ _ => (θ_run Cert.Reference31Ideal.defs _ _).mono
    (fun r h => ⟨fun c => (h c).2, Idealize.ShloMosaic.sem_eq_zero_of_no_sems (by decide) r.2⟩) (Cert.Reference31Ideal.Value.run m ρ),
  trivial, Gate.algebraic, trivial, Ffn.algebraic, trivial, WgradIn.algebraic, trivial, WgradOut.algebraic,
  trivial, Mix.algebraic, trivial, MixBack.algebraic, trivial, MixWgradIn.algebraic, trivial, MixWgradOut.algebraic,
  trivial, MixGateGrad.algebraic, trivial, ConfGateGrad.algebraic, trivial, ConfWgradIn.algebraic, trivial, ConfBack.algebraic, trivial, Conf.algebraic, trivial, AdamFfnIn.algebraic, trivial, AdamFfnOut.algebraic, trivial, AdamMixIn.algebraic, trivial, AdamMixOut.algebraic, trivial, AdamConfIn.algebraic, trivial, AdamConfOut.algebraic, trivial, AdamPool.algebraic, trivial, AdamMod.algebraic, trivial, AdamRep.algebraic, trivial, AdamCols.algebraic, trivial, LossHead.algebraic, trivial, PoolWgrad.algebraic, trivial, PoolGateGrad.algebraic, trivial, PoolProj.algebraic, trivial, PoolNorm.algebraic⟩

end Cert.Proof

end
